-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Stick (m : (ℓ : Loc Cert.Stick.nD Cert.Stick.τ Cert.Stick.sig) → Buf (Elt Bits) ℓ) : Prop :=
  True

def Pre_StickIdeal (m : (ℓ : Loc Cert.StickIdeal.nD Cert.StickIdeal.τ Cert.StickIdeal.sig) → Buf (Elt Ideal) ℓ) : Prop :=
  True

def Pre_StickIdeal_stick_finite [hPre_stick_finite : Cert.Pre_stick_finite.Facts] (m : (ℓ : Loc Cert.StickIdeal.nD Cert.StickIdeal.τ Cert.StickIdeal.sig) → Buf (Elt Ideal) ℓ) : Prop :=
  ∀ c : Dev Cert.StickIdeal.nD,
    (Cert.Pre_stick_finite.fn (F := Ideal) (m ((c.tc : Thread Cert.StickIdeal.nD Cert.StickIdeal.τ).loc Cert.StickIdeal.main_arg0)) (m ((c.tc : Thread Cert.StickIdeal.nD Cert.StickIdeal.τ).loc Cert.StickIdeal.main_arg1))).1 = (fun _ => 1#1)
    ∧ (Cert.Pre_stick_finite.fn (F := Ideal) (m ((c.tc : Thread Cert.StickIdeal.nD Cert.StickIdeal.τ).loc Cert.StickIdeal.main_arg0)) (m ((c.tc : Thread Cert.StickIdeal.nD Cert.StickIdeal.τ).loc Cert.StickIdeal.main_arg1))).2 = (fun _ => 1#1)

def Pre_StickRefIdeal (m : (ℓ : Loc Cert.StickRefIdeal.nD Cert.StickRefIdeal.τ Cert.StickRefIdeal.sig) → Buf (Elt Ideal) ℓ) : Prop :=
  True

def Pre_StickRefIdeal_stick_finite [hPre_stick_finite : Cert.Pre_stick_finite.Facts] (m : (ℓ : Loc Cert.StickRefIdeal.nD Cert.StickRefIdeal.τ Cert.StickRefIdeal.sig) → Buf (Elt Ideal) ℓ) : Prop :=
  ∀ c : Dev Cert.StickRefIdeal.nD,
    (Cert.Pre_stick_finite.fn (F := Ideal) (m ((c.tc : Thread Cert.StickRefIdeal.nD Cert.StickRefIdeal.τ).loc Cert.StickRefIdeal.main_arg0)) (m ((c.tc : Thread Cert.StickRefIdeal.nD Cert.StickRefIdeal.τ).loc Cert.StickRefIdeal.main_arg1))).1 = (fun _ => 1#1)
    ∧ (Cert.Pre_stick_finite.fn (F := Ideal) (m ((c.tc : Thread Cert.StickRefIdeal.nD Cert.StickRefIdeal.τ).loc Cert.StickRefIdeal.main_arg0)) (m ((c.tc : Thread Cert.StickRefIdeal.nD Cert.StickRefIdeal.τ).loc Cert.StickRefIdeal.main_arg1))).2 = (fun _ => 1#1)

def Pre_Ada (m : (ℓ : Loc Cert.Ada.nD Cert.Ada.τ Cert.Ada.sig) → Buf (Elt Bits) ℓ) : Prop :=
  True

def Pre_AdaIdeal (m : (ℓ : Loc Cert.AdaIdeal.nD Cert.AdaIdeal.τ Cert.AdaIdeal.sig) → Buf (Elt Ideal) ℓ) : Prop :=
  True

def Pre_AdaRefIdeal (m : (ℓ : Loc Cert.AdaRefIdeal.nD Cert.AdaRefIdeal.τ Cert.AdaRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_StickFwd (m : (ℓ : Loc Cert.StickFwd.nD Cert.StickFwd.τ Cert.StickFwd.sig) → Buf (Elt Bits) ℓ) : Prop :=
  True

def Pre_StickFwdIdeal (m : (ℓ : Loc Cert.StickFwdIdeal.nD Cert.StickFwdIdeal.τ Cert.StickFwdIdeal.sig) → Buf (Elt Ideal) ℓ) : Prop :=
  True

def Pre_StickFwdIdeal_stick_fwd_finite [hPre_stick_fwd_finite : Cert.Pre_stick_fwd_finite.Facts] (m : (ℓ : Loc Cert.StickFwdIdeal.nD Cert.StickFwdIdeal.τ Cert.StickFwdIdeal.sig) → Buf (Elt Ideal) ℓ) : Prop :=
  ∀ c : Dev Cert.StickFwdIdeal.nD,
    (Cert.Pre_stick_fwd_finite.fn (F := Ideal) (m ((c.tc : Thread Cert.StickFwdIdeal.nD Cert.StickFwdIdeal.τ).loc Cert.StickFwdIdeal.main_arg0))) = (fun _ => 1#1)

def Pre_StickFwdRefIdeal (m : (ℓ : Loc Cert.StickFwdRefIdeal.nD Cert.StickFwdRefIdeal.τ Cert.StickFwdRefIdeal.sig) → Buf (Elt Ideal) ℓ) : Prop :=
  True

def Pre_StickFwdRefIdeal_stick_fwd_finite [hPre_stick_fwd_finite : Cert.Pre_stick_fwd_finite.Facts] (m : (ℓ : Loc Cert.StickFwdRefIdeal.nD Cert.StickFwdRefIdeal.τ Cert.StickFwdRefIdeal.sig) → Buf (Elt Ideal) ℓ) : Prop :=
  ∀ c : Dev Cert.StickFwdRefIdeal.nD,
    (Cert.Pre_stick_fwd_finite.fn (F := Ideal) (m ((c.tc : Thread Cert.StickFwdRefIdeal.nD Cert.StickFwdRefIdeal.τ).loc Cert.StickFwdRefIdeal.main_arg0))) = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7))).2.2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7))).2.2.2.2.2.2 = (fun _ => 1#1)

def Pre_GateFwd (m : (ℓ : Loc Cert.GateFwd.nD Cert.GateFwd.τ Cert.GateFwd.sig) → Buf (Elt Bits) ℓ) : Prop :=
  True

def Pre_GateFwdIdeal (m : (ℓ : Loc Cert.GateFwdIdeal.nD Cert.GateFwdIdeal.τ Cert.GateFwdIdeal.sig) → Buf (Elt Ideal) ℓ) : Prop :=
  True

def Pre_GateFwdRefIdeal (m : (ℓ : Loc Cert.GateFwdRefIdeal.nD Cert.GateFwdRefIdeal.τ Cert.GateFwdRefIdeal.sig) → Buf (Elt Ideal) ℓ) : Prop :=
  True

def Pre_AdaFwd (m : (ℓ : Loc Cert.AdaFwd.nD Cert.AdaFwd.τ Cert.AdaFwd.sig) → Buf (Elt Bits) ℓ) : Prop :=
  True

def Pre_AdaFwdIdeal (m : (ℓ : Loc Cert.AdaFwdIdeal.nD Cert.AdaFwdIdeal.τ Cert.AdaFwdIdeal.sig) → Buf (Elt Ideal) ℓ) : Prop :=
  True

def Pre_AdaFwdRefIdeal (m : (ℓ : Loc Cert.AdaFwdRefIdeal.nD Cert.AdaFwdRefIdeal.τ Cert.AdaFwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_ProjFwd (m : (ℓ : Loc Cert.ProjFwd.nD Cert.ProjFwd.τ Cert.ProjFwd.sig) → Buf (Elt Bits) ℓ) : Prop :=
  True

def Pre_ProjFwdIdeal (m : (ℓ : Loc Cert.ProjFwdIdeal.nD Cert.ProjFwdIdeal.τ Cert.ProjFwdIdeal.sig) → Buf (Elt Ideal) ℓ) : Prop :=
  True

def Pre_ProjFwdRefIdeal (m : (ℓ : Loc Cert.ProjFwdRefIdeal.nD Cert.ProjFwdRefIdeal.τ Cert.ProjFwdRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_AdamAdaRefIdeal (m : (ℓ : Loc Cert.AdamAdaRefIdeal.nD Cert.AdamAdaRefIdeal.τ Cert.AdamAdaRefIdeal.sig) → Buf (Elt Ideal) ℓ) : Prop :=
  True

def Pre_SumSlots (m : (ℓ : Loc Cert.SumSlots.nD Cert.SumSlots.τ Cert.SumSlots.sig) → Buf (Elt Bits) ℓ) : Prop :=
  True

def Pre_SumSlotsIdeal (m : (ℓ : Loc Cert.SumSlotsIdeal.nD Cert.SumSlotsIdeal.τ Cert.SumSlotsIdeal.sig) → Buf (Elt Ideal) ℓ) : Prop :=
  True

def Pre_SumSlotsRefIdeal (m : (ℓ : Loc Cert.SumSlotsRefIdeal.nD Cert.SumSlotsRefIdeal.τ Cert.SumSlotsRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_AdamLayer (m : (ℓ : Loc Cert.AdamLayer.nD Cert.AdamLayer.τ Cert.AdamLayer.sig) → Buf (Elt Bits) ℓ) : Prop :=
  True

def Pre_AdamLayerIdeal (m : (ℓ : Loc Cert.AdamLayerIdeal.nD Cert.AdamLayerIdeal.τ Cert.AdamLayerIdeal.sig) → Buf (Elt Ideal) ℓ) : Prop :=
  True

def Pre_AdamLayerRefIdeal (m : (ℓ : Loc Cert.AdamLayerRefIdeal.nD Cert.AdamLayerRefIdeal.τ Cert.AdamLayerRefIdeal.sig) → Buf (Elt Ideal) ℓ) : Prop :=
  True

def Pre_Tn (m : (ℓ : Loc Cert.Tn.nD Cert.Tn.τ Cert.Tn.sig) → Buf (Elt Bits) ℓ) : Prop :=
  True

def Pre_TnIdeal (m : (ℓ : Loc Cert.TnIdeal.nD Cert.TnIdeal.τ Cert.TnIdeal.sig) → Buf (Elt Ideal) ℓ) : Prop :=
  True

def Pre_TnRefIdeal (m : (ℓ : Loc Cert.TnRefIdeal.nD Cert.TnRefIdeal.τ Cert.TnRefIdeal.sig) → Buf (Elt Ideal) ℓ) : Prop :=
  True

def Pre_EvenFwd (m : (ℓ : Loc Cert.EvenFwd.nD Cert.EvenFwd.τ Cert.EvenFwd.sig) → Buf (Elt Bits) ℓ) : Prop :=
  True

def Pre_EvenFwdIdeal (m : (ℓ : Loc Cert.EvenFwdIdeal.nD Cert.EvenFwdIdeal.τ Cert.EvenFwdIdeal.sig) → Buf (Elt Ideal) ℓ) : Prop :=
  True

def Pre_EvenFwdRefIdeal (m : (ℓ : Loc Cert.EvenFwdRefIdeal.nD Cert.EvenFwdRefIdeal.τ Cert.EvenFwdRefIdeal.sig) → Buf (Elt Ideal) ℓ) : Prop :=
  True

def Pre_ProjBwd (m : (ℓ : Loc Cert.ProjBwd.nD Cert.ProjBwd.τ Cert.ProjBwd.sig) → Buf (Elt Bits) ℓ) : Prop :=
  True

def Pre_ProjBwdIdeal (m : (ℓ : Loc Cert.ProjBwdIdeal.nD Cert.ProjBwdIdeal.τ Cert.ProjBwdIdeal.sig) → Buf (Elt Ideal) ℓ) : Prop :=
  True

def Pre_ProjBwdRefIdeal (m : (ℓ : Loc Cert.ProjBwdRefIdeal.nD Cert.ProjBwdRefIdeal.τ Cert.ProjBwdRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Stick [hStick : Cert.Stick.Facts] : Prop :=
  ∀ (m : (ℓ : Loc Cert.Stick.nD Cert.Stick.τ Cert.Stick.sig) → Buf (Elt Bits) ℓ) (g : Dev Cert.Stick.nD → PrngReg), Pre_Stick m →
    θ_run (Cert.Stick.defs (F := Bits)) (onTc (τ := Cert.Stick.τ) (Cert.Stick.main (F := Bits))) ⟨m, fun _ => 0, g⟩ (fun r => (∀ c : Dev Cert.Stick.nD,
      r.2.mem ((c.tc : Thread Cert.Stick.nD Cert.Stick.τ).loc Cert.Stick.main_arg0) = m ((c.tc : Thread Cert.Stick.nD Cert.Stick.τ).loc Cert.Stick.main_arg0)
      ∧ r.2.mem ((c.tc : Thread Cert.Stick.nD Cert.Stick.τ).loc Cert.Stick.main_arg1) = m ((c.tc : Thread Cert.Stick.nD Cert.Stick.τ).loc Cert.Stick.main_arg1))
      ∧ r.2.sem = fun _ => 0)

def quiescent_StickIdeal [hStickIdeal : Cert.StickIdeal.Facts] : Prop :=
  ∀ (m : (ℓ : Loc Cert.StickIdeal.nD Cert.StickIdeal.τ Cert.StickIdeal.sig) → Buf (Elt Ideal) ℓ) (g : Dev Cert.StickIdeal.nD → PrngReg), Pre_StickIdeal m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0)
      ∧ r.2.mem ((c.tc : Thread Cert.StickIdeal.nD Cert.StickIdeal.τ).loc Cert.StickIdeal.main_arg1) = m ((c.tc : Thread Cert.StickIdeal.nD Cert.StickIdeal.τ).loc Cert.StickIdeal.main_arg1))
      ∧ r.2.sem = fun _ => 0)

def quiescent_StickIdeal_pre_stick_finite [hStickIdeal : Cert.StickIdeal.Facts] [hPre_stick_finite : Cert.Pre_stick_finite.Facts] : Prop :=
  ∀ (m : (ℓ : Loc Cert.StickIdeal.nD Cert.StickIdeal.τ Cert.StickIdeal.sig) → Buf (Elt Ideal) ℓ) (g : Dev Cert.StickIdeal.nD → PrngReg), Pre_StickIdeal_stick_finite m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0)
      ∧ r.2.mem ((c.tc : Thread Cert.StickIdeal.nD Cert.StickIdeal.τ).loc Cert.StickIdeal.main_arg1) = m ((c.tc : Thread Cert.StickIdeal.nD Cert.StickIdeal.τ).loc Cert.StickIdeal.main_arg1))
      ∧ r.2.sem = fun _ => 0)

def quiescent_StickRefIdeal [hStickRefIdeal : Cert.StickRefIdeal.Facts] : Prop :=
  ∀ (m : (ℓ : Loc Cert.StickRefIdeal.nD Cert.StickRefIdeal.τ Cert.StickRefIdeal.sig) → Buf (Elt Ideal) ℓ) (g : Dev Cert.StickRefIdeal.nD → PrngReg), Pre_StickRefIdeal m →
    θ_run (Cert.StickRefIdeal.defs (F := Ideal)) (onTc (τ := Cert.StickRefIdeal.τ) (Cert.StickRefIdeal.main (F := Ideal))) ⟨m, fun _ => 0, g⟩ (fun r => (∀ c : Dev Cert.StickRefIdeal.nD,
      r.2.mem ((c.tc : Thread Cert.StickRefIdeal.nD Cert.StickRefIdeal.τ).loc Cert.StickRefIdeal.main_arg0) = m ((c.tc : Thread Cert.StickRefIdeal.nD Cert.StickRefIdeal.τ).loc Cert.StickRefIdeal.main_arg0)
      ∧ r.2.mem ((c.tc : Thread Cert.StickRefIdeal.nD Cert.StickRefIdeal.τ).loc Cert.StickRefIdeal.main_arg1) = m ((c.tc : Thread Cert.StickRefIdeal.nD Cert.StickRefIdeal.τ).loc Cert.StickRefIdeal.main_arg1))
      ∧ r.2.sem = fun _ => 0)

def quiescent_StickRefIdeal_pre_stick_finite [hStickRefIdeal : Cert.StickRefIdeal.Facts] [hPre_stick_finite : Cert.Pre_stick_finite.Facts] : Prop :=
  ∀ (m : (ℓ : Loc Cert.StickRefIdeal.nD Cert.StickRefIdeal.τ Cert.StickRefIdeal.sig) → Buf (Elt Ideal) ℓ) (g : Dev Cert.StickRefIdeal.nD → PrngReg), Pre_StickRefIdeal_stick_finite m →
    θ_run (Cert.StickRefIdeal.defs (F := Ideal)) (onTc (τ := Cert.StickRefIdeal.τ) (Cert.StickRefIdeal.main (F := Ideal))) ⟨m, fun _ => 0, g⟩ (fun r => (∀ c : Dev Cert.StickRefIdeal.nD,
      r.2.mem ((c.tc : Thread Cert.StickRefIdeal.nD Cert.StickRefIdeal.τ).loc Cert.StickRefIdeal.main_arg0) = m ((c.tc : Thread Cert.StickRefIdeal.nD Cert.StickRefIdeal.τ).loc Cert.StickRefIdeal.main_arg0)
      ∧ r.2.mem ((c.tc : Thread Cert.StickRefIdeal.nD Cert.StickRefIdeal.τ).loc Cert.StickRefIdeal.main_arg1) = m ((c.tc : Thread Cert.StickRefIdeal.nD Cert.StickRefIdeal.τ).loc Cert.StickRefIdeal.main_arg1))
      ∧ r.2.sem = fun _ => 0)

def quiescent_Ada [hAda : Cert.Ada.Facts] : Prop :=
  ∀ (m : (ℓ : Loc Cert.Ada.nD Cert.Ada.τ Cert.Ada.sig) → Buf (Elt Bits) ℓ) (g : Dev Cert.Ada.nD → PrngReg), Pre_Ada m →
    θ_run (Cert.Ada.defs (F := Bits)) (onTc (τ := Cert.Ada.τ) (Cert.Ada.main (F := Bits))) ⟨m, fun _ => 0, g⟩ (fun r => (∀ c : Dev Cert.Ada.nD,
      r.2.mem ((c.tc : Thread Cert.Ada.nD Cert.Ada.τ).loc Cert.Ada.main_arg0) = m ((c.tc : Thread Cert.Ada.nD Cert.Ada.τ).loc Cert.Ada.main_arg0)
      ∧ r.2.mem ((c.tc : Thread Cert.Ada.nD Cert.Ada.τ).loc Cert.Ada.main_arg1) = m ((c.tc : Thread Cert.Ada.nD Cert.Ada.τ).loc Cert.Ada.main_arg1)
      ∧ r.2.mem ((c.tc : Thread Cert.Ada.nD Cert.Ada.τ).loc Cert.Ada.main_arg2) = m ((c.tc : Thread Cert.Ada.nD Cert.Ada.τ).loc Cert.Ada.main_arg2)
      ∧ r.2.mem ((c.tc : Thread Cert.Ada.nD Cert.Ada.τ).loc Cert.Ada.main_arg3) = m ((c.tc : Thread Cert.Ada.nD Cert.Ada.τ).loc Cert.Ada.main_arg3))
      ∧ r.2.sem = fun _ => 0)

def quiescent_AdaIdeal [hAdaIdeal : Cert.AdaIdeal.Facts] : Prop :=
  ∀ (m : (ℓ : Loc Cert.AdaIdeal.nD Cert.AdaIdeal.τ Cert.AdaIdeal.sig) → Buf (Elt Ideal) ℓ) (g : Dev Cert.AdaIdeal.nD → PrngReg), Pre_AdaIdeal m →
    θ_run (Cert.AdaIdeal.defs (F := Ideal)) (onTc (τ := Cert.AdaIdeal.τ) (Cert.AdaIdeal.main (F := Ideal))) ⟨m, fun _ => 0, g⟩ (fun r => (∀ c : Dev Cert.AdaIdeal.nD,
      r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
      ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
      ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
      ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ r.2.sem = fun _ => 0)

def quiescent_AdaRefIdeal [hAdaRefIdeal : Cert.AdaRefIdeal.Facts] : Prop :=
  ∀ (m : (ℓ : Loc Cert.AdaRefIdeal.nD Cert.AdaRefIdeal.τ Cert.AdaRefIdeal.sig) → Buf (Elt Ideal) ℓ) (g : Dev Cert.AdaRefIdeal.nD → PrngReg), Pre_AdaRefIdeal m →
    θ_run (Cert.AdaRefIdeal.defs (F := Ideal)) (onTc (τ := Cert.AdaRefIdeal.τ) (Cert.AdaRefIdeal.main (F := Ideal))) ⟨m, fun _ => 0, g⟩ (fun r => (∀ c : Dev Cert.AdaRefIdeal.nD,
      r.2.mem ((c.tc : Thread Cert.AdaRefIdeal.nD Cert.AdaRefIdeal.τ).loc Cert.AdaRefIdeal.main_arg0) = m ((c.tc : Thread Cert.AdaRefIdeal.nD Cert.AdaRefIdeal.τ).loc Cert.AdaRefIdeal.main_arg0)
      ∧ r.2.mem ((c.tc : Thread Cert.AdaRefIdeal.nD Cert.AdaRefIdeal.τ).loc Cert.AdaRefIdeal.main_arg1) = m ((c.tc : Thread Cert.AdaRefIdeal.nD Cert.AdaRefIdeal.τ).loc Cert.AdaRefIdeal.main_arg1)
      ∧ r.2.mem ((c.tc : Thread Cert.AdaRefIdeal.nD Cert.AdaRefIdeal.τ).loc Cert.AdaRefIdeal.main_arg2) = m ((c.tc : Thread Cert.AdaRefIdeal.nD Cert.AdaRefIdeal.τ).loc Cert.AdaRefIdeal.main_arg2)
      ∧ r.2.mem ((c.tc : Thread Cert.AdaRefIdeal.nD Cert.AdaRefIdeal.τ).loc Cert.AdaRefIdeal.main_arg3) = m ((c.tc : Thread Cert.AdaRefIdeal.nD Cert.AdaRefIdeal.τ).loc Cert.AdaRefIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5)
      ∧ r.2.mem ((c.tc : Thread Cert.Gate.nD Cert.Gate.τ).loc Cert.Gate.main_arg6) = m ((c.tc : Thread Cert.Gate.nD Cert.Gate.τ).loc Cert.Gate.main_arg6))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
      ∧ r.2.mem ((c.tc : Thread Cert.GateIdeal.nD Cert.GateIdeal.τ).loc Cert.GateIdeal.main_arg6) = m ((c.tc : Thread Cert.GateIdeal.nD Cert.GateIdeal.τ).loc Cert.GateIdeal.main_arg6))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5)
      ∧ r.2.mem ((c.tc : Thread Cert.GateRefIdeal.nD Cert.GateRefIdeal.τ).loc Cert.GateRefIdeal.main_arg6) = m ((c.tc : Thread Cert.GateRefIdeal.nD Cert.GateRefIdeal.τ).loc Cert.GateRefIdeal.main_arg6))
      ∧ r.2.sem = fun _ => 0)

def quiescent_StickFwd [hStickFwd : Cert.StickFwd.Facts] : Prop :=
  ∀ (m : (ℓ : Loc Cert.StickFwd.nD Cert.StickFwd.τ Cert.StickFwd.sig) → Buf (Elt Bits) ℓ) (g : Dev Cert.StickFwd.nD → PrngReg), Pre_StickFwd m →
    θ_run (Cert.StickFwd.defs (F := Bits)) (onTc (τ := Cert.StickFwd.τ) (Cert.StickFwd.main (F := Bits))) ⟨m, fun _ => 0, g⟩ (fun r => (∀ c : Dev Cert.StickFwd.nD,
      r.2.mem ((c.tc : Thread Cert.StickFwd.nD Cert.StickFwd.τ).loc Cert.StickFwd.main_arg0) = m ((c.tc : Thread Cert.StickFwd.nD Cert.StickFwd.τ).loc Cert.StickFwd.main_arg0))
      ∧ r.2.sem = fun _ => 0)

def quiescent_StickFwdIdeal [hStickFwdIdeal : Cert.StickFwdIdeal.Facts] : Prop :=
  ∀ (m : (ℓ : Loc Cert.StickFwdIdeal.nD Cert.StickFwdIdeal.τ Cert.StickFwdIdeal.sig) → Buf (Elt Ideal) ℓ) (g : Dev Cert.StickFwdIdeal.nD → PrngReg), Pre_StickFwdIdeal m →
    θ_run (Cert.StickFwdIdeal.defs (F := Ideal)) (onTc (τ := Cert.StickFwdIdeal.τ) (Cert.StickFwdIdeal.main (F := Ideal))) ⟨m, fun _ => 0, g⟩ (fun r => (∀ c : Dev Cert.StickFwdIdeal.nD,
      r.2.mem ((c.tc : Thread Cert.StickFwdIdeal.nD Cert.StickFwdIdeal.τ).loc Cert.StickFwdIdeal.main_arg0) = m ((c.tc : Thread Cert.StickFwdIdeal.nD Cert.StickFwdIdeal.τ).loc Cert.StickFwdIdeal.main_arg0))
      ∧ r.2.sem = fun _ => 0)

def quiescent_StickFwdIdeal_pre_stick_fwd_finite [hStickFwdIdeal : Cert.StickFwdIdeal.Facts] [hPre_stick_fwd_finite : Cert.Pre_stick_fwd_finite.Facts] : Prop :=
  ∀ (m : (ℓ : Loc Cert.StickFwdIdeal.nD Cert.StickFwdIdeal.τ Cert.StickFwdIdeal.sig) → Buf (Elt Ideal) ℓ) (g : Dev Cert.StickFwdIdeal.nD → PrngReg), Pre_StickFwdIdeal_stick_fwd_finite m →
    θ_run (Cert.StickFwdIdeal.defs (F := Ideal)) (onTc (τ := Cert.StickFwdIdeal.τ) (Cert.StickFwdIdeal.main (F := Ideal))) ⟨m, fun _ => 0, g⟩ (fun r => (∀ c : Dev Cert.StickFwdIdeal.nD,
      r.2.mem ((c.tc : Thread Cert.StickFwdIdeal.nD Cert.StickFwdIdeal.τ).loc Cert.StickFwdIdeal.main_arg0) = m ((c.tc : Thread Cert.StickFwdIdeal.nD Cert.StickFwdIdeal.τ).loc Cert.StickFwdIdeal.main_arg0))
      ∧ r.2.sem = fun _ => 0)

def quiescent_StickFwdRefIdeal [hStickFwdRefIdeal : Cert.StickFwdRefIdeal.Facts] : Prop :=
  ∀ (m : (ℓ : Loc Cert.StickFwdRefIdeal.nD Cert.StickFwdRefIdeal.τ Cert.StickFwdRefIdeal.sig) → Buf (Elt Ideal) ℓ) (g : Dev Cert.StickFwdRefIdeal.nD → PrngReg), Pre_StickFwdRefIdeal m →
    θ_run (Cert.StickFwdRefIdeal.defs (F := Ideal)) (onTc (τ := Cert.StickFwdRefIdeal.τ) (Cert.StickFwdRefIdeal.main (F := Ideal))) ⟨m, fun _ => 0, g⟩ (fun r => (∀ c : Dev Cert.StickFwdRefIdeal.nD,
      r.2.mem ((c.tc : Thread Cert.StickFwdRefIdeal.nD Cert.StickFwdRefIdeal.τ).loc Cert.StickFwdRefIdeal.main_arg0) = m ((c.tc : Thread Cert.StickFwdRefIdeal.nD Cert.StickFwdRefIdeal.τ).loc Cert.StickFwdRefIdeal.main_arg0))
      ∧ r.2.sem = fun _ => 0)

def quiescent_StickFwdRefIdeal_pre_stick_fwd_finite [hStickFwdRefIdeal : Cert.StickFwdRefIdeal.Facts] [hPre_stick_fwd_finite : Cert.Pre_stick_fwd_finite.Facts] : Prop :=
  ∀ (m : (ℓ : Loc Cert.StickFwdRefIdeal.nD Cert.StickFwdRefIdeal.τ Cert.StickFwdRefIdeal.sig) → Buf (Elt Ideal) ℓ) (g : Dev Cert.StickFwdRefIdeal.nD → PrngReg), Pre_StickFwdRefIdeal_stick_fwd_finite m →
    θ_run (Cert.StickFwdRefIdeal.defs (F := Ideal)) (onTc (τ := Cert.StickFwdRefIdeal.τ) (Cert.StickFwdRefIdeal.main (F := Ideal))) ⟨m, fun _ => 0, g⟩ (fun r => (∀ c : Dev Cert.StickFwdRefIdeal.nD,
      r.2.mem ((c.tc : Thread Cert.StickFwdRefIdeal.nD Cert.StickFwdRefIdeal.τ).loc Cert.StickFwdRefIdeal.main_arg0) = m ((c.tc : Thread Cert.StickFwdRefIdeal.nD Cert.StickFwdRefIdeal.τ).loc Cert.StickFwdRefIdeal.main_arg0))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7))
      ∧ r.2.sem = fun _ => 0)

def quiescent_GateFwd [hGateFwd : Cert.GateFwd.Facts] : Prop :=
  ∀ (m : (ℓ : Loc Cert.GateFwd.nD Cert.GateFwd.τ Cert.GateFwd.sig) → Buf (Elt Bits) ℓ) (g : Dev Cert.GateFwd.nD → PrngReg), Pre_GateFwd m →
    θ_run (Cert.GateFwd.defs (F := Bits)) (onTc (τ := Cert.GateFwd.τ) (Cert.GateFwd.main (F := Bits))) ⟨m, fun _ => 0, g⟩ (fun r => (∀ c : Dev Cert.GateFwd.nD,
      r.2.mem ((c.tc : Thread Cert.GateFwd.nD Cert.GateFwd.τ).loc Cert.GateFwd.main_arg0) = m ((c.tc : Thread Cert.GateFwd.nD Cert.GateFwd.τ).loc Cert.GateFwd.main_arg0)
      ∧ r.2.mem ((c.tc : Thread Cert.GateFwd.nD Cert.GateFwd.τ).loc Cert.GateFwd.main_arg1) = m ((c.tc : Thread Cert.GateFwd.nD Cert.GateFwd.τ).loc Cert.GateFwd.main_arg1)
      ∧ r.2.mem ((c.tc : Thread Cert.GateFwd.nD Cert.GateFwd.τ).loc Cert.GateFwd.main_arg2) = m ((c.tc : Thread Cert.GateFwd.nD Cert.GateFwd.τ).loc Cert.GateFwd.main_arg2)
      ∧ r.2.mem ((c.tc : Thread Cert.GateFwd.nD Cert.GateFwd.τ).loc Cert.GateFwd.main_arg3) = m ((c.tc : Thread Cert.GateFwd.nD Cert.GateFwd.τ).loc Cert.GateFwd.main_arg3)
      ∧ r.2.mem ((c.tc : Thread Cert.GateFwd.nD Cert.GateFwd.τ).loc Cert.GateFwd.main_arg4) = m ((c.tc : Thread Cert.GateFwd.nD Cert.GateFwd.τ).loc Cert.GateFwd.main_arg4)
      ∧ r.2.mem ((c.tc : Thread Cert.GateFwd.nD Cert.GateFwd.τ).loc Cert.GateFwd.main_arg5) = m ((c.tc : Thread Cert.GateFwd.nD Cert.GateFwd.τ).loc Cert.GateFwd.main_arg5))
      ∧ r.2.sem = fun _ => 0)

def quiescent_GateFwdIdeal [hGateFwdIdeal : Cert.GateFwdIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg), Pre_GateFwdIdeal m →
    θ_run (Cert.GateFwdIdeal.defs (F := Ideal)) (onTc (τ := Cert.GateFwdIdeal.τ) (Cert.GateFwdIdeal.main (F := Ideal))) ⟨m, fun _ => 0, g⟩ (fun r => (∀ c : Dev Cert.GateFwdIdeal.nD,
      r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
      ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
      ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
      ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
      ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4)
      ∧ r.2.mem ((c.tc : Thread Cert.GateFwdIdeal.nD Cert.GateFwdIdeal.τ).loc Cert.GateFwdIdeal.main_arg5) = m ((c.tc : Thread Cert.GateFwdIdeal.nD Cert.GateFwdIdeal.τ).loc Cert.GateFwdIdeal.main_arg5))
      ∧ r.2.sem = fun _ => 0)

def quiescent_GateFwdRefIdeal [hGateFwdRefIdeal : Cert.GateFwdRefIdeal.Facts] : Prop :=
  ∀ (m : (ℓ : Loc Cert.GateFwdRefIdeal.nD Cert.GateFwdRefIdeal.τ Cert.GateFwdRefIdeal.sig) → Buf (Elt Ideal) ℓ) (g : Dev Cert.GateFwdRefIdeal.nD → PrngReg), Pre_GateFwdRefIdeal m →
    θ_run (Cert.GateFwdRefIdeal.defs (F := Ideal)) (onTc (τ := Cert.GateFwdRefIdeal.τ) (Cert.GateFwdRefIdeal.main (F := Ideal))) ⟨m, fun _ => 0, g⟩ (fun r => (∀ c : Dev Cert.GateFwdRefIdeal.nD,
      r.2.mem ((c.tc : Thread Cert.GateFwdRefIdeal.nD Cert.GateFwdRefIdeal.τ).loc Cert.GateFwdRefIdeal.main_arg0) = m ((c.tc : Thread Cert.GateFwdRefIdeal.nD Cert.GateFwdRefIdeal.τ).loc Cert.GateFwdRefIdeal.main_arg0)
      ∧ r.2.mem ((c.tc : Thread Cert.GateFwdRefIdeal.nD Cert.GateFwdRefIdeal.τ).loc Cert.GateFwdRefIdeal.main_arg1) = m ((c.tc : Thread Cert.GateFwdRefIdeal.nD Cert.GateFwdRefIdeal.τ).loc Cert.GateFwdRefIdeal.main_arg1)
      ∧ r.2.mem ((c.tc : Thread Cert.GateFwdRefIdeal.nD Cert.GateFwdRefIdeal.τ).loc Cert.GateFwdRefIdeal.main_arg2) = m ((c.tc : Thread Cert.GateFwdRefIdeal.nD Cert.GateFwdRefIdeal.τ).loc Cert.GateFwdRefIdeal.main_arg2)
      ∧ r.2.mem ((c.tc : Thread Cert.GateFwdRefIdeal.nD Cert.GateFwdRefIdeal.τ).loc Cert.GateFwdRefIdeal.main_arg3) = m ((c.tc : Thread Cert.GateFwdRefIdeal.nD Cert.GateFwdRefIdeal.τ).loc Cert.GateFwdRefIdeal.main_arg3)
      ∧ r.2.mem ((c.tc : Thread Cert.GateFwdRefIdeal.nD Cert.GateFwdRefIdeal.τ).loc Cert.GateFwdRefIdeal.main_arg4) = m ((c.tc : Thread Cert.GateFwdRefIdeal.nD Cert.GateFwdRefIdeal.τ).loc Cert.GateFwdRefIdeal.main_arg4)
      ∧ r.2.mem ((c.tc : Thread Cert.GateFwdRefIdeal.nD Cert.GateFwdRefIdeal.τ).loc Cert.GateFwdRefIdeal.main_arg5) = m ((c.tc : Thread Cert.GateFwdRefIdeal.nD Cert.GateFwdRefIdeal.τ).loc Cert.GateFwdRefIdeal.main_arg5))
      ∧ r.2.sem = fun _ => 0)

def quiescent_AdaFwd [hAdaFwd : Cert.AdaFwd.Facts] : Prop :=
  ∀ (m : (ℓ : Loc Cert.AdaFwd.nD Cert.AdaFwd.τ Cert.AdaFwd.sig) → Buf (Elt Bits) ℓ) (g : Dev Cert.AdaFwd.nD → PrngReg), Pre_AdaFwd m →
    θ_run (Cert.AdaFwd.defs (F := Bits)) (onTc (τ := Cert.AdaFwd.τ) (Cert.AdaFwd.main (F := Bits))) ⟨m, fun _ => 0, g⟩ (fun r => (∀ c : Dev Cert.AdaFwd.nD,
      r.2.mem ((c.tc : Thread Cert.AdaFwd.nD Cert.AdaFwd.τ).loc Cert.AdaFwd.main_arg0) = m ((c.tc : Thread Cert.AdaFwd.nD Cert.AdaFwd.τ).loc Cert.AdaFwd.main_arg0)
      ∧ r.2.mem ((c.tc : Thread Cert.AdaFwd.nD Cert.AdaFwd.τ).loc Cert.AdaFwd.main_arg1) = m ((c.tc : Thread Cert.AdaFwd.nD Cert.AdaFwd.τ).loc Cert.AdaFwd.main_arg1)
      ∧ r.2.mem ((c.tc : Thread Cert.AdaFwd.nD Cert.AdaFwd.τ).loc Cert.AdaFwd.main_arg2) = m ((c.tc : Thread Cert.AdaFwd.nD Cert.AdaFwd.τ).loc Cert.AdaFwd.main_arg2))
      ∧ r.2.sem = fun _ => 0)

def quiescent_AdaFwdIdeal [hAdaFwdIdeal : Cert.AdaFwdIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg), Pre_AdaFwdIdeal m →
    θ_run (Cert.AdaFwdIdeal.defs (F := Ideal)) (onTc (τ := Cert.AdaFwdIdeal.τ) (Cert.AdaFwdIdeal.main (F := Ideal))) ⟨m, fun _ => 0, g⟩ (fun r => (∀ c : Dev Cert.AdaFwdIdeal.nD,
      r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
      ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
      ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ r.2.sem = fun _ => 0)

def quiescent_AdaFwdRefIdeal [hAdaFwdRefIdeal : Cert.AdaFwdRefIdeal.Facts] : Prop :=
  ∀ (m : (ℓ : Loc Cert.AdaFwdRefIdeal.nD Cert.AdaFwdRefIdeal.τ Cert.AdaFwdRefIdeal.sig) → Buf (Elt Ideal) ℓ) (g : Dev Cert.AdaFwdRefIdeal.nD → PrngReg), Pre_AdaFwdRefIdeal m →
    θ_run (Cert.AdaFwdRefIdeal.defs (F := Ideal)) (onTc (τ := Cert.AdaFwdRefIdeal.τ) (Cert.AdaFwdRefIdeal.main (F := Ideal))) ⟨m, fun _ => 0, g⟩ (fun r => (∀ c : Dev Cert.AdaFwdRefIdeal.nD,
      r.2.mem ((c.tc : Thread Cert.AdaFwdRefIdeal.nD Cert.AdaFwdRefIdeal.τ).loc Cert.AdaFwdRefIdeal.main_arg0) = m ((c.tc : Thread Cert.AdaFwdRefIdeal.nD Cert.AdaFwdRefIdeal.τ).loc Cert.AdaFwdRefIdeal.main_arg0)
      ∧ r.2.mem ((c.tc : Thread Cert.AdaFwdRefIdeal.nD Cert.AdaFwdRefIdeal.τ).loc Cert.AdaFwdRefIdeal.main_arg1) = m ((c.tc : Thread Cert.AdaFwdRefIdeal.nD Cert.AdaFwdRefIdeal.τ).loc Cert.AdaFwdRefIdeal.main_arg1)
      ∧ r.2.mem ((c.tc : Thread Cert.AdaFwdRefIdeal.nD Cert.AdaFwdRefIdeal.τ).loc Cert.AdaFwdRefIdeal.main_arg2) = m ((c.tc : Thread Cert.AdaFwdRefIdeal.nD Cert.AdaFwdRefIdeal.τ).loc Cert.AdaFwdRefIdeal.main_arg2))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4)
      ∧ r.2.mem ((c.tc : Thread Cert.FfnFwd.nD Cert.FfnFwd.τ).loc Cert.FfnFwd.main_arg5) = m ((c.tc : Thread Cert.FfnFwd.nD Cert.FfnFwd.τ).loc Cert.FfnFwd.main_arg5)
      ∧ r.2.mem ((c.tc : Thread Cert.FfnFwd.nD Cert.FfnFwd.τ).loc Cert.FfnFwd.main_arg6) = m ((c.tc : Thread Cert.FfnFwd.nD Cert.FfnFwd.τ).loc Cert.FfnFwd.main_arg6))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
      ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
      ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4)
      ∧ r.2.mem ((c.tc : Thread Cert.FfnFwdRefIdeal.nD Cert.FfnFwdRefIdeal.τ).loc Cert.FfnFwdRefIdeal.main_arg5) = m ((c.tc : Thread Cert.FfnFwdRefIdeal.nD Cert.FfnFwdRefIdeal.τ).loc Cert.FfnFwdRefIdeal.main_arg5)
      ∧ r.2.mem ((c.tc : Thread Cert.FfnFwdRefIdeal.nD Cert.FfnFwdRefIdeal.τ).loc Cert.FfnFwdRefIdeal.main_arg6) = m ((c.tc : Thread Cert.FfnFwdRefIdeal.nD Cert.FfnFwdRefIdeal.τ).loc Cert.FfnFwdRefIdeal.main_arg6))
      ∧ r.2.sem = fun _ => 0)

def quiescent_ProjFwd [hProjFwd : Cert.ProjFwd.Facts] : Prop :=
  ∀ (m : (ℓ : Loc Cert.ProjFwd.nD Cert.ProjFwd.τ Cert.ProjFwd.sig) → Buf (Elt Bits) ℓ) (g : Dev Cert.ProjFwd.nD → PrngReg), Pre_ProjFwd m →
    θ_run (Cert.ProjFwd.defs (F := Bits)) (onTc (τ := Cert.ProjFwd.τ) (Cert.ProjFwd.main (F := Bits))) ⟨m, fun _ => 0, g⟩ (fun r => (∀ c : Dev Cert.ProjFwd.nD,
      r.2.mem ((c.tc : Thread Cert.ProjFwd.nD Cert.ProjFwd.τ).loc Cert.ProjFwd.main_arg0) = m ((c.tc : Thread Cert.ProjFwd.nD Cert.ProjFwd.τ).loc Cert.ProjFwd.main_arg0)
      ∧ r.2.mem ((c.tc : Thread Cert.ProjFwd.nD Cert.ProjFwd.τ).loc Cert.ProjFwd.main_arg1) = m ((c.tc : Thread Cert.ProjFwd.nD Cert.ProjFwd.τ).loc Cert.ProjFwd.main_arg1)
      ∧ r.2.mem ((c.tc : Thread Cert.ProjFwd.nD Cert.ProjFwd.τ).loc Cert.ProjFwd.main_arg2) = m ((c.tc : Thread Cert.ProjFwd.nD Cert.ProjFwd.τ).loc Cert.ProjFwd.main_arg2)
      ∧ r.2.mem ((c.tc : Thread Cert.ProjFwd.nD Cert.ProjFwd.τ).loc Cert.ProjFwd.main_arg3) = m ((c.tc : Thread Cert.ProjFwd.nD Cert.ProjFwd.τ).loc Cert.ProjFwd.main_arg3)
      ∧ r.2.mem ((c.tc : Thread Cert.ProjFwd.nD Cert.ProjFwd.τ).loc Cert.ProjFwd.main_arg4) = m ((c.tc : Thread Cert.ProjFwd.nD Cert.ProjFwd.τ).loc Cert.ProjFwd.main_arg4)
      ∧ r.2.mem ((c.tc : Thread Cert.ProjFwd.nD Cert.ProjFwd.τ).loc Cert.ProjFwd.main_arg5) = m ((c.tc : Thread Cert.ProjFwd.nD Cert.ProjFwd.τ).loc Cert.ProjFwd.main_arg5)
      ∧ r.2.mem ((c.tc : Thread Cert.ProjFwd.nD Cert.ProjFwd.τ).loc Cert.ProjFwd.main_arg6) = m ((c.tc : Thread Cert.ProjFwd.nD Cert.ProjFwd.τ).loc Cert.ProjFwd.main_arg6))
      ∧ r.2.sem = fun _ => 0)

def quiescent_ProjFwdIdeal [hProjFwdIdeal : Cert.ProjFwdIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg), Pre_ProjFwdIdeal m →
    θ_run (Cert.ProjFwdIdeal.defs (F := Ideal)) (onTc (τ := Cert.ProjFwdIdeal.τ) (Cert.ProjFwdIdeal.main (F := Ideal))) ⟨m, fun _ => 0, g⟩ (fun r => (∀ c : Dev Cert.ProjFwdIdeal.nD,
      r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
      ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
      ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2)
      ∧ r.2.mem ((c.tc : Thread Cert.ProjFwdIdeal.nD Cert.ProjFwdIdeal.τ).loc Cert.ProjFwdIdeal.main_arg3) = m ((c.tc : Thread Cert.ProjFwdIdeal.nD Cert.ProjFwdIdeal.τ).loc Cert.ProjFwdIdeal.main_arg3)
      ∧ r.2.mem ((c.tc : Thread Cert.ProjFwdIdeal.nD Cert.ProjFwdIdeal.τ).loc Cert.ProjFwdIdeal.main_arg4) = m ((c.tc : Thread Cert.ProjFwdIdeal.nD Cert.ProjFwdIdeal.τ).loc Cert.ProjFwdIdeal.main_arg4)
      ∧ r.2.mem ((c.tc : Thread Cert.ProjFwdIdeal.nD Cert.ProjFwdIdeal.τ).loc Cert.ProjFwdIdeal.main_arg5) = m ((c.tc : Thread Cert.ProjFwdIdeal.nD Cert.ProjFwdIdeal.τ).loc Cert.ProjFwdIdeal.main_arg5)
      ∧ r.2.mem ((c.tc : Thread Cert.ProjFwdIdeal.nD Cert.ProjFwdIdeal.τ).loc Cert.ProjFwdIdeal.main_arg6) = m ((c.tc : Thread Cert.ProjFwdIdeal.nD Cert.ProjFwdIdeal.τ).loc Cert.ProjFwdIdeal.main_arg6))
      ∧ r.2.sem = fun _ => 0)

def quiescent_ProjFwdRefIdeal [hProjFwdRefIdeal : Cert.ProjFwdRefIdeal.Facts] : Prop :=
  ∀ (m : (ℓ : Loc Cert.ProjFwdRefIdeal.nD Cert.ProjFwdRefIdeal.τ Cert.ProjFwdRefIdeal.sig) → Buf (Elt Ideal) ℓ) (g : Dev Cert.ProjFwdRefIdeal.nD → PrngReg), Pre_ProjFwdRefIdeal m →
    θ_run (Cert.ProjFwdRefIdeal.defs (F := Ideal)) (onTc (τ := Cert.ProjFwdRefIdeal.τ) (Cert.ProjFwdRefIdeal.main (F := Ideal))) ⟨m, fun _ => 0, g⟩ (fun r => (∀ c : Dev Cert.ProjFwdRefIdeal.nD,
      r.2.mem ((c.tc : Thread Cert.ProjFwdRefIdeal.nD Cert.ProjFwdRefIdeal.τ).loc Cert.ProjFwdRefIdeal.main_arg0) = m ((c.tc : Thread Cert.ProjFwdRefIdeal.nD Cert.ProjFwdRefIdeal.τ).loc Cert.ProjFwdRefIdeal.main_arg0)
      ∧ r.2.mem ((c.tc : Thread Cert.ProjFwdRefIdeal.nD Cert.ProjFwdRefIdeal.τ).loc Cert.ProjFwdRefIdeal.main_arg1) = m ((c.tc : Thread Cert.ProjFwdRefIdeal.nD Cert.ProjFwdRefIdeal.τ).loc Cert.ProjFwdRefIdeal.main_arg1)
      ∧ r.2.mem ((c.tc : Thread Cert.ProjFwdRefIdeal.nD Cert.ProjFwdRefIdeal.τ).loc Cert.ProjFwdRefIdeal.main_arg2) = m ((c.tc : Thread Cert.ProjFwdRefIdeal.nD Cert.ProjFwdRefIdeal.τ).loc Cert.ProjFwdRefIdeal.main_arg2)
      ∧ r.2.mem ((c.tc : Thread Cert.ProjFwdRefIdeal.nD Cert.ProjFwdRefIdeal.τ).loc Cert.ProjFwdRefIdeal.main_arg3) = m ((c.tc : Thread Cert.ProjFwdRefIdeal.nD Cert.ProjFwdRefIdeal.τ).loc Cert.ProjFwdRefIdeal.main_arg3)
      ∧ r.2.mem ((c.tc : Thread Cert.ProjFwdRefIdeal.nD Cert.ProjFwdRefIdeal.τ).loc Cert.ProjFwdRefIdeal.main_arg4) = m ((c.tc : Thread Cert.ProjFwdRefIdeal.nD Cert.ProjFwdRefIdeal.τ).loc Cert.ProjFwdRefIdeal.main_arg4)
      ∧ r.2.mem ((c.tc : Thread Cert.ProjFwdRefIdeal.nD Cert.ProjFwdRefIdeal.τ).loc Cert.ProjFwdRefIdeal.main_arg5) = m ((c.tc : Thread Cert.ProjFwdRefIdeal.nD Cert.ProjFwdRefIdeal.τ).loc Cert.ProjFwdRefIdeal.main_arg5)
      ∧ r.2.mem ((c.tc : Thread Cert.ProjFwdRefIdeal.nD Cert.ProjFwdRefIdeal.τ).loc Cert.ProjFwdRefIdeal.main_arg6) = m ((c.tc : Thread Cert.ProjFwdRefIdeal.nD Cert.ProjFwdRefIdeal.τ).loc Cert.ProjFwdRefIdeal.main_arg6))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ r.2.sem = fun _ => 0)

def quiescent_AdamAdaRefIdeal [hAdamAdaRefIdeal : Cert.AdamAdaRefIdeal.Facts] : Prop :=
  ∀ (m : (ℓ : Loc Cert.AdamAdaRefIdeal.nD Cert.AdamAdaRefIdeal.τ Cert.AdamAdaRefIdeal.sig) → Buf (Elt Ideal) ℓ) (g : Dev Cert.AdamAdaRefIdeal.nD → PrngReg), Pre_AdamAdaRefIdeal m →
    θ_run (Cert.AdamAdaRefIdeal.defs (F := Ideal)) (onTc (τ := Cert.AdamAdaRefIdeal.τ) (Cert.AdamAdaRefIdeal.main (F := Ideal))) ⟨m, fun _ => 0, g⟩ (fun r => (∀ c : Dev Cert.AdamAdaRefIdeal.nD,
      r.2.mem ((c.tc : Thread Cert.AdamAdaRefIdeal.nD Cert.AdamAdaRefIdeal.τ).loc Cert.AdamAdaRefIdeal.main_arg0) = m ((c.tc : Thread Cert.AdamAdaRefIdeal.nD Cert.AdamAdaRefIdeal.τ).loc Cert.AdamAdaRefIdeal.main_arg0)
      ∧ r.2.mem ((c.tc : Thread Cert.AdamAdaRefIdeal.nD Cert.AdamAdaRefIdeal.τ).loc Cert.AdamAdaRefIdeal.main_arg1) = m ((c.tc : Thread Cert.AdamAdaRefIdeal.nD Cert.AdamAdaRefIdeal.τ).loc Cert.AdamAdaRefIdeal.main_arg1)
      ∧ r.2.mem ((c.tc : Thread Cert.AdamAdaRefIdeal.nD Cert.AdamAdaRefIdeal.τ).loc Cert.AdamAdaRefIdeal.main_arg2) = m ((c.tc : Thread Cert.AdamAdaRefIdeal.nD Cert.AdamAdaRefIdeal.τ).loc Cert.AdamAdaRefIdeal.main_arg2)
      ∧ r.2.mem ((c.tc : Thread Cert.AdamAdaRefIdeal.nD Cert.AdamAdaRefIdeal.τ).loc Cert.AdamAdaRefIdeal.main_arg3) = m ((c.tc : Thread Cert.AdamAdaRefIdeal.nD Cert.AdamAdaRefIdeal.τ).loc Cert.AdamAdaRefIdeal.main_arg3))
      ∧ r.2.sem = fun _ => 0)

def quiescent_SumSlots [hSumSlots : Cert.SumSlots.Facts] : Prop :=
  ∀ (m : (ℓ : Loc Cert.SumSlots.nD Cert.SumSlots.τ Cert.SumSlots.sig) → Buf (Elt Bits) ℓ) (g : Dev Cert.SumSlots.nD → PrngReg), Pre_SumSlots m →
    θ_run (Cert.SumSlots.defs (F := Bits)) (onTc (τ := Cert.SumSlots.τ) (Cert.SumSlots.main (F := Bits))) ⟨m, fun _ => 0, g⟩ (fun r => (∀ c : Dev Cert.SumSlots.nD,
      r.2.mem ((c.tc : Thread Cert.SumSlots.nD Cert.SumSlots.τ).loc Cert.SumSlots.main_arg0) = m ((c.tc : Thread Cert.SumSlots.nD Cert.SumSlots.τ).loc Cert.SumSlots.main_arg0))
      ∧ r.2.sem = fun _ => 0)

def quiescent_SumSlotsIdeal [hSumSlotsIdeal : Cert.SumSlotsIdeal.Facts] : Prop :=
  ∀ (m : (ℓ : Loc Cert.SumSlotsIdeal.nD Cert.SumSlotsIdeal.τ Cert.SumSlotsIdeal.sig) → Buf (Elt Ideal) ℓ) (g : Dev Cert.SumSlotsIdeal.nD → PrngReg), Pre_SumSlotsIdeal m →
    θ_run (Cert.SumSlotsIdeal.defs (F := Ideal)) (onTc (τ := Cert.SumSlotsIdeal.τ) (Cert.SumSlotsIdeal.main (F := Ideal))) ⟨m, fun _ => 0, g⟩ (fun r => (∀ c : Dev Cert.SumSlotsIdeal.nD,
      r.2.mem ((c.tc : Thread Cert.SumSlotsIdeal.nD Cert.SumSlotsIdeal.τ).loc Cert.SumSlotsIdeal.main_arg0) = m ((c.tc : Thread Cert.SumSlotsIdeal.nD Cert.SumSlotsIdeal.τ).loc Cert.SumSlotsIdeal.main_arg0))
      ∧ r.2.sem = fun _ => 0)

def quiescent_SumSlotsRefIdeal [hSumSlotsRefIdeal : Cert.SumSlotsRefIdeal.Facts] : Prop :=
  ∀ (m : (ℓ : Loc Cert.SumSlotsRefIdeal.nD Cert.SumSlotsRefIdeal.τ Cert.SumSlotsRefIdeal.sig) → Buf (Elt Ideal) ℓ) (g : Dev Cert.SumSlotsRefIdeal.nD → PrngReg), Pre_SumSlotsRefIdeal m →
    θ_run (Cert.SumSlotsRefIdeal.defs (F := Ideal)) (onTc (τ := Cert.SumSlotsRefIdeal.τ) (Cert.SumSlotsRefIdeal.main (F := Ideal))) ⟨m, fun _ => 0, g⟩ (fun r => (∀ c : Dev Cert.SumSlotsRefIdeal.nD,
      r.2.mem ((c.tc : Thread Cert.SumSlotsRefIdeal.nD Cert.SumSlotsRefIdeal.τ).loc Cert.SumSlotsRefIdeal.main_arg0) = m ((c.tc : Thread Cert.SumSlotsRefIdeal.nD Cert.SumSlotsRefIdeal.τ).loc Cert.SumSlotsRefIdeal.main_arg0))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_AdamLayer [hAdamLayer : Cert.AdamLayer.Facts] : Prop :=
  ∀ (m : (ℓ : Loc Cert.AdamLayer.nD Cert.AdamLayer.τ Cert.AdamLayer.sig) → Buf (Elt Bits) ℓ) (g : Dev Cert.AdamLayer.nD → PrngReg), Pre_AdamLayer m →
    θ_run (Cert.AdamLayer.defs (F := Bits)) (onTc (τ := Cert.AdamLayer.τ) (Cert.AdamLayer.main (F := Bits))) ⟨m, fun _ => 0, g⟩ (fun r => (∀ c : Dev Cert.AdamLayer.nD,
      r.2.mem ((c.tc : Thread Cert.AdamLayer.nD Cert.AdamLayer.τ).loc Cert.AdamLayer.main_arg0) = m ((c.tc : Thread Cert.AdamLayer.nD Cert.AdamLayer.τ).loc Cert.AdamLayer.main_arg0)
      ∧ r.2.mem ((c.tc : Thread Cert.AdamLayer.nD Cert.AdamLayer.τ).loc Cert.AdamLayer.main_arg1) = m ((c.tc : Thread Cert.AdamLayer.nD Cert.AdamLayer.τ).loc Cert.AdamLayer.main_arg1)
      ∧ r.2.mem ((c.tc : Thread Cert.AdamLayer.nD Cert.AdamLayer.τ).loc Cert.AdamLayer.main_arg2) = m ((c.tc : Thread Cert.AdamLayer.nD Cert.AdamLayer.τ).loc Cert.AdamLayer.main_arg2)
      ∧ r.2.mem ((c.tc : Thread Cert.AdamLayer.nD Cert.AdamLayer.τ).loc Cert.AdamLayer.main_arg3) = m ((c.tc : Thread Cert.AdamLayer.nD Cert.AdamLayer.τ).loc Cert.AdamLayer.main_arg3)
      ∧ r.2.mem ((c.tc : Thread Cert.AdamLayer.nD Cert.AdamLayer.τ).loc Cert.AdamLayer.main_arg4) = m ((c.tc : Thread Cert.AdamLayer.nD Cert.AdamLayer.τ).loc Cert.AdamLayer.main_arg4)
      ∧ r.2.mem ((c.tc : Thread Cert.AdamLayer.nD Cert.AdamLayer.τ).loc Cert.AdamLayer.main_arg5) = m ((c.tc : Thread Cert.AdamLayer.nD Cert.AdamLayer.τ).loc Cert.AdamLayer.main_arg5)
      ∧ r.2.mem ((c.tc : Thread Cert.AdamLayer.nD Cert.AdamLayer.τ).loc Cert.AdamLayer.main_arg6) = m ((c.tc : Thread Cert.AdamLayer.nD Cert.AdamLayer.τ).loc Cert.AdamLayer.main_arg6)
      ∧ r.2.mem ((c.tc : Thread Cert.AdamLayer.nD Cert.AdamLayer.τ).loc Cert.AdamLayer.main_arg7) = m ((c.tc : Thread Cert.AdamLayer.nD Cert.AdamLayer.τ).loc Cert.AdamLayer.main_arg7))
      ∧ r.2.sem = fun _ => 0)

def quiescent_AdamLayerIdeal [hAdamLayerIdeal : Cert.AdamLayerIdeal.Facts] : Prop :=
  ∀ (m : (ℓ : Loc Cert.AdamLayerIdeal.nD Cert.AdamLayerIdeal.τ Cert.AdamLayerIdeal.sig) → Buf (Elt Ideal) ℓ) (g : Dev Cert.AdamLayerIdeal.nD → PrngReg), Pre_AdamLayerIdeal m →
    θ_run (Cert.AdamLayerIdeal.defs (F := Ideal)) (onTc (τ := Cert.AdamLayerIdeal.τ) (Cert.AdamLayerIdeal.main (F := Ideal))) ⟨m, fun _ => 0, g⟩ (fun r => (∀ c : Dev Cert.AdamLayerIdeal.nD,
      r.2.mem ((c.tc : Thread Cert.AdamLayerIdeal.nD Cert.AdamLayerIdeal.τ).loc Cert.AdamLayerIdeal.main_arg0) = m ((c.tc : Thread Cert.AdamLayerIdeal.nD Cert.AdamLayerIdeal.τ).loc Cert.AdamLayerIdeal.main_arg0)
      ∧ r.2.mem ((c.tc : Thread Cert.AdamLayerIdeal.nD Cert.AdamLayerIdeal.τ).loc Cert.AdamLayerIdeal.main_arg1) = m ((c.tc : Thread Cert.AdamLayerIdeal.nD Cert.AdamLayerIdeal.τ).loc Cert.AdamLayerIdeal.main_arg1)
      ∧ r.2.mem ((c.tc : Thread Cert.AdamLayerIdeal.nD Cert.AdamLayerIdeal.τ).loc Cert.AdamLayerIdeal.main_arg2) = m ((c.tc : Thread Cert.AdamLayerIdeal.nD Cert.AdamLayerIdeal.τ).loc Cert.AdamLayerIdeal.main_arg2)
      ∧ r.2.mem ((c.tc : Thread Cert.AdamLayerIdeal.nD Cert.AdamLayerIdeal.τ).loc Cert.AdamLayerIdeal.main_arg3) = m ((c.tc : Thread Cert.AdamLayerIdeal.nD Cert.AdamLayerIdeal.τ).loc Cert.AdamLayerIdeal.main_arg3)
      ∧ r.2.mem ((c.tc : Thread Cert.AdamLayerIdeal.nD Cert.AdamLayerIdeal.τ).loc Cert.AdamLayerIdeal.main_arg4) = m ((c.tc : Thread Cert.AdamLayerIdeal.nD Cert.AdamLayerIdeal.τ).loc Cert.AdamLayerIdeal.main_arg4)
      ∧ r.2.mem ((c.tc : Thread Cert.AdamLayerIdeal.nD Cert.AdamLayerIdeal.τ).loc Cert.AdamLayerIdeal.main_arg5) = m ((c.tc : Thread Cert.AdamLayerIdeal.nD Cert.AdamLayerIdeal.τ).loc Cert.AdamLayerIdeal.main_arg5)
      ∧ r.2.mem ((c.tc : Thread Cert.AdamLayerIdeal.nD Cert.AdamLayerIdeal.τ).loc Cert.AdamLayerIdeal.main_arg6) = m ((c.tc : Thread Cert.AdamLayerIdeal.nD Cert.AdamLayerIdeal.τ).loc Cert.AdamLayerIdeal.main_arg6)
      ∧ r.2.mem ((c.tc : Thread Cert.AdamLayerIdeal.nD Cert.AdamLayerIdeal.τ).loc Cert.AdamLayerIdeal.main_arg7) = m ((c.tc : Thread Cert.AdamLayerIdeal.nD Cert.AdamLayerIdeal.τ).loc Cert.AdamLayerIdeal.main_arg7))
      ∧ r.2.sem = fun _ => 0)

def quiescent_AdamLayerRefIdeal [hAdamLayerRefIdeal : Cert.AdamLayerRefIdeal.Facts] : Prop :=
  ∀ (m : (ℓ : Loc Cert.AdamLayerRefIdeal.nD Cert.AdamLayerRefIdeal.τ Cert.AdamLayerRefIdeal.sig) → Buf (Elt Ideal) ℓ) (g : Dev Cert.AdamLayerRefIdeal.nD → PrngReg), Pre_AdamLayerRefIdeal m →
    θ_run (Cert.AdamLayerRefIdeal.defs (F := Ideal)) (onTc (τ := Cert.AdamLayerRefIdeal.τ) (Cert.AdamLayerRefIdeal.main (F := Ideal))) ⟨m, fun _ => 0, g⟩ (fun r => (∀ c : Dev Cert.AdamLayerRefIdeal.nD,
      r.2.mem ((c.tc : Thread Cert.AdamLayerRefIdeal.nD Cert.AdamLayerRefIdeal.τ).loc Cert.AdamLayerRefIdeal.main_arg0) = m ((c.tc : Thread Cert.AdamLayerRefIdeal.nD Cert.AdamLayerRefIdeal.τ).loc Cert.AdamLayerRefIdeal.main_arg0)
      ∧ r.2.mem ((c.tc : Thread Cert.AdamLayerRefIdeal.nD Cert.AdamLayerRefIdeal.τ).loc Cert.AdamLayerRefIdeal.main_arg1) = m ((c.tc : Thread Cert.AdamLayerRefIdeal.nD Cert.AdamLayerRefIdeal.τ).loc Cert.AdamLayerRefIdeal.main_arg1)
      ∧ r.2.mem ((c.tc : Thread Cert.AdamLayerRefIdeal.nD Cert.AdamLayerRefIdeal.τ).loc Cert.AdamLayerRefIdeal.main_arg2) = m ((c.tc : Thread Cert.AdamLayerRefIdeal.nD Cert.AdamLayerRefIdeal.τ).loc Cert.AdamLayerRefIdeal.main_arg2)
      ∧ r.2.mem ((c.tc : Thread Cert.AdamLayerRefIdeal.nD Cert.AdamLayerRefIdeal.τ).loc Cert.AdamLayerRefIdeal.main_arg3) = m ((c.tc : Thread Cert.AdamLayerRefIdeal.nD Cert.AdamLayerRefIdeal.τ).loc Cert.AdamLayerRefIdeal.main_arg3)
      ∧ r.2.mem ((c.tc : Thread Cert.AdamLayerRefIdeal.nD Cert.AdamLayerRefIdeal.τ).loc Cert.AdamLayerRefIdeal.main_arg4) = m ((c.tc : Thread Cert.AdamLayerRefIdeal.nD Cert.AdamLayerRefIdeal.τ).loc Cert.AdamLayerRefIdeal.main_arg4)
      ∧ r.2.mem ((c.tc : Thread Cert.AdamLayerRefIdeal.nD Cert.AdamLayerRefIdeal.τ).loc Cert.AdamLayerRefIdeal.main_arg5) = m ((c.tc : Thread Cert.AdamLayerRefIdeal.nD Cert.AdamLayerRefIdeal.τ).loc Cert.AdamLayerRefIdeal.main_arg5)
      ∧ r.2.mem ((c.tc : Thread Cert.AdamLayerRefIdeal.nD Cert.AdamLayerRefIdeal.τ).loc Cert.AdamLayerRefIdeal.main_arg6) = m ((c.tc : Thread Cert.AdamLayerRefIdeal.nD Cert.AdamLayerRefIdeal.τ).loc Cert.AdamLayerRefIdeal.main_arg6)
      ∧ r.2.mem ((c.tc : Thread Cert.AdamLayerRefIdeal.nD Cert.AdamLayerRefIdeal.τ).loc Cert.AdamLayerRefIdeal.main_arg7) = m ((c.tc : Thread Cert.AdamLayerRefIdeal.nD Cert.AdamLayerRefIdeal.τ).loc Cert.AdamLayerRefIdeal.main_arg7))
      ∧ r.2.sem = fun _ => 0)

def quiescent_Tn [hTn : Cert.Tn.Facts] : Prop :=
  ∀ (m : (ℓ : Loc Cert.Tn.nD Cert.Tn.τ Cert.Tn.sig) → Buf (Elt Bits) ℓ) (g : Dev Cert.Tn.nD → PrngReg), Pre_Tn m →
    θ_run (Cert.Tn.defs (F := Bits)) (onTc (τ := Cert.Tn.τ) (Cert.Tn.main (F := Bits))) ⟨m, fun _ => 0, g⟩ (fun r => (∀ c : Dev Cert.Tn.nD,
      r.2.mem ((c.tc : Thread Cert.Tn.nD Cert.Tn.τ).loc Cert.Tn.main_arg0) = m ((c.tc : Thread Cert.Tn.nD Cert.Tn.τ).loc Cert.Tn.main_arg0)
      ∧ r.2.mem ((c.tc : Thread Cert.Tn.nD Cert.Tn.τ).loc Cert.Tn.main_arg1) = m ((c.tc : Thread Cert.Tn.nD Cert.Tn.τ).loc Cert.Tn.main_arg1)
      ∧ r.2.mem ((c.tc : Thread Cert.Tn.nD Cert.Tn.τ).loc Cert.Tn.main_arg2) = m ((c.tc : Thread Cert.Tn.nD Cert.Tn.τ).loc Cert.Tn.main_arg2))
      ∧ r.2.sem = fun _ => 0)

def quiescent_TnIdeal [hTnIdeal : Cert.TnIdeal.Facts] : Prop :=
  ∀ (m : (ℓ : Loc Cert.TnIdeal.nD Cert.TnIdeal.τ Cert.TnIdeal.sig) → Buf (Elt Ideal) ℓ) (g : Dev Cert.TnIdeal.nD → PrngReg), Pre_TnIdeal m →
    θ_run (Cert.TnIdeal.defs (F := Ideal)) (onTc (τ := Cert.TnIdeal.τ) (Cert.TnIdeal.main (F := Ideal))) ⟨m, fun _ => 0, g⟩ (fun r => (∀ c : Dev Cert.TnIdeal.nD,
      r.2.mem ((c.tc : Thread Cert.TnIdeal.nD Cert.TnIdeal.τ).loc Cert.TnIdeal.main_arg0) = m ((c.tc : Thread Cert.TnIdeal.nD Cert.TnIdeal.τ).loc Cert.TnIdeal.main_arg0)
      ∧ r.2.mem ((c.tc : Thread Cert.TnIdeal.nD Cert.TnIdeal.τ).loc Cert.TnIdeal.main_arg1) = m ((c.tc : Thread Cert.TnIdeal.nD Cert.TnIdeal.τ).loc Cert.TnIdeal.main_arg1)
      ∧ r.2.mem ((c.tc : Thread Cert.TnIdeal.nD Cert.TnIdeal.τ).loc Cert.TnIdeal.main_arg2) = m ((c.tc : Thread Cert.TnIdeal.nD Cert.TnIdeal.τ).loc Cert.TnIdeal.main_arg2))
      ∧ r.2.sem = fun _ => 0)

def quiescent_TnRefIdeal [hTnRefIdeal : Cert.TnRefIdeal.Facts] : Prop :=
  ∀ (m : (ℓ : Loc Cert.TnRefIdeal.nD Cert.TnRefIdeal.τ Cert.TnRefIdeal.sig) → Buf (Elt Ideal) ℓ) (g : Dev Cert.TnRefIdeal.nD → PrngReg), Pre_TnRefIdeal m →
    θ_run (Cert.TnRefIdeal.defs (F := Ideal)) (onTc (τ := Cert.TnRefIdeal.τ) (Cert.TnRefIdeal.main (F := Ideal))) ⟨m, fun _ => 0, g⟩ (fun r => (∀ c : Dev Cert.TnRefIdeal.nD,
      r.2.mem ((c.tc : Thread Cert.TnRefIdeal.nD Cert.TnRefIdeal.τ).loc Cert.TnRefIdeal.main_arg0) = m ((c.tc : Thread Cert.TnRefIdeal.nD Cert.TnRefIdeal.τ).loc Cert.TnRefIdeal.main_arg0)
      ∧ r.2.mem ((c.tc : Thread Cert.TnRefIdeal.nD Cert.TnRefIdeal.τ).loc Cert.TnRefIdeal.main_arg1) = m ((c.tc : Thread Cert.TnRefIdeal.nD Cert.TnRefIdeal.τ).loc Cert.TnRefIdeal.main_arg1)
      ∧ r.2.mem ((c.tc : Thread Cert.TnRefIdeal.nD Cert.TnRefIdeal.τ).loc Cert.TnRefIdeal.main_arg2) = m ((c.tc : Thread Cert.TnRefIdeal.nD Cert.TnRefIdeal.τ).loc Cert.TnRefIdeal.main_arg2))
      ∧ r.2.sem = fun _ => 0)

def quiescent_EvenFwd [hEvenFwd : Cert.EvenFwd.Facts] : Prop :=
  ∀ (m : (ℓ : Loc Cert.EvenFwd.nD Cert.EvenFwd.τ Cert.EvenFwd.sig) → Buf (Elt Bits) ℓ) (g : Dev Cert.EvenFwd.nD → PrngReg), Pre_EvenFwd m →
    θ_run (Cert.EvenFwd.defs (F := Bits)) (onTc (τ := Cert.EvenFwd.τ) (Cert.EvenFwd.main (F := Bits))) ⟨m, fun _ => 0, g⟩ (fun r => (∀ c : Dev Cert.EvenFwd.nD,
      r.2.mem ((c.tc : Thread Cert.EvenFwd.nD Cert.EvenFwd.τ).loc Cert.EvenFwd.main_arg0) = m ((c.tc : Thread Cert.EvenFwd.nD Cert.EvenFwd.τ).loc Cert.EvenFwd.main_arg0)
      ∧ r.2.mem ((c.tc : Thread Cert.EvenFwd.nD Cert.EvenFwd.τ).loc Cert.EvenFwd.main_arg1) = m ((c.tc : Thread Cert.EvenFwd.nD Cert.EvenFwd.τ).loc Cert.EvenFwd.main_arg1)
      ∧ r.2.mem ((c.tc : Thread Cert.EvenFwd.nD Cert.EvenFwd.τ).loc Cert.EvenFwd.main_arg2) = m ((c.tc : Thread Cert.EvenFwd.nD Cert.EvenFwd.τ).loc Cert.EvenFwd.main_arg2)
      ∧ r.2.mem ((c.tc : Thread Cert.EvenFwd.nD Cert.EvenFwd.τ).loc Cert.EvenFwd.main_arg3) = m ((c.tc : Thread Cert.EvenFwd.nD Cert.EvenFwd.τ).loc Cert.EvenFwd.main_arg3)
      ∧ r.2.mem ((c.tc : Thread Cert.EvenFwd.nD Cert.EvenFwd.τ).loc Cert.EvenFwd.main_arg4) = m ((c.tc : Thread Cert.EvenFwd.nD Cert.EvenFwd.τ).loc Cert.EvenFwd.main_arg4)
      ∧ r.2.mem ((c.tc : Thread Cert.EvenFwd.nD Cert.EvenFwd.τ).loc Cert.EvenFwd.main_arg5) = m ((c.tc : Thread Cert.EvenFwd.nD Cert.EvenFwd.τ).loc Cert.EvenFwd.main_arg5)
      ∧ r.2.mem ((c.tc : Thread Cert.EvenFwd.nD Cert.EvenFwd.τ).loc Cert.EvenFwd.main_arg6) = m ((c.tc : Thread Cert.EvenFwd.nD Cert.EvenFwd.τ).loc Cert.EvenFwd.main_arg6)
      ∧ r.2.mem ((c.tc : Thread Cert.EvenFwd.nD Cert.EvenFwd.τ).loc Cert.EvenFwd.main_arg7) = m ((c.tc : Thread Cert.EvenFwd.nD Cert.EvenFwd.τ).loc Cert.EvenFwd.main_arg7))
      ∧ r.2.sem = fun _ => 0)

def quiescent_EvenFwdIdeal [hEvenFwdIdeal : Cert.EvenFwdIdeal.Facts] : Prop :=
  ∀ (m : (ℓ : Loc Cert.EvenFwdIdeal.nD Cert.EvenFwdIdeal.τ Cert.EvenFwdIdeal.sig) → Buf (Elt Ideal) ℓ) (g : Dev Cert.EvenFwdIdeal.nD → PrngReg), Pre_EvenFwdIdeal m →
    θ_run (Cert.EvenFwdIdeal.defs (F := Ideal)) (onTc (τ := Cert.EvenFwdIdeal.τ) (Cert.EvenFwdIdeal.main (F := Ideal))) ⟨m, fun _ => 0, g⟩ (fun r => (∀ c : Dev Cert.EvenFwdIdeal.nD,
      r.2.mem ((c.tc : Thread Cert.EvenFwdIdeal.nD Cert.EvenFwdIdeal.τ).loc Cert.EvenFwdIdeal.main_arg0) = m ((c.tc : Thread Cert.EvenFwdIdeal.nD Cert.EvenFwdIdeal.τ).loc Cert.EvenFwdIdeal.main_arg0)
      ∧ r.2.mem ((c.tc : Thread Cert.EvenFwdIdeal.nD Cert.EvenFwdIdeal.τ).loc Cert.EvenFwdIdeal.main_arg1) = m ((c.tc : Thread Cert.EvenFwdIdeal.nD Cert.EvenFwdIdeal.τ).loc Cert.EvenFwdIdeal.main_arg1)
      ∧ r.2.mem ((c.tc : Thread Cert.EvenFwdIdeal.nD Cert.EvenFwdIdeal.τ).loc Cert.EvenFwdIdeal.main_arg2) = m ((c.tc : Thread Cert.EvenFwdIdeal.nD Cert.EvenFwdIdeal.τ).loc Cert.EvenFwdIdeal.main_arg2)
      ∧ r.2.mem ((c.tc : Thread Cert.EvenFwdIdeal.nD Cert.EvenFwdIdeal.τ).loc Cert.EvenFwdIdeal.main_arg3) = m ((c.tc : Thread Cert.EvenFwdIdeal.nD Cert.EvenFwdIdeal.τ).loc Cert.EvenFwdIdeal.main_arg3)
      ∧ r.2.mem ((c.tc : Thread Cert.EvenFwdIdeal.nD Cert.EvenFwdIdeal.τ).loc Cert.EvenFwdIdeal.main_arg4) = m ((c.tc : Thread Cert.EvenFwdIdeal.nD Cert.EvenFwdIdeal.τ).loc Cert.EvenFwdIdeal.main_arg4)
      ∧ r.2.mem ((c.tc : Thread Cert.EvenFwdIdeal.nD Cert.EvenFwdIdeal.τ).loc Cert.EvenFwdIdeal.main_arg5) = m ((c.tc : Thread Cert.EvenFwdIdeal.nD Cert.EvenFwdIdeal.τ).loc Cert.EvenFwdIdeal.main_arg5)
      ∧ r.2.mem ((c.tc : Thread Cert.EvenFwdIdeal.nD Cert.EvenFwdIdeal.τ).loc Cert.EvenFwdIdeal.main_arg6) = m ((c.tc : Thread Cert.EvenFwdIdeal.nD Cert.EvenFwdIdeal.τ).loc Cert.EvenFwdIdeal.main_arg6)
      ∧ r.2.mem ((c.tc : Thread Cert.EvenFwdIdeal.nD Cert.EvenFwdIdeal.τ).loc Cert.EvenFwdIdeal.main_arg7) = m ((c.tc : Thread Cert.EvenFwdIdeal.nD Cert.EvenFwdIdeal.τ).loc Cert.EvenFwdIdeal.main_arg7))
      ∧ r.2.sem = fun _ => 0)

def quiescent_EvenFwdRefIdeal [hEvenFwdRefIdeal : Cert.EvenFwdRefIdeal.Facts] : Prop :=
  ∀ (m : (ℓ : Loc Cert.EvenFwdRefIdeal.nD Cert.EvenFwdRefIdeal.τ Cert.EvenFwdRefIdeal.sig) → Buf (Elt Ideal) ℓ) (g : Dev Cert.EvenFwdRefIdeal.nD → PrngReg), Pre_EvenFwdRefIdeal m →
    θ_run (Cert.EvenFwdRefIdeal.defs (F := Ideal)) (onTc (τ := Cert.EvenFwdRefIdeal.τ) (Cert.EvenFwdRefIdeal.main (F := Ideal))) ⟨m, fun _ => 0, g⟩ (fun r => (∀ c : Dev Cert.EvenFwdRefIdeal.nD,
      r.2.mem ((c.tc : Thread Cert.EvenFwdRefIdeal.nD Cert.EvenFwdRefIdeal.τ).loc Cert.EvenFwdRefIdeal.main_arg0) = m ((c.tc : Thread Cert.EvenFwdRefIdeal.nD Cert.EvenFwdRefIdeal.τ).loc Cert.EvenFwdRefIdeal.main_arg0)
      ∧ r.2.mem ((c.tc : Thread Cert.EvenFwdRefIdeal.nD Cert.EvenFwdRefIdeal.τ).loc Cert.EvenFwdRefIdeal.main_arg1) = m ((c.tc : Thread Cert.EvenFwdRefIdeal.nD Cert.EvenFwdRefIdeal.τ).loc Cert.EvenFwdRefIdeal.main_arg1)
      ∧ r.2.mem ((c.tc : Thread Cert.EvenFwdRefIdeal.nD Cert.EvenFwdRefIdeal.τ).loc Cert.EvenFwdRefIdeal.main_arg2) = m ((c.tc : Thread Cert.EvenFwdRefIdeal.nD Cert.EvenFwdRefIdeal.τ).loc Cert.EvenFwdRefIdeal.main_arg2)
      ∧ r.2.mem ((c.tc : Thread Cert.EvenFwdRefIdeal.nD Cert.EvenFwdRefIdeal.τ).loc Cert.EvenFwdRefIdeal.main_arg3) = m ((c.tc : Thread Cert.EvenFwdRefIdeal.nD Cert.EvenFwdRefIdeal.τ).loc Cert.EvenFwdRefIdeal.main_arg3)
      ∧ r.2.mem ((c.tc : Thread Cert.EvenFwdRefIdeal.nD Cert.EvenFwdRefIdeal.τ).loc Cert.EvenFwdRefIdeal.main_arg4) = m ((c.tc : Thread Cert.EvenFwdRefIdeal.nD Cert.EvenFwdRefIdeal.τ).loc Cert.EvenFwdRefIdeal.main_arg4)
      ∧ r.2.mem ((c.tc : Thread Cert.EvenFwdRefIdeal.nD Cert.EvenFwdRefIdeal.τ).loc Cert.EvenFwdRefIdeal.main_arg5) = m ((c.tc : Thread Cert.EvenFwdRefIdeal.nD Cert.EvenFwdRefIdeal.τ).loc Cert.EvenFwdRefIdeal.main_arg5)
      ∧ r.2.mem ((c.tc : Thread Cert.EvenFwdRefIdeal.nD Cert.EvenFwdRefIdeal.τ).loc Cert.EvenFwdRefIdeal.main_arg6) = m ((c.tc : Thread Cert.EvenFwdRefIdeal.nD Cert.EvenFwdRefIdeal.τ).loc Cert.EvenFwdRefIdeal.main_arg6)
      ∧ r.2.mem ((c.tc : Thread Cert.EvenFwdRefIdeal.nD Cert.EvenFwdRefIdeal.τ).loc Cert.EvenFwdRefIdeal.main_arg7) = m ((c.tc : Thread Cert.EvenFwdRefIdeal.nD Cert.EvenFwdRefIdeal.τ).loc Cert.EvenFwdRefIdeal.main_arg7))
      ∧ r.2.sem = fun _ => 0)

def quiescent_ProjBwd [hProjBwd : Cert.ProjBwd.Facts] : Prop :=
  ∀ (m : (ℓ : Loc Cert.ProjBwd.nD Cert.ProjBwd.τ Cert.ProjBwd.sig) → Buf (Elt Bits) ℓ) (g : Dev Cert.ProjBwd.nD → PrngReg), Pre_ProjBwd m →
    θ_run (Cert.ProjBwd.defs (F := Bits)) (onTc (τ := Cert.ProjBwd.τ) (Cert.ProjBwd.main (F := Bits))) ⟨m, fun _ => 0, g⟩ (fun r => (∀ c : Dev Cert.ProjBwd.nD,
      r.2.mem ((c.tc : Thread Cert.ProjBwd.nD Cert.ProjBwd.τ).loc Cert.ProjBwd.main_arg0) = m ((c.tc : Thread Cert.ProjBwd.nD Cert.ProjBwd.τ).loc Cert.ProjBwd.main_arg0)
      ∧ r.2.mem ((c.tc : Thread Cert.ProjBwd.nD Cert.ProjBwd.τ).loc Cert.ProjBwd.main_arg1) = m ((c.tc : Thread Cert.ProjBwd.nD Cert.ProjBwd.τ).loc Cert.ProjBwd.main_arg1)
      ∧ r.2.mem ((c.tc : Thread Cert.ProjBwd.nD Cert.ProjBwd.τ).loc Cert.ProjBwd.main_arg2) = m ((c.tc : Thread Cert.ProjBwd.nD Cert.ProjBwd.τ).loc Cert.ProjBwd.main_arg2)
      ∧ r.2.mem ((c.tc : Thread Cert.ProjBwd.nD Cert.ProjBwd.τ).loc Cert.ProjBwd.main_arg3) = m ((c.tc : Thread Cert.ProjBwd.nD Cert.ProjBwd.τ).loc Cert.ProjBwd.main_arg3)
      ∧ r.2.mem ((c.tc : Thread Cert.ProjBwd.nD Cert.ProjBwd.τ).loc Cert.ProjBwd.main_arg4) = m ((c.tc : Thread Cert.ProjBwd.nD Cert.ProjBwd.τ).loc Cert.ProjBwd.main_arg4)
      ∧ r.2.mem ((c.tc : Thread Cert.ProjBwd.nD Cert.ProjBwd.τ).loc Cert.ProjBwd.main_arg5) = m ((c.tc : Thread Cert.ProjBwd.nD Cert.ProjBwd.τ).loc Cert.ProjBwd.main_arg5)
      ∧ r.2.mem ((c.tc : Thread Cert.ProjBwd.nD Cert.ProjBwd.τ).loc Cert.ProjBwd.main_arg6) = m ((c.tc : Thread Cert.ProjBwd.nD Cert.ProjBwd.τ).loc Cert.ProjBwd.main_arg6)
      ∧ r.2.mem ((c.tc : Thread Cert.ProjBwd.nD Cert.ProjBwd.τ).loc Cert.ProjBwd.main_arg7) = m ((c.tc : Thread Cert.ProjBwd.nD Cert.ProjBwd.τ).loc Cert.ProjBwd.main_arg7)
      ∧ r.2.mem ((c.tc : Thread Cert.ProjBwd.nD Cert.ProjBwd.τ).loc Cert.ProjBwd.main_arg8) = m ((c.tc : Thread Cert.ProjBwd.nD Cert.ProjBwd.τ).loc Cert.ProjBwd.main_arg8)
      ∧ r.2.mem ((c.tc : Thread Cert.ProjBwd.nD Cert.ProjBwd.τ).loc Cert.ProjBwd.main_arg9) = m ((c.tc : Thread Cert.ProjBwd.nD Cert.ProjBwd.τ).loc Cert.ProjBwd.main_arg9)
      ∧ r.2.mem ((c.tc : Thread Cert.ProjBwd.nD Cert.ProjBwd.τ).loc Cert.ProjBwd.main_arg10) = m ((c.tc : Thread Cert.ProjBwd.nD Cert.ProjBwd.τ).loc Cert.ProjBwd.main_arg10)
      ∧ r.2.mem ((c.tc : Thread Cert.ProjBwd.nD Cert.ProjBwd.τ).loc Cert.ProjBwd.main_arg11) = m ((c.tc : Thread Cert.ProjBwd.nD Cert.ProjBwd.τ).loc Cert.ProjBwd.main_arg11))
      ∧ r.2.sem = fun _ => 0)

def quiescent_ProjBwdIdeal [hProjBwdIdeal : Cert.ProjBwdIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
      ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
      ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4)
      ∧ r.2.mem ((c.tc : Thread Cert.ProjBwdIdeal.nD Cert.ProjBwdIdeal.τ).loc Cert.ProjBwdIdeal.main_arg5) = m ((c.tc : Thread Cert.ProjBwdIdeal.nD Cert.ProjBwdIdeal.τ).loc Cert.ProjBwdIdeal.main_arg5)
      ∧ r.2.mem ((c.tc : Thread Cert.ProjBwdIdeal.nD Cert.ProjBwdIdeal.τ).loc Cert.ProjBwdIdeal.main_arg6) = m ((c.tc : Thread Cert.ProjBwdIdeal.nD Cert.ProjBwdIdeal.τ).loc Cert.ProjBwdIdeal.main_arg6)
      ∧ r.2.mem ((c.tc : Thread Cert.ProjBwdIdeal.nD Cert.ProjBwdIdeal.τ).loc Cert.ProjBwdIdeal.main_arg7) = m ((c.tc : Thread Cert.ProjBwdIdeal.nD Cert.ProjBwdIdeal.τ).loc Cert.ProjBwdIdeal.main_arg7)
      ∧ r.2.mem ((c.tc : Thread Cert.ProjBwdIdeal.nD Cert.ProjBwdIdeal.τ).loc Cert.ProjBwdIdeal.main_arg8) = m ((c.tc : Thread Cert.ProjBwdIdeal.nD Cert.ProjBwdIdeal.τ).loc Cert.ProjBwdIdeal.main_arg8)
      ∧ r.2.mem ((c.tc : Thread Cert.ProjBwdIdeal.nD Cert.ProjBwdIdeal.τ).loc Cert.ProjBwdIdeal.main_arg9) = m ((c.tc : Thread Cert.ProjBwdIdeal.nD Cert.ProjBwdIdeal.τ).loc Cert.ProjBwdIdeal.main_arg9)
      ∧ r.2.mem ((c.tc : Thread Cert.ProjBwdIdeal.nD Cert.ProjBwdIdeal.τ).loc Cert.ProjBwdIdeal.main_arg10) = m ((c.tc : Thread Cert.ProjBwdIdeal.nD Cert.ProjBwdIdeal.τ).loc Cert.ProjBwdIdeal.main_arg10)
      ∧ r.2.mem ((c.tc : Thread Cert.ProjBwdIdeal.nD Cert.ProjBwdIdeal.τ).loc Cert.ProjBwdIdeal.main_arg11) = m ((c.tc : Thread Cert.ProjBwdIdeal.nD Cert.ProjBwdIdeal.τ).loc Cert.ProjBwdIdeal.main_arg11))
      ∧ r.2.sem = fun _ => 0)

def quiescent_ProjBwdRefIdeal [hProjBwdRefIdeal : Cert.ProjBwdRefIdeal.Facts] : Prop :=
  ∀ (m : (ℓ : Loc Cert.ProjBwdRefIdeal.nD Cert.ProjBwdRefIdeal.τ Cert.ProjBwdRefIdeal.sig) → Buf (Elt Ideal) ℓ) (g : Dev Cert.ProjBwdRefIdeal.nD → PrngReg), Pre_ProjBwdRefIdeal m →
    θ_run (Cert.ProjBwdRefIdeal.defs (F := Ideal)) (onTc (τ := Cert.ProjBwdRefIdeal.τ) (Cert.ProjBwdRefIdeal.main (F := Ideal))) ⟨m, fun _ => 0, g⟩ (fun r => (∀ c : Dev Cert.ProjBwdRefIdeal.nD,
      r.2.mem ((c.tc : Thread Cert.ProjBwdRefIdeal.nD Cert.ProjBwdRefIdeal.τ).loc Cert.ProjBwdRefIdeal.main_arg0) = m ((c.tc : Thread Cert.ProjBwdRefIdeal.nD Cert.ProjBwdRefIdeal.τ).loc Cert.ProjBwdRefIdeal.main_arg0)
      ∧ r.2.mem ((c.tc : Thread Cert.ProjBwdRefIdeal.nD Cert.ProjBwdRefIdeal.τ).loc Cert.ProjBwdRefIdeal.main_arg1) = m ((c.tc : Thread Cert.ProjBwdRefIdeal.nD Cert.ProjBwdRefIdeal.τ).loc Cert.ProjBwdRefIdeal.main_arg1)
      ∧ r.2.mem ((c.tc : Thread Cert.ProjBwdRefIdeal.nD Cert.ProjBwdRefIdeal.τ).loc Cert.ProjBwdRefIdeal.main_arg2) = m ((c.tc : Thread Cert.ProjBwdRefIdeal.nD Cert.ProjBwdRefIdeal.τ).loc Cert.ProjBwdRefIdeal.main_arg2)
      ∧ r.2.mem ((c.tc : Thread Cert.ProjBwdRefIdeal.nD Cert.ProjBwdRefIdeal.τ).loc Cert.ProjBwdRefIdeal.main_arg3) = m ((c.tc : Thread Cert.ProjBwdRefIdeal.nD Cert.ProjBwdRefIdeal.τ).loc Cert.ProjBwdRefIdeal.main_arg3)
      ∧ r.2.mem ((c.tc : Thread Cert.ProjBwdRefIdeal.nD Cert.ProjBwdRefIdeal.τ).loc Cert.ProjBwdRefIdeal.main_arg4) = m ((c.tc : Thread Cert.ProjBwdRefIdeal.nD Cert.ProjBwdRefIdeal.τ).loc Cert.ProjBwdRefIdeal.main_arg4)
      ∧ r.2.mem ((c.tc : Thread Cert.ProjBwdRefIdeal.nD Cert.ProjBwdRefIdeal.τ).loc Cert.ProjBwdRefIdeal.main_arg5) = m ((c.tc : Thread Cert.ProjBwdRefIdeal.nD Cert.ProjBwdRefIdeal.τ).loc Cert.ProjBwdRefIdeal.main_arg5)
      ∧ r.2.mem ((c.tc : Thread Cert.ProjBwdRefIdeal.nD Cert.ProjBwdRefIdeal.τ).loc Cert.ProjBwdRefIdeal.main_arg6) = m ((c.tc : Thread Cert.ProjBwdRefIdeal.nD Cert.ProjBwdRefIdeal.τ).loc Cert.ProjBwdRefIdeal.main_arg6)
      ∧ r.2.mem ((c.tc : Thread Cert.ProjBwdRefIdeal.nD Cert.ProjBwdRefIdeal.τ).loc Cert.ProjBwdRefIdeal.main_arg7) = m ((c.tc : Thread Cert.ProjBwdRefIdeal.nD Cert.ProjBwdRefIdeal.τ).loc Cert.ProjBwdRefIdeal.main_arg7)
      ∧ r.2.mem ((c.tc : Thread Cert.ProjBwdRefIdeal.nD Cert.ProjBwdRefIdeal.τ).loc Cert.ProjBwdRefIdeal.main_arg8) = m ((c.tc : Thread Cert.ProjBwdRefIdeal.nD Cert.ProjBwdRefIdeal.τ).loc Cert.ProjBwdRefIdeal.main_arg8)
      ∧ r.2.mem ((c.tc : Thread Cert.ProjBwdRefIdeal.nD Cert.ProjBwdRefIdeal.τ).loc Cert.ProjBwdRefIdeal.main_arg9) = m ((c.tc : Thread Cert.ProjBwdRefIdeal.nD Cert.ProjBwdRefIdeal.τ).loc Cert.ProjBwdRefIdeal.main_arg9)
      ∧ r.2.mem ((c.tc : Thread Cert.ProjBwdRefIdeal.nD Cert.ProjBwdRefIdeal.τ).loc Cert.ProjBwdRefIdeal.main_arg10) = m ((c.tc : Thread Cert.ProjBwdRefIdeal.nD Cert.ProjBwdRefIdeal.τ).loc Cert.ProjBwdRefIdeal.main_arg10)
      ∧ r.2.mem ((c.tc : Thread Cert.ProjBwdRefIdeal.nD Cert.ProjBwdRefIdeal.τ).loc Cert.ProjBwdRefIdeal.main_arg11) = m ((c.tc : Thread Cert.ProjBwdRefIdeal.nD Cert.ProjBwdRefIdeal.τ).loc Cert.ProjBwdRefIdeal.main_arg11))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v14) = v0 c
          ∧ r.2.mem ((c.tc : Thread Cert.LossRefIdeal.nD Cert.LossRefIdeal.τ).loc Cert.LossRefIdeal.main_v15) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Stick_StickIdeal : Prop :=
  True

def algebraic_StickIdeal_StickRefIdeal_pre_stick_finite [hStickIdeal : Cert.StickIdeal.Facts] [hStickRefIdeal : Cert.StickRefIdeal.Facts] [hPre_stick_finite : Cert.Pre_stick_finite.Facts] : Prop :=
  ∀ (m : (ℓ : Loc Cert.StickIdeal.nD Cert.StickIdeal.τ Cert.StickIdeal.sig) → Buf (Elt Ideal) ℓ) (g : Dev Cert.StickIdeal.nD → PrngReg)
    (m' : (ℓ : Loc Cert.StickRefIdeal.nD Cert.StickRefIdeal.τ Cert.StickRefIdeal.sig) → Buf (Elt Ideal) ℓ) (g' : Dev Cert.StickRefIdeal.nD → PrngReg), Pre_StickIdeal_stick_finite m →
    (∀ c : Dev Cert.StickIdeal.nD,
      m' ((c.tc : Thread Cert.StickRefIdeal.nD Cert.StickRefIdeal.τ).loc Cert.StickRefIdeal.main_arg0) = m ((c.tc : Thread Cert.StickIdeal.nD Cert.StickIdeal.τ).loc Cert.StickIdeal.main_arg0)
      ∧ m' ((c.tc : Thread Cert.StickRefIdeal.nD Cert.StickRefIdeal.τ).loc Cert.StickRefIdeal.main_arg1) = m ((c.tc : Thread Cert.StickIdeal.nD Cert.StickIdeal.τ).loc Cert.StickIdeal.main_arg1)) →
    ∃ (v0 : (c : Dev Cert.StickIdeal.nD) → Buf (Elt Ideal) ((c.tc : Thread Cert.StickIdeal.nD Cert.StickIdeal.τ).loc Cert.StickIdeal.main_v23_0)) (v1 : (c : Dev Cert.StickIdeal.nD) → Buf (Elt Ideal) ((c.tc : Thread Cert.StickIdeal.nD Cert.StickIdeal.τ).loc Cert.StickIdeal.main_v23_1)) (v2 : (c : Dev Cert.StickIdeal.nD) → Buf (Elt Ideal) ((c.tc : Thread Cert.StickIdeal.nD Cert.StickIdeal.τ).loc Cert.StickIdeal.main_v23_2)),
      θ_run (Cert.StickIdeal.defs (F := Ideal)) (onTc (τ := Cert.StickIdeal.τ) (Cert.StickIdeal.main (F := Ideal))) ⟨m, fun _ => 0, g⟩ (fun r => ∀ c : Dev Cert.StickIdeal.nD,
          r.2.mem ((c.tc : Thread Cert.StickIdeal.nD Cert.StickIdeal.τ).loc Cert.StickIdeal.main_v23_0) = v0 c
          ∧ r.2.mem ((c.tc : Thread Cert.StickIdeal.nD Cert.StickIdeal.τ).loc Cert.StickIdeal.main_v23_1) = v1 c
          ∧ r.2.mem ((c.tc : Thread Cert.StickIdeal.nD Cert.StickIdeal.τ).loc Cert.StickIdeal.main_v23_2) = v2 c
          ∧ r.2.mem ((c.tc : Thread Cert.StickIdeal.nD Cert.StickIdeal.τ).loc Cert.StickIdeal.main_arg0) = m ((c.tc : Thread Cert.StickIdeal.nD Cert.StickIdeal.τ).loc Cert.StickIdeal.main_arg0)
          ∧ r.2.mem ((c.tc : Thread Cert.StickIdeal.nD Cert.StickIdeal.τ).loc Cert.StickIdeal.main_arg1) = m ((c.tc : Thread Cert.StickIdeal.nD Cert.StickIdeal.τ).loc Cert.StickIdeal.main_arg1))
      ∧ θ_run (Cert.StickRefIdeal.defs (F := Ideal)) (onTc (τ := Cert.StickRefIdeal.τ) (Cert.StickRefIdeal.main (F := Ideal))) ⟨m', fun _ => 0, g'⟩ (fun r => ∀ c : Dev Cert.StickRefIdeal.nD,
          r.2.mem ((c.tc : Thread Cert.StickRefIdeal.nD Cert.StickRefIdeal.τ).loc Cert.StickRefIdeal.main_v54) = v0 c
          ∧ r.2.mem ((c.tc : Thread Cert.StickRefIdeal.nD Cert.StickRefIdeal.τ).loc Cert.StickRefIdeal.main_v52) = v1 c
          ∧ r.2.mem ((c.tc : Thread Cert.StickRefIdeal.nD Cert.StickRefIdeal.τ).loc Cert.StickRefIdeal.main_v50) = v2 c
          ∧ r.2.mem ((c.tc : Thread Cert.StickRefIdeal.nD Cert.StickRefIdeal.τ).loc Cert.StickRefIdeal.main_arg0) = m' ((c.tc : Thread Cert.StickRefIdeal.nD Cert.StickRefIdeal.τ).loc Cert.StickRefIdeal.main_arg0)
          ∧ r.2.mem ((c.tc : Thread Cert.StickRefIdeal.nD Cert.StickRefIdeal.τ).loc Cert.StickRefIdeal.main_arg1) = m' ((c.tc : Thread Cert.StickRefIdeal.nD Cert.StickRefIdeal.τ).loc Cert.StickRefIdeal.main_arg1))

def preserves_Ada_AdaIdeal : Prop :=
  True

def algebraic_AdaIdeal_AdaRefIdeal [hAdaIdeal : Cert.AdaIdeal.Facts] [hAdaRefIdeal : Cert.AdaRefIdeal.Facts] : Prop :=
  ∀ (m : (ℓ : Loc Cert.AdaIdeal.nD Cert.AdaIdeal.τ Cert.AdaIdeal.sig) → Buf (Elt Ideal) ℓ) (g : Dev Cert.AdaIdeal.nD → PrngReg)
    (m' : (ℓ : Loc Cert.AdaRefIdeal.nD Cert.AdaRefIdeal.τ Cert.AdaRefIdeal.sig) → Buf (Elt Ideal) ℓ) (g' : Dev Cert.AdaRefIdeal.nD → PrngReg), Pre_AdaIdeal m →
    (∀ c : Dev Cert.AdaIdeal.nD,
      m' ((c.tc : Thread Cert.AdaRefIdeal.nD Cert.AdaRefIdeal.τ).loc Cert.AdaRefIdeal.main_arg0) = m ((c.tc : Thread Cert.AdaIdeal.nD Cert.AdaIdeal.τ).loc Cert.AdaIdeal.main_arg0)
      ∧ m' ((c.tc : Thread Cert.AdaRefIdeal.nD Cert.AdaRefIdeal.τ).loc Cert.AdaRefIdeal.main_arg1) = m ((c.tc : Thread Cert.AdaIdeal.nD Cert.AdaIdeal.τ).loc Cert.AdaIdeal.main_arg1)
      ∧ m' ((c.tc : Thread Cert.AdaRefIdeal.nD Cert.AdaRefIdeal.τ).loc Cert.AdaRefIdeal.main_arg2) = m ((c.tc : Thread Cert.AdaIdeal.nD Cert.AdaIdeal.τ).loc Cert.AdaIdeal.main_arg2)
      ∧ m' ((c.tc : Thread Cert.AdaRefIdeal.nD Cert.AdaRefIdeal.τ).loc Cert.AdaRefIdeal.main_arg3) = m ((c.tc : Thread Cert.AdaIdeal.nD Cert.AdaIdeal.τ).loc Cert.AdaIdeal.main_arg3)) →
    ∃ (v0 : (c : Dev Cert.AdaIdeal.nD) → Buf (Elt Ideal) ((c.tc : Thread Cert.AdaIdeal.nD Cert.AdaIdeal.τ).loc Cert.AdaIdeal.main_v1)),
      θ_run (Cert.AdaIdeal.defs (F := Ideal)) (onTc (τ := Cert.AdaIdeal.τ) (Cert.AdaIdeal.main (F := Ideal))) ⟨m, fun _ => 0, g⟩ (fun r => ∀ c : Dev Cert.AdaIdeal.nD,
          r.2.mem ((c.tc : Thread Cert.AdaIdeal.nD Cert.AdaIdeal.τ).loc Cert.AdaIdeal.main_v1) = v0 c
          ∧ r.2.mem ((c.tc : Thread Cert.AdaIdeal.nD Cert.AdaIdeal.τ).loc Cert.AdaIdeal.main_arg0) = m ((c.tc : Thread Cert.AdaIdeal.nD Cert.AdaIdeal.τ).loc Cert.AdaIdeal.main_arg0)
          ∧ r.2.mem ((c.tc : Thread Cert.AdaIdeal.nD Cert.AdaIdeal.τ).loc Cert.AdaIdeal.main_arg1) = m ((c.tc : Thread Cert.AdaIdeal.nD Cert.AdaIdeal.τ).loc Cert.AdaIdeal.main_arg1)
          ∧ r.2.mem ((c.tc : Thread Cert.AdaIdeal.nD Cert.AdaIdeal.τ).loc Cert.AdaIdeal.main_arg2) = m ((c.tc : Thread Cert.AdaIdeal.nD Cert.AdaIdeal.τ).loc Cert.AdaIdeal.main_arg2)
          ∧ r.2.mem ((c.tc : Thread Cert.AdaIdeal.nD Cert.AdaIdeal.τ).loc Cert.AdaIdeal.main_arg3) = m ((c.tc : Thread Cert.AdaIdeal.nD Cert.AdaIdeal.τ).loc Cert.AdaIdeal.main_arg3))
      ∧ θ_run (Cert.AdaRefIdeal.defs (F := Ideal)) (onTc (τ := Cert.AdaRefIdeal.τ) (Cert.AdaRefIdeal.main (F := Ideal))) ⟨m', fun _ => 0, g'⟩ (fun r => ∀ c : Dev Cert.AdaRefIdeal.nD,
          r.2.mem ((c.tc : Thread Cert.AdaRefIdeal.nD Cert.AdaRefIdeal.τ).loc Cert.AdaRefIdeal.main_v64) = v0 c
          ∧ r.2.mem ((c.tc : Thread Cert.AdaRefIdeal.nD Cert.AdaRefIdeal.τ).loc Cert.AdaRefIdeal.main_arg0) = m' ((c.tc : Thread Cert.AdaRefIdeal.nD Cert.AdaRefIdeal.τ).loc Cert.AdaRefIdeal.main_arg0)
          ∧ r.2.mem ((c.tc : Thread Cert.AdaRefIdeal.nD Cert.AdaRefIdeal.τ).loc Cert.AdaRefIdeal.main_arg1) = m' ((c.tc : Thread Cert.AdaRefIdeal.nD Cert.AdaRefIdeal.τ).loc Cert.AdaRefIdeal.main_arg1)
          ∧ r.2.mem ((c.tc : Thread Cert.AdaRefIdeal.nD Cert.AdaRefIdeal.τ).loc Cert.AdaRefIdeal.main_arg2) = m' ((c.tc : Thread Cert.AdaRefIdeal.nD Cert.AdaRefIdeal.τ).loc Cert.AdaRefIdeal.main_arg2)
          ∧ r.2.mem ((c.tc : Thread Cert.AdaRefIdeal.nD Cert.AdaRefIdeal.τ).loc Cert.AdaRefIdeal.main_arg3) = m' ((c.tc : Thread Cert.AdaRefIdeal.nD Cert.AdaRefIdeal.τ).loc Cert.AdaRefIdeal.main_arg3))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)
      ∧ m' ((c.tc : Thread Cert.GateRefIdeal.nD Cert.GateRefIdeal.τ).loc Cert.GateRefIdeal.main_arg6) = m ((c.tc : Thread Cert.GateIdeal.nD Cert.GateIdeal.τ).loc Cert.GateIdeal.main_arg6)) →
    ∃ (v0 : (c : Dev Cert.GateIdeal.nD) → Buf (Elt Ideal) ((c.tc : Thread Cert.GateIdeal.nD Cert.GateIdeal.τ).loc Cert.GateIdeal.main_v6_0)) (v1 : (c : Dev Cert.GateIdeal.nD) → Buf (Elt Ideal) ((c.tc : Thread Cert.GateIdeal.nD Cert.GateIdeal.τ).loc Cert.GateIdeal.main_v6_1)) (v2 : (c : Dev Cert.GateIdeal.nD) → Buf (Elt Ideal) ((c.tc : Thread Cert.GateIdeal.nD Cert.GateIdeal.τ).loc Cert.GateIdeal.main_v6_2)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v6_0) = v0 c
          ∧ r.2.mem ((c.tc : Thread Cert.GateIdeal.nD Cert.GateIdeal.τ).loc Cert.GateIdeal.main_v6_1) = v1 c
          ∧ r.2.mem ((c.tc : Thread Cert.GateIdeal.nD Cert.GateIdeal.τ).loc Cert.GateIdeal.main_v6_2) = v2 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
          ∧ r.2.mem ((c.tc : Thread Cert.GateIdeal.nD Cert.GateIdeal.τ).loc Cert.GateIdeal.main_arg6) = m ((c.tc : Thread Cert.GateIdeal.nD Cert.GateIdeal.τ).loc Cert.GateIdeal.main_arg6))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v18) = v0 c
          ∧ r.2.mem ((c.tc : Thread Cert.GateRefIdeal.nD Cert.GateRefIdeal.τ).loc Cert.GateRefIdeal.main_v19) = v1 c
          ∧ r.2.mem ((c.tc : Thread Cert.GateRefIdeal.nD Cert.GateRefIdeal.τ).loc Cert.GateRefIdeal.main_v21) = v2 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5)
          ∧ r.2.mem ((c.tc : Thread Cert.GateRefIdeal.nD Cert.GateRefIdeal.τ).loc Cert.GateRefIdeal.main_arg6) = m' ((c.tc : Thread Cert.GateRefIdeal.nD Cert.GateRefIdeal.τ).loc Cert.GateRefIdeal.main_arg6))

def preserves_StickFwd_StickFwdIdeal : Prop :=
  True

def algebraic_StickFwdIdeal_StickFwdRefIdeal_pre_stick_fwd_finite [hStickFwdIdeal : Cert.StickFwdIdeal.Facts] [hStickFwdRefIdeal : Cert.StickFwdRefIdeal.Facts] [hPre_stick_fwd_finite : Cert.Pre_stick_fwd_finite.Facts] : Prop :=
  ∀ (m : (ℓ : Loc Cert.StickFwdIdeal.nD Cert.StickFwdIdeal.τ Cert.StickFwdIdeal.sig) → Buf (Elt Ideal) ℓ) (g : Dev Cert.StickFwdIdeal.nD → PrngReg)
    (m' : (ℓ : Loc Cert.StickFwdRefIdeal.nD Cert.StickFwdRefIdeal.τ Cert.StickFwdRefIdeal.sig) → Buf (Elt Ideal) ℓ) (g' : Dev Cert.StickFwdRefIdeal.nD → PrngReg), Pre_StickFwdIdeal_stick_fwd_finite m →
    (∀ c : Dev Cert.StickFwdIdeal.nD,
      m' ((c.tc : Thread Cert.StickFwdRefIdeal.nD Cert.StickFwdRefIdeal.τ).loc Cert.StickFwdRefIdeal.main_arg0) = m ((c.tc : Thread Cert.StickFwdIdeal.nD Cert.StickFwdIdeal.τ).loc Cert.StickFwdIdeal.main_arg0)) →
    ∃ (v0 : (c : Dev Cert.StickFwdIdeal.nD) → Buf (Elt Ideal) ((c.tc : Thread Cert.StickFwdIdeal.nD Cert.StickFwdIdeal.τ).loc Cert.StickFwdIdeal.main_v1_0)) (v1 : (c : Dev Cert.StickFwdIdeal.nD) → Buf (Elt Ideal) ((c.tc : Thread Cert.StickFwdIdeal.nD Cert.StickFwdIdeal.τ).loc Cert.StickFwdIdeal.main_v1_1)),
      θ_run (Cert.StickFwdIdeal.defs (F := Ideal)) (onTc (τ := Cert.StickFwdIdeal.τ) (Cert.StickFwdIdeal.main (F := Ideal))) ⟨m, fun _ => 0, g⟩ (fun r => ∀ c : Dev Cert.StickFwdIdeal.nD,
          r.2.mem ((c.tc : Thread Cert.StickFwdIdeal.nD Cert.StickFwdIdeal.τ).loc Cert.StickFwdIdeal.main_v1_0) = v0 c
          ∧ r.2.mem ((c.tc : Thread Cert.StickFwdIdeal.nD Cert.StickFwdIdeal.τ).loc Cert.StickFwdIdeal.main_v1_1) = v1 c
          ∧ r.2.mem ((c.tc : Thread Cert.StickFwdIdeal.nD Cert.StickFwdIdeal.τ).loc Cert.StickFwdIdeal.main_arg0) = m ((c.tc : Thread Cert.StickFwdIdeal.nD Cert.StickFwdIdeal.τ).loc Cert.StickFwdIdeal.main_arg0))
      ∧ θ_run (Cert.StickFwdRefIdeal.defs (F := Ideal)) (onTc (τ := Cert.StickFwdRefIdeal.τ) (Cert.StickFwdRefIdeal.main (F := Ideal))) ⟨m', fun _ => 0, g'⟩ (fun r => ∀ c : Dev Cert.StickFwdRefIdeal.nD,
          r.2.mem ((c.tc : Thread Cert.StickFwdRefIdeal.nD Cert.StickFwdRefIdeal.τ).loc Cert.StickFwdRefIdeal.main_v31) = v0 c
          ∧ r.2.mem ((c.tc : Thread Cert.StickFwdRefIdeal.nD Cert.StickFwdRefIdeal.τ).loc Cert.StickFwdRefIdeal.main_v32) = v1 c
          ∧ r.2.mem ((c.tc : Thread Cert.StickFwdRefIdeal.nD Cert.StickFwdRefIdeal.τ).loc Cert.StickFwdRefIdeal.main_arg0) = m' ((c.tc : Thread Cert.StickFwdRefIdeal.nD Cert.StickFwdRefIdeal.τ).loc Cert.StickFwdRefIdeal.main_arg0))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v50_0)) (v1 : (c : Dev Cert.FfnIdeal.nD) → Buf (Elt Ideal) ((c.tc : Thread Cert.FfnIdeal.nD Cert.FfnIdeal.τ).loc Cert.FfnIdeal.main_v50_1)) (v2 : (c : Dev Cert.FfnIdeal.nD) → Buf (Elt Ideal) ((c.tc : Thread Cert.FfnIdeal.nD Cert.FfnIdeal.τ).loc Cert.FfnIdeal.main_v50_2)) (v3 : (c : Dev Cert.FfnIdeal.nD) → Buf (Elt Ideal) ((c.tc : Thread Cert.FfnIdeal.nD Cert.FfnIdeal.τ).loc Cert.FfnIdeal.main_v50_3)) (v4 : (c : Dev Cert.FfnIdeal.nD) → Buf (Elt Ideal) ((c.tc : Thread Cert.FfnIdeal.nD Cert.FfnIdeal.τ).loc Cert.FfnIdeal.main_v50_4)) (v5 : (c : Dev Cert.FfnIdeal.nD) → Buf (Elt Ideal) ((c.tc : Thread Cert.FfnIdeal.nD Cert.FfnIdeal.τ).loc Cert.FfnIdeal.main_v50_5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v50_0) = v0 c
          ∧ r.2.mem ((c.tc : Thread Cert.FfnIdeal.nD Cert.FfnIdeal.τ).loc Cert.FfnIdeal.main_v50_1) = v1 c
          ∧ r.2.mem ((c.tc : Thread Cert.FfnIdeal.nD Cert.FfnIdeal.τ).loc Cert.FfnIdeal.main_v50_2) = v2 c
          ∧ r.2.mem ((c.tc : Thread Cert.FfnIdeal.nD Cert.FfnIdeal.τ).loc Cert.FfnIdeal.main_v50_3) = v3 c
          ∧ r.2.mem ((c.tc : Thread Cert.FfnIdeal.nD Cert.FfnIdeal.τ).loc Cert.FfnIdeal.main_v50_4) = v4 c
          ∧ r.2.mem ((c.tc : Thread Cert.FfnIdeal.nD Cert.FfnIdeal.τ).loc Cert.FfnIdeal.main_v50_5) = v5 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v78) = v0 c
          ∧ r.2.mem ((c.tc : Thread Cert.FfnRefIdeal.nD Cert.FfnRefIdeal.τ).loc Cert.FfnRefIdeal.main_v80) = v1 c
          ∧ r.2.mem ((c.tc : Thread Cert.FfnRefIdeal.nD Cert.FfnRefIdeal.τ).loc Cert.FfnRefIdeal.main_v81) = v2 c
          ∧ r.2.mem ((c.tc : Thread Cert.FfnRefIdeal.nD Cert.FfnRefIdeal.τ).loc Cert.FfnRefIdeal.main_v82) = v3 c
          ∧ r.2.mem ((c.tc : Thread Cert.FfnRefIdeal.nD Cert.FfnRefIdeal.τ).loc Cert.FfnRefIdeal.main_v83) = v4 c
          ∧ r.2.mem ((c.tc : Thread Cert.FfnRefIdeal.nD Cert.FfnRefIdeal.τ).loc Cert.FfnRefIdeal.main_v86) = v5 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7))

def preserves_GateFwd_GateFwdIdeal : Prop :=
  True

def algebraic_GateFwdIdeal_GateFwdRefIdeal [hGateFwdIdeal : Cert.GateFwdIdeal.Facts] [hGateFwdRefIdeal : Cert.GateFwdRefIdeal.Facts] : Prop :=
  ∀ (m : (ℓ : Loc Cert.GateFwdIdeal.nD Cert.GateFwdIdeal.τ Cert.GateFwdIdeal.sig) → Buf (Elt Ideal) ℓ) (g : Dev Cert.GateFwdIdeal.nD → PrngReg)
    (m' : (ℓ : Loc Cert.GateFwdRefIdeal.nD Cert.GateFwdRefIdeal.τ Cert.GateFwdRefIdeal.sig) → Buf (Elt Ideal) ℓ) (g' : Dev Cert.GateFwdRefIdeal.nD → PrngReg), Pre_GateFwdIdeal m →
    (∀ c : Dev Cert.GateFwdIdeal.nD,
      m' ((c.tc : Thread Cert.GateFwdRefIdeal.nD Cert.GateFwdRefIdeal.τ).loc Cert.GateFwdRefIdeal.main_arg0) = m ((c.tc : Thread Cert.GateFwdIdeal.nD Cert.GateFwdIdeal.τ).loc Cert.GateFwdIdeal.main_arg0)
      ∧ m' ((c.tc : Thread Cert.GateFwdRefIdeal.nD Cert.GateFwdRefIdeal.τ).loc Cert.GateFwdRefIdeal.main_arg1) = m ((c.tc : Thread Cert.GateFwdIdeal.nD Cert.GateFwdIdeal.τ).loc Cert.GateFwdIdeal.main_arg1)
      ∧ m' ((c.tc : Thread Cert.GateFwdRefIdeal.nD Cert.GateFwdRefIdeal.τ).loc Cert.GateFwdRefIdeal.main_arg2) = m ((c.tc : Thread Cert.GateFwdIdeal.nD Cert.GateFwdIdeal.τ).loc Cert.GateFwdIdeal.main_arg2)
      ∧ m' ((c.tc : Thread Cert.GateFwdRefIdeal.nD Cert.GateFwdRefIdeal.τ).loc Cert.GateFwdRefIdeal.main_arg3) = m ((c.tc : Thread Cert.GateFwdIdeal.nD Cert.GateFwdIdeal.τ).loc Cert.GateFwdIdeal.main_arg3)
      ∧ m' ((c.tc : Thread Cert.GateFwdRefIdeal.nD Cert.GateFwdRefIdeal.τ).loc Cert.GateFwdRefIdeal.main_arg4) = m ((c.tc : Thread Cert.GateFwdIdeal.nD Cert.GateFwdIdeal.τ).loc Cert.GateFwdIdeal.main_arg4)
      ∧ m' ((c.tc : Thread Cert.GateFwdRefIdeal.nD Cert.GateFwdRefIdeal.τ).loc Cert.GateFwdRefIdeal.main_arg5) = m ((c.tc : Thread Cert.GateFwdIdeal.nD Cert.GateFwdIdeal.τ).loc Cert.GateFwdIdeal.main_arg5)) →
    ∃ (v0 : (c : Dev Cert.GateFwdIdeal.nD) → Buf (Elt Ideal) ((c.tc : Thread Cert.GateFwdIdeal.nD Cert.GateFwdIdeal.τ).loc Cert.GateFwdIdeal.main_v6_0)) (v1 : (c : Dev Cert.GateFwdIdeal.nD) → Buf (Elt Ideal) ((c.tc : Thread Cert.GateFwdIdeal.nD Cert.GateFwdIdeal.τ).loc Cert.GateFwdIdeal.main_v6_1)),
      θ_run (Cert.GateFwdIdeal.defs (F := Ideal)) (onTc (τ := Cert.GateFwdIdeal.τ) (Cert.GateFwdIdeal.main (F := Ideal))) ⟨m, fun _ => 0, g⟩ (fun r => ∀ c : Dev Cert.GateFwdIdeal.nD,
          r.2.mem ((c.tc : Thread Cert.GateFwdIdeal.nD Cert.GateFwdIdeal.τ).loc Cert.GateFwdIdeal.main_v6_0) = v0 c
          ∧ r.2.mem ((c.tc : Thread Cert.GateFwdIdeal.nD Cert.GateFwdIdeal.τ).loc Cert.GateFwdIdeal.main_v6_1) = v1 c
          ∧ r.2.mem ((c.tc : Thread Cert.GateFwdIdeal.nD Cert.GateFwdIdeal.τ).loc Cert.GateFwdIdeal.main_arg0) = m ((c.tc : Thread Cert.GateFwdIdeal.nD Cert.GateFwdIdeal.τ).loc Cert.GateFwdIdeal.main_arg0)
          ∧ r.2.mem ((c.tc : Thread Cert.GateFwdIdeal.nD Cert.GateFwdIdeal.τ).loc Cert.GateFwdIdeal.main_arg1) = m ((c.tc : Thread Cert.GateFwdIdeal.nD Cert.GateFwdIdeal.τ).loc Cert.GateFwdIdeal.main_arg1)
          ∧ r.2.mem ((c.tc : Thread Cert.GateFwdIdeal.nD Cert.GateFwdIdeal.τ).loc Cert.GateFwdIdeal.main_arg2) = m ((c.tc : Thread Cert.GateFwdIdeal.nD Cert.GateFwdIdeal.τ).loc Cert.GateFwdIdeal.main_arg2)
          ∧ r.2.mem ((c.tc : Thread Cert.GateFwdIdeal.nD Cert.GateFwdIdeal.τ).loc Cert.GateFwdIdeal.main_arg3) = m ((c.tc : Thread Cert.GateFwdIdeal.nD Cert.GateFwdIdeal.τ).loc Cert.GateFwdIdeal.main_arg3)
          ∧ r.2.mem ((c.tc : Thread Cert.GateFwdIdeal.nD Cert.GateFwdIdeal.τ).loc Cert.GateFwdIdeal.main_arg4) = m ((c.tc : Thread Cert.GateFwdIdeal.nD Cert.GateFwdIdeal.τ).loc Cert.GateFwdIdeal.main_arg4)
          ∧ r.2.mem ((c.tc : Thread Cert.GateFwdIdeal.nD Cert.GateFwdIdeal.τ).loc Cert.GateFwdIdeal.main_arg5) = m ((c.tc : Thread Cert.GateFwdIdeal.nD Cert.GateFwdIdeal.τ).loc Cert.GateFwdIdeal.main_arg5))
      ∧ θ_run (Cert.GateFwdRefIdeal.defs (F := Ideal)) (onTc (τ := Cert.GateFwdRefIdeal.τ) (Cert.GateFwdRefIdeal.main (F := Ideal))) ⟨m', fun _ => 0, g'⟩ (fun r => ∀ c : Dev Cert.GateFwdRefIdeal.nD,
          r.2.mem ((c.tc : Thread Cert.GateFwdRefIdeal.nD Cert.GateFwdRefIdeal.τ).loc Cert.GateFwdRefIdeal.main_v4) = v0 c
          ∧ r.2.mem ((c.tc : Thread Cert.GateFwdRefIdeal.nD Cert.GateFwdRefIdeal.τ).loc Cert.GateFwdRefIdeal.main_v0) = v1 c
          ∧ r.2.mem ((c.tc : Thread Cert.GateFwdRefIdeal.nD Cert.GateFwdRefIdeal.τ).loc Cert.GateFwdRefIdeal.main_arg0) = m' ((c.tc : Thread Cert.GateFwdRefIdeal.nD Cert.GateFwdRefIdeal.τ).loc Cert.GateFwdRefIdeal.main_arg0)
          ∧ r.2.mem ((c.tc : Thread Cert.GateFwdRefIdeal.nD Cert.GateFwdRefIdeal.τ).loc Cert.GateFwdRefIdeal.main_arg1) = m' ((c.tc : Thread Cert.GateFwdRefIdeal.nD Cert.GateFwdRefIdeal.τ).loc Cert.GateFwdRefIdeal.main_arg1)
          ∧ r.2.mem ((c.tc : Thread Cert.GateFwdRefIdeal.nD Cert.GateFwdRefIdeal.τ).loc Cert.GateFwdRefIdeal.main_arg2) = m' ((c.tc : Thread Cert.GateFwdRefIdeal.nD Cert.GateFwdRefIdeal.τ).loc Cert.GateFwdRefIdeal.main_arg2)
          ∧ r.2.mem ((c.tc : Thread Cert.GateFwdRefIdeal.nD Cert.GateFwdRefIdeal.τ).loc Cert.GateFwdRefIdeal.main_arg3) = m' ((c.tc : Thread Cert.GateFwdRefIdeal.nD Cert.GateFwdRefIdeal.τ).loc Cert.GateFwdRefIdeal.main_arg3)
          ∧ r.2.mem ((c.tc : Thread Cert.GateFwdRefIdeal.nD Cert.GateFwdRefIdeal.τ).loc Cert.GateFwdRefIdeal.main_arg4) = m' ((c.tc : Thread Cert.GateFwdRefIdeal.nD Cert.GateFwdRefIdeal.τ).loc Cert.GateFwdRefIdeal.main_arg4)
          ∧ r.2.mem ((c.tc : Thread Cert.GateFwdRefIdeal.nD Cert.GateFwdRefIdeal.τ).loc Cert.GateFwdRefIdeal.main_arg5) = m' ((c.tc : Thread Cert.GateFwdRefIdeal.nD Cert.GateFwdRefIdeal.τ).loc Cert.GateFwdRefIdeal.main_arg5))

def preserves_AdaFwd_AdaFwdIdeal : Prop :=
  True

def algebraic_AdaFwdIdeal_AdaFwdRefIdeal [hAdaFwdIdeal : Cert.AdaFwdIdeal.Facts] [hAdaFwdRefIdeal : Cert.AdaFwdRefIdeal.Facts] : Prop :=
  ∀ (m : (ℓ : Loc Cert.AdaFwdIdeal.nD Cert.AdaFwdIdeal.τ Cert.AdaFwdIdeal.sig) → Buf (Elt Ideal) ℓ) (g : Dev Cert.AdaFwdIdeal.nD → PrngReg)
    (m' : (ℓ : Loc Cert.AdaFwdRefIdeal.nD Cert.AdaFwdRefIdeal.τ Cert.AdaFwdRefIdeal.sig) → Buf (Elt Ideal) ℓ) (g' : Dev Cert.AdaFwdRefIdeal.nD → PrngReg), Pre_AdaFwdIdeal m →
    (∀ c : Dev Cert.AdaFwdIdeal.nD,
      m' ((c.tc : Thread Cert.AdaFwdRefIdeal.nD Cert.AdaFwdRefIdeal.τ).loc Cert.AdaFwdRefIdeal.main_arg0) = m ((c.tc : Thread Cert.AdaFwdIdeal.nD Cert.AdaFwdIdeal.τ).loc Cert.AdaFwdIdeal.main_arg0)
      ∧ m' ((c.tc : Thread Cert.AdaFwdRefIdeal.nD Cert.AdaFwdRefIdeal.τ).loc Cert.AdaFwdRefIdeal.main_arg1) = m ((c.tc : Thread Cert.AdaFwdIdeal.nD Cert.AdaFwdIdeal.τ).loc Cert.AdaFwdIdeal.main_arg1)
      ∧ m' ((c.tc : Thread Cert.AdaFwdRefIdeal.nD Cert.AdaFwdRefIdeal.τ).loc Cert.AdaFwdRefIdeal.main_arg2) = m ((c.tc : Thread Cert.AdaFwdIdeal.nD Cert.AdaFwdIdeal.τ).loc Cert.AdaFwdIdeal.main_arg2)) →
    ∃ (v0 : (c : Dev Cert.AdaFwdIdeal.nD) → Buf (Elt Ideal) ((c.tc : Thread Cert.AdaFwdIdeal.nD Cert.AdaFwdIdeal.τ).loc Cert.AdaFwdIdeal.main_v1)),
      θ_run (Cert.AdaFwdIdeal.defs (F := Ideal)) (onTc (τ := Cert.AdaFwdIdeal.τ) (Cert.AdaFwdIdeal.main (F := Ideal))) ⟨m, fun _ => 0, g⟩ (fun r => ∀ c : Dev Cert.AdaFwdIdeal.nD,
          r.2.mem ((c.tc : Thread Cert.AdaFwdIdeal.nD Cert.AdaFwdIdeal.τ).loc Cert.AdaFwdIdeal.main_v1) = v0 c
          ∧ r.2.mem ((c.tc : Thread Cert.AdaFwdIdeal.nD Cert.AdaFwdIdeal.τ).loc Cert.AdaFwdIdeal.main_arg0) = m ((c.tc : Thread Cert.AdaFwdIdeal.nD Cert.AdaFwdIdeal.τ).loc Cert.AdaFwdIdeal.main_arg0)
          ∧ r.2.mem ((c.tc : Thread Cert.AdaFwdIdeal.nD Cert.AdaFwdIdeal.τ).loc Cert.AdaFwdIdeal.main_arg1) = m ((c.tc : Thread Cert.AdaFwdIdeal.nD Cert.AdaFwdIdeal.τ).loc Cert.AdaFwdIdeal.main_arg1)
          ∧ r.2.mem ((c.tc : Thread Cert.AdaFwdIdeal.nD Cert.AdaFwdIdeal.τ).loc Cert.AdaFwdIdeal.main_arg2) = m ((c.tc : Thread Cert.AdaFwdIdeal.nD Cert.AdaFwdIdeal.τ).loc Cert.AdaFwdIdeal.main_arg2))
      ∧ θ_run (Cert.AdaFwdRefIdeal.defs (F := Ideal)) (onTc (τ := Cert.AdaFwdRefIdeal.τ) (Cert.AdaFwdRefIdeal.main (F := Ideal))) ⟨m', fun _ => 0, g'⟩ (fun r => ∀ c : Dev Cert.AdaFwdRefIdeal.nD,
          r.2.mem ((c.tc : Thread Cert.AdaFwdRefIdeal.nD Cert.AdaFwdRefIdeal.τ).loc Cert.AdaFwdRefIdeal.main_v37) = v0 c
          ∧ r.2.mem ((c.tc : Thread Cert.AdaFwdRefIdeal.nD Cert.AdaFwdRefIdeal.τ).loc Cert.AdaFwdRefIdeal.main_arg0) = m' ((c.tc : Thread Cert.AdaFwdRefIdeal.nD Cert.AdaFwdRefIdeal.τ).loc Cert.AdaFwdRefIdeal.main_arg0)
          ∧ r.2.mem ((c.tc : Thread Cert.AdaFwdRefIdeal.nD Cert.AdaFwdRefIdeal.τ).loc Cert.AdaFwdRefIdeal.main_arg1) = m' ((c.tc : Thread Cert.AdaFwdRefIdeal.nD Cert.AdaFwdRefIdeal.τ).loc Cert.AdaFwdRefIdeal.main_arg1)
          ∧ r.2.mem ((c.tc : Thread Cert.AdaFwdRefIdeal.nD Cert.AdaFwdRefIdeal.τ).loc Cert.AdaFwdRefIdeal.main_arg2) = m' ((c.tc : Thread Cert.AdaFwdRefIdeal.nD Cert.AdaFwdRefIdeal.τ).loc Cert.AdaFwdRefIdeal.main_arg2))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)
      ∧ m' ((c.tc : Thread Cert.FfnFwdRefIdeal.nD Cert.FfnFwdRefIdeal.τ).loc Cert.FfnFwdRefIdeal.main_arg5) = m ((c.tc : Thread Cert.FfnFwdIdeal.nD Cert.FfnFwdIdeal.τ).loc Cert.FfnFwdIdeal.main_arg5)
      ∧ m' ((c.tc : Thread Cert.FfnFwdRefIdeal.nD Cert.FfnFwdRefIdeal.τ).loc Cert.FfnFwdRefIdeal.main_arg6) = m ((c.tc : Thread Cert.FfnFwdIdeal.nD Cert.FfnFwdIdeal.τ).loc Cert.FfnFwdIdeal.main_arg6)) →
    ∃ (v0 : (c : Dev Cert.FfnFwdIdeal.nD) → Buf (Elt Ideal) ((c.tc : Thread Cert.FfnFwdIdeal.nD Cert.FfnFwdIdeal.τ).loc Cert.FfnFwdIdeal.main_v13_0)) (v1 : (c : Dev Cert.FfnFwdIdeal.nD) → Buf (Elt Ideal) ((c.tc : Thread Cert.FfnFwdIdeal.nD Cert.FfnFwdIdeal.τ).loc Cert.FfnFwdIdeal.main_v13_1)) (v2 : (c : Dev Cert.FfnFwdIdeal.nD) → Buf (Elt Ideal) ((c.tc : Thread Cert.FfnFwdIdeal.nD Cert.FfnFwdIdeal.τ).loc Cert.FfnFwdIdeal.main_v13_2)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v13_0) = v0 c
          ∧ r.2.mem ((c.tc : Thread Cert.FfnFwdIdeal.nD Cert.FfnFwdIdeal.τ).loc Cert.FfnFwdIdeal.main_v13_1) = v1 c
          ∧ r.2.mem ((c.tc : Thread Cert.FfnFwdIdeal.nD Cert.FfnFwdIdeal.τ).loc Cert.FfnFwdIdeal.main_v13_2) = v2 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4)
          ∧ r.2.mem ((c.tc : Thread Cert.FfnFwdIdeal.nD Cert.FfnFwdIdeal.τ).loc Cert.FfnFwdIdeal.main_arg5) = m ((c.tc : Thread Cert.FfnFwdIdeal.nD Cert.FfnFwdIdeal.τ).loc Cert.FfnFwdIdeal.main_arg5)
          ∧ r.2.mem ((c.tc : Thread Cert.FfnFwdIdeal.nD Cert.FfnFwdIdeal.τ).loc Cert.FfnFwdIdeal.main_arg6) = m ((c.tc : Thread Cert.FfnFwdIdeal.nD Cert.FfnFwdIdeal.τ).loc Cert.FfnFwdIdeal.main_arg6))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v29) = v0 c
          ∧ r.2.mem ((c.tc : Thread Cert.FfnFwdRefIdeal.nD Cert.FfnFwdRefIdeal.τ).loc Cert.FfnFwdRefIdeal.main_v25) = v1 c
          ∧ r.2.mem ((c.tc : Thread Cert.FfnFwdRefIdeal.nD Cert.FfnFwdRefIdeal.τ).loc Cert.FfnFwdRefIdeal.main_v30) = v2 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4)
          ∧ r.2.mem ((c.tc : Thread Cert.FfnFwdRefIdeal.nD Cert.FfnFwdRefIdeal.τ).loc Cert.FfnFwdRefIdeal.main_arg5) = m' ((c.tc : Thread Cert.FfnFwdRefIdeal.nD Cert.FfnFwdRefIdeal.τ).loc Cert.FfnFwdRefIdeal.main_arg5)
          ∧ r.2.mem ((c.tc : Thread Cert.FfnFwdRefIdeal.nD Cert.FfnFwdRefIdeal.τ).loc Cert.FfnFwdRefIdeal.main_arg6) = m' ((c.tc : Thread Cert.FfnFwdRefIdeal.nD Cert.FfnFwdRefIdeal.τ).loc Cert.FfnFwdRefIdeal.main_arg6))

def preserves_ProjFwd_ProjFwdIdeal : Prop :=
  True

def algebraic_ProjFwdIdeal_ProjFwdRefIdeal [hProjFwdIdeal : Cert.ProjFwdIdeal.Facts] [hProjFwdRefIdeal : Cert.ProjFwdRefIdeal.Facts] : Prop :=
  ∀ (m : (ℓ : Loc Cert.ProjFwdIdeal.nD Cert.ProjFwdIdeal.τ Cert.ProjFwdIdeal.sig) → Buf (Elt Ideal) ℓ) (g : Dev Cert.ProjFwdIdeal.nD → PrngReg)
    (m' : (ℓ : Loc Cert.ProjFwdRefIdeal.nD Cert.ProjFwdRefIdeal.τ Cert.ProjFwdRefIdeal.sig) → Buf (Elt Ideal) ℓ) (g' : Dev Cert.ProjFwdRefIdeal.nD → PrngReg), Pre_ProjFwdIdeal m →
    (∀ c : Dev Cert.ProjFwdIdeal.nD,
      m' ((c.tc : Thread Cert.ProjFwdRefIdeal.nD Cert.ProjFwdRefIdeal.τ).loc Cert.ProjFwdRefIdeal.main_arg0) = m ((c.tc : Thread Cert.ProjFwdIdeal.nD Cert.ProjFwdIdeal.τ).loc Cert.ProjFwdIdeal.main_arg0)
      ∧ m' ((c.tc : Thread Cert.ProjFwdRefIdeal.nD Cert.ProjFwdRefIdeal.τ).loc Cert.ProjFwdRefIdeal.main_arg1) = m ((c.tc : Thread Cert.ProjFwdIdeal.nD Cert.ProjFwdIdeal.τ).loc Cert.ProjFwdIdeal.main_arg1)
      ∧ m' ((c.tc : Thread Cert.ProjFwdRefIdeal.nD Cert.ProjFwdRefIdeal.τ).loc Cert.ProjFwdRefIdeal.main_arg2) = m ((c.tc : Thread Cert.ProjFwdIdeal.nD Cert.ProjFwdIdeal.τ).loc Cert.ProjFwdIdeal.main_arg2)
      ∧ m' ((c.tc : Thread Cert.ProjFwdRefIdeal.nD Cert.ProjFwdRefIdeal.τ).loc Cert.ProjFwdRefIdeal.main_arg3) = m ((c.tc : Thread Cert.ProjFwdIdeal.nD Cert.ProjFwdIdeal.τ).loc Cert.ProjFwdIdeal.main_arg3)
      ∧ m' ((c.tc : Thread Cert.ProjFwdRefIdeal.nD Cert.ProjFwdRefIdeal.τ).loc Cert.ProjFwdRefIdeal.main_arg4) = m ((c.tc : Thread Cert.ProjFwdIdeal.nD Cert.ProjFwdIdeal.τ).loc Cert.ProjFwdIdeal.main_arg4)
      ∧ m' ((c.tc : Thread Cert.ProjFwdRefIdeal.nD Cert.ProjFwdRefIdeal.τ).loc Cert.ProjFwdRefIdeal.main_arg5) = m ((c.tc : Thread Cert.ProjFwdIdeal.nD Cert.ProjFwdIdeal.τ).loc Cert.ProjFwdIdeal.main_arg5)
      ∧ m' ((c.tc : Thread Cert.ProjFwdRefIdeal.nD Cert.ProjFwdRefIdeal.τ).loc Cert.ProjFwdRefIdeal.main_arg6) = m ((c.tc : Thread Cert.ProjFwdIdeal.nD Cert.ProjFwdIdeal.τ).loc Cert.ProjFwdIdeal.main_arg6)) →
    ∃ (v0 : (c : Dev Cert.ProjFwdIdeal.nD) → Buf (Elt Ideal) ((c.tc : Thread Cert.ProjFwdIdeal.nD Cert.ProjFwdIdeal.τ).loc Cert.ProjFwdIdeal.main_v11_0)) (v1 : (c : Dev Cert.ProjFwdIdeal.nD) → Buf (Elt Ideal) ((c.tc : Thread Cert.ProjFwdIdeal.nD Cert.ProjFwdIdeal.τ).loc Cert.ProjFwdIdeal.main_v11_1)),
      θ_run (Cert.ProjFwdIdeal.defs (F := Ideal)) (onTc (τ := Cert.ProjFwdIdeal.τ) (Cert.ProjFwdIdeal.main (F := Ideal))) ⟨m, fun _ => 0, g⟩ (fun r => ∀ c : Dev Cert.ProjFwdIdeal.nD,
          r.2.mem ((c.tc : Thread Cert.ProjFwdIdeal.nD Cert.ProjFwdIdeal.τ).loc Cert.ProjFwdIdeal.main_v11_0) = v0 c
          ∧ r.2.mem ((c.tc : Thread Cert.ProjFwdIdeal.nD Cert.ProjFwdIdeal.τ).loc Cert.ProjFwdIdeal.main_v11_1) = v1 c
          ∧ r.2.mem ((c.tc : Thread Cert.ProjFwdIdeal.nD Cert.ProjFwdIdeal.τ).loc Cert.ProjFwdIdeal.main_arg0) = m ((c.tc : Thread Cert.ProjFwdIdeal.nD Cert.ProjFwdIdeal.τ).loc Cert.ProjFwdIdeal.main_arg0)
          ∧ r.2.mem ((c.tc : Thread Cert.ProjFwdIdeal.nD Cert.ProjFwdIdeal.τ).loc Cert.ProjFwdIdeal.main_arg1) = m ((c.tc : Thread Cert.ProjFwdIdeal.nD Cert.ProjFwdIdeal.τ).loc Cert.ProjFwdIdeal.main_arg1)
          ∧ r.2.mem ((c.tc : Thread Cert.ProjFwdIdeal.nD Cert.ProjFwdIdeal.τ).loc Cert.ProjFwdIdeal.main_arg2) = m ((c.tc : Thread Cert.ProjFwdIdeal.nD Cert.ProjFwdIdeal.τ).loc Cert.ProjFwdIdeal.main_arg2)
          ∧ r.2.mem ((c.tc : Thread Cert.ProjFwdIdeal.nD Cert.ProjFwdIdeal.τ).loc Cert.ProjFwdIdeal.main_arg3) = m ((c.tc : Thread Cert.ProjFwdIdeal.nD Cert.ProjFwdIdeal.τ).loc Cert.ProjFwdIdeal.main_arg3)
          ∧ r.2.mem ((c.tc : Thread Cert.ProjFwdIdeal.nD Cert.ProjFwdIdeal.τ).loc Cert.ProjFwdIdeal.main_arg4) = m ((c.tc : Thread Cert.ProjFwdIdeal.nD Cert.ProjFwdIdeal.τ).loc Cert.ProjFwdIdeal.main_arg4)
          ∧ r.2.mem ((c.tc : Thread Cert.ProjFwdIdeal.nD Cert.ProjFwdIdeal.τ).loc Cert.ProjFwdIdeal.main_arg5) = m ((c.tc : Thread Cert.ProjFwdIdeal.nD Cert.ProjFwdIdeal.τ).loc Cert.ProjFwdIdeal.main_arg5)
          ∧ r.2.mem ((c.tc : Thread Cert.ProjFwdIdeal.nD Cert.ProjFwdIdeal.τ).loc Cert.ProjFwdIdeal.main_arg6) = m ((c.tc : Thread Cert.ProjFwdIdeal.nD Cert.ProjFwdIdeal.τ).loc Cert.ProjFwdIdeal.main_arg6))
      ∧ θ_run (Cert.ProjFwdRefIdeal.defs (F := Ideal)) (onTc (τ := Cert.ProjFwdRefIdeal.τ) (Cert.ProjFwdRefIdeal.main (F := Ideal))) ⟨m', fun _ => 0, g'⟩ (fun r => ∀ c : Dev Cert.ProjFwdRefIdeal.nD,
          r.2.mem ((c.tc : Thread Cert.ProjFwdRefIdeal.nD Cert.ProjFwdRefIdeal.τ).loc Cert.ProjFwdRefIdeal.main_v56) = v0 c
          ∧ r.2.mem ((c.tc : Thread Cert.ProjFwdRefIdeal.nD Cert.ProjFwdRefIdeal.τ).loc Cert.ProjFwdRefIdeal.main_v57) = v1 c
          ∧ r.2.mem ((c.tc : Thread Cert.ProjFwdRefIdeal.nD Cert.ProjFwdRefIdeal.τ).loc Cert.ProjFwdRefIdeal.main_arg0) = m' ((c.tc : Thread Cert.ProjFwdRefIdeal.nD Cert.ProjFwdRefIdeal.τ).loc Cert.ProjFwdRefIdeal.main_arg0)
          ∧ r.2.mem ((c.tc : Thread Cert.ProjFwdRefIdeal.nD Cert.ProjFwdRefIdeal.τ).loc Cert.ProjFwdRefIdeal.main_arg1) = m' ((c.tc : Thread Cert.ProjFwdRefIdeal.nD Cert.ProjFwdRefIdeal.τ).loc Cert.ProjFwdRefIdeal.main_arg1)
          ∧ r.2.mem ((c.tc : Thread Cert.ProjFwdRefIdeal.nD Cert.ProjFwdRefIdeal.τ).loc Cert.ProjFwdRefIdeal.main_arg2) = m' ((c.tc : Thread Cert.ProjFwdRefIdeal.nD Cert.ProjFwdRefIdeal.τ).loc Cert.ProjFwdRefIdeal.main_arg2)
          ∧ r.2.mem ((c.tc : Thread Cert.ProjFwdRefIdeal.nD Cert.ProjFwdRefIdeal.τ).loc Cert.ProjFwdRefIdeal.main_arg3) = m' ((c.tc : Thread Cert.ProjFwdRefIdeal.nD Cert.ProjFwdRefIdeal.τ).loc Cert.ProjFwdRefIdeal.main_arg3)
          ∧ r.2.mem ((c.tc : Thread Cert.ProjFwdRefIdeal.nD Cert.ProjFwdRefIdeal.τ).loc Cert.ProjFwdRefIdeal.main_arg4) = m' ((c.tc : Thread Cert.ProjFwdRefIdeal.nD Cert.ProjFwdRefIdeal.τ).loc Cert.ProjFwdRefIdeal.main_arg4)
          ∧ r.2.mem ((c.tc : Thread Cert.ProjFwdRefIdeal.nD Cert.ProjFwdRefIdeal.τ).loc Cert.ProjFwdRefIdeal.main_arg5) = m' ((c.tc : Thread Cert.ProjFwdRefIdeal.nD Cert.ProjFwdRefIdeal.τ).loc Cert.ProjFwdRefIdeal.main_arg5)
          ∧ r.2.mem ((c.tc : Thread Cert.ProjFwdRefIdeal.nD Cert.ProjFwdRefIdeal.τ).loc Cert.ProjFwdRefIdeal.main_arg6) = m' ((c.tc : Thread Cert.ProjFwdRefIdeal.nD Cert.ProjFwdRefIdeal.τ).loc Cert.ProjFwdRefIdeal.main_arg6))

def preserves_AdamSmall_AdamSmallIdeal : Prop :=
  IdealRules.named_const.Statement Cert.AdamSmallIdeal.κ "bc1" .f32 0x3FC48605#32 (((5463681 / 8388608)⁻¹ : ℝ) : EReal)
  ∧ IdealRules.named_const.Statement Cert.AdamSmallIdeal.κ "bc2" .f32 0x42C8E6D3#32 (((2672307 / 268435456)⁻¹ : ℝ) : EReal)

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)) →
    ∃ (v0 : (c : Dev Cert.AdamSmallIdeal.nD) → Buf (Elt Ideal) ((c.tc : Thread Cert.AdamSmallIdeal.nD Cert.AdamSmallIdeal.τ).loc Cert.AdamSmallIdeal.main_v44_0)) (v1 : (c : Dev Cert.AdamSmallIdeal.nD) → Buf (Elt Ideal) ((c.tc : Thread Cert.AdamSmallIdeal.nD Cert.AdamSmallIdeal.τ).loc Cert.AdamSmallIdeal.main_v44_1)) (v2 : (c : Dev Cert.AdamSmallIdeal.nD) → Buf (Elt Ideal) ((c.tc : Thread Cert.AdamSmallIdeal.nD Cert.AdamSmallIdeal.τ).loc Cert.AdamSmallIdeal.main_v44_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v44_0) = v0 c
          ∧ r.2.mem ((c.tc : Thread Cert.AdamSmallIdeal.nD Cert.AdamSmallIdeal.τ).loc Cert.AdamSmallIdeal.main_v44_1) = v1 c
          ∧ r.2.mem ((c.tc : Thread Cert.AdamSmallIdeal.nD Cert.AdamSmallIdeal.τ).loc Cert.AdamSmallIdeal.main_v44_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v177) = v0 c
          ∧ r.2.mem ((c.tc : Thread Cert.AdamSmallRefIdeal.nD Cert.AdamSmallRefIdeal.τ).loc Cert.AdamSmallRefIdeal.main_v187) = v1 c
          ∧ r.2.mem ((c.tc : Thread Cert.AdamSmallRefIdeal.nD Cert.AdamSmallRefIdeal.τ).loc Cert.AdamSmallRefIdeal.main_v197) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27))

def preserves_AdamAda_AdamAdaIdeal : Prop :=
  IdealRules.named_const.Statement Cert.AdamAdaIdeal.κ "bc1" .f32 0x3FC48605#32 (((5463681 / 8388608)⁻¹ : ℝ) : EReal)
  ∧ IdealRules.named_const.Statement Cert.AdamAdaIdeal.κ "bc2" .f32 0x42C8E6D3#32 (((2672307 / 268435456)⁻¹ : ℝ) : EReal)

def algebraic_AdamAdaIdeal_AdamAdaRefIdeal [hAdamAdaIdeal : Cert.AdamAdaIdeal.Facts] [hAdamAdaRefIdeal : Cert.AdamAdaRefIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.AdamAdaRefIdeal.nD Cert.AdamAdaRefIdeal.τ Cert.AdamAdaRefIdeal.sig) → Buf (Elt Ideal) ℓ) (g' : Dev Cert.AdamAdaRefIdeal.nD → PrngReg), Pre_AdamAdaIdeal m →
    (∀ c : Dev Cert.AdamAdaIdeal.nD,
      m' ((c.tc : Thread Cert.AdamAdaRefIdeal.nD Cert.AdamAdaRefIdeal.τ).loc Cert.AdamAdaRefIdeal.main_arg0) = m ((c.tc : Thread Cert.AdamAdaIdeal.nD Cert.AdamAdaIdeal.τ).loc Cert.AdamAdaIdeal.main_arg0)
      ∧ m' ((c.tc : Thread Cert.AdamAdaRefIdeal.nD Cert.AdamAdaRefIdeal.τ).loc Cert.AdamAdaRefIdeal.main_arg1) = m ((c.tc : Thread Cert.AdamAdaIdeal.nD Cert.AdamAdaIdeal.τ).loc Cert.AdamAdaIdeal.main_arg1)
      ∧ m' ((c.tc : Thread Cert.AdamAdaRefIdeal.nD Cert.AdamAdaRefIdeal.τ).loc Cert.AdamAdaRefIdeal.main_arg2) = m ((c.tc : Thread Cert.AdamAdaIdeal.nD Cert.AdamAdaIdeal.τ).loc Cert.AdamAdaIdeal.main_arg2)
      ∧ m' ((c.tc : Thread Cert.AdamAdaRefIdeal.nD Cert.AdamAdaRefIdeal.τ).loc Cert.AdamAdaRefIdeal.main_arg3) = m ((c.tc : Thread Cert.AdamAdaIdeal.nD Cert.AdamAdaIdeal.τ).loc Cert.AdamAdaIdeal.main_arg3)) →
    ∃ (v0 : (c : Dev Cert.AdamAdaIdeal.nD) → Buf (Elt Ideal) ((c.tc : Thread Cert.AdamAdaIdeal.nD Cert.AdamAdaIdeal.τ).loc Cert.AdamAdaIdeal.main_v4_0)) (v1 : (c : Dev Cert.AdamAdaIdeal.nD) → Buf (Elt Ideal) ((c.tc : Thread Cert.AdamAdaIdeal.nD Cert.AdamAdaIdeal.τ).loc Cert.AdamAdaIdeal.main_v4_1)) (v2 : (c : Dev Cert.AdamAdaIdeal.nD) → Buf (Elt Ideal) ((c.tc : Thread Cert.AdamAdaIdeal.nD Cert.AdamAdaIdeal.τ).loc Cert.AdamAdaIdeal.main_v4_2)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v4_0) = v0 c
          ∧ r.2.mem ((c.tc : Thread Cert.AdamAdaIdeal.nD Cert.AdamAdaIdeal.τ).loc Cert.AdamAdaIdeal.main_v4_1) = v1 c
          ∧ r.2.mem ((c.tc : Thread Cert.AdamAdaIdeal.nD Cert.AdamAdaIdeal.τ).loc Cert.AdamAdaIdeal.main_v4_2) = v2 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3))
      ∧ θ_run (Cert.AdamAdaRefIdeal.defs (F := Ideal)) (onTc (τ := Cert.AdamAdaRefIdeal.τ) (Cert.AdamAdaRefIdeal.main (F := Ideal))) ⟨m', fun _ => 0, g'⟩ (fun r => ∀ c : Dev Cert.AdamAdaRefIdeal.nD,
          r.2.mem ((c.tc : Thread Cert.AdamAdaRefIdeal.nD Cert.AdamAdaRefIdeal.τ).loc Cert.AdamAdaRefIdeal.main_v24) = v0 c
          ∧ r.2.mem ((c.tc : Thread Cert.AdamAdaRefIdeal.nD Cert.AdamAdaRefIdeal.τ).loc Cert.AdamAdaRefIdeal.main_v25) = v1 c
          ∧ r.2.mem ((c.tc : Thread Cert.AdamAdaRefIdeal.nD Cert.AdamAdaRefIdeal.τ).loc Cert.AdamAdaRefIdeal.main_v26) = v2 c
          ∧ r.2.mem ((c.tc : Thread Cert.AdamAdaRefIdeal.nD Cert.AdamAdaRefIdeal.τ).loc Cert.AdamAdaRefIdeal.main_arg0) = m' ((c.tc : Thread Cert.AdamAdaRefIdeal.nD Cert.AdamAdaRefIdeal.τ).loc Cert.AdamAdaRefIdeal.main_arg0)
          ∧ r.2.mem ((c.tc : Thread Cert.AdamAdaRefIdeal.nD Cert.AdamAdaRefIdeal.τ).loc Cert.AdamAdaRefIdeal.main_arg1) = m' ((c.tc : Thread Cert.AdamAdaRefIdeal.nD Cert.AdamAdaRefIdeal.τ).loc Cert.AdamAdaRefIdeal.main_arg1)
          ∧ r.2.mem ((c.tc : Thread Cert.AdamAdaRefIdeal.nD Cert.AdamAdaRefIdeal.τ).loc Cert.AdamAdaRefIdeal.main_arg2) = m' ((c.tc : Thread Cert.AdamAdaRefIdeal.nD Cert.AdamAdaRefIdeal.τ).loc Cert.AdamAdaRefIdeal.main_arg2)
          ∧ r.2.mem ((c.tc : Thread Cert.AdamAdaRefIdeal.nD Cert.AdamAdaRefIdeal.τ).loc Cert.AdamAdaRefIdeal.main_arg3) = m' ((c.tc : Thread Cert.AdamAdaRefIdeal.nD Cert.AdamAdaRefIdeal.τ).loc Cert.AdamAdaRefIdeal.main_arg3))

def preserves_SumSlots_SumSlotsIdeal : Prop :=
  True

def algebraic_SumSlotsIdeal_SumSlotsRefIdeal [hSumSlotsIdeal : Cert.SumSlotsIdeal.Facts] [hSumSlotsRefIdeal : Cert.SumSlotsRefIdeal.Facts] : Prop :=
  ∀ (m : (ℓ : Loc Cert.SumSlotsIdeal.nD Cert.SumSlotsIdeal.τ Cert.SumSlotsIdeal.sig) → Buf (Elt Ideal) ℓ) (g : Dev Cert.SumSlotsIdeal.nD → PrngReg)
    (m' : (ℓ : Loc Cert.SumSlotsRefIdeal.nD Cert.SumSlotsRefIdeal.τ Cert.SumSlotsRefIdeal.sig) → Buf (Elt Ideal) ℓ) (g' : Dev Cert.SumSlotsRefIdeal.nD → PrngReg), Pre_SumSlotsIdeal m →
    (∀ c : Dev Cert.SumSlotsIdeal.nD,
      m' ((c.tc : Thread Cert.SumSlotsRefIdeal.nD Cert.SumSlotsRefIdeal.τ).loc Cert.SumSlotsRefIdeal.main_arg0) = m ((c.tc : Thread Cert.SumSlotsIdeal.nD Cert.SumSlotsIdeal.τ).loc Cert.SumSlotsIdeal.main_arg0)) →
    ∃ (v0 : (c : Dev Cert.SumSlotsIdeal.nD) → Buf (Elt Ideal) ((c.tc : Thread Cert.SumSlotsIdeal.nD Cert.SumSlotsIdeal.τ).loc Cert.SumSlotsIdeal.main_v0)),
      θ_run (Cert.SumSlotsIdeal.defs (F := Ideal)) (onTc (τ := Cert.SumSlotsIdeal.τ) (Cert.SumSlotsIdeal.main (F := Ideal))) ⟨m, fun _ => 0, g⟩ (fun r => ∀ c : Dev Cert.SumSlotsIdeal.nD,
          r.2.mem ((c.tc : Thread Cert.SumSlotsIdeal.nD Cert.SumSlotsIdeal.τ).loc Cert.SumSlotsIdeal.main_v0) = v0 c
          ∧ r.2.mem ((c.tc : Thread Cert.SumSlotsIdeal.nD Cert.SumSlotsIdeal.τ).loc Cert.SumSlotsIdeal.main_arg0) = m ((c.tc : Thread Cert.SumSlotsIdeal.nD Cert.SumSlotsIdeal.τ).loc Cert.SumSlotsIdeal.main_arg0))
      ∧ θ_run (Cert.SumSlotsRefIdeal.defs (F := Ideal)) (onTc (τ := Cert.SumSlotsRefIdeal.τ) (Cert.SumSlotsRefIdeal.main (F := Ideal))) ⟨m', fun _ => 0, g'⟩ (fun r => ∀ c : Dev Cert.SumSlotsRefIdeal.nD,
          r.2.mem ((c.tc : Thread Cert.SumSlotsRefIdeal.nD Cert.SumSlotsRefIdeal.τ).loc Cert.SumSlotsRefIdeal.main_v1) = v0 c
          ∧ r.2.mem ((c.tc : Thread Cert.SumSlotsRefIdeal.nD Cert.SumSlotsRefIdeal.τ).loc Cert.SumSlotsRefIdeal.main_arg0) = m' ((c.tc : Thread Cert.SumSlotsRefIdeal.nD Cert.SumSlotsRefIdeal.τ).loc Cert.SumSlotsRefIdeal.main_arg0))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_AdamLayer_AdamLayerIdeal : Prop :=
  IdealRules.named_const.Statement Cert.AdamLayerIdeal.κ "bc1" .f32 0x3FC48605#32 (((5463681 / 8388608)⁻¹ : ℝ) : EReal)
  ∧ IdealRules.named_const.Statement Cert.AdamLayerIdeal.κ "bc2" .f32 0x42C8E6D3#32 (((2672307 / 268435456)⁻¹ : ℝ) : EReal)

def algebraic_AdamLayerIdeal_AdamLayerRefIdeal [hAdamLayerIdeal : Cert.AdamLayerIdeal.Facts] [hAdamLayerRefIdeal : Cert.AdamLayerRefIdeal.Facts] : Prop :=
  ∀ (m : (ℓ : Loc Cert.AdamLayerIdeal.nD Cert.AdamLayerIdeal.τ Cert.AdamLayerIdeal.sig) → Buf (Elt Ideal) ℓ) (g : Dev Cert.AdamLayerIdeal.nD → PrngReg)
    (m' : (ℓ : Loc Cert.AdamLayerRefIdeal.nD Cert.AdamLayerRefIdeal.τ Cert.AdamLayerRefIdeal.sig) → Buf (Elt Ideal) ℓ) (g' : Dev Cert.AdamLayerRefIdeal.nD → PrngReg), Pre_AdamLayerIdeal m →
    (∀ c : Dev Cert.AdamLayerIdeal.nD,
      m' ((c.tc : Thread Cert.AdamLayerRefIdeal.nD Cert.AdamLayerRefIdeal.τ).loc Cert.AdamLayerRefIdeal.main_arg0) = m ((c.tc : Thread Cert.AdamLayerIdeal.nD Cert.AdamLayerIdeal.τ).loc Cert.AdamLayerIdeal.main_arg0)
      ∧ m' ((c.tc : Thread Cert.AdamLayerRefIdeal.nD Cert.AdamLayerRefIdeal.τ).loc Cert.AdamLayerRefIdeal.main_arg1) = m ((c.tc : Thread Cert.AdamLayerIdeal.nD Cert.AdamLayerIdeal.τ).loc Cert.AdamLayerIdeal.main_arg1)
      ∧ m' ((c.tc : Thread Cert.AdamLayerRefIdeal.nD Cert.AdamLayerRefIdeal.τ).loc Cert.AdamLayerRefIdeal.main_arg2) = m ((c.tc : Thread Cert.AdamLayerIdeal.nD Cert.AdamLayerIdeal.τ).loc Cert.AdamLayerIdeal.main_arg2)
      ∧ m' ((c.tc : Thread Cert.AdamLayerRefIdeal.nD Cert.AdamLayerRefIdeal.τ).loc Cert.AdamLayerRefIdeal.main_arg3) = m ((c.tc : Thread Cert.AdamLayerIdeal.nD Cert.AdamLayerIdeal.τ).loc Cert.AdamLayerIdeal.main_arg3)
      ∧ m' ((c.tc : Thread Cert.AdamLayerRefIdeal.nD Cert.AdamLayerRefIdeal.τ).loc Cert.AdamLayerRefIdeal.main_arg4) = m ((c.tc : Thread Cert.AdamLayerIdeal.nD Cert.AdamLayerIdeal.τ).loc Cert.AdamLayerIdeal.main_arg4)
      ∧ m' ((c.tc : Thread Cert.AdamLayerRefIdeal.nD Cert.AdamLayerRefIdeal.τ).loc Cert.AdamLayerRefIdeal.main_arg5) = m ((c.tc : Thread Cert.AdamLayerIdeal.nD Cert.AdamLayerIdeal.τ).loc Cert.AdamLayerIdeal.main_arg5)
      ∧ m' ((c.tc : Thread Cert.AdamLayerRefIdeal.nD Cert.AdamLayerRefIdeal.τ).loc Cert.AdamLayerRefIdeal.main_arg6) = m ((c.tc : Thread Cert.AdamLayerIdeal.nD Cert.AdamLayerIdeal.τ).loc Cert.AdamLayerIdeal.main_arg6)
      ∧ m' ((c.tc : Thread Cert.AdamLayerRefIdeal.nD Cert.AdamLayerRefIdeal.τ).loc Cert.AdamLayerRefIdeal.main_arg7) = m ((c.tc : Thread Cert.AdamLayerIdeal.nD Cert.AdamLayerIdeal.τ).loc Cert.AdamLayerIdeal.main_arg7)) →
    ∃ (v0 : (c : Dev Cert.AdamLayerIdeal.nD) → Buf (Elt Ideal) ((c.tc : Thread Cert.AdamLayerIdeal.nD Cert.AdamLayerIdeal.τ).loc Cert.AdamLayerIdeal.main_v0_0)) (v1 : (c : Dev Cert.AdamLayerIdeal.nD) → Buf (Elt Ideal) ((c.tc : Thread Cert.AdamLayerIdeal.nD Cert.AdamLayerIdeal.τ).loc Cert.AdamLayerIdeal.main_v0_1)) (v2 : (c : Dev Cert.AdamLayerIdeal.nD) → Buf (Elt Ideal) ((c.tc : Thread Cert.AdamLayerIdeal.nD Cert.AdamLayerIdeal.τ).loc Cert.AdamLayerIdeal.main_v0_2)) (v3 : (c : Dev Cert.AdamLayerIdeal.nD) → Buf (Elt Ideal) ((c.tc : Thread Cert.AdamLayerIdeal.nD Cert.AdamLayerIdeal.τ).loc Cert.AdamLayerIdeal.main_v0_3)),
      θ_run (Cert.AdamLayerIdeal.defs (F := Ideal)) (onTc (τ := Cert.AdamLayerIdeal.τ) (Cert.AdamLayerIdeal.main (F := Ideal))) ⟨m, fun _ => 0, g⟩ (fun r => ∀ c : Dev Cert.AdamLayerIdeal.nD,
          r.2.mem ((c.tc : Thread Cert.AdamLayerIdeal.nD Cert.AdamLayerIdeal.τ).loc Cert.AdamLayerIdeal.main_v0_0) = v0 c
          ∧ r.2.mem ((c.tc : Thread Cert.AdamLayerIdeal.nD Cert.AdamLayerIdeal.τ).loc Cert.AdamLayerIdeal.main_v0_1) = v1 c
          ∧ r.2.mem ((c.tc : Thread Cert.AdamLayerIdeal.nD Cert.AdamLayerIdeal.τ).loc Cert.AdamLayerIdeal.main_v0_2) = v2 c
          ∧ r.2.mem ((c.tc : Thread Cert.AdamLayerIdeal.nD Cert.AdamLayerIdeal.τ).loc Cert.AdamLayerIdeal.main_v0_3) = v3 c
          ∧ r.2.mem ((c.tc : Thread Cert.AdamLayerIdeal.nD Cert.AdamLayerIdeal.τ).loc Cert.AdamLayerIdeal.main_arg0) = m ((c.tc : Thread Cert.AdamLayerIdeal.nD Cert.AdamLayerIdeal.τ).loc Cert.AdamLayerIdeal.main_arg0)
          ∧ r.2.mem ((c.tc : Thread Cert.AdamLayerIdeal.nD Cert.AdamLayerIdeal.τ).loc Cert.AdamLayerIdeal.main_arg1) = m ((c.tc : Thread Cert.AdamLayerIdeal.nD Cert.AdamLayerIdeal.τ).loc Cert.AdamLayerIdeal.main_arg1)
          ∧ r.2.mem ((c.tc : Thread Cert.AdamLayerIdeal.nD Cert.AdamLayerIdeal.τ).loc Cert.AdamLayerIdeal.main_arg2) = m ((c.tc : Thread Cert.AdamLayerIdeal.nD Cert.AdamLayerIdeal.τ).loc Cert.AdamLayerIdeal.main_arg2)
          ∧ r.2.mem ((c.tc : Thread Cert.AdamLayerIdeal.nD Cert.AdamLayerIdeal.τ).loc Cert.AdamLayerIdeal.main_arg3) = m ((c.tc : Thread Cert.AdamLayerIdeal.nD Cert.AdamLayerIdeal.τ).loc Cert.AdamLayerIdeal.main_arg3)
          ∧ r.2.mem ((c.tc : Thread Cert.AdamLayerIdeal.nD Cert.AdamLayerIdeal.τ).loc Cert.AdamLayerIdeal.main_arg4) = m ((c.tc : Thread Cert.AdamLayerIdeal.nD Cert.AdamLayerIdeal.τ).loc Cert.AdamLayerIdeal.main_arg4)
          ∧ r.2.mem ((c.tc : Thread Cert.AdamLayerIdeal.nD Cert.AdamLayerIdeal.τ).loc Cert.AdamLayerIdeal.main_arg5) = m ((c.tc : Thread Cert.AdamLayerIdeal.nD Cert.AdamLayerIdeal.τ).loc Cert.AdamLayerIdeal.main_arg5)
          ∧ r.2.mem ((c.tc : Thread Cert.AdamLayerIdeal.nD Cert.AdamLayerIdeal.τ).loc Cert.AdamLayerIdeal.main_arg6) = m ((c.tc : Thread Cert.AdamLayerIdeal.nD Cert.AdamLayerIdeal.τ).loc Cert.AdamLayerIdeal.main_arg6)
          ∧ r.2.mem ((c.tc : Thread Cert.AdamLayerIdeal.nD Cert.AdamLayerIdeal.τ).loc Cert.AdamLayerIdeal.main_arg7) = m ((c.tc : Thread Cert.AdamLayerIdeal.nD Cert.AdamLayerIdeal.τ).loc Cert.AdamLayerIdeal.main_arg7))
      ∧ θ_run (Cert.AdamLayerRefIdeal.defs (F := Ideal)) (onTc (τ := Cert.AdamLayerRefIdeal.τ) (Cert.AdamLayerRefIdeal.main (F := Ideal))) ⟨m', fun _ => 0, g'⟩ (fun r => ∀ c : Dev Cert.AdamLayerRefIdeal.nD,
          r.2.mem ((c.tc : Thread Cert.AdamLayerRefIdeal.nD Cert.AdamLayerRefIdeal.τ).loc Cert.AdamLayerRefIdeal.main_v35) = v0 c
          ∧ r.2.mem ((c.tc : Thread Cert.AdamLayerRefIdeal.nD Cert.AdamLayerRefIdeal.τ).loc Cert.AdamLayerRefIdeal.main_v38) = v1 c
          ∧ r.2.mem ((c.tc : Thread Cert.AdamLayerRefIdeal.nD Cert.AdamLayerRefIdeal.τ).loc Cert.AdamLayerRefIdeal.main_v41) = v2 c
          ∧ r.2.mem ((c.tc : Thread Cert.AdamLayerRefIdeal.nD Cert.AdamLayerRefIdeal.τ).loc Cert.AdamLayerRefIdeal.main_v44) = v3 c
          ∧ r.2.mem ((c.tc : Thread Cert.AdamLayerRefIdeal.nD Cert.AdamLayerRefIdeal.τ).loc Cert.AdamLayerRefIdeal.main_arg0) = m' ((c.tc : Thread Cert.AdamLayerRefIdeal.nD Cert.AdamLayerRefIdeal.τ).loc Cert.AdamLayerRefIdeal.main_arg0)
          ∧ r.2.mem ((c.tc : Thread Cert.AdamLayerRefIdeal.nD Cert.AdamLayerRefIdeal.τ).loc Cert.AdamLayerRefIdeal.main_arg1) = m' ((c.tc : Thread Cert.AdamLayerRefIdeal.nD Cert.AdamLayerRefIdeal.τ).loc Cert.AdamLayerRefIdeal.main_arg1)
          ∧ r.2.mem ((c.tc : Thread Cert.AdamLayerRefIdeal.nD Cert.AdamLayerRefIdeal.τ).loc Cert.AdamLayerRefIdeal.main_arg2) = m' ((c.tc : Thread Cert.AdamLayerRefIdeal.nD Cert.AdamLayerRefIdeal.τ).loc Cert.AdamLayerRefIdeal.main_arg2)
          ∧ r.2.mem ((c.tc : Thread Cert.AdamLayerRefIdeal.nD Cert.AdamLayerRefIdeal.τ).loc Cert.AdamLayerRefIdeal.main_arg3) = m' ((c.tc : Thread Cert.AdamLayerRefIdeal.nD Cert.AdamLayerRefIdeal.τ).loc Cert.AdamLayerRefIdeal.main_arg3)
          ∧ r.2.mem ((c.tc : Thread Cert.AdamLayerRefIdeal.nD Cert.AdamLayerRefIdeal.τ).loc Cert.AdamLayerRefIdeal.main_arg4) = m' ((c.tc : Thread Cert.AdamLayerRefIdeal.nD Cert.AdamLayerRefIdeal.τ).loc Cert.AdamLayerRefIdeal.main_arg4)
          ∧ r.2.mem ((c.tc : Thread Cert.AdamLayerRefIdeal.nD Cert.AdamLayerRefIdeal.τ).loc Cert.AdamLayerRefIdeal.main_arg5) = m' ((c.tc : Thread Cert.AdamLayerRefIdeal.nD Cert.AdamLayerRefIdeal.τ).loc Cert.AdamLayerRefIdeal.main_arg5)
          ∧ r.2.mem ((c.tc : Thread Cert.AdamLayerRefIdeal.nD Cert.AdamLayerRefIdeal.τ).loc Cert.AdamLayerRefIdeal.main_arg6) = m' ((c.tc : Thread Cert.AdamLayerRefIdeal.nD Cert.AdamLayerRefIdeal.τ).loc Cert.AdamLayerRefIdeal.main_arg6)
          ∧ r.2.mem ((c.tc : Thread Cert.AdamLayerRefIdeal.nD Cert.AdamLayerRefIdeal.τ).loc Cert.AdamLayerRefIdeal.main_arg7) = m' ((c.tc : Thread Cert.AdamLayerRefIdeal.nD Cert.AdamLayerRefIdeal.τ).loc Cert.AdamLayerRefIdeal.main_arg7))

def preserves_Tn_TnIdeal : Prop :=
  True

def algebraic_TnIdeal_TnRefIdeal [hTnIdeal : Cert.TnIdeal.Facts] [hTnRefIdeal : Cert.TnRefIdeal.Facts] : Prop :=
  ∀ (m : (ℓ : Loc Cert.TnIdeal.nD Cert.TnIdeal.τ Cert.TnIdeal.sig) → Buf (Elt Ideal) ℓ) (g : Dev Cert.TnIdeal.nD → PrngReg)
    (m' : (ℓ : Loc Cert.TnRefIdeal.nD Cert.TnRefIdeal.τ Cert.TnRefIdeal.sig) → Buf (Elt Ideal) ℓ) (g' : Dev Cert.TnRefIdeal.nD → PrngReg), Pre_TnIdeal m →
    (∀ c : Dev Cert.TnIdeal.nD,
      m' ((c.tc : Thread Cert.TnRefIdeal.nD Cert.TnRefIdeal.τ).loc Cert.TnRefIdeal.main_arg0) = m ((c.tc : Thread Cert.TnIdeal.nD Cert.TnIdeal.τ).loc Cert.TnIdeal.main_arg0)
      ∧ m' ((c.tc : Thread Cert.TnRefIdeal.nD Cert.TnRefIdeal.τ).loc Cert.TnRefIdeal.main_arg1) = m ((c.tc : Thread Cert.TnIdeal.nD Cert.TnIdeal.τ).loc Cert.TnIdeal.main_arg1)
      ∧ m' ((c.tc : Thread Cert.TnRefIdeal.nD Cert.TnRefIdeal.τ).loc Cert.TnRefIdeal.main_arg2) = m ((c.tc : Thread Cert.TnIdeal.nD Cert.TnIdeal.τ).loc Cert.TnIdeal.main_arg2)) →
    ∃ (v0 : (c : Dev Cert.TnIdeal.nD) → Buf (Elt Ideal) ((c.tc : Thread Cert.TnIdeal.nD Cert.TnIdeal.τ).loc Cert.TnIdeal.main_v0)),
      θ_run (Cert.TnIdeal.defs (F := Ideal)) (onTc (τ := Cert.TnIdeal.τ) (Cert.TnIdeal.main (F := Ideal))) ⟨m, fun _ => 0, g⟩ (fun r => ∀ c : Dev Cert.TnIdeal.nD,
          r.2.mem ((c.tc : Thread Cert.TnIdeal.nD Cert.TnIdeal.τ).loc Cert.TnIdeal.main_v0) = v0 c
          ∧ r.2.mem ((c.tc : Thread Cert.TnIdeal.nD Cert.TnIdeal.τ).loc Cert.TnIdeal.main_arg0) = m ((c.tc : Thread Cert.TnIdeal.nD Cert.TnIdeal.τ).loc Cert.TnIdeal.main_arg0)
          ∧ r.2.mem ((c.tc : Thread Cert.TnIdeal.nD Cert.TnIdeal.τ).loc Cert.TnIdeal.main_arg1) = m ((c.tc : Thread Cert.TnIdeal.nD Cert.TnIdeal.τ).loc Cert.TnIdeal.main_arg1)
          ∧ r.2.mem ((c.tc : Thread Cert.TnIdeal.nD Cert.TnIdeal.τ).loc Cert.TnIdeal.main_arg2) = m ((c.tc : Thread Cert.TnIdeal.nD Cert.TnIdeal.τ).loc Cert.TnIdeal.main_arg2))
      ∧ θ_run (Cert.TnRefIdeal.defs (F := Ideal)) (onTc (τ := Cert.TnRefIdeal.τ) (Cert.TnRefIdeal.main (F := Ideal))) ⟨m', fun _ => 0, g'⟩ (fun r => ∀ c : Dev Cert.TnRefIdeal.nD,
          r.2.mem ((c.tc : Thread Cert.TnRefIdeal.nD Cert.TnRefIdeal.τ).loc Cert.TnRefIdeal.main_v5) = v0 c
          ∧ r.2.mem ((c.tc : Thread Cert.TnRefIdeal.nD Cert.TnRefIdeal.τ).loc Cert.TnRefIdeal.main_arg0) = m' ((c.tc : Thread Cert.TnRefIdeal.nD Cert.TnRefIdeal.τ).loc Cert.TnRefIdeal.main_arg0)
          ∧ r.2.mem ((c.tc : Thread Cert.TnRefIdeal.nD Cert.TnRefIdeal.τ).loc Cert.TnRefIdeal.main_arg1) = m' ((c.tc : Thread Cert.TnRefIdeal.nD Cert.TnRefIdeal.τ).loc Cert.TnRefIdeal.main_arg1)
          ∧ r.2.mem ((c.tc : Thread Cert.TnRefIdeal.nD Cert.TnRefIdeal.τ).loc Cert.TnRefIdeal.main_arg2) = m' ((c.tc : Thread Cert.TnRefIdeal.nD Cert.TnRefIdeal.τ).loc Cert.TnRefIdeal.main_arg2))

def preserves_EvenFwd_EvenFwdIdeal : Prop :=
  True

def algebraic_EvenFwdIdeal_EvenFwdRefIdeal [hEvenFwdIdeal : Cert.EvenFwdIdeal.Facts] [hEvenFwdRefIdeal : Cert.EvenFwdRefIdeal.Facts] : Prop :=
  ∀ (m : (ℓ : Loc Cert.EvenFwdIdeal.nD Cert.EvenFwdIdeal.τ Cert.EvenFwdIdeal.sig) → Buf (Elt Ideal) ℓ) (g : Dev Cert.EvenFwdIdeal.nD → PrngReg)
    (m' : (ℓ : Loc Cert.EvenFwdRefIdeal.nD Cert.EvenFwdRefIdeal.τ Cert.EvenFwdRefIdeal.sig) → Buf (Elt Ideal) ℓ) (g' : Dev Cert.EvenFwdRefIdeal.nD → PrngReg), Pre_EvenFwdIdeal m →
    (∀ c : Dev Cert.EvenFwdIdeal.nD,
      m' ((c.tc : Thread Cert.EvenFwdRefIdeal.nD Cert.EvenFwdRefIdeal.τ).loc Cert.EvenFwdRefIdeal.main_arg0) = m ((c.tc : Thread Cert.EvenFwdIdeal.nD Cert.EvenFwdIdeal.τ).loc Cert.EvenFwdIdeal.main_arg0)
      ∧ m' ((c.tc : Thread Cert.EvenFwdRefIdeal.nD Cert.EvenFwdRefIdeal.τ).loc Cert.EvenFwdRefIdeal.main_arg1) = m ((c.tc : Thread Cert.EvenFwdIdeal.nD Cert.EvenFwdIdeal.τ).loc Cert.EvenFwdIdeal.main_arg1)
      ∧ m' ((c.tc : Thread Cert.EvenFwdRefIdeal.nD Cert.EvenFwdRefIdeal.τ).loc Cert.EvenFwdRefIdeal.main_arg2) = m ((c.tc : Thread Cert.EvenFwdIdeal.nD Cert.EvenFwdIdeal.τ).loc Cert.EvenFwdIdeal.main_arg2)
      ∧ m' ((c.tc : Thread Cert.EvenFwdRefIdeal.nD Cert.EvenFwdRefIdeal.τ).loc Cert.EvenFwdRefIdeal.main_arg3) = m ((c.tc : Thread Cert.EvenFwdIdeal.nD Cert.EvenFwdIdeal.τ).loc Cert.EvenFwdIdeal.main_arg3)
      ∧ m' ((c.tc : Thread Cert.EvenFwdRefIdeal.nD Cert.EvenFwdRefIdeal.τ).loc Cert.EvenFwdRefIdeal.main_arg4) = m ((c.tc : Thread Cert.EvenFwdIdeal.nD Cert.EvenFwdIdeal.τ).loc Cert.EvenFwdIdeal.main_arg4)
      ∧ m' ((c.tc : Thread Cert.EvenFwdRefIdeal.nD Cert.EvenFwdRefIdeal.τ).loc Cert.EvenFwdRefIdeal.main_arg5) = m ((c.tc : Thread Cert.EvenFwdIdeal.nD Cert.EvenFwdIdeal.τ).loc Cert.EvenFwdIdeal.main_arg5)
      ∧ m' ((c.tc : Thread Cert.EvenFwdRefIdeal.nD Cert.EvenFwdRefIdeal.τ).loc Cert.EvenFwdRefIdeal.main_arg6) = m ((c.tc : Thread Cert.EvenFwdIdeal.nD Cert.EvenFwdIdeal.τ).loc Cert.EvenFwdIdeal.main_arg6)
      ∧ m' ((c.tc : Thread Cert.EvenFwdRefIdeal.nD Cert.EvenFwdRefIdeal.τ).loc Cert.EvenFwdRefIdeal.main_arg7) = m ((c.tc : Thread Cert.EvenFwdIdeal.nD Cert.EvenFwdIdeal.τ).loc Cert.EvenFwdIdeal.main_arg7)) →
    ∃ (v0 : (c : Dev Cert.EvenFwdIdeal.nD) → Buf (Elt Ideal) ((c.tc : Thread Cert.EvenFwdIdeal.nD Cert.EvenFwdIdeal.τ).loc Cert.EvenFwdIdeal.main_v96_3)) (v1 : (c : Dev Cert.EvenFwdIdeal.nD) → Buf (Elt Ideal) ((c.tc : Thread Cert.EvenFwdIdeal.nD Cert.EvenFwdIdeal.τ).loc Cert.EvenFwdIdeal.main_v96_4)),
      θ_run (Cert.EvenFwdIdeal.defs (F := Ideal)) (onTc (τ := Cert.EvenFwdIdeal.τ) (Cert.EvenFwdIdeal.main (F := Ideal))) ⟨m, fun _ => 0, g⟩ (fun r => ∀ c : Dev Cert.EvenFwdIdeal.nD,
          r.2.mem ((c.tc : Thread Cert.EvenFwdIdeal.nD Cert.EvenFwdIdeal.τ).loc Cert.EvenFwdIdeal.main_v96_3) = v0 c
          ∧ r.2.mem ((c.tc : Thread Cert.EvenFwdIdeal.nD Cert.EvenFwdIdeal.τ).loc Cert.EvenFwdIdeal.main_v96_4) = v1 c
          ∧ r.2.mem ((c.tc : Thread Cert.EvenFwdIdeal.nD Cert.EvenFwdIdeal.τ).loc Cert.EvenFwdIdeal.main_arg0) = m ((c.tc : Thread Cert.EvenFwdIdeal.nD Cert.EvenFwdIdeal.τ).loc Cert.EvenFwdIdeal.main_arg0)
          ∧ r.2.mem ((c.tc : Thread Cert.EvenFwdIdeal.nD Cert.EvenFwdIdeal.τ).loc Cert.EvenFwdIdeal.main_arg1) = m ((c.tc : Thread Cert.EvenFwdIdeal.nD Cert.EvenFwdIdeal.τ).loc Cert.EvenFwdIdeal.main_arg1)
          ∧ r.2.mem ((c.tc : Thread Cert.EvenFwdIdeal.nD Cert.EvenFwdIdeal.τ).loc Cert.EvenFwdIdeal.main_arg2) = m ((c.tc : Thread Cert.EvenFwdIdeal.nD Cert.EvenFwdIdeal.τ).loc Cert.EvenFwdIdeal.main_arg2)
          ∧ r.2.mem ((c.tc : Thread Cert.EvenFwdIdeal.nD Cert.EvenFwdIdeal.τ).loc Cert.EvenFwdIdeal.main_arg3) = m ((c.tc : Thread Cert.EvenFwdIdeal.nD Cert.EvenFwdIdeal.τ).loc Cert.EvenFwdIdeal.main_arg3)
          ∧ r.2.mem ((c.tc : Thread Cert.EvenFwdIdeal.nD Cert.EvenFwdIdeal.τ).loc Cert.EvenFwdIdeal.main_arg4) = m ((c.tc : Thread Cert.EvenFwdIdeal.nD Cert.EvenFwdIdeal.τ).loc Cert.EvenFwdIdeal.main_arg4)
          ∧ r.2.mem ((c.tc : Thread Cert.EvenFwdIdeal.nD Cert.EvenFwdIdeal.τ).loc Cert.EvenFwdIdeal.main_arg5) = m ((c.tc : Thread Cert.EvenFwdIdeal.nD Cert.EvenFwdIdeal.τ).loc Cert.EvenFwdIdeal.main_arg5)
          ∧ r.2.mem ((c.tc : Thread Cert.EvenFwdIdeal.nD Cert.EvenFwdIdeal.τ).loc Cert.EvenFwdIdeal.main_arg6) = m ((c.tc : Thread Cert.EvenFwdIdeal.nD Cert.EvenFwdIdeal.τ).loc Cert.EvenFwdIdeal.main_arg6)
          ∧ r.2.mem ((c.tc : Thread Cert.EvenFwdIdeal.nD Cert.EvenFwdIdeal.τ).loc Cert.EvenFwdIdeal.main_arg7) = m ((c.tc : Thread Cert.EvenFwdIdeal.nD Cert.EvenFwdIdeal.τ).loc Cert.EvenFwdIdeal.main_arg7))
      ∧ θ_run (Cert.EvenFwdRefIdeal.defs (F := Ideal)) (onTc (τ := Cert.EvenFwdRefIdeal.τ) (Cert.EvenFwdRefIdeal.main (F := Ideal))) ⟨m', fun _ => 0, g'⟩ (fun r => ∀ c : Dev Cert.EvenFwdRefIdeal.nD,
          r.2.mem ((c.tc : Thread Cert.EvenFwdRefIdeal.nD Cert.EvenFwdRefIdeal.τ).loc Cert.EvenFwdRefIdeal.main_v38) = v0 c
          ∧ r.2.mem ((c.tc : Thread Cert.EvenFwdRefIdeal.nD Cert.EvenFwdRefIdeal.τ).loc Cert.EvenFwdRefIdeal.main_v25) = v1 c
          ∧ r.2.mem ((c.tc : Thread Cert.EvenFwdRefIdeal.nD Cert.EvenFwdRefIdeal.τ).loc Cert.EvenFwdRefIdeal.main_arg0) = m' ((c.tc : Thread Cert.EvenFwdRefIdeal.nD Cert.EvenFwdRefIdeal.τ).loc Cert.EvenFwdRefIdeal.main_arg0)
          ∧ r.2.mem ((c.tc : Thread Cert.EvenFwdRefIdeal.nD Cert.EvenFwdRefIdeal.τ).loc Cert.EvenFwdRefIdeal.main_arg1) = m' ((c.tc : Thread Cert.EvenFwdRefIdeal.nD Cert.EvenFwdRefIdeal.τ).loc Cert.EvenFwdRefIdeal.main_arg1)
          ∧ r.2.mem ((c.tc : Thread Cert.EvenFwdRefIdeal.nD Cert.EvenFwdRefIdeal.τ).loc Cert.EvenFwdRefIdeal.main_arg2) = m' ((c.tc : Thread Cert.EvenFwdRefIdeal.nD Cert.EvenFwdRefIdeal.τ).loc Cert.EvenFwdRefIdeal.main_arg2)
          ∧ r.2.mem ((c.tc : Thread Cert.EvenFwdRefIdeal.nD Cert.EvenFwdRefIdeal.τ).loc Cert.EvenFwdRefIdeal.main_arg3) = m' ((c.tc : Thread Cert.EvenFwdRefIdeal.nD Cert.EvenFwdRefIdeal.τ).loc Cert.EvenFwdRefIdeal.main_arg3)
          ∧ r.2.mem ((c.tc : Thread Cert.EvenFwdRefIdeal.nD Cert.EvenFwdRefIdeal.τ).loc Cert.EvenFwdRefIdeal.main_arg4) = m' ((c.tc : Thread Cert.EvenFwdRefIdeal.nD Cert.EvenFwdRefIdeal.τ).loc Cert.EvenFwdRefIdeal.main_arg4)
          ∧ r.2.mem ((c.tc : Thread Cert.EvenFwdRefIdeal.nD Cert.EvenFwdRefIdeal.τ).loc Cert.EvenFwdRefIdeal.main_arg5) = m' ((c.tc : Thread Cert.EvenFwdRefIdeal.nD Cert.EvenFwdRefIdeal.τ).loc Cert.EvenFwdRefIdeal.main_arg5)
          ∧ r.2.mem ((c.tc : Thread Cert.EvenFwdRefIdeal.nD Cert.EvenFwdRefIdeal.τ).loc Cert.EvenFwdRefIdeal.main_arg6) = m' ((c.tc : Thread Cert.EvenFwdRefIdeal.nD Cert.EvenFwdRefIdeal.τ).loc Cert.EvenFwdRefIdeal.main_arg6)
          ∧ r.2.mem ((c.tc : Thread Cert.EvenFwdRefIdeal.nD Cert.EvenFwdRefIdeal.τ).loc Cert.EvenFwdRefIdeal.main_arg7) = m' ((c.tc : Thread Cert.EvenFwdRefIdeal.nD Cert.EvenFwdRefIdeal.τ).loc Cert.EvenFwdRefIdeal.main_arg7))

def preserves_ProjBwd_ProjBwdIdeal : Prop :=
  True

def algebraic_ProjBwdIdeal_ProjBwdRefIdeal [hProjBwdIdeal : Cert.ProjBwdIdeal.Facts] [hProjBwdRefIdeal : Cert.ProjBwdRefIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg)
    (m' : (ℓ : Loc Cert.ProjBwdRefIdeal.nD Cert.ProjBwdRefIdeal.τ Cert.ProjBwdRefIdeal.sig) → Buf (Elt Ideal) ℓ) (g' : Dev Cert.ProjBwdRefIdeal.nD → PrngReg), Pre_ProjBwdIdeal m →
    (∀ c : Dev Cert.ProjBwdIdeal.nD,
      m' ((c.tc : Thread Cert.ProjBwdRefIdeal.nD Cert.ProjBwdRefIdeal.τ).loc Cert.ProjBwdRefIdeal.main_arg0) = m ((c.tc : Thread Cert.ProjBwdIdeal.nD Cert.ProjBwdIdeal.τ).loc Cert.ProjBwdIdeal.main_arg0)
      ∧ m' ((c.tc : Thread Cert.ProjBwdRefIdeal.nD Cert.ProjBwdRefIdeal.τ).loc Cert.ProjBwdRefIdeal.main_arg1) = m ((c.tc : Thread Cert.ProjBwdIdeal.nD Cert.ProjBwdIdeal.τ).loc Cert.ProjBwdIdeal.main_arg1)
      ∧ m' ((c.tc : Thread Cert.ProjBwdRefIdeal.nD Cert.ProjBwdRefIdeal.τ).loc Cert.ProjBwdRefIdeal.main_arg2) = m ((c.tc : Thread Cert.ProjBwdIdeal.nD Cert.ProjBwdIdeal.τ).loc Cert.ProjBwdIdeal.main_arg2)
      ∧ m' ((c.tc : Thread Cert.ProjBwdRefIdeal.nD Cert.ProjBwdRefIdeal.τ).loc Cert.ProjBwdRefIdeal.main_arg3) = m ((c.tc : Thread Cert.ProjBwdIdeal.nD Cert.ProjBwdIdeal.τ).loc Cert.ProjBwdIdeal.main_arg3)
      ∧ m' ((c.tc : Thread Cert.ProjBwdRefIdeal.nD Cert.ProjBwdRefIdeal.τ).loc Cert.ProjBwdRefIdeal.main_arg4) = m ((c.tc : Thread Cert.ProjBwdIdeal.nD Cert.ProjBwdIdeal.τ).loc Cert.ProjBwdIdeal.main_arg4)
      ∧ m' ((c.tc : Thread Cert.ProjBwdRefIdeal.nD Cert.ProjBwdRefIdeal.τ).loc Cert.ProjBwdRefIdeal.main_arg5) = m ((c.tc : Thread Cert.ProjBwdIdeal.nD Cert.ProjBwdIdeal.τ).loc Cert.ProjBwdIdeal.main_arg5)
      ∧ m' ((c.tc : Thread Cert.ProjBwdRefIdeal.nD Cert.ProjBwdRefIdeal.τ).loc Cert.ProjBwdRefIdeal.main_arg6) = m ((c.tc : Thread Cert.ProjBwdIdeal.nD Cert.ProjBwdIdeal.τ).loc Cert.ProjBwdIdeal.main_arg6)
      ∧ m' ((c.tc : Thread Cert.ProjBwdRefIdeal.nD Cert.ProjBwdRefIdeal.τ).loc Cert.ProjBwdRefIdeal.main_arg7) = m ((c.tc : Thread Cert.ProjBwdIdeal.nD Cert.ProjBwdIdeal.τ).loc Cert.ProjBwdIdeal.main_arg7)
      ∧ m' ((c.tc : Thread Cert.ProjBwdRefIdeal.nD Cert.ProjBwdRefIdeal.τ).loc Cert.ProjBwdRefIdeal.main_arg8) = m ((c.tc : Thread Cert.ProjBwdIdeal.nD Cert.ProjBwdIdeal.τ).loc Cert.ProjBwdIdeal.main_arg8)
      ∧ m' ((c.tc : Thread Cert.ProjBwdRefIdeal.nD Cert.ProjBwdRefIdeal.τ).loc Cert.ProjBwdRefIdeal.main_arg9) = m ((c.tc : Thread Cert.ProjBwdIdeal.nD Cert.ProjBwdIdeal.τ).loc Cert.ProjBwdIdeal.main_arg9)
      ∧ m' ((c.tc : Thread Cert.ProjBwdRefIdeal.nD Cert.ProjBwdRefIdeal.τ).loc Cert.ProjBwdRefIdeal.main_arg10) = m ((c.tc : Thread Cert.ProjBwdIdeal.nD Cert.ProjBwdIdeal.τ).loc Cert.ProjBwdIdeal.main_arg10)
      ∧ m' ((c.tc : Thread Cert.ProjBwdRefIdeal.nD Cert.ProjBwdRefIdeal.τ).loc Cert.ProjBwdRefIdeal.main_arg11) = m ((c.tc : Thread Cert.ProjBwdIdeal.nD Cert.ProjBwdIdeal.τ).loc Cert.ProjBwdIdeal.main_arg11)) →
    ∃ (v0 : (c : Dev Cert.ProjBwdIdeal.nD) → Buf (Elt Ideal) ((c.tc : Thread Cert.ProjBwdIdeal.nD Cert.ProjBwdIdeal.τ).loc Cert.ProjBwdIdeal.main_v38_2)),
      θ_run (Cert.ProjBwdIdeal.defs (F := Ideal)) (onTc (τ := Cert.ProjBwdIdeal.τ) (Cert.ProjBwdIdeal.main (F := Ideal))) ⟨m, fun _ => 0, g⟩ (fun r => ∀ c : Dev Cert.ProjBwdIdeal.nD,
          r.2.mem ((c.tc : Thread Cert.ProjBwdIdeal.nD Cert.ProjBwdIdeal.τ).loc Cert.ProjBwdIdeal.main_v38_2) = v0 c
          ∧ r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
          ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
          ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
          ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
          ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4)
          ∧ r.2.mem ((c.tc : Thread Cert.ProjBwdIdeal.nD Cert.ProjBwdIdeal.τ).loc Cert.ProjBwdIdeal.main_arg5) = m ((c.tc : Thread Cert.ProjBwdIdeal.nD Cert.ProjBwdIdeal.τ).loc Cert.ProjBwdIdeal.main_arg5)
          ∧ r.2.mem ((c.tc : Thread Cert.ProjBwdIdeal.nD Cert.ProjBwdIdeal.τ).loc Cert.ProjBwdIdeal.main_arg6) = m ((c.tc : Thread Cert.ProjBwdIdeal.nD Cert.ProjBwdIdeal.τ).loc Cert.ProjBwdIdeal.main_arg6)
          ∧ r.2.mem ((c.tc : Thread Cert.ProjBwdIdeal.nD Cert.ProjBwdIdeal.τ).loc Cert.ProjBwdIdeal.main_arg7) = m ((c.tc : Thread Cert.ProjBwdIdeal.nD Cert.ProjBwdIdeal.τ).loc Cert.ProjBwdIdeal.main_arg7)
          ∧ r.2.mem ((c.tc : Thread Cert.ProjBwdIdeal.nD Cert.ProjBwdIdeal.τ).loc Cert.ProjBwdIdeal.main_arg8) = m ((c.tc : Thread Cert.ProjBwdIdeal.nD Cert.ProjBwdIdeal.τ).loc Cert.ProjBwdIdeal.main_arg8)
          ∧ r.2.mem ((c.tc : Thread Cert.ProjBwdIdeal.nD Cert.ProjBwdIdeal.τ).loc Cert.ProjBwdIdeal.main_arg9) = m ((c.tc : Thread Cert.ProjBwdIdeal.nD Cert.ProjBwdIdeal.τ).loc Cert.ProjBwdIdeal.main_arg9)
          ∧ r.2.mem ((c.tc : Thread Cert.ProjBwdIdeal.nD Cert.ProjBwdIdeal.τ).loc Cert.ProjBwdIdeal.main_arg10) = m ((c.tc : Thread Cert.ProjBwdIdeal.nD Cert.ProjBwdIdeal.τ).loc Cert.ProjBwdIdeal.main_arg10)
          ∧ r.2.mem ((c.tc : Thread Cert.ProjBwdIdeal.nD Cert.ProjBwdIdeal.τ).loc Cert.ProjBwdIdeal.main_arg11) = m ((c.tc : Thread Cert.ProjBwdIdeal.nD Cert.ProjBwdIdeal.τ).loc Cert.ProjBwdIdeal.main_arg11))
      ∧ θ_run (Cert.ProjBwdRefIdeal.defs (F := Ideal)) (onTc (τ := Cert.ProjBwdRefIdeal.τ) (Cert.ProjBwdRefIdeal.main (F := Ideal))) ⟨m', fun _ => 0, g'⟩ (fun r => ∀ c : Dev Cert.ProjBwdRefIdeal.nD,
          r.2.mem ((c.tc : Thread Cert.ProjBwdRefIdeal.nD Cert.ProjBwdRefIdeal.τ).loc Cert.ProjBwdRefIdeal.main_v25) = v0 c
          ∧ r.2.mem ((c.tc : Thread Cert.ProjBwdRefIdeal.nD Cert.ProjBwdRefIdeal.τ).loc Cert.ProjBwdRefIdeal.main_arg0) = m' ((c.tc : Thread Cert.ProjBwdRefIdeal.nD Cert.ProjBwdRefIdeal.τ).loc Cert.ProjBwdRefIdeal.main_arg0)
          ∧ r.2.mem ((c.tc : Thread Cert.ProjBwdRefIdeal.nD Cert.ProjBwdRefIdeal.τ).loc Cert.ProjBwdRefIdeal.main_arg1) = m' ((c.tc : Thread Cert.ProjBwdRefIdeal.nD Cert.ProjBwdRefIdeal.τ).loc Cert.ProjBwdRefIdeal.main_arg1)
          ∧ r.2.mem ((c.tc : Thread Cert.ProjBwdRefIdeal.nD Cert.ProjBwdRefIdeal.τ).loc Cert.ProjBwdRefIdeal.main_arg2) = m' ((c.tc : Thread Cert.ProjBwdRefIdeal.nD Cert.ProjBwdRefIdeal.τ).loc Cert.ProjBwdRefIdeal.main_arg2)
          ∧ r.2.mem ((c.tc : Thread Cert.ProjBwdRefIdeal.nD Cert.ProjBwdRefIdeal.τ).loc Cert.ProjBwdRefIdeal.main_arg3) = m' ((c.tc : Thread Cert.ProjBwdRefIdeal.nD Cert.ProjBwdRefIdeal.τ).loc Cert.ProjBwdRefIdeal.main_arg3)
          ∧ r.2.mem ((c.tc : Thread Cert.ProjBwdRefIdeal.nD Cert.ProjBwdRefIdeal.τ).loc Cert.ProjBwdRefIdeal.main_arg4) = m' ((c.tc : Thread Cert.ProjBwdRefIdeal.nD Cert.ProjBwdRefIdeal.τ).loc Cert.ProjBwdRefIdeal.main_arg4)
          ∧ r.2.mem ((c.tc : Thread Cert.ProjBwdRefIdeal.nD Cert.ProjBwdRefIdeal.τ).loc Cert.ProjBwdRefIdeal.main_arg5) = m' ((c.tc : Thread Cert.ProjBwdRefIdeal.nD Cert.ProjBwdRefIdeal.τ).loc Cert.ProjBwdRefIdeal.main_arg5)
          ∧ r.2.mem ((c.tc : Thread Cert.ProjBwdRefIdeal.nD Cert.ProjBwdRefIdeal.τ).loc Cert.ProjBwdRefIdeal.main_arg6) = m' ((c.tc : Thread Cert.ProjBwdRefIdeal.nD Cert.ProjBwdRefIdeal.τ).loc Cert.ProjBwdRefIdeal.main_arg6)
          ∧ r.2.mem ((c.tc : Thread Cert.ProjBwdRefIdeal.nD Cert.ProjBwdRefIdeal.τ).loc Cert.ProjBwdRefIdeal.main_arg7) = m' ((c.tc : Thread Cert.ProjBwdRefIdeal.nD Cert.ProjBwdRefIdeal.τ).loc Cert.ProjBwdRefIdeal.main_arg7)
          ∧ r.2.mem ((c.tc : Thread Cert.ProjBwdRefIdeal.nD Cert.ProjBwdRefIdeal.τ).loc Cert.ProjBwdRefIdeal.main_arg8) = m' ((c.tc : Thread Cert.ProjBwdRefIdeal.nD Cert.ProjBwdRefIdeal.τ).loc Cert.ProjBwdRefIdeal.main_arg8)
          ∧ r.2.mem ((c.tc : Thread Cert.ProjBwdRefIdeal.nD Cert.ProjBwdRefIdeal.τ).loc Cert.ProjBwdRefIdeal.main_arg9) = m' ((c.tc : Thread Cert.ProjBwdRefIdeal.nD Cert.ProjBwdRefIdeal.τ).loc Cert.ProjBwdRefIdeal.main_arg9)
          ∧ r.2.mem ((c.tc : Thread Cert.ProjBwdRefIdeal.nD Cert.ProjBwdRefIdeal.τ).loc Cert.ProjBwdRefIdeal.main_arg10) = m' ((c.tc : Thread Cert.ProjBwdRefIdeal.nD Cert.ProjBwdRefIdeal.τ).loc Cert.ProjBwdRefIdeal.main_arg10)
          ∧ r.2.mem ((c.tc : Thread Cert.ProjBwdRefIdeal.nD Cert.ProjBwdRefIdeal.τ).loc Cert.ProjBwdRefIdeal.main_arg11) = m' ((c.tc : Thread Cert.ProjBwdRefIdeal.nD Cert.ProjBwdRefIdeal.τ).loc Cert.ProjBwdRefIdeal.main_arg11))

def Claim : Prop :=
  ∃ (hLoss : Cert.Loss.Facts) (hLossIdeal : Cert.LossIdeal.Facts) (hLossRefIdeal : Cert.LossRefIdeal.Facts) (hStick : Cert.Stick.Facts) (hStickIdeal : Cert.StickIdeal.Facts) (hStickRefIdeal : Cert.StickRefIdeal.Facts) (hAda : Cert.Ada.Facts) (hAdaIdeal : Cert.AdaIdeal.Facts) (hAdaRefIdeal : Cert.AdaRefIdeal.Facts) (hGate : Cert.Gate.Facts) (hGateIdeal : Cert.GateIdeal.Facts) (hGateRefIdeal : Cert.GateRefIdeal.Facts) (hStickFwd : Cert.StickFwd.Facts) (hStickFwdIdeal : Cert.StickFwdIdeal.Facts) (hStickFwdRefIdeal : Cert.StickFwdRefIdeal.Facts) (hFfn : Cert.Ffn.Facts) (hFfnIdeal : Cert.FfnIdeal.Facts) (hFfnRefIdeal : Cert.FfnRefIdeal.Facts) (hGateFwd : Cert.GateFwd.Facts) (hGateFwdIdeal : Cert.GateFwdIdeal.Facts) (hGateFwdRefIdeal : Cert.GateFwdRefIdeal.Facts) (hAdaFwd : Cert.AdaFwd.Facts) (hAdaFwdIdeal : Cert.AdaFwdIdeal.Facts) (hAdaFwdRefIdeal : Cert.AdaFwdRefIdeal.Facts) (hFfnFwd : Cert.FfnFwd.Facts) (hFfnFwdIdeal : Cert.FfnFwdIdeal.Facts) (hFfnFwdRefIdeal : Cert.FfnFwdRefIdeal.Facts) (hProjFwd : Cert.ProjFwd.Facts) (hProjFwdIdeal : Cert.ProjFwdIdeal.Facts) (hProjFwdRefIdeal : Cert.ProjFwdRefIdeal.Facts) (hAdamSmall : Cert.AdamSmall.Facts) (hAdamSmallIdeal : Cert.AdamSmallIdeal.Facts) (hAdamSmallRefIdeal : Cert.AdamSmallRefIdeal.Facts) (hAdamAda : Cert.AdamAda.Facts) (hAdamAdaIdeal : Cert.AdamAdaIdeal.Facts) (hAdamAdaRefIdeal : Cert.AdamAdaRefIdeal.Facts) (hSumSlots : Cert.SumSlots.Facts) (hSumSlotsIdeal : Cert.SumSlotsIdeal.Facts) (hSumSlotsRefIdeal : Cert.SumSlotsRefIdeal.Facts) (hSumSmall : Cert.SumSmall.Facts) (hSumSmallIdeal : Cert.SumSmallIdeal.Facts) (hSumSmallRefIdeal : Cert.SumSmallRefIdeal.Facts) (hAdamLayer : Cert.AdamLayer.Facts) (hAdamLayerIdeal : Cert.AdamLayerIdeal.Facts) (hAdamLayerRefIdeal : Cert.AdamLayerRefIdeal.Facts) (hTn : Cert.Tn.Facts) (hTnIdeal : Cert.TnIdeal.Facts) (hTnRefIdeal : Cert.TnRefIdeal.Facts) (hEvenFwd : Cert.EvenFwd.Facts) (hEvenFwdIdeal : Cert.EvenFwdIdeal.Facts) (hEvenFwdRefIdeal : Cert.EvenFwdRefIdeal.Facts) (hProjBwd : Cert.ProjBwd.Facts) (hProjBwdIdeal : Cert.ProjBwdIdeal.Facts) (hProjBwdRefIdeal : Cert.ProjBwdRefIdeal.Facts) (hPre_stick_finite : Cert.Pre_stick_finite.Facts) (hPre_stick_fwd_finite : Cert.Pre_stick_fwd_finite.Facts) (hPre_ffn_finite : Cert.Pre_ffn_finite.Facts),
    quiescent_Loss (hLoss := hLoss)
    ∧ quiescent_LossIdeal (hLossIdeal := hLossIdeal)
    ∧ quiescent_LossRefIdeal (hLossRefIdeal := hLossRefIdeal)
    ∧ quiescent_Stick (hStick := hStick)
    ∧ quiescent_StickIdeal (hStickIdeal := hStickIdeal)
    ∧ quiescent_StickIdeal_pre_stick_finite (hStickIdeal := hStickIdeal) (hPre_stick_finite := hPre_stick_finite)
    ∧ quiescent_StickRefIdeal (hStickRefIdeal := hStickRefIdeal)
    ∧ quiescent_StickRefIdeal_pre_stick_finite (hStickRefIdeal := hStickRefIdeal) (hPre_stick_finite := hPre_stick_finite)
    ∧ quiescent_Ada (hAda := hAda)
    ∧ quiescent_AdaIdeal (hAdaIdeal := hAdaIdeal)
    ∧ quiescent_AdaRefIdeal (hAdaRefIdeal := hAdaRefIdeal)
    ∧ quiescent_Gate (hGate := hGate)
    ∧ quiescent_GateIdeal (hGateIdeal := hGateIdeal)
    ∧ quiescent_GateRefIdeal (hGateRefIdeal := hGateRefIdeal)
    ∧ quiescent_StickFwd (hStickFwd := hStickFwd)
    ∧ quiescent_StickFwdIdeal (hStickFwdIdeal := hStickFwdIdeal)
    ∧ quiescent_StickFwdIdeal_pre_stick_fwd_finite (hStickFwdIdeal := hStickFwdIdeal) (hPre_stick_fwd_finite := hPre_stick_fwd_finite)
    ∧ quiescent_StickFwdRefIdeal (hStickFwdRefIdeal := hStickFwdRefIdeal)
    ∧ quiescent_StickFwdRefIdeal_pre_stick_fwd_finite (hStickFwdRefIdeal := hStickFwdRefIdeal) (hPre_stick_fwd_finite := hPre_stick_fwd_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_GateFwd (hGateFwd := hGateFwd)
    ∧ quiescent_GateFwdIdeal (hGateFwdIdeal := hGateFwdIdeal)
    ∧ quiescent_GateFwdRefIdeal (hGateFwdRefIdeal := hGateFwdRefIdeal)
    ∧ quiescent_AdaFwd (hAdaFwd := hAdaFwd)
    ∧ quiescent_AdaFwdIdeal (hAdaFwdIdeal := hAdaFwdIdeal)
    ∧ quiescent_AdaFwdRefIdeal (hAdaFwdRefIdeal := hAdaFwdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_ProjFwd (hProjFwd := hProjFwd)
    ∧ quiescent_ProjFwdIdeal (hProjFwdIdeal := hProjFwdIdeal)
    ∧ quiescent_ProjFwdRefIdeal (hProjFwdRefIdeal := hProjFwdRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamAda (hAdamAda := hAdamAda)
    ∧ quiescent_AdamAdaIdeal (hAdamAdaIdeal := hAdamAdaIdeal)
    ∧ quiescent_AdamAdaRefIdeal (hAdamAdaRefIdeal := hAdamAdaRefIdeal)
    ∧ quiescent_SumSlots (hSumSlots := hSumSlots)
    ∧ quiescent_SumSlotsIdeal (hSumSlotsIdeal := hSumSlotsIdeal)
    ∧ quiescent_SumSlotsRefIdeal (hSumSlotsRefIdeal := hSumSlotsRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_AdamLayer (hAdamLayer := hAdamLayer)
    ∧ quiescent_AdamLayerIdeal (hAdamLayerIdeal := hAdamLayerIdeal)
    ∧ quiescent_AdamLayerRefIdeal (hAdamLayerRefIdeal := hAdamLayerRefIdeal)
    ∧ quiescent_Tn (hTn := hTn)
    ∧ quiescent_TnIdeal (hTnIdeal := hTnIdeal)
    ∧ quiescent_TnRefIdeal (hTnRefIdeal := hTnRefIdeal)
    ∧ quiescent_EvenFwd (hEvenFwd := hEvenFwd)
    ∧ quiescent_EvenFwdIdeal (hEvenFwdIdeal := hEvenFwdIdeal)
    ∧ quiescent_EvenFwdRefIdeal (hEvenFwdRefIdeal := hEvenFwdRefIdeal)
    ∧ quiescent_ProjBwd (hProjBwd := hProjBwd)
    ∧ quiescent_ProjBwdIdeal (hProjBwdIdeal := hProjBwdIdeal)
    ∧ quiescent_ProjBwdRefIdeal (hProjBwdRefIdeal := hProjBwdRefIdeal)
    ∧ preserves_Loss_LossIdeal
    ∧ algebraic_LossIdeal_LossRefIdeal (hLossIdeal := hLossIdeal) (hLossRefIdeal := hLossRefIdeal)
    ∧ preserves_Stick_StickIdeal
    ∧ algebraic_StickIdeal_StickRefIdeal_pre_stick_finite (hStickIdeal := hStickIdeal) (hStickRefIdeal := hStickRefIdeal) (hPre_stick_finite := hPre_stick_finite)
    ∧ preserves_Ada_AdaIdeal
    ∧ algebraic_AdaIdeal_AdaRefIdeal (hAdaIdeal := hAdaIdeal) (hAdaRefIdeal := hAdaRefIdeal)
    ∧ preserves_Gate_GateIdeal
    ∧ algebraic_GateIdeal_GateRefIdeal (hGateIdeal := hGateIdeal) (hGateRefIdeal := hGateRefIdeal)
    ∧ preserves_StickFwd_StickFwdIdeal
    ∧ algebraic_StickFwdIdeal_StickFwdRefIdeal_pre_stick_fwd_finite (hStickFwdIdeal := hStickFwdIdeal) (hStickFwdRefIdeal := hStickFwdRefIdeal) (hPre_stick_fwd_finite := hPre_stick_fwd_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_GateFwd_GateFwdIdeal
    ∧ algebraic_GateFwdIdeal_GateFwdRefIdeal (hGateFwdIdeal := hGateFwdIdeal) (hGateFwdRefIdeal := hGateFwdRefIdeal)
    ∧ preserves_AdaFwd_AdaFwdIdeal
    ∧ algebraic_AdaFwdIdeal_AdaFwdRefIdeal (hAdaFwdIdeal := hAdaFwdIdeal) (hAdaFwdRefIdeal := hAdaFwdRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_ProjFwd_ProjFwdIdeal
    ∧ algebraic_ProjFwdIdeal_ProjFwdRefIdeal (hProjFwdIdeal := hProjFwdIdeal) (hProjFwdRefIdeal := hProjFwdRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamAda_AdamAdaIdeal
    ∧ algebraic_AdamAdaIdeal_AdamAdaRefIdeal (hAdamAdaIdeal := hAdamAdaIdeal) (hAdamAdaRefIdeal := hAdamAdaRefIdeal)
    ∧ preserves_SumSlots_SumSlotsIdeal
    ∧ algebraic_SumSlotsIdeal_SumSlotsRefIdeal (hSumSlotsIdeal := hSumSlotsIdeal) (hSumSlotsRefIdeal := hSumSlotsRefIdeal)
    ∧ preserves_SumSmall_SumSmallIdeal
    ∧ algebraic_SumSmallIdeal_SumSmallRefIdeal (hSumSmallIdeal := hSumSmallIdeal) (hSumSmallRefIdeal := hSumSmallRefIdeal)
    ∧ preserves_AdamLayer_AdamLayerIdeal
    ∧ algebraic_AdamLayerIdeal_AdamLayerRefIdeal (hAdamLayerIdeal := hAdamLayerIdeal) (hAdamLayerRefIdeal := hAdamLayerRefIdeal)
    ∧ preserves_Tn_TnIdeal
    ∧ algebraic_TnIdeal_TnRefIdeal (hTnIdeal := hTnIdeal) (hTnRefIdeal := hTnRefIdeal)
    ∧ preserves_EvenFwd_EvenFwdIdeal
    ∧ algebraic_EvenFwdIdeal_EvenFwdRefIdeal (hEvenFwdIdeal := hEvenFwdIdeal) (hEvenFwdRefIdeal := hEvenFwdRefIdeal)
    ∧ preserves_ProjBwd_ProjBwdIdeal
    ∧ algebraic_ProjBwdIdeal_ProjBwdRefIdeal (hProjBwdIdeal := hProjBwdIdeal) (hProjBwdRefIdeal := hProjBwdRefIdeal)
-- ==== Pre_ffn_finite.lean ====
abbrev S4096x1024 : Shape := ⟨2, ![4096, 1024]⟩
abbrev S6x1024 : Shape := ⟨2, ![6, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S6x1024 : S_.BroadcastsInDim S6x1024 (![] : Fin 0 → Fin S6x1024.rank)
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn_part1 {F : FTy → Type} [FloatOps F] (main_arg7 : FVec F S4096x1024 .f32) (main_v2 : IVec S4096x1024 1) (main_v5 : IVec S6x1024 1) (main_v8 : IVec S1024 1) (main_v11 : IVec S1024x2816 1) (main_v14 : IVec S1024x2816 1) (main_v17 : IVec S2816x1024 1) : IVec S4096x1024 1 × IVec S6x1024 1 × IVec S1024 1 × IVec S1024x2816 1 × IVec S1024x2816 1 × IVec S2816x1024 1 × IVec S4096x1024 1 :=
  let main_v18 : FVec F S4096x1024 .f32 := Host.absf main_arg7
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  (main_v2, main_v5, main_v8, main_v11, main_v14, main_v17, main_v20)

def fn {F : FTy → Type} [FloatOps F] (main_arg0 : FVec F S4096x1024 .f32) (main_arg1 : FVec F S6x1024 .f32) (main_arg2 : FVec F S1024 .f32) (main_arg3 : FVec F S1024 .f32) (main_arg4 : FVec F S1024x2816 .f32) (main_arg5 : FVec F S1024x2816 .f32) (main_arg6 : FVec F S2816x1024 .f32) (main_arg7 : FVec F S4096x1024 .f32) : IVec S4096x1024 1 × IVec S6x1024 1 × IVec S1024 1 × IVec S1024x2816 1 × IVec S1024x2816 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S6x1024 .f32 := Host.absf main_arg1
  let main_cst_0 : FVec F S_ .f32 := constant S_ .f32 0x7F800000#32
  let main_v4 : FVec F S6x1024 .f32 := broadcastInDim S6x1024 ![] bcast_S_S6x1024 main_cst_0
  let main_v5 : IVec S6x1024 1 := cmpf .olt main_v3 main_v4
  let main_v6 : FVec F S1024 .f32 := Host.absf main_arg3
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x2816 .f32 := Host.absf main_arg4
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S1024x2816 .f32 := Host.absf main_arg5
  let main_cst_3 : FVec F S_ .f32 := constant S_ .f32 0x7F800000#32
  let main_v13 : FVec F S1024x2816 .f32 := broadcastInDim S1024x2816 ![] bcast_S_S1024x2816 main_cst_3
  let main_v14 : IVec S1024x2816 1 := cmpf .olt main_v12 main_v13
  let main_v15 : FVec F S2816x1024 .f32 := Host.absf main_arg6
  let main_cst_4 : FVec F S_ .f32 := constant S_ .f32 0x7F800000#32
  let main_v16 : FVec F S2816x1024 .f32 := broadcastInDim S2816x1024 ![] bcast_S_S2816x1024 main_cst_4
  let main_v17 : IVec S2816x1024 1 := cmpf .olt main_v15 main_v16
  fn_part1 (F := F) main_arg7 main_v2 main_v5 main_v8 main_v11 main_v14 main_v17
-- ==== Pre_stick_finite.lean ====
abbrev S4096x3072 : Shape := ⟨2, ![4096, 3072]⟩
abbrev S4096x1024 : Shape := ⟨2, ![4096, 1024]⟩
abbrev S_ : Shape := ⟨0, ![]⟩

class Facts : Prop where
  bcast_S_S4096x3072 : S_.BroadcastsInDim S4096x3072 (![] : Fin 0 → Fin S4096x3072.rank)
  bcast_S_S4096x1024 : S_.BroadcastsInDim S4096x1024 (![] : Fin 0 → Fin S4096x1024.rank)

variable [Facts]

def fn {F : FTy → Type} [FloatOps F] (main_arg0 : FVec F S4096x3072 .f32) (main_arg1 : FVec F S4096x1024 .f32) : IVec S4096x3072 1 × IVec S4096x1024 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  (main_v2, main_v5)
-- ==== Pre_stick_fwd_finite.lean ====
abbrev S4096x3072 : Shape := ⟨2, ![4096, 3072]⟩
abbrev S_ : Shape := ⟨0, ![]⟩

class Facts : Prop where
  bcast_S_S4096x3072 : S_.BroadcastsInDim S4096x3072 (![] : Fin 0 → Fin S4096x3072.rank)

variable [Facts]

def fn {F : FTy → Type} [FloatOps F] (main_arg0 : FVec F S4096x3072 .f32) : IVec S4096x3072 1 :=
  let main_v0 : FVec F S4096x3072 .f32 := Host.absf main_arg0
  let main_cst : FVec F S_ .f32 := constant S_ .f32 0x7F800000#32
  let main_v1 : FVec F S4096x3072 .f32 := broadcastInDim S4096x3072 ![] bcast_S_S4096x3072 main_cst
  let main_v2 : IVec S4096x3072 1 := cmpf .olt main_v0 main_v1
  main_v2
-- ==== Loss.lean ====
abbrev S4096x1024 : Shape := ⟨2, ![4096, 1024]⟩
abbrev S1x1 : Shape := ⟨2, ![1, 1]⟩
abbrev S256x1024 : Shape := ⟨2, ![256, 1024]⟩
abbrev S256 : Shape := ⟨1, ![256]⟩
abbrev S256x1 : Shape := ⟨2, ![256, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1x1, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S4096x1024 : Shape := ⟨2, ![4096, 1024]⟩
abbrev S_ : Shape := ⟨0, ![]⟩
abbrev S4096 : Shape := ⟨1, ![4096]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S1x1, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Stick.lean ====
abbrev S4096x3072 : Shape := ⟨2, ![4096, 3072]⟩
abbrev S4096x1024 : Shape := ⟨2, ![4096, 1024]⟩
abbrev S1x4096x8x128 : Shape := ⟨4, ![1, 4096, 8, 128]⟩
abbrev S1x8x4096x128 : Shape := ⟨4, ![1, 8, 4096, 128]⟩
abbrev S1x8x4096x4096 : Shape := ⟨4, ![1, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x8x4096 : Shape := ⟨3, ![1, 8, 4096]⟩
abbrev S8x4096x1 : Shape := ⟨3, ![8, 4096, 1]⟩
abbrev S512x128 : Shape := ⟨2, ![512, 128]⟩
abbrev S4096x128 : Shape := ⟨2, ![4096, 128]⟩
abbrev S1x512x1 : Shape := ⟨3, ![1, 512, 1]⟩
abbrev S512x1 : Shape := ⟨2, ![512, 1]⟩
abbrev S256x256 : Shape := ⟨2, ![256, 256]⟩
abbrev S512x512 : Shape := ⟨2, ![512, 512]⟩
abbrev S512x256 : Shape := ⟨2, ![512, 256]⟩
abbrev S512 : Shape := ⟨1, ![512]⟩
abbrev S256x128 : Shape := ⟨2, ![256, 128]⟩
abbrev S256x1 : Shape := ⟨2, ![256, 1]⟩
abbrev S1x256x1 : Shape := ⟨3, ![1, 256, 1]⟩
abbrev S256 : Shape := ⟨1, ![256]⟩

abbrev nBuf : Space → Nat
  | .hbm => 49
  | .vmem => 18
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S4096x1024, .f32⟩
  | .hbm, ⟨5, _⟩ => ⟨S1x4096x8x128, .f32⟩
  | .hbm, ⟨6, _⟩ => ⟨S1x8x4096x128, .f32⟩
  | .hbm, ⟨7, _⟩ => ⟨S1x4096x8x128, .f32⟩
  | .hbm, ⟨8, _⟩ => ⟨S1x8x4096x128, .f32⟩
  | .hbm, ⟨9, _⟩ => ⟨S1x8x4096x4096, .f32⟩
  | .hbm, ⟨10, _⟩ => ⟨S_, .f32⟩
  | .hbm, ⟨11, _⟩ => ⟨S1x8x4096x4096, .f32⟩
  | .hbm, ⟨12, _⟩ => ⟨S1x8x4096x4096, .f32⟩
  | .hbm, ⟨13, _⟩ => ⟨S4096, .i32⟩
  | .hbm, ⟨14, _⟩ => ⟨S1x4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S1x8x4096x4096, .f32⟩
  | .hbm, ⟨20, _⟩ => ⟨S1x8x4096x4096, .f32⟩
  | .hbm, ⟨21, _⟩ => ⟨S_, .f32⟩
  | .hbm, ⟨22, _⟩ => ⟨S1x8x4096x4096, .f32⟩
  | .hbm, ⟨23, _⟩ => ⟨S1x8x4096x4096, .f32⟩
  | .hbm, ⟨24, _⟩ => ⟨S1x8x4096x4096, .f32⟩
  | .hbm, ⟨25, _⟩ => ⟨S1x8x4096x4096, .f32⟩
  | .hbm, ⟨26, _⟩ => ⟨S1x8x4096x4096, .i1⟩
  | .hbm, ⟨27, _⟩ => ⟨S1x8x4096x4096, .f32⟩
  | .hbm, ⟨28, _⟩ => ⟨S1x8x4096x4096, .f32⟩
  | .hbm, ⟨29, _⟩ => ⟨S1x8x4096x4096, .f32⟩
  | .hbm, ⟨30, _⟩ => ⟨S1x8x4096x4096, .f32⟩
  | .hbm, ⟨31, _⟩ => ⟨S1x8x4096x4096, .f32⟩
  | .hbm, ⟨32, _⟩ => ⟨S1x8x4096x4096, .f32⟩
  | .hbm, ⟨33, _⟩ => ⟨S1x8x4096x4096, .f32⟩
  | .hbm, ⟨34, _⟩ => ⟨S1x8x4096x4096, .f32⟩
  | .hbm, ⟨35, _⟩ => ⟨S1x8x4096x4096, .f32⟩
  | .hbm, ⟨36, _⟩ => ⟨S_, .f32⟩
  | .hbm, ⟨37, _⟩ => ⟨S_, .f32⟩
  | .hbm, ⟨38, _⟩ => ⟨S1x8x4096x4096, .i1⟩
  | .hbm, ⟨39, _⟩ => ⟨S1x8x4096x4096, .f32⟩
  | .hbm, ⟨40, _⟩ => ⟨S1x8x4096x4096, .f32⟩
  | .hbm, ⟨41, _⟩ => ⟨S_, .f32⟩
  | .hbm, ⟨42, _⟩ => ⟨S1x8x4096, .f32⟩
  | .hbm, ⟨43, _⟩ => ⟨S8x4096x1, .f32⟩
  | .hbm, ⟨44, _⟩ => ⟨S4096x3072, .bf16⟩
  | .hbm, ⟨45, _⟩ => ⟨S4096x1024, .bf16⟩
  | .hbm, ⟨46, _⟩ => ⟨S4096x1024, .f32⟩
  | .hbm, ⟨47, _⟩ => ⟨S4096x1024, .f32⟩
  | .hbm, ⟨48, _⟩ => ⟨S4096x1024, .f32⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .bf16⟩
  | .local _ .vmem, ⟨7, _⟩ => ⟨S512x128, .bf16⟩
  | .local _ .vmem, ⟨8, _⟩ => ⟨S1x512x1, .f32⟩
  | .local _ .vmem, ⟨9, _⟩ => ⟨S1x512x1, .f32⟩
  | .local _ .vmem, ⟨10, _⟩ => ⟨S512x128, .f32⟩
  | .local _ .vmem, ⟨11, _⟩ => ⟨S512x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S4096x128, .f32⟩
  | .local _ .vmem, ⟨16, _⟩ => ⟨S512x1, .f32⟩
  | .local _ .vmem, ⟨17, _⟩ => ⟨S512x1, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v17 : Ref sig .tc := ⟨.hbm, 35, rfl⟩
abbrev main_cst_0 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v18 : Ref sig .tc := ⟨.hbm, 40, rfl⟩
abbrev main_cst_1 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23_0 : Ref sig .tc := ⟨.hbm, 46, rfl⟩
abbrev main_v23_1 : Ref sig .tc := ⟨.hbm, 47, rfl⟩
abbrev main_v23_2 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![8, 8], ![false, false]⟩

@[reducible] def k0_t1_loop (i : grid0.Coords) : Scf.Loop 32 :=
  let c0_i32_9 : BitVec 32 := 0#32
  let arg1 : BitVec 32 := BitVec.ofNat 32 (i 1).val
  let c1_i32 : BitVec 32 := 1#32
  let v26 : BitVec 32 := Scalar.muli arg1 c1_i32
  let v27 : BitVec 32 := Scalar.subi v26 c0_i32_9
  let c1_i32_10 : BitVec 32 := 1#32
  let v29 : BitVec 32 := Scalar.divsi v27 c1_i32_10
  let v30 : BitVec 32 := Scalar.muli v29 c1_i32_10
  let v31 : BitVec 32 := Scalar.addi c0_i32_9 v30
  let c1_i32_11 : BitVec 32 := 1#32
  ⟨c0_i32_9, v31, c1_i32_11⟩
def k0_mult1 (i : grid0.Coords) (k0_t1 : Fin (k0_t1_loop i).trips) : BitVec 32 :=
  let c0_i32_9 : BitVec 32 := 0#32
  let c1_i32_11 : BitVec 32 := 1#32
  let arg12 : BitVec 32 := Scf.iv c0_i32_9 c1_i32_11 k0_t1
  let c512_i32_111 : BitVec 32 := 512#32
  let v252 : BitVec 32 := Scalar.muli arg12 c512_i32_111
  v252
def k0_off1 (i : grid0.Coords) (k0_t1 : Fin (k0_t1_loop i).trips) : Fin 2 → Nat :=
  let c0_i32_9 : BitVec 32 := 0#32
  let c1_i32_11 : BitVec 32 := 1#32
  let arg12 : BitVec 32 := Scf.iv c0_i32_9 c1_i32_11 k0_t1
  let c512_i32_111 : BitVec 32 := 512#32
  let v252 : BitVec 32 := Scalar.muli arg12 c512_i32_111
  let v253 : BitVec 32 := v252
  let v254 : Index := Scalar.indexCast v253
  let c0_112 : Index := 0#32
  ![v254.toNat, 0]
@[reducible] def k0_t2_loop (i : grid0.Coords) : Scf.Loop 32 :=
  let c0_i32_9 : BitVec 32 := 0#32
  let arg1 : BitVec 32 := BitVec.ofNat 32 (i 1).val
  let c1_i32 : BitVec 32 := 1#32
  let v26 : BitVec 32 := Scalar.muli arg1 c1_i32
  let v27 : BitVec 32 := Scalar.subi v26 c0_i32_9
  let c1_i32_10 : BitVec 32 := 1#32
  let v29 : BitVec 32 := Scalar.divsi v27 c1_i32_10
  let v30 : BitVec 32 := Scalar.muli v29 c1_i32_10
  let v31 : BitVec 32 := Scalar.addi c0_i32_9 v30
  let v28 : BitVec 32 := Scalar.addi c0_i32_9 v27
  let c1_i32_12 : BitVec 32 := 1#32
  ⟨v31, v28, c1_i32_12⟩
def k0_mult2 (i : grid0.Coords) (k0_t2 : Fin (k0_t2_loop i).trips) : BitVec 32 :=
  let c0_i32_9 : BitVec 32 := 0#32
  let arg1 : BitVec 32 := BitVec.ofNat 32 (i 1).val
  let c1_i32 : BitVec 32 := 1#32
  let v26 : BitVec 32 := Scalar.muli arg1 c1_i32
  let v27 : BitVec 32 := Scalar.subi v26 c0_i32_9
  let c1_i32_10 : BitVec 32 := 1#32
  let v29 : BitVec 32 := Scalar.divsi v27 c1_i32_10
  let v30 : BitVec 32 := Scalar.muli v29 c1_i32_10
  let v31 : BitVec 32 := Scalar.addi c0_i32_9 v30
  let c1_i32_12 : BitVec 32 := 1#32
  let arg12 : BitVec 32 := Scf.iv v31 c1_i32_12 k0_t2
  let c512_i32_111 : BitVec 32 := 512#32
  let v252 : BitVec 32 := Scalar.muli arg12 c512_i32_111
  v252
def k0_off2 (i : grid0.Coords) (k0_t2 : Fin (k0_t2_loop i).trips) : Fin 2 → Nat :=
  let c0_i32_9 : BitVec 32 := 0#32
  let arg1 : BitVec 32 := BitVec.ofNat 32 (i 1).val
  let c1_i32 : BitVec 32 := 1#32
  let v26 : BitVec 32 := Scalar.muli arg1 c1_i32
  let v27 : BitVec 32 := Scalar.subi v26 c0_i32_9
  let c1_i32_10 : BitVec 32 := 1#32
  let v29 : BitVec 32 := Scalar.divsi v27 c1_i32_10
  let v30 : BitVec 32 := Scalar.muli v29 c1_i32_10
  let v31 : BitVec 32 := Scalar.addi c0_i32_9 v30
  let c1_i32_12 : BitVec 32 := 1#32
  let arg12 : BitVec 32 := Scf.iv v31 c1_i32_12 k0_t2
  let c512_i32_111 : BitVec 32 := 512#32
  let v252 : BitVec 32 := Scalar.muli arg12 c512_i32_111
  let v253 : BitVec 32 := v252
  let v254 : Index := Scalar.indexCast v253
  let c0_112 : Index := 0#32
  ![v254.toNat, 0]
def k0_mult3 (i : grid0.Coords) : BitVec 32 :=
  let arg1 : BitVec 32 := BitVec.ofNat 32 (i 1).val
  let c512_i32 : BitVec 32 := 512#32
  let v3 : BitVec 32 := Scalar.muli arg1 c512_i32
  let c0_i32_13 : BitVec 32 := 0#32
  let v32 : BitVec 32 := Scalar.addi v3 c0_i32_13
  v32
def k0_off3 (i : grid0.Coords) (c0_i32_13 : BitVec 32) : Fin 2 → Nat :=
  let arg1 : BitVec 32 := BitVec.ofNat 32 (i 1).val
  let c512_i32 : BitVec 32 := 512#32
  let v3 : BitVec 32 := Scalar.muli arg1 c512_i32
  let v32 : BitVec 32 := Scalar.addi v3 c0_i32_13
  let v33 : BitVec 32 := v32
  let v42 : Index := Scalar.indexCast v33
  let c0_15 : Index := 0#32
  ![v42.toNat, 0]
def k0_mult4 (i : grid0.Coords) : BitVec 32 :=
  let arg1 : BitVec 32 := BitVec.ofNat 32 (i 1).val
  let c512_i32 : BitVec 32 := 512#32
  let v3 : BitVec 32 := Scalar.muli arg1 c512_i32
  let c256_i32 : BitVec 32 := 256#32
  let v142 : BitVec 32 := Scalar.addi v3 c256_i32
  v142
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== StickRefIdeal.lean ====
abbrev S4096x3072 : Shape := ⟨2, ![4096, 3072]⟩
abbrev S4096x1024 : Shape := ⟨2, ![4096, 1024]⟩
abbrev S1x4096x8x128 : Shape := ⟨4, ![1, 4096, 8, 128]⟩
abbrev S1x8x4096x128 : Shape := ⟨4, ![1, 8, 4096, 128]⟩
abbrev S1x8x4096x4096 : Shape := ⟨4, ![1, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x8x128x4096 : Shape := ⟨4, ![1, 8, 128, 4096]⟩

abbrev nBuf : Space → Nat
  | .hbm => 177
  | .vmem => 0
  | .smem => 0
  | _ => 0

abbrev hbmTy0_0 (i : Nat) : BufTy := match i % 128 with
  | 0 => ⟨S4096x3072, .f32⟩
  | 1 => ⟨S4096x1024, .f32⟩
  | 2 => ⟨S4096x1024, .f32⟩
  | 3 => ⟨S4096x1024, .f32⟩
  | 4 => ⟨S4096x1024, .f32⟩
  | 5 => ⟨S1x4096x8x128, .f32⟩
  | 6 => ⟨S1x8x4096x128, .f32⟩
  | 7 => ⟨S1x4096x8x128, .f32⟩
  | 8 => ⟨S1x8x4096x128, .f32⟩
  | 9 => ⟨S1x4096x8x128, .f32⟩
  | 10 => ⟨S1x8x4096x128, .f32⟩
  | 11 => ⟨S1x8x4096x4096, .f32⟩
  | 12 => ⟨S_, .f32⟩
  | 13 => ⟨S1x8x4096x4096, .f32⟩
  | 14 => ⟨S1x8x4096x4096, .f32⟩
  | 15 => ⟨S4096, .i32⟩
  | 16 => ⟨S1x4096, .i32⟩
  | 17 => ⟨S4096x1, .i32⟩
  | 18 => ⟨S4096x4096, .i32⟩
  | 19 => ⟨S4096x4096, .i32⟩
  | 20 => ⟨S4096x4096, .i1⟩
  | 21 => ⟨S1x8x4096x4096, .f32⟩
  | 22 => ⟨S_, .f32⟩
  | 23 => ⟨S1x8x4096x4096, .f32⟩
  | 24 => ⟨S1x8x4096x4096, .f32⟩
  | 25 => ⟨S1x8x4096x4096, .f32⟩
  | 26 => ⟨S1x8x4096x4096, .f32⟩
  | 27 => ⟨S1x8x4096x4096, .i1⟩
  | 28 => ⟨S1x8x4096x4096, .f32⟩
  | 29 => ⟨S1x8x4096x4096, .f32⟩
  | 30 => ⟨S1x8x4096x4096, .f32⟩
  | 31 => ⟨S1x8x4096x4096, .f32⟩
  | 32 => ⟨S1x8x4096x4096, .f32⟩
  | 33 => ⟨S1x8x4096x4096, .f32⟩
  | 34 => ⟨S1x8x4096x4096, .f32⟩
  | 35 => ⟨S1x8x4096x4096, .f32⟩
  | 36 => ⟨S_, .f32⟩
  | 37 => ⟨S1x8x4096x4096, .f32⟩
  | 38 => ⟨S1x8x4096x4096, .i1⟩
  | 39 => ⟨S_, .f32⟩
  | 40 => ⟨S1x8x4096x4096, .f32⟩
  | 41 => ⟨S1x8x4096x4096, .f32⟩
  | 42 => ⟨S_, .f32⟩
  | 43 => ⟨S1x8x4096x4096, .f32⟩
  | 44 => ⟨S1x8x4096x4096, .i1⟩
  | 45 => ⟨S_, .f32⟩
  | 46 => ⟨S1x8x4096x4096, .f32⟩
  | 47 => ⟨S1x8x4096x4096, .f32⟩
  | 48 => ⟨S1x8x4096x4096, .f32⟩
  | 49 => ⟨S1x8x4096x4096, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S1x8x4096x4096, .f32⟩
  | 58 => ⟨S1x8x4096x4096, .i1⟩
  | 59 => ⟨S_, .f32⟩
  | 60 => ⟨S1x8x4096x4096, .f32⟩
  | 61 => ⟨S1x8x4096x4096, .f32⟩
  | 62 => ⟨S1x8x4096x4096, .f32⟩
  | 63 => ⟨S1x8x4096x4096, .f32⟩
  | 64 => ⟨S1x8x4096x4096, .f32⟩
  | 65 => ⟨S_, .f32⟩
  | 66 => ⟨S1x8x4096x4096, .f32⟩
  | 67 => ⟨S1x8x4096x4096, .f32⟩
  | 68 => ⟨S1x8x4096x4096, .f32⟩
  | 69 => ⟨S1x8x4096x4096, .f32⟩
  | 70 => ⟨S1x8x4096x4096, .f32⟩
  | 71 => ⟨S_, .f32⟩
  | 72 => ⟨S1x8x4096x4096, .f32⟩
  | 73 => ⟨S1x8x4096x4096, .f32⟩
  | 74 => ⟨S1x8x4096x4096, .f32⟩
  | 75 => ⟨S1x8x4096x4096, .f32⟩
  | 76 => ⟨S1x8x4096x4096, .i1⟩
  | 77 => ⟨S1x8x4096x4096, .f32⟩
  | 78 => ⟨S1x8x4096x4096, .f32⟩
  | 79 => ⟨S1x8x4096x4096, .f32⟩
  | 80 => ⟨S1x8x4096x4096, .f32⟩
  | 81 => ⟨S1x8x4096x4096, .f32⟩
  | 82 => ⟨S1x8x4096x4096, .f32⟩
  | 83 => ⟨S1x8x4096x4096, .f32⟩
  | 84 => ⟨S1x8x4096x4096, .f32⟩
  | 85 => ⟨S_, .f32⟩
  | 86 => ⟨S1x8x4096x4096, .f32⟩
  | 87 => ⟨S1x8x4096x4096, .i1⟩
  | 88 => ⟨S_, .f32⟩
  | 89 => ⟨S1x8x4096x4096, .f32⟩
  | 90 => ⟨S1x8x4096x4096, .f32⟩
  | 91 => ⟨S_, .f32⟩
  | 92 => ⟨S1x8x4096x4096, .f32⟩
  | 93 => ⟨S1x8x4096x4096, .i1⟩
  | 94 => ⟨S_, .f32⟩
  | 95 => ⟨S1x8x4096x4096, .f32⟩
  | 96 => ⟨S1x8x4096x4096, .f32⟩
  | 97 => ⟨S1x8x4096x4096, .f32⟩
  | 98 => ⟨S1x8x4096x4096, .f32⟩
  | 99 => ⟨S_, .f32⟩
  | 100 => ⟨S_, .f32⟩
  | 101 => ⟨S_, .i1⟩
  | 102 => ⟨S_, .f32⟩
  | 103 => ⟨S_, .f32⟩
  | 104 => ⟨S_, .f32⟩
  | 105 => ⟨S_, .f32⟩
  | 106 => ⟨S1x8x4096x4096, .f32⟩
  | 107 => ⟨S1x8x4096x4096, .i1⟩
  | 108 => ⟨S_, .f32⟩
  | 109 => ⟨S1x8x4096x4096, .f32⟩
  | 110 => ⟨S1x8x4096x4096, .f32⟩
  | 111 => ⟨S1x8x4096x4096, .f32⟩
  | 112 => ⟨S1x8x4096x4096, .f32⟩
  | 113 => ⟨S1x8x4096x4096, .f32⟩
  | 114 => ⟨S_, .f32⟩
  | 115 => ⟨S1x8x4096x4096, .f32⟩
  | 116 => ⟨S1x8x4096x4096, .f32⟩
  | 117 => ⟨S1x8x4096x4096, .f32⟩
  | 118 => ⟨S_, .f32⟩
  | 119 => ⟨S_, .f32⟩
  | 120 => ⟨S1x8x4096x4096, .i1⟩
  | 121 => ⟨S1x8x4096x4096, .f32⟩
  | 122 => ⟨S1x8x4096x4096, .f32⟩
  | 123 => ⟨S_, .f32⟩
  | 124 => ⟨S1x8x4096x4096, .f32⟩
  | 125 => ⟨S_, .f32⟩
  | 126 => ⟨S_, .f32⟩
  | 127 => ⟨S1x8x4096x4096, .f32⟩
  | _ => ⟨S4096x3072, .f32⟩

abbrev hbmTy0_1 (i : Nat) : BufTy := match i % 128 with
  | 0 => ⟨S1x8x4096x4096, .f32⟩
  | 1 => ⟨S1x8x4096x4096, .f32⟩
  | 2 => ⟨S1x8x4096x4096, .f32⟩
  | 3 => ⟨S_, .f32⟩
  | 4 => ⟨S_, .f32⟩
  | 5 => ⟨S1x8x4096x4096, .i1⟩
  | 6 => ⟨S1x8x4096x4096, .f32⟩
  | 7 => ⟨S1x8x4096x4096, .f32⟩
  | 8 => ⟨S_, .f32⟩
  | 9 => ⟨S1x8x4096x4096, .f32⟩
  | 10 => ⟨S1x8x4096x128, .f32⟩
  | 11 => ⟨S1x4096x8x128, .f32⟩
  | 12 => ⟨S4096x1024, .f32⟩
  | 13 => ⟨S1x4096x8x128, .f32⟩
  | 14 => ⟨S1x8x4096x128, .f32⟩
  | 15 => ⟨S1x8x128x4096, .f32⟩
  | 16 => ⟨S1x8x4096x128, .f32⟩
  | 17 => ⟨S1x8x4096x4096, .f32⟩
  | 18 => ⟨S_, .f32⟩
  | 19 => ⟨S1x8x4096x4096, .f32⟩
  | 20 => ⟨S1x8x4096x4096, .f32⟩
  | 21 => ⟨S1x8x4096x4096, .f32⟩
  | 22 => ⟨S1x8x4096x4096, .f32⟩
  | 23 => ⟨S_, .f32⟩
  | 24 => ⟨S_, .f32⟩
  | 25 => ⟨S1x8x4096x4096, .f32⟩
  | 26 => ⟨S1x8x4096x4096, .f32⟩
  | 27 => ⟨S_, .f32⟩
  | 28 => ⟨S1x8x4096x4096, .f32⟩
  | 29 => ⟨S1x8x4096x4096, .f32⟩
  | 30 => ⟨S1x8x4096x4096, .f32⟩
  | 31 => ⟨S1x8x4096x4096, .f32⟩
  | 32 => ⟨S1x8x4096x4096, .f32⟩
  | 33 => ⟨S1x8x4096x4096, .f32⟩
  | 34 => ⟨S1x8x4096x4096, .f32⟩
  | 35 => ⟨S1x8x4096x4096, .f32⟩
  | 36 => ⟨S1x8x4096x4096, .f32⟩
  | 37 => ⟨S1x8x4096x4096, .f32⟩
  | 38 => ⟨S_, .f32⟩
  | 39 => ⟨S1x8x4096x4096, .f32⟩
  | 40 => ⟨S1x8x4096x4096, .f32⟩
  | 41 => ⟨S1x8x4096x128, .f32⟩
  | 42 => ⟨S1x8x4096x128, .f32⟩
  | 43 => ⟨S1x4096x8x128, .f32⟩
  | 44 => ⟨S4096x1024, .f32⟩
  | 45 => ⟨S1x4096x8x128, .f32⟩
  | 46 => ⟨S4096x1024, .f32⟩
  | 47 => ⟨S1x4096x8x128, .f32⟩
  | 48 => ⟨S4096x1024, .f32⟩
  | _ => ⟨S4096x3072, .f32⟩

abbrev hbmTy (i : Nat) : BufTy := match i / 128 with
  | 0 => hbmTy0_0 i
  | 1 => hbmTy0_1 i
  | _ => ⟨S4096x3072, .f32⟩

abbrev bufTy : (tb : Table) → Fin (tcTables nBuf tb) → BufTy
  | .hbm, ⟨i, _⟩ => hbmTy i
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v18_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v18_2 : Ref sig .tc := ⟨.hbm, 67, rfl⟩
abbrev main_v18_0 : Ref sig .tc := ⟨.hbm, 68, rfl⟩
abbrev main_v19 : Ref sig .tc := ⟨.hbm, 69, rfl⟩
abbrev main_call1_v0 : Ref sig .tc := ⟨.hbm, 70, rfl⟩
abbrev main_call1_call0_cst : Ref sig .tc := ⟨.hbm, 71, rfl⟩
abbrev main_call1_call0_v0 : Ref sig .tc := ⟨.hbm, 72, rfl⟩
abbrev main_call1_call0_v1 : Ref sig .tc := ⟨.hbm, 73, rfl⟩
abbrev main_call1_call0_v2 : Ref sig .tc := ⟨.hbm, 74, rfl⟩
abbrev main_call1_call0_v3 : Ref sig .tc := ⟨.hbm, 75, rfl⟩
abbrev main_call1_call0_v4 : Ref sig .tc := ⟨.hbm, 76, rfl⟩
abbrev main_call1_call0_v5 : Ref sig .tc := ⟨.hbm, 77, rfl⟩
abbrev main_call1_call0_v6 : Ref sig .tc := ⟨.hbm, 78, rfl⟩
abbrev main_call1_call0_v7 : Ref sig .tc := ⟨.hbm, 79, rfl⟩
abbrev main_call1_call0_v8 : Ref sig .tc := ⟨.hbm, 80, rfl⟩
abbrev main_call1_call0_v9 : Ref sig .tc := ⟨.hbm, 81, rfl⟩
abbrev main_call1_call0_v10 : Ref sig .tc := ⟨.hbm, 82, rfl⟩
abbrev main_call1_call0_v11 : Ref sig .tc := ⟨.hbm, 83, rfl⟩
abbrev main_call1_v1_0 : Ref sig .tc := ⟨.hbm, 84, rfl⟩
abbrev main_call1_call0_cst_0 : Ref sig .tc := ⟨.hbm, 85, rfl⟩
abbrev main_call1_call0_v13 : Ref sig .tc := ⟨.hbm, 86, rfl⟩
abbrev main_call1_call0_v14 : Ref sig .tc := ⟨.hbm, 87, rfl⟩
abbrev main_call1_call0_cst_1 : Ref sig .tc := ⟨.hbm, 88, rfl⟩
abbrev main_call1_call0_v15 : Ref sig .tc := ⟨.hbm, 89, rfl⟩
abbrev main_call1_call0_v16 : Ref sig .tc := ⟨.hbm, 90, rfl⟩
abbrev main_call1_call0_cst_2 : Ref sig .tc := ⟨.hbm, 91, rfl⟩
abbrev main_call1_call0_v17 : Ref sig .tc := ⟨.hbm, 92, rfl⟩
abbrev main_call1_call0_v18 : Ref sig .tc := ⟨.hbm, 93, rfl⟩
abbrev main_call1_call0_cst_3 : Ref sig .tc := ⟨.hbm, 94, rfl⟩
abbrev main_call1_call0_v19 : Ref sig .tc := ⟨.hbm, 95, rfl⟩
abbrev main_call1_call0_v20 : Ref sig .tc := ⟨.hbm, 96, rfl⟩
abbrev main_call1_call0_v21 : Ref sig .tc := ⟨.hbm, 97, rfl⟩
abbrev main_v20_1 : Ref sig .tc := ⟨.hbm, 98, rfl⟩
abbrev main_call1_call0_cst_4 : Ref sig .tc := ⟨.hbm, 99, rfl⟩
abbrev main_call1_call0_cst_5 : Ref sig .tc := ⟨.hbm, 100, rfl⟩
abbrev main_call1_call0_v23 : Ref sig .tc := ⟨.hbm, 101, rfl⟩
abbrev main_call1_call0_cst_6 : Ref sig .tc := ⟨.hbm, 102, rfl⟩
abbrev main_call1_call0_cst_7 : Ref sig .tc := ⟨.hbm, 103, rfl⟩
abbrev main_call1_call0_v24 : Ref sig .tc := ⟨.hbm, 104, rfl⟩
abbrev main_call1_call0_cst_8 : Ref sig .tc := ⟨.hbm, 105, rfl⟩
abbrev main_call1_call0_v25 : Ref sig .tc := ⟨.hbm, 106, rfl⟩
abbrev main_call1_call0_v26 : Ref sig .tc := ⟨.hbm, 107, rfl⟩
abbrev main_call1_call0_cst_9 : Ref sig .tc := ⟨.hbm, 108, rfl⟩
abbrev main_call1_call0_v27 : Ref sig .tc := ⟨.hbm, 109, rfl⟩
abbrev main_call1_call0_v28 : Ref sig .tc := ⟨.hbm, 110, rfl⟩
abbrev main_call1_call0_v29 : Ref sig .tc := ⟨.hbm, 111, rfl⟩
abbrev main_call1_call0_v30 : Ref sig .tc := ⟨.hbm, 112, rfl⟩
abbrev main_call1_call0_v31 : Ref sig .tc := ⟨.hbm, 113, rfl⟩
abbrev main_call1_call0_cst_10 : Ref sig .tc := ⟨.hbm, 114, rfl⟩
abbrev main_call1_call0_v32 : Ref sig .tc := ⟨.hbm, 115, rfl⟩
abbrev main_v20_2 : Ref sig .tc := ⟨.hbm, 116, rfl⟩
abbrev main_v20_0 : Ref sig .tc := ⟨.hbm, 117, rfl⟩
abbrev main_cst_0 : Ref sig .tc := ⟨.hbm, 118, rfl⟩
abbrev main_call2_v0 : Ref sig .tc := ⟨.hbm, 119, rfl⟩
abbrev main_v21_1 : Ref sig .tc := ⟨.hbm, 120, rfl⟩
abbrev main_call2_v2 : Ref sig .tc := ⟨.hbm, 121, rfl⟩
abbrev main_v21_0 : Ref sig .tc := ⟨.hbm, 122, rfl⟩
abbrev main_call2_cst : Ref sig .tc := ⟨.hbm, 123, rfl⟩
abbrev main_v21_2 : Ref sig .tc := ⟨.hbm, 124, rfl⟩
abbrev main_call3_cst : Ref sig .tc := ⟨.hbm, 125, rfl⟩
abbrev main_call3_v0 : Ref sig .tc := ⟨.hbm, 126, rfl⟩
abbrev main_v22 : Ref sig .tc := ⟨.hbm, 127, rfl⟩
abbrev main_v23 : Ref sig .tc := ⟨.hbm, 128, rfl⟩
abbrev main_v24 : Ref sig .tc := ⟨.hbm, 129, rfl⟩
abbrev main_v25 : Ref sig .tc := ⟨.hbm, 130, rfl⟩
abbrev main_cst_1 : Ref sig .tc := ⟨.hbm, 131, rfl⟩
abbrev main_call4_v0 : Ref sig .tc := ⟨.hbm, 132, rfl⟩
abbrev main_v26_1 : Ref sig .tc := ⟨.hbm, 133, rfl⟩
abbrev main_call4_v2 : Ref sig .tc := ⟨.hbm, 134, rfl⟩
abbrev main_v26_0 : Ref sig .tc := ⟨.hbm, 135, rfl⟩
abbrev main_call4_cst : Ref sig .tc := ⟨.hbm, 136, rfl⟩
abbrev main_v26_2 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_call5_cst : Ref sig .tc := ⟨.hbm, 146, rfl⟩
abbrev main_call5_v0 : Ref sig .tc := ⟨.hbm, 147, rfl⟩
abbrev main_v35 : Ref sig .tc := ⟨.hbm, 148, rfl⟩
abbrev main_v36 : Ref sig .tc := ⟨.hbm, 149, rfl⟩
abbrev main_v37 : Ref sig .tc := ⟨.hbm, 150, rfl⟩
abbrev main_call6_cst : Ref sig .tc := ⟨.hbm, 151, rfl⟩
abbrev main_call6_v0 : Ref sig .tc := ⟨.hbm, 152, rfl⟩
abbrev main_v38 : Ref sig .tc := ⟨.hbm, 153, rfl⟩
abbrev main_v39 : Ref sig .tc := ⟨.hbm, 154, rfl⟩
abbrev main_call7_cst : Ref sig .tc := ⟨.hbm, 155, rfl⟩
abbrev main_call7_v0 : Ref sig .tc := ⟨.hbm, 156, rfl⟩
abbrev main_v40 : Ref sig .tc := ⟨.hbm, 157, rfl⟩
abbrev main_call8_v0 : Ref sig .tc := ⟨.hbm, 158, rfl⟩
abbrev main_call8_v1 : Ref sig .tc := ⟨.hbm, 159, rfl⟩
abbrev main_v41 : Ref sig .tc := ⟨.hbm, 160, rfl⟩
abbrev main_v42 : Ref sig .tc := ⟨.hbm, 161, rfl⟩
abbrev main_call9_v0 : Ref sig .tc := ⟨.hbm, 162, rfl⟩
abbrev main_call9_v1 : Ref sig .tc := ⟨.hbm, 163, rfl⟩
abbrev main_v43 : Ref sig .tc := ⟨.hbm, 164, rfl⟩
abbrev main_v44 : Ref sig .tc := ⟨.hbm, 165, rfl⟩
abbrev main_cst_2 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩

abbrev nD : Nat := 1
abbrev τ : Topo := Topo.v7x

variable {F : FTy → Type} [FloatOps F]
-- ==== Ada.lean ====
abbrev S8x1024 : Shape := ⟨2, ![8, 1024]⟩
abbrev S4x1024x768 : Shape := ⟨3, ![4, 1024, 768]⟩
abbrev S4x768 : Shape := ⟨2, ![4, 768]⟩
abbrev S4x8x768 : Shape := ⟨3, ![4, 8, 768]⟩
abbrev S1024x8 : Shape := ⟨2, ![1024, 8]⟩
abbrev S1x8x768 : Shape := ⟨3, ![1, 8, 768]⟩
abbrev S1x1024x768 : Shape := ⟨3, ![1, 1024, 768]⟩
abbrev S8x768 : Shape := ⟨2, ![8, 768]⟩
abbrev S1024x1 : Shape := ⟨2, ![1024, 1]⟩
abbrev S1x768 : Shape := ⟨2, ![1, 768]⟩
abbrev S1024x768 : Shape := ⟨2, ![1024, 768]⟩

abbrev nBuf : Space → Nat
  | .hbm => 6
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S4x1024x768, .f32⟩
  | .hbm, ⟨2, _⟩ => ⟨S4x768, .f32⟩
  | .hbm, ⟨3, _⟩ => ⟨S4x8x768, .f32⟩
  | .hbm, ⟨4, _⟩ => ⟨S1024x8, .f32⟩
  | .hbm, ⟨5, _⟩ => ⟨S4x1024x768, .f32⟩
  | .local _ .vmem, ⟨0, _⟩ => ⟨S1024x8, .f32⟩
  | .local _ .vmem, ⟨1, _⟩ => ⟨S1x8x768, .f32⟩
  | .local _ .vmem, ⟨2, _⟩ => ⟨S1x8x768, .f32⟩
  | .local _ .vmem, ⟨3, _⟩ => ⟨S1x1024x768, .f32⟩
  | .local _ .vmem, ⟨4, _⟩ => ⟨S1x1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AdaRefIdeal.lean ====
abbrev S8x1024 : Shape := ⟨2, ![8, 1024]⟩
abbrev S4x1024x768 : Shape := ⟨3, ![4, 1024, 768]⟩
abbrev S4x768 : Shape := ⟨2, ![4, 768]⟩
abbrev S4x8x768 : Shape := ⟨3, ![4, 8, 768]⟩
abbrev S_ : Shape := ⟨0, ![]⟩
abbrev S1x1024x768 : Shape := ⟨3, ![1, 1024, 768]⟩
abbrev S1024x768 : Shape := ⟨2, ![1024, 768]⟩
abbrev S8x768 : Shape := ⟨2, ![8, 768]⟩
abbrev S1x768 : Shape := ⟨2, ![1, 768]⟩
abbrev S768 : Shape := ⟨1, ![768]⟩
abbrev S1x8x768 : Shape := ⟨3, ![1, 8, 768]⟩
abbrev S768x1024 : Shape := ⟨2, ![768, 1024]⟩

abbrev nBuf : Space → Nat
  | .hbm => 81
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x768, .f32⟩
  | .hbm, ⟨2, _⟩ => ⟨S4x768, .f32⟩
  | .hbm, ⟨3, _⟩ => ⟨S4x8x768, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S1x1024x768, .f32⟩
  | .hbm, ⟨14, _⟩ => ⟨S1024x768, .f32⟩
  | .hbm, ⟨15, _⟩ => ⟨S8x768, .f32⟩
  | .hbm, ⟨16, _⟩ => ⟨S1x768, .f32⟩
  | .hbm, ⟨17, _⟩ => ⟨S768, .f32⟩
  | .hbm, ⟨18, _⟩ => ⟨S1x768, .f32⟩
  | .hbm, ⟨19, _⟩ => ⟨S8x768, .f32⟩
  | .hbm, ⟨20, _⟩ => ⟨S8x768, .f32⟩
  | .hbm, ⟨21, _⟩ => ⟨S1x1024x768, .f32⟩
  | .hbm, ⟨22, _⟩ => ⟨S1024x768, .f32⟩
  | .hbm, ⟨23, _⟩ => ⟨S8x768, .f32⟩
  | .hbm, ⟨24, _⟩ => ⟨S1x768, .f32⟩
  | .hbm, ⟨25, _⟩ => ⟨S768, .f32⟩
  | .hbm, ⟨26, _⟩ => ⟨S1x768, .f32⟩
  | .hbm, ⟨27, _⟩ => ⟨S8x768, .f32⟩
  | .hbm, ⟨28, _⟩ => ⟨S8x768, .f32⟩
  | .hbm, ⟨29, _⟩ => ⟨S1x1024x768, .f32⟩
  | .hbm, ⟨30, _⟩ => ⟨S1024x768, .f32⟩
  | .hbm, ⟨31, _⟩ => ⟨S8x768, .f32⟩
  | .hbm, ⟨32, _⟩ => ⟨S1x768, .f32⟩
  | .hbm, ⟨33, _⟩ => ⟨S768, .f32⟩
  | .hbm, ⟨34, _⟩ => ⟨S1x768, .f32⟩
  | .hbm, ⟨35, _⟩ => ⟨S8x768, .f32⟩
  | .hbm, ⟨36, _⟩ => ⟨S8x768, .f32⟩
  | .hbm, ⟨37, _⟩ => ⟨S1x1024x768, .f32⟩
  | .hbm, ⟨38, _⟩ => ⟨S1024x768, .f32⟩
  | .hbm, ⟨39, _⟩ => ⟨S8x768, .f32⟩
  | .hbm, ⟨40, _⟩ => ⟨S1x768, .f32⟩
  | .hbm, ⟨41, _⟩ => ⟨S768, .f32⟩
  | .hbm, ⟨42, _⟩ => ⟨S1x768, .f32⟩
  | .hbm, ⟨43, _⟩ => ⟨S8x768, .f32⟩
  | .hbm, ⟨44, _⟩ => ⟨S8x768, .f32⟩
  | .hbm, ⟨45, _⟩ => ⟨S1x8x768, .f32⟩
  | .hbm, ⟨46, _⟩ => ⟨S1x8x768, .f32⟩
  | .hbm, ⟨47, _⟩ => ⟨S1x8x768, .f32⟩
  | .hbm, ⟨48, _⟩ => ⟨S1x8x768, .f32⟩
  | .hbm, ⟨49, _⟩ => ⟨S4x8x768, .f32⟩
  | .hbm, ⟨50, _⟩ => ⟨S1x8x768, .f32⟩
  | .hbm, ⟨51, _⟩ => ⟨S8x768, .f32⟩
  | .hbm, ⟨52, _⟩ => ⟨S1x8x768, .f32⟩
  | .hbm, ⟨53, _⟩ => ⟨S8x768, .f32⟩
  | .hbm, ⟨54, _⟩ => ⟨S1x8x768, .f32⟩
  | .hbm, ⟨55, _⟩ => ⟨S8x768, .f32⟩
  | .hbm, ⟨56, _⟩ => ⟨S1x8x768, .f32⟩
  | .hbm, ⟨57, _⟩ => ⟨S8x768, .f32⟩
  | .hbm, ⟨58, _⟩ => ⟨S768x1024, .f32⟩
  | .hbm, ⟨59, _⟩ => ⟨S1024x768, .f32⟩
  | .hbm, ⟨60, _⟩ => ⟨S1x1024x768, .f32⟩
  | .hbm, ⟨61, _⟩ => ⟨S_, .f32⟩
  | .hbm, ⟨62, _⟩ => ⟨S4x1024x768, .f32⟩
  | .hbm, ⟨63, _⟩ => ⟨S768x1024, .f32⟩
  | .hbm, ⟨64, _⟩ => ⟨S1024x768, .f32⟩
  | .hbm, ⟨65, _⟩ => ⟨S1x1024x768, .f32⟩
  | .hbm, ⟨66, _⟩ => ⟨S_, .f32⟩
  | .hbm, ⟨67, _⟩ => ⟨S4x1024x768, .f32⟩
  | .hbm, ⟨68, _⟩ => ⟨S4x1024x768, .f32⟩
  | .hbm, ⟨69, _⟩ => ⟨S768x1024, .f32⟩
  | .hbm, ⟨70, _⟩ => ⟨S1024x768, .f32⟩
  | .hbm, ⟨71, _⟩ => ⟨S1x1024x768, .f32⟩
  | .hbm, ⟨72, _⟩ => ⟨S_, .f32⟩
  | .hbm, ⟨73, _⟩ => ⟨S4x1024x768, .f32⟩
  | .hbm, ⟨74, _⟩ => ⟨S4x1024x768, .f32⟩
  | .hbm, ⟨75, _⟩ => ⟨S768x1024, .f32⟩
  | .hbm, ⟨76, _⟩ => ⟨S1024x768, .f32⟩
  | .hbm, ⟨77, _⟩ => ⟨S1x1024x768, .f32⟩
  | .hbm, ⟨78, _⟩ => ⟨S_, .f32⟩
  | .hbm, ⟨79, _⟩ => ⟨S4x1024x768, .f32⟩
  | .hbm, ⟨80, _⟩ => ⟨S4x1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_0 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_1 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_cst_2 : Ref sig .tc := ⟨.hbm, 78, rfl⟩
abbrev main_v63 : Ref sig .tc := ⟨.hbm, 79, rfl⟩
abbrev main_v64 : Ref sig .tc := ⟨.hbm, 80, rfl⟩

abbrev nD : Nat := 1
abbrev τ : Topo := Topo.v7x

variable {F : FTy → Type} [FloatOps F]
-- ==== Gate.lean ====
abbrev S4096x1024 : Shape := ⟨2, ![4096, 1024]⟩
abbrev S6x1024 : Shape := ⟨2, ![6, 1024]⟩
abbrev S1024 : Shape := ⟨1, ![1024]⟩
abbrev S1024x1024 : Shape := ⟨2, ![1024, 1024]⟩
abbrev S1x1024 : Shape := ⟨2, ![1, 1024]⟩
abbrev S8x1024 : Shape := ⟨2, ![8, 1024]⟩
abbrev S8x1x128x1024 : Shape := ⟨4, ![8, 1, 128, 1024]⟩
abbrev S256x1024 : Shape := ⟨2, ![256, 1024]⟩
abbrev S8x128x1024 : Shape := ⟨3, ![8, 128, 1024]⟩

abbrev nBuf : Space → Nat
  | .hbm => 16
  | .vmem => 11
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S6x1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S4096x1024, .f32⟩
  | .hbm, ⟨7, _⟩ => ⟨S1x1024, .f32⟩
  | .hbm, ⟨8, _⟩ => ⟨S1x1024, .f32⟩
  | .hbm, ⟨9, _⟩ => ⟨S8x1024, .f32⟩
  | .hbm, ⟨10, _⟩ => ⟨S1024x1024, .bf16⟩
  | .hbm, ⟨11, _⟩ => ⟨S8x1x128x1024, .bf16⟩
  | .hbm, ⟨12, _⟩ => ⟨S4096x1024, .f32⟩
  | .hbm, ⟨13, _⟩ => ⟨S4096x1024, .bf16⟩
  | .hbm, ⟨14, _⟩ => ⟨S4096x1024, .bf16⟩
  | .hbm, ⟨15, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S8x1024, .f32⟩
  | .local _ .vmem, ⟨5, _⟩ => ⟨S8x1x128x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GateRefIdeal.lean ====
abbrev S4096x1024 : Shape := ⟨2, ![4096, 1024]⟩
abbrev S6x1024 : Shape := ⟨2, ![6, 1024]⟩
abbrev S1024 : Shape := ⟨1, ![1024]⟩
abbrev S1024x1024 : Shape := ⟨2, ![1024, 1024]⟩
abbrev S_ : Shape := ⟨0, ![]⟩
abbrev S1x1024 : Shape := ⟨2, ![1, 1024]⟩
abbrev S2x1024 : Shape := ⟨2, ![2, 1024]⟩
abbrev S8x1024 : Shape := ⟨2, ![8, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S6x1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S1x1024, .f32⟩
  | .hbm, ⟨10, _⟩ => ⟨S1024, .f32⟩
  | .hbm, ⟨11, _⟩ => ⟨S4096x1024, .f32⟩
  | .hbm, ⟨12, _⟩ => ⟨S4096x1024, .f32⟩
  | .hbm, ⟨13, _⟩ => ⟨S1x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1024, .f32⟩
  | .hbm, ⟨22, _⟩ => ⟨S1x1024, .f32⟩
  | .hbm, ⟨23, _⟩ => ⟨S_, .f32⟩
  | .hbm, ⟨24, _⟩ => ⟨S1024, .f32⟩
  | .hbm, ⟨25, _⟩ => ⟨S4096x1024, .f32⟩
  | .hbm, ⟨26, _⟩ => ⟨S1x1024, .f32⟩
  | .hbm, ⟨27, _⟩ => ⟨S_, .f32⟩
  | .hbm, ⟨28, _⟩ => ⟨S6x1024, .f32⟩
  | .hbm, ⟨29, _⟩ => ⟨S4096x1024, .bf16⟩
  | .hbm, ⟨30, _⟩ => ⟨S4096x1024, .bf16⟩
  | .hbm, ⟨31, _⟩ => ⟨S_, .f32⟩
  | .hbm, ⟨32, _⟩ => ⟨S2x1024, .f32⟩
  | .hbm, ⟨33, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== StickFwd.lean ====
abbrev S4096x3072 : Shape := ⟨2, ![4096, 3072]⟩
abbrev S4096x1024 : Shape := ⟨2, ![4096, 1024]⟩
abbrev S8x4096x1 : Shape := ⟨3, ![8, 4096, 1]⟩
abbrev S512x128 : Shape := ⟨2, ![512, 128]⟩
abbrev S4096x128 : Shape := ⟨2, ![4096, 128]⟩
abbrev S1x512x1 : Shape := ⟨3, ![1, 512, 1]⟩
abbrev S512x1 : Shape := ⟨2, ![512, 1]⟩
abbrev S256x256 : Shape := ⟨2, ![256, 256]⟩
abbrev S256x128 : Shape := ⟨2, ![256, 128]⟩
abbrev S256x1 : Shape := ⟨2, ![256, 1]⟩
abbrev S256 : Shape := ⟨1, ![256]⟩
abbrev S512x256 : Shape := ⟨2, ![512, 256]⟩
abbrev S512 : Shape := ⟨1, ![512]⟩
abbrev S512x512 : Shape := ⟨2, ![512, 512]⟩

abbrev nBuf : Space → Nat
  | .hbm => 4
  | .vmem => 12
  | .smem => 0
  | _ => 0

abbrev bufTy : (tb : Table) → Fin (tcTables nBuf tb) → BufTy
  | .hbm, ⟨0, _⟩ => ⟨S4096x3072, .f32⟩
  | .hbm, ⟨1, _⟩ => ⟨S4096x3072, .bf16⟩
  | .hbm, ⟨2, _⟩ => ⟨S4096x1024, .bf16⟩
  | .hbm, ⟨3, _⟩ => ⟨S8x4096x1, .f32⟩
  | .local _ .vmem, ⟨0, _⟩ => ⟨S512x128, .bf16⟩
  | .local _ .vmem, ⟨1, _⟩ => ⟨S512x128, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S512x128, .bf16⟩
  | .local _ .vmem, ⟨7, _⟩ => ⟨S512x128, .bf16⟩
  | .local _ .vmem, ⟨8, _⟩ => ⟨S1x512x1, .f32⟩
  | .local _ .vmem, ⟨9, _⟩ => ⟨S1x512x1, .f32⟩
  | .local _ .vmem, ⟨10, _⟩ => ⟨S512x128, .f32⟩
  | .local _ .vmem, ⟨11, _⟩ => ⟨S512x1, .f32⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  let c256_i32 : BitVec 32 := 256#32
  let v15 : BitVec 32 := Scalar.addi v0 c256_i32
  v15
def k0_off1 (i : grid0.Coords) (c256_i32 : BitVec 32) : Fin 2 → Nat :=
  let arg1 : BitVec 32 := BitVec.ofNat 32 (i 1).val
  let c512_i32 : BitVec 32 := 512#32
  let v0 : BitVec 32 := Scalar.muli arg1 c512_i32
  let v15 : BitVec 32 := Scalar.addi v0 c256_i32
  let v16 : BitVec 32 := v15
  let v27 : Index := Scalar.indexCast v16
  let c0_6 : Index := 0#32
  ![v27.toNat, 0]
def k0_mult2 (i : grid0.Coords) : BitVec 32 :=
  let arg1 : BitVec 32 := BitVec.ofNat 32 (i 1).val
  let c512_i32 : BitVec 32 := 512#32
  let v0 : BitVec 32 := Scalar.muli arg1 c512_i32
  let c0_i32 : BitVec 32 := 0#32
  let v76 : BitVec 32 := Scalar.addi v0 c0_i32
  v76
@[reducible] def k0_t1_loop (i : grid0.Coords) : Scf.Loop 32 :=
  let c0_i32_52 : BitVec 32 := 0#32
  let arg1 : BitVec 32 := BitVec.ofNat 32 (i 1).val
  let c1_i32 : BitVec 32 := 1#32
  let v137 : BitVec 32 := Scalar.muli arg1 c1_i32
  let v138 : BitVec 32 := Scalar.subi v137 c0_i32_52
  let c1_i32_53 : BitVec 32 := 1#32
  let v140 : BitVec 32 := Scalar.divsi v138 c1_i32_53
  let v141 : BitVec 32 := Scalar.muli v140 c1_i32_53
  let v142 : BitVec 32 := Scalar.addi c0_i32_52 v141
  let c1_i32_54 : BitVec 32 := 1#32
  ⟨c0_i32_52, v142, c1_i32_54⟩
def k0_mult3 (i : grid0.Coords) (k0_t1 : Fin (k0_t1_loop i).trips) : BitVec 32 :=
  let arg1 : BitVec 32 := BitVec.ofNat 32 (i 1).val
  let c1_i32 : BitVec 32 := 1#32
  let v137 : BitVec 32 := Scalar.muli arg1 c1_i32
  let c1_i32_65 : BitVec 32 := 1#32
  let v150 : BitVec 32 := Scalar.subi v137 c1_i32_65
  let c0_i32_52 : BitVec 32 := 0#32
  let c1_i32_54 : BitVec 32 := 1#32
  let arg9 : BitVec 32 := Scf.iv c0_i32_52 c1_i32_54 k0_t1
  let v151 : BitVec 32 := Scalar.subi v150 arg9
  let c512_i32_66 : BitVec 32 := 512#32
  let v152 : BitVec 32 := Scalar.muli v151 c512_i32_66
  v152
def k0_off2 (i : grid0.Coords) (k0_t1 : Fin (k0_t1_loop i).trips) : Fin 2 → Nat :=
  let arg1 : BitVec 32 := BitVec.ofNat 32 (i 1).val
  let c1_i32 : BitVec 32 := 1#32
  let v137 : BitVec 32 := Scalar.muli arg1 c1_i32
  let c1_i32_65 : BitVec 32 := 1#32
  let v150 : BitVec 32 := Scalar.subi v137 c1_i32_65
  let c0_i32_52 : BitVec 32 := 0#32
  let c1_i32_54 : BitVec 32 := 1#32
  let arg9 : BitVec 32 := Scf.iv c0_i32_52 c1_i32_54 k0_t1
  let v151 : BitVec 32 := Scalar.subi v150 arg9
  let c512_i32_66 : BitVec 32 := 512#32
  let v152 : BitVec 32 := Scalar.muli v151 c512_i32_66
  let v153 : BitVec 32 := v152
  let v156 : Index := Scalar.indexCast v153
  let c0_69 : Index := 0#32
  ![v156.toNat, 0]
@[reducible] def k0_t2_loop (i : grid0.Coords) : Scf.Loop 32 :=
  let c0_i32_52 : BitVec 32 := 0#32
  let arg1 : BitVec 32 := BitVec.ofNat 32 (i 1).val
  let c1_i32 : BitVec 32 := 1#32
  let v137 : BitVec 32 := Scalar.muli arg1 c1_i32
  let v138 : BitVec 32 := Scalar.subi v137 c0_i32_52
  let c1_i32_53 : BitVec 32 := 1#32
  let v140 : BitVec 32 := Scalar.divsi v138 c1_i32_53
  let v141 : BitVec 32 := Scalar.muli v140 c1_i32_53
  let v142 : BitVec 32 := Scalar.addi c0_i32_52 v141
  let v139 : BitVec 32 := Scalar.addi c0_i32_52 v138
  let c1_i32_55 : BitVec 32 := 1#32
  ⟨v142, v139, c1_i32_55⟩
def k0_mult4 (i : grid0.Coords) (k0_t2 : Fin (k0_t2_loop i).trips) : BitVec 32 :=
  let arg1 : BitVec 32 := BitVec.ofNat 32 (i 1).val
  let c1_i32 : BitVec 32 := 1#32
  let v137 : BitVec 32 := Scalar.muli arg1 c1_i32
  let c1_i32_65 : BitVec 32 := 1#32
  let v150 : BitVec 32 := Scalar.subi v137 c1_i32_65
  let c0_i32_52 : BitVec 32 := 0#32
  let v138 : BitVec 32 := Scalar.subi v137 c0_i32_52
  let c1_i32_53 : BitVec 32 := 1#32
  let v140 : BitVec 32 := Scalar.divsi v138 c1_i32_53
  let v141 : BitVec 32 := Scalar.muli v140 c1_i32_53
  let v142 : BitVec 32 := Scalar.addi c0_i32_52 v141
  let c1_i32_55 : BitVec 32 := 1#32
  let arg9 : BitVec 32 := Scf.iv v142 c1_i32_55 k0_t2
  let v151 : BitVec 32 := Scalar.subi v150 arg9
  let c512_i32_66 : BitVec 32 := 512#32
  let v152 : BitVec 32 := Scalar.muli v151 c512_i32_66
  v152
def k0_off3 (i : grid0.Coords) (k0_t2 : Fin (k0_t2_loop i).trips) : Fin 2 → Nat :=
  let arg1 : BitVec 32 := BitVec.ofNat 32 (i 1).val
  let c1_i32 : BitVec 32 := 1#32
  let v137 : BitVec 32 := Scalar.muli arg1 c1_i32
  let c1_i32_65 : BitVec 32 := 1#32
  let v150 : BitVec 32 := Scalar.subi v137 c1_i32_65
  let c0_i32_52 : BitVec 32 := 0#32
  let v138 : BitVec 32 := Scalar.subi v137 c0_i32_52
  let c1_i32_53 : BitVec 32 := 1#32
  let v140 : BitVec 32 := Scalar.divsi v138 c1_i32_53
  let v141 : BitVec 32 := Scalar.muli v140 c1_i32_53
  let v142 : BitVec 32 := Scalar.addi c0_i32_52 v141
  let c1_i32_55 : BitVec 32 := 1#32
  let arg9 : BitVec 32 := Scf.iv v142 c1_i32_55 k0_t2
  let v151 : BitVec 32 := Scalar.subi v150 arg9
  let c512_i32_66 : BitVec 32 := 512#32
  let v152 : BitVec 32 := Scalar.muli v151 c512_i32_66
  let v153 : BitVec 32 := v152
  let v156 : Index := Scalar.indexCast v153
  let c0_69 : Index := 0#32
  ![v156.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== StickFwdRefIdeal.lean ====
abbrev S4096x3072 : Shape := ⟨2, ![4096, 3072]⟩
abbrev S4096x1024 : Shape := ⟨2, ![4096, 1024]⟩
abbrev S1x4096x8x128 : Shape := ⟨4, ![1, 4096, 8, 128]⟩
abbrev S1x8x4096x128 : Shape := ⟨4, ![1, 8, 4096, 128]⟩
abbrev S1x8x4096x4096 : Shape := ⟨4, ![1, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x8x4096 : Shape := ⟨3, ![1, 8, 4096]⟩
abbrev S8x4096x1 : Shape := ⟨3, ![8, 4096, 1]⟩

abbrev nBuf : Space → Nat
  | .hbm => 76
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S1x4096x8x128, .f32⟩
  | .hbm, ⟨5, _⟩ => ⟨S1x8x4096x128, .f32⟩
  | .hbm, ⟨6, _⟩ => ⟨S1x4096x8x128, .f32⟩
  | .hbm, ⟨7, _⟩ => ⟨S1x8x4096x128, .f32⟩
  | .hbm, ⟨8, _⟩ => ⟨S1x4096x8x128, .f32⟩
  | .hbm, ⟨9, _⟩ => ⟨S1x8x4096x128, .f32⟩
  | .hbm, ⟨10, _⟩ => ⟨S1x8x4096x4096, .f32⟩
  | .hbm, ⟨11, _⟩ => ⟨S_, .f32⟩
  | .hbm, ⟨12, _⟩ => ⟨S1x8x4096x4096, .f32⟩
  | .hbm, ⟨13, _⟩ => ⟨S1x8x4096x4096, .f32⟩
  | .hbm, ⟨14, _⟩ => ⟨S4096, .i32⟩
  | .hbm, ⟨15, _⟩ => ⟨S1x4096, .i32⟩
  | .hbm, ⟨16, _⟩ => ⟨S4096x1, .i32⟩
  | .hbm, ⟨17, _⟩ => ⟨S4096x4096, .i32⟩
  | .hbm, ⟨18, _⟩ => ⟨S4096x4096, .i32⟩
  | .hbm, ⟨19, _⟩ => ⟨S4096x4096, .i1⟩
  | .hbm, ⟨20, _⟩ => ⟨S1x8x4096x4096, .f32⟩
  | .hbm, ⟨21, _⟩ => ⟨S_, .f32⟩
  | .hbm, ⟨22, _⟩ => ⟨S1x8x4096x4096, .f32⟩
  | .hbm, ⟨23, _⟩ => ⟨S1x8x4096x4096, .f32⟩
  | .hbm, ⟨24, _⟩ => ⟨S1x8x4096x4096, .f32⟩
  | .hbm, ⟨25, _⟩ => ⟨S1x8x4096x4096, .f32⟩
  | .hbm, ⟨26, _⟩ => ⟨S1x8x4096x4096, .i1⟩
  | .hbm, ⟨27, _⟩ => ⟨S1x8x4096x4096, .f32⟩
  | .hbm, ⟨28, _⟩ => ⟨S1x8x4096x4096, .f32⟩
  | .hbm, ⟨29, _⟩ => ⟨S1x8x4096x4096, .f32⟩
  | .hbm, ⟨30, _⟩ => ⟨S1x8x4096x4096, .f32⟩
  | .hbm, ⟨31, _⟩ => ⟨S1x8x4096x4096, .f32⟩
  | .hbm, ⟨32, _⟩ => ⟨S1x8x4096x4096, .f32⟩
  | .hbm, ⟨33, _⟩ => ⟨S1x8x4096x4096, .f32⟩
  | .hbm, ⟨34, _⟩ => ⟨S1x8x4096x4096, .f32⟩
  | .hbm, ⟨35, _⟩ => ⟨S1x8x4096x4096, .f32⟩
  | .hbm, ⟨36, _⟩ => ⟨S1x8x4096x4096, .f32⟩
  | .hbm, ⟨37, _⟩ => ⟨S1x8x4096x4096, .f32⟩
  | .hbm, ⟨38, _⟩ => ⟨S_, .f32⟩
  | .hbm, ⟨39, _⟩ => ⟨S1x8x4096x4096, .f32⟩
  | .hbm, ⟨40, _⟩ => ⟨S1x8x4096x4096, .f32⟩
  | .hbm, ⟨41, _⟩ => ⟨S1x8x4096x4096, .f32⟩
  | .hbm, ⟨42, _⟩ => ⟨S1x8x4096x4096, .f32⟩
  | .hbm, ⟨43, _⟩ => ⟨S1x8x4096x4096, .i1⟩
  | .hbm, ⟨44, _⟩ => ⟨S1x8x4096x4096, .f32⟩
  | .hbm, ⟨45, _⟩ => ⟨S1x8x4096x4096, .f32⟩
  | .hbm, ⟨46, _⟩ => ⟨S1x8x4096x4096, .f32⟩
  | .hbm, ⟨47, _⟩ => ⟨S1x8x4096x4096, .f32⟩
  | .hbm, ⟨48, _⟩ => ⟨S1x8x4096x4096, .f32⟩
  | .hbm, ⟨49, _⟩ => ⟨S1x8x4096x4096, .f32⟩
  | .hbm, ⟨50, _⟩ => ⟨S1x8x4096x4096, .f32⟩
  | .hbm, ⟨51, _⟩ => ⟨S1x8x4096x4096, .f32⟩
  | .hbm, ⟨52, _⟩ => ⟨S1x8x4096x4096, .f32⟩
  | .hbm, ⟨53, _⟩ => ⟨S_, .f32⟩
  | .hbm, ⟨54, _⟩ => ⟨S_, .f32⟩
  | .hbm, ⟨55, _⟩ => ⟨S1x8x4096x4096, .i1⟩
  | .hbm, ⟨56, _⟩ => ⟨S1x8x4096x4096, .f32⟩
  | .hbm, ⟨57, _⟩ => ⟨S1x8x4096x4096, .f32⟩
  | .hbm, ⟨58, _⟩ => ⟨S_, .f32⟩
  | .hbm, ⟨59, _⟩ => ⟨S_, .f32⟩
  | .hbm, ⟨60, _⟩ => ⟨S1x8x4096x4096, .f32⟩
  | .hbm, ⟨61, _⟩ => ⟨S1x8x4096x4096, .f32⟩
  | .hbm, ⟨62, _⟩ => ⟨S1x8x4096x4096, .f32⟩
  | .hbm, ⟨63, _⟩ => ⟨S1x8x4096x4096, .f32⟩
  | .hbm, ⟨64, _⟩ => ⟨S_, .f32⟩
  | .hbm, ⟨65, _⟩ => ⟨S_, .f32⟩
  | .hbm, ⟨66, _⟩ => ⟨S1x8x4096x4096, .i1⟩
  | .hbm, ⟨67, _⟩ => ⟨S1x8x4096x4096, .f32⟩
  | .hbm, ⟨68, _⟩ => ⟨S1x8x4096x4096, .f32⟩
  | .hbm, ⟨69, _⟩ => ⟨S1x8x4096x128, .f32⟩
  | .hbm, ⟨70, _⟩ => ⟨S_, .f32⟩
  | .hbm, ⟨71, _⟩ => ⟨S1x8x4096, .f32⟩
  | .hbm, ⟨72, _⟩ => ⟨S1x4096x8x128, .f32⟩
  | .hbm, ⟨73, _⟩ => ⟨S4096x1024, .f32⟩
  | .hbm, ⟨74, _⟩ => ⟨S4096x1024, .bf16⟩
  | .hbm, ⟨75, _⟩ => ⟨S8x4096x1, .f32⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v18 : Ref sig .tc := ⟨.hbm, 35, rfl⟩
abbrev main_v19 : Ref sig .tc := ⟨.hbm, 36, rfl⟩
abbrev main_call1_v0 : Ref sig .tc := ⟨.hbm, 37, rfl⟩
abbrev main_call1_call0_cst : Ref sig .tc := ⟨.hbm, 38, rfl⟩
abbrev main_call1_call0_v0 : Ref sig .tc := ⟨.hbm, 39, rfl⟩
abbrev main_call1_call0_v1 : Ref sig .tc := ⟨.hbm, 40, rfl⟩
abbrev main_call1_call0_v2 : Ref sig .tc := ⟨.hbm, 41, rfl⟩
abbrev main_call1_call0_v3 : Ref sig .tc := ⟨.hbm, 42, rfl⟩
abbrev main_call1_call0_v4 : Ref sig .tc := ⟨.hbm, 43, rfl⟩
abbrev main_call1_call0_v5 : Ref sig .tc := ⟨.hbm, 44, rfl⟩
abbrev main_call1_call0_v6 : Ref sig .tc := ⟨.hbm, 45, rfl⟩
abbrev main_call1_call0_v7 : Ref sig .tc := ⟨.hbm, 46, rfl⟩
abbrev main_call1_call0_v8 : Ref sig .tc := ⟨.hbm, 47, rfl⟩
abbrev main_call1_call0_v9 : Ref sig .tc := ⟨.hbm, 48, rfl⟩
abbrev main_call1_call0_v10 : Ref sig .tc := ⟨.hbm, 49, rfl⟩
abbrev main_call1_call0_v11 : Ref sig .tc := ⟨.hbm, 50, rfl⟩
abbrev main_call1_v1 : Ref sig .tc := ⟨.hbm, 51, rfl⟩
abbrev main_v20 : Ref sig .tc := ⟨.hbm, 52, rfl⟩
abbrev main_cst_0 : Ref sig .tc := ⟨.hbm, 53, rfl⟩
abbrev main_call2_v0 : Ref sig .tc := ⟨.hbm, 54, rfl⟩
abbrev main_call2_v1 : Ref sig .tc := ⟨.hbm, 55, rfl⟩
abbrev main_call2_v2 : Ref sig .tc := ⟨.hbm, 56, rfl⟩
abbrev main_v21 : Ref sig .tc := ⟨.hbm, 57, rfl⟩
abbrev main_call3_cst : Ref sig .tc := ⟨.hbm, 58, rfl⟩
abbrev main_call3_v0 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v26 : Ref sig .tc := ⟨.hbm, 68, rfl⟩
abbrev main_v27 : Ref sig .tc := ⟨.hbm, 69, rfl⟩
abbrev main_cst_2 : Ref sig .tc := ⟨.hbm, 70, rfl⟩
abbrev main_v28 : Ref sig .tc := ⟨.hbm, 71, rfl⟩
abbrev main_v29 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩

abbrev nD : Nat := 1
abbrev τ : Topo := Topo.v7x

variable {F : FTy → Type} [FloatOps F]
-- ==== Ffn.lean ====
abbrev S4096x1024 : Shape := ⟨2, ![4096, 1024]⟩
abbrev S6x1024 : Shape := ⟨2, ![6, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S8x1024 : Shape := ⟨2, ![8, 1024]⟩
abbrev S8x352x1024 : Shape := ⟨3, ![8, 352, 1024]⟩
abbrev S8x1x352x1024 : Shape := ⟨4, ![8, 1, 352, 1024]⟩
abbrev S8x3x352x1024 : Shape := ⟨4, ![8, 3, 352, 1024]⟩
abbrev S_ : Shape := ⟨0, ![]⟩
abbrev S4096 : Shape := ⟨1, ![4096]⟩
abbrev S4096x1 : Shape := ⟨2, ![4096, 1]⟩
abbrev S4096x2816 : Shape := ⟨2, ![4096, 2816]⟩
abbrev S4096x5632 : Shape := ⟨2, ![4096, 5632]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩
abbrev S4x1x352x1024 : Shape := ⟨4, ![4, 1, 352, 1024]⟩
abbrev S4x352x1024 : Shape := ⟨3, ![4, 352, 1024]⟩
abbrev S1408x1024 : Shape := ⟨2, ![1408, 1024]⟩
abbrev S256x1408 : Shape := ⟨2, ![256, 1408]⟩

abbrev nBuf : Space → Nat
  | .hbm => 70
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S6x1024, .f32⟩
  | .hbm, ⟨2, _⟩ => ⟨S1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S4096x1024, .f32⟩
  | .hbm, ⟨8, _⟩ => ⟨S1x1024, .f32⟩
  | .hbm, ⟨9, _⟩ => ⟨S1x1024, .f32⟩
  | .hbm, ⟨10, _⟩ => ⟨S8x1024, .f32⟩
  | .hbm, ⟨11, _⟩ => ⟨S2816x1024, .f32⟩
  | .hbm, ⟨12, _⟩ => ⟨S8x352x1024, .f32⟩
  | .hbm, ⟨13, _⟩ => ⟨S2816x1024, .f32⟩
  | .hbm, ⟨14, _⟩ => ⟨S8x352x1024, .f32⟩
  | .hbm, ⟨15, _⟩ => ⟨S8x352x1024, .f32⟩
  | .hbm, ⟨16, _⟩ => ⟨S8x1x352x1024, .f32⟩
  | .hbm, ⟨17, _⟩ => ⟨S8x1x352x1024, .f32⟩
  | .hbm, ⟨18, _⟩ => ⟨S8x1x352x1024, .f32⟩
  | .hbm, ⟨19, _⟩ => ⟨S8x3x352x1024, .f32⟩
  | .hbm, ⟨20, _⟩ => ⟨S8x3x352x1024, .bf16⟩
  | .hbm, ⟨21, _⟩ => ⟨S4096x1024, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S1024, .f32⟩
  | .hbm, ⟨39, _⟩ => ⟨S_, .f32⟩
  | .hbm, ⟨40, _⟩ => ⟨S1024, .f32⟩
  | .hbm, ⟨41, _⟩ => ⟨S1024, .f32⟩
  | .hbm, ⟨42, _⟩ => ⟨S1x1024, .f32⟩
  | .hbm, ⟨43, _⟩ => ⟨S4096x1024, .f32⟩
  | .hbm, ⟨44, _⟩ => ⟨S4096x1024, .f32⟩
  | .hbm, ⟨45, _⟩ => ⟨S1x1024, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S_, .f32⟩
  | .hbm, ⟨55, _⟩ => ⟨S4096x2816, .f32⟩
  | .hbm, ⟨56, _⟩ => ⟨S4096x2816, .f32⟩
  | .hbm, ⟨57, _⟩ => ⟨S_, .f32⟩
  | .hbm, ⟨58, _⟩ => ⟨S4096x2816, .f32⟩
  | .hbm, ⟨59, _⟩ => ⟨S4096x2816, .f32⟩
  | .hbm, ⟨60, _⟩ => ⟨S4096x2816, .f32⟩
  | .hbm, ⟨61, _⟩ => ⟨S4096x2816, .f32⟩
  | .hbm, ⟨62, _⟩ => ⟨S4096x1024, .f32⟩
  | .hbm, ⟨63, _⟩ => ⟨S4096x5632, .f32⟩
  | .hbm, ⟨64, _⟩ => ⟨S4096x1024, .f32⟩
  | .hbm, ⟨65, _⟩ => ⟨S4096x5632, .bf16⟩
  | .hbm, ⟨66, _⟩ => ⟨S4096x1024, .bf16⟩
  | .hbm, ⟨67, _⟩ => ⟨S4096x2816, .bf16⟩
  | .hbm, ⟨68, _⟩ => ⟨S4096x1024, .bf16⟩
  | .hbm, ⟨69, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x5632, .f32⟩
  | .local _ .vmem, ⟨5, _⟩ => ⟨S256x5632, .f32⟩
  | .local _ .vmem, ⟨6, _⟩ => ⟨S256x1024, .f32⟩
  | .local _ .vmem, ⟨7, _⟩ => ⟨S256x1024, .f32⟩
  | .local _ .vmem, ⟨8, _⟩ => ⟨S8x1024, .f32⟩
  | .local _ .vmem, ⟨9, _⟩ => ⟨S8x1x352x1024, .bf16⟩
  | .local _ .vmem, ⟨10, _⟩ => ⟨S8x1x352x1024, .bf16⟩
  | .local _ .vmem, ⟨11, _⟩ => ⟨S8x1x352x1024, .bf16⟩
  | .local _ .vmem, ⟨12, _⟩ => ⟨S256x1024, .f32⟩
  | .local _ .vmem, ⟨13, _⟩ => ⟨S256x1024, .f32⟩
  | .local _ .vmem, ⟨14, _⟩ => ⟨S256x5632, .bf16⟩
  | .local _ .vmem, ⟨15, _⟩ => ⟨S256x5632, .bf16⟩
  | .local _ .vmem, ⟨16, _⟩ => ⟨S256x1024, .bf16⟩
  | .local _ .vmem, ⟨17, _⟩ => ⟨S256x1024, .bf16⟩
  | .local _ .vmem, ⟨18, _⟩ => ⟨S256x2816, .bf16⟩
  | .local _ .vmem, ⟨19, _⟩ => ⟨S256x2816, .bf16⟩
  | .local _ .vmem, ⟨20, _⟩ => ⟨S256x1024, .bf16⟩
  | .local _ .vmem, ⟨21, _⟩ => ⟨S256x1024, .bf16⟩
  | .local _ .vmem, ⟨22, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_cst_0 : Ref sig .tc := ⟨.hbm, 25, rfl⟩
abbrev main_v16 : Ref sig .tc := ⟨.hbm, 26, rfl⟩
abbrev main_v17 : Ref sig .tc := ⟨.hbm, 27, rfl⟩
abbrev main_cst_1 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_2 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_3 : Ref sig .tc := ⟨.hbm, 54, rfl⟩
abbrev main_v42 : Ref sig .tc := ⟨.hbm, 55, rfl⟩
abbrev main_v43 : Ref sig .tc := ⟨.hbm, 56, rfl⟩
abbrev main_cst_4 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50_0 : Ref sig .tc := ⟨.hbm, 64, rfl⟩
abbrev main_v50_1 : Ref sig .tc := ⟨.hbm, 65, rfl⟩
abbrev main_v50_2 : Ref sig .tc := ⟨.hbm, 66, rfl⟩
abbrev main_v50_3 : Ref sig .tc := ⟨.hbm, 67, rfl⟩
abbrev main_v50_4 : Ref sig .tc := ⟨.hbm, 68, rfl⟩
abbrev main_v50_5 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_7 (i : grid0.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x1x352x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x1x352x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1x352x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5632 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== FfnRefIdeal.lean ====
abbrev S4096x1024 : Shape := ⟨2, ![4096, 1024]⟩
abbrev S6x1024 : Shape := ⟨2, ![6, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096x2816 : Shape := ⟨2, ![4096, 2816]⟩
abbrev S1x1024 : Shape := ⟨2, ![1, 1024]⟩
abbrev S4096 : Shape := ⟨1, ![4096]⟩
abbrev S4096x1 : Shape := ⟨2, ![4096, 1]⟩
abbrev S4096x5632 : Shape := ⟨2, ![4096, 5632]⟩
abbrev S4x1024 : Shape := ⟨2, ![4, 1024]⟩
abbrev S8x1024 : Shape := ⟨2, ![8, 1024]⟩

abbrev nBuf : Space → Nat
  | .hbm => 126
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S6x1024, .f32⟩
  | .hbm, ⟨2, _⟩ => ⟨S1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S4096x1024, .f32⟩
  | .hbm, ⟨8, _⟩ => ⟨S_, .f32⟩
  | .hbm, ⟨9, _⟩ => ⟨S4096x2816, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x2816, .f32⟩
  | .hbm, ⟨46, _⟩ => ⟨S_, .f32⟩
  | .hbm, ⟨47, _⟩ => ⟨S4096x2816, .f32⟩
  | .hbm, ⟨48, _⟩ => ⟨S4096x2816, .f32⟩
  | .hbm, ⟨49, _⟩ => ⟨S_, .f32⟩
  | .hbm, ⟨50, _⟩ => ⟨S4096x2816, .f32⟩
  | .hbm, ⟨51, _⟩ => ⟨S4096x2816, .f32⟩
  | .hbm, ⟨52, _⟩ => ⟨S_, .f32⟩
  | .hbm, ⟨53, _⟩ => ⟨S4096x2816, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S4096x2816, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S4096x2816, .f32⟩
  | .hbm, ⟨73, _⟩ => ⟨S4096x2816, .f32⟩
  | .hbm, ⟨74, _⟩ => ⟨S4096x2816, .f32⟩
  | .hbm, ⟨75, _⟩ => ⟨S4096x1024, .f32⟩
  | .hbm, ⟨76, _⟩ => ⟨S4096x2816, .f32⟩
  | .hbm, ⟨77, _⟩ => ⟨S4096x2816, .f32⟩
  | .hbm, ⟨78, _⟩ => ⟨S4096x2816, .f32⟩
  | .hbm, ⟨79, _⟩ => ⟨S4096x2816, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S4096x1024, .f32⟩
  | .hbm, ⟨86, _⟩ => ⟨S_, .f32⟩
  | .hbm, ⟨87, _⟩ => ⟨S1024, .f32⟩
  | .hbm, ⟨88, _⟩ => ⟨S1x1024, .f32⟩
  | .hbm, ⟨89, _⟩ => ⟨S4096x1024, .f32⟩
  | .hbm, ⟨90, _⟩ => ⟨S4096x1024, .f32⟩
  | .hbm, ⟨91, _⟩ => ⟨S4096x1024, .f32⟩
  | .hbm, ⟨92, _⟩ => ⟨S_, .f32⟩
  | .hbm, ⟨93, _⟩ => ⟨S1024, .f32⟩
  | .hbm, ⟨94, _⟩ => ⟨S1x1024, .f32⟩
  | .hbm, ⟨95, _⟩ => ⟨S4096x1024, .f32⟩
  | .hbm, ⟨96, _⟩ => ⟨S4096x1024, .f32⟩
  | .hbm, ⟨97, _⟩ => ⟨S_, .f32⟩
  | .hbm, ⟨98, _⟩ => ⟨S1024, .f32⟩
  | .hbm, ⟨99, _⟩ => ⟨S4096x1024, .f32⟩
  | .hbm, ⟨100, _⟩ => ⟨S_, .f32⟩
  | .hbm, ⟨101, _⟩ => ⟨S4096, .f32⟩
  | .hbm, ⟨102, _⟩ => ⟨S4096x1, .f32⟩
  | .hbm, ⟨103, _⟩ => ⟨S4096x1024, .f32⟩
  | .hbm, ⟨104, _⟩ => ⟨S4096x1024, .f32⟩
  | .hbm, ⟨105, _⟩ => ⟨S4096x1024, .f32⟩
  | .hbm, ⟨106, _⟩ => ⟨S4096x1, .f32⟩
  | .hbm, ⟨107, _⟩ => ⟨S_, .f32⟩
  | .hbm, ⟨108, _⟩ => ⟨S4096x1, .f32⟩
  | .hbm, ⟨109, _⟩ => ⟨S4096x1, .f32⟩
  | .hbm, ⟨110, _⟩ => ⟨S_, .f32⟩
  | .hbm, ⟨111, _⟩ => ⟨S4096, .f32⟩
  | .hbm, ⟨112, _⟩ => ⟨S4096x1024, .f32⟩
  | .hbm, ⟨113, _⟩ => ⟨S4096x1024, .f32⟩
  | .hbm, ⟨114, _⟩ => ⟨S4096x1024, .f32⟩
  | .hbm, ⟨115, _⟩ => ⟨S4096x1024, .f32⟩
  | .hbm, ⟨116, _⟩ => ⟨S4096x1024, .f32⟩
  | .hbm, ⟨117, _⟩ => ⟨S4096x5632, .f32⟩
  | .hbm, ⟨118, _⟩ => ⟨S4096x5632, .bf16⟩
  | .hbm, ⟨119, _⟩ => ⟨S4096x1024, .bf16⟩
  | .hbm, ⟨120, _⟩ => ⟨S4096x2816, .bf16⟩
  | .hbm, ⟨121, _⟩ => ⟨S4096x1024, .bf16⟩
  | .hbm, ⟨122, _⟩ => ⟨S1x1024, .f32⟩
  | .hbm, ⟨123, _⟩ => ⟨S_, .f32⟩
  | .hbm, ⟨124, _⟩ => ⟨S4x1024, .f32⟩
  | .hbm, ⟨125, _⟩ => ⟨S8x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_0 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_v29_2 : Ref sig .tc := ⟨.hbm, 51, rfl⟩
abbrev main_call0_cst_1 : Ref sig .tc := ⟨.hbm, 52, rfl⟩
abbrev main_call0_v6 : Ref sig .tc := ⟨.hbm, 53, rfl⟩
abbrev main_call0_v7 : Ref sig .tc := ⟨.hbm, 54, rfl⟩
abbrev main_v29_1 : Ref sig .tc := ⟨.hbm, 55, rfl⟩
abbrev main_v29_0 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_cst_6 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_call1_v0 : Ref sig .tc := ⟨.hbm, 76, rfl⟩
abbrev main_call1_v1 : Ref sig .tc := ⟨.hbm, 77, rfl⟩
abbrev main_call1_v2 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_7 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_cst_8 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_9 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_10 : Ref sig .tc := ⟨.hbm, 97, rfl⟩
abbrev main_v63 : Ref sig .tc := ⟨.hbm, 98, rfl⟩
abbrev main_v64 : Ref sig .tc := ⟨.hbm, 99, rfl⟩
abbrev main_cst_11 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst_12 : Ref sig .tc := ⟨.hbm, 107, rfl⟩
abbrev main_v71 : Ref sig .tc := ⟨.hbm, 108, rfl⟩
abbrev main_v72 : Ref sig .tc := ⟨.hbm, 109, rfl⟩
abbrev main_cst_13 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_cst_14 : Ref sig .tc := ⟨.hbm, 123, rfl⟩
abbrev main_v85 : Ref sig .tc := ⟨.hbm, 124, rfl⟩
abbrev main_v86 : Ref sig .tc := ⟨.hbm, 125, rfl⟩

abbrev nD : Nat := 1
abbrev τ : Topo := Topo.v7x

variable {F : FTy → Type} [FloatOps F]
-- ==== GateFwd.lean ====
abbrev S4096x1024 : Shape := ⟨2, ![4096, 1024]⟩
abbrev S6x1024 : Shape := ⟨2, ![6, 1024]⟩
abbrev S1024 : Shape := ⟨1, ![1024]⟩
abbrev S1024x1024 : Shape := ⟨2, ![1024, 1024]⟩
abbrev S1x1024 : Shape := ⟨2, ![1, 1024]⟩
abbrev S8x1024 : Shape := ⟨2, ![8, 1024]⟩
abbrev S8x1x128x1024 : Shape := ⟨4, ![8, 1, 128, 1024]⟩
abbrev S256x1024 : Shape := ⟨2, ![256, 1024]⟩
abbrev S8x128x1024 : Shape := ⟨3, ![8, 128, 1024]⟩

abbrev nBuf : Space → Nat
  | .hbm => 14
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S6x1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1x1024, .f32⟩
  | .hbm, ⟨7, _⟩ => ⟨S1x1024, .f32⟩
  | .hbm, ⟨8, _⟩ => ⟨S8x1024, .f32⟩
  | .hbm, ⟨9, _⟩ => ⟨S4096x1024, .bf16⟩
  | .hbm, ⟨10, _⟩ => ⟨S1024x1024, .bf16⟩
  | .hbm, ⟨11, _⟩ => ⟨S8x1x128x1024, .bf16⟩
  | .hbm, ⟨12, _⟩ => ⟨S4096x1024, .f32⟩
  | .hbm, ⟨13, _⟩ => ⟨S4096x1024, .f32⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S8x1024, .f32⟩
  | .local _ .vmem, ⟨5, _⟩ => ⟨S8x1x128x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== GateFwdRefIdeal.lean ====
abbrev S4096x1024 : Shape := ⟨2, ![4096, 1024]⟩
abbrev S6x1024 : Shape := ⟨2, ![6, 1024]⟩
abbrev S1024 : Shape := ⟨1, ![1024]⟩
abbrev S1024x1024 : Shape := ⟨2, ![1024, 1024]⟩
abbrev S1x1024 : Shape := ⟨2, ![1, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S6x1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩

abbrev nD : Nat := 1
abbrev τ : Topo := Topo.v7x

variable {F : FTy → Type} [FloatOps F]
-- ==== AdaFwd.lean ====
abbrev S8x1024 : Shape := ⟨2, ![8, 1024]⟩
abbrev S4x1024x768 : Shape := ⟨3, ![4, 1024, 768]⟩
abbrev S4x768 : Shape := ⟨2, ![4, 768]⟩
abbrev S4x1x768 : Shape := ⟨3, ![4, 1, 768]⟩
abbrev S4x8x768 : Shape := ⟨3, ![4, 8, 768]⟩
abbrev S1x1024x768 : Shape := ⟨3, ![1, 1024, 768]⟩
abbrev S1x1x768 : Shape := ⟨3, ![1, 1, 768]⟩
abbrev S1x8x768 : Shape := ⟨3, ![1, 8, 768]⟩
abbrev S1024x768 : Shape := ⟨2, ![1024, 768]⟩
abbrev S8x768 : Shape := ⟨2, ![8, 768]⟩
abbrev S1x768 : Shape := ⟨2, ![1, 768]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x768, .f32⟩
  | .hbm, ⟨2, _⟩ => ⟨S4x768, .f32⟩
  | .hbm, ⟨3, _⟩ => ⟨S4x1x768, .f32⟩
  | .hbm, ⟨4, _⟩ => ⟨S4x8x768, .f32⟩
  | .local _ .vmem, ⟨0, _⟩ => ⟨S8x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S1x8x768, .f32⟩
  | .local _ .vmem, ⟨6, _⟩ => ⟨S1x8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaFwdRefIdeal.lean ====
abbrev S8x1024 : Shape := ⟨2, ![8, 1024]⟩
abbrev S4x1024x768 : Shape := ⟨3, ![4, 1024, 768]⟩
abbrev S4x768 : Shape := ⟨2, ![4, 768]⟩
abbrev S_ : Shape := ⟨0, ![]⟩
abbrev S1x1024x768 : Shape := ⟨3, ![1, 1024, 768]⟩
abbrev S1024x768 : Shape := ⟨2, ![1024, 768]⟩
abbrev S8x768 : Shape := ⟨2, ![8, 768]⟩
abbrev S1x768 : Shape := ⟨2, ![1, 768]⟩
abbrev S768 : Shape := ⟨1, ![768]⟩
abbrev S1x8x768 : Shape := ⟨3, ![1, 8, 768]⟩
abbrev S4x8x768 : Shape := ⟨3, ![4, 8, 768]⟩

abbrev nBuf : Space → Nat
  | .hbm => 49
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x768, .f32⟩
  | .hbm, ⟨2, _⟩ => ⟨S4x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S1x1024x768, .f32⟩
  | .hbm, ⟨13, _⟩ => ⟨S1024x768, .f32⟩
  | .hbm, ⟨14, _⟩ => ⟨S8x768, .f32⟩
  | .hbm, ⟨15, _⟩ => ⟨S1x768, .f32⟩
  | .hbm, ⟨16, _⟩ => ⟨S768, .f32⟩
  | .hbm, ⟨17, _⟩ => ⟨S1x768, .f32⟩
  | .hbm, ⟨18, _⟩ => ⟨S8x768, .f32⟩
  | .hbm, ⟨19, _⟩ => ⟨S8x768, .f32⟩
  | .hbm, ⟨20, _⟩ => ⟨S1x1024x768, .f32⟩
  | .hbm, ⟨21, _⟩ => ⟨S1024x768, .f32⟩
  | .hbm, ⟨22, _⟩ => ⟨S8x768, .f32⟩
  | .hbm, ⟨23, _⟩ => ⟨S1x768, .f32⟩
  | .hbm, ⟨24, _⟩ => ⟨S768, .f32⟩
  | .hbm, ⟨25, _⟩ => ⟨S1x768, .f32⟩
  | .hbm, ⟨26, _⟩ => ⟨S8x768, .f32⟩
  | .hbm, ⟨27, _⟩ => ⟨S8x768, .f32⟩
  | .hbm, ⟨28, _⟩ => ⟨S1x1024x768, .f32⟩
  | .hbm, ⟨29, _⟩ => ⟨S1024x768, .f32⟩
  | .hbm, ⟨30, _⟩ => ⟨S8x768, .f32⟩
  | .hbm, ⟨31, _⟩ => ⟨S1x768, .f32⟩
  | .hbm, ⟨32, _⟩ => ⟨S768, .f32⟩
  | .hbm, ⟨33, _⟩ => ⟨S1x768, .f32⟩
  | .hbm, ⟨34, _⟩ => ⟨S8x768, .f32⟩
  | .hbm, ⟨35, _⟩ => ⟨S8x768, .f32⟩
  | .hbm, ⟨36, _⟩ => ⟨S1x1024x768, .f32⟩
  | .hbm, ⟨37, _⟩ => ⟨S1024x768, .f32⟩
  | .hbm, ⟨38, _⟩ => ⟨S8x768, .f32⟩
  | .hbm, ⟨39, _⟩ => ⟨S1x768, .f32⟩
  | .hbm, ⟨40, _⟩ => ⟨S768, .f32⟩
  | .hbm, ⟨41, _⟩ => ⟨S1x768, .f32⟩
  | .hbm, ⟨42, _⟩ => ⟨S8x768, .f32⟩
  | .hbm, ⟨43, _⟩ => ⟨S8x768, .f32⟩
  | .hbm, ⟨44, _⟩ => ⟨S1x8x768, .f32⟩
  | .hbm, ⟨45, _⟩ => ⟨S1x8x768, .f32⟩
  | .hbm, ⟨46, _⟩ => ⟨S1x8x768, .f32⟩
  | .hbm, ⟨47, _⟩ => ⟨S1x8x768, .f32⟩
  | .hbm, ⟨48, _⟩ => ⟨S4x8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== FfnFwd.lean ====
abbrev S4096x1024 : Shape := ⟨2, ![4096, 1024]⟩
abbrev S6x1024 : Shape := ⟨2, ![6, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S8x1024 : Shape := ⟨2, ![8, 1024]⟩
abbrev S8x352x1024 : Shape := ⟨3, ![8, 352, 1024]⟩
abbrev S8x1x352x1024 : Shape := ⟨4, ![8, 1, 352, 1024]⟩
abbrev S8x3x352x1024 : Shape := ⟨4, ![8, 3, 352, 1024]⟩
abbrev S4096x5632 : Shape := ⟨2, ![4096, 5632]⟩
abbrev S256x1024 : Shape := ⟨2, ![256, 1024]⟩
abbrev S256x5632 : Shape := ⟨2, ![256, 5632]⟩
abbrev S256 : Shape := ⟨1, ![256]⟩
abbrev S256x1 : Shape := ⟨2, ![256, 1]⟩
abbrev S4x1x352x1024 : Shape := ⟨4, ![4, 1, 352, 1024]⟩
abbrev S4x352x1024 : Shape := ⟨3, ![4, 352, 1024]⟩
abbrev S1408x1024 : Shape := ⟨2, ![1408, 1024]⟩
abbrev S256x1408 : Shape := ⟨2, ![256, 1408]⟩

abbrev nBuf : Space → Nat
  | .hbm => 23
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S6x1024, .f32⟩
  | .hbm, ⟨2, _⟩ => ⟨S1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S1x1024, .f32⟩
  | .hbm, ⟨8, _⟩ => ⟨S1x1024, .f32⟩
  | .hbm, ⟨9, _⟩ => ⟨S8x1024, .f32⟩
  | .hbm, ⟨10, _⟩ => ⟨S2816x1024, .f32⟩
  | .hbm, ⟨11, _⟩ => ⟨S8x352x1024, .f32⟩
  | .hbm, ⟨12, _⟩ => ⟨S2816x1024, .f32⟩
  | .hbm, ⟨13, _⟩ => ⟨S8x352x1024, .f32⟩
  | .hbm, ⟨14, _⟩ => ⟨S8x352x1024, .f32⟩
  | .hbm, ⟨15, _⟩ => ⟨S8x1x352x1024, .f32⟩
  | .hbm, ⟨16, _⟩ => ⟨S8x1x352x1024, .f32⟩
  | .hbm, ⟨17, _⟩ => ⟨S8x1x352x1024, .f32⟩
  | .hbm, ⟨18, _⟩ => ⟨S8x3x352x1024, .f32⟩
  | .hbm, ⟨19, _⟩ => ⟨S8x3x352x1024, .bf16⟩
  | .hbm, ⟨20, _⟩ => ⟨S4096x1024, .f32⟩
  | .hbm, ⟨21, _⟩ => ⟨S4096x1024, .f32⟩
  | .hbm, ⟨22, _⟩ => ⟨S4096x5632, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1x352x1024, .bf16⟩
  | .local _ .vmem, ⟨4, _⟩ => ⟨S8x1x352x1024, .bf16⟩
  | .local _ .vmem, ⟨5, _⟩ => ⟨S8x1x352x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x5632, .f32⟩
  | .local _ .vmem, ⟨11, _⟩ => ⟨S256x5632, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v13_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 4 → Nat :=
  let arg0 : BitVec 32 := BitVec.ofNat 32 (i 0).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c2_i32 : BitVec 32 := 2#32
  let c0_i32_0 : BitVec 32 := 0#32
  let c0_i32_1 : BitVec 32 := 0#32
  let c0_i32_2 : BitVec 32 := 0#32
  ![c0_i32.toNat, c2_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1x352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x1x352x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1x352x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x5632 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnFwdRefIdeal.lean ====
abbrev S4096x1024 : Shape := ⟨2, ![4096, 1024]⟩
abbrev S6x1024 : Shape := ⟨2, ![6, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x2816 : Shape := ⟨2, ![4096, 2816]⟩
abbrev S4096x5632 : Shape := ⟨2, ![4096, 5632]⟩

abbrev nBuf : Space → Nat
  | .hbm => 50
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S6x1024, .f32⟩
  | .hbm, ⟨2, _⟩ => ⟨S1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_v0 : Ref sig .tc := ⟨.hbm, 34, rfl⟩
abbrev main_call0_v1 : Ref sig .tc := ⟨.hbm, 35, rfl⟩
abbrev main_call0_cst : Ref sig .tc := ⟨.hbm, 36, rfl⟩
abbrev main_call0_v2 : Ref sig .tc := ⟨.hbm, 37, rfl⟩
abbrev main_call0_v3 : Ref sig .tc := ⟨.hbm, 38, rfl⟩
abbrev main_call0_cst_0 : Ref sig .tc := ⟨.hbm, 39, rfl⟩
abbrev main_call0_v4 : Ref sig .tc := ⟨.hbm, 40, rfl⟩
abbrev main_call0_v5 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩

abbrev nD : Nat := 1
abbrev τ : Topo := Topo.v7x

variable {F : FTy → Type} [FloatOps F]
-- ==== ProjFwd.lean ====
abbrev S4096x1024 : Shape := ⟨2, ![4096, 1024]⟩
abbrev S6x1024 : Shape := ⟨2, ![6, 1024]⟩
abbrev S1024 : Shape := ⟨1, ![1024]⟩
abbrev S1024x3072 : Shape := ⟨2, ![1024, 3072]⟩
abbrev S128 : Shape := ⟨1, ![128]⟩
abbrev S1x1024 : Shape := ⟨2, ![1, 1024]⟩
abbrev S8x1024 : Shape := ⟨2, ![8, 1024]⟩
abbrev S1x128 : Shape := ⟨2, ![1, 128]⟩
abbrev S2x128 : Shape := ⟨2, ![2, 128]⟩
abbrev S_ : Shape := ⟨0, ![]⟩
abbrev S6x128 : Shape := ⟨2, ![6, 128]⟩
abbrev S8x128 : Shape := ⟨2, ![8, 128]⟩
abbrev S3072x1024 : Shape := ⟨2, ![3072, 1024]⟩
abbrev S8x1x384x1024 : Shape := ⟨4, ![8, 1, 384, 1024]⟩
abbrev S4096x3072 : Shape := ⟨2, ![4096, 3072]⟩
abbrev S4096x2048 : Shape := ⟨2, ![4096, 2048]⟩
abbrev S256x1024 : Shape := ⟨2, ![256, 1024]⟩
abbrev S256x3072 : Shape := ⟨2, ![256, 3072]⟩
abbrev S256x2048 : Shape := ⟨2, ![256, 2048]⟩
abbrev S256 : Shape := ⟨1, ![256]⟩
abbrev S256x1 : Shape := ⟨2, ![256, 1]⟩
abbrev S8x384x1024 : Shape := ⟨3, ![8, 384, 1024]⟩
abbrev S256x128 : Shape := ⟨2, ![256, 128]⟩

abbrev nBuf : Space → Nat
  | .hbm => 21
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S6x1024, .f32⟩
  | .hbm, ⟨2, _⟩ => ⟨S1024, .f32⟩
  | .hbm, ⟨3, _⟩ => ⟨S1024, .f32⟩
  | .hbm, ⟨4, _⟩ => ⟨S1024x3072, .f32⟩
  | .hbm, ⟨5, _⟩ => ⟨S128, .f32⟩
  | .hbm, ⟨6, _⟩ => ⟨S128, .f32⟩
  | .hbm, ⟨7, _⟩ => ⟨S1x1024, .f32⟩
  | .hbm, ⟨8, _⟩ => ⟨S1x1024, .f32⟩
  | .hbm, ⟨9, _⟩ => ⟨S8x1024, .f32⟩
  | .hbm, ⟨10, _⟩ => ⟨S1x128, .f32⟩
  | .hbm, ⟨11, _⟩ => ⟨S1x128, .f32⟩
  | .hbm, ⟨12, _⟩ => ⟨S2x128, .f32⟩
  | .hbm, ⟨13, _⟩ => ⟨S_, .f32⟩
  | .hbm, ⟨14, _⟩ => ⟨S6x128, .f32⟩
  | .hbm, ⟨15, _⟩ => ⟨S8x128, .f32⟩
  | .hbm, ⟨16, _⟩ => ⟨S1024x3072, .bf16⟩
  | .hbm, ⟨17, _⟩ => ⟨S3072x1024, .bf16⟩
  | .hbm, ⟨18, _⟩ => ⟨S8x1x384x1024, .bf16⟩
  | .hbm, ⟨19, _⟩ => ⟨S4096x3072, .bf16⟩
  | .hbm, ⟨20, _⟩ => ⟨S4096x2048, .f32⟩
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1x384x1024, .bf16⟩
  | .local _ .vmem, ⟨4, _⟩ => ⟨S8x128, .f32⟩
  | .local _ .vmem, ⟨5, _⟩ => ⟨S256x3072, .bf16⟩
  | .local _ .vmem, ⟨6, _⟩ => ⟨S256x3072, .bf16⟩
  | .local _ .vmem, ⟨7, _⟩ => ⟨S256x2048, .f32⟩
  | .local _ .vmem, ⟨8, _⟩ => ⟨S256x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1x384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ProjFwdRefIdeal.lean ====
abbrev S4096x1024 : Shape := ⟨2, ![4096, 1024]⟩
abbrev S6x1024 : Shape := ⟨2, ![6, 1024]⟩
abbrev S1024 : Shape := ⟨1, ![1024]⟩
abbrev S1024x3072 : Shape := ⟨2, ![1024, 3072]⟩
abbrev S128 : Shape := ⟨1, ![128]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3072 : Shape := ⟨2, ![4096, 3072]⟩
abbrev S4096x8x128 : Shape := ⟨3, ![4096, 8, 128]⟩
abbrev S4096x8 : Shape := ⟨2, ![4096, 8]⟩
abbrev S4096x8x1 : Shape := ⟨3, ![4096, 8, 1]⟩
abbrev S1x1x128 : Shape := ⟨3, ![1, 1, 128]⟩
abbrev S4096x2048 : Shape := ⟨2, ![4096, 2048]⟩

abbrev nBuf : Space → Nat
  | .hbm => 75
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S6x1024, .f32⟩
  | .hbm, ⟨2, _⟩ => ⟨S1024, .f32⟩
  | .hbm, ⟨3, _⟩ => ⟨S1024, .f32⟩
  | .hbm, ⟨4, _⟩ => ⟨S1024x3072, .f32⟩
  | .hbm, ⟨5, _⟩ => ⟨S128, .f32⟩
  | .hbm, ⟨6, _⟩ => ⟨S128, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S_, .f32⟩
  | .hbm, ⟨25, _⟩ => ⟨S1x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x3072, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x8x128, .f32⟩
  | .hbm, ⟨37, _⟩ => ⟨S4096x8x128, .f32⟩
  | .hbm, ⟨38, _⟩ => ⟨S_, .f32⟩
  | .hbm, ⟨39, _⟩ => ⟨S4096x8, .f32⟩
  | .hbm, ⟨40, _⟩ => ⟨S4096x8x1, .f32⟩
  | .hbm, ⟨41, _⟩ => ⟨S_, .f32⟩
  | .hbm, ⟨42, _⟩ => ⟨S4096x8x1, .f32⟩
  | .hbm, ⟨43, _⟩ => ⟨S4096x8x1, .f32⟩
  | .hbm, ⟨44, _⟩ => ⟨S_, .f32⟩
  | .hbm, ⟨45, _⟩ => ⟨S4096x8x1, .f32⟩
  | .hbm, ⟨46, _⟩ => ⟨S4096x8x1, .f32⟩
  | .hbm, ⟨47, _⟩ => ⟨S4096x8x1, .f32⟩
  | .hbm, ⟨48, _⟩ => ⟨S4096x8x128, .f32⟩
  | .hbm, ⟨49, _⟩ => ⟨S4096x8x128, .f32⟩
  | .hbm, ⟨50, _⟩ => ⟨S1x1x128, .f32⟩
  | .hbm, ⟨51, _⟩ => ⟨S4096x8x128, .f32⟩
  | .hbm, ⟨52, _⟩ => ⟨S4096x8x128, .f32⟩
  | .hbm, ⟨53, _⟩ => ⟨S4096x1024, .f32⟩
  | .hbm, ⟨54, _⟩ => ⟨S4096x8x128, .f32⟩
  | .hbm, ⟨55, _⟩ => ⟨S4096x8x128, .f32⟩
  | .hbm, ⟨56, _⟩ => ⟨S_, .f32⟩
  | .hbm, ⟨57, _⟩ => ⟨S4096x8, .f32⟩
  | .hbm, ⟨58, _⟩ => ⟨S4096x8x1, .f32⟩
  | .hbm, ⟨59, _⟩ => ⟨S_, .f32⟩
  | .hbm, ⟨60, _⟩ => ⟨S4096x8x1, .f32⟩
  | .hbm, ⟨61, _⟩ => ⟨S4096x8x1, .f32⟩
  | .hbm, ⟨62, _⟩ => ⟨S_, .f32⟩
  | .hbm, ⟨63, _⟩ => ⟨S4096x8x1, .f32⟩
  | .hbm, ⟨64, _⟩ => ⟨S4096x8x1, .f32⟩
  | .hbm, ⟨65, _⟩ => ⟨S4096x8x1, .f32⟩
  | .hbm, ⟨66, _⟩ => ⟨S4096x8x128, .f32⟩
  | .hbm, ⟨67, _⟩ => ⟨S4096x8x128, .f32⟩
  | .hbm, ⟨68, _⟩ => ⟨S1x1x128, .f32⟩
  | .hbm, ⟨69, _⟩ => ⟨S4096x8x128, .f32⟩
  | .hbm, ⟨70, _⟩ => ⟨S4096x8x128, .f32⟩
  | .hbm, ⟨71, _⟩ => ⟨S4096x1024, .f32⟩
  | .hbm, ⟨72, _⟩ => ⟨S4096x3072, .f32⟩
  | .hbm, ⟨73, _⟩ => ⟨S4096x3072, .bf16⟩
  | .hbm, ⟨74, _⟩ => ⟨S4096x2048, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩

abbrev nD : Nat := 1
abbrev τ : Topo := Topo.v7x

variable {F : FTy → Type} [FloatOps F]
-- ==== AdamSmall.lean ====
abbrev S4x6144 : Shape := ⟨2, ![4, 6144]⟩
abbrev S4x1024 : Shape := ⟨2, ![4, 1024]⟩
abbrev S2x3x64 : Shape := ⟨3, ![2, 3, 64]⟩
abbrev S2x512 : Shape := ⟨2, ![2, 512]⟩
abbrev S2x128 : Shape := ⟨2, ![2, 128]⟩
abbrev S24576 : Shape := ⟨1, ![24576]⟩
abbrev S4096 : Shape := ⟨1, ![4096]⟩
abbrev S384 : Shape := ⟨1, ![384]⟩
abbrev S1024 : Shape := ⟨1, ![1024]⟩
abbrev S256 : Shape := ⟨1, ![256]⟩
abbrev S34688 : Shape := ⟨1, ![34688]⟩
abbrev S_ : Shape := ⟨0, ![]⟩
abbrev S128 : Shape := ⟨1, ![128]⟩
abbrev S34816 : Shape := ⟨1, ![34816]⟩
abbrev S272x128 : Shape := ⟨2, ![272, 128]⟩

abbrev nBuf : Space → Nat
  | .hbm => 79
  | .vmem => 7
  | .smem => 0
  | _ => 0

abbrev bufTy : (tb : Table) → Fin (tcTables nBuf tb) → BufTy
  | .hbm, ⟨0, _⟩ => ⟨S4x6144, .f32⟩
  | .hbm, ⟨1, _⟩ => ⟨S4x1024, .f32⟩
  | .hbm, ⟨2, _⟩ => ⟨S4x1024, .f32⟩
  | .hbm, ⟨3, _⟩ => ⟨S2x3x64, .f32⟩
  | .hbm, ⟨4, _⟩ => ⟨S2x512, .f32⟩
  | .hbm, ⟨5, _⟩ => ⟨S2x128, .f32⟩
  | .hbm, ⟨6, _⟩ => ⟨S2x128, .f32⟩
  | .hbm, ⟨7, _⟩ => ⟨S4x6144, .f32⟩
  | .hbm, ⟨8, _⟩ => ⟨S4x1024, .f32⟩
  | .hbm, ⟨9, _⟩ => ⟨S4x1024, .f32⟩
  | .hbm, ⟨10, _⟩ => ⟨S2x3x64, .f32⟩
  | .hbm, ⟨11, _⟩ => ⟨S2x512, .f32⟩
  | .hbm, ⟨12, _⟩ => ⟨S2x128, .f32⟩
  | .hbm, ⟨13, _⟩ => ⟨S2x128, .f32⟩
  | .hbm, ⟨14, _⟩ => ⟨S4x6144, .f32⟩
  | .hbm, ⟨15, _⟩ => ⟨S4x1024, .f32⟩
  | .hbm, ⟨16, _⟩ => ⟨S4x1024, .f32⟩
  | .hbm, ⟨17, _⟩ => ⟨S2x3x64, .f32⟩
  | .hbm, ⟨18, _⟩ => ⟨S2x512, .f32⟩
  | .hbm, ⟨19, _⟩ => ⟨S2x128, .f32⟩
  | .hbm, ⟨20, _⟩ => ⟨S2x128, .f32⟩
  | .hbm, ⟨21, _⟩ => ⟨S4x6144, .f32⟩
  | .hbm, ⟨22, _⟩ => ⟨S4x1024, .f32⟩
  | .hbm, ⟨23, _⟩ => ⟨S4x1024, .f32⟩
  | .hbm, ⟨24, _⟩ => ⟨S2x3x64, .f32⟩
  | .hbm, ⟨25, _⟩ => ⟨S2x512, .f32⟩
  | .hbm, ⟨26, _⟩ => ⟨S2x128, .f32⟩
  | .hbm, ⟨27, _⟩ => ⟨S2x128, .f32⟩
  | .hbm, ⟨28, _⟩ => ⟨S24576, .f32⟩
  | .hbm, ⟨29, _⟩ => ⟨S4096, .f32⟩
  | .hbm, ⟨30, _⟩ => ⟨S4096, .f32⟩
  | .hbm, ⟨31, _⟩ => ⟨S384, .f32⟩
  | .hbm, ⟨32, _⟩ => ⟨S1024, .f32⟩
  | .hbm, ⟨33, _⟩ => ⟨S256, .f32⟩
  | .hbm, ⟨34, _⟩ => ⟨S256, .f32⟩
  | .hbm, ⟨35, _⟩ => ⟨S34688, .f32⟩
  | .hbm, ⟨36, _⟩ => ⟨S_, .f32⟩
  | .hbm, ⟨37, _⟩ => ⟨S128, .f32⟩
  | .hbm, ⟨38, _⟩ => ⟨S34816, .f32⟩
  | .hbm, ⟨39, _⟩ => ⟨S272x128, .f32⟩
  | .hbm, ⟨40, _⟩ => ⟨S24576, .f32⟩
  | .hbm, ⟨41, _⟩ => ⟨S4096, .f32⟩
  | .hbm, ⟨42, _⟩ => ⟨S4096, .f32⟩
  | .hbm, ⟨43, _⟩ => ⟨S384, .f32⟩
  | .hbm, ⟨44, _⟩ => ⟨S1024, .f32⟩
  | .hbm, ⟨45, _⟩ => ⟨S256, .f32⟩
  | .hbm, ⟨46, _⟩ => ⟨S256, .f32⟩
  | .hbm, ⟨47, _⟩ => ⟨S34688, .f32⟩
  | .hbm, ⟨48, _⟩ => ⟨S_, .f32⟩
  | .hbm, ⟨49, _⟩ => ⟨S128, .f32⟩
  | .hbm, ⟨50, _⟩ => ⟨S34816, .f32⟩
  | .hbm, ⟨51, _⟩ => ⟨S272x128, .f32⟩
  | .hbm, ⟨52, _⟩ => ⟨S24576, .f32⟩
  | .hbm, ⟨53, _⟩ => ⟨S4096, .f32⟩
  | .hbm, ⟨54, _⟩ => ⟨S4096, .f32⟩
  | .hbm, ⟨55, _⟩ => ⟨S384, .f32⟩
  | .hbm, ⟨56, _⟩ => ⟨S1024, .f32⟩
  | .hbm, ⟨57, _⟩ => ⟨S256, .f32⟩
  | .hbm, ⟨58, _⟩ => ⟨S256, .f32⟩
  | .hbm, ⟨59, _⟩ => ⟨S34688, .f32⟩
  | .hbm, ⟨60, _⟩ => ⟨S_, .f32⟩
  | .hbm, ⟨61, _⟩ => ⟨S128, .f32⟩
  | .hbm, ⟨62, _⟩ => ⟨S34816, .f32⟩
  | .hbm, ⟨63, _⟩ => ⟨S272x128, .f32⟩
  | .hbm, ⟨64, _⟩ => ⟨S24576, .f32⟩
  | .hbm, ⟨65, _⟩ => ⟨S4096, .f32⟩
  | .hbm, ⟨66, _⟩ => ⟨S4096, .f32⟩
  | .hbm, ⟨67, _⟩ => ⟨S384, .f32⟩
  | .hbm, ⟨68, _⟩ => ⟨S1024, .f32⟩
  | .hbm, ⟨69, _⟩ => ⟨S256, .f32⟩
  | .hbm, ⟨70, _⟩ => ⟨S256, .f32⟩
  | .hbm, ⟨71, _⟩ => ⟨S34688, .f32⟩
  | .hbm, ⟨72, _⟩ => ⟨S_, .f32⟩
  | .hbm, ⟨73, _⟩ => ⟨S128, .f32⟩
  | .hbm, ⟨74, _⟩ => ⟨S34816, .f32⟩
  | .hbm, ⟨75, _⟩ => ⟨S272x128, .f32⟩
  | .hbm, ⟨76, _⟩ => ⟨S272x128, .f32⟩
  | .hbm, ⟨77, _⟩ => ⟨S272x128, .f32⟩
  | .hbm, ⟨78, _⟩ => ⟨S272x128, .f32⟩
  | .local _ .vmem, ⟨0, _⟩ => ⟨S272x128, .f32⟩
  | .local _ .vmem, ⟨1, _⟩ => ⟨S272x128, .f32⟩
  | .local _ .vmem, ⟨2, _⟩ => ⟨S272x128, .f32⟩
  | .local _ .vmem, ⟨3, _⟩ => ⟨S272x128, .f32⟩
  | .local _ .vmem, ⟨4, _⟩ => ⟨S272x128, .f32⟩
  | .local _ .vmem, ⟨5, _⟩ => ⟨S272x128, .f32⟩
  | .local _ .vmem, ⟨6, _⟩ => ⟨S272x128, .f32⟩
  | _, _ => ⟨S4x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_v0 : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev main_cst : Ref sig .tc := ⟨.hbm, 36, rfl⟩
abbrev main_v8 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_cst_0 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_1 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_2 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44_0 : Ref sig .tc := ⟨.hbm, 76, rfl⟩
abbrev main_v44_1 : Ref sig .tc := ⟨.hbm, 77, rfl⟩
abbrev main_v44_2 : Ref sig .tc := ⟨.hbm, 78, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S272x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S272x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S272x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S272x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S272x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S272x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S272x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallIdeal.lean ====
variable {F : FTy → Type} [FloatOps F] [Named F]
def κ : String → Option EReal := fun
  | "bc1" => some (((5463681 / 8388608)⁻¹ : ℝ) : EReal)
  | "bc2" => some (((2672307 / 268435456)⁻¹ : ℝ) : EReal)
  | _ => none
-- ==== AdamSmallRefIdeal.lean ====
abbrev S4x6144 : Shape := ⟨2, ![4, 6144]⟩
abbrev S4x1024 : Shape := ⟨2, ![4, 1024]⟩
abbrev S2x3x64 : Shape := ⟨3, ![2, 3, 64]⟩
abbrev S2x512 : Shape := ⟨2, ![2, 512]⟩
abbrev S2x128 : Shape := ⟨2, ![2, 128]⟩
abbrev S_ : Shape := ⟨0, ![]⟩
abbrev S24576 : Shape := ⟨1, ![24576]⟩
abbrev S4096 : Shape := ⟨1, ![4096]⟩
abbrev S384 : Shape := ⟨1, ![384]⟩
abbrev S1024 : Shape := ⟨1, ![1024]⟩
abbrev S256 : Shape := ⟨1, ![256]⟩
abbrev S128 : Shape := ⟨1, ![128]⟩
abbrev S34816 : Shape := ⟨1, ![34816]⟩
abbrev S272x128 : Shape := ⟨2, ![272, 128]⟩

abbrev nBuf : Space → Nat
  | .hbm => 292
  | .vmem => 0
  | .smem => 0
  | _ => 0

abbrev hbmTy0_0 (i : Nat) : BufTy := match i % 128 with
  | 0 => ⟨S4x6144, .f32⟩
  | 1 => ⟨S4x1024, .f32⟩
  | 2 => ⟨S4x1024, .f32⟩
  | 3 => ⟨S2x3x64, .f32⟩
  | 4 => ⟨S2x512, .f32⟩
  | 5 => ⟨S2x128, .f32⟩
  | 6 => ⟨S2x128, .f32⟩
  | 7 => ⟨S4x6144, .f32⟩
  | 8 => ⟨S4x1024, .f32⟩
  | 9 => ⟨S4x1024, .f32⟩
  | 10 => ⟨S2x3x64, .f32⟩
  | 11 => ⟨S2x512, .f32⟩
  | 12 => ⟨S2x128, .f32⟩
  | 13 => ⟨S2x128, .f32⟩
  | 14 => ⟨S4x6144, .f32⟩
  | 15 => ⟨S4x1024, .f32⟩
  | 16 => ⟨S4x1024, .f32⟩
  | 17 => ⟨S2x3x64, .f32⟩
  | 18 => ⟨S2x512, .f32⟩
  | 19 => ⟨S2x128, .f32⟩
  | 20 => ⟨S2x128, .f32⟩
  | 21 => ⟨S4x6144, .f32⟩
  | 22 => ⟨S4x1024, .f32⟩
  | 23 => ⟨S4x1024, .f32⟩
  | 24 => ⟨S2x3x64, .f32⟩
  | 25 => ⟨S2x512, .f32⟩
  | 26 => ⟨S2x128, .f32⟩
  | 27 => ⟨S2x128, .f32⟩
  | 28 => ⟨S_, .f32⟩
  | 29 => ⟨S4x6144, .f32⟩
  | 30 => ⟨S4x6144, .f32⟩
  | 31 => ⟨S_, .f32⟩
  | 32 => ⟨S4x6144, .f32⟩
  | 33 => ⟨S4x6144, .f32⟩
  | 34 => ⟨S4x6144, .f32⟩
  | 35 => ⟨S_, .f32⟩
  | 36 => ⟨S4x6144, .f32⟩
  | 37 => ⟨S4x6144, .f32⟩
  | 38 => ⟨S4x6144, .f32⟩
  | 39 => ⟨S_, .f32⟩
  | 40 => ⟨S4x6144, .f32⟩
  | 41 => ⟨S4x6144, .f32⟩
  | 42 => ⟨S4x6144, .f32⟩
  | 43 => ⟨S_, .f32⟩
  | 44 => ⟨S4x6144, .f32⟩
  | 45 => ⟨S4x6144, .f32⟩
  | 46 => ⟨S_, .f32⟩
  | 47 => ⟨S4x6144, .f32⟩
  | 48 => ⟨S4x6144, .f32⟩
  | 49 => ⟨S4x6144, .f32⟩
  | 50 => ⟨S_, .f32⟩
  | 51 => ⟨S4x6144, .f32⟩
  | 52 => ⟨S4x6144, .f32⟩
  | 53 => ⟨S4x6144, .f32⟩
  | 54 => ⟨S_, .f32⟩
  | 55 => ⟨S4x6144, .f32⟩
  | 56 => ⟨S4x6144, .f32⟩
  | 57 => ⟨S4x6144, .f32⟩
  | 58 => ⟨S_, .f32⟩
  | 59 => ⟨S4x6144, .f32⟩
  | 60 => ⟨S4x6144, .f32⟩
  | 61 => ⟨S_, .f32⟩
  | 62 => ⟨S4x1024, .f32⟩
  | 63 => ⟨S4x1024, .f32⟩
  | 64 => ⟨S_, .f32⟩
  | 65 => ⟨S4x1024, .f32⟩
  | 66 => ⟨S4x1024, .f32⟩
  | 67 => ⟨S4x1024, .f32⟩
  | 68 => ⟨S_, .f32⟩
  | 69 => ⟨S4x1024, .f32⟩
  | 70 => ⟨S4x1024, .f32⟩
  | 71 => ⟨S4x1024, .f32⟩
  | 72 => ⟨S_, .f32⟩
  | 73 => ⟨S4x1024, .f32⟩
  | 74 => ⟨S4x1024, .f32⟩
  | 75 => ⟨S4x1024, .f32⟩
  | 76 => ⟨S_, .f32⟩
  | 77 => ⟨S4x1024, .f32⟩
  | 78 => ⟨S4x1024, .f32⟩
  | 79 => ⟨S_, .f32⟩
  | 80 => ⟨S4x1024, .f32⟩
  | 81 => ⟨S4x1024, .f32⟩
  | 82 => ⟨S4x1024, .f32⟩
  | 83 => ⟨S_, .f32⟩
  | 84 => ⟨S4x1024, .f32⟩
  | 85 => ⟨S4x1024, .f32⟩
  | 86 => ⟨S4x1024, .f32⟩
  | 87 => ⟨S_, .f32⟩
  | 88 => ⟨S4x1024, .f32⟩
  | 89 => ⟨S4x1024, .f32⟩
  | 90 => ⟨S4x1024, .f32⟩
  | 91 => ⟨S_, .f32⟩
  | 92 => ⟨S4x1024, .f32⟩
  | 93 => ⟨S4x1024, .f32⟩
  | 94 => ⟨S_, .f32⟩
  | 95 => ⟨S4x1024, .f32⟩
  | 96 => ⟨S4x1024, .f32⟩
  | 97 => ⟨S_, .f32⟩
  | 98 => ⟨S4x1024, .f32⟩
  | 99 => ⟨S4x1024, .f32⟩
  | 100 => ⟨S4x1024, .f32⟩
  | 101 => ⟨S_, .f32⟩
  | 102 => ⟨S4x1024, .f32⟩
  | 103 => ⟨S4x1024, .f32⟩
  | 104 => ⟨S4x1024, .f32⟩
  | 105 => ⟨S_, .f32⟩
  | 106 => ⟨S4x1024, .f32⟩
  | 107 => ⟨S4x1024, .f32⟩
  | 108 => ⟨S4x1024, .f32⟩
  | 109 => ⟨S_, .f32⟩
  | 110 => ⟨S4x1024, .f32⟩
  | 111 => ⟨S4x1024, .f32⟩
  | 112 => ⟨S_, .f32⟩
  | 113 => ⟨S4x1024, .f32⟩
  | 114 => ⟨S4x1024, .f32⟩
  | 115 => ⟨S4x1024, .f32⟩
  | 116 => ⟨S_, .f32⟩
  | 117 => ⟨S4x1024, .f32⟩
  | 118 => ⟨S4x1024, .f32⟩
  | 119 => ⟨S4x1024, .f32⟩
  | 120 => ⟨S_, .f32⟩
  | 121 => ⟨S4x1024, .f32⟩
  | 122 => ⟨S4x1024, .f32⟩
  | 123 => ⟨S4x1024, .f32⟩
  | 124 => ⟨S_, .f32⟩
  | 125 => ⟨S4x1024, .f32⟩
  | 126 => ⟨S4x1024, .f32⟩
  | 127 => ⟨S_, .f32⟩
  | _ => ⟨S4x6144, .f32⟩

abbrev hbmTy0_1 (i : Nat) : BufTy := match i % 128 with
  | 0 => ⟨S2x3x64, .f32⟩
  | 1 => ⟨S2x3x64, .f32⟩
  | 2 => ⟨S_, .f32⟩
  | 3 => ⟨S2x3x64, .f32⟩
  | 4 => ⟨S2x3x64, .f32⟩
  | 5 => ⟨S2x3x64, .f32⟩
  | 6 => ⟨S_, .f32⟩
  | 7 => ⟨S2x3x64, .f32⟩
  | 8 => ⟨S2x3x64, .f32⟩
  | 9 => ⟨S2x3x64, .f32⟩
  | 10 => ⟨S_, .f32⟩
  | 11 => ⟨S2x3x64, .f32⟩
  | 12 => ⟨S2x3x64, .f32⟩
  | 13 => ⟨S2x3x64, .f32⟩
  | 14 => ⟨S_, .f32⟩
  | 15 => ⟨S2x3x64, .f32⟩
  | 16 => ⟨S2x3x64, .f32⟩
  | 17 => ⟨S_, .f32⟩
  | 18 => ⟨S2x3x64, .f32⟩
  | 19 => ⟨S2x3x64, .f32⟩
  | 20 => ⟨S2x3x64, .f32⟩
  | 21 => ⟨S_, .f32⟩
  | 22 => ⟨S2x3x64, .f32⟩
  | 23 => ⟨S2x3x64, .f32⟩
  | 24 => ⟨S2x3x64, .f32⟩
  | 25 => ⟨S_, .f32⟩
  | 26 => ⟨S2x3x64, .f32⟩
  | 27 => ⟨S2x3x64, .f32⟩
  | 28 => ⟨S2x3x64, .f32⟩
  | 29 => ⟨S_, .f32⟩
  | 30 => ⟨S2x3x64, .f32⟩
  | 31 => ⟨S2x3x64, .f32⟩
  | 32 => ⟨S_, .f32⟩
  | 33 => ⟨S2x512, .f32⟩
  | 34 => ⟨S2x512, .f32⟩
  | 35 => ⟨S_, .f32⟩
  | 36 => ⟨S2x512, .f32⟩
  | 37 => ⟨S2x512, .f32⟩
  | 38 => ⟨S2x512, .f32⟩
  | 39 => ⟨S_, .f32⟩
  | 40 => ⟨S2x512, .f32⟩
  | 41 => ⟨S2x512, .f32⟩
  | 42 => ⟨S2x512, .f32⟩
  | 43 => ⟨S_, .f32⟩
  | 44 => ⟨S2x512, .f32⟩
  | 45 => ⟨S2x512, .f32⟩
  | 46 => ⟨S2x512, .f32⟩
  | 47 => ⟨S_, .f32⟩
  | 48 => ⟨S2x512, .f32⟩
  | 49 => ⟨S2x512, .f32⟩
  | 50 => ⟨S_, .f32⟩
  | 51 => ⟨S2x512, .f32⟩
  | 52 => ⟨S2x512, .f32⟩
  | 53 => ⟨S2x512, .f32⟩
  | 54 => ⟨S_, .f32⟩
  | 55 => ⟨S2x512, .f32⟩
  | 56 => ⟨S2x512, .f32⟩
  | 57 => ⟨S2x512, .f32⟩
  | 58 => ⟨S_, .f32⟩
  | 59 => ⟨S2x512, .f32⟩
  | 60 => ⟨S2x512, .f32⟩
  | 61 => ⟨S2x512, .f32⟩
  | 62 => ⟨S_, .f32⟩
  | 63 => ⟨S2x512, .f32⟩
  | 64 => ⟨S2x512, .f32⟩
  | 65 => ⟨S_, .f32⟩
  | 66 => ⟨S2x128, .f32⟩
  | 67 => ⟨S2x128, .f32⟩
  | 68 => ⟨S_, .f32⟩
  | 69 => ⟨S2x128, .f32⟩
  | 70 => ⟨S2x128, .f32⟩
  | 71 => ⟨S2x128, .f32⟩
  | 72 => ⟨S_, .f32⟩
  | 73 => ⟨S2x128, .f32⟩
  | 74 => ⟨S2x128, .f32⟩
  | 75 => ⟨S2x128, .f32⟩
  | 76 => ⟨S_, .f32⟩
  | 77 => ⟨S2x128, .f32⟩
  | 78 => ⟨S2x128, .f32⟩
  | 79 => ⟨S2x128, .f32⟩
  | 80 => ⟨S_, .f32⟩
  | 81 => ⟨S2x128, .f32⟩
  | 82 => ⟨S2x128, .f32⟩
  | 83 => ⟨S_, .f32⟩
  | 84 => ⟨S2x128, .f32⟩
  | 85 => ⟨S2x128, .f32⟩
  | 86 => ⟨S2x128, .f32⟩
  | 87 => ⟨S_, .f32⟩
  | 88 => ⟨S2x128, .f32⟩
  | 89 => ⟨S2x128, .f32⟩
  | 90 => ⟨S2x128, .f32⟩
  | 91 => ⟨S_, .f32⟩
  | 92 => ⟨S2x128, .f32⟩
  | 93 => ⟨S2x128, .f32⟩
  | 94 => ⟨S2x128, .f32⟩
  | 95 => ⟨S_, .f32⟩
  | 96 => ⟨S2x128, .f32⟩
  | 97 => ⟨S2x128, .f32⟩
  | 98 => ⟨S_, .f32⟩
  | 99 => ⟨S2x128, .f32⟩
  | 100 => ⟨S2x128, .f32⟩
  | 101 => ⟨S_, .f32⟩
  | 102 => ⟨S2x128, .f32⟩
  | 103 => ⟨S2x128, .f32⟩
  | 104 => ⟨S2x128, .f32⟩
  | 105 => ⟨S_, .f32⟩
  | 106 => ⟨S2x128, .f32⟩
  | 107 => ⟨S2x128, .f32⟩
  | 108 => ⟨S2x128, .f32⟩
  | 109 => ⟨S_, .f32⟩
  | 110 => ⟨S2x128, .f32⟩
  | 111 => ⟨S2x128, .f32⟩
  | 112 => ⟨S2x128, .f32⟩
  | 113 => ⟨S_, .f32⟩
  | 114 => ⟨S2x128, .f32⟩
  | 115 => ⟨S2x128, .f32⟩
  | 116 => ⟨S_, .f32⟩
  | 117 => ⟨S2x128, .f32⟩
  | 118 => ⟨S2x128, .f32⟩
  | 119 => ⟨S2x128, .f32⟩
  | 120 => ⟨S_, .f32⟩
  | 121 => ⟨S2x128, .f32⟩
  | 122 => ⟨S2x128, .f32⟩
  | 123 => ⟨S2x128, .f32⟩
  | 124 => ⟨S_, .f32⟩
  | 125 => ⟨S2x128, .f32⟩
  | 126 => ⟨S2x128, .f32⟩
  | 127 => ⟨S2x128, .f32⟩
  | _ => ⟨S4x6144, .f32⟩

abbrev hbmTy0_2 (i : Nat) : BufTy := match i % 128 with
  | 0 => ⟨S_, .f32⟩
  | 1 => ⟨S2x128, .f32⟩
  | 2 => ⟨S2x128, .f32⟩
  | 3 => ⟨S24576, .f32⟩
  | 4 => ⟨S4096, .f32⟩
  | 5 => ⟨S4096, .f32⟩
  | 6 => ⟨S384, .f32⟩
  | 7 => ⟨S1024, .f32⟩
  | 8 => ⟨S256, .f32⟩
  | 9 => ⟨S256, .f32⟩
  | 10 => ⟨S_, .f32⟩
  | 11 => ⟨S128, .f32⟩
  | 12 => ⟨S34816, .f32⟩
  | 13 => ⟨S272x128, .f32⟩
  | 14 => ⟨S24576, .f32⟩
  | 15 => ⟨S4096, .f32⟩
  | 16 => ⟨S4096, .f32⟩
  | 17 => ⟨S384, .f32⟩
  | 18 => ⟨S1024, .f32⟩
  | 19 => ⟨S256, .f32⟩
  | 20 => ⟨S256, .f32⟩
  | 21 => ⟨S_, .f32⟩
  | 22 => ⟨S128, .f32⟩
  | 23 => ⟨S34816, .f32⟩
  | 24 => ⟨S272x128, .f32⟩
  | 25 => ⟨S24576, .f32⟩
  | 26 => ⟨S4096, .f32⟩
  | 27 => ⟨S4096, .f32⟩
  | 28 => ⟨S384, .f32⟩
  | 29 => ⟨S1024, .f32⟩
  | 30 => ⟨S256, .f32⟩
  | 31 => ⟨S256, .f32⟩
  | 32 => ⟨S_, .f32⟩
  | 33 => ⟨S128, .f32⟩
  | 34 => ⟨S34816, .f32⟩
  | 35 => ⟨S272x128, .f32⟩
  | _ => ⟨S4x6144, .f32⟩

abbrev hbmTy (i : Nat) : BufTy := match i / 128 with
  | 0 => hbmTy0_0 i
  | 1 => hbmTy0_1 i
  | 2 => hbmTy0_2 i
  | _ => ⟨S4x6144, .f32⟩

abbrev bufTy : (tb : Table) → Fin (tcTables nBuf tb) → BufTy
  | .hbm, ⟨i, _⟩ => hbmTy i
  | _, _ => ⟨S4x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_cst : Ref sig .tc := ⟨.hbm, 28, rfl⟩
abbrev main_v0 : Ref sig .tc := ⟨.hbm, 29, rfl⟩
abbrev main_v1 : Ref sig .tc := ⟨.hbm, 30, rfl⟩
abbrev main_cst_0 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_cst_1 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst_2 : Ref sig .tc := ⟨.hbm, 39, rfl⟩
abbrev main_v8 : Ref sig .tc := ⟨.hbm, 40, rfl⟩
abbrev main_v9 : Ref sig .tc := ⟨.hbm, 41, rfl⟩
abbrev main_v10 : Ref sig .tc := ⟨.hbm, 42, rfl⟩
abbrev main_cst_3 : Ref sig .tc := ⟨.hbm, 43, rfl⟩
abbrev main_v11 : Ref sig .tc := ⟨.hbm, 44, rfl⟩
abbrev main_v12 : Ref sig .tc := ⟨.hbm, 45, rfl⟩
abbrev main_cst_4 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_cst_5 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_cst_6 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_cst_7 : Ref sig .tc := ⟨.hbm, 58, rfl⟩
abbrev main_v22 : Ref sig .tc := ⟨.hbm, 59, rfl⟩
abbrev main_v23 : Ref sig .tc := ⟨.hbm, 60, rfl⟩
abbrev main_cst_8 : Ref sig .tc := ⟨.hbm, 61, rfl⟩
abbrev main_v24 : Ref sig .tc := ⟨.hbm, 62, rfl⟩
abbrev main_v25 : Ref sig .tc := ⟨.hbm, 63, rfl⟩
abbrev main_cst_9 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_cst_10 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_cst_11 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_cst_12 : Ref sig .tc := ⟨.hbm, 76, rfl⟩
abbrev main_v35 : Ref sig .tc := ⟨.hbm, 77, rfl⟩
abbrev main_v36 : Ref sig .tc := ⟨.hbm, 78, rfl⟩
abbrev main_cst_13 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_cst_14 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_15 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_cst_16 : Ref sig .tc := ⟨.hbm, 91, rfl⟩
abbrev main_v46 : Ref sig .tc := ⟨.hbm, 92, rfl⟩
abbrev main_v47 : Ref sig .tc := ⟨.hbm, 93, rfl⟩
abbrev main_cst_17 : Ref sig .tc := ⟨.hbm, 94, rfl⟩
abbrev main_v48 : Ref sig .tc := ⟨.hbm, 95, rfl⟩
abbrev main_v49 : Ref sig .tc := ⟨.hbm, 96, rfl⟩
abbrev main_cst_18 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_cst_19 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_cst_20 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_21 : Ref sig .tc := ⟨.hbm, 109, rfl⟩
abbrev main_v59 : Ref sig .tc := ⟨.hbm, 110, rfl⟩
abbrev main_v60 : Ref sig .tc := ⟨.hbm, 111, rfl⟩
abbrev main_cst_22 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_cst_23 : Ref sig .tc := ⟨.hbm, 116, rfl⟩
abbrev main_v64 : Ref sig .tc := ⟨.hbm, 117, rfl⟩
abbrev main_v65 : Ref sig .tc := ⟨.hbm, 118, rfl⟩
abbrev main_v66 : Ref sig .tc := ⟨.hbm, 119, rfl⟩
abbrev main_cst_24 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_cst_25 : Ref sig .tc := ⟨.hbm, 124, rfl⟩
abbrev main_v70 : Ref sig .tc := ⟨.hbm, 125, rfl⟩
abbrev main_v71 : Ref sig .tc := ⟨.hbm, 126, rfl⟩
abbrev main_cst_26 : Ref sig .tc := ⟨.hbm, 127, rfl⟩
abbrev main_v72 : Ref sig .tc := ⟨.hbm, 128, rfl⟩
abbrev main_v73 : Ref sig .tc := ⟨.hbm, 129, rfl⟩
abbrev main_cst_27 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_cst_28 : Ref sig .tc := ⟨.hbm, 134, rfl⟩
abbrev main_v77 : Ref sig .tc := ⟨.hbm, 135, rfl⟩
abbrev main_v78 : Ref sig .tc := ⟨.hbm, 136, rfl⟩
abbrev main_v79 : Ref sig .tc := ⟨.hbm, 137, rfl⟩
abbrev main_cst_29 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_cst_30 : Ref sig .tc := ⟨.hbm, 142, rfl⟩
abbrev main_v83 : Ref sig .tc := ⟨.hbm, 143, rfl⟩
abbrev main_v84 : Ref sig .tc := ⟨.hbm, 144, rfl⟩
abbrev main_cst_31 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_cst_32 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_cst_33 : Ref sig .tc := ⟨.hbm, 153, rfl⟩
abbrev main_v91 : Ref sig .tc := ⟨.hbm, 154, rfl⟩
abbrev main_v92 : Ref sig .tc := ⟨.hbm, 155, rfl⟩
abbrev main_v93 : Ref sig .tc := ⟨.hbm, 156, rfl⟩
abbrev main_cst_34 : Ref sig .tc := ⟨.hbm, 157, rfl⟩
abbrev main_v94 : Ref sig .tc := ⟨.hbm, 158, rfl⟩
abbrev main_v95 : Ref sig .tc := ⟨.hbm, 159, rfl⟩
abbrev main_cst_35 : Ref sig .tc := ⟨.hbm, 160, rfl⟩
abbrev main_v96 : Ref sig .tc := ⟨.hbm, 161, rfl⟩
abbrev main_v97 : Ref sig .tc := ⟨.hbm, 162, rfl⟩
abbrev main_cst_36 : Ref sig .tc := ⟨.hbm, 163, rfl⟩
abbrev main_v98 : Ref sig .tc := ⟨.hbm, 164, rfl⟩
abbrev main_v99 : Ref sig .tc := ⟨.hbm, 165, rfl⟩
abbrev main_v100 : Ref sig .tc := ⟨.hbm, 166, rfl⟩
abbrev main_cst_37 : Ref sig .tc := ⟨.hbm, 167, rfl⟩
abbrev main_v101 : Ref sig .tc := ⟨.hbm, 168, rfl⟩
abbrev main_v102 : Ref sig .tc := ⟨.hbm, 169, rfl⟩
abbrev main_v103 : Ref sig .tc := ⟨.hbm, 170, rfl⟩
abbrev main_cst_38 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_cst_39 : Ref sig .tc := ⟨.hbm, 175, rfl⟩
abbrev main_v107 : Ref sig .tc := ⟨.hbm, 176, rfl⟩
abbrev main_v108 : Ref sig .tc := ⟨.hbm, 177, rfl⟩
abbrev main_cst_40 : Ref sig .tc := ⟨.hbm, 178, rfl⟩
abbrev main_v109 : Ref sig .tc := ⟨.hbm, 179, rfl⟩
abbrev main_v110 : Ref sig .tc := ⟨.hbm, 180, rfl⟩
abbrev main_v111 : Ref sig .tc := ⟨.hbm, 181, rfl⟩
abbrev main_cst_41 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_cst_42 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_cst_43 : Ref sig .tc := ⟨.hbm, 190, rfl⟩
abbrev main_v118 : Ref sig .tc := ⟨.hbm, 191, rfl⟩
abbrev main_v119 : Ref sig .tc := ⟨.hbm, 192, rfl⟩
abbrev main_cst_44 : Ref sig .tc := ⟨.hbm, 193, rfl⟩
abbrev main_v120 : Ref sig .tc := ⟨.hbm, 194, rfl⟩
abbrev main_v121 : Ref sig .tc := ⟨.hbm, 195, rfl⟩
abbrev main_cst_45 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_cst_46 : Ref sig .tc := ⟨.hbm, 200, rfl⟩
abbrev main_v125 : Ref sig .tc := ⟨.hbm, 201, rfl⟩
abbrev main_v126 : Ref sig .tc := ⟨.hbm, 202, rfl⟩
abbrev main_v127 : Ref sig .tc := ⟨.hbm, 203, rfl⟩
abbrev main_cst_47 : Ref sig .tc := ⟨.hbm, 204, rfl⟩
abbrev main_v128 : Ref sig .tc := ⟨.hbm, 205, rfl⟩
abbrev main_v129 : Ref sig .tc := ⟨.hbm, 206, rfl⟩
abbrev main_v130 : Ref sig .tc := ⟨.hbm, 207, rfl⟩
abbrev main_cst_48 : Ref sig .tc := ⟨.hbm, 208, rfl⟩
abbrev main_v131 : Ref sig .tc := ⟨.hbm, 209, rfl⟩
abbrev main_v132 : Ref sig .tc := ⟨.hbm, 210, rfl⟩
abbrev main_cst_49 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_cst_50 : Ref sig .tc := ⟨.hbm, 215, rfl⟩
abbrev main_v136 : Ref sig .tc := ⟨.hbm, 216, rfl⟩
abbrev main_v137 : Ref sig .tc := ⟨.hbm, 217, rfl⟩
abbrev main_v138 : Ref sig .tc := ⟨.hbm, 218, rfl⟩
abbrev main_cst_51 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_cst_52 : Ref sig .tc := ⟨.hbm, 223, rfl⟩
abbrev main_v142 : Ref sig .tc := ⟨.hbm, 224, rfl⟩
abbrev main_v143 : Ref sig .tc := ⟨.hbm, 225, rfl⟩
abbrev main_cst_53 : Ref sig .tc := ⟨.hbm, 226, rfl⟩
abbrev main_v144 : Ref sig .tc := ⟨.hbm, 227, rfl⟩
abbrev main_v145 : Ref sig .tc := ⟨.hbm, 228, rfl⟩
abbrev main_cst_54 : Ref sig .tc := ⟨.hbm, 229, rfl⟩
abbrev main_v146 : Ref sig .tc := ⟨.hbm, 230, rfl⟩
abbrev main_v147 : Ref sig .tc := ⟨.hbm, 231, rfl⟩
abbrev main_v148 : Ref sig .tc := ⟨.hbm, 232, rfl⟩
abbrev main_cst_55 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩
abbrev main_cst_56 : Ref sig .tc := ⟨.hbm, 237, rfl⟩
abbrev main_v152 : Ref sig .tc := ⟨.hbm, 238, rfl⟩
abbrev main_v153 : Ref sig .tc := ⟨.hbm, 239, rfl⟩
abbrev main_v154 : Ref sig .tc := ⟨.hbm, 240, rfl⟩
abbrev main_cst_57 : Ref sig .tc := ⟨.hbm, 241, rfl⟩
abbrev main_v155 : Ref sig .tc := ⟨.hbm, 242, rfl⟩
abbrev main_v156 : Ref sig .tc := ⟨.hbm, 243, rfl⟩
abbrev main_cst_58 : Ref sig .tc := ⟨.hbm, 244, rfl⟩
abbrev main_v157 : Ref sig .tc := ⟨.hbm, 245, rfl⟩
abbrev main_v158 : Ref sig .tc := ⟨.hbm, 246, rfl⟩
abbrev main_v159 : Ref sig .tc := ⟨.hbm, 247, rfl⟩
abbrev main_cst_59 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_cst_60 : Ref sig .tc := ⟨.hbm, 252, rfl⟩
abbrev main_v163 : Ref sig .tc := ⟨.hbm, 253, rfl⟩
abbrev main_v164 : Ref sig .tc := ⟨.hbm, 254, rfl⟩
abbrev main_v165 : Ref sig .tc := ⟨.hbm, 255, rfl⟩
abbrev main_cst_61 : Ref sig .tc := ⟨.hbm, 256, rfl⟩
abbrev main_v166 : Ref sig .tc := ⟨.hbm, 257, rfl⟩
abbrev main_v167 : Ref sig .tc := ⟨.hbm, 258, rfl⟩
abbrev main_v168 : Ref sig .tc := ⟨.hbm, 259, rfl⟩
abbrev main_v169 : Ref sig .tc := ⟨.hbm, 260, rfl⟩
abbrev main_v170 : Ref sig .tc := ⟨.hbm, 261, rfl⟩
abbrev main_v171 : Ref sig .tc := ⟨.hbm, 262, rfl⟩
abbrev main_v172 : Ref sig .tc := ⟨.hbm, 263, rfl⟩
abbrev main_v173 : Ref sig .tc := ⟨.hbm, 264, rfl⟩
abbrev main_v174 : Ref sig .tc := ⟨.hbm, 265, rfl⟩
abbrev main_cst_62 : Ref sig .tc := ⟨.hbm, 266, rfl⟩
abbrev main_v175 : Ref sig .tc := ⟨.hbm, 267, rfl⟩
abbrev main_v176 : Ref sig .tc := ⟨.hbm, 268, rfl⟩
abbrev main_v177 : Ref sig .tc := ⟨.hbm, 269, rfl⟩
abbrev main_v178 : Ref sig .tc := ⟨.hbm, 270, rfl⟩
abbrev main_v179 : Ref sig .tc := ⟨.hbm, 271, rfl⟩
abbrev main_v180 : Ref sig .tc := ⟨.hbm, 272, rfl⟩
abbrev main_v181 : Ref sig .tc := ⟨.hbm, 273, rfl⟩
abbrev main_v182 : Ref sig .tc := ⟨.hbm, 274, rfl⟩
abbrev main_v183 : Ref sig .tc := ⟨.hbm, 275, rfl⟩
abbrev main_v184 : Ref sig .tc := ⟨.hbm, 276, rfl⟩
abbrev main_cst_63 : Ref sig .tc := ⟨.hbm, 277, rfl⟩
abbrev main_v185 : Ref sig .tc := ⟨.hbm, 278, rfl⟩
abbrev main_v186 : Ref sig .tc := ⟨.hbm, 279, rfl⟩
abbrev main_v187 : Ref sig .tc := ⟨.hbm, 280, rfl⟩
abbrev main_v188 : Ref sig .tc := ⟨.hbm, 281, rfl⟩
abbrev main_v189 : Ref sig .tc := ⟨.hbm, 282, rfl⟩
abbrev main_v190 : Ref sig .tc := ⟨.hbm, 283, rfl⟩
abbrev main_v191 : Ref sig .tc := ⟨.hbm, 284, rfl⟩
abbrev main_v192 : Ref sig .tc := ⟨.hbm, 285, rfl⟩
abbrev main_v193 : Ref sig .tc := ⟨.hbm, 286, rfl⟩
abbrev main_v194 : Ref sig .tc := ⟨.hbm, 287, rfl⟩
abbrev main_cst_64 : Ref sig .tc := ⟨.hbm, 288, rfl⟩
abbrev main_v195 : Ref sig .tc := ⟨.hbm, 289, rfl⟩
abbrev main_v196 : Ref sig .tc := ⟨.hbm, 290, rfl⟩
abbrev main_v197 : Ref sig .tc := ⟨.hbm, 291, rfl⟩

abbrev nD : Nat := 1
abbrev τ : Topo := Topo.v7x

variable {F : FTy → Type} [FloatOps F]
-- ==== AdamAda.lean ====
abbrev S4x1024x768 : Shape := ⟨3, ![4, 1024, 768]⟩
abbrev S4096x768 : Shape := ⟨2, ![4096, 768]⟩
abbrev S512x768 : Shape := ⟨2, ![512, 768]⟩

abbrev nBuf : Space → Nat
  | .hbm => 11
  | .vmem => 14
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .hbm, ⟨8, _⟩ => ⟨S4096x768, .f32⟩
  | .hbm, ⟨9, _⟩ => ⟨S4096x768, .f32⟩
  | .hbm, ⟨10, _⟩ => ⟨S4096x768, .f32⟩
  | .local _ .vmem, ⟨0, _⟩ => ⟨S512x768, .f32⟩
  | .local _ .vmem, ⟨1, _⟩ => ⟨S512x768, .f32⟩
  | .local _ .vmem, ⟨2, _⟩ => ⟨S512x768, .f32⟩
  | .local _ .vmem, ⟨3, _⟩ => ⟨S512x768, .f32⟩
  | .local _ .vmem, ⟨4, _⟩ => ⟨S512x768, .f32⟩
  | .local _ .vmem, ⟨5, _⟩ => ⟨S512x768, .f32⟩
  | .local _ .vmem, ⟨6, _⟩ => ⟨S512x768, .f32⟩
  | .local _ .vmem, ⟨7, _⟩ => ⟨S512x768, .f32⟩
  | .local _ .vmem, ⟨8, _⟩ => ⟨S512x768, .f32⟩
  | .local _ .vmem, ⟨9, _⟩ => ⟨S512x768, .f32⟩
  | .local _ .vmem, ⟨10, _⟩ => ⟨S512x768, .f32⟩
  | .local _ .vmem, ⟨11, _⟩ => ⟨S512x768, .f32⟩
  | .local _ .vmem, ⟨12, _⟩ => ⟨S512x768, .f32⟩
  | .local _ .vmem, ⟨13, _⟩ => ⟨S512x768, .f32⟩
  | _, _ => ⟨S4x1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamAdaIdeal.lean ====
variable {F : FTy → Type} [FloatOps F] [Named F]
def κ : String → Option EReal := fun
  | "bc1" => some (((5463681 / 8388608)⁻¹ : ℝ) : EReal)
  | "bc2" => some (((2672307 / 268435456)⁻¹ : ℝ) : EReal)
  | _ => none
-- ==== AdamAdaRefIdeal.lean ====
abbrev S4x1024x768 : Shape := ⟨3, ![4, 1024, 768]⟩
abbrev S_ : Shape := ⟨0, ![]⟩
abbrev S4096x768 : Shape := ⟨2, ![4096, 768]⟩

abbrev nBuf : Space → Nat
  | .hbm => 40
  | .vmem => 0
  | .smem => 0
  | _ => 0

abbrev bufTy : (tb : Table) → Fin (tcTables nBuf tb) → BufTy
  | .hbm, ⟨0, _⟩ => ⟨S4x1024x768, .f32⟩
  | .hbm, ⟨1, _⟩ => ⟨S4x1024x768, .f32⟩
  | .hbm, ⟨2, _⟩ => ⟨S4x1024x768, .f32⟩
  | .hbm, ⟨3, _⟩ => ⟨S4x1024x768, .f32⟩
  | .hbm, ⟨4, _⟩ => ⟨S_, .f32⟩
  | .hbm, ⟨5, _⟩ => ⟨S4x1024x768, .f32⟩
  | .hbm, ⟨6, _⟩ => ⟨S4x1024x768, .f32⟩
  | .hbm, ⟨7, _⟩ => ⟨S_, .f32⟩
  | .hbm, ⟨8, _⟩ => ⟨S4x1024x768, .f32⟩
  | .hbm, ⟨9, _⟩ => ⟨S4x1024x768, .f32⟩
  | .hbm, ⟨10, _⟩ => ⟨S4x1024x768, .f32⟩
  | .hbm, ⟨11, _⟩ => ⟨S_, .f32⟩
  | .hbm, ⟨12, _⟩ => ⟨S4x1024x768, .f32⟩
  | .hbm, ⟨13, _⟩ => ⟨S4x1024x768, .f32⟩
  | .hbm, ⟨14, _⟩ => ⟨S4x1024x768, .f32⟩
  | .hbm, ⟨15, _⟩ => ⟨S_, .f32⟩
  | .hbm, ⟨16, _⟩ => ⟨S4x1024x768, .f32⟩
  | .hbm, ⟨17, _⟩ => ⟨S4x1024x768, .f32⟩
  | .hbm, ⟨18, _⟩ => ⟨S4x1024x768, .f32⟩
  | .hbm, ⟨19, _⟩ => ⟨S_, .f32⟩
  | .hbm, ⟨20, _⟩ => ⟨S4x1024x768, .f32⟩
  | .hbm, ⟨21, _⟩ => ⟨S4x1024x768, .f32⟩
  | .hbm, ⟨22, _⟩ => ⟨S_, .f32⟩
  | .hbm, ⟨23, _⟩ => ⟨S4x1024x768, .f32⟩
  | .hbm, ⟨24, _⟩ => ⟨S4x1024x768, .f32⟩
  | .hbm, ⟨25, _⟩ => ⟨S4x1024x768, .f32⟩
  | .hbm, ⟨26, _⟩ => ⟨S_, .f32⟩
  | .hbm, ⟨27, _⟩ => ⟨S4x1024x768, .f32⟩
  | .hbm, ⟨28, _⟩ => ⟨S4x1024x768, .f32⟩
  | .hbm, ⟨29, _⟩ => ⟨S4x1024x768, .f32⟩
  | .hbm, ⟨30, _⟩ => ⟨S_, .f32⟩
  | .hbm, ⟨31, _⟩ => ⟨S4x1024x768, .f32⟩
  | .hbm, ⟨32, _⟩ => ⟨S4x1024x768, .f32⟩
  | .hbm, ⟨33, _⟩ => ⟨S4x1024x768, .f32⟩
  | .hbm, ⟨34, _⟩ => ⟨S_, .f32⟩
  | .hbm, ⟨35, _⟩ => ⟨S4x1024x768, .f32⟩
  | .hbm, ⟨36, _⟩ => ⟨S4x1024x768, .f32⟩
  | .hbm, ⟨37, _⟩ => ⟨S4096x768, .f32⟩
  | .hbm, ⟨38, _⟩ => ⟨S4096x768, .f32⟩
  | .hbm, ⟨39, _⟩ => ⟨S4096x768, .f32⟩
  | _, _ => ⟨S4x1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== SumSlots.lean ====
abbrev S8x384x1024 : Shape := ⟨3, ![8, 384, 1024]⟩
abbrev S384x1024 : Shape := ⟨2, ![384, 1024]⟩
abbrev S1x384x1024 : Shape := ⟨3, ![1, 384, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x384x1024, .bf16⟩
  | .hbm, ⟨1, _⟩ => ⟨S384x1024, .f32⟩
  | .local _ .vmem, ⟨0, _⟩ => ⟨S8x384x1024, .bf16⟩
  | .local _ .vmem, ⟨1, _⟩ => ⟨S384x1024, .f32⟩
  | _, _ => ⟨S8x384x1024, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x384x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S384x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SumSlotsRefIdeal.lean ====
abbrev S8x384x1024 : Shape := ⟨3, ![8, 384, 1024]⟩
abbrev S_ : Shape := ⟨0, ![]⟩
abbrev S384x1024 : Shape := ⟨2, ![384, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8x384x1024, .bf16⟩
  | .hbm, ⟨1, _⟩ => ⟨S8x384x1024, .f32⟩
  | .hbm, ⟨2, _⟩ => ⟨S_, .f32⟩
  | .hbm, ⟨3, _⟩ => ⟨S384x1024, .f32⟩
  | _, _ => ⟨S8x384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== SumSmall.lean ====
abbrev S8x296x128 : Shape := ⟨3, ![8, 296, 128]⟩
abbrev S296x128 : Shape := ⟨2, ![296, 128]⟩
abbrev S1x296x128 : Shape := ⟨3, ![1, 296, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x296x128, .f32⟩
  | .hbm, ⟨1, _⟩ => ⟨S296x128, .f32⟩
  | .local _ .vmem, ⟨0, _⟩ => ⟨S8x296x128, .f32⟩
  | .local _ .vmem, ⟨1, _⟩ => ⟨S296x128, .f32⟩
  | _, _ => ⟨S8x296x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x296x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S296x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSmallRefIdeal.lean ====
abbrev S8x296x128 : Shape := ⟨3, ![8, 296, 128]⟩
abbrev S_ : Shape := ⟨0, ![]⟩
abbrev S296x128 : Shape := ⟨2, ![296, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x296x128, .f32⟩
  | .hbm, ⟨1, _⟩ => ⟨S_, .f32⟩
  | .hbm, ⟨2, _⟩ => ⟨S296x128, .f32⟩
  | _, _ => ⟨S8x296x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamLayer.lean ====
abbrev S4x352x1024 : Shape := ⟨3, ![4, 352, 1024]⟩
abbrev S8x1056x1024 : Shape := ⟨3, ![8, 1056, 1024]⟩
abbrev S1x352x1024 : Shape := ⟨3, ![1, 352, 1024]⟩
abbrev S8x352x1024 : Shape := ⟨3, ![8, 352, 1024]⟩
abbrev S352x1024 : Shape := ⟨2, ![352, 1024]⟩

abbrev nBuf : Space → Nat
  | .hbm => 12
  | .vmem => 8
  | .smem => 0
  | _ => 0

abbrev bufTy : (tb : Table) → Fin (tcTables nBuf tb) → BufTy
  | .hbm, ⟨0, _⟩ => ⟨S4x352x1024, .f32⟩
  | .hbm, ⟨1, _⟩ => ⟨S8x1056x1024, .bf16⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S4x352x1024, .f32⟩
  | .hbm, ⟨9, _⟩ => ⟨S4x352x1024, .f32⟩
  | .hbm, ⟨10, _⟩ => ⟨S4x352x1024, .f32⟩
  | .hbm, ⟨11, _⟩ => ⟨S4x352x1024, .f32⟩
  | .local _ .vmem, ⟨0, _⟩ => ⟨S1x352x1024, .f32⟩
  | .local _ .vmem, ⟨1, _⟩ => ⟨S8x352x1024, .bf16⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | _, _ => ⟨S4x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x352x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamLayerIdeal.lean ====
variable {F : FTy → Type} [FloatOps F] [Named F]
def κ : String → Option EReal := fun
  | "bc1" => some (((5463681 / 8388608)⁻¹ : ℝ) : EReal)
  | "bc2" => some (((2672307 / 268435456)⁻¹ : ℝ) : EReal)
  | _ => none
-- ==== AdamLayerRefIdeal.lean ====
abbrev S4x352x1024 : Shape := ⟨3, ![4, 352, 1024]⟩
abbrev S8x1056x1024 : Shape := ⟨3, ![8, 1056, 1024]⟩
abbrev S8x352x1024 : Shape := ⟨3, ![8, 352, 1024]⟩
abbrev S_ : Shape := ⟨0, ![]⟩
abbrev S352x1024 : Shape := ⟨2, ![352, 1024]⟩
abbrev S1x352x1024 : Shape := ⟨3, ![1, 352, 1024]⟩
abbrev S3x352x1024 : Shape := ⟨3, ![3, 352, 1024]⟩

abbrev nBuf : Space → Nat
  | .hbm => 63
  | .vmem => 0
  | .smem => 0
  | _ => 0

abbrev bufTy : (tb : Table) → Fin (tcTables nBuf tb) → BufTy
  | .hbm, ⟨0, _⟩ => ⟨S4x352x1024, .f32⟩
  | .hbm, ⟨1, _⟩ => ⟨S8x1056x1024, .bf16⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .hbm, ⟨8, _⟩ => ⟨S8x352x1024, .bf16⟩
  | .hbm, ⟨9, _⟩ => ⟨S8x352x1024, .f32⟩
  | .hbm, ⟨10, _⟩ => ⟨S_, .f32⟩
  | .hbm, ⟨11, _⟩ => ⟨S352x1024, .f32⟩
  | .hbm, ⟨12, _⟩ => ⟨S1x352x1024, .f32⟩
  | .hbm, ⟨13, _⟩ => ⟨S352x1024, .f32⟩
  | .hbm, ⟨14, _⟩ => ⟨S1x352x1024, .f32⟩
  | .hbm, ⟨15, _⟩ => ⟨S352x1024, .f32⟩
  | .hbm, ⟨16, _⟩ => ⟨S1x352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S_, .f32⟩
  | .hbm, ⟨22, _⟩ => ⟨S352x1024, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S_, .f32⟩
  | .hbm, ⟨37, _⟩ => ⟨S352x1024, .f32⟩
  | .hbm, ⟨38, _⟩ => ⟨S352x1024, .f32⟩
  | .hbm, ⟨39, _⟩ => ⟨S352x1024, .f32⟩
  | .hbm, ⟨40, _⟩ => ⟨S_, .f32⟩
  | .hbm, ⟨41, _⟩ => ⟨S352x1024, .f32⟩
  | .hbm, ⟨42, _⟩ => ⟨S352x1024, .f32⟩
  | .hbm, ⟨43, _⟩ => ⟨S352x1024, .f32⟩
  | .hbm, ⟨44, _⟩ => ⟨S_, .f32⟩
  | .hbm, ⟨45, _⟩ => ⟨S352x1024, .f32⟩
  | .hbm, ⟨46, _⟩ => ⟨S352x1024, .f32⟩
  | .hbm, ⟨47, _⟩ => ⟨S352x1024, .f32⟩
  | .hbm, ⟨48, _⟩ => ⟨S_, .f32⟩
  | .hbm, ⟨49, _⟩ => ⟨S352x1024, .f32⟩
  | .hbm, ⟨50, _⟩ => ⟨S352x1024, .f32⟩
  | .hbm, ⟨51, _⟩ => ⟨S1x352x1024, .f32⟩
  | .hbm, ⟨52, _⟩ => ⟨S3x352x1024, .f32⟩
  | .hbm, ⟨53, _⟩ => ⟨S4x352x1024, .f32⟩
  | .hbm, ⟨54, _⟩ => ⟨S1x352x1024, .f32⟩
  | .hbm, ⟨55, _⟩ => ⟨S3x352x1024, .f32⟩
  | .hbm, ⟨56, _⟩ => ⟨S4x352x1024, .f32⟩
  | .hbm, ⟨57, _⟩ => ⟨S1x352x1024, .f32⟩
  | .hbm, ⟨58, _⟩ => ⟨S3x352x1024, .f32⟩
  | .hbm, ⟨59, _⟩ => ⟨S4x352x1024, .f32⟩
  | .hbm, ⟨60, _⟩ => ⟨S1x352x1024, .f32⟩
  | .hbm, ⟨61, _⟩ => ⟨S3x352x1024, .f32⟩
  | .hbm, ⟨62, _⟩ => ⟨S4x352x1024, .f32⟩
  | _, _ => ⟨S4x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩

abbrev nD : Nat := 1
abbrev τ : Topo := Topo.v7x

variable {F : FTy → Type} [FloatOps F]
-- ==== Tn.lean ====
abbrev S4096x3584 : Shape := ⟨2, ![4096, 3584]⟩
abbrev S4096x1024 : Shape := ⟨2, ![4096, 1024]⟩
abbrev S8x1x448x1024 : Shape := ⟨4, ![8, 1, 448, 1024]⟩
abbrev S1024x3584 : Shape := ⟨2, ![1024, 3584]⟩
abbrev S1024x1024 : Shape := ⟨2, ![1024, 1024]⟩
abbrev S3584x1024 : Shape := ⟨2, ![3584, 1024]⟩
abbrev S8x448x1024 : Shape := ⟨3, ![8, 448, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x3584, .bf16⟩
  | .hbm, ⟨1, _⟩ => ⟨S4096x1024, .bf16⟩
  | .hbm, ⟨2, _⟩ => ⟨S8x1x448x1024, .bf16⟩
  | .hbm, ⟨3, _⟩ => ⟨S8x1x448x1024, .bf16⟩
  | .local _ .vmem, ⟨0, _⟩ => ⟨S1024x3584, .bf16⟩
  | .local _ .vmem, ⟨1, _⟩ => ⟨S1024x3584, .bf16⟩
  | .local _ .vmem, ⟨2, _⟩ => ⟨S1024x1024, .bf16⟩
  | .local _ .vmem, ⟨3, _⟩ => ⟨S1024x1024, .bf16⟩
  | .local _ .vmem, ⟨4, _⟩ => ⟨S8x1x448x1024, .bf16⟩
  | .local _ .vmem, ⟨5, _⟩ => ⟨S3584x1024, .f32⟩
  | _, _ => ⟨S4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![4], ![false]⟩

def k0_cond2 (i : grid0.Coords) : BitVec 1 :=
  let arg0 : BitVec 32 := BitVec.ofNat 32 (i 0).val
  let c3_i32 : BitVec 32 := 3#32
  let v11 : BitVec 1 := Scalar.cmpi .eq arg0 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1x448x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== TnRefIdeal.lean ====
abbrev S4096x3584 : Shape := ⟨2, ![4096, 3584]⟩
abbrev S4096x1024 : Shape := ⟨2, ![4096, 1024]⟩
abbrev S8x1x448x1024 : Shape := ⟨4, ![8, 1, 448, 1024]⟩
abbrev S3584x4096 : Shape := ⟨2, ![3584, 4096]⟩
abbrev S3584x1024 : Shape := ⟨2, ![3584, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x3584, .bf16⟩
  | .hbm, ⟨1, _⟩ => ⟨S4096x1024, .bf16⟩
  | .hbm, ⟨2, _⟩ => ⟨S8x1x448x1024, .bf16⟩
  | .hbm, ⟨3, _⟩ => ⟨S4096x3584, .f32⟩
  | .hbm, ⟨4, _⟩ => ⟨S3584x4096, .f32⟩
  | .hbm, ⟨5, _⟩ => ⟨S4096x1024, .f32⟩
  | .hbm, ⟨6, _⟩ => ⟨S3584x1024, .f32⟩
  | .hbm, ⟨7, _⟩ => ⟨S8x1x448x1024, .f32⟩
  | .hbm, ⟨8, _⟩ => ⟨S8x1x448x1024, .bf16⟩
  | _, _ => ⟨S4096x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== EvenFwd.lean ====
abbrev S4096x1024 : Shape := ⟨2, ![4096, 1024]⟩
abbrev S6x1024 : Shape := ⟨2, ![6, 1024]⟩
abbrev S1024 : Shape := ⟨1, ![1024]⟩
abbrev S1024x3584 : Shape := ⟨2, ![1024, 3584]⟩
abbrev S3x512 : Shape := ⟨2, ![3, 512]⟩
abbrev S512 : Shape := ⟨1, ![512]⟩
abbrev S1024x1024 : Shape := ⟨2, ![1024, 1024]⟩
abbrev S1x1024 : Shape := ⟨2, ![1, 1024]⟩
abbrev S8x1024 : Shape := ⟨2, ![8, 1024]⟩
abbrev S1x512 : Shape := ⟨2, ![1, 512]⟩
abbrev S4x512 : Shape := ⟨2, ![4, 512]⟩
abbrev S_ : Shape := ⟨0, ![]⟩
abbrev S8x512 : Shape := ⟨2, ![8, 512]⟩
abbrev S64 : Shape := ⟨1, ![64]⟩
abbrev S4096 : Shape := ⟨1, ![4096]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S3584x1024 : Shape := ⟨2, ![3584, 1024]⟩
abbrev S8x1x448x1024 : Shape := ⟨4, ![8, 1, 448, 1024]⟩
abbrev S8x1x128x1024 : Shape := ⟨4, ![8, 1, 128, 1024]⟩
abbrev S4 : Shape := ⟨1, ![4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S1x256x256 : Shape := ⟨3, ![1, 256, 256]⟩
abbrev S4x1x1 : Shape := ⟨3, ![4, 1, 1]⟩
abbrev S4x256x256 : Shape := ⟨3, ![4, 256, 256]⟩
abbrev S1x4 : Shape := ⟨2, ![1, 4]⟩
abbrev S256x4 : Shape := ⟨2, ![256, 4]⟩
abbrev S256x4x128 : Shape := ⟨3, ![256, 4, 128]⟩
abbrev S256x512 : Shape := ⟨2, ![256, 512]⟩
abbrev S16x4x128x128 : Shape := ⟨4, ![16, 4, 128, 128]⟩
abbrev S16x8x512 : Shape := ⟨3, ![16, 8, 512]⟩
abbrev S4096x3584 : Shape := ⟨2, ![4096, 3584]⟩
abbrev S256x1024 : Shape := ⟨2, ![256, 1024]⟩
abbrev S256x128 : Shape := ⟨2, ![256, 128]⟩
abbrev S1x4x128x128 : Shape := ⟨4, ![1, 4, 128, 128]⟩
abbrev S1x8x512 : Shape := ⟨3, ![1, 8, 512]⟩
abbrev S256x3584 : Shape := ⟨2, ![256, 3584]⟩
abbrev S4x128x128 : Shape := ⟨3, ![4, 128, 128]⟩
abbrev S8x448x1024 : Shape := ⟨3, ![8, 448, 1024]⟩
abbrev S1x128x128 : Shape := ⟨3, ![1, 128, 128]⟩
abbrev S128x128 : Shape := ⟨2, ![128, 128]⟩
abbrev S1x128 : Shape := ⟨2, ![1, 128]⟩
abbrev S8x128x1024 : Shape := ⟨3, ![8, 128, 1024]⟩

abbrev nBuf : Space → Nat
  | .hbm => 194
  | .vmem => 25
  | .smem => 0
  | _ => 0

abbrev hbmTy0_0 (i : Nat) : BufTy := match i % 128 with
  | 0 => ⟨S4096x1024, .f32⟩
  | 1 => ⟨S6x1024, .f32⟩
  | 2 => ⟨S1024, .f32⟩
  | 3 => ⟨S1024, .f32⟩
  | 4 => ⟨S1024x3584, .f32⟩
  | 5 => ⟨S3x512, .f32⟩
  | 6 => ⟨S512, .f32⟩
  | 7 => ⟨S1024x1024, .f32⟩
  | 8 => ⟨S1x1024, .f32⟩
  | 9 => ⟨S1x1024, .f32⟩
  | 10 => ⟨S8x1024, .f32⟩
  | 11 => ⟨S1x512, .f32⟩
  | 12 => ⟨S4x512, .f32⟩
  | 13 => ⟨S_, .f32⟩
  | 14 => ⟨S4x512, .f32⟩
  | 15 => ⟨S8x512, .f32⟩
  | 16 => ⟨S64, .f32⟩
  | 17 => ⟨S_, .f32⟩
  | 18 => ⟨S64, .f32⟩
  | 19 => ⟨S64, .f32⟩
  | 20 => ⟨S_, .f32⟩
  | 21 => ⟨S64, .f32⟩
  | 22 => ⟨S64, .f32⟩
  | 23 => ⟨S_, .f32⟩
  | 24 => ⟨S64, .f32⟩
  | 25 => ⟨S64, .f32⟩
  | 26 => ⟨S_, .f32⟩
  | 27 => ⟨S64, .f32⟩
  | 28 => ⟨S64, .f32⟩
  | 29 => ⟨S_, .f32⟩
  | 30 => ⟨S64, .f32⟩
  | 31 => ⟨S64, .f32⟩
  | 32 => ⟨S4096, .f32⟩
  | 33 => ⟨S4096x1, .f32⟩
  | 34 => ⟨S1x64, .f32⟩
  | 35 => ⟨S4096x64, .f32⟩
  | 36 => ⟨S4096x64, .f32⟩
  | 37 => ⟨S4096x64, .f32⟩
  | 38 => ⟨S4096x64, .f32⟩
  | 39 => ⟨S4096x64, .f32⟩
  | 40 => ⟨S4096x128, .f32⟩
  | 41 => ⟨S4096x64, .f32⟩
  | 42 => ⟨S4096x128, .f32⟩
  | 43 => ⟨S1024x3584, .bf16⟩
  | 44 => ⟨S3584x1024, .bf16⟩
  | 45 => ⟨S8x1x448x1024, .bf16⟩
  | 46 => ⟨S1024x1024, .bf16⟩
  | 47 => ⟨S8x1x128x1024, .bf16⟩
  | 48 => ⟨S4, .f32⟩
  | 49 => ⟨S_, .f32⟩
  | 50 => ⟨S4, .f32⟩
  | 51 => ⟨S4, .f32⟩
  | 52 => ⟨S_, .f32⟩
  | 53 => ⟨S4, .f32⟩
  | 54 => ⟨S4, .f32⟩
  | 55 => ⟨S4, .f32⟩
  | 56 => ⟨S4, .f32⟩
  | 57 => ⟨S4, .f32⟩
  | 58 => ⟨S256, .i32⟩
  | 59 => ⟨S256x1, .i32⟩
  | 60 => ⟨S_, .i32⟩
  | 61 => ⟨S_, .i32⟩
  | 62 => ⟨S256x1, .i32⟩
  | 63 => ⟨S256x1, .i32⟩
  | 64 => ⟨S256x1, .i32⟩
  | 65 => ⟨S_, .i32⟩
  | 66 => ⟨S256x1, .i32⟩
  | 67 => ⟨S256x1, .i1⟩
  | 68 => ⟨S256x1, .i32⟩
  | 69 => ⟨S256x1, .i32⟩
  | 70 => ⟨S_, .i32⟩
  | 71 => ⟨S256x1, .i32⟩
  | 72 => ⟨S256x1, .i1⟩
  | 73 => ⟨S256x1, .i1⟩
  | 74 => ⟨S_, .i32⟩
  | 75 => ⟨S256x1, .i32⟩
  | 76 => ⟨S256x1, .i32⟩
  | 77 => ⟨S256x1, .i32⟩
  | 78 => ⟨S1x256, .i32⟩
  | 79 => ⟨S_, .i32⟩
  | 80 => ⟨S_, .i32⟩
  | 81 => ⟨S1x256, .i32⟩
  | 82 => ⟨S1x256, .i32⟩
  | 83 => ⟨S1x256, .i32⟩
  | 84 => ⟨S_, .i32⟩
  | 85 => ⟨S1x256, .i32⟩
  | 86 => ⟨S1x256, .i1⟩
  | 87 => ⟨S1x256, .i32⟩
  | 88 => ⟨S1x256, .i32⟩
  | 89 => ⟨S_, .i32⟩
  | 90 => ⟨S1x256, .i32⟩
  | 91 => ⟨S1x256, .i1⟩
  | 92 => ⟨S1x256, .i1⟩
  | 93 => ⟨S_, .i32⟩
  | 94 => ⟨S1x256, .i32⟩
  | 95 => ⟨S1x256, .i32⟩
  | 96 => ⟨S1x256, .i32⟩
  | 97 => ⟨S256x256, .i32⟩
  | 98 => ⟨S256x256, .i32⟩
  | 99 => ⟨S256x256, .i1⟩
  | 100 => ⟨S256x1, .i32⟩
  | 101 => ⟨S_, .i32⟩
  | 102 => ⟨S_, .i32⟩
  | 103 => ⟨S256x1, .i32⟩
  | 104 => ⟨S256x1, .i32⟩
  | 105 => ⟨S256x1, .i32⟩
  | 106 => ⟨S_, .i32⟩
  | 107 => ⟨S256x1, .i32⟩
  | 108 => ⟨S256x1, .i1⟩
  | 109 => ⟨S256x1, .i32⟩
  | 110 => ⟨S256x1, .i32⟩
  | 111 => ⟨S_, .i32⟩
  | 112 => ⟨S256x1, .i32⟩
  | 113 => ⟨S256x1, .i1⟩
  | 114 => ⟨S256x1, .i1⟩
  | 115 => ⟨S_, .i32⟩
  | 116 => ⟨S256x1, .i32⟩
  | 117 => ⟨S256x1, .i32⟩
  | 118 => ⟨S256x1, .i32⟩
  | 119 => ⟨S1x256, .i32⟩
  | 120 => ⟨S_, .i32⟩
  | 121 => ⟨S_, .i32⟩
  | 122 => ⟨S1x256, .i32⟩
  | 123 => ⟨S1x256, .i32⟩
  | 124 => ⟨S1x256, .i32⟩
  | 125 => ⟨S_, .i32⟩
  | 126 => ⟨S1x256, .i32⟩
  | 127 => ⟨S1x256, .i1⟩
  | _ => ⟨S4096x1024, .f32⟩

abbrev hbmTy0_1 (i : Nat) : BufTy := match i % 128 with
  | 0 => ⟨S1x256, .i32⟩
  | 1 => ⟨S1x256, .i32⟩
  | 2 => ⟨S_, .i32⟩
  | 3 => ⟨S1x256, .i32⟩
  | 4 => ⟨S1x256, .i1⟩
  | 5 => ⟨S1x256, .i1⟩
  | 6 => ⟨S_, .i32⟩
  | 7 => ⟨S1x256, .i32⟩
  | 8 => ⟨S1x256, .i32⟩
  | 9 => ⟨S1x256, .i32⟩
  | 10 => ⟨S256x256, .i32⟩
  | 11 => ⟨S256x256, .i32⟩
  | 12 => ⟨S256x256, .i1⟩
  | 13 => ⟨S256x1, .i32⟩
  | 14 => ⟨S1x256, .i32⟩
  | 15 => ⟨S256x256, .i32⟩
  | 16 => ⟨S256x256, .i32⟩
  | 17 => ⟨S256x256, .i32⟩
  | 18 => ⟨S256x256, .f32⟩
  | 19 => ⟨S256x256, .f32⟩
  | 20 => ⟨S_, .f32⟩
  | 21 => ⟨S_, .f32⟩
  | 22 => ⟨S256x256, .f32⟩
  | 23 => ⟨S256x256, .f32⟩
  | 24 => ⟨S256x256, .f32⟩
  | 25 => ⟨S1x256x256, .f32⟩
  | 26 => ⟨S4x1x1, .f32⟩
  | 27 => ⟨S4x256x256, .f32⟩
  | 28 => ⟨S4x256x256, .f32⟩
  | 29 => ⟨S4x256x256, .f32⟩
  | 30 => ⟨S256x256, .i1⟩
  | 31 => ⟨S1x256x256, .i1⟩
  | 32 => ⟨S4x256x256, .f32⟩
  | 33 => ⟨S_, .f32⟩
  | 34 => ⟨S_, .f32⟩
  | 35 => ⟨S4x256x256, .i1⟩
  | 36 => ⟨S4x256x256, .f32⟩
  | 37 => ⟨S4x256x256, .f32⟩
  | 38 => ⟨S256, .f32⟩
  | 39 => ⟨S256x1, .f32⟩
  | 40 => ⟨S_, .f32⟩
  | 41 => ⟨S256x1, .f32⟩
  | 42 => ⟨S256x1, .f32⟩
  | 43 => ⟨S1x4, .f32⟩
  | 44 => ⟨S256x4, .f32⟩
  | 45 => ⟨S256x4, .f32⟩
  | 46 => ⟨S256x4, .f32⟩
  | 47 => ⟨S256x4, .f32⟩
  | 48 => ⟨S256x4x128, .f32⟩
  | 49 => ⟨S256x512, .f32⟩
  | 50 => ⟨S256x1, .f32⟩
  | 51 => ⟨S_, .f32⟩
  | 52 => ⟨S256x1, .f32⟩
  | 53 => ⟨S256x1, .f32⟩
  | 54 => ⟨S1x4, .f32⟩
  | 55 => ⟨S256x4, .f32⟩
  | 56 => ⟨S256x4, .f32⟩
  | 57 => ⟨S256x4, .f32⟩
  | 58 => ⟨S256x4, .f32⟩
  | 59 => ⟨S256x4x128, .f32⟩
  | 60 => ⟨S256x512, .f32⟩
  | 61 => ⟨S4096x1024, .f32⟩
  | 62 => ⟨S4096x1024, .f32⟩
  | 63 => ⟨S16x4x128x128, .f32⟩
  | 64 => ⟨S16x8x512, .f32⟩
  | 65 => ⟨S4096x3584, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S8x1024, .f32⟩
  | .local _ .vmem, ⟨3, _⟩ => ⟨S8x1x448x1024, .bf16⟩
  | .local _ .vmem, ⟨4, _⟩ => ⟨S8x512, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S4x256x256, .f32⟩
  | .local _ .vmem, ⟨10, _⟩ => ⟨S256x512, .f32⟩
  | .local _ .vmem, ⟨11, _⟩ => ⟨S256x512, .f32⟩
  | .local _ .vmem, ⟨12, _⟩ => ⟨S8x1x128x1024, .bf16⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S1x4x128x128, .f32⟩
  | .local _ .vmem, ⟨18, _⟩ => ⟨S1x4x128x128, .f32⟩
  | .local _ .vmem, ⟨19, _⟩ => ⟨S1x8x512, .f32⟩
  | .local _ .vmem, ⟨20, _⟩ => ⟨S1x8x512, .f32⟩
  | .local _ .vmem, ⟨21, _⟩ => ⟨S256x3584, .f32⟩
  | .local _ .vmem, ⟨22, _⟩ => ⟨S256x3584, .f32⟩
  | .local _ .vmem, ⟨23, _⟩ => ⟨S4x128x128, .f32⟩
  | .local _ .vmem, ⟨24, _⟩ => ⟨S8x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_cst_6 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_c : Ref sig .tc := ⟨.hbm, 60, rfl⟩
abbrev main_call0_v0 : Ref sig .tc := ⟨.hbm, 61, rfl⟩
abbrev main_call0_v1 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_v6 : Ref sig .tc := ⟨.hbm, 67, rfl⟩
abbrev main_call0_v7 : Ref sig .tc := ⟨.hbm, 68, rfl⟩
abbrev main_call0_v8 : Ref sig .tc := ⟨.hbm, 69, rfl⟩
abbrev main_call0_c : Ref sig .tc := ⟨.hbm, 70, rfl⟩
abbrev main_call0_v9 : Ref sig .tc := ⟨.hbm, 71, rfl⟩
abbrev main_call0_v10 : Ref sig .tc := ⟨.hbm, 72, rfl⟩
abbrev main_call0_v11 : Ref sig .tc := ⟨.hbm, 73, rfl⟩
abbrev main_call0_c_0 : Ref sig .tc := ⟨.hbm, 74, rfl⟩
abbrev main_call0_v12 : Ref sig .tc := ⟨.hbm, 75, rfl⟩
abbrev main_call0_v13 : Ref sig .tc := ⟨.hbm, 76, rfl⟩
abbrev main_v44 : Ref sig .tc := ⟨.hbm, 77, rfl⟩
abbrev main_v45 : Ref sig .tc := ⟨.hbm, 78, rfl⟩
abbrev main_c_7 : Ref sig .tc := ⟨.hbm, 79, rfl⟩
abbrev main_call1_v0 : Ref sig .tc := ⟨.hbm, 80, rfl⟩
abbrev main_call1_v1 : Ref sig .tc := ⟨.hbm, 81, rfl⟩
abbrev main_call1_v2 : Ref sig .tc := ⟨.hbm, 82, rfl⟩
abbrev main_call1_v3 : Ref sig .tc := ⟨.hbm, 83, rfl⟩
abbrev main_call1_v4 : Ref sig .tc := ⟨.hbm, 84, rfl⟩
abbrev main_call1_v5 : Ref sig .tc := ⟨.hbm, 85, rfl⟩
abbrev main_call1_v6 : Ref sig .tc := ⟨.hbm, 86, rfl⟩
abbrev main_call1_v7 : Ref sig .tc := ⟨.hbm, 87, rfl⟩
abbrev main_call1_v8 : Ref sig .tc := ⟨.hbm, 88, rfl⟩
abbrev main_call1_c : Ref sig .tc := ⟨.hbm, 89, rfl⟩
abbrev main_call1_v9 : Ref sig .tc := ⟨.hbm, 90, rfl⟩
abbrev main_call1_v10 : Ref sig .tc := ⟨.hbm, 91, rfl⟩
abbrev main_call1_v11 : Ref sig .tc := ⟨.hbm, 92, rfl⟩
abbrev main_call1_c_0 : Ref sig .tc := ⟨.hbm, 93, rfl⟩
abbrev main_call1_v12 : Ref sig .tc := ⟨.hbm, 94, rfl⟩
abbrev main_call1_v13 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_c_8 : Ref sig .tc := ⟨.hbm, 101, rfl⟩
abbrev main_call2_v0 : Ref sig .tc := ⟨.hbm, 102, rfl⟩
abbrev main_call2_v1 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_v5 : Ref sig .tc := ⟨.hbm, 107, rfl⟩
abbrev main_call2_v6 : Ref sig .tc := ⟨.hbm, 108, rfl⟩
abbrev main_call2_v7 : Ref sig .tc := ⟨.hbm, 109, rfl⟩
abbrev main_call2_v8 : Ref sig .tc := ⟨.hbm, 110, rfl⟩
abbrev main_call2_c : Ref sig .tc := ⟨.hbm, 111, rfl⟩
abbrev main_call2_v9 : Ref sig .tc := ⟨.hbm, 112, rfl⟩
abbrev main_call2_v10 : Ref sig .tc := ⟨.hbm, 113, rfl⟩
abbrev main_call2_v11 : Ref sig .tc := ⟨.hbm, 114, rfl⟩
abbrev main_call2_c_0 : Ref sig .tc := ⟨.hbm, 115, rfl⟩
abbrev main_call2_v12 : Ref sig .tc := ⟨.hbm, 116, rfl⟩
abbrev main_call2_v13 : Ref sig .tc := ⟨.hbm, 117, rfl⟩
abbrev main_v51 : Ref sig .tc := ⟨.hbm, 118, rfl⟩
abbrev main_v52 : Ref sig .tc := ⟨.hbm, 119, rfl⟩
abbrev main_c_9 : Ref sig .tc := ⟨.hbm, 120, rfl⟩
abbrev main_call3_v0 : Ref sig .tc := ⟨.hbm, 121, rfl⟩
abbrev main_call3_v1 : Ref sig .tc := ⟨.hbm, 122, rfl⟩
abbrev main_call3_v2 : Ref sig .tc := ⟨.hbm, 123, rfl⟩
abbrev main_call3_v3 : Ref sig .tc := ⟨.hbm, 124, rfl⟩
abbrev main_call3_v4 : Ref sig .tc := ⟨.hbm, 125, rfl⟩
abbrev main_call3_v5 : Ref sig .tc := ⟨.hbm, 126, rfl⟩
abbrev main_call3_v6 : Ref sig .tc := ⟨.hbm, 127, rfl⟩
abbrev main_call3_v7 : Ref sig .tc := ⟨.hbm, 128, rfl⟩
abbrev main_call3_v8 : Ref sig .tc := ⟨.hbm, 129, rfl⟩
abbrev main_call3_c : Ref sig .tc := ⟨.hbm, 130, rfl⟩
abbrev main_call3_v9 : Ref sig .tc := ⟨.hbm, 131, rfl⟩
abbrev main_call3_v10 : Ref sig .tc := ⟨.hbm, 132, rfl⟩
abbrev main_call3_v11 : Ref sig .tc := ⟨.hbm, 133, rfl⟩
abbrev main_call3_c_0 : Ref sig .tc := ⟨.hbm, 134, rfl⟩
abbrev main_call3_v12 : Ref sig .tc := ⟨.hbm, 135, rfl⟩
abbrev main_call3_v13 : Ref sig .tc := ⟨.hbm, 136, rfl⟩
abbrev main_v53 : Ref sig .tc := ⟨.hbm, 137, rfl⟩
abbrev main_v54 : Ref sig .tc := ⟨.hbm, 138, rfl⟩
abbrev main_v55 : Ref sig .tc := ⟨.hbm, 139, rfl⟩
abbrev main_v56 : Ref sig .tc := ⟨.hbm, 140, rfl⟩
abbrev main_v57 : Ref sig .tc := ⟨.hbm, 141, rfl⟩
abbrev main_v58 : Ref sig .tc := ⟨.hbm, 142, rfl⟩
abbrev main_v59 : Ref sig .tc := ⟨.hbm, 143, rfl⟩
abbrev main_v60 : Ref sig .tc := ⟨.hbm, 144, rfl⟩
abbrev main_v61 : Ref sig .tc := ⟨.hbm, 145, rfl⟩
abbrev main_v62 : Ref sig .tc := ⟨.hbm, 146, rfl⟩
abbrev main_v63 : Ref sig .tc := ⟨.hbm, 147, rfl⟩
abbrev main_cst_10 : Ref sig .tc := ⟨.hbm, 148, rfl⟩
abbrev main_call4_v0 : Ref sig .tc := ⟨.hbm, 149, rfl⟩
abbrev main_call4_v1 : Ref sig .tc := ⟨.hbm, 150, rfl⟩
abbrev main_v64 : Ref sig .tc := ⟨.hbm, 151, rfl⟩
abbrev main_v65 : Ref sig .tc := ⟨.hbm, 152, rfl⟩
abbrev main_v66 : Ref sig .tc := ⟨.hbm, 153, rfl⟩
abbrev main_v67 : Ref sig .tc := ⟨.hbm, 154, rfl⟩
abbrev main_v68 : Ref sig .tc := ⟨.hbm, 155, rfl⟩
abbrev main_v69 : Ref sig .tc := ⟨.hbm, 156, rfl⟩
abbrev main_v70 : Ref sig .tc := ⟨.hbm, 157, rfl⟩
abbrev main_v71 : Ref sig .tc := ⟨.hbm, 158, rfl⟩
abbrev main_v72 : Ref sig .tc := ⟨.hbm, 159, rfl⟩
abbrev main_v73 : Ref sig .tc := ⟨.hbm, 160, rfl⟩
abbrev main_cst_11 : Ref sig .tc := ⟨.hbm, 161, rfl⟩
abbrev main_call6_v0 : Ref sig .tc := ⟨.hbm, 162, rfl⟩
abbrev main_call6_v1 : Ref sig .tc := ⟨.hbm, 163, rfl⟩
abbrev main_call6_v2 : Ref sig .tc := ⟨.hbm, 164, rfl⟩
abbrev main_v74 : Ref sig .tc := ⟨.hbm, 165, rfl⟩
abbrev main_v75 : Ref sig .tc := ⟨.hbm, 166, rfl⟩
abbrev main_v76 : Ref sig .tc := ⟨.hbm, 167, rfl⟩
abbrev main_cst_12 : Ref sig .tc := ⟨.hbm, 168, rfl⟩
abbrev main_v77 : Ref sig .tc := ⟨.hbm, 169, rfl⟩
abbrev main_v78 : Ref sig .tc := ⟨.hbm, 170, rfl⟩
abbrev main_v79 : Ref sig .tc := ⟨.hbm, 171, rfl⟩
abbrev main_v80 : Ref sig .tc := ⟨.hbm, 172, rfl⟩
abbrev main_v81 : Ref sig .tc := ⟨.hbm, 173, rfl⟩
abbrev main_v82 : Ref sig .tc := ⟨.hbm, 174, rfl⟩
abbrev main_v83 : Ref sig .tc := ⟨.hbm, 175, rfl⟩
abbrev main_v84 : Ref sig .tc := ⟨.hbm, 176, rfl⟩
abbrev main_v85 : Ref sig .tc := ⟨.hbm, 177, rfl⟩
abbrev main_v86 : Ref sig .tc := ⟨.hbm, 178, rfl⟩
abbrev main_cst_13 : Ref sig .tc := ⟨.hbm, 179, rfl⟩
abbrev main_v87 : Ref sig .tc := ⟨.hbm, 180, rfl⟩
abbrev main_v88 : Ref sig .tc := ⟨.hbm, 181, rfl⟩
abbrev main_v89 : Ref sig .tc := ⟨.hbm, 182, rfl⟩
abbrev main_v90 : Ref sig .tc := ⟨.hbm, 183, rfl⟩
abbrev main_v91 : Ref sig .tc := ⟨.hbm, 184, rfl⟩
abbrev main_v92 : Ref sig .tc := ⟨.hbm, 185, rfl⟩
abbrev main_v93 : Ref sig .tc := ⟨.hbm, 186, rfl⟩
abbrev main_v94 : Ref sig .tc := ⟨.hbm, 187, rfl⟩
abbrev main_v95 : Ref sig .tc := ⟨.hbm, 188, rfl⟩
abbrev main_v96_0 : Ref sig .tc := ⟨.hbm, 189, rfl⟩
abbrev main_v96_1 : Ref sig .tc := ⟨.hbm, 190, rfl⟩
abbrev main_v96_2 : Ref sig .tc := ⟨.hbm, 191, rfl⟩
abbrev main_v96_3 : Ref sig .tc := ⟨.hbm, 192, rfl⟩
abbrev main_v96_4 : Ref sig .tc := ⟨.hbm, 193, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_scratch0 : Ref sig .tc := ⟨.vmem, 23, rfl⟩
abbrev cc0_scratch1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1x448x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1x128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x128x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x8x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x3584 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== EvenFwdRefIdeal.lean ====
abbrev S4096x1024 : Shape := ⟨2, ![4096, 1024]⟩
abbrev S6x1024 : Shape := ⟨2, ![6, 1024]⟩
abbrev S1024 : Shape := ⟨1, ![1024]⟩
abbrev S1024x3584 : Shape := ⟨2, ![1024, 3584]⟩
abbrev S3x512 : Shape := ⟨2, ![3, 512]⟩
abbrev S512 : Shape := ⟨1, ![512]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x3584 : Shape := ⟨2, ![4096, 3584]⟩
abbrev S4096x512 : Shape := ⟨2, ![4096, 512]⟩
abbrev S8x512 : Shape := ⟨2, ![8, 512]⟩
abbrev S4104x512 : Shape := ⟨2, ![4104, 512]⟩
abbrev S16x256x512 : Shape := ⟨3, ![16, 256, 512]⟩
abbrev S16x8x512 : Shape := ⟨3, ![16, 8, 512]⟩

abbrev nBuf : Space → Nat
  | .hbm => 52
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S6x1024, .f32⟩
  | .hbm, ⟨2, _⟩ => ⟨S1024, .f32⟩
  | .hbm, ⟨3, _⟩ => ⟨S1024, .f32⟩
  | .hbm, ⟨4, _⟩ => ⟨S1024x3584, .f32⟩
  | .hbm, ⟨5, _⟩ => ⟨S3x512, .f32⟩
  | .hbm, ⟨6, _⟩ => ⟨S512, .f32⟩
  | .hbm, ⟨7, _⟩ => ⟨S1024x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S1x1024, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S4096x3584, .f32⟩
  | .hbm, ⟨38, _⟩ => ⟨S4096x512, .f32⟩
  | .hbm, ⟨39, _⟩ => ⟨S4096x512, .f32⟩
  | .hbm, ⟨40, _⟩ => ⟨S4096x512, .f32⟩
  | .hbm, ⟨41, _⟩ => ⟨S4096x512, .f32⟩
  | .hbm, ⟨42, _⟩ => ⟨S4096x512, .f32⟩
  | .hbm, ⟨43, _⟩ => ⟨S4096x512, .f32⟩
  | .hbm, ⟨44, _⟩ => ⟨S4096x512, .f32⟩
  | .hbm, ⟨45, _⟩ => ⟨S_, .f32⟩
  | .hbm, ⟨46, _⟩ => ⟨S8x512, .f32⟩
  | .hbm, ⟨47, _⟩ => ⟨S4096x512, .f32⟩
  | .hbm, ⟨48, _⟩ => ⟨S4104x512, .f32⟩
  | .hbm, ⟨49, _⟩ => ⟨S4096x512, .f32⟩
  | .hbm, ⟨50, _⟩ => ⟨S16x256x512, .f32⟩
  | .hbm, ⟨51, _⟩ => ⟨S16x8x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_3 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== ProjBwd.lean ====
abbrev S4096x1024 : Shape := ⟨2, ![4096, 1024]⟩
abbrev S6x1024 : Shape := ⟨2, ![6, 1024]⟩
abbrev S1024 : Shape := ⟨1, ![1024]⟩
abbrev S1024x3072 : Shape := ⟨2, ![1024, 3072]⟩
abbrev S128 : Shape := ⟨1, ![128]⟩
abbrev S8x1024 : Shape := ⟨2, ![8, 1024]⟩
abbrev S1x1024 : Shape := ⟨2, ![1, 1024]⟩
abbrev S3072x1024 : Shape := ⟨2, ![3072, 1024]⟩
abbrev S8x1x384x1024 : Shape := ⟨4, ![8, 1, 384, 1024]⟩
abbrev S1x128 : Shape := ⟨2, ![1, 128]⟩
abbrev S2x128 : Shape := ⟨2, ![2, 128]⟩
abbrev S_ : Shape := ⟨0, ![]⟩
abbrev S6x128 : Shape := ⟨2, ![6, 128]⟩
abbrev S8x128 : Shape := ⟨2, ![8, 128]⟩
abbrev S4096 : Shape := ⟨1, ![4096]⟩
abbrev S4096x1 : Shape := ⟨2, ![4096, 1]⟩
abbrev S4096x3072 : Shape := ⟨2, ![4096, 3072]⟩
abbrev S4096x2048 : Shape := ⟨2, ![4096, 2048]⟩
abbrev S512x1024 : Shape := ⟨2, ![512, 1024]⟩
abbrev S512x2048 : Shape := ⟨2, ![512, 2048]⟩
abbrev S512x3072 : Shape := ⟨2, ![512, 3072]⟩
abbrev S512 : Shape := ⟨1, ![512]⟩
abbrev S512x1 : Shape := ⟨2, ![512, 1]⟩
abbrev S8x384x1024 : Shape := ⟨3, ![8, 384, 1024]⟩
abbrev S512x128 : Shape := ⟨2, ![512, 128]⟩

abbrev nBuf : Space → Nat
  | .hbm => 59
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S6x1024, .f32⟩
  | .hbm, ⟨2, _⟩ => ⟨S1024, .f32⟩
  | .hbm, ⟨3, _⟩ => ⟨S1024, .f32⟩
  | .hbm, ⟨4, _⟩ => ⟨S1024x3072, .f32⟩
  | .hbm, ⟨5, _⟩ => ⟨S128, .f32⟩
  | .hbm, ⟨6, _⟩ => ⟨S128, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S8x1024, .f32⟩
  | .hbm, ⟨12, _⟩ => ⟨S1x1024, .f32⟩
  | .hbm, ⟨13, _⟩ => ⟨S1x1024, .f32⟩
  | .hbm, ⟨14, _⟩ => ⟨S8x1024, .f32⟩
  | .hbm, ⟨15, _⟩ => ⟨S1024x3072, .bf16⟩
  | .hbm, ⟨16, _⟩ => ⟨S3072x1024, .bf16⟩
  | .hbm, ⟨17, _⟩ => ⟨S8x1x384x1024, .bf16⟩
  | .hbm, ⟨18, _⟩ => ⟨S1x128, .f32⟩
  | .hbm, ⟨19, _⟩ => ⟨S1x128, .f32⟩
  | .hbm, ⟨20, _⟩ => ⟨S2x128, .f32⟩
  | .hbm, ⟨21, _⟩ => ⟨S_, .f32⟩
  | .hbm, ⟨22, _⟩ => ⟨S6x128, .f32⟩
  | .hbm, ⟨23, _⟩ => ⟨S8x128, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S1024, .f32⟩
  | .hbm, ⟨42, _⟩ => ⟨S_, .f32⟩
  | .hbm, ⟨43, _⟩ => ⟨S1024, .f32⟩
  | .hbm, ⟨44, _⟩ => ⟨S1024, .f32⟩
  | .hbm, ⟨45, _⟩ => ⟨S1x1024, .f32⟩
  | .hbm, ⟨46, _⟩ => ⟨S4096x1024, .f32⟩
  | .hbm, ⟨47, _⟩ => ⟨S4096x1024, .f32⟩
  | .hbm, ⟨48, _⟩ => ⟨S1x1024, .f32⟩
  | .hbm, ⟨49, _⟩ => ⟨S1024, .f32⟩
  | .hbm, ⟨50, _⟩ => ⟨S1x1024, .f32⟩
  | .hbm, ⟨51, _⟩ => ⟨S4096x1024, .f32⟩
  | .hbm, ⟨52, _⟩ => ⟨S4096x1024, .f32⟩
  | .hbm, ⟨53, _⟩ => ⟨S4096x3072, .f32⟩
  | .hbm, ⟨54, _⟩ => ⟨S4096x2048, .f32⟩
  | .hbm, ⟨55, _⟩ => ⟨S4096x1024, .f32⟩
  | .hbm, ⟨56, _⟩ => ⟨S4096x3072, .bf16⟩
  | .hbm, ⟨57, _⟩ => ⟨S4096x1024, .bf16⟩
  | .hbm, ⟨58, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x2048, .f32⟩
  | .local _ .vmem, ⟨11, _⟩ => ⟨S512x2048, .f32⟩
  | .local _ .vmem, ⟨12, _⟩ => ⟨S8x1024, .f32⟩
  | .local _ .vmem, ⟨13, _⟩ => ⟨S8x1024, .f32⟩
  | .local _ .vmem, ⟨14, _⟩ => ⟨S8x1x384x1024, .bf16⟩
  | .local _ .vmem, ⟨15, _⟩ => ⟨S8x128, .f32⟩
  | .local _ .vmem, ⟨16, _⟩ => ⟨S512x1024, .f32⟩
  | .local _ .vmem, ⟨17, _⟩ => ⟨S512x1024, .f32⟩
  | .local _ .vmem, ⟨18, _⟩ => ⟨S512x3072, .bf16⟩
  | .local _ .vmem, ⟨19, _⟩ => ⟨S512x3072, .bf16⟩
  | .local _ .vmem, ⟨20, _⟩ => ⟨S512x1024, .bf16⟩
  | .local _ .vmem, ⟨21, _⟩ => ⟨S512x1024, .bf16⟩
  | .local _ .vmem, ⟨22, _⟩ => ⟨S8x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38_0 : Ref sig .tc := ⟨.hbm, 55, rfl⟩
abbrev main_v38_1 : Ref sig .tc := ⟨.hbm, 56, rfl⟩
abbrev main_v38_2 : Ref sig .tc := ⟨.hbm, 57, rfl⟩
abbrev main_v38_3 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x1x384x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x3072 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S8x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== ProjBwdRefIdeal.lean ====
abbrev S4096x1024 : Shape := ⟨2, ![4096, 1024]⟩
abbrev S6x1024 : Shape := ⟨2, ![6, 1024]⟩
abbrev S1024 : Shape := ⟨1, ![1024]⟩
abbrev S1024x3072 : Shape := ⟨2, ![1024, 3072]⟩
abbrev S128 : Shape := ⟨1, ![128]⟩
abbrev S8x1024 : Shape := ⟨2, ![8, 1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S6x1024, .f32⟩
  | .hbm, ⟨2, _⟩ => ⟨S1024, .f32⟩
  | .hbm, ⟨3, _⟩ => ⟨S1024, .f32⟩
  | .hbm, ⟨4, _⟩ => ⟨S1024x3072, .f32⟩
  | .hbm, ⟨5, _⟩ => ⟨S128, .f32⟩
  | .hbm, ⟨6, _⟩ => ⟨S128, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S8x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S1x1024, .f32⟩
  | .hbm, ⟨29, _⟩ => ⟨S1024, .f32⟩
  | .hbm, ⟨30, _⟩ => ⟨S_, .f32⟩
  | .hbm, ⟨31, _⟩ => ⟨S1024, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_v2 : Ref sig .tc := ⟨.hbm, 15, rfl⟩
abbrev main_cst_0 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== Proof.LossBlocks.lean ====
/- The loss: what one grid point of the kernel stores, and what the two result arrays hold after the run. -/
module

public import proofs.«01_k».proof.Proof.Gen.LossIdeal.Value
public import Idealize.ShloMosaic.Lib.Pointwise

@[expose] public section

set_option maxRecDepth 16384

noncomputable section

namespace Cert.LossIdeal.Blocks

open Cert.LossIdeal Cert.LossIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem hz : (![0, 0] : Fin 2 → Nat) = fun _ => 0 := funext fun a => by fin_cases a <;> rfl

/-- At the first point the gradient tile is the scaled difference of the two input tiles. -/
theorem grad_A (c : Dev nD) (i : grid0.Coords) (a1 : Memref sig .tc .vmem S256x1024 .f32) (h1 : a1.IsWhole)
    (a2 : Memref sig .tc .vmem S256x1024 .f32) (h2 : a2.IsWhole) (a3 : Memref sig .tc .vmem S256x1024 .f32) (h3 : a3.IsWhole)
    (a4 : Memref sig .tc .vmem S1x1 .f32) (h4 : a4.IsWhole) (hc : cond0_0 i) (x t : Vec F S256x1024 .f32) :
    out0_A_2 c i a1 h1 a2 h2 a3 h3 a4 h4 hc x t = k0_pay3 x t := by
  unfold out0_A_2
  rw [View.read_writes_eq_canon _ _ _ (cover0_A_2 c i a1 h1 a2 h2 a3 h3 a4 h4 hc x t)]
  unfold kernelRun0_A
  dsimp only
  sl_unfold_words
  rw [View.canon_unit_zero (S := S256x1024) hz]
  simp only [View.readAt_eq_ld, h1.read_unread, h2.read_unread, View.ld_unit_zero (S := S256x1024) hz]

/-- At the later points too. -/
theorem grad_B (c : Dev nD) (i : grid0.Coords) (a1 : Memref sig .tc .vmem S256x1024 .f32) (h1 : a1.IsWhole)
    (a2 : Memref sig .tc .vmem S256x1024 .f32) (h2 : a2.IsWhole) (a3 : Memref sig .tc .vmem S256x1024 .f32) (h3 : a3.IsWhole)
    (a4 : Memref sig .tc .vmem S1x1 .f32) (h4 : a4.IsWhole) (hc : ¬cond0_0 i) (x t : Vec F S256x1024 .f32) (l : Vec F S1x1 .f32) :
    out0_B_2 c i a1 h1 a2 h2 a3 h3 a4 h4 hc x t l = k0_pay3 x t := by
  unfold out0_B_2
  rw [View.read_writes_eq_canon _ _ _ (cover0_B_2 c i a1 h1 a2 h2 a3 h3 a4 h4 hc x t l)]
  unfold kernelRun0_B
  dsimp only
  sl_unfold_words
  rw [View.canon_unit_zero (S := S256x1024) hz]
  simp only [View.readAt_eq_ld, h1.read_unread, h2.read_unread, View.ld_unit_zero (S := S256x1024) hz]

/-- The first point starts the loss at zero and adds its tile's share. -/
theorem loss_A (c : Dev nD) (i : grid0.Coords) (a1 : Memref sig .tc .vmem S256x1024 .f32) (h1 : a1.IsWhole)
    (a2 : Memref sig .tc .vmem S256x1024 .f32) (h2 : a2.IsWhole) (a3 : Memref sig .tc .vmem S256x1024 .f32) (h3 : a3.IsWhole)
    (a4 : Memref sig .tc .vmem S1x1 .f32) (h4 : a4.IsWhole) (hc : cond0_0 i) (x t : Vec F S256x1024 .f32) :
    out0_A_3 c i a1 h1 a2 h2 a3 h3 a4 h4 hc x t = k0_pay4 x t (k0_pay1 (F := F)) := by
  unfold out0_A_3
  rw [View.read_writes_eq_canon _ _ _ (cover0_A_3 c i a1 h1 a2 h2 a3 h3 a4 h4 hc x t)]
  unfold kernelRun0_A
  dsimp only
  sl_unfold_words
  rw [View.canon_cons_unit_zero (S := S1x1) hz, View.readCov_unit_zero (S := S1x1) _ hz]
  simp only [View.readAt_eq_ld, h1.read_unread, h2.read_unread, View.ld_unit_zero (S := S256x1024) hz]

/-- A later point adds its tile's share to what the point before left. -/
theorem loss_B (c : Dev nD) (i : grid0.Coords) (a1 : Memref sig .tc .vmem S256x1024 .f32) (h1 : a1.IsWhole)
    (a2 : Memref sig .tc .vmem S256x1024 .f32) (h2 : a2.IsWhole) (a3 : Memref sig .tc .vmem S256x1024 .f32) (h3 : a3.IsWhole)
    (a4 : Memref sig .tc .vmem S1x1 .f32) (h4 : a4.IsWhole) (hc : ¬cond0_0 i) (x t : Vec F S256x1024 .f32) (l : Vec F S1x1 .f32) :
    out0_B_3 c i a1 h1 a2 h2 a3 h3 a4 h4 hc x t l = k0_pay4 x t l := by
  unfold out0_B_3
  rw [View.read_writes_eq_canon _ _ _ (cover0_B_3 c i a1 h1 a2 h2 a3 h3 a4 h4 hc x t l)]
  unfold kernelRun0_B
  dsimp only
  sl_unfold_words
  rw [View.canon_unit_zero (S := S1x1) hz]
  simp only [View.readAt_eq_ld, h1.read_unread, h2.read_unread, h4.read_unread, View.ld_unit_zero (S := S256x1024) hz,
    View.ld_unit_zero (S := S1x1) hz]

/-- The gradient tile after any point. -/
theorem grad_at (c : Dev nD) (t : Fin cfg0.N) :
    (outsAt0 m c t.val t.isLt).1 = k0_pay3 (iblk m c 0 t) (iblk m c 1 t) := by
  by_cases h0 : t.val % 16 = 0
  · rw [outsAt0_A m c t h0]; dsimp only; rw [grad_A]
  · rw [outsAt0_B m c t h0]; dsimp only; rw [grad_B]

/-- The running loss after point `n`. -/
def chain (c : Dev nD) : (n : ℕ) → n < cfg0.N → Vec F S1x1 .f32
  | 0, h => k0_pay4 (iblk m c 0 ⟨0, h⟩) (iblk m c 1 ⟨0, h⟩) (k0_pay1 (F := F))
  | n + 1, h => k0_pay4 (iblk m c 0 ⟨n + 1, h⟩) (iblk m c 1 ⟨n + 1, h⟩) (chain c n (Nat.lt_of_succ_lt h))

theorem loss_at (c : Dev nD) : ∀ (n : ℕ) (h : n < cfg0.N), (outsAt0 m c n h).2 = chain m c n h
  | 0, h => by rw [show outsAt0 m c 0 h = _ from outsAt0_A m c ⟨0, h⟩ rfl]; dsimp only; rw [loss_A]; rfl
  | n + 1, h => by
    have hN : cfg0.N = 16 := N_0
    have hB : ¬(⟨n + 1, h⟩ : Fin cfg0.N).val % 16 = 0 := by dsimp only; omega
    rw [show outsAt0 m c (n + 1) h = _ from outsAt0_B m c ⟨n + 1, h⟩ hB]; dsimp only; rw [loss_B]
    simp only [Nat.add_sub_cancel, loss_at c n, chain]

/-- An input tile's element is the array's, 256 rows per point. -/
theorem iblk0_apply (c : Dev nD) (t : Fin cfg0.N) (r : Fin 256) (l : Fin 1024) :
    (iblk m c 0 t : Vec F S256x1024 .f32) (ix2 r l)
      = m ((c : Thread nD τ).loc main_arg0) (ix2 ⟨t.val * 256 + r.val, by have := t.isLt; have : cfg0.N = 16 := N_0; omega⟩ l) := by
  have hi : ∀ t : Fin grid0.N, win0_0.index t 0 = t.val ∧ win0_0.index t 1 = 0 := by decide +kernel
  unfold iblk
  rw [View.read_apply]
  show V m c main_arg0 _ = m (c.tc.loc main_arg0) _
  unfold V
  congr 1
  funext a
  apply Fin.ext
  match a with
  | ⟨0, _⟩ => show win0_0.index t 0 * 256 + 1 * r.val = _; rw [(hi t).1]; simp
  | ⟨1, _⟩ => show win0_0.index t 1 * 1024 + 1 * l.val = _; rw [(hi t).2]; simp

theorem iblk1_apply (c : Dev nD) (t : Fin cfg0.N) (r : Fin 256) (l : Fin 1024) :
    (iblk m c 1 t : Vec F S256x1024 .f32) (ix2 r l)
      = m ((c : Thread nD τ).loc main_arg1) (ix2 ⟨t.val * 256 + r.val, by have := t.isLt; have : cfg0.N = 16 := N_0; omega⟩ l) := by
  have hi : ∀ t : Fin grid0.N, win0_1.index t 0 = t.val ∧ win0_1.index t 1 = 0 := by decide +kernel
  unfold iblk
  rw [View.read_apply]
  show V m c main_arg1 _ = m (c.tc.loc main_arg1) _
  unfold V
  congr 1
  funext a
  apply Fin.ext
  match a with
  | ⟨0, _⟩ => show win0_1.index t 0 * 256 + 1 * r.val = _; rw [(hi t).1]; simp
  | ⟨1, _⟩ => show win0_1.index t 1 * 1024 + 1 * l.val = _; rw [(hi t).2]; simp

end Cert.LossIdeal.Blocks

end
-- ==== Proof.LossValue.lean ====
/- The loss: the two result arrays after the run, over the extended reals. -/
module

public import proofs.«01_k».proof.Proof.LossBlocks

@[expose] public section

set_option maxRecDepth 16384

noncomputable section

namespace Cert.LossIdeal.Blocks

open Cert.LossIdeal Cert.LossIdeal.Gen Idealize.ShloMosaic Idealize.ShloMosaic.TcCoe Idealize.SL.Sem
open Idealize.ShloMosaic.Pipeline (Dat)

variable (m : (ℓ : Loc nD τ sig) → Buf (Elt Ideal) ℓ)

/-- The scale `1/1024` and the loss's factor `1/2048`, as the words the kernel holds. -/
abbrev invD : EReal := Ideal.ofBits .f32 0x3A800000#32
abbrev halfInvD : EReal := Ideal.ofBits .f32 0x3A000000#32

/-- The difference of the two arrays at an index. -/
def diff (x t : S4096x1024.Idx → EReal) (r : Fin 4096) (l : Fin 1024) : EReal := x (ix2 r l) - t (ix2 r l)

/-- What the gradient's array holds. -/
def gradArr (x t : S4096x1024.Idx → EReal) : S4096x1024.Idx → EReal := fun i => diff x t (i 0) (i 1) * invD

/-- The loss: 16 tiles of 256 rows. -/
def lossVal (x t : S4096x1024.Idx → EReal) : EReal :=
  ∑ n : Fin 16, halfInvD * ∑ r : Fin 256, ∑ l : Fin 1024,
    diff x t ⟨n.val * 256 + r.val, by omega⟩ l * diff x t ⟨n.val * 256 + r.val, by omega⟩ l

theorem pay3_apply (x t : Vec Ideal S256x1024 .f32) (r : Fin 256) (l : Fin 1024) :
    k0_pay3 (F := Ideal) x t (ix2 r l) = (x (ix2 r l) - t (ix2 r l)) * invD := by
  pointwise [k0_pay3, k0_pay2]

theorem pay4_apply (x t : Vec Ideal S256x1024 .f32) (l : Vec Ideal S1x1 .f32) (j : S1x1.Idx) :
    k0_pay4 (F := Ideal) x t l j = l j + halfInvD * ∑ r : Fin 256, ∑ k : Fin 1024,
      (x (ix2 r k) - t (ix2 r k)) * (x (ix2 r k) - t (ix2 r k)) := by
  idx_vars j
  pointwise [k0_pay4, k0_pay2]

theorem pay1_apply (j : S1x1.Idx) : k0_pay1 (F := Ideal) j = 0 := by
  pointwise [k0_pay1]

/-- The gradient's array after the run. -/
theorem final_grad (c : Dev nD) :
    (dats m 0 c).arrAt 2 cfg0.N = gradArr (m ((c : Thread nD τ).loc main_arg0)) (m ((c : Thread nD τ).loc main_arg1)) := by
  have hN : cfg0.N = 16 := N_0
  have hi : ∀ t : Fin grid0.N, win0_2.index t 0 = t.val ∧ win0_2.index t 1 = 0 := by decide +kernel
  refine (dats m 0 c).arrAt_eq_of_cover 2 _ (fun t _ => ?_) fun (i : S4096x1024.Idx) => ?_
  · show (cfg0.win 2).cut (grid0.coords t) ((dats m 0 c).after 2 t) = _
    rw [after0_2, grad_at]
    funext j
    obtain ⟨r, l, rfl⟩ : ∃ (r : Fin 256) (l : Fin 1024), j = ix2 r l := ⟨j 0, j 1, eq_ix2 j⟩
    rw [View.read_apply]
    refine (pay3_apply (iblk m c 0 t) (iblk m c 1 t) r l).trans ?_
    rw [iblk0_apply, iblk1_apply]
    have he : ((cfg0.win 2).blk t).view.emb (ix2 r l)
        = (ix2 ⟨t.val * 256 + r.val, by have h := t.isLt; have h' : cfg0.grid.N = 16 := N_0; omega⟩ l : S4096x1024.Idx) := by
      funext a
      apply Fin.ext
      match a with
      | ⟨0, _⟩ => show win0_2.index t 0 * 256 + 1 * r.val = _; rw [(hi t).1]; simp
      | ⟨1, _⟩ => show win0_2.index t 1 * 1024 + 1 * l.val = _; rw [(hi t).2]; simp
    rw [he]
    rfl
  · have h0 : (i 0 : Nat) < 4096 := (i 0).isLt
    have h1 : (i 1 : Nat) < 1024 := (i 1).isLt
    obtain ⟨t, ht⟩ : ∃ t : Fin cfg0.N, t.val = (i 0 : Nat) / 256 := ⟨⟨(i 0 : Nat) / 256, by omega⟩, rfl⟩
    refine ⟨t, flush0_2 t, ?_⟩
    show i ∈ ((View.whole main_v0_0).slice (win0_2.rect t)).set
    rw [View.set_slice_whole, Rect.mem_set_unit]
    intro a
    match a with
    | ⟨0, _⟩ => show win0_2.index t 0 * 256 ≤ (i 0 : Nat) ∧ (i 0 : Nat) < win0_2.index t 0 * 256 + 256
                rw [(hi t).1, ht]; omega
    | ⟨1, _⟩ => show win0_2.index t 1 * 1024 ≤ (i 1 : Nat) ∧ (i 1 : Nat) < win0_2.index t 1 * 1024 + 1024
                rw [(hi t).2]; omega

/-- One point's share of the loss. -/
def share (c : Dev nD) (n : Fin 16) : EReal :=
  halfInvD * ∑ r : Fin 256, ∑ l : Fin 1024,
    diff (m ((c : Thread nD τ).loc main_arg0)) (m ((c : Thread nD τ).loc main_arg1)) ⟨n.val * 256 + r.val, by omega⟩ l
      * diff (m ((c : Thread nD τ).loc main_arg0)) (m ((c : Thread nD τ).loc main_arg1)) ⟨n.val * 256 + r.val, by omega⟩ l

theorem pay4_share (c : Dev nD) (t : Fin cfg0.N) (v : Vec Ideal S1x1 .f32) (j : S1x1.Idx) :
    k0_pay4 (F := Ideal) (iblk m c 0 t) (iblk m c 1 t) v j = v j + share m c ⟨t.val, by have := t.isLt; have : cfg0.N = 16 := N_0; omega⟩ := by
  rw [pay4_apply]
  refine congrArg (v j + halfInvD * ·) (Finset.sum_congr rfl fun r _ => Finset.sum_congr rfl fun k _ => ?_)
  rw [iblk0_apply, iblk1_apply]
  rfl

/-- The running loss after point `n` is the sum of the shares so far. -/
theorem chain_apply (c : Dev nD) : ∀ (n : ℕ) (h : n < cfg0.N) (j : S1x1.Idx), chain m c n h j
    = ∑ k : Fin (n + 1), share m c ⟨k.val, by have := k.isLt; have : cfg0.N = 16 := N_0; omega⟩
  | 0, h, j => by
    show k0_pay4 (F := Ideal) (iblk m c 0 ⟨0, h⟩) (iblk m c 1 ⟨0, h⟩) (k0_pay1 (F := Ideal)) j = _
    rw [pay4_share, pay1_apply, zero_add]
    simp
  | n + 1, h, j => by
    show k0_pay4 (F := Ideal) (iblk m c 0 ⟨n + 1, h⟩) (iblk m c 1 ⟨n + 1, h⟩) (chain m c n _) j = _
    rw [pay4_share, chain_apply c n, Fin.sum_univ_castSucc (n := n + 1)]
    rfl

/-- The loss's array after the run. -/
theorem final_loss (c : Dev nD) :
    (dats m 0 c).arrAt 3 cfg0.N
      = fun _ => lossVal (m ((c : Thread nD τ).loc main_arg0)) (m ((c : Thread nD τ).loc main_arg1)) := by
  have hN : cfg0.N = 16 := N_0
  have hi : ∀ t : Fin grid0.N, win0_3.index t 0 = 0 ∧ win0_3.index t 1 = 0 := by decide +kernel
  have hlt : 15 < cfg0.N := by omega
  refine (dats m 0 c).arrAt_eq_of_cover 3 _ (fun t hf => ?_) fun (i : S1x1.Idx) => ?_
  · have h15 : t = ⟨15, hlt⟩ := Fin.ext (by have := (flush0_3 t).mp hf; have := t.isLt; show t.val = 15; omega)
    subst h15
    show (cfg0.win 3).cut (grid0.coords _) ((dats m 0 c).after 3 _) = _
    rw [after0_3, loss_at]
    funext j
    rw [View.read_apply]
    exact chain_apply m c 15 hlt _
  · refine ⟨⟨15, hlt⟩, (flush0_3 _).mpr rfl, ?_⟩
    show i ∈ ((View.whole main_v0_1).slice (win0_3.rect ⟨15, hlt⟩)).set
    rw [View.set_slice_whole, Rect.mem_set_unit]
    intro a
    have h0 : (i 0 : Nat) < 1 := (i 0).isLt
    have h1 : (i 1 : Nat) < 1 := (i 1).isLt
    match a with
    | ⟨0, _⟩ => show win0_3.index ⟨15, hlt⟩ 0 * 1 ≤ (i 0 : Nat) ∧ (i 0 : Nat) < win0_3.index ⟨15, hlt⟩ 0 * 1 + 1
                rw [(hi _).1]; omega
    | ⟨1, _⟩ => show win0_3.index ⟨15, hlt⟩ 1 * 1 ≤ (i 1 : Nat) ∧ (i 1 : Nat) < win0_3.index ⟨15, hlt⟩ 1 * 1 + 1
                rw [(hi _).2]; omega

end Cert.LossIdeal.Blocks

end
-- ==== Proof.LossRef.lean ====
/- The loss: the reference's two results, and that they are the kernel's. -/
module

public import proofs.«01_k».proof.Proof.LossValue
public import Idealize.ShloMosaic.Lib.ValueIdxRank1
public import proofs.«01_k».proof.Proof.Gen.LossRefIdeal.Run
public import proofs.«01_k».proof.Proof.Gen.LossRefIdeal.Read

@[expose] public section

set_option maxRecDepth 16384

noncomputable section

namespace Cert.LossIdeal.Blocks

open Idealize.ShloMosaic
open Cert.LossRefIdeal Cert.LossRefIdeal.Gen Cert.LossRefIdeal.Read

/-- The words the two programs hold, as real numbers. -/
theorem invD_eq : invD = ((1 / 1024 : ℝ) : EReal) := by
  simp [invD, Ideal.ofBits, Ideal.ieee]; norm_num [← EReal.coe_mul]
theorem halfInvD_eq : halfInvD = ((1 / 2048 : ℝ) : EReal) := by
  simp [halfInvD, Ideal.ofBits, Ideal.ieee]; norm_num [← EReal.coe_mul]
theorem two_eq : Ideal.ofBits .f32 0x40000000#32 = ((2 : ℝ) : EReal) := by
  simp [Ideal.ofBits, Ideal.ieee]; norm_num [← EReal.coe_mul]
theorem half_eq : Ideal.ofBits .f32 0x3F000000#32 = ((1 / 2 : ℝ) : EReal) := by
  simp [Ideal.ofBits, Ideal.ieee]; norm_num [← EReal.coe_mul]
theorem d_eq : Ideal.ofBits .f32 0x44800000#32 = ((1024 : ℝ) : EReal) := by
  simp [Ideal.ofBits, Ideal.ieee]; norm_num [← EReal.coe_mul]

/-- A non-negative real factor distributes over a sum of non-negative terms. -/
theorem mul_sum {ι : Type} (s : Finset ι) (r : ℝ) (hr : 0 ≤ r) (f : ι → EReal) (hf : ∀ i ∈ s, 0 ≤ f i) :
    (r : EReal) * ∑ i ∈ s, f i = ∑ i ∈ s, (r : EReal) * f i := by
  classical
  induction s using Finset.induction_on with
  | empty => simp
  | insert a s ha ih =>
    rw [Finset.sum_insert ha, Finset.sum_insert ha,
      EReal.left_distrib_of_nonneg (hf a (Finset.mem_insert_self ..)) (Finset.sum_nonneg fun i hi => hf i (Finset.mem_insert_of_mem hi)),
      ih fun i hi => hf i (Finset.mem_insert_of_mem hi)]

theorem sq_nonneg (a : EReal) : 0 ≤ a * a := by
  rcases le_total 0 a with h | h
  · exact mul_nonneg h h
  · exact EReal.mul_nonneg_iff.mpr (Or.inr ⟨h, h⟩)

/-- The reference's gradient. -/
theorem ref_grad (x t : S4096x1024.Idx → EReal) : val_main_v14 (F := Ideal) x t = gradArr x t := by
  funext i
  obtain ⟨r, l, rfl⟩ : ∃ (r : Fin 4096) (l : Fin 1024), i = ix2 r l := ⟨i 0, i 1, eq_ix2 i⟩
  simp only [val_main_v14_apply, val_main_v13_apply, val_main_v12_apply, val_main_v11_apply, val_main_v10_apply,
    val_main_v9_apply, val_main_v3_apply, val_main_v2_apply, val_main_v0_apply, val_main_cst_apply, val_main_cst_4_apply,
    val_main_cst_5_apply, val_main_cst_6_apply, Ideal.mulf_def, Ideal.subf_def, Ideal.ofBits_def, Ideal.hostDivf_def,
    Ideal.ofBits_one_f32, d_eq, half_eq, two_eq]
  rw [Ideal.div_coe (by norm_num), mul_one, ← EReal.coe_mul, ← mul_assoc, ← EReal.coe_mul, mul_comm]
  unfold gradArr diff
  rw [invD_eq]
  norm_num

/-- The reference's loss. -/
theorem ref_loss (x t : S4096x1024.Idx → EReal) : val_main_v15 (F := Ideal) x t = fun _ => lossVal x t := by
  funext i
  have h8 : ∀ j, val_main_v8 (F := Ideal) x t j = lossVal x t := by
    intro j
    simp only [val_main_v8_apply, val_main_v7_apply, val_main_v6_apply, val_main_v5_apply, val_main_v4_apply,
      val_main_v1_apply, val_main_v0_apply, val_main_cst_0_apply, val_main_cst_1_apply, val_main_cst_2_apply,
      val_main_cst_3_apply, Ideal.mulf_def, Ideal.subf_def, Ideal.ofBits_def, Ideal.hostDivf_def, Ideal.ofBits_zero_f32,
      d_eq, half_eq, zero_add]
    rw [← Equiv.sum_comp (ValueIdx.idxEquiv1 (n := 4096)).symm]
    unfold lossVal
    rw [Fin.sum_univ_tiles (N := 4096) 16 256 (by norm_num), mul_sum _ _ (by norm_num) _ fun n _ => ?_]
    · refine Finset.sum_congr rfl fun n _ => ?_
      rw [halfInvD_eq, mul_sum _ _ (by norm_num) _ fun r _ => ?_, mul_sum _ _ (by norm_num) _ fun r _ => ?_]
      · refine Finset.sum_congr rfl fun r _ => ?_
        rw [Ideal.div_coe (by norm_num), mul_comm _ ((1 / 1024 : ℝ) : EReal), ← mul_assoc, ← EReal.coe_mul]
        norm_num
        refine congrArg _ (Finset.sum_congr rfl fun l _ => ?_)
        have e : ∀ q : Fin 4096, idx_main_v4 (ValueIdx.idxEquiv1.symm q) l = ix2 q l := fun q =>
          funext fun a => match a with | ⟨0, _⟩ => rfl | ⟨1, _⟩ => rfl
        rw [e]
        rfl
      · exact Finset.sum_nonneg fun l _ => sq_nonneg _
      · rw [Ideal.div_coe (by norm_num)]
        exact mul_nonneg (Finset.sum_nonneg fun l _ => sq_nonneg _) (by exact_mod_cast (by norm_num : (0:ℝ) ≤ 1 / 1024))
    · refine Finset.sum_nonneg fun r _ => ?_
      rw [Ideal.div_coe (by norm_num)]
      exact mul_nonneg (Finset.sum_nonneg fun l _ => sq_nonneg _) (by exact_mod_cast (by norm_num : (0:ℝ) ≤ 1 / 1024))
  exact h8 _

end Cert.LossIdeal.Blocks

end
-- ==== Proof.LossClaim.lean ====
/- The claims about the loss's backward call: the two frames of the kernel, the reference's, and the value. -/
module

public import proofs.«01_k».proof.Defs
public import proofs.«01_k».proof.Proof.Gen.Loss.Frame
public import proofs.«01_k».proof.Proof.LossRef
public import Idealize.ShloMosaic.Lib.Quiescent

@[expose] public section

noncomputable section

namespace Cert.LossClaim

open Idealize.ShloMosaic Idealize.SL.Sem

/-- The kernel's result and the reference's are the same two arrays. -/
theorem value : Cert.algebraic_LossIdeal_LossRefIdeal
    (hLossIdeal := Cert.LossIdeal.Gen.facts) (hLossRefIdeal := Cert.LossRefIdeal.Gen.facts) := by
  intro m g m' g' _ hm
  refine ⟨_, _, (θ_run Cert.LossIdeal.defs _ _).mono (fun r h c => ⟨(h c).1.trans (Cert.LossIdeal.Blocks.final_grad m c),
    (h c).2.1.trans (Cert.LossIdeal.Blocks.final_loss m c), (h c).2.2⟩) (Cert.LossIdeal.Value.run_blocks m g), ?_⟩
  refine (θ_run Cert.LossRefIdeal.defs _ _).mono (fun r h c => ⟨?_, ?_, (h c).2.2⟩) (Cert.LossRefIdeal.Value.run m' g')
  · refine (h c).1.trans ?_
    rw [(hm c).1, (hm c).2]
    exact (Cert.LossRefIdeal.Read.val_main_v14_eq _ _).trans (Cert.LossIdeal.Blocks.ref_grad _ _)
  · refine (h c).2.1.trans ?_
    rw [(hm c).1, (hm c).2]
    exact (Cert.LossRefIdeal.Read.val_main_v15_eq _ _).trans (Cert.LossIdeal.Blocks.ref_loss _ _)

/-- The kernel's frame, on words. -/
theorem frame : Cert.quiescent_Loss (hLoss := Cert.Loss.Gen.facts) := fun m ρ _ => Cert.Loss.Gen.frame m ρ

/-- The kernel's frame, over the extended reals. -/
theorem frame_ideal : Cert.quiescent_LossIdeal (hLossIdeal := Cert.LossIdeal.Gen.facts) := fun m ρ _ => Cert.LossIdeal.Gen.frame m ρ

/-- The reference's frame. -/
theorem frame_ref : Cert.quiescent_LossRefIdeal (hLossRefIdeal := Cert.LossRefIdeal.Gen.facts) := fun m ρ _ =>
  (θ_run Cert.LossRefIdeal.defs _ _).mono (fun r h => ⟨fun c => (h c).2.2, sem_eq_zero_of_no_sems (by decide) r.2⟩)
    (Cert.LossRefIdeal.Value.run (F := Ideal) m ρ)

end Cert.LossClaim

end
-- ==== Proof.StickReal.lean ====
/- Stick-breaking attention over the reals: the quantities of one head, and the helpers that carry real values through the extended reals. -/
module

public import Idealize.ShloMosaic.Lib.Pointwise

@[expose] public section

noncomputable section

namespace Cert.StickReal

open Idealize.ShloMosaic

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Every entry of a matrix is the given real. -/
def Is2 {a b : ℕ} (x : (⟨2, ![a, b]⟩ : Shape).Idx → EReal) (f : Fin a → Fin b → ℝ) : Prop :=
  ∀ r l, x (ix2 r l) = ((f r l : ℝ) : EReal)

/-- Every entry of a column is the given real. -/
def Is1 {a : ℕ} (x : (⟨2, ![a, 1]⟩ : Shape).Idx → EReal) (f : Fin a → ℝ) : Prop :=
  ∀ r l, x (ix2 r l) = ((f r : ℝ) : EReal)

/-- The scale of the scores: the single-precision word nearest to one over the root of 128. -/
def scale : ℝ := 11863283 / 134217728

/-- The word of the scale is that scale. -/
theorem scale_word : Ideal.ofBits FTy.f32 0x3DB504F3#32 = ((scale : ℝ) : EReal) := by
  simp [Ideal.ofBits, Ideal.ieee, scale]; norm_num [← EReal.coe_mul]

/-- The log of the logistic function. -/
def lsig (z : ℝ) : ℝ := min z 0 - Real.log (1 + Real.exp (-|z|))

/-- One plus an exponential is positive. -/
theorem one_add_exp_pos (z : ℝ) : 0 < 1 + Real.exp z := by positivity

/-- The extended-real log of one plus an exponential. -/
theorem log_one_add (z : ℝ) : Ideal.log ((1 : EReal) + ((Real.exp z : ℝ) : EReal)) = ((Real.log (1 + Real.exp z) : ℝ) : EReal) := by
  rw [← EReal.coe_one, ← EReal.coe_add, Ideal.log_coe, if_neg (not_le.mpr (one_add_exp_pos z))]

/-- The greater of two reals. -/
theorem coe_max (x y : ℝ) : max (x : EReal) (y : EReal) = ((max x y : ℝ) : EReal) :=
  (EReal.coe_strictMono.monotone.map_max).symm

/-- The lesser of two reals. -/
theorem coe_min (x y : ℝ) : min (x : EReal) (y : EReal) = ((min x y : ℝ) : EReal) :=
  (EReal.coe_strictMono.monotone.map_min).symm

/-- The kernel's log of the logistic function, on a real. -/
theorem lsig_coe (z : ℝ) : min (z : EReal) 0 - Ideal.log (1 + Ideal.exp (0 - FloatOps.absf (F := Ideal) (φ := .f32) (z : EReal))) = ((lsig z : ℝ) : EReal) := by
  have ha : FloatOps.absf (F := Ideal) (φ := .f32) (z : EReal) = ((|z| : ℝ) : EReal) := by
    show max (z : EReal) (-(z : EReal)) = _
    rw [← EReal.coe_neg, coe_max]; rfl
  rw [ha, ← EReal.coe_zero, ← EReal.coe_sub, zero_sub, Ideal.exp_coe, log_one_add, coe_min, ← EReal.coe_sub]
  rfl

/-- The log of the logistic function at the opposite point. -/
theorem lsig_neg (z : ℝ) : lsig (-z) = lsig z - z := by
  unfold lsig
  rw [abs_neg]
  have : min (-z) 0 = min z 0 - z := by
    rcases le_total z 0 with h | h
    · rw [min_eq_left h, min_eq_right (by linarith)]; ring
    · rw [min_eq_right h, min_eq_left (by linarith)]; ring
  rw [this]; ring

/-- A real's absolute value. -/
theorem abs_coe (z : ℝ) : FloatOps.absf (F := Ideal) (φ := .f32) (z : EReal) = ((|z| : ℝ) : EReal) := by
  show max (z : EReal) (-(z : EReal)) = _
  rw [← EReal.coe_neg, coe_max]; rfl

/-- The host's `log1p` of an exponential. -/
theorem log1p_coe (z : ℝ) : Ideal.log1p ((Real.exp z : ℝ) : EReal) = ((Real.log (1 + Real.exp z) : ℝ) : EReal) := log_one_add z

/-- The log of one plus the exponential, as the host takes it, on a real. -/
theorem softplus_coe (z : ℝ) : max (z : EReal) 0 + Ideal.log1p (Ideal.exp (-FloatOps.absf (F := Ideal) (φ := .f32) (z : EReal))) = ((-lsig (-z) : ℝ) : EReal) := by
  rw [abs_coe, ← EReal.coe_neg, Ideal.exp_coe, log1p_coe, ← EReal.coe_zero, coe_max, ← EReal.coe_add]
  refine congrArg _ ?_
  unfold lsig
  rw [abs_neg]
  have : min (-z) 0 = -max z 0 := by
    rcases le_total z 0 with h | h
    · rw [max_eq_right h, min_eq_right (by linarith)]; ring
    · rw [max_eq_left h, min_eq_left (by linarith)]
  rw [this]; ring

/-- A masked real is a real. -/
theorem sel_coe (P : Prop) [Decidable P] (x : ℝ) :
    Scalar.select (BitVec.ofBool (decide P)) (x : EReal) 0 = ((if P then x else 0 : ℝ) : EReal) := by
  by_cases hP : P <;> simp [hP, Scalar.select]

/-- The logistic function and its reflection sum to one. -/
theorem exp_lsig_sub (z : ℝ) : 1 - Real.exp (lsig z) = Real.exp (lsig z - z) := by
  rw [sub_eq_iff_eq_add]
  unfold lsig
  rcases le_total 0 z with h | h
  · rw [min_eq_right h, abs_of_nonneg h, zero_sub, sub_eq_add_neg _ z, Real.exp_add, Real.exp_neg (Real.log _), Real.exp_log (one_add_exp_pos _)]
    field_simp
    ring
  · rw [min_eq_left h, abs_of_nonpos h, neg_neg, sub_sub_cancel_left, Real.exp_sub, Real.exp_neg, Real.exp_log (one_add_exp_pos _)]
    field_simp

end Cert.StickReal
-- ==== Proof.StickModel.lean ====
/- Stick-breaking attention over the reals, one head: the quantities the gradient is made of, and how their partial sums grow. -/
module

public import proofs.«01_k».proof.Proof.StickReal

@[expose] public section

noncomputable section

namespace Cert.StickReal

open Idealize.ShloMosaic

/-- One head: its queries, keys, values and the cotangent of its output, by row. -/
structure Head where
  q : ℕ → Fin 128 → ℝ
  k : ℕ → Fin 128 → ℝ
  v : ℕ → Fin 128 → ℝ
  g : ℕ → Fin 128 → ℝ

namespace Head

variable (h : Head)

/-- The scaled score of a query against a key. -/
def z (r j : ℕ) : ℝ := (∑ d, h.q r d * h.k j d) * scale

/-- The log of the stick a query leaves at a key; a key at or after the query takes nothing. -/
def lk (r j : ℕ) : ℝ := if j < r then lsig (h.z r j) - h.z r j else 0

/-- The logs of what is left, summed over the keys before `J`. -/
def skip (r J : ℕ) : ℝ := ∑ s ∈ Finset.range J, h.lk r s

/-- The weight of a key: its own break times what every later key left. -/
def w (r j : ℕ) : ℝ := if j < r then Real.exp (lsig (h.z r j) + (h.skip r 4096 - h.skip r (j + 1))) else 0

/-- The gradient with respect to the log of a weight. -/
def de (r j : ℕ) : ℝ := (∑ d, h.g r d * h.v j d) * h.w r j

/-- Those gradients summed over the keys before `J`. -/
def dep (r J : ℕ) : ℝ := ∑ s ∈ Finset.range J, h.de r s

/-- The gradient with respect to the unscaled score. -/
def dz (r j : ℕ) : ℝ :=
  if j < r then (h.de r j - Real.exp (lsig (h.z r j)) * (h.de r j + h.dep r j)) * scale else 0

/-- A query's gradient, summed over the keys before `J`. -/
def dq (J r : ℕ) (d : Fin 128) : ℝ := ∑ j ∈ Finset.range J, h.dz r j * h.k j d

/-- A key's gradient, summed over the queries before `R`. -/
def dk (R j : ℕ) (d : Fin 128) : ℝ := ∑ r ∈ Finset.range R, h.dz r j * h.q r d

/-- A value's gradient, summed over the queries before `R`. -/
def dv (R j : ℕ) (d : Fin 128) : ℝ := ∑ r ∈ Finset.range R, h.w r j * h.g r d

/-- A sum over the naturals below `C + n`, cut at `C`. -/
theorem range_add (f : ℕ → ℝ) (C n : ℕ) :
    ∑ s ∈ Finset.range (C + n), f s = ∑ s ∈ Finset.range C, f s + ∑ i : Fin n, f (C + i) := by
  rw [Finset.sum_range_add, Fin.sum_univ_eq_sum_range (fun i => f (C + i))]

/-- A running log sum over `C + n` keys. -/
theorem skip_add (r C n : ℕ) : h.skip r (C + n) = h.skip r C + ∑ i : Fin n, h.lk r (C + i) := range_add _ _ _

/-- A running dependence over `C + n` keys. -/
theorem dep_add (r C n : ℕ) : h.dep r (C + n) = h.dep r C + ∑ i : Fin n, h.de r (C + i) := range_add _ _ _

/-- The queries' gradient over `C + n` keys. -/
theorem dq_add (C n r : ℕ) (d : Fin 128) : h.dq (C + n) r d = h.dq C r d + ∑ i : Fin n, h.dz r (C + i) * h.k (C + i) d := range_add _ _ _

/-- The keys' gradient over `R + n` queries. -/
theorem dk_add (R n j : ℕ) (d : Fin 128) : h.dk (R + n) j d = h.dk R j d + ∑ i : Fin n, h.dz (R + i) j * h.q (R + i) d := range_add _ _ _

/-- The values' gradient over `R + n` queries. -/
theorem dv_add (R n j : ℕ) (d : Fin 128) : h.dv (R + n) j d = h.dv R j d + ∑ i : Fin n, h.w (R + i) j * h.g (R + i) d := range_add _ _ _

/-- A key at or after the query has no weight. -/
theorem w_zero {r j : ℕ} (hj : r ≤ j) : h.w r j = 0 := if_neg (by omega)

/-- A key at or after the query gets no gradient. -/
theorem dz_zero {r j : ℕ} (hj : r ≤ j) : h.dz r j = 0 := if_neg (by omega)

/-- No query before `R` reaches a key from `R - 1` on. -/
theorem dk_zero {R j : ℕ} (hj : R ≤ j + 1) (d : Fin 128) : h.dk R j d = 0 :=
  Finset.sum_eq_zero fun r hr => by
    have := Finset.mem_range.mp hr
    rw [h.dz_zero (by omega), zero_mul]

/-- No query up to `R` reaches the key `j`: its value has no gradient yet. -/
theorem dv_zero {R j : ℕ} (hj : R ≤ j + 1) (d : Fin 128) : h.dv R j d = 0 :=
  Finset.sum_eq_zero fun r hr => by
    have := Finset.mem_range.mp hr
    rw [h.w_zero (by omega), zero_mul]

/-- A query's gradient is whole once every key before it is counted. -/
theorem dq_stop {J K r : ℕ} (hr : r ≤ J) (hJ : J ≤ K) (d : Fin 128) : h.dq J r d = h.dq K r d := by
  refine Finset.sum_subset (Finset.range_subset_range.mpr hJ) fun j _ hj => ?_
  have : J ≤ j := Nat.not_lt.mp fun c => hj (Finset.mem_range.mpr c)
  rw [h.dz_zero (by omega), zero_mul]

end Head

/-- One head of the packed projections `X` (queries, keys and values side by side) and of the cotangent `G`. -/
def headOf (X G : ℕ → ℕ → ℝ) (n : ℕ) : Head where
  q r d := X r (n * 128 + d)
  k r d := X r (1024 + (n * 128 + d))
  v r d := X r (2048 + (n * 128 + d))
  g r d := G r (n * 128 + d)

/-- A sum against the column of ones below the diagonal keeps the later entries. -/
theorem sum_upper {n : ℕ} (A : ℕ → ℝ) (l : Fin n) :
    ∑ i : Fin n, A i * (if l < i then 1 else 0) = ∑ i : Fin n, A i - ∑ s ∈ Finset.range (l + 1), A s := by
  have e : ∀ i : Fin n, A i * (if l < i then (1 : ℝ) else 0) = A i - (fun s : ℕ => if s < (l : ℕ) + 1 then A s else 0) i := fun i => by
    simp only [Fin.lt_def, Nat.lt_succ_iff, ← not_lt]; split <;> simp_all
  rw [Finset.sum_congr rfl fun i _ => e i, Finset.sum_sub_distrib,
    Fin.sum_univ_eq_sum_range (fun s : ℕ => if s < (l : ℕ) + 1 then A s else 0), ← Finset.sum_filter]
  congr 1
  refine Finset.sum_congr (Finset.ext fun s => ?_) fun _ _ => rfl
  simp only [Finset.mem_filter, Finset.mem_range]
  omega

/-- A sum against the column of ones above the diagonal keeps the earlier entries. -/
theorem sum_lower {n : ℕ} (A : ℕ → ℝ) (l : Fin n) :
    ∑ i : Fin n, A i * (if i < l then 1 else 0) = ∑ s ∈ Finset.range l, A s := by
  have e : ∀ i : Fin n, A i * (if i < l then (1 : ℝ) else 0) = (fun s : ℕ => if s < l then A s else 0) i := fun i => by
    simp only [Fin.lt_def]; split <;> simp
  rw [Finset.sum_congr rfl fun i _ => e i, Fin.sum_univ_eq_sum_range (fun s : ℕ => if s < l then A s else 0),
    ← Finset.sum_filter]
  refine Finset.sum_congr (Finset.ext fun s => ?_) fun _ _ => rfl
  simp only [Finset.mem_filter, Finset.mem_range]
  omega

/-- A gradient of one head, of every head side by side. -/
def heads (X G : ℕ → ℕ → ℝ) (f : Head → ℕ → Fin 128 → ℝ) : (⟨2, ![4096, 1024]⟩ : Shape).Idx → EReal :=
  fun i => ((f (headOf X G ((i 1).val / 128)) (i 0).val ⟨(i 1).val % 128, Nat.mod_lt _ (by omega)⟩ : ℝ) : EReal)

/-- The packed array of a per-head function, at a row and a column of head `n`. -/
theorem heads_at (X G : ℕ → ℕ → ℝ) (f : Head → ℕ → Fin 128 → ℝ) (r n : ℕ) (l : Fin 128) (h₀ : r < 4096) (h₁ : n * 128 + l.val < 1024) :
    heads X G f (ix2 ⟨r, h₀⟩ ⟨n * 128 + l.val, h₁⟩) = ((f (headOf X G n) r l : ℝ) : EReal) := by
  have e : (n * 128 + l.val) / 128 = n := by omega
  have e' : (⟨(n * 128 + l.val) % 128, Nat.mod_lt _ (by omega)⟩ : Fin 128) = l := Fin.ext (by show (n * 128 + l.val) % 128 = l.val; omega)
  show ((f (headOf X G ((n * 128 + l.val) / 128)) r ⟨(n * 128 + l.val) % 128, Nat.mod_lt _ (by omega)⟩ : ℝ) : EReal) = _
  rw [e, e']

end Cert.StickReal
-- ==== Proof.StickStep.lean ====
/- The kernel's loop step over 512 keys: what each stored block holds, entry by entry, when everything read is real. -/
module

public import proofs.«01_k».proof.Proof.Gen.StickIdeal.Skeleton
public import Idealize.ShloMosaic.Lib.WordCmp
public import proofs.«01_k».proof.Proof.StickModel

@[expose] public section

set_option maxRecDepth 16384

noncomputable section

namespace Cert.StickIdeal.Step

open Cert.StickIdeal Cert.StickIdeal.Gen Cert.StickReal Idealize.ShloMosaic

/-- A one-bit word read as a number. -/
theorem ofBool_real (b : Bool) : (((BitVec.setWidth 32 (BitVec.ofBool b)).toInt : ℝ) : EReal) = (((if b then 1 else 0 : ℝ)) : EReal) := by
  cases b <;> simp [BitVec.ofBool]

/-- The lower triangle of ones: row above column. -/
theorem pay59 : Is2 (k0_pay59 (F := Ideal)) fun s l => if l < s then 1 else 0 := by
  intro s l
  pointwise [k0_pay59]
  rw [WordCmp.cmpi_sgt_ofNat (by have := s.isLt; omega) (by have := l.isLt; omega)]
  refine (ofBool_real _).trans ?_
  simp only [decide_eq_true_eq, Fin.lt_def]

/-- The upper triangle of ones: row below column. -/
theorem pay60 : Is2 (k0_pay60 (F := Ideal)) fun s l => if s < l then 1 else 0 := by
  intro s l
  pointwise [k0_pay60]
  rw [WordCmp.cmpi_slt_ofNat (by have := s.isLt; omega) (by have := l.isLt; omega)]
  refine (ofBool_real _).trans ?_
  simp only [decide_eq_true_eq, Fin.lt_def]

variable {h : Head} {R C : ℕ} {kw q vw g : Vec Ideal S512x128 .bf16} {p e : Vec Ideal S512x1 .f32} {t : Vec Ideal S1x512x1 .f32}

/-- Operation 4 of the step over a block of keys wholly before its queries: it holds the scaled scores. -/
theorem pay4 (hk : Is2 kw fun j => h.k (C + j)) (hq : Is2 q fun r => h.q (R + r)) :
    Is2 (k0_pay4 kw q) fun r j => h.z (R + r) (C + j) := by
  intro r j
  pointwise [k0_pay4, k0_pay3]
  rw [scale_word]
  simp only [hk _ _, hq _ _, ← EReal.coe_mul, ← coe_sum]
  rfl

/-- Operation 5 of the step over a block of keys wholly before its queries: it holds the logs of what each key takes. -/
theorem pay5 (hk : Is2 kw fun j => h.k (C + j)) (hq : Is2 q fun r => h.q (R + r)) :
    Is2 (k0_pay5 kw q) fun r j => lsig (h.z (R + r) (C + j)) := by
  intro r j
  pointwise [k0_pay5]
  simp only [pay4 hk hq _ _]
  exact lsig_coe _

/-- Operation 6 of the step over a block of keys wholly before its queries: it holds the logs of what each key leaves. -/
theorem pay6 (hC : C + 512 ≤ R) (hk : Is2 kw fun j => h.k (C + j)) (hq : Is2 q fun r => h.q (R + r)) :
    Is2 (k0_pay6 kw q) fun r j => h.lk (R + r) (C + j) := by
  intro r j
  pointwise [k0_pay6]
  simp only [pay4 hk hq _ _, pay5 hk hq _ _, ← EReal.coe_sub]
  rw [Head.lk, if_pos (show C + (j : ℕ) < R + r by omega)]

/-- Operation 8 of the step over a block of keys wholly before its queries: it holds the logs of what each key leaves. -/
theorem pay8 (hC : C + 512 ≤ R) (hk : Is2 kw fun j => h.k (C + j)) (hq : Is2 q fun r => h.q (R + r)) :
    Is2 (k0_pay8 kw q) fun r l => h.lk (R + r) (C + l) := by
  intro r l
  pointwise [k0_pay8]
  exact pay6 hC hk hq _ _

/-- Operation 9 of the step over a block of keys wholly before its queries: it holds the logs of what each key leaves. -/
theorem pay9 (hC : C + 512 ≤ R) (hk : Is2 kw fun j => h.k (C + j)) (hq : Is2 q fun r => h.q (R + r)) :
    Is2 (k0_pay9 kw q) fun r l => h.lk (R + r) (C + 256 + l) := by
  intro r l
  pointwise [k0_pay9]
  rw [Nat.add_assoc]
  exact pay6 hC hk hq _ _

/-- Operation 10 of the step over a block of keys wholly before its queries: it holds the running log sums. -/
theorem pay10 (hC : C + 512 ≤ R) (hk : Is2 kw fun j => h.k (C + j)) (hq : Is2 q fun r => h.q (R + r))
    (hp : Is1 p fun r => h.skip (R + r) C) : Is1 (k0_pay10 kw q p) fun r => h.skip (R + r) (C + 256) := by
  intro r l
  pointwise [k0_pay10]
  simp only [pay8 hC hk hq _ _, hp _ _, ← EReal.coe_add, ← coe_sum]
  rw [Head.skip_add]

/-- Operation 12 of the step over a block of keys wholly before its queries: it holds the logs of what each key leaves. -/
theorem pay12 (hC : C + 512 ≤ R) (hk : Is2 kw fun j => h.k (C + j)) (hq : Is2 q fun r => h.q (R + r)) :
    Is1 (k0_pay12 kw q) fun r => ∑ l : Fin 256, h.lk (R + r) (C + 256 + l) := by
  intro r l
  pointwise [k0_pay12]
  simp only [pay9 hC hk hq _ _, ← coe_sum]

/-- Operation 13 of the step over a block of keys wholly before its queries: it holds the running log sums. -/
theorem pay13 (hC : C + 512 ≤ R) (hk : Is2 kw fun j => h.k (C + j)) (hq : Is2 q fun r => h.q (R + r))
    (hp : Is1 p fun r => h.skip (R + r) C) : Is1 (k0_pay13 (k0_pay10 kw q p) (k0_pay12 kw q)) fun r => h.skip (R + r) (C + 512) := by
  intro r l
  pointwise [k0_pay13]
  simp only [pay10 hC hk hq hp _ _, pay12 hC hk hq _ _, ← EReal.coe_add]
  rw [← Head.skip_add]

/-- Operation 14 of the step over a block of keys wholly before its queries: it holds the running log sums. -/
theorem pay14 (hC : C + 512 ≤ R) (hk : Is2 kw fun j => h.k (C + j)) (hq : Is2 q fun r => h.q (R + r))
    (hp : Is1 p fun r => h.skip (R + r) C) : Is1 (k0_pay14 (k0_pay10 kw q p) (k0_pay12 kw q)) fun r => h.skip (R + r) (C + 512) := by
  intro r l
  pointwise [k0_pay14]
  exact pay13 hC hk hq hp _ _

/-- Within a block of 256 keys: the later keys' logs and the total beyond the block are the total beyond the key. -/
theorem later (f : ℕ → ℝ) (T : ℝ) (C : ℕ) (l : Fin 256) :
    ∑ i : Fin 256, f (C + i) * (if l < i then 1 else 0) + ∑ i : Fin 256, (f (C + i) - f (C + i)) * (if l < i then 1 else 0)
      + (T - ∑ s ∈ Finset.range (C + 256), f s) = T - ∑ s ∈ Finset.range (C + l + 1), f s := by
  rw [sum_upper (fun i => f (C + i)), Head.range_add f C 256, show C + l + 1 = C + (l + 1) from rfl, Finset.sum_range_add f C (l + 1)]
  simp only [sub_self, zero_mul, Finset.sum_const_zero]
  ring

/-- Operation 11 of the step over a block of keys wholly before its queries: it holds the running log sums. -/
theorem pay11 (hC : C + 512 ≤ R) (hk : Is2 kw fun j => h.k (C + j)) (hq : Is2 q fun r => h.q (R + r))
    (hp : Is1 p fun r => h.skip (R + r) C) (ht : ∀ a r b, t (ix3 a r b) = ((h.skip (R + r) 4096 : ℝ) : EReal)) :
    Is2 (k0_pay11 k0_pay59 kw q p t) fun r l => h.skip (R + r) 4096 - h.skip (R + r) (C + l + 1) := by
  intro r l
  pointwise [k0_pay11, k0_pay7]
  simp only [pay8 hC hk hq _ _, pay10 hC hk hq hp _ _, pay59 _ _, ht _ _ _, ← EReal.coe_mul, ← EReal.coe_sub, ← coe_sum, ← EReal.coe_add]
  exact congrArg _ (later (h.lk (R + r)) _ C l)

/-- Operation 15 of the step over a block of keys wholly before its queries: it holds the weights. -/
theorem pay15 (hC : C + 512 ≤ R) (hk : Is2 kw fun j => h.k (C + j)) (hq : Is2 q fun r => h.q (R + r))
    (hp : Is1 p fun r => h.skip (R + r) C) (ht : ∀ a r b, t (ix3 a r b) = ((h.skip (R + r) 4096 : ℝ) : EReal)) :
    Is2 (k0_pay15 k0_pay59 (k0_pay5 kw q) (k0_pay7 t) (k0_pay9 kw q) (k0_pay10 kw q p) (k0_pay11 k0_pay59 kw q p t) (k0_pay12 kw q))
      fun r j => h.w (R + r) (C + j) := by
  intro r j
  pointwise [k0_pay15, k0_pay7]
  rw [Head.w, if_pos (show C + (j : ℕ) < R + r by omega), ← Ideal.exp_coe, EReal.coe_add]
  refine congrArg _ (congrArg₂ _ (pay5 hk hq _ _) ?_)
  by_cases hj : (j : ℕ) < 256
  · exact (dif_pos hj).trans (pay11 hC hk hq hp ht _ _)
  · refine (dif_neg hj).trans ?_
    simp only [pay9 hC hk hq _ _, pay13 hC hk hq hp _ _, pay59 _ _, ht _ _ _, ← EReal.coe_mul, ← EReal.coe_sub, ← coe_sum, ← EReal.coe_add]
    refine congrArg _ ((later (h.lk (R + r)) _ (C + 256) ⟨j - 256, by omega⟩).trans ?_)
    rw [show C + 256 + (j - 256) + 1 = C + j + 1 by omega]
    rfl

section Grads

variable {a5 : FVec Ideal S512x512 .f32} {a7 a10 a12 : FVec Ideal S512x1 .f32} {a9 a11 : FVec Ideal S512x256 .f32}

/-- Operation 16 of the step over a block of keys wholly before its queries: it holds the weights times their cotangents. -/
theorem pay16 (hW : Is2 (k0_pay15 k0_pay59 a5 a7 a9 a10 a11 a12) fun r j => h.w (R + r) (C + j))
    (hg : Is2 g fun r => h.g (R + r)) (hv : Is2 vw fun j => h.v (C + j)) :
    Is2 (k0_pay16 k0_pay59 a5 a7 a9 a10 a11 a12 g vw) fun r j => h.de (R + r) (C + j) := by
  intro r j
  pointwise [k0_pay16]
  simp only [hW _ _, hg _ _, hv _ _, ← EReal.coe_mul, ← coe_sum]
  rfl

/-- Operation 17 of the step over a block of keys wholly before its queries: it holds the weights times their cotangents. -/
theorem pay17 (hW : Is2 (k0_pay15 k0_pay59 a5 a7 a9 a10 a11 a12) fun r j => h.w (R + r) (C + j))
    (hg : Is2 g fun r => h.g (R + r)) (hv : Is2 vw fun j => h.v (C + j)) :
    Is2 (k0_pay17 k0_pay59 a5 a7 a9 a10 a11 a12 g vw) fun r l => h.de (R + r) (C + l) := by
  intro r l
  pointwise [k0_pay17]
  exact pay16 hW hg hv _ _

/-- Operation 18 of the step over a block of keys wholly before its queries: it holds the weights times their cotangents. -/
theorem pay18 (hW : Is2 (k0_pay15 k0_pay59 a5 a7 a9 a10 a11 a12) fun r j => h.w (R + r) (C + j))
    (hg : Is2 g fun r => h.g (R + r)) (hv : Is2 vw fun j => h.v (C + j)) :
    Is2 (k0_pay18 k0_pay59 a5 a7 a9 a10 a11 a12 g vw) fun r l => h.de (R + r) (C + 256 + l) := by
  intro r l
  pointwise [k0_pay18]
  rw [Nat.add_assoc]
  exact pay16 hW hg hv _ _

/-- Within a block of 256 keys: the earlier keys' gradients and the sum before the block are the sum before the key. -/
theorem earlier (f : ℕ → ℝ) (C : ℕ) (l : Fin 256) :
    ∑ i : Fin 256, f (C + i) * (if i < l then 1 else 0) + ∑ i : Fin 256, (f (C + i) - f (C + i)) * (if i < l then 1 else 0)
      + ∑ s ∈ Finset.range C, f s = ∑ s ∈ Finset.range (C + l), f s := by
  rw [sum_lower (fun i => f (C + i)), Finset.sum_range_add f C l]
  simp only [sub_self, zero_mul, Finset.sum_const_zero]
  ring

/-- Operation 19 of the step over a block of keys wholly before its queries: it holds the running dependences. -/
theorem pay19 (hW : Is2 (k0_pay15 k0_pay59 a5 a7 a9 a10 a11 a12) fun r j => h.w (R + r) (C + j))
    (hg : Is2 g fun r => h.g (R + r)) (hv : Is2 vw fun j => h.v (C + j)) (he : Is1 e fun r => h.dep (R + r) C) :
    Is2 (k0_pay19 k0_pay59 k0_pay60 a5 a7 a9 a10 a11 a12 g vw e) fun r l => h.dep (R + r) (C + l) := by
  intro r l
  pointwise [k0_pay19]
  simp only [pay17 hW hg hv _ _, pay60 _ _, he _ _, ← EReal.coe_mul, ← EReal.coe_sub, ← coe_sum, ← EReal.coe_add]
  exact congrArg _ (earlier (h.de (R + r)) C l)

/-- Operation 20 of the step over a block of keys wholly before its queries: it holds the running dependences. -/
theorem pay20 (hW : Is2 (k0_pay15 k0_pay59 a5 a7 a9 a10 a11 a12) fun r j => h.w (R + r) (C + j))
    (hg : Is2 g fun r => h.g (R + r)) (hv : Is2 vw fun j => h.v (C + j)) (he : Is1 e fun r => h.dep (R + r) C) :
    Is1 (k0_pay20 k0_pay59 a5 a7 a9 a10 a11 a12 g vw e) fun r => h.dep (R + r) (C + 256) := by
  intro r l
  pointwise [k0_pay20]
  simp only [pay17 hW hg hv _ _, he _ _, ← EReal.coe_add, ← coe_sum]
  rw [Head.dep_add]

/-- Operation 24 of the step over a block of keys wholly before its queries: it holds the running dependences. -/
theorem pay24 (hW : Is2 (k0_pay15 k0_pay59 a5 a7 a9 a10 a11 a12) fun r j => h.w (R + r) (C + j))
    (hg : Is2 g fun r => h.g (R + r)) (hv : Is2 vw fun j => h.v (C + j)) (he : Is1 e fun r => h.dep (R + r) C) :
    Is1 (k0_pay24 (k0_pay18 k0_pay59 a5 a7 a9 a10 a11 a12 g vw) (k0_pay20 k0_pay59 a5 a7 a9 a10 a11 a12 g vw e))
      fun r => h.dep (R + r) (C + 512) := by
  intro r l
  pointwise [k0_pay24]
  simp only [pay18 hW hg hv _ _, pay20 hW hg hv he _ _, ← EReal.coe_add, ← coe_sum]
  rw [← Head.dep_add]

/-- The gradient of a score, on reals. -/
theorem grad_form {a b x : EReal} {A B X s : ℝ} (ha : a = (A : EReal)) (hb : b = (B : EReal)) (hx : x = (X : EReal)) :
    (a - Ideal.exp b * (a + x)) * (s : EReal) = (((A - Real.exp B * (A + X)) * s : ℝ) : EReal) := by
  rw [ha, hb, hx, Ideal.exp_coe, ← EReal.coe_add, ← EReal.coe_mul, ← EReal.coe_sub, ← EReal.coe_mul]

/-- Operation 25 of the step over a block of keys wholly before its queries: it holds the gradient of the scores. -/
theorem pay25 (hC : C + 512 ≤ R) (hz : Is2 a5 fun r j => lsig (h.z (R + r) (C + j)))
    (hW : Is2 (k0_pay15 k0_pay59 a5 a7 a9 a10 a11 a12) fun r j => h.w (R + r) (C + j))
    (hg : Is2 g fun r => h.g (R + r)) (hv : Is2 vw fun j => h.v (C + j)) (he : Is1 e fun r => h.dep (R + r) C) :
    Is2 (k0_pay25 k0_pay60 a5 (k0_pay16 k0_pay59 a5 a7 a9 a10 a11 a12 g vw) (k0_pay19 k0_pay59 k0_pay60 a5 a7 a9 a10 a11 a12 g vw e)
      (k0_pay20 k0_pay59 a5 a7 a9 a10 a11 a12 g vw e) (k0_pay22 k0_pay59 a5 a7 a9 a10 a11 a12 g vw)
      (k0_pay23 k0_pay59 k0_pay60 a5 a7 a9 a10 a11 a12 g vw) (constant S512x256 .f32 0x00000000#32))
      fun r j => h.dz (R + r) (C + j) := by
  intro r j
  pointwise [k0_pay25, k0_pay22, k0_pay23, k0_pay21]
  rw [scale_word, Head.dz, if_pos (show C + (j : ℕ) < R + r by omega)]
  refine grad_form (pay16 hW hg hv _ _) (hz _ _) ?_
  by_cases hj : (j : ℕ) < 256
  · exact (dif_pos hj).trans (pay19 hW hg hv he _ _)
  · refine (dif_neg hj).trans ?_
    simp only [pay18 hW hg hv _ _, pay20 hW hg hv he _ _, pay60 _ _, ← EReal.coe_mul, ← EReal.coe_sub, ← coe_sum, ← EReal.coe_add]
    refine congrArg _ ((earlier (h.de (R + r)) (C + 256) ⟨j - 256, by omega⟩).trans ?_)
    rw [show C + 256 + (j - 256) = C + j by omega]
    rfl

end Grads

/-- The query's gradient after the step. -/
theorem pay26 {a5 a16 : FVec Ideal S512x512 .f32} {a19 a23 c : FVec Ideal S512x256 .f32} {a22 : FVec Ideal S512x256 .bf16} {a20 : FVec Ideal S512x1 .f32}
    {x : Vec Ideal S512x128 .f32} (hz : Is2 (k0_pay25 k0_pay60 a5 a16 a19 a20 a22 a23 c) fun r j => h.dz (R + r) (C + j))
    (hk : Is2 kw fun j => h.k (C + j)) (hx : Is2 x fun r => h.dq C (R + r)) :
    Is2 (k0_pay26 k0_pay60 (k0_pay3 kw) a5 a16 a19 a20 a22 a23 c x) fun r => h.dq (C + 512) (R + r) := by
  intro r d
  pointwise [k0_pay26, k0_pay3]
  simp only [hz _ _, hk _ _, hx _ _, ← EReal.coe_mul, ← coe_sum, ← EReal.coe_add]
  rw [← Head.dq_add]

/-- The values' gradient after the step. -/
theorem pay27 {a15 : FVec Ideal S512x512 .f32} {x : Vec Ideal S512x128 .f32} (hW : Is2 a15 fun r j => h.w (R + r) (C + j))
    (hg : Is2 g fun r => h.g (R + r)) (hx : Is2 x fun j => h.dv R (C + j)) :
    Is2 (k0_pay27 a15 x g) fun j => h.dv (R + 512) (C + j) := by
  intro r d
  pointwise [k0_pay27]
  simp only [hW _ _, hg _ _, hx _ _, ← EReal.coe_mul, ← coe_sum, ← EReal.coe_add]
  rw [← Head.dv_add]

/-- The keys' gradient after the step. -/
theorem pay64 {a5 a16 : FVec Ideal S512x512 .f32} {a19 a23 c : FVec Ideal S512x256 .f32} {a22 : FVec Ideal S512x256 .bf16} {a20 : FVec Ideal S512x1 .f32}
    {x : Vec Ideal S512x128 .f32} (hz : Is2 (k0_pay25 k0_pay60 a5 a16 a19 a20 a22 a23 c) fun r j => h.dz (R + r) (C + j))
    (hq : Is2 q fun r => h.q (R + r)) (hx : Is2 x fun j => h.dk R (C + j)) :
    Is2 (k0_pay64 (k0_pay28 x) (k0_pay29 k0_pay60 a5 a16 a19 a20 a22 a23 c q)) fun j => h.dk (R + 512) (C + j) := by
  intro r d
  pointwise [k0_pay64, k0_pay28, k0_pay29]
  simp only [hz _ _, hq _ _, hx _ _, ← EReal.coe_mul, ← coe_sum, ← EReal.coe_add]
  rw [← Head.dk_add]

end Cert.StickIdeal.Step
-- ==== Proof.StickBuf.lean ====
/- Loads and stores of whole rows of a buffer of reals. -/
module

public import proofs.«01_k».proof.Proof.StickReal
public import Idealize.ShloMosaic.Lib.WritesUnit
public import Idealize.ShloMosaic.Lib.VecWindow
public import Idealize.ShloMosaic.Lib.Pipeline.ValueKit.Tiles

@[expose] public section

noncomputable section

namespace Cert.StickReal

open Idealize.ShloMosaic

/-- A load of the rows from `C` reads the rows from `C`. -/
theorem ld_rows_b {N n b o C : ℕ} {X : Vec Ideal ⟨2, ![N, b]⟩ .bf16} {f : ℕ → Fin b → ℝ} (ho : o = C)
    (inb : ∀ a : Fin 2, (![o, 0] : Fin 2 → ℕ) a + (![n, b] : Fin 2 → ℕ) a ≤ (⟨2, ![N, b]⟩ : Shape).size a) (hX : Is2 X fun j => f j) :
    Is2 (a := n) (b := b) (View.ld (S := ⟨2, ![N, b]⟩) X (Rect.unit (s := ⟨2, ![N, b]⟩) ![o, 0] ![n, b] inb)) fun j => f (C + j) := by
  intro r l
  subst ho
  have h0 : o + n ≤ N := inb 0
  exact (View.ld_unit_apply_of X _ _ inb (ix2 r l) (ix2 ⟨o + r, by omega⟩ l)
    fun a => match a with
      | ⟨0, _⟩ => rfl
      | ⟨1, _⟩ => (Nat.zero_add _).symm).trans (hX _ _)

/-- A load of the rows from `C` reads the rows from `C`. -/
theorem ld_rows_f {N n b o C : ℕ} {X : Vec Ideal ⟨2, ![N, b]⟩ .f32} {f : ℕ → Fin b → ℝ} (ho : o = C)
    (inb : ∀ a : Fin 2, (![o, 0] : Fin 2 → ℕ) a + (![n, b] : Fin 2 → ℕ) a ≤ (⟨2, ![N, b]⟩ : Shape).size a) (hX : Is2 X fun j => f j) :
    Is2 (a := n) (b := b) (View.ld (S := ⟨2, ![N, b]⟩) X (Rect.unit (s := ⟨2, ![N, b]⟩) ![o, 0] ![n, b] inb)) fun j => f (C + j) := by
  intro r l
  subst ho
  have h0 : o + n ≤ N := inb 0
  exact (View.ld_unit_apply_of X _ _ inb (ix2 r l) (ix2 ⟨o + r, by omega⟩ l)
    fun a => match a with
      | ⟨0, _⟩ => rfl
      | ⟨1, _⟩ => (Nat.zero_add _).symm).trans (hX _ _)

/-- The same of a column. -/
theorem ld_rows_1 {N n o C : ℕ} {X : Vec Ideal ⟨2, ![N, 1]⟩ .f32} {f : ℕ → ℝ} (ho : o = C)
    (inb : ∀ a : Fin 2, (![o, 0] : Fin 2 → ℕ) a + (![n, 1] : Fin 2 → ℕ) a ≤ (⟨2, ![N, 1]⟩ : Shape).size a) (hX : Is1 X fun j => f j) :
    Is1 (a := n) (View.ld (S := ⟨2, ![N, 1]⟩) X (Rect.unit (s := ⟨2, ![N, 1]⟩) ![o, 0] ![n, 1] inb)) fun j => f (C + j) := by
  intro r l
  subst ho
  have h0 : o + n ≤ N := inb 0
  exact (View.ld_unit_apply_of X _ _ inb (ix2 r l) (ix2 ⟨o + r, by omega⟩ l)
    fun a => match a with
      | ⟨0, _⟩ => rfl
      | ⟨1, _⟩ => (Nat.zero_add _).symm).trans (hX _ _)

/-- And of a column with a unit axis before it. -/
theorem ld_rows_3 {N n o C : ℕ} {X : Vec Ideal ⟨3, ![1, N, 1]⟩ .f32} {f : ℕ → ℝ} (ho : o = C)
    (inb : ∀ a : Fin 3, (![0, o, 0] : Fin 3 → ℕ) a + (![1, n, 1] : Fin 3 → ℕ) a ≤ (⟨3, ![1, N, 1]⟩ : Shape).size a)
    (hX : ∀ a (r : Fin N) b, X (ix3 a r b) = ((f r : ℝ) : EReal)) (a : Fin 1) (r : Fin n) (b : Fin 1) :
    View.ld (S := ⟨3, ![1, N, 1]⟩) X (Rect.unit (s := ⟨3, ![1, N, 1]⟩) ![0, o, 0] ![1, n, 1] inb) (ix3 a r b) = ((f (C + r) : ℝ) : EReal) := by
  subst ho
  have h0 : o + n ≤ N := inb 1
  exact (View.ld_unit_apply_of X _ _ inb (ix3 a r b) (ix3 a ⟨o + r, by omega⟩ b)
    fun i => match i with
      | ⟨0, _⟩ => (Nat.zero_add _).symm
      | ⟨1, _⟩ => rfl
      | ⟨2, _⟩ => (Nat.zero_add _).symm).trans (hX _ _ _)

/-- A store of the rows from `C` changes those rows alone. -/
theorem put_rows {N n b o C : ℕ} {sig : RefSig} {κ : Kind} {sp : Space} {v : View sig κ sp ⟨2, ![N, b]⟩ .f32} {f : BufTy.Contents (Elt Ideal) v.ty} {G F : ℕ → Fin b → ℝ} (ho : o = C)
    (inb : ∀ a : Fin 2, (![o, 0] : Fin 2 → ℕ) a + (![n, b] : Fin 2 → ℕ) a ≤ (⟨2, ![N, b]⟩ : Shape).size a)
    {w : (Rect.unit (s := ⟨2, ![N, b]⟩) ![o, 0] ![n, b] inb).shape.Idx → Elt Ideal .f32} {L : List (View.Piece (Elt Ideal) ⟨2, ![N, b]⟩ .f32)}
    (hw : Is2 (a := n) (b := b) w fun j => G (C + j)) (hL : Is2 (v.read (Elt Ideal) (v.writes (Elt Ideal) f L)) fun j => F j) :
    Is2 (v.read (Elt Ideal) (v.writes (Elt Ideal) f (⟨Rect.unit (s := ⟨2, ![N, b]⟩) ![o, 0] ![n, b] inb, w⟩ :: L)))
      fun j l => if C ≤ (j : ℕ) ∧ (j : ℕ) < C + n then G j l else F j l := by
  intro r l
  subst ho
  by_cases h : o ≤ (r : ℕ) ∧ (r : ℕ) < o + n
  · show _ = ((if o ≤ (r : ℕ) ∧ (r : ℕ) < o + n then G r l else F r l : ℝ) : EReal)
    rw [if_pos h]
    refine (View.read_writes_cons_rows_of_mem v f inb w L (ix2 r l) (ix2 ⟨r - o, by omega⟩ l) rfl ?_ rfl).trans ((hw _ _).trans ?_)
    · show (r : ℕ) = o + (r - o); omega
    · show ((G (o + (r - o)) l : ℝ) : EReal) = _
      rw [show o + ((r : ℕ) - o) = r by omega]
  · show _ = ((if o ≤ (r : ℕ) ∧ (r : ℕ) < o + n then G r l else F r l : ℝ) : EReal)
    rw [if_neg h]
    exact (View.read_writes_cons_rows_of_not_mem v f inb w L (ix2 r l) rfl rfl (by show (r : ℕ) < o ∨ o + n ≤ (r : ℕ); omega)).trans (hL r l)

/-- A store of the whole buffer leaves what was stored. -/
theorem put_all {S : Shape} {sig : RefSig} {κ : Kind} {sp : Space} {v : View sig κ sp S .f32} {f : BufTy.Contents (Elt Ideal) v.ty} {off : Fin S.rank → ℕ}
    (inb : ∀ a, off a + S.size a ≤ S.size a) (w : (Rect.unit off S.size inb).shape.Idx → Elt Ideal .f32) (L : List (View.Piece (Elt Ideal) S .f32)) :
    v.read (Elt Ideal) (v.writes (Elt Ideal) f (⟨Rect.unit off S.size inb, w⟩ :: L)) = w :=
  View.read_writes_full v f inb w L

/-- The same, of a stored matrix of reals. -/
theorem put_all2 {n b : ℕ} {sig : RefSig} {κ : Kind} {sp : Space} {v : View sig κ sp ⟨2, ![n, b]⟩ .f32} {f : BufTy.Contents (Elt Ideal) v.ty}
    (inb : ∀ a : Fin 2, (![0, 0] : Fin 2 → ℕ) a + (![n, b] : Fin 2 → ℕ) a ≤ (⟨2, ![n, b]⟩ : Shape).size a)
    {w : Vec Ideal ⟨2, ![n, b]⟩ .f32} {L : List (View.Piece (Elt Ideal) ⟨2, ![n, b]⟩ .f32)} {F : Fin n → Fin b → ℝ} (hw : Is2 w F) :
    Is2 (v.read (Elt Ideal) (v.writes (Elt Ideal) f (⟨Rect.unit (s := ⟨2, ![n, b]⟩) ![0, 0] ![n, b] inb, w⟩ :: L))) F := by
  have e := put_all (v := v) (f := f) inb w L
  exact fun r l => (congrFun e (ix2 r l)).trans (hw r l)

/-- The same, of a stored column of reals. -/
theorem put_all1 {n : ℕ} {sig : RefSig} {κ : Kind} {sp : Space} {v : View sig κ sp ⟨2, ![n, 1]⟩ .f32} {f : BufTy.Contents (Elt Ideal) v.ty}
    (inb : ∀ a : Fin 2, (![0, 0] : Fin 2 → ℕ) a + (![n, 1] : Fin 2 → ℕ) a ≤ (⟨2, ![n, 1]⟩ : Shape).size a)
    {w : Vec Ideal ⟨2, ![n, 1]⟩ .f32} {L : List (View.Piece (Elt Ideal) ⟨2, ![n, 1]⟩ .f32)} {F : Fin n → ℝ} (hw : Is1 w F) :
    Is1 (v.read (Elt Ideal) (v.writes (Elt Ideal) f (⟨Rect.unit (s := ⟨2, ![n, 1]⟩) ![0, 0] ![n, 1] inb, w⟩ :: L))) F := by
  have e := put_all (v := v) (f := f) inb w L
  exact fun r l => (congrFun e (ix2 r l)).trans (hw r l)

end Cert.StickReal
-- ==== Proof.StickTrip.lean ====
/- One trip of the kernel's key loop, and the loop: what the running sums and the three gradients hold after `k` blocks of 512 keys. -/
module

public import proofs.«01_k».proof.Proof.StickStep
public import proofs.«01_k».proof.Proof.Gen.StickIdeal.Loops
public import proofs.«01_k».proof.Proof.StickBuf

@[expose] public section

set_option maxRecDepth 16384

noncomputable section

namespace Cert.StickIdeal.Trip

open Cert.StickIdeal Cert.StickIdeal.Gen Cert.StickReal Cert.StickIdeal.Step Idealize.ShloMosaic

/-- What the body finds in the buffers it only reads: the query block's rows from `R`, all keys and values, and each row's total. -/
structure Reads (h : Head) (R : ℕ) {arg2 : Memref sig .tc .vmem S512x128 .bf16} {arg3 arg4 : Memref sig .tc .vmem S4096x128 .bf16}
    {arg5 : Memref sig .tc .vmem S512x128 .bf16} {arg6 : Memref sig .tc .vmem S1x512x1 .f32}
    (X2 : BufTy.Contents (Elt Ideal) arg2.view.ty) (X3 : BufTy.Contents (Elt Ideal) arg3.view.ty) (X4 : BufTy.Contents (Elt Ideal) arg4.view.ty)
    (X5 : BufTy.Contents (Elt Ideal) arg5.view.ty) (X6 : BufTy.Contents (Elt Ideal) arg6.view.ty) : Prop where
  q : Is2 (arg2.view.read (Elt Ideal) X2) fun r => h.q (R + r)
  k : Is2 (arg3.view.read (Elt Ideal) X3) fun j => h.k j
  v : Is2 (arg4.view.read (Elt Ideal) X4) fun j => h.v j
  g : Is2 (arg5.view.read (Elt Ideal) X5) fun r => h.g (R + r)
  t : ∀ a r b, arg6.view.read (Elt Ideal) X6 (ix3 a r b) = ((h.skip (R + r) 4096 : ℝ) : EReal)

/-- What the buffers the body writes hold once the keys before `C` are done for the query block at `R`. -/
structure State (h : Head) (R C : ℕ) {arg7 : Memref sig .tc .vmem S512x128 .f32} {arg8 arg9 : Memref sig .tc .vmem S4096x128 .f32}
    {arg10 arg11 : Memref sig .tc .vmem S512x1 .f32}
    (f7 : BufTy.Contents (Elt Ideal) arg7.view.ty) (f8 : BufTy.Contents (Elt Ideal) arg8.view.ty) (f9 : BufTy.Contents (Elt Ideal) arg9.view.ty)
    (f10 : BufTy.Contents (Elt Ideal) arg10.view.ty) (f11 : BufTy.Contents (Elt Ideal) arg11.view.ty) : Prop where
  dq : Is2 (arg7.view.read (Elt Ideal) f7) fun r => h.dq C (R + r)
  dk : Is2 (arg8.view.read (Elt Ideal) f8) fun j => h.dk (if (j : ℕ) < C then R + 512 else R) j
  dv : Is2 (arg9.view.read (Elt Ideal) f9) fun j => h.dv (if (j : ℕ) < C then R + 512 else R) j
  pk : Is1 (arg10.view.read (Elt Ideal) f10) fun r => h.skip (R + r) C
  pd : Is1 (arg11.view.read (Elt Ideal) f11) fun r => h.dep (R + r) C

/-- Two zero offsets. -/
theorem hz : (![0, 0] : Fin 2 → Nat) = fun _ => 0 := funext fun a => by fin_cases a <;> rfl
/-- Three zero offsets. -/
theorem hz3 : (![0, 0, 0] : Fin 3 → Nat) = fun _ => 0 := funext fun a => by fin_cases a <;> rfl

variable (𝒱 : Variants) (c : Dev nD) (bd : Option 𝒱.V) (i : grid0.Coords)
  (arg2 : Memref sig .tc .vmem S512x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S512x128 .bf16) (harg5 : arg5.IsWhole)
  (arg6 : Memref sig .tc .vmem S1x512x1 .f32) (harg6 : arg6.IsWhole) (arg7 : Memref sig .tc .vmem S512x128 .f32) (harg7 : arg7.IsWhole)
  (arg8 : Memref sig .tc .vmem S4096x128 .f32) (harg8 : arg8.IsWhole) (arg9 : Memref sig .tc .vmem S4096x128 .f32) (harg9 : arg9.IsWhole)
  (arg10 : Memref sig .tc .vmem S512x1 .f32) (harg10 : arg10.IsWhole) (arg11 : Memref sig .tc .vmem S512x1 .f32) (harg11 : arg11.IsWhole)
  (X2 : BufTy.Contents (Elt Ideal) arg2.view.ty) (X3 : BufTy.Contents (Elt Ideal) arg3.view.ty) (X4 : BufTy.Contents (Elt Ideal) arg4.view.ty)
  (X5 : BufTy.Contents (Elt Ideal) arg5.view.ty) (X6 : BufTy.Contents (Elt Ideal) arg6.view.ty)
  (f7 : BufTy.Contents (Elt Ideal) arg7.view.ty) (f8 : BufTy.Contents (Elt Ideal) arg8.view.ty) (f9 : BufTy.Contents (Elt Ideal) arg9.view.ty)
  (f10 : BufTy.Contents (Elt Ideal) arg10.view.ty) (f11 : BufTy.Contents (Elt Ideal) arg11.view.ty)

/-- The rows already stepped over, one block more. -/
theorem after_rows {f : ℕ → ℕ → Fin 128 → ℝ} {a b : ℕ} (k j : ℕ) (d : Fin 128) :
    (if 512 * k ≤ j ∧ j < 512 * k + 512 then f a j d else f (if j < 512 * k then a else b) j d) = f (if j < 512 * (k + 1) then a else b) j d := by
  by_cases h : 512 * k ≤ j ∧ j < 512 * k + 512
  · rw [if_pos h, if_pos (by omega)]
  · rw [if_neg h]
    by_cases h' : j < 512 * k
    · rw [if_pos h', if_pos (by omega)]
    · rw [if_neg h', if_neg (by omega)]

/-- One trip carries the state over 512 keys. -/
theorem trip {h : Head} {R : ℕ} (k : Fin (k0_t1_loop i).trips) (hC : 512 * (k : ℕ) + 512 ≤ R) (ho : BitVec.toNat (Scalar.indexCast (Scalar.muli (Scf.iv 0#32 1#32 (k : ℕ)) 512#32)) = 512 * (k : ℕ))
    (hX : Reads h R X2 X3 X4 X5 X6) (hS : State h R (512 * k) f7 f8 f9 f10 f11) :
    let L := tripL_k0_t1 (F := Ideal) 𝒱 c bd i arg2 harg2 arg3 harg3 arg4 harg4 arg5 harg5 arg6 harg6 arg7 harg7 arg8 harg8 arg9 harg9 arg10 harg10 arg11 harg11 X2 X3 X4 X5 X6 k f7 f8 f9 f10 f11
    State h R (512 * (k + 1)) (arg7.view.writes (Elt Ideal) f7 L.1) (arg8.view.writes (Elt Ideal) f8 L.2.1) (arg9.view.writes (Elt Ideal) f9 L.2.2.1)
      (arg10.view.writes (Elt Ideal) f10 L.2.2.2.1) (arg11.view.writes (Elt Ideal) f11 L.2.2.2.2) := by
  intro L
  subst L
  unfold tripL_k0_t1 trip_k0_t1
  dsimp only
  sl_unfold_words
  simp only [View.readAt_eq_ld, View.ld_unit_zero (S := S512x128) hz, View.ld_unit_zero (S := S512x1) hz, View.ld_unit_zero (S := S1x512x1) hz3]
  have hk := fun inb => ld_rows_b (n := 512) (C := 512 * (k : ℕ)) ho inb hX.k
  have hv := fun inb => ld_rows_b (n := 512) (C := 512 * (k : ℕ)) ho inb hX.v
  have hW := fun inb => pay15 hC (hk inb) hX.q hS.pk hX.t
  have hlz := fun inb => pay5 (hk inb) hX.q
  have hD := fun inb => pay25 hC (hlz inb) (hW inb) hX.g (hv inb) hS.pd
  constructor
  · exact (put_all _ _ _).symm ▸ pay26 (hD _) (hk _) hS.dq
  · intro j d
    refine (put_rows (C := 512 * (k : ℕ)) (G := h.dk (R + 512)) (F := fun j => h.dk (if j < 512 * (k : ℕ) then R + 512 else R) j) ho _ (pay64 (hD _) hX.q fun j d => ?_) hS.dk j d).trans ?_
    · exact ((ld_rows_f (f := fun j => h.dk (if j < 512 * (k : ℕ) then R + 512 else R) j) ho _ hS.dk) j d).trans
        (by simp only [if_neg (show ¬ 512 * (k : ℕ) + (j : ℕ) < 512 * (k : ℕ) by omega)])
    · exact congrArg _ (after_rows (f := h.dk) (k : ℕ) j d)
  · intro j d
    refine (put_rows (C := 512 * (k : ℕ)) (G := h.dv (R + 512)) (F := fun j => h.dv (if j < 512 * (k : ℕ) then R + 512 else R) j) ho _ (pay27 (hW _) hX.g fun j d => ?_) hS.dv j d).trans ?_
    · exact ((ld_rows_f (f := fun j => h.dv (if j < 512 * (k : ℕ) then R + 512 else R) j) ho _ hS.dv) j d).trans
        (by simp only [if_neg (show ¬ 512 * (k : ℕ) + (j : ℕ) < 512 * (k : ℕ) by omega)])
    · exact congrArg _ (after_rows (f := h.dv) (k : ℕ) j d)
  · exact (put_all _ _ _).symm ▸ pay14 hC (hk _) hX.q hS.pk
  · exact (put_all _ _ _).symm ▸ pay24 (hW _) hX.g (hv _) hS.pd

end Cert.StickIdeal.Trip
-- ==== Proof.StickLoop.lean ====
/- The kernel's key loop: after it, the state holds every key before the query block. -/
module

public import proofs.«01_k».proof.Proof.StickTrip
public import Idealize.ShloMosaic.Lib.LoopRemainder

@[expose] public section

set_option maxRecDepth 16384

noncomputable section

namespace Cert.StickIdeal.Trip

open Cert.StickIdeal Cert.StickIdeal.Gen Cert.StickReal Cert.StickIdeal.Step Idealize.ShloMosaic

/-- The loop over whole blocks of keys runs once per query block before this one. -/
theorem trips1 (i : grid0.Coords) : (k0_t1_loop i).trips = (i 1).val := by
  have h : ∀ n : Fin 8, Scf.trips 0#32 (Scalar.addi 0#32 (Scalar.muli (Scalar.divsi (Scalar.subi (Scalar.muli (BitVec.ofNat 32 n.val) 1#32) 0#32) 1#32) 1#32)) 1#32 = n.val := by
    decide +kernel
  exact h (i 1)

/-- The remainder loop runs no trip. -/
theorem trips2 (i : grid0.Coords) : (k0_t2_loop i).trips = 0 := by
  have h : ∀ n : Fin 8, Scf.trips (Scalar.addi 0#32 (Scalar.muli (Scalar.divsi (Scalar.subi (Scalar.muli (BitVec.ofNat 32 n.val) 1#32) 0#32) 1#32) 1#32))
      (Scalar.addi 0#32 (Scalar.subi (Scalar.muli (BitVec.ofNat 32 n.val) 1#32) 0#32)) 1#32 = 0 := by
    decide +kernel
  exact h (i 1)

/-- The first row of the key block a trip reads. -/
theorem off1 : ∀ k : Fin 8, BitVec.toNat (Scalar.indexCast (Scalar.muli (Scf.iv 0#32 1#32 k.val) 512#32)) = 512 * k.val := by
  decide +kernel

variable (𝒱 : Variants) (c : Dev nD) (bd : Option 𝒱.V) (i : grid0.Coords)
  (arg2 : Memref sig .tc .vmem S512x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S512x128 .bf16) (harg5 : arg5.IsWhole)
  (arg6 : Memref sig .tc .vmem S1x512x1 .f32) (harg6 : arg6.IsWhole) (arg7 : Memref sig .tc .vmem S512x128 .f32) (harg7 : arg7.IsWhole)
  (arg8 : Memref sig .tc .vmem S4096x128 .f32) (harg8 : arg8.IsWhole) (arg9 : Memref sig .tc .vmem S4096x128 .f32) (harg9 : arg9.IsWhole)
  (arg10 : Memref sig .tc .vmem S512x1 .f32) (harg10 : arg10.IsWhole) (arg11 : Memref sig .tc .vmem S512x1 .f32) (harg11 : arg11.IsWhole)
  (X2 : BufTy.Contents (Elt Ideal) arg2.view.ty) (X3 : BufTy.Contents (Elt Ideal) arg3.view.ty) (X4 : BufTy.Contents (Elt Ideal) arg4.view.ty)
  (X5 : BufTy.Contents (Elt Ideal) arg5.view.ty) (X6 : BufTy.Contents (Elt Ideal) arg6.view.ty)
  (f7 : BufTy.Contents (Elt Ideal) arg7.view.ty) (f8 : BufTy.Contents (Elt Ideal) arg8.view.ty) (f9 : BufTy.Contents (Elt Ideal) arg9.view.ty)
  (f10 : BufTy.Contents (Elt Ideal) arg10.view.ty) (f11 : BufTy.Contents (Elt Ideal) arg11.view.ty)

/-- After `k` trips the keys before `512 k` are done. -/
theorem loop {h : Head} (hX : Reads h (512 * (i 1).val) X2 X3 X4 X5 X6) (hS : State h (512 * (i 1).val) 0 f7 f8 f9 f10 f11) (k : ℕ) (hk : k ≤ (i 1).val) :
    let L := pb_k0_t1 (F := Ideal) 𝒱 c bd i arg2 harg2 arg3 harg3 arg4 harg4 arg5 harg5 arg6 harg6 arg7 harg7 arg8 harg8 arg9 harg9 arg10 harg10 arg11 harg11 X2 X3 X4 X5 X6 f7 f8 f9 f10 f11 k
    State h (512 * (i 1).val) (512 * k) (arg7.view.writes (Elt Ideal) f7 L.1) (arg8.view.writes (Elt Ideal) f8 L.2.1) (arg9.view.writes (Elt Ideal) f9 L.2.2.1)
      (arg10.view.writes (Elt Ideal) f10 L.2.2.2.1) (arg11.view.writes (Elt Ideal) f11 L.2.2.2.2) := by
  induction k with
  | zero => exact hS
  | succ k ih =>
    have ih := ih (by omega)
    have hi : (i 1).val < 8 := (i 1).isLt
    intro L
    subst L
    rw [pb_k0_t1_succ 𝒱 c bd i arg2 harg2 arg3 harg3 arg4 harg4 arg5 harg5 arg6 harg6 arg7 harg7 arg8 harg8 arg9 harg9 arg10 harg10 arg11 harg11 X2 X3 X4 X5 X6 f7 f8 f9 f10 f11
      ⟨k, by rw [trips1]; omega⟩]
    dsimp only
    simp only [View.writes_append]
    exact trip 𝒱 c bd i arg2 harg2 arg3 harg3 arg4 harg4 arg5 harg5 arg6 harg6 arg7 harg7 arg8 harg8 arg9 harg9 arg10 harg10 arg11 harg11 X2 X3 X4 X5 X6 _ _ _ _ _
      ⟨k, by rw [trips1]; omega⟩ (by dsimp only; omega) (off1 ⟨k, by omega⟩) hX ih

end Cert.StickIdeal.Trip
-- ==== Proof.StickDiag.lean ====
/- The kernel's two masked steps on the diagonal, 256 keys each: what each stored block holds, entry by entry, when everything read is real. -/
module

public import proofs.«01_k».proof.Proof.StickStep

@[expose] public section

set_option maxRecDepth 16384

noncomputable section

namespace Cert.StickIdeal.Diag

open Cert.StickIdeal Cert.StickIdeal.Gen Cert.StickReal Cert.StickIdeal.Step Idealize.ShloMosaic

/-- The mask of a block on the diagonal: the key lies before the query. -/
def Lower {a b : ℕ} (m : IVec ⟨2, ![a, b]⟩ 1) : Prop := ∀ r l, m (ix2 r l) = BitVec.ofBool (decide ((l : ℕ) < (r : ℕ)))

/-- Adding the same small base to both sides keeps the order of two small numbers. -/
theorem cmp_base (b r l : ℕ) (hb : b < 5000) (hr : r < 5000) (hl : l < 5000) :
    IntOp.cmpi .sgt (IntOp.addi (BitVec.ofNat 32 b) (BitVec.ofNat 32 r)) (IntOp.addi (BitVec.ofNat 32 b) (BitVec.ofNat 32 l))
      = BitVec.ofBool (decide (l < r)) := by
  show IntOp.cmpi .sgt (BitVec.ofNat 32 b + BitVec.ofNat 32 r) (BitVec.ofNat 32 b + BitVec.ofNat 32 l) = _
  rw [← BitVec.ofNat_add, ← BitVec.ofNat_add, WordCmp.cmpi_sgt_ofNat (by omega) (by omega)]
  simp only [Nat.add_lt_add_iff_left]

/-- The first diagonal block's mask. -/
theorem mask0 {v w : BitVec 32} (b : ℕ) (hb : b < 4096) (hv : v = BitVec.ofNat 32 b) (hw : w = BitVec.ofNat 32 b) : Lower (k0_pay66 v w) := by
  intro r l
  pointwise [k0_pay66]
  rw [show Scalar.addi v 0#32 = BitVec.ofNat 32 b by rw [hv]; exact BitVec.add_zero _, hw]
  exact cmp_base b r l (by omega) (by omega) (by omega)

/-- The second diagonal block's mask. -/
theorem mask1 {v : BitVec 32} (b : ℕ) (hb : b < 4096) (hv : v = BitVec.ofNat 32 b) : Lower (k0_pay85 v) := by
  intro r l
  pointwise [k0_pay85]
  rw [show Scalar.addi v 256#32 = BitVec.ofNat 32 (b + 256) by rw [hv, BitVec.ofNat_add]; rfl]
  exact cmp_base (b + 256) r l (by omega) (by omega) (by omega)

section First

variable {h : Head} {R : ℕ} {v3 v32 : BitVec 32} {m : IVec S512x256 1} {kw vw : Vec Ideal S256x128 .bf16} {q g : Vec Ideal S512x128 .bf16}
  {p e : Vec Ideal S512x1 .f32} {t : Vec Ideal S1x512x1 .f32}

/-- Operation 68 of the step over the block of keys on the diagonal: it holds the scaled scores. -/
theorem pay68 (hk : Is2 kw fun j => h.k (R + j)) (hq : Is2 q fun r => h.q (R + r)) :
    Is2 (k0_pay68 kw q) fun r j => h.z (R + r) (R + j) := by
  intro r j
  pointwise [k0_pay68, k0_pay67]
  rw [scale_word]
  simp only [hk _ _, hq _ _, ← EReal.coe_mul, ← coe_sum]
  rfl

/-- Operation 69 of the step over the block of keys on the diagonal: it holds the logs of what each key takes. -/
theorem pay69 (hk : Is2 kw fun j => h.k (R + j)) (hq : Is2 q fun r => h.q (R + r)) :
    Is2 (k0_pay69 kw q) fun r j => lsig (h.z (R + r) (R + j)) := by
  intro r j
  pointwise [k0_pay69]
  simp only [pay68 hk hq _ _]
  exact lsig_coe _

/-- Operation 70 of the step over the block of keys on the diagonal: it holds the logs of what each key leaves. -/
theorem pay70 (hm : Lower (k0_pay66 v3 v32)) (hk : Is2 kw fun j => h.k (R + j)) (hq : Is2 q fun r => h.q (R + r)) :
    Is2 (k0_pay70 v3 v32 kw q) fun r j => h.lk (R + r) (R + j) := by
  intro r j
  pointwise [k0_pay70]
  simp only [pay68 hk hq _ _, pay69 hk hq _ _, ← EReal.coe_sub, hm _ _, sel_coe, Head.lk, Nat.add_lt_add_iff_left]

/-- Operation 72 of the step over the block of keys on the diagonal: it holds the running log sums. -/
theorem pay72 (hm : Lower (k0_pay66 v3 v32)) (hk : Is2 kw fun j => h.k (R + j)) (hq : Is2 q fun r => h.q (R + r))
    (hp : Is1 p fun r => h.skip (R + r) R) : Is1 (k0_pay72 v3 v32 kw q p) fun r => h.skip (R + r) (R + 256) := by
  intro r l
  pointwise [k0_pay72]
  simp only [pay70 hm hk hq _ _, hp _ _, ← EReal.coe_add, ← coe_sum]
  rw [Head.skip_add]

/-- Operation 76 of the step over the block of keys on the diagonal: it holds the running log sums. -/
theorem pay76 (hm : Lower (k0_pay66 v3 v32)) (hk : Is2 kw fun j => h.k (R + j)) (hq : Is2 q fun r => h.q (R + r))
    (hp : Is1 p fun r => h.skip (R + r) R) : Is1 (k0_pay76 (k0_pay72 v3 v32 kw q p)) fun r => h.skip (R + r) (R + 256) := by
  intro r l
  pointwise [k0_pay76]
  exact pay72 hm hk hq hp _ _

/-- Operation 77 of the step over the block of keys on the diagonal: it holds the weights. -/
theorem pay77 (hm : Lower (k0_pay66 v3 v32)) (hk : Is2 kw fun j => h.k (R + j)) (hq : Is2 q fun r => h.q (R + r))
    (hp : Is1 p fun r => h.skip (R + r) R) (ht : ∀ a r b, t (ix3 a r b) = ((h.skip (R + r) 4096 : ℝ) : EReal)) :
    Is2 (k0_pay77 (k0_pay66 v3 v32) (k0_pay69 kw q) (k0_pay71 t) (k0_pay72 v3 v32 kw q p) (k0_pay74 v3 k0_pay59 v32 kw q)
      (k0_pay75 v3 k0_pay59 v32 kw q)) fun r j => h.w (R + r) (R + j) := by
  intro r j
  pointwise [k0_pay77, k0_pay71, k0_pay74, k0_pay75, k0_pay73]
  simp only [pay69 hk hq _ _, pay70 hm hk hq _ _, pay72 hm hk hq hp _ _, pay59 _ _, ht _ _ _, hm _ _, ← EReal.coe_mul, ← EReal.coe_sub, ← coe_sum,
    ← EReal.coe_add, Ideal.exp_coe, sel_coe, Head.w, Nat.add_lt_add_iff_left]
  rw [show (h.skip (R + r) 4096 - h.skip (R + r) (R + j + 1)) = _ from (later (h.lk (R + r)) _ R j).symm]
  rfl

section Grads

variable {a59 a73 a74 : FVec Ideal S512x256 .f32} {a65 a68 : FVec Ideal S512x1 .f32}

/-- Operation 78 of the step over the block of keys on the diagonal: it holds the weights times their cotangents. -/
theorem pay78 (hW : Is2 (k0_pay77 m a59 a65 a68 a73 a74) fun r j => h.w (R + r) (R + j))
    (hg : Is2 g fun r => h.g (R + r)) (hv : Is2 vw fun j => h.v (R + j)) :
    Is2 (k0_pay78 m a59 a65 a68 a73 a74 g vw) fun r j => h.de (R + r) (R + j) := by
  intro r j
  pointwise [k0_pay78]
  simp only [hW _ _, hg _ _, hv _ _, ← EReal.coe_mul, ← coe_sum]
  rfl

/-- Operation 79 of the step over the block of keys on the diagonal: it holds the running dependences. -/
theorem pay79 (hW : Is2 (k0_pay77 m a59 a65 a68 a73 a74) fun r j => h.w (R + r) (R + j))
    (hg : Is2 g fun r => h.g (R + r)) (hv : Is2 vw fun j => h.v (R + j)) (he : Is1 e fun r => h.dep (R + r) R) :
    Is1 (k0_pay79 m a59 a65 a68 a73 a74 g vw e) fun r => h.dep (R + r) (R + 256) := by
  intro r l
  pointwise [k0_pay79]
  simp only [pay78 hW hg hv _ _, he _ _, ← EReal.coe_add, ← coe_sum]
  rw [Head.dep_add]

/-- Operation 80 of the step over the block of keys on the diagonal: it holds the gradient of the scores. -/
theorem pay80 (hm : Lower m) (hz : Is2 a59 fun r j => lsig (h.z (R + r) (R + j)))
    (hW : Is2 (k0_pay77 m a59 a65 a68 a73 a74) fun r j => h.w (R + r) (R + j))
    (hg : Is2 g fun r => h.g (R + r)) (hv : Is2 vw fun j => h.v (R + j)) (he : Is1 e fun r => h.dep (R + r) R) :
    Is2 (k0_pay80 k0_pay60 m a59 a65 a68 a73 a74 g vw e) fun r j => h.dz (R + r) (R + j) := by
  intro r j
  pointwise [k0_pay80]
  rw [scale_word, hm _ _]
  refine (congrArg (Scalar.select _ · 0) (grad_form (X := h.dep (R + r) (R + j)) (pay78 hW hg hv _ _) (hz _ _) ?_)).trans ?_
  · simp only [pay78 hW hg hv _ _, pay60 _ _, he _ _, ← EReal.coe_mul, ← EReal.coe_sub, ← coe_sum, ← EReal.coe_add]
    exact congrArg _ (earlier (h.de (R + r)) R j)
  · simp only [sel_coe, Head.dz, Nat.add_lt_add_iff_left]

end Grads

/-- Operation 82 of the step over the block of keys on the diagonal: it holds the gradient of the queries. -/
theorem pay82 {a80 : FVec Ideal S512x256 .f32} {x : Vec Ideal S512x128 .f32} (hz : Is2 a80 fun r j => h.dz (R + r) (R + j))
    (hk : Is2 kw fun j => h.k (R + j)) (hx : Is2 x fun r => h.dq R (R + r)) :
    Is2 (k0_pay82 (k0_pay67 kw) a80 x) fun r => h.dq (R + 256) (R + r) := by
  intro r d
  pointwise [k0_pay82, k0_pay81, k0_pay67]
  simp only [hz _ _, hk _ _, hx _ _, ← EReal.coe_mul, ← coe_sum, ← EReal.coe_add]
  rw [← Head.dq_add]

/-- Operation 83 of the step over the block of keys on the diagonal: it holds the gradient of the values. -/
theorem pay83 {a77 : FVec Ideal S512x256 .f32} {x : Vec Ideal S256x128 .f32} (hW : Is2 a77 fun r j => h.w (R + r) (R + j))
    (hg : Is2 g fun r => h.g (R + r)) (hx : Is2 x fun j => h.dv R (R + j)) :
    Is2 (k0_pay83 a77 x g) fun j => h.dv (R + 512) (R + j) := by
  intro r d
  pointwise [k0_pay83]
  simp only [hW _ _, hg _ _, hx _ _, ← EReal.coe_mul, ← coe_sum, ← EReal.coe_add]
  rw [← Head.dv_add]

/-- Operation 84 of the step over the block of keys on the diagonal: it holds the gradient of the keys. -/
theorem pay84 {a80 : FVec Ideal S512x256 .f32} {x : Vec Ideal S256x128 .f32} (hz : Is2 a80 fun r j => h.dz (R + r) (R + j))
    (hq : Is2 q fun r => h.q (R + r)) (hx : Is2 x fun j => h.dk R (R + j)) :
    Is2 (k0_pay84 a80 x q) fun j => h.dk (R + 512) (R + j) := by
  intro r d
  pointwise [k0_pay84, k0_pay81]
  simp only [hz _ _, hq _ _, hx _ _, ← EReal.coe_mul, ← coe_sum, ← EReal.coe_add]
  rw [← Head.dk_add]

end First

section Second

variable {h : Head} {R : ℕ} {m : IVec S256x256 1} {kw vw q g : Vec Ideal S256x128 .bf16} {p e : Vec Ideal S256x1 .f32} {t : Vec Ideal S1x256x1 .f32}

/-- Operation 87 of the step over the block of keys on the diagonal: it holds the scaled scores. -/
theorem pay87 (hk : Is2 kw fun j => h.k (R + j)) (hq : Is2 q fun r => h.q (R + r)) :
    Is2 (k0_pay87 (k0_pay86 kw) q) fun r j => h.z (R + r) (R + j) := by
  intro r j
  pointwise [k0_pay87, k0_pay86]
  rw [scale_word]
  simp only [hk _ _, hq _ _, ← EReal.coe_mul, ← coe_sum]
  rfl

/-- Operation 88 of the step over the block of keys on the diagonal: it holds the logs of what each key takes. -/
theorem pay88 (hk : Is2 kw fun j => h.k (R + j)) (hq : Is2 q fun r => h.q (R + r)) :
    Is2 (k0_pay88 (k0_pay86 kw) q) fun r j => lsig (h.z (R + r) (R + j)) := by
  intro r j
  pointwise [k0_pay88]
  simp only [pay87 hk hq _ _]
  exact lsig_coe _

/-- Operation 89 of the step over the block of keys on the diagonal: it holds the logs of what each key leaves. -/
theorem pay89 (hm : Lower m) (hk : Is2 kw fun j => h.k (R + j)) (hq : Is2 q fun r => h.q (R + r)) :
    Is2 (k0_pay89 m (k0_pay86 kw) q) fun r j => h.lk (R + r) (R + j) := by
  intro r j
  pointwise [k0_pay89]
  simp only [pay87 hk hq _ _, pay88 hk hq _ _, ← EReal.coe_sub, hm _ _, sel_coe, Head.lk, Nat.add_lt_add_iff_left]

/-- Operation 90 of the step over the block of keys on the diagonal: it holds the running log sums. -/
theorem pay90 (hm : Lower m) (hk : Is2 kw fun j => h.k (R + j)) (hq : Is2 q fun r => h.q (R + r))
    (hp : Is1 p fun r => h.skip (R + r) R) : Is1 (k0_pay90 m (k0_pay86 kw) q p) fun r => h.skip (R + r) (R + 256) := by
  intro r l
  pointwise [k0_pay90]
  simp only [pay89 hm hk hq _ _, hp _ _, ← EReal.coe_add, ← coe_sum]
  rw [Head.skip_add]

/-- Operation 92 of the step over the block of keys on the diagonal: it holds the weights. -/
theorem pay92 (hm : Lower m) (hk : Is2 kw fun j => h.k (R + j)) (hq : Is2 q fun r => h.q (R + r))
    (hp : Is1 p fun r => h.skip (R + r) R) (ht : ∀ a r b, t (ix3 a r b) = ((h.skip (R + r) 4096 : ℝ) : EReal)) :
    Is2 (k0_pay92 k0_pay59 m (k0_pay86 kw) q p t) fun r j => h.w (R + r) (R + j) := by
  intro r j
  pointwise [k0_pay92]
  simp only [pay88 hk hq _ _, pay89 hm hk hq _ _, pay90 hm hk hq hp _ _, pay59 _ _, ht _ _ _, hm _ _, ← EReal.coe_mul, ← EReal.coe_sub, ← coe_sum,
    ← EReal.coe_add, Ideal.exp_coe, sel_coe, Head.w, Nat.add_lt_add_iff_left]
  rw [show (h.skip (R + r) 4096 - h.skip (R + r) (R + j + 1)) = _ from (later (h.lk (R + r)) _ R j).symm]
  rfl

section Grads

variable {a88 a92 : FVec Ideal S256x256 .f32}

/-- Operation 93 of the step over the block of keys on the diagonal: it holds the weights times their cotangents. -/
theorem pay93 (hW : Is2 a92 fun r j => h.w (R + r) (R + j)) (hg : Is2 g fun r => h.g (R + r)) (hv : Is2 vw fun j => h.v (R + j)) :
    Is2 (k0_pay93 a92 g vw) fun r j => h.de (R + r) (R + j) := by
  intro r j
  pointwise [k0_pay93]
  simp only [hW _ _, hg _ _, hv _ _, ← EReal.coe_mul, ← coe_sum]
  rfl

/-- Operation 95 of the step over the block of keys on the diagonal: it holds the gradient of the scores. -/
theorem pay95 (hm : Lower m) (hz : Is2 a88 fun r j => lsig (h.z (R + r) (R + j))) (hW : Is2 a92 fun r j => h.w (R + r) (R + j))
    (hg : Is2 g fun r => h.g (R + r)) (hv : Is2 vw fun j => h.v (R + j)) (he : Is1 e fun r => h.dep (R + r) R) :
    Is2 (k0_pay95 k0_pay60 m a88 a92 g vw e) fun r j => h.dz (R + r) (R + j) := by
  intro r j
  pointwise [k0_pay95]
  rw [scale_word, hm _ _]
  refine (congrArg (Scalar.select _ · 0) (grad_form (X := h.dep (R + r) (R + j)) (pay93 hW hg hv _ _) (hz _ _) ?_)).trans ?_
  · simp only [pay93 hW hg hv _ _, pay60 _ _, he _ _, ← EReal.coe_mul, ← EReal.coe_sub, ← coe_sum, ← EReal.coe_add]
    exact congrArg _ (earlier (h.de (R + r)) R j)
  · simp only [sel_coe, Head.dz, Nat.add_lt_add_iff_left]

/-- Operation 96 of the step over the block of keys on the diagonal: it holds the gradient of the queries. -/
theorem pay96 {x : Vec Ideal S256x128 .f32} (hz : Is2 (k0_pay95 k0_pay60 m a88 a92 g vw e) fun r j => h.dz (R + r) (R + j))
    (hk : Is2 kw fun j => h.k (R + j)) (hx : Is2 x fun r => h.dq R (R + r)) :
    Is2 (k0_pay96 k0_pay60 m (k0_pay86 kw) a88 a92 g vw e x) fun r => h.dq (R + 256) (R + r) := by
  intro r d
  pointwise [k0_pay96, k0_pay86]
  simp only [hz _ _, hk _ _, hx _ _, ← EReal.coe_mul, ← coe_sum, ← EReal.coe_add]
  rw [← Head.dq_add]

end Grads

/-- Operation 1 of the step over the block of keys on the diagonal: it holds the gradient of the values. -/
theorem pay1 {a92 : FVec Ideal S256x256 .f32} {x : Vec Ideal S256x128 .f32} (hW : Is2 a92 fun r j => h.w (R + r) (R + j))
    (hg : Is2 g fun r => h.g (R + r)) (hx : Is2 x fun j => h.dv R (R + j)) :
    Is2 (k0_pay1 a92 x g) fun j => h.dv (R + 256) (R + j) := by
  intro r d
  pointwise [k0_pay1]
  simp only [hW _ _, hg _ _, hx _ _, ← EReal.coe_mul, ← coe_sum, ← EReal.coe_add]
  rw [← Head.dv_add]

/-- Operation 2 of the step over the block of keys on the diagonal: it holds the gradient of the keys. -/
theorem pay2 {a95 : FVec Ideal S256x256 .bf16} {x : Vec Ideal S256x128 .f32} (hz : Is2 a95 fun r j => h.dz (R + r) (R + j))
    (hq : Is2 q fun r => h.q (R + r)) (hx : Is2 x fun j => h.dk R (R + j)) :
    Is2 (k0_pay2 a95 x q) fun j => h.dk (R + 256) (R + j) := by
  intro r d
  pointwise [k0_pay2]
  simp only [hz _ _, hq _ _, hx _ _, ← EReal.coe_mul, ← coe_sum, ← EReal.coe_add]
  rw [← Head.dk_add]

end Second

end Cert.StickIdeal.Diag
-- ==== Proof.StickPoint.lean ====
/- One point of the kernel's grid: what a query block leaves in the three gradients. -/
module

public import proofs.«01_k».proof.Proof.StickLoop
public import proofs.«01_k».proof.Proof.StickDiag
public import proofs.«01_k».proof.Proof.Gen.StickIdeal.Frame

@[expose] public section

set_option maxRecDepth 16384

noncomputable section

namespace Cert.StickIdeal.Point

open Cert.StickIdeal Cert.StickIdeal.Gen Cert.StickReal Cert.StickIdeal.Step Cert.StickIdeal.Trip Cert.StickIdeal.Diag Idealize.ShloMosaic

variable (c : Dev nD) (i : grid0.Coords)
  (arg2 : Memref sig .tc .vmem S512x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S512x128 .bf16) (harg5 : arg5.IsWhole)
  (arg6 : Memref sig .tc .vmem S1x512x1 .f32) (harg6 : arg6.IsWhole) (arg7 : Memref sig .tc .vmem S512x128 .f32) (harg7 : arg7.IsWhole)
  (arg8 : Memref sig .tc .vmem S4096x128 .f32) (harg8 : arg8.IsWhole) (arg9 : Memref sig .tc .vmem S4096x128 .f32) (harg9 : arg9.IsWhole)
  (arg10 : Memref sig .tc .vmem S512x1 .f32) (harg10 : arg10.IsWhole) (arg11 : Memref sig .tc .vmem S512x1 .f32) (harg11 : arg11.IsWhole)
    (x0 : Vec Ideal S512x128 .bf16) (x1 : Vec Ideal S4096x128 .bf16) (x2 : Vec Ideal S4096x128 .bf16) (x3 : Vec Ideal S512x128 .bf16) (x4 : Vec Ideal S1x512x1 .f32) (xo6 : Vec Ideal S4096x128 .f32) (xo7 : Vec Ideal S4096x128 .f32)

/-- The two loops' trip counts, as the run writes them. -/
theorem trips1' : Scf.trips 0#32 (Scalar.addi 0#32 (Scalar.muli (Scalar.divsi (Scalar.subi (Scalar.muli (BitVec.ofNat 32 (i 1).val) 1#32) 0#32) 1#32) 1#32)) 1#32 = (i 1).val := trips1 i

/-- The number of blocks the loop before the masked block goes through. -/
theorem trips2' : Scf.trips (Scalar.addi 0#32 (Scalar.muli (Scalar.divsi (Scalar.subi (Scalar.muli (BitVec.ofNat 32 (i 1).val) 1#32) 0#32) 1#32) 1#32))
      (Scalar.addi 0#32 (Scalar.subi (Scalar.muli (BitVec.ofNat 32 (i 1).val) 1#32) 0#32)) 1#32 = 0 := trips2 i

/-- A read of a fully written buffer does not depend on what it held. -/
theorem cov {S : Shape} {sig : RefSig} {κ : Kind} {sp : Space} (v : View sig κ sp S .f32) (L : List (View.Piece (Elt Ideal) S .f32)) (r : Rect S) :
    v.readCov L r.toLoadRect = View.ld (v.read (Elt Ideal) (v.writes (Elt Ideal) v.junk L)) r := rfl

/-- The run of the loop before the masked block has no recorded variants. -/
theorem none2 (f7 f8 f9 f10 f11 v31 X2 X3 X4 X5 X6) : pb_k0_t2 (F := Ideal) Variants.none c none i arg2 harg2 arg3 harg3 arg4 harg4 arg5 harg5 arg6 harg6 arg7 harg7 arg8 harg8 arg9 harg9 arg10 harg10 arg11 harg11 v31 X2 X3 X4 X5 X6 f7 f8 f9 f10 f11 0 = ([], [], [], [], []) := rfl

/-- The words of the block's row numbers. -/
theorem word0 : ∀ n : Fin 8, Scalar.addi (Scalar.muli (BitVec.ofNat 32 n.val) 512#32) 0#32 = BitVec.ofNat 32 (512 * n.val) := by decide +kernel

/-- A query block's first row, as a word. -/
theorem word : ∀ n : Fin 8, Scalar.muli (BitVec.ofNat 32 n.val) 512#32 = BitVec.ofNat 32 (512 * n.val) := by decide +kernel

/-- The masked block's second half's first row, as a word. -/
theorem word1 : ∀ n : Fin 8, Scalar.addi (Scalar.muli (BitVec.ofNat 32 n.val) 512#32) 256#32 = BitVec.ofNat 32 (512 * n.val + 256) := by decide +kernel

/-- The masked block's first half's offset. -/
theorem off0 : ∀ n : Fin 8, BitVec.toNat (Scalar.indexCast (Scalar.addi (Scalar.muli (BitVec.ofNat 32 n.val) 512#32) 0#32)) = 512 * n.val := by decide +kernel

/-- The masked block's second half's offset. -/
theorem off2 : ∀ n : Fin 8, BitVec.toNat (Scalar.indexCast (Scalar.addi (Scalar.muli (BitVec.ofNat 32 n.val) 512#32) 256#32)) = 512 * n.val + 256 := by decide +kernel

/-- The zeros the body starts from. -/
theorem zero61 {f : Fin 512 → Fin 128 → ℝ} (hf : ∀ r d, f r d = 0) : Is2 (a := 512) (b := 128) (k0_pay61 (F := Ideal)) f := fun r d => by
  pointwise [k0_pay61]
  rw [hf]; rfl

/-- The cleared running log sum. -/
theorem zero62 {f : Fin 512 → ℝ} (hf : ∀ r, f r = 0) : Is1 (a := 512) (k0_pay62 (F := Ideal)) f := fun r d => by
  pointwise [k0_pay62]
  rw [hf]; rfl

/-- The cleared running dependence. -/
theorem zero63 {f : Fin 512 → ℝ} (hf : ∀ r, f r = 0) : Is1 (a := 512) (k0_pay63 (F := Ideal)) f := fun r d => by
  pointwise [k0_pay63]
  rw [hf]; rfl

/-- Rows counted from two offsets. -/
theorem shift2 {n b R C : ℕ} {x : (⟨2, ![n, b]⟩ : Shape).Idx → EReal} {f : ℕ → Fin b → ℝ} (h : Is2 x fun r => f (R + (C + r))) : Is2 x fun r => f (R + C + r) :=
  fun r l => (h r l).trans (by dsimp only; rw [Nat.add_assoc])

/-- A shifted array's rows, counted from the shift. -/
theorem unshift2 {n b R C : ℕ} {x : (⟨2, ![n, b]⟩ : Shape).Idx → EReal} {f : ℕ → Fin b → ℝ} (h : Is2 x fun r => f (R + C + r)) : Is2 x fun r => f (R + (C + r)) :=
  fun r l => (h r l).trans (by dsimp only; rw [Nat.add_assoc])

/-- A shifted column's rows, counted together. -/
theorem shift1 {n R C : ℕ} {x : (⟨2, ![n, 1]⟩ : Shape).Idx → EReal} {f : ℕ → ℝ} (h : Is1 x fun r => f (R + (C + r))) : Is1 x fun r => f (R + C + r) :=
  fun r l => (h r l).trans (by dsimp only; rw [Nat.add_assoc])

/-- A shifted column's rows, counted together, with its outer axes. -/
theorem shift3 {n R C : ℕ} {x : (⟨3, ![1, n, 1]⟩ : Shape).Idx → EReal} {f : ℕ → ℝ} (h : ∀ a (r : Fin n) b, x (ix3 a r b) = ((f (R + (C + r)) : ℝ) : EReal))
    (a : Fin 1) (r : Fin n) (b : Fin 1) : x (ix3 a r b) = ((f (R + C + r) : ℝ) : EReal) :=
  (h a r b).trans (by rw [Nat.add_assoc])

/-- The two halves of a query block's gradient are whole. -/
theorem rows_dq (h : Head) (R : ℕ) (r : Fin 512) (d : Fin 128) (hR : R + 512 ≤ 4096) :
    (if 256 ≤ (r : ℕ) ∧ (r : ℕ) < 256 + 256 then h.dq (R + 256 + 256) (R + r) d else h.dq (R + 256) (R + r) d) = h.dq 4096 (R + r) d := by
  by_cases c : 256 ≤ (r : ℕ) ∧ (r : ℕ) < 256 + 256
  · rw [if_pos c, h.dq_stop (K := 4096) (by omega) (by omega)]
  · rw [if_neg c, h.dq_stop (K := 4096) (by omega) (by omega)]

/-- Keys' or values' sums after the first half of the diagonal block. -/
abbrev half (f : ℕ → ℕ → Fin 128 → ℝ) (R j : ℕ) (d : Fin 128) : ℝ :=
  if R ≤ j ∧ j < R + 256 then f (R + 512) j d else f (if j < R then R + 512 else R) j d

/-- The rows of the diagonal block have no query counted yet. -/
theorem rows_first {n : ℕ} {x : (⟨2, ![n, 128]⟩ : Shape).Idx → EReal} {f : ℕ → ℕ → Fin 128 → ℝ} {R : ℕ}
    (h : Is2 x fun j => f (if R + (j : ℕ) < R then R + 512 else R) (R + j)) : Is2 x fun j => f R (R + j) :=
  fun j d => (h j d).trans (by dsimp only; rw [if_neg (show ¬ R + (j : ℕ) < R by omega)])

/-- Nor have the second half's, even with the first half's queries. -/
theorem rows_second {n : ℕ} {x : (⟨2, ![n, 128]⟩ : Shape).Idx → EReal} {f : ℕ → ℕ → Fin 128 → ℝ} {R : ℕ}
    (hf : ∀ {R j : ℕ}, R ≤ j + 1 → ∀ d, f R j d = 0) (h : Is2 x fun j => half f R (R + 256 + j)) : Is2 x fun j => f (R + 256) (R + 256 + j) :=
  fun j d => (h j d).trans (by
    dsimp only [half]
    rw [if_neg (show ¬ (R ≤ R + 256 + (j : ℕ) ∧ R + 256 + (j : ℕ) < R + 256) by omega), if_neg (show ¬ R + 256 + (j : ℕ) < R by omega), hf (by omega), hf (by omega)])

/-- The whole query block counted, at every key. -/
theorem rows_all {f : ℕ → ℕ → Fin 128 → ℝ} (hf : ∀ {R j : ℕ}, R ≤ j + 1 → ∀ d, f R j d = 0) (R j : ℕ) (d : Fin 128) :
    (if R + 256 ≤ j ∧ j < R + 256 + 256 then f (R + 256 + 256) j d else half f R j d) = f (R + 512) j d := by
  dsimp only [half]
  by_cases a : R + 256 ≤ j ∧ j < R + 256 + 256
  · rw [if_pos a]
  · rw [if_neg a]
    by_cases b : R ≤ j ∧ j < R + 256
    · rw [if_pos b]
    · rw [if_neg b]
      by_cases c : j < R
      · rw [if_pos c]
      · rw [if_neg c, hf (by omega), hf (by omega)]

/-- What a query block before the last finds in the blocks it reads. -/
structure In (h : Head) (R : ℕ) (x0 : Vec Ideal S512x128 .bf16) (x1 x2 : Vec Ideal S4096x128 .bf16) (x3 : Vec Ideal S512x128 .bf16) (x4 : Vec Ideal S1x512x1 .f32) : Prop where
  q : Is2 x0 fun r => h.q (R + r)
  k : Is2 x1 fun j => h.k j
  v : Is2 x2 fun j => h.v j
  g : Is2 x3 fun r => h.g (R + r)
  t : ∀ a r b, x4 (ix3 a r b) = ((h.skip (R + r) 4096 : ℝ) : EReal)

/-- The five blocks a point reads hold its head's arrays. -/
theorem In.reads {h : Head} {R : ℕ} {x0 x1 x2 x3 x4} (H : In h R x0 x1 x2 x3 x4) :
    Reads h R (harg2.unread x0) (harg3.unread x1) (harg4.unread x2) (harg5.unread x3) (harg6.unread x4) where
  q := (harg2.read_unread x0).symm ▸ H.q
  k := (harg3.read_unread x1).symm ▸ H.k
  v := (harg4.read_unread x2).symm ▸ H.v
  g := (harg5.read_unread x3).symm ▸ H.g
  t := (harg6.read_unread x4).symm ▸ H.t

/-- The state the loop starts from. -/
theorem start {h : Head} {R : ℕ} {f8 : BufTy.Contents (Elt Ideal) arg8.view.ty} {f9 : BufTy.Contents (Elt Ideal) arg9.view.ty}
    (h8 : Is2 (arg8.view.read (Elt Ideal) f8) fun j => h.dk R j) (h9 : Is2 (arg9.view.read (Elt Ideal) f9) fun j => h.dv R j) :
    State h R 0 (arg7.view.writes (Elt Ideal) arg7.view.junk [⟨Rect.unit ![0, 0] ![512, 128] inb_S512x128_S512x128_0_0, k0_pay61 (F := Ideal)⟩]) f8 f9
      (arg10.view.writes (Elt Ideal) arg10.view.junk [⟨Rect.unit ![0, 0] ![512, 1] inb_S512x1_S512x1_0_0, k0_pay62 (F := Ideal)⟩])
      (arg11.view.writes (Elt Ideal) arg11.view.junk [⟨Rect.unit ![0, 0] ![512, 1] inb_S512x1_S512x1_0_0, k0_pay63 (F := Ideal)⟩]) where
  dq := (put_all _ _ _).symm ▸ zero61 fun _ _ => rfl
  dk := h8
  dv := h9
  pk := (put_all _ _ _).symm ▸ zero62 fun _ => rfl
  pd := (put_all _ _ _).symm ▸ zero63 fun _ => rfl

/-- The cleared keys' gradient. -/
theorem zero57 {f : Fin 4096 → Fin 128 → ℝ} (hf : ∀ r d, f r d = 0) : Is2 (a := 4096) (b := 128) (k0_pay57 (F := Ideal)) f := fun r d => by
  pointwise [k0_pay57]
  rw [hf]; rfl

/-- The cleared values' gradient. -/
theorem zero58 {f : Fin 4096 → Fin 128 → ℝ} (hf : ∀ r d, f r d = 0) : Is2 (a := 4096) (b := 128) (k0_pay58 (F := Ideal)) f := fun r d => by
  pointwise [k0_pay58]
  rw [hf]; rfl

set_option maxHeartbeats 1000000 in
/-- A query block after the first: its own gradient, and the keys' and values' with its rows added. -/
theorem outs_B {h : Head} (hc0) (H : In h (512 * (i 1).val) x0 x1 x2 x3 x4) (h6 : Is2 xo6 fun j => h.dk (512 * (i 1).val) j) (h7 : Is2 xo7 fun j => h.dv (512 * (i 1).val) j) :
    Is2 (out0_B_5 c i arg2 harg2 arg3 harg3 arg4 harg4 arg5 harg5 arg6 harg6 arg7 harg7 arg8 harg8 arg9 harg9 arg10 harg10 arg11 harg11 hc0 x0 x1 x2 x3 x4 xo6 xo7) (fun r => h.dq 4096 (512 * (i 1).val + r))
    ∧ Is2 (out0_B_6 c i arg2 harg2 arg3 harg3 arg4 harg4 arg5 harg5 arg6 harg6 arg7 harg7 arg8 harg8 arg9 harg9 arg10 harg10 arg11 harg11 hc0 x0 x1 x2 x3 x4 xo6 xo7) (fun j => h.dk (512 * (i 1).val + 512) j)
    ∧ Is2 (out0_B_7 c i arg2 harg2 arg3 harg3 arg4 harg4 arg5 harg5 arg6 harg6 arg7 harg7 arg8 harg8 arg9 harg9 arg10 harg10 arg11 harg11 hc0 x0 x1 x2 x3 x4 xo6 xo7) (fun j => h.dv (512 * (i 1).val + 512) j) := by
  have hX := H.reads arg2 harg2 arg3 harg3 arg4 harg4 arg5 harg5 arg6 harg6
  have hi : (i 1).val < 8 := (i 1).isLt
  have hS := loop Variants.none c none i arg2 harg2 arg3 harg3 arg4 harg4 arg5 harg5 arg6 harg6 arg7 harg7 arg8 harg8 arg9 harg9 arg10 harg10 arg11 harg11 _ _ _ _ _ _ _ _ _ _ hX
    (start arg7 arg8 arg9 arg10 arg11 ((harg8.read_unread xo6).symm ▸ h6) ((harg9.read_unread xo7).symm ▸ h7)) _ le_rfl
  dsimp only at hS
  simp only [← View.writes_append] at hS
  unfold out0_B_5 out0_B_6 out0_B_7 kernelRun0_B
  dsimp only
  sl_unfold_words
  simp only [View.readAt_eq_ld, View.ld_unit_zero (S := S512x128) hz, View.ld_unit_zero (S := S512x1) hz, View.ld_unit_zero (S := S1x512x1) hz3, trips1', trips2', cov]
  rw [none2]
  simp only [List.nil_append]
  have o0 := off0 (i 1)
  have o1 := off2 (i 1)
  have m0 := mask0 _ (by omega) (word (i 1)) (word0 (i 1))
  have m1 : Lower (k0_pay85 (Scalar.muli (BitVec.ofNat 32 (i 1).val) 512#32)) := mask1 _ (by omega) (word (i 1))
  have hk := fun inb => ld_rows_b (n := 256) (C := 512 * (i 1).val) o0 inb hX.k
  have hv := fun inb => ld_rows_b (n := 256) (C := 512 * (i 1).val) o0 inb hX.v
  have hW := fun inb => pay77 m0 (hk inb) hX.q hS.pk hX.t
  have hD := fun inb inb' => pay80 m0 (pay69 (hk inb) hX.q) (hW inb) hX.g (hv inb') hS.pd
  have hq1 := fun inb => shift2 (f := h.q) (ld_rows_b (n := 256) (C := 256) (f := fun r => h.q (512 * (i 1).val + r)) rfl inb hX.q)
  have hg1 := fun inb => shift2 (f := h.g) (ld_rows_b (n := 256) (C := 256) (f := fun r => h.g (512 * (i 1).val + r)) rfl inb hX.g)
  have ht1 := fun inb => shift3 (f := fun r => h.skip r 4096) (ld_rows_3 (n := 256) (C := 256) (f := fun r => h.skip (512 * (i 1).val + r) 4096) rfl inb hX.t)
  have hk1 := fun inb => ld_rows_b (n := 256) (C := 512 * (i 1).val + 256) o1 inb hX.k
  have hv1 := fun inb => ld_rows_b (n := 256) (C := 512 * (i 1).val + 256) o1 inb hX.v
  have hp1 := fun inb inb' inbA (L : List (View.Piece (Elt Ideal) S512x1 .f32)) => shift1 (f := fun r => h.skip r (512 * (i 1).val + 256)) (ld_rows_1 (n := 256) (C := 256) (f := fun r => h.skip (512 * (i 1).val + r) (512 * (i 1).val + 256)) rfl inb'
    (put_all1 (v := arg10.view) (f := arg10.view.junk) (L := L) inbA <| pay76 m0 (hk inb) hX.q hS.pk))
  have he1 := fun inb inb' inbA inbB (L : List (View.Piece (Elt Ideal) S512x1 .f32)) => shift1 (f := fun r => h.dep r (512 * (i 1).val + 256)) (ld_rows_1 (n := 256) (C := 256) (f := fun r => h.dep (512 * (i 1).val + r) (512 * (i 1).val + 256)) rfl inb'
    (put_all1 (v := arg11.view) (f := arg11.view.junk) (L := L) inbA <| pay79 (hW inb) hX.g (hv inbB) hS.pd))
  have hW1 := fun a b c d e f g => pay92 m1 (hk1 a) (hq1 b) (hp1 c d e f) (ht1 g)
  have hD1 := fun a b c d e f g a' b' c' d' e' f' g' => pay95 m1 (pay88 (hk1 a) (hq1 b)) (hW1 a b c d e f g) (hg1 a') (hv1 b') (he1 c' d' e' f' g')
  have hx0 := fun a b => pay82 (hD a b) (hk a) hS.dq
  have hdk := fun a b c d => put_rows (C := 512 * (i 1).val) (G := h.dk (512 * (i 1).val + 512)) (F := fun j => h.dk (if j < 512 * (i 1).val then 512 * (i 1).val + 512 else 512 * (i 1).val) j) o0 a
    (pay84 (hD b c) hX.q (rows_first (f := h.dk) (ld_rows_f (f := fun j => h.dk (if j < 512 * (i 1).val then 512 * (i 1).val + 512 else 512 * (i 1).val) j) o0 d hS.dk))) hS.dk
  have hdv := fun a b d => put_rows (C := 512 * (i 1).val) (G := h.dv (512 * (i 1).val + 512)) (F := fun j => h.dv (if j < 512 * (i 1).val then 512 * (i 1).val + 512 else 512 * (i 1).val) j) o0 a
    (pay83 (hW b) hX.g (rows_first (f := h.dv) (ld_rows_f (f := fun j => h.dv (if j < 512 * (i 1).val then 512 * (i 1).val + 512 else 512 * (i 1).val) j) o0 d hS.dv))) hS.dv
  refine ⟨?_, ?_, ?_⟩
  · refine fun r l => (put_rows (C := 256) (G := fun r d => h.dq (512 * (i 1).val + 256 + 256) (512 * (i 1).val + r) d) (F := fun r d => h.dq (512 * (i 1).val + 256) (512 * (i 1).val + r) d) rfl _ ?_ ?_ r l).trans ?_
    · refine unshift2 (f := h.dq (512 * (i 1).val + 256 + 256)) (pay96 (hD1 _ _ _ _ _ _ _ _ _ _ _ _ _ _) (hk1 _) (shift2 (f := h.dq (512 * (i 1).val + 256)) (ld_rows_f (n := 256) (C := 256) (f := fun r => h.dq (512 * (i 1).val + 256) (512 * (i 1).val + r)) rfl _ ?_)))
      exact put_all2 _ (hx0 _ _)
    · exact put_all2 _ (hx0 _ _)
    · refine congrArg _ (rows_dq h (512 * (i 1).val) r l (by omega))
  · refine fun r l => (put_rows (C := 512 * (i 1).val + 256) (G := h.dk (512 * (i 1).val + 256 + 256)) (F := fun j => half h.dk (512 * (i 1).val) j) o1 _ ?_ (hdk _ _ _ _) r l).trans
      (congrArg _ (rows_all h.dk_zero _ _ _))
    exact pay2 (hD1 _ _ _ _ _ _ _ _ _ _ _ _ _ _) (hq1 _) (rows_second h.dk_zero (ld_rows_f (f := fun j => half h.dk (512 * (i 1).val) j) o1 _ (hdk _ _ _ _)))
  · refine fun r l => (put_rows (C := 512 * (i 1).val + 256) (G := h.dv (512 * (i 1).val + 256 + 256)) (F := fun j => half h.dv (512 * (i 1).val) j) o1 _ ?_ (hdv _ _ _) r l).trans
      (congrArg _ (rows_all h.dv_zero _ _ _))
    exact pay1 (hW1 _ _ _ _ _ _ _) (hg1 _) (rows_second h.dv_zero (ld_rows_f (f := fun j => half h.dv (512 * (i 1).val) j) o1 _ (hdv _ _ _)))

set_option maxHeartbeats 1000000 in
/-- The first query block: the same, from zero. -/
theorem outs_A {h : Head} (hc0) (h0 : (i 1).val = 0) (H : In h (512 * (i 1).val) x0 x1 x2 x3 x4) :
    Is2 (out0_A_5 c i arg2 harg2 arg3 harg3 arg4 harg4 arg5 harg5 arg6 harg6 arg7 harg7 arg8 harg8 arg9 harg9 arg10 harg10 arg11 harg11 hc0 x0 x1 x2 x3 x4) (fun r => h.dq 4096 (512 * (i 1).val + r))
    ∧ Is2 (out0_A_6 c i arg2 harg2 arg3 harg3 arg4 harg4 arg5 harg5 arg6 harg6 arg7 harg7 arg8 harg8 arg9 harg9 arg10 harg10 arg11 harg11 hc0 x0 x1 x2 x3 x4) (fun j => h.dk (512 * (i 1).val + 512) j)
    ∧ Is2 (out0_A_7 c i arg2 harg2 arg3 harg3 arg4 harg4 arg5 harg5 arg6 harg6 arg7 harg7 arg8 harg8 arg9 harg9 arg10 harg10 arg11 harg11 hc0 x0 x1 x2 x3 x4) (fun j => h.dv (512 * (i 1).val + 512) j) := by
  have hX := H.reads arg2 harg2 arg3 harg3 arg4 harg4 arg5 harg5 arg6 harg6
  have hi : (i 1).val < 8 := (i 1).isLt
  have hS := loop Variants.none c none i arg2 harg2 arg3 harg3 arg4 harg4 arg5 harg5 arg6 harg6 arg7 harg7 arg8 harg8 arg9 harg9 arg10 harg10 arg11 harg11 _ _ _ _ _ _ _ _ _ _ hX
    (start arg7 arg8 arg9 arg10 arg11 (put_all2 (v := arg8.view) (f := arg8.view.junk) (L := []) inb_S4096x128_S4096x128_0_0 (zero57 fun j d => h.dk_zero (by omega) d)) (put_all2 (v := arg9.view) (f := arg9.view.junk) (L := []) inb_S4096x128_S4096x128_0_0 (zero58 fun j d => h.dv_zero (by omega) d))) _ le_rfl
  dsimp only at hS
  simp only [← View.writes_append] at hS
  rw [show out0_A_6 c i arg2 harg2 arg3 harg3 arg4 harg4 arg5 harg5 arg6 harg6 arg7 harg7 arg8 harg8 arg9 harg9 arg10 harg10 arg11 harg11 hc0 x0 x1 x2 x3 x4 = _ from (View.read_writes_junk_eq_canon VO0_6 _).trans (View.read_writes_junk_eq_canon arg8.view _).symm,
    show out0_A_7 c i arg2 harg2 arg3 harg3 arg4 harg4 arg5 harg5 arg6 harg6 arg7 harg7 arg8 harg8 arg9 harg9 arg10 harg10 arg11 harg11 hc0 x0 x1 x2 x3 x4 = _ from (View.read_writes_junk_eq_canon VO0_7 _).trans (View.read_writes_junk_eq_canon arg9.view _).symm]
  unfold out0_A_5 kernelRun0_A
  dsimp only
  sl_unfold_words
  simp only [View.readAt_eq_ld, View.ld_unit_zero (S := S512x128) hz, View.ld_unit_zero (S := S512x1) hz, View.ld_unit_zero (S := S1x512x1) hz3, trips1', trips2', cov]
  rw [none2]
  simp only [List.nil_append]
  have o0 := off0 (i 1)
  have o1 := off2 (i 1)
  have m0 := mask0 _ (by omega) (word (i 1)) (word0 (i 1))
  have m1 : Lower (k0_pay85 (Scalar.muli (BitVec.ofNat 32 (i 1).val) 512#32)) := mask1 _ (by omega) (word (i 1))
  have hk := fun inb => ld_rows_b (n := 256) (C := 512 * (i 1).val) o0 inb hX.k
  have hv := fun inb => ld_rows_b (n := 256) (C := 512 * (i 1).val) o0 inb hX.v
  have hW := fun inb => pay77 m0 (hk inb) hX.q hS.pk hX.t
  have hD := fun inb inb' => pay80 m0 (pay69 (hk inb) hX.q) (hW inb) hX.g (hv inb') hS.pd
  have hq1 := fun inb => shift2 (f := h.q) (ld_rows_b (n := 256) (C := 256) (f := fun r => h.q (512 * (i 1).val + r)) rfl inb hX.q)
  have hg1 := fun inb => shift2 (f := h.g) (ld_rows_b (n := 256) (C := 256) (f := fun r => h.g (512 * (i 1).val + r)) rfl inb hX.g)
  have ht1 := fun inb => shift3 (f := fun r => h.skip r 4096) (ld_rows_3 (n := 256) (C := 256) (f := fun r => h.skip (512 * (i 1).val + r) 4096) rfl inb hX.t)
  have hk1 := fun inb => ld_rows_b (n := 256) (C := 512 * (i 1).val + 256) o1 inb hX.k
  have hv1 := fun inb => ld_rows_b (n := 256) (C := 512 * (i 1).val + 256) o1 inb hX.v
  have hp1 := fun inb inb' inbA (L : List (View.Piece (Elt Ideal) S512x1 .f32)) => shift1 (f := fun r => h.skip r (512 * (i 1).val + 256)) (ld_rows_1 (n := 256) (C := 256) (f := fun r => h.skip (512 * (i 1).val + r) (512 * (i 1).val + 256)) rfl inb'
    (put_all1 (v := arg10.view) (f := arg10.view.junk) (L := L) inbA <| pay76 m0 (hk inb) hX.q hS.pk))
  have he1 := fun inb inb' inbA inbB (L : List (View.Piece (Elt Ideal) S512x1 .f32)) => shift1 (f := fun r => h.dep r (512 * (i 1).val + 256)) (ld_rows_1 (n := 256) (C := 256) (f := fun r => h.dep (512 * (i 1).val + r) (512 * (i 1).val + 256)) rfl inb'
    (put_all1 (v := arg11.view) (f := arg11.view.junk) (L := L) inbA <| pay79 (hW inb) hX.g (hv inbB) hS.pd))
  have hW1 := fun a b c d e f g => pay92 m1 (hk1 a) (hq1 b) (hp1 c d e f) (ht1 g)
  have hD1 := fun a b c d e f g a' b' c' d' e' f' g' => pay95 m1 (pay88 (hk1 a) (hq1 b)) (hW1 a b c d e f g) (hg1 a') (hv1 b') (he1 c' d' e' f' g')
  have hx0 := fun a b => pay82 (hD a b) (hk a) hS.dq
  have hdk := fun a b c d => put_rows (C := 512 * (i 1).val) (G := h.dk (512 * (i 1).val + 512)) (F := fun j => h.dk (if j < 512 * (i 1).val then 512 * (i 1).val + 512 else 512 * (i 1).val) j) o0 a
    (pay84 (hD b c) hX.q (rows_first (f := h.dk) (ld_rows_f (f := fun j => h.dk (if j < 512 * (i 1).val then 512 * (i 1).val + 512 else 512 * (i 1).val) j) o0 d hS.dk))) hS.dk
  have hdv := fun a b d => put_rows (C := 512 * (i 1).val) (G := h.dv (512 * (i 1).val + 512)) (F := fun j => h.dv (if j < 512 * (i 1).val then 512 * (i 1).val + 512 else 512 * (i 1).val) j) o0 a
    (pay83 (hW b) hX.g (rows_first (f := h.dv) (ld_rows_f (f := fun j => h.dv (if j < 512 * (i 1).val then 512 * (i 1).val + 512 else 512 * (i 1).val) j) o0 d hS.dv))) hS.dv
  refine ⟨?_, ?_, ?_⟩
  · refine fun r l => (put_rows (C := 256) (G := fun r d => h.dq (512 * (i 1).val + 256 + 256) (512 * (i 1).val + r) d) (F := fun r d => h.dq (512 * (i 1).val + 256) (512 * (i 1).val + r) d) rfl _ ?_ ?_ r l).trans ?_
    · refine unshift2 (f := h.dq (512 * (i 1).val + 256 + 256)) (pay96 (hD1 _ _ _ _ _ _ _ _ _ _ _ _ _ _) (hk1 _) (shift2 (f := h.dq (512 * (i 1).val + 256)) (ld_rows_f (n := 256) (C := 256) (f := fun r => h.dq (512 * (i 1).val + 256) (512 * (i 1).val + r)) rfl _ ?_)))
      exact put_all2 _ (hx0 _ _)
    · exact put_all2 _ (hx0 _ _)
    · refine congrArg _ (rows_dq h (512 * (i 1).val) r l (by omega))
  · refine fun r l => (put_rows (C := 512 * (i 1).val + 256) (G := h.dk (512 * (i 1).val + 256 + 256)) (F := fun j => half h.dk (512 * (i 1).val) j) o1 _ ?_ (hdk _ _ _ _) r l).trans
      (congrArg _ (rows_all h.dk_zero _ _ _))
    exact pay2 (hD1 _ _ _ _ _ _ _ _ _ _ _ _ _ _) (hq1 _) (rows_second h.dk_zero (ld_rows_f (f := fun j => half h.dk (512 * (i 1).val) j) o1 _ (hdk _ _ _ _)))
  · refine fun r l => (put_rows (C := 512 * (i 1).val + 256) (G := h.dv (512 * (i 1).val + 256 + 256)) (F := fun j => half h.dv (512 * (i 1).val) j) o1 _ ?_ (hdv _ _ _) r l).trans
      (congrArg _ (rows_all h.dv_zero _ _ _))
    exact pay1 (hW1 _ _ _ _ _ _ _) (hg1 _) (rows_second h.dv_zero (ld_rows_f (f := fun j => half h.dv (512 * (i 1).val) j) o1 _ (hdv _ _ _)))

end Cert.StickIdeal.Point
-- ==== Proof.StickHost.lean ====
/- What the kernel's region finds: the host's casts of the arguments and each row's total. -/
module

public import proofs.«01_k».proof.Proof.Gen.StickIdeal.Value
public import proofs.«01_k».proof.Proof.StickModel
public import Idealize.ShloMosaic.Lib.StableHlo.RunRead
public import Idealize.ShloMosaic.Lib.Pointwise
public import Idealize.ShloMosaic.Lib.WordCmp

@[expose] public section

set_option maxRecDepth 16384

noncomputable section

namespace Cert.StickIdeal.Host

open Cert.StickIdeal Cert.StickIdeal.Gen Cert.StickReal Idealize.ShloMosaic Idealize.ShloMosaic.TcCoe

variable (m : (ℓ : Loc nD τ sig) → Buf (Elt Ideal) ℓ) (c : Dev nD)

/-- The contents of a buffer the host lines before the region write. -/
abbrev Z := FVec Ideal S1x8x4096x4096 .f32

/-- The host's log of the logistic function. -/
def logSig (x : Z) : Z :=
  have n : Z := Host.negf x
  have o : Z := broadcastInDim S1x8x4096x4096 ![] bcast_S_S1x8x4096x4096 (constant (F := Ideal) S_ .f32 0x00000000#32)
  have d : Z := subf n o
  Host.negf (select (cmpf .une d d) (addf n o) (addf (maximumf n o) (Host.log1p (Host.exp (Host.negf (Host.absf d))))) : Z)

/-- The host's negated scores. -/
theorem v16 : (V m c main_v16 : Z) = (Host.negf (V m c main_v9 : Z) : Z) := by
  simp only [V, List.flatten_cons, List.flatten_nil, List.append_nil, List.cons_append, List.nil_append, hostOps0, hostOps0_1, hostOps0_2, hostOps0_3, hostOps0_4]
  after_reads_simp

/-- The host's logs of what each key leaves, before the mask. -/
theorem v17 : (V m c main_v17 : Z) = logSig (V m c main_v16 : Z) := by
  unfold logSig
  simp only [V, List.flatten_cons, List.flatten_nil, List.append_nil, List.cons_append, List.nil_append, hostOps0, hostOps0_1, hostOps0_2, hostOps0_3, hostOps0_4]
  after_reads_simp
  rfl

/-- The scaled scores of every head. -/
def score (x : FVec Ideal S4096x3072 .f32) : Z :=
  have q : FVec Ideal S1x8x4096x128 .f32 := transpose S1x8x4096x128 [0, 2, 1, 3]
    (shapeCast S1x4096x8x128 (extractStridedSlice S4096x1024 ![0, 0] x slices_S4096x3072_S4096x1024_0_0) shapeCasts_S4096x1024_S1x4096x8x128) transposes_S1x4096x8x128_S1x8x4096x128_0_2_1_3
  have k : FVec Ideal S1x8x4096x128 .f32 := transpose S1x8x4096x128 [0, 2, 1, 3]
    (shapeCast S1x4096x8x128 (extractStridedSlice S4096x1024 ![0, 1024] x slices_S4096x3072_S4096x1024_0_1024) shapeCasts_S4096x1024_S1x4096x8x128) transposes_S1x4096x8x128_S1x8x4096x128_0_2_1_3
  mulf (Host.dotGeneral dot_S1x8x4096x128_S1x8x4096x128_S1x8x4096x4096_3_3_2_2_01_01 none q k : Z)
    (broadcastInDim S1x8x4096x4096 ![] bcast_S_S1x8x4096x4096 (constant (F := Ideal) S_ .f32 0x3DB504F3#32) : Z)

/-- The host's scaled scores. -/
theorem v9 : (V m c main_v9 : Z) = score (m ((c : Thread nD τ).loc main_arg0)) := by
  unfold score
  simp only [V, List.flatten_cons, List.flatten_nil, List.append_nil, List.cons_append, List.nil_append, hostOps0, hostOps0_1, hostOps0_2, hostOps0_3, hostOps0_4]
  after_reads_simp
  rfl

/-- Which keys a query sees: those before it. -/
def mask : IVec S1x8x4096x4096 1 :=
  broadcastInDim S1x8x4096x4096 ![2, 3] bcast_S4096x4096_S1x8x4096x4096_2_3
    (cmpi .slt (broadcastInDim S4096x4096 ![0, 1] bcast_S1x4096_S4096x4096_0_1 (broadcastInDim S1x4096 ![1] bcast_S4096_S1x4096_1 (iotaInDim S4096 32 0)))
      (broadcastInDim S4096x4096 ![0, 1] bcast_S4096x1_S4096x4096_0_1 (broadcastInDim S4096x1 ![0] bcast_S4096_S4096x1_0 (iotaInDim S4096 32 0))))

/-- Each row's total of the logs of what its keys leave. -/
def total (z : Z) : FVec Ideal S8x4096x1 .f32 :=
  shapeCast S8x4096x1 (Host.reduceAdd (select mask z (broadcastInDim S1x8x4096x4096 ![] bcast_S_S1x8x4096x4096 (constant (F := Ideal) S_ .f32 0x00000000#32)) : Z)
    (constant (F := Ideal) S_ .f32 0x00000000#32) reducesTo_S1x8x4096x4096_S1x8x4096_d3 h_S_) shapeCasts_S1x8x4096_S8x4096x1

/-- The host's row totals. -/
theorem v20 : (V m c main_v20 : FVec Ideal S8x4096x1 .f32) = total (V m c main_v17 : Z) := by
  unfold total mask
  simp only [V, List.flatten_cons, List.flatten_nil, List.append_nil, List.cons_append, List.nil_append, hostOps0, hostOps0_1, hostOps0_2, hostOps0_3, hostOps0_4]
  after_reads_simp
  rfl

/-- The packed projections, cast to bf16. -/
theorem v21 : (V m c main_v21 : FVec Ideal S4096x3072 .bf16) = (truncf .bf16 (m ((c : Thread nD τ).loc main_arg0)) bitsLt_bf16_f32 : FVec Ideal S4096x3072 .bf16) := by
  simp only [V, List.flatten_cons, List.flatten_nil, List.append_nil, List.cons_append, List.nil_append, hostOps0, hostOps0_1, hostOps0_2, hostOps0_3, hostOps0_4]
  after_reads_simp

/-- The cotangent, cast to bf16. -/
theorem v22 : (V m c main_v22 : FVec Ideal S4096x1024 .bf16) = (truncf .bf16 (m ((c : Thread nD τ).loc main_arg1)) bitsLt_bf16_f32 : FVec Ideal S4096x1024 .bf16) := by
  simp only [V, List.flatten_cons, List.flatten_nil, List.append_nil, List.cons_append, List.nil_append, hostOps0, hostOps0_1, hostOps0_2, hostOps0_3, hostOps0_4]
  after_reads_simp

/-- The host's log of the logistic function of a negated real score. -/
theorem logSig_at {z : Z} {i : S1x8x4096x4096.Idx} {a : ℝ} (h : z i = ((a : ℝ) : EReal)) : logSig (Host.negf z : Z) i = ((lsig a - a : ℝ) : EReal) := by
  pointwise [logSig]
  rw [neg_neg, h, if_neg (not_not_intro rfl), softplus_coe, ← EReal.coe_neg, neg_neg, lsig_neg]

variable {X G : ℕ → ℕ → ℝ}

/-- A scaled score, as a real. -/
theorem score_at {x : FVec Ideal S4096x3072 .f32} (hx : Is2 x fun r l => X r l) (h : Fin 8) (r j : Fin 4096) :
    score x (ix4 0 h r j) = (((headOf X G h).z r j : ℝ) : EReal) := by
  pointwise [score]
  rw [scale_word]
  simp only [hx _ _, ← EReal.coe_mul, ← coe_sum]
  rfl

/-- Each row's total is the sum of what all its keys leave. -/
theorem total_at {x : FVec Ideal S4096x3072 .f32} (hx : Is2 x fun r l => X r l) (h : Fin 8) (r : Fin 4096) (b : Fin 1) :
    total (logSig (Host.negf (score x) : Z)) (ix3 h r b) = (((headOf X G h).skip r 4096 : ℝ) : EReal) := by
  pointwise [total, mask]
  have e : ∀ j : Fin 4096, Scalar.select (IntOp.cmpi CmpIPredicate.slt (BitVec.ofNat 32 (j : ℕ)) (BitVec.ofNat 32 (r : ℕ))) (logSig (Host.negf (score x) : Z) (ix4 0 h r j)) 0
      = (((headOf X G h).lk r j : ℝ) : EReal) := fun j => by
    rw [logSig_at (score_at (G := G) hx h r j)]
    rw [WordCmp.cmpi_slt_ofNat (by omega) (by omega), sel_coe]
    rfl
  rw [Finset.sum_congr rfl fun j _ => e j, ← coe_sum, Head.skip, Fin.sum_univ_eq_sum_range (fun j => (headOf X G h).lk r j)]

end Cert.StickIdeal.Host
-- ==== Proof.StickValue.lean ====
/- The kernel's three gradients after the run, over the reals. -/
module

public import proofs.«01_k».proof.Proof.StickPoint
public import proofs.«01_k».proof.Proof.StickHost

@[expose] public section

set_option maxRecDepth 16384

noncomputable section

namespace Cert.StickIdeal.Final

open Cert.StickIdeal Cert.StickIdeal.Gen Cert.StickReal Cert.StickIdeal.Point Idealize.ShloMosaic Idealize.ShloMosaic.TcCoe Idealize.SL.Sem
open Idealize.ShloMosaic.Pipeline (Dat)

variable (m : (ℓ : Loc nD τ sig) → Buf (Elt Ideal) ℓ) (c : Dev nD) {X G : ℕ → ℕ → ℝ}

/-- Both arguments are finite, with these entries. -/
structure Args (X G : ℕ → ℕ → ℝ) : Prop where
  x : Is2 (m ((c : Thread nD τ).loc main_arg0) : S4096x3072.Idx → EReal) fun r l => X r l
  g : Is2 (m ((c : Thread nD τ).loc main_arg1) : S4096x1024.Idx → EReal) fun r l => G r l

/-- A point's head and its query block. -/
theorem coords : ∀ t : Fin grid0.N, ((grid0.coords t) 0).val = t.val / 8 ∧ ((grid0.coords t) 1).val = t.val % 8 := by decide +kernel

/-- Which block of window 0 a point holds. -/
theorem index0 : ∀ t : Fin grid0.N, win0_0.index t 0 = t.val % 8 ∧ win0_0.index t 1 = t.val / 8 := by decide +kernel
/-- Which block of window 1 a point holds. -/
theorem index1 : ∀ t : Fin grid0.N, win0_1.index t 0 = 0 ∧ win0_1.index t 1 = 8 + t.val / 8 := by decide +kernel
/-- Which block of window 2 a point holds. -/
theorem index2 : ∀ t : Fin grid0.N, win0_2.index t 0 = 0 ∧ win0_2.index t 1 = 16 + t.val / 8 := by decide +kernel
/-- Which block of window 3 a point holds. -/
theorem index3 : ∀ t : Fin grid0.N, win0_3.index t 0 = t.val % 8 ∧ win0_3.index t 1 = t.val / 8 := by decide +kernel
/-- Which block of window 4 a point holds. -/
theorem index4 : ∀ t : Fin grid0.N, win0_4.index t 0 = t.val / 8 ∧ win0_4.index t 1 = t.val % 8 ∧ win0_4.index t 2 = 0 := by decide +kernel
/-- Which block of window 5 a point holds. -/
theorem index5 : ∀ t : Fin grid0.N, win0_5.index t 0 = t.val % 8 ∧ win0_5.index t 1 = t.val / 8 := by decide +kernel
/-- Which block of window 6 a point holds. -/
theorem index6 : ∀ t : Fin grid0.N, win0_6.index t 0 = 0 ∧ win0_6.index t 1 = t.val / 8 := by decide +kernel
/-- Which block of window 7 a point holds. -/
theorem index7 : ∀ t : Fin grid0.N, win0_7.index t 0 = 0 ∧ win0_7.index t 1 = t.val / 8 := by decide +kernel

variable {m c}

/-- The packed projections, as the region finds them. -/
theorem packed (H : Args m c X G) (r : Fin 4096) (l : Fin 3072) : (V m c main_v21 : FVec Ideal S4096x3072 .bf16) (ix2 r l) = ((X r l : ℝ) : EReal) := by
  rw [Host.v21]; exact H.x r l

/-- The cotangent the region finds. -/
theorem cotangent (H : Args m c X G) (r : Fin 4096) (l : Fin 1024) : (V m c main_v22 : FVec Ideal S4096x1024 .bf16) (ix2 r l) = ((G r l : ℝ) : EReal) := by
  rw [Host.v22]; exact H.g r l

/-- The row totals the region finds. -/
theorem totals (H : Args m c X G) (h : Fin 8) (r : Fin 4096) (b : Fin 1) :
    (V m c main_v20 : FVec Ideal S8x4096x1 .f32) (ix3 h r b) = (((headOf X G h).skip r 4096 : ℝ) : EReal) := by
  rw [Host.v20, Host.v17, Host.v16, Host.v9]; exact Host.total_at H.x h r b

variable (m c) in
/-- The blocks a point reads, in their arrays. -/
theorem block0 (t : Fin cfg0.N) (r : Fin 512) (l : Fin 128) (h₀ : 512 * (t.val % 8) + r.val < 4096) (h₁ : t.val / 8 * 128 + l.val < 3072) :
    (iblk m c 0 t : FVec Ideal S512x128 .bf16) (ix2 r l) = (V m c main_v21 : FVec Ideal S4096x3072 .bf16) (ix2 ⟨512 * (t.val % 8) + r.val, h₀⟩ ⟨t.val / 8 * 128 + l.val, h₁⟩) := by
  unfold iblk
  rw [View.read_apply]
  refine congrArg (V m c main_v21) (funext fun a => Fin.ext ?_)
  match a with
  | ⟨0, _⟩ => show win0_0.index t 0 * 512 + 1 * r.val = 512 * (t.val % 8) + r.val; rw [(index0 t).1]; omega
  | ⟨1, _⟩ => show win0_0.index t 1 * 128 + 1 * l.val = t.val / 8 * 128 + l.val; rw [(index0 t).2]; omega

variable (m c) in
/-- The block of window 1 a point reads, in its array's rows and columns. -/
theorem block1 (t : Fin cfg0.N) (r : Fin 4096) (l : Fin 128) (h₀ : r.val < 4096) (h₁ : 1024 + (t.val / 8 * 128 + l.val) < 3072) :
    (iblk m c 1 t : FVec Ideal S4096x128 .bf16) (ix2 r l) = (V m c main_v21 : FVec Ideal S4096x3072 .bf16) (ix2 ⟨r.val, h₀⟩ ⟨1024 + (t.val / 8 * 128 + l.val), h₁⟩) := by
  unfold iblk
  rw [View.read_apply]
  refine congrArg (V m c main_v21) (funext fun a => Fin.ext ?_)
  match a with
  | ⟨0, _⟩ => show win0_1.index t 0 * 4096 + 1 * r.val = r.val; rw [(index1 t).1]; omega
  | ⟨1, _⟩ => show win0_1.index t 1 * 128 + 1 * l.val = 1024 + (t.val / 8 * 128 + l.val); rw [(index1 t).2]; omega

variable (m c) in
/-- The block of window 2 a point reads, in its array's rows and columns. -/
theorem block2 (t : Fin cfg0.N) (r : Fin 4096) (l : Fin 128) (h₀ : r.val < 4096) (h₁ : 2048 + (t.val / 8 * 128 + l.val) < 3072) :
    (iblk m c 2 t : FVec Ideal S4096x128 .bf16) (ix2 r l) = (V m c main_v21 : FVec Ideal S4096x3072 .bf16) (ix2 ⟨r.val, h₀⟩ ⟨2048 + (t.val / 8 * 128 + l.val), h₁⟩) := by
  unfold iblk
  rw [View.read_apply]
  refine congrArg (V m c main_v21) (funext fun a => Fin.ext ?_)
  match a with
  | ⟨0, _⟩ => show win0_2.index t 0 * 4096 + 1 * r.val = r.val; rw [(index2 t).1]; omega
  | ⟨1, _⟩ => show win0_2.index t 1 * 128 + 1 * l.val = 2048 + (t.val / 8 * 128 + l.val); rw [(index2 t).2]; omega

variable (m c) in
/-- The block of window 3 a point reads, in its array's rows and columns. -/
theorem block3 (t : Fin cfg0.N) (r : Fin 512) (l : Fin 128) (h₀ : 512 * (t.val % 8) + r.val < 4096) (h₁ : t.val / 8 * 128 + l.val < 1024) :
    (iblk m c 3 t : FVec Ideal S512x128 .bf16) (ix2 r l) = (V m c main_v22 : FVec Ideal S4096x1024 .bf16) (ix2 ⟨512 * (t.val % 8) + r.val, h₀⟩ ⟨t.val / 8 * 128 + l.val, h₁⟩) := by
  unfold iblk
  rw [View.read_apply]
  refine congrArg (V m c main_v22) (funext fun a => Fin.ext ?_)
  match a with
  | ⟨0, _⟩ => show win0_3.index t 0 * 512 + 1 * r.val = 512 * (t.val % 8) + r.val; rw [(index3 t).1]; omega
  | ⟨1, _⟩ => show win0_3.index t 1 * 128 + 1 * l.val = t.val / 8 * 128 + l.val; rw [(index3 t).2]; omega

variable (m c) in
/-- The block of window 4 a point reads, in its array's rows and columns. -/
theorem block4 (t : Fin cfg0.N) (a : Fin 1) (r : Fin 512) (b : Fin 1) (h₀ : t.val / 8 < 8) (h₁ : 512 * (t.val % 8) + r.val < 4096) :
    (iblk m c 4 t : FVec Ideal S1x512x1 .f32) (ix3 a r b) = (V m c main_v20 : FVec Ideal S8x4096x1 .f32) (ix3 ⟨t.val / 8, h₀⟩ ⟨512 * (t.val % 8) + r.val, h₁⟩ 0) := by
  unfold iblk
  rw [View.read_apply]
  refine congrArg (V m c main_v20) (funext fun e => Fin.ext ?_)
  match e with
  | ⟨0, _⟩ => show win0_4.index t 0 * 1 + 1 * a.val = t.val / 8; rw [(index4 t).1]; omega
  | ⟨1, _⟩ => show win0_4.index t 1 * 512 + 1 * r.val = 512 * (t.val % 8) + r.val; rw [(index4 t).2.1]; omega
  | ⟨2, _⟩ => show win0_4.index t 2 * 1 + 1 * b.val = 0; rw [(index4 t).2.2]; omega

/-- What a point reads. -/
theorem inputs (H : Args m c X G) (t : Fin cfg0.N) :
    In (headOf X G (t.val / 8)) (512 * (t.val % 8)) (iblk m c 0 t) (iblk m c 1 t) (iblk m c 2 t) (iblk m c 3 t) (iblk m c 4 t) := by
  have ht : t.val < 64 := by have := t.isLt; have h' : cfg0.N = 64 := N_0; omega
  refine ⟨fun r l => ?_, fun r l => ?_, fun r l => ?_, fun r l => ?_, fun a r b => ?_⟩
  · rw [block0 m c t r l (by omega) (by omega), packed H]; rfl
  · rw [block1 m c t r l (by omega) (by omega), packed H]; dsimp only [headOf]
  · rw [block2 m c t r l (by omega) (by omega), packed H]; dsimp only [headOf]
  · rw [block3 m c t r l (by omega) (by omega), cotangent H]; dsimp only [headOf]
  · rw [block4 m c t a r b (by omega) (by omega), totals H]

/-- What the three outputs hold after a point: its block of `dq`, and `dk` and `dv` over the queries so far of its head. -/
def Holds (X G : ℕ → ℕ → ℝ) (n : ℕ) (o : FVec Ideal S512x128 .f32 × FVec Ideal S4096x128 .f32 × FVec Ideal S4096x128 .f32) : Prop :=
  Is2 o.1 (fun r => (headOf X G (n / 8)).dq 4096 (512 * (n % 8) + r)) ∧
    Is2 o.2.1 (fun j => (headOf X G (n / 8)).dk (512 * (n % 8) + 512) j) ∧
    Is2 o.2.2 (fun j => (headOf X G (n / 8)).dv (512 * (n % 8) + 512) j)

/-- The first query block of a head. -/
theorem holds_first (H : Args m c X G) (t : Fin cfg0.N) (h0 : t.val % 8 = 0) : Holds X G t.val (outsAt0 m c t.val t.isLt) := by
  have h := outs_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (iblk m c 0 t) (iblk m c 1 t) (iblk m c 2 t) (iblk m c 3 t) (iblk m c 4 t) ((hcond0_0 t).mpr h0) ((coords t).2.trans h0) (by rw [(coords t).2]; exact inputs H t)
  rw [(coords t).2] at h
  rw [outsAt0_A m c t h0]
  unfold Holds
  dsimp only
  refine ⟨?_, ?_, ?_⟩
  · convert h.1 using 2
  · exact h.2.1
  · exact h.2.2

/-- Each further one. -/
theorem holds_next (H : Args m c X G) (t : Fin cfg0.N) (h0 : ¬ t.val % 8 = 0) {h'} (h : Holds X G (t.val - 1) (outsAt0 m c (t.val - 1) h')) : Holds X G t.val (outsAt0 m c t.val t.isLt) := by
  obtain ⟨-, h6, h7⟩ := h
  have e : (t.val - 1) / 8 = t.val / 8 := by omega
  have e' : 512 * ((t.val - 1) % 8) + 512 = 512 * (t.val % 8) := by omega
  rw [e, e'] at h6 h7
  have h := outs_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) _ _ _ _ _ _ _ (fun h => h0 ((hcond0_0 t).mp h)) ((coords t).2.symm ▸ inputs H t) (by rw [(coords t).2]; exact h6) (by rw [(coords t).2]; exact h7)
  rw [(coords t).2] at h
  rw [outsAt0_B m c t h0]
  exact h

/-- Every point's outputs. -/
theorem holds (H : Args m c X G) : ∀ (n : ℕ) (hn : n < cfg0.N), Holds X G n (outsAt0 m c n hn)
  | 0, hn => holds_first H ⟨0, hn⟩ rfl
  | n + 1, hn => by
    by_cases h0 : (n + 1) % 8 = 0
    · exact holds_first H ⟨n + 1, hn⟩ h0
    · exact holds_next H ⟨n + 1, hn⟩ h0 (holds H n (Nat.lt_of_succ_lt hn))

/-- The queries' gradient. -/
theorem final_dq (H : Args m c X G) : (dats m 0 c).arrAt 5 cfg0.N = heads X G (fun h r d => h.dq 4096 r d) := by
  have hN : cfg0.N = 64 := N_0
  refine (dats m 0 c).arrAt_eq_of_cover 5 _ (fun t ht => ?_) fun (i : S4096x1024.Idx) => ?_
  · have h64 : t.val < 64 := lt_of_lt_of_eq t.isLt hN
    show (cfg0.win 5).cut (grid0.coords t) ((dats m 0 c).after 5 t) = _
    rw [after0_5]
    funext j
    obtain ⟨r, l, rfl⟩ : ∃ (r : Fin 512) (l : Fin 128), j = ix2 r l := ⟨j 0, j 1, eq_ix2 j⟩
    rw [View.read_apply]
    have e : ((cfg0.win 5).blk t).view.emb (ix2 r l) = (ix2 ⟨512 * (t.val % 8) + r.val, by omega⟩ ⟨t.val / 8 * 128 + l.val, by omega⟩ : S4096x1024.Idx) := by
      funext a
      apply Fin.ext
      match a with
      | ⟨0, _⟩ => show win0_5.index t 0 * 512 + 1 * r.val = 512 * (t.val % 8) + r.val; rw [(index5 t).1]; omega
      | ⟨1, _⟩ => show win0_5.index t 1 * 128 + 1 * l.val = t.val / 8 * 128 + l.val; rw [(index5 t).2]; omega
    rw [e, heads_at]
    have h := (holds H t.val t.isLt).1 r l
    exact h
  · have h0 : (i 0 : Nat) < 4096 := (i 0).isLt
    have h1 : (i 1 : Nat) < 1024 := (i 1).isLt
    obtain ⟨t, ht⟩ : ∃ t : Fin cfg0.N, t.val = (i 1 : Nat) / 128 * 8 + (i 0 : Nat) / 512 := ⟨⟨(i 1 : Nat) / 128 * 8 + (i 0 : Nat) / 512, by omega⟩, rfl⟩
    refine ⟨t, flush0_5 t, ?_⟩
    show i ∈ ((View.whole main_v23_0).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512
                rw [(index5 t).1]; omega
    | ⟨1, _⟩ => show win0_5.index t 1 * 128 ≤ (i 1 : Nat) ∧ (i 1 : Nat) < win0_5.index t 1 * 128 + 128
                rw [(index5 t).2]; omega

/-- The keys' gradient. -/
theorem final_dk (H : Args m c X G) : (dats m 0 c).arrAt 6 cfg0.N = heads X G (fun h r d => h.dk 4096 r d) := by
  have hN : cfg0.N = 64 := N_0
  refine (dats m 0 c).arrAt_eq_of_cover 6 _ (fun t ht => ?_) fun (i : S4096x1024.Idx) => ?_
  · have h64 : t.val < 64 := lt_of_lt_of_eq t.isLt hN
    have h8 := (flush0_6 t).mp ht
    show (cfg0.win 6).cut (grid0.coords t) ((dats m 0 c).after 6 t) = _
    rw [after0_6]
    funext j
    obtain ⟨r, l, rfl⟩ : ∃ (r : Fin 4096) (l : Fin 128), j = ix2 r l := ⟨j 0, j 1, eq_ix2 j⟩
    rw [View.read_apply]
    have e : ((cfg0.win 6).blk t).view.emb (ix2 r l) = (ix2 ⟨r.val, by omega⟩ ⟨t.val / 8 * 128 + l.val, by omega⟩ : S4096x1024.Idx) := by
      funext a
      apply Fin.ext
      match a with
      | ⟨0, _⟩ => show win0_6.index t 0 * 4096 + 1 * r.val = r.val; rw [(index6 t).1]; omega
      | ⟨1, _⟩ => show win0_6.index t 1 * 128 + 1 * l.val = t.val / 8 * 128 + l.val; rw [(index6 t).2]; omega
    rw [e, heads_at]
    have h := (holds H t.val t.isLt).2.1 r l
    rw [h8] at h
    exact h
  · have h0 : (i 0 : Nat) < 4096 := (i 0).isLt
    have h1 : (i 1 : Nat) < 1024 := (i 1).isLt
    obtain ⟨t, ht⟩ : ∃ t : Fin cfg0.N, t.val = (i 1 : Nat) / 128 * 8 + 7 := ⟨⟨(i 1 : Nat) / 128 * 8 + 7, by omega⟩, rfl⟩
    refine ⟨t, (flush0_6 t).mpr (by omega), ?_⟩
    show i ∈ ((View.whole main_v23_1).slice (win0_6.rect t)).set
    rw [View.set_slice_whole, Rect.mem_set_unit]
    intro a
    match a with
    | ⟨0, _⟩ => show win0_6.index t 0 * 4096 ≤ (i 0 : Nat) ∧ (i 0 : Nat) < win0_6.index t 0 * 4096 + 4096
                rw [(index6 t).1]; omega
    | ⟨1, _⟩ => show win0_6.index t 1 * 128 ≤ (i 1 : Nat) ∧ (i 1 : Nat) < win0_6.index t 1 * 128 + 128
                rw [(index6 t).2]; omega

/-- The values' gradient. -/
theorem final_dv (H : Args m c X G) : (dats m 0 c).arrAt 7 cfg0.N = heads X G (fun h r d => h.dv 4096 r d) := by
  have hN : cfg0.N = 64 := N_0
  refine (dats m 0 c).arrAt_eq_of_cover 7 _ (fun t ht => ?_) fun (i : S4096x1024.Idx) => ?_
  · have h64 : t.val < 64 := lt_of_lt_of_eq t.isLt hN
    have h8 := (flush0_7 t).mp ht
    show (cfg0.win 7).cut (grid0.coords t) ((dats m 0 c).after 7 t) = _
    rw [after0_7]
    funext j
    obtain ⟨r, l, rfl⟩ : ∃ (r : Fin 4096) (l : Fin 128), j = ix2 r l := ⟨j 0, j 1, eq_ix2 j⟩
    rw [View.read_apply]
    have e : ((cfg0.win 7).blk t).view.emb (ix2 r l) = (ix2 ⟨r.val, by omega⟩ ⟨t.val / 8 * 128 + l.val, by omega⟩ : S4096x1024.Idx) := by
      funext a
      apply Fin.ext
      match a with
      | ⟨0, _⟩ => show win0_7.index t 0 * 4096 + 1 * r.val = r.val; rw [(index7 t).1]; omega
      | ⟨1, _⟩ => show win0_7.index t 1 * 128 + 1 * l.val = t.val / 8 * 128 + l.val; rw [(index7 t).2]; omega
    rw [e, heads_at]
    have h := (holds H t.val t.isLt).2.2 r l
    rw [h8] at h
    exact h
  · have h0 : (i 0 : Nat) < 4096 := (i 0).isLt
    have h1 : (i 1 : Nat) < 1024 := (i 1).isLt
    obtain ⟨t, ht⟩ : ∃ t : Fin cfg0.N, t.val = (i 1 : Nat) / 128 * 8 + 7 := ⟨⟨(i 1 : Nat) / 128 * 8 + 7, by omega⟩, rfl⟩
    refine ⟨t, (flush0_7 t).mpr (by omega), ?_⟩
    show i ∈ ((View.whole main_v23_2).slice (win0_7.rect t)).set
    rw [View.set_slice_whole, Rect.mem_set_unit]
    intro a
    match a with
    | ⟨0, _⟩ => show win0_7.index t 0 * 4096 ≤ (i 0 : Nat) ∧ (i 0 : Nat) < win0_7.index t 0 * 4096 + 4096
                rw [(index7 t).1]; omega
    | ⟨1, _⟩ => show win0_7.index t 1 * 128 ≤ (i 1 : Nat) ∧ (i 1 : Nat) < win0_7.index t 1 * 128 + 128
                rw [(index7 t).2]; omega

end Cert.StickIdeal.Final
-- ==== Proof.StickSums.lean ====
/- Running sums along the last axis, as a padded window sums them. -/
module

public import proofs.«01_k».proof.Proof.StickModel
public import Idealize.ShloMosaic.Lib.ValueIdx
public import Idealize.ShloMosaic.PureOps

@[expose] public section

noncomputable section

namespace Cert.StickSums

open Cert.StickReal Idealize.ShloMosaic

/-- Adding up a list from a start is the start plus the sum. -/
theorem fold_sum {N : ℕ} (g : Fin N → EReal) (v : EReal) : (List.finRange N).foldl (fun r n => r + g n) v = v + ∑ n, g n := by
  have h : ∀ (l : List (Fin N)) (v : EReal), l.foldl (fun r n => r + g n) v = v + (l.map g).sum := fun l => by
    induction l with
    | nil => intro v; simp
    | cons a l ih => intro v; simp only [List.foldl_cons, List.map_cons, List.sum_cons, ih, add_assoc]
  rw [h, ← List.sum_ofFn, List.ofFn_eq_map]

/-- The window's positions: those of its last axis. -/
def lastAxis (N : ℕ) : (⟨4, ![1, 1, 1, N]⟩ : Shape).Idx ≃ Fin N where
  toFun p := p 3
  invFun n := ix4 0 0 0 n
  left_inv p := funext fun a => match a with
    | ⟨0, _⟩ => (Subsingleton.elim (α := Fin 1) _ _)
    | ⟨1, _⟩ => (Subsingleton.elim (α := Fin 1) _ _)
    | ⟨2, _⟩ => (Subsingleton.elim (α := Fin 1) _ _)
    | ⟨3, _⟩ => rfl
  right_inv n := rfl

variable {H R N : ℕ}

/-- What a window over the whole last axis, padded below by `lo`, sums. -/
theorem window_at {lo hi : ℕ} {u : Shape} (x : FVec Ideal ⟨4, ![1, H, R, N]⟩ .f32) (init : u.Idx → EReal)
    (w : (⟨4, ![1, H, R, N]⟩ : Shape).ReduceWindows ![1, 1, 1, N] ![1, 1, 1, 1] ![0, 0, 0, lo] ![0, 0, 0, hi] ⟨4, ![1, H, R, N]⟩)
    (hu : 0 < u.numel) (hinit : init (Shape.Idx.first hu) = 0) (h : Fin H) (r : Fin R) (j : Fin N) (f : ℕ → ℝ)
    (hx : ∀ j : Fin N, x (ix4 0 h r j) = ((f j : ℝ) : EReal)) :
    Host.reduceWindowAdd (F := Ideal) ![1, 1, 1, N] ![1, 1, 1, 1] ![0, 0, 0, lo] ![0, 0, 0, hi] x init w hu (ix4 0 h r j)
      = ((∑ n ∈ Finset.range N, if lo ≤ j + n ∧ j + n - lo < N then f (j + n - lo) else 0 : ℝ) : EReal) := by
  show Host.reduceWindow (α := EReal) (· + ·) ![1, 1, 1, N] ![1, 1, 1, 1] ![0, 0, 0, lo] ![0, 0, 0, hi] x (fun _ : (⟨0, ![]⟩ : Shape).Idx => init (Shape.Idx.first hu)) w (by decide) (ix4 0 h r j) = _
  unfold Host.reduceWindow
  rw [hinit]
  dsimp only
  rw [fold_sum, zero_add, ← Fin.sum_univ_eq_sum_range (fun n => if lo ≤ j.val + n ∧ j.val + n - lo < N then f (j + n - lo) else 0), coe_sum]
  refine Fintype.sum_equiv ((⟨4, ![1, 1, 1, N]⟩ : Shape).rowMajor.symm.trans (lastAxis N)) _ _ fun n => ?_
  show _ = ((if lo ≤ j.val + ((⟨4, ![1, 1, 1, N]⟩ : Shape).rowMajor.symm n 3).val ∧ j.val + ((⟨4, ![1, 1, 1, N]⟩ : Shape).rowMajor.symm n 3).val - lo < N
    then f (j.val + ((⟨4, ![1, 1, 1, N]⟩ : Shape).rowMajor.symm n 3).val - lo) else 0 : ℝ) : EReal)
  obtain ⟨k, hk⟩ : ∃ k : Fin N, (⟨4, ![1, 1, 1, N]⟩ : Shape).rowMajor.symm n = ix4 0 0 0 k := ⟨lastAxis N _, ((lastAxis N).left_inv _).symm⟩
  have k1 : ((⟨4, ![1, 1, 1, N]⟩ : Shape).rowMajor.symm n 1).val = 0 := by rw [hk]; rfl
  have k2 : ((⟨4, ![1, 1, 1, N]⟩ : Shape).rowMajor.symm n 2).val = 0 := by rw [hk]; rfl
  have k3 : ((⟨4, ![1, 1, 1, N]⟩ : Shape).rowMajor.symm n 3).val = k.val := by rw [hk]; rfl
  have k0 : ((⟨4, ![1, 1, 1, N]⟩ : Shape).rowMajor.symm n 0).val = 0 := by rw [hk]; rfl
  split
  · next hin =>
    have h3 : lo ≤ j.val * 1 + ((⟨4, ![1, 1, 1, N]⟩ : Shape).rowMajor.symm n 3).val ∧ j.val * 1 + ((⟨4, ![1, 1, 1, N]⟩ : Shape).rowMajor.symm n 3).val - lo < N := hin 3
    rw [Nat.mul_one] at h3
    rw [if_pos h3, ← hx ⟨_, h3.2⟩]
    refine congrArg x (funext fun a => Fin.ext ?_)
    match a with
    | ⟨0, _⟩ => exact (show 0 * 1 + ((⟨4, ![1, 1, 1, N]⟩ : Shape).rowMajor.symm n 0).val - 0 = 0 by rw [k0])
    | ⟨1, _⟩ => exact (show h.val * 1 + ((⟨4, ![1, 1, 1, N]⟩ : Shape).rowMajor.symm n 1).val - 0 = h.val by rw [k1]; omega)
    | ⟨2, _⟩ => exact (show r.val * 1 + ((⟨4, ![1, 1, 1, N]⟩ : Shape).rowMajor.symm n 2).val - 0 = r.val by rw [k2]; omega)
    | ⟨3, _⟩ => exact (show j.val * 1 + ((⟨4, ![1, 1, 1, N]⟩ : Shape).rowMajor.symm n 3).val - lo = j.val + ((⟨4, ![1, 1, 1, N]⟩ : Shape).rowMajor.symm n 3).val - lo by rw [Nat.mul_one])
  · next hin =>
    rw [if_neg fun h3 => hin fun a => ?_, EReal.coe_zero]
    match a with
    | ⟨0, _⟩ => exact ⟨Nat.zero_le _, (show 0 * 1 + ((⟨4, ![1, 1, 1, N]⟩ : Shape).rowMajor.symm n 0).val - 0 < 1 by rw [k0]; omega)⟩
    | ⟨1, _⟩ => exact ⟨Nat.zero_le _, (show h.val * 1 + ((⟨4, ![1, 1, 1, N]⟩ : Shape).rowMajor.symm n 1).val - 0 < H by rw [k1]; omega)⟩
    | ⟨2, _⟩ => exact ⟨Nat.zero_le _, (show r.val * 1 + ((⟨4, ![1, 1, 1, N]⟩ : Shape).rowMajor.symm n 2).val - 0 < R by rw [k2]; omega)⟩
    | ⟨3, _⟩ => exact (show lo ≤ j.val * 1 + ((⟨4, ![1, 1, 1, N]⟩ : Shape).rowMajor.symm n 3).val ∧ j.val * 1 + ((⟨4, ![1, 1, 1, N]⟩ : Shape).rowMajor.symm n 3).val - lo < N by rw [Nat.mul_one]; exact h3)

/-- Padded above: what comes from the entry on. -/
theorem from_here (f : ℕ → ℝ) {j : ℕ} (hj : j ≤ N) :
    (∑ n ∈ Finset.range N, if 0 ≤ j + n ∧ j + n - 0 < N then f (j + n - 0) else 0) = ∑ n ∈ Finset.range N, f n - ∑ n ∈ Finset.range j, f n := by
  obtain ⟨k, rfl⟩ := Nat.exists_eq_add_of_le hj
  rw [Finset.sum_range_add f j k, add_sub_cancel_left, Nat.add_comm j k, Finset.sum_range_add _ k j]
  rw [Finset.sum_eq_zero (s := Finset.range j) fun n _ => if_neg (by omega), add_zero]
  refine Finset.sum_congr rfl fun n hn => ?_
  have := Finset.mem_range.mp hn
  rw [if_pos (by omega), Nat.sub_zero]

/-- Padded below by one less than the axis: what comes up to the entry. -/
theorem up_to_here (f : ℕ → ℝ) {j : ℕ} (hj : j ≤ N) :
    (∑ n ∈ Finset.range (N + 1), if N ≤ j + n ∧ j + n - N < N + 1 then f (j + n - N) else 0) = ∑ n ∈ Finset.range (j + 1), f n := by
  obtain ⟨k, rfl⟩ := Nat.exists_eq_add_of_le hj
  rw [show j + k + 1 = k + (j + 1) by omega, Finset.sum_range_add _ k (j + 1)]
  rw [Finset.sum_eq_zero (s := Finset.range k) fun n hn => if_neg (by have := Finset.mem_range.mp hn; omega), zero_add]
  refine Finset.sum_congr rfl fun n hn => ?_
  have := Finset.mem_range.mp hn
  rw [if_pos (by omega), show j + (k + n) - (j + k) = n by omega]

end Cert.StickSums
-- ==== Proof.StickRef.lean ====
/- The reference's three gradients, over the reals. -/
module

public import proofs.«01_k».proof.Proof.Gen.StickRefIdeal.Read
public import proofs.«01_k».proof.Proof.StickSums
public import Idealize.ShloMosaic.Lib.Pointwise
public import Idealize.ShloMosaic.Lib.WordCmp

@[expose] public section

set_option maxRecDepth 16384

noncomputable section

namespace Cert.StickRefIdeal.At

open Cert.StickRefIdeal Cert.StickRefIdeal.Gen Cert.StickRefIdeal.Read Cert.StickReal Cert.StickSums Idealize.ShloMosaic Idealize.ShloMosaic.TcCoe Idealize.SL.Sem Idealize.ShloMosaic.StableHlo

variable {X G : ℕ → ℕ → ℝ} {x0 : FVec Ideal S4096x3072 .f32} {x1 : FVec Ideal S4096x1024 .f32}

/-- The heads of the arguments. -/
theorem q_at (hx : Is2 x0 fun r l => X r l) (n : Fin 8) (r : Fin 4096) (d : Fin 128) : val_main_v4 (F := Ideal) x0 (ix4 0 n r d) = (((headOf X G n).q r d : ℝ) : EReal) := by
  pointwise [val_main_v4, val_main_v3, val_main_v0]
  rw [hx]
  rfl

/-- The reference's keys, by head. -/
theorem k_at (hx : Is2 x0 fun r l => X r l) (n : Fin 8) (r : Fin 4096) (d : Fin 128) : val_main_v6 (F := Ideal) x0 (ix4 0 n r d) = (((headOf X G n).k r d : ℝ) : EReal) := by
  pointwise [val_main_v6, val_main_v5, val_main_v1]
  rw [hx]
  dsimp only [headOf]

/-- The reference's values, by head. -/
theorem v_at (hx : Is2 x0 fun r l => X r l) (n : Fin 8) (r : Fin 4096) (d : Fin 128) : val_main_v8 (F := Ideal) x0 (ix4 0 n r d) = (((headOf X G n).v r d : ℝ) : EReal) := by
  pointwise [val_main_v8, val_main_v7, val_main_v2]
  rw [hx]
  dsimp only [headOf]

/-- The reference's cotangent, by head. -/
theorem g_at (hg : Is2 x1 fun r l => G r l) (n : Fin 8) (r : Fin 4096) (d : Fin 128) : val_main_v31 (F := Ideal) x1 (ix4 0 n r d) = (((headOf X G n).g r d : ℝ) : EReal) := by
  pointwise [val_main_v31, val_main_v30]
  rw [hg]
  rfl

variable {h : Head} {n : Fin 8} {r j : Fin 4096}

/-- The scaled scores. -/
theorem z_at (hx : Is2 x0 fun r l => X r l) (n : Fin 8) (r j : Fin 4096) : val_main_v11 (F := Ideal) x0 (ix4 0 n r j) = (((headOf X G n).z r j : ℝ) : EReal) := by
  pointwise [val_main_v11, val_main_v9, val_main_v10, val_main_cst]
  rw [scale_word]
  simp only [q_at (G := G) hx, k_at (G := G) hx, ← EReal.coe_mul, ← coe_sum]
  rfl

/-- The mask. -/
theorem mask_at (n : Fin 8) (r j : Fin 4096) : val_main_v21_1 (F := Ideal) (ix4 0 n r j) = IntOp.cmpi .slt (BitVec.ofNat 32 j) (BitVec.ofNat 32 r) := by
  pointwise [val_main_v21_1, val_main_v17, val_main_v15, val_main_v16, val_main_v13, val_main_v14, val_main_v12]

/-- The word of infinity. -/
theorem inf_word : Ideal.ofBits .f32 0x7F800000#32 = ⊤ := by simp [Ideal.ofBits, Ideal.ieee]

/-- What the first log-sigmoid's softplus reads. -/
theorem arg0_at (hz : val_main_v11 (F := Ideal) x0 (ix4 0 n r j) = ((h.z r j : ℝ) : EReal)) : val_main_call0_v0 (F := Ideal) x0 (ix4 0 n r j) = ((-h.z r j : ℝ) : EReal) := by
  pointwise [val_main_call0_v0]
  rw [hz]
  rfl

/-- Its softplus. -/
theorem soft0_at (hz : val_main_v11 (F := Ideal) x0 (ix4 0 n r j) = ((h.z r j : ℝ) : EReal)) : val_main_call0_v1_0 (F := Ideal) x0 (ix4 0 n r j) = ((-lsig (h.z r j) : ℝ) : EReal) := by
  have ha := arg0_at hz
  pointwise [val_main_call0_v1_0, val_main_call0_call0_v4, val_main_call0_call0_v6, val_main_call0_call0_v11, val_main_call0_call0_v5, val_main_call0_call0_v1, val_main_call0_call0_v10, val_main_call0_call0_v9, val_main_call0_call0_v8, val_main_call0_call0_v7, val_main_call0_call0_v3, val_main_call0_call0_v2, val_main_call0_call0_v0, val_main_call0_call0_cst]
  rw [ha, if_neg (not_not_intro rfl)]
  rw [softplus_coe, neg_neg]

/-- Its derivative. -/
theorem deriv0_at (hz : val_main_v11 (F := Ideal) x0 (ix4 0 n r j) = ((h.z r j : ℝ) : EReal)) : val_main_v18_1 (F := Ideal) x0 (ix4 0 n r j) = ((Real.exp (-h.z r j - (-lsig (h.z r j))) : ℝ) : EReal) := by
  have ha := arg0_at hz
  have hs := soft0_at hz
  pointwise [val_main_v18_1, val_main_call0_call0_v13, val_main_call0_call0_v14, val_main_call0_call0_v15, val_main_call0_call0_v16, val_main_call0_call0_v17, val_main_call0_call0_v18, val_main_call0_call0_v19, val_main_call0_call0_v20, val_main_call0_call0_v21, val_main_call0_call0_cst_0, val_main_call0_call0_cst_1, val_main_call0_call0_cst_2, val_main_call0_call0_cst_3]
  rw [ha, hs, inf_word]
  rw [if_neg (EReal.coe_ne_top _), if_neg (EReal.coe_ne_top _), ← EReal.coe_sub, Ideal.exp_coe]

/-- What the second log-sigmoid's softplus reads. -/
theorem arg1_at (hz : val_main_v11 (F := Ideal) x0 (ix4 0 n r j) = ((h.z r j : ℝ) : EReal)) : val_main_call1_v0 (F := Ideal) x0 (ix4 0 n r j) = ((h.z r j : ℝ) : EReal) := by
  pointwise [val_main_call1_v0, val_main_v19]
  rw [hz, neg_neg]

/-- Its softplus. -/
theorem soft1_at (hz : val_main_v11 (F := Ideal) x0 (ix4 0 n r j) = ((h.z r j : ℝ) : EReal)) : val_main_call1_v1_0 (F := Ideal) x0 (ix4 0 n r j) = ((h.z r j - lsig (h.z r j) : ℝ) : EReal) := by
  have ha := arg1_at hz
  pointwise [val_main_call1_v1_0, val_main_call1_call0_v4, val_main_call1_call0_v6, val_main_call1_call0_v11, val_main_call1_call0_v5, val_main_call1_call0_v1, val_main_call1_call0_v10, val_main_call1_call0_v9, val_main_call1_call0_v8, val_main_call1_call0_v7, val_main_call1_call0_v3, val_main_call1_call0_v2, val_main_call1_call0_v0, val_main_call1_call0_cst]
  rw [ha, if_neg (not_not_intro rfl)]
  rw [softplus_coe, lsig_neg, neg_sub]

/-- Its derivative. -/
theorem deriv1_at (hz : val_main_v11 (F := Ideal) x0 (ix4 0 n r j) = ((h.z r j : ℝ) : EReal)) : val_main_v20_1 (F := Ideal) x0 (ix4 0 n r j) = ((Real.exp (h.z r j - (h.z r j - lsig (h.z r j))) : ℝ) : EReal) := by
  have ha := arg1_at hz
  have hs := soft1_at hz
  pointwise [val_main_v20_1, val_main_call1_call0_v13, val_main_call1_call0_v14, val_main_call1_call0_v15, val_main_call1_call0_v16, val_main_call1_call0_v17, val_main_call1_call0_v18, val_main_call1_call0_v19, val_main_call1_call0_v20, val_main_call1_call0_v21, val_main_call1_call0_cst_0, val_main_call1_call0_cst_1, val_main_call1_call0_cst_2, val_main_call1_call0_cst_3]
  rw [ha, hs, inf_word]
  rw [if_neg (EReal.coe_ne_top _), if_neg (EReal.coe_ne_top _), ← EReal.coe_sub, Ideal.exp_coe]

/-- The zero the reference passes to its masks. -/
theorem zero_word : (id (constant (F := Ideal) S_ .f32 0x00000000#32) ix0 : EReal) = 0 := by
  show (constant (F := Ideal) S_ .f32 0x00000000#32 : FVec Ideal S_ .f32) ix0 = 0
  pointwise []

/-- The log of what a query leaves at a key, masked. -/
theorem lk_at (hx : Is2 x0 fun r l => X r l) (n : Fin 8) (r j : Fin 4096) : val_main_v21_0 (F := Ideal) x0 (ix4 0 n r j) = (((headOf X G n).lk r j : ℝ) : EReal) := by
  have hm := mask_at n r j
  have hs := soft1_at (z_at (G := G) hx n r j)
  pointwise [val_main_v21_0, val_main_v20_0, val_main_call2_v2, val_main_call2_v0, val_main_cst_0]
  rw [hm, hs, ← EReal.coe_neg, neg_sub, WordCmp.cmpi_slt_ofNat (by omega) (by omega), zero_word, sel_coe]
  rfl

/-- Their sums from a key on. -/
theorem from_at (hx : Is2 x0 fun r l => X r l) (n : Fin 8) (r j : Fin 4096) :
    val_main_v22 (F := Ideal) x0 (ix4 0 n r j) = (((headOf X G n).skip r 4096 - (headOf X G n).skip r j : ℝ) : EReal) := by
  unfold val_main_v22
  rw [window_at _ _ _ _ (by pointwise [val_main_call3_v0, val_main_call3_cst]) n r j _ (fun j => lk_at (G := G) hx n r j), from_here _ (by omega)]
  rfl

/-- The unmasked weight. -/
theorem exp_at (hx : Is2 x0 fun r l => X r l) (n : Fin 8) (r j : Fin 4096) :
    val_main_v25 (F := Ideal) x0 (ix4 0 n r j) = ((Real.exp (lsig ((headOf X G n).z r j) + ((headOf X G n).skip r 4096 - (headOf X G n).skip r (j + 1))) : ℝ) : EReal) := by
  have hs := soft0_at (z_at (G := G) hx n r j)
  have hl := lk_at (G := G) hx n r j
  have hf := from_at (G := G) hx n r j
  pointwise [val_main_v25, val_main_v24, val_main_v23, val_main_v18_0]
  rw [hs, hl, hf, ← EReal.coe_neg, neg_neg, ← EReal.coe_sub, ← EReal.coe_add, Ideal.exp_coe]
  refine congrArg (fun a : ℝ => ((Real.exp a : ℝ) : EReal)) ?_
  have e : (headOf X G n).skip r (j + 1) = (headOf X G n).skip r j + (headOf X G n).lk r j := Finset.sum_range_succ _ _
  rw [e]
  ring

/-- The weight. -/
theorem w_at (hx : Is2 x0 fun r l => X r l) (n : Fin 8) (r j : Fin 4096) : val_main_v26_0 (F := Ideal) x0 (ix4 0 n r j) = (((headOf X G n).w r j : ℝ) : EReal) := by
  have hm : val_main_v26_1 (F := Ideal) (ix4 0 n r j) = _ := mask_at n r j
  have he := exp_at (G := G) hx n r j
  pointwise [val_main_v26_0, val_main_call4_v2, val_main_call4_v0, val_main_cst_1]
  rw [hm, he, WordCmp.cmpi_slt_ofNat (by omega) (by omega), zero_word, sel_coe]
  rfl

/-- The gradient with respect to the log of a weight. -/
theorem de_at (hx : Is2 x0 fun r l => X r l) (hg : Is2 x1 fun r l => G r l) (n : Fin 8) (r j : Fin 4096) : val_main_v36 (F := Ideal) x0 x1 (ix4 0 n r j) = (((headOf X G n).de r j : ℝ) : EReal) := by
  have hm : val_main_v26_1 (F := Ideal) (ix4 0 n r j) = _ := mask_at n r j
  have he := exp_at (G := G) hx n r j
  pointwise [val_main_v36, val_main_v35, val_main_v34, val_main_call5_v0, val_main_call5_cst]
  rw [hm, he, WordCmp.cmpi_slt_ofNat (by omega) (by omega)]
  simp only [g_at (X := X) hg, v_at (G := G) hx, ← EReal.coe_mul, ← coe_sum]
  rw [sel_coe]
  refine congrArg _ ?_
  unfold Head.de Head.w
  by_cases c : j.val < r.val
  · rw [if_pos c, if_pos c]
  · rw [if_neg c, if_neg c, mul_zero]

/-- Their sums up to a key. -/
theorem upto_at (hx : Is2 x0 fun r l => X r l) (hg : Is2 x1 fun r l => G r l) (n : Fin 8) (r j : Fin 4096) : val_main_v38 (F := Ideal) x0 x1 (ix4 0 n r j) = (((headOf X G n).dep r (j + 1) : ℝ) : EReal) := by
  unfold val_main_v38
  rw [window_at _ _ _ _ (by pointwise [val_main_call6_v0, val_main_call6_cst]) n r j _ (fun j => de_at hx hg n r j), up_to_here (N := 4095) _ (by omega)]
  rfl

/-- The gradient with respect to a score. -/
theorem dz_at (hx : Is2 x0 fun r l => X r l) (hg : Is2 x1 fun r l => G r l) (n : Fin 8) (r j : Fin 4096) : val_main_v46 (F := Ideal) x0 x1 (ix4 0 n r j) = (((headOf X G n).dz r j : ℝ) : EReal) := by
  have hm := mask_at n r j
  have he := de_at hx hg n r j
  have hu := upto_at hx hg n r j
  have h0 := deriv0_at (z_at (G := G) hx n r j)
  have h1 := deriv1_at (z_at (G := G) hx n r j)
  pointwise [val_main_v46, val_main_v44, val_main_v42, val_main_v43, val_main_v41, val_main_call8_v1, val_main_call8_v0, val_main_v40, val_main_v39, val_main_v37, val_main_call7_v0, val_main_call7_cst,
    val_main_call9_v1, val_main_call9_v0, val_main_v45, val_main_cst_2]
  rw [hm, he, hu, h0, h1, scale_word, WordCmp.cmpi_slt_ofNat (by omega) (by omega)]
  simp only [← EReal.coe_neg, ← EReal.coe_add, sel_coe, ← EReal.coe_mul]
  refine congrArg _ ?_
  have e : (headOf X G n).dep r (j + 1) = (headOf X G n).dep r j + (headOf X G n).de r j := Finset.sum_range_succ _ _
  rw [sub_sub_cancel, neg_sub_neg, e]
  unfold Head.dz
  by_cases c : j.val < r.val
  · rw [if_pos c, if_pos c, ← exp_lsig_sub]
    ring
  · rw [if_neg c, if_neg c, show (headOf X G n).de r j = 0 by rw [Head.de, Head.w_zero _ (by omega), mul_zero]]
    ring

/-- The queries' gradient, one head. -/
theorem dq_at (hx : Is2 x0 fun r l => X r l) (hg : Is2 x1 fun r l => G r l) (n : Fin 8) (r : Fin 4096) (d : Fin 128) : val_main_v48 (F := Ideal) x0 x1 (ix4 0 n r d) = (((headOf X G n).dq 4096 r d : ℝ) : EReal) := by
  pointwise [val_main_v48]
  simp only [dz_at hx hg, k_at (G := G) hx, ← EReal.coe_mul, ← coe_sum]
  rw [Fin.sum_univ_eq_sum_range (fun j => (headOf X G n).dz r j * (headOf X G n).k j d) 4096]
  rfl

/-- The keys' gradient, one head. -/
theorem dk_at (hx : Is2 x0 fun r l => X r l) (hg : Is2 x1 fun r l => G r l) (n : Fin 8) (r : Fin 4096) (d : Fin 128) : val_main_v47 (F := Ideal) x0 x1 (ix4 0 n r d) = (((headOf X G n).dk 4096 r d : ℝ) : EReal) := by
  pointwise [val_main_v47]
  simp only [dz_at hx hg, q_at (G := G) hx, ← EReal.coe_mul, ← coe_sum]
  rw [Fin.sum_univ_eq_sum_range (fun s => (headOf X G n).dz s r * (headOf X G n).q s d) 4096]
  rfl

/-- The values' gradient, one head. -/
theorem dv_at (hx : Is2 x0 fun r l => X r l) (hg : Is2 x1 fun r l => G r l) (n : Fin 8) (r : Fin 4096) (d : Fin 128) : val_main_v33 (F := Ideal) x0 x1 (ix4 0 n r d) = (((headOf X G n).dv 4096 r d : ℝ) : EReal) := by
  pointwise [val_main_v33, val_main_v32]
  simp only [w_at (G := G) hx, g_at (X := X) hg, ← EReal.coe_mul, ← coe_sum]
  rw [Fin.sum_univ_eq_sum_range (fun s => (headOf X G n).g s d * (headOf X G n).w s r) 4096]
  exact congrArg _ (Finset.sum_congr rfl fun s _ => mul_comm _ _)

/-- The reference's gradient of the queries. -/
theorem dq_eq (hx : Is2 x0 fun r l => X r l) (hg : Is2 x1 fun r l => G r l) : val_main_v54 (F := Ideal) x0 x1 = heads X G (fun h r d => h.dq 4096 r d) := by
  funext i
  obtain ⟨r, l, rfl⟩ : ∃ (r : Fin 4096) (l : Fin 1024), i = ix2 r l := ⟨i 0, i 1, eq_ix2 i⟩
  pointwise [val_main_v54, val_main_v53]
  refine (dq_at hx hg _ _ _).trans ?_
  rfl

/-- The reference's gradient of the keys. -/
theorem dk_eq (hx : Is2 x0 fun r l => X r l) (hg : Is2 x1 fun r l => G r l) : val_main_v52 (F := Ideal) x0 x1 = heads X G (fun h r d => h.dk 4096 r d) := by
  funext i
  obtain ⟨r, l, rfl⟩ : ∃ (r : Fin 4096) (l : Fin 1024), i = ix2 r l := ⟨i 0, i 1, eq_ix2 i⟩
  pointwise [val_main_v52, val_main_v51]
  refine (dk_at hx hg _ _ _).trans ?_
  rfl

/-- The reference's gradient of the values. -/
theorem dv_eq (hx : Is2 x0 fun r l => X r l) (hg : Is2 x1 fun r l => G r l) : val_main_v50 (F := Ideal) x0 x1 = heads X G (fun h r d => h.dv 4096 r d) := by
  funext i
  obtain ⟨r, l, rfl⟩ : ∃ (r : Fin 4096) (l : Fin 1024), i = ix2 r l := ⟨i 0, i 1, eq_ix2 i⟩
  pointwise [val_main_v50, val_main_v49]
  refine (dv_at hx hg _ _ _).trans ?_
  rfl

end Cert.StickRefIdeal.At
-- ==== Proof.StickClaim.lean ====
/- The claims about the stick-breaking attention's backward call: the frames, and the value of its three gradients. -/
module

public import proofs.«01_k».proof.Defs
public import proofs.«01_k».proof.Proof.Gen.Stick.Frame
public import proofs.«01_k».proof.Proof.StickValue
public import proofs.«01_k».proof.Proof.StickRef
public import Idealize.ShloMosaic.Lib.Quiescent

@[expose] public section

set_option maxRecDepth 16384

noncomputable section

namespace Cert.StickClaim

open Cert.StickReal Idealize.ShloMosaic Idealize.ShloMosaic.TcCoe Idealize.SL.Sem

/-- The side conditions of the precondition's own operations. -/
theorem pre_facts : Cert.Pre_stick_finite.Facts where
  bcast_S_S4096x3072 := by decide
  bcast_S_S4096x1024 := by decide

/-- An extended real whose absolute value is below the word of infinity is a real. -/
theorem real_of_abs_lt {x : EReal}
    (h : FloatOps.cmpf (F := Ideal) (φ := .f32) .olt (FloatOps.absf (F := Ideal) (φ := .f32) x) (Ideal.ofBits FTy.f32 0x7F800000#32) = 1#1) :
    x = ((x.toReal : ℝ) : EReal) := by
  have inf : Ideal.ofBits FTy.f32 0x7F800000#32 = ⊤ := by simp [Ideal.ofBits, Ideal.ieee]
  rw [inf, Ideal.cmpf_def] at h
  have h' : max x (-x) < ⊤ := by
    by_contra n
    have e : Ideal.cmp .olt (max x (-x)) ⊤ = 0#1 := by simp only [Ideal.cmp]; rw [decide_eq_false n]; rfl
    exact absurd (e.symm.trans h) (by decide)
  have h₁ : x ≠ ⊤ := fun e => by simp [e] at h'
  have h₂ : x ≠ ⊥ := fun e => by simp [e] at h'
  exact (EReal.coe_toReal h₁ h₂).symm

/-- An array's element at a row and a column, as a real. -/
def entry {a b : ℕ} (x : (⟨2, ![a, b]⟩ : Shape).Idx → EReal) (r l : ℕ) : ℝ :=
  if h : r < a ∧ l < b then (x (ix2 ⟨r, h.1⟩ ⟨l, h.2⟩)).toReal else 0

/-- An array each of whose elements is a real is an array of reals. -/
theorem reals {a b : ℕ} {x : (⟨2, ![a, b]⟩ : Shape).Idx → EReal} (h : ∀ i, x i = (((x i).toReal : ℝ) : EReal)) :
    Is2 x fun r l => entry x r l := fun r l => by
  have e : entry x r l = (x (ix2 r l)).toReal := dif_pos ⟨r.isLt, l.isLt⟩
  dsimp only; rw [e]
  exact h _

/-- The arguments the precondition admits are arrays of reals. -/
theorem args (m : (ℓ : Loc Cert.StickIdeal.nD Cert.StickIdeal.τ Cert.StickIdeal.sig) → Buf (Elt Ideal) ℓ) (c : Dev Cert.StickIdeal.nD)
    (h : Cert.Pre_StickIdeal_stick_finite (hPre_stick_finite := pre_facts) m) :
    Cert.StickIdeal.Final.Args m c (entry (a := 4096) (b := 3072) (m ((c : Thread Cert.StickIdeal.nD Cert.StickIdeal.τ).loc Cert.StickIdeal.main_arg0)))
      (entry (a := 4096) (b := 1024) (m ((c : Thread Cert.StickIdeal.nD Cert.StickIdeal.τ).loc Cert.StickIdeal.main_arg1))) :=
  ⟨reals fun i => real_of_abs_lt (congrFun (h c).1 i), reals fun i => real_of_abs_lt (congrFun (h c).2 i)⟩

/-- The kernel's three gradients and the reference's are the same arrays. -/
theorem value : Cert.algebraic_StickIdeal_StickRefIdeal_pre_stick_finite
    (hStickIdeal := Cert.StickIdeal.Gen.facts) (hStickRefIdeal := Cert.StickRefIdeal.Gen.facts) (hPre_stick_finite := pre_facts) := by
  intro m g m' g' hp hm
  have H := fun c => args m c hp
  refine ⟨_, _, _, (θ_run Cert.StickIdeal.defs _ _).mono (fun r h c => ⟨(h c).1.trans (Cert.StickIdeal.Final.final_dq (H c)),
    (h c).2.1.trans (Cert.StickIdeal.Final.final_dk (H c)), (h c).2.2.1.trans (Cert.StickIdeal.Final.final_dv (H c)), (h c).2.2.2⟩) (Cert.StickIdeal.Value.run_blocks m g), ?_⟩
  refine (θ_run Cert.StickRefIdeal.defs _ _).mono (fun r h c => ⟨?_, ?_, ?_, (h c).2.2.2⟩) (Cert.StickRefIdeal.Value.run m' g')
  · refine (h c).1.trans ((Cert.StickRefIdeal.Read.val_main_v54_eq _ _).trans ?_)
    rw [(hm c).1, (hm c).2]
    exact Cert.StickRefIdeal.At.dq_eq (H c).x (H c).g
  · refine (h c).2.1.trans ((Cert.StickRefIdeal.Read.val_main_v52_eq _ _).trans ?_)
    rw [(hm c).1, (hm c).2]
    exact Cert.StickRefIdeal.At.dk_eq (H c).x (H c).g
  · refine (h c).2.2.1.trans ((Cert.StickRefIdeal.Read.val_main_v50_eq _ _).trans ?_)
    rw [(hm c).1, (hm c).2]
    exact Cert.StickRefIdeal.At.dv_eq (H c).x (H c).g

/-- The kernel's frame, on words. -/
theorem frame : Cert.quiescent_Stick (hStick := Cert.Stick.Gen.facts) := fun m ρ _ => Cert.Stick.Gen.frame m ρ

/-- The kernel's frame, over the extended reals. -/
theorem frame_ideal : Cert.quiescent_StickIdeal (hStickIdeal := Cert.StickIdeal.Gen.facts) := fun m ρ _ => Cert.StickIdeal.Gen.frame m ρ

/-- The kernel's frame, under the precondition. -/
theorem frame_ideal_pre : Cert.quiescent_StickIdeal_pre_stick_finite (hStickIdeal := Cert.StickIdeal.Gen.facts) (hPre_stick_finite := pre_facts) :=
  fun m ρ _ => Cert.StickIdeal.Gen.frame m ρ

/-- The reference's frame. -/
theorem frame_ref : Cert.quiescent_StickRefIdeal (hStickRefIdeal := Cert.StickRefIdeal.Gen.facts) := fun m ρ _ =>
  (θ_run Cert.StickRefIdeal.defs _ _).mono (fun r h => ⟨fun c => (h c).2.2.2, sem_eq_zero_of_no_sems (by decide) r.2⟩)
    (Cert.StickRefIdeal.Value.run (F := Ideal) m ρ)

/-- The reference's frame, under the precondition. -/
theorem frame_ref_pre : Cert.quiescent_StickRefIdeal_pre_stick_finite (hStickRefIdeal := Cert.StickRefIdeal.Gen.facts) (hPre_stick_finite := pre_facts) :=
  fun m ρ _ => frame_ref m ρ trivial

end Cert.StickClaim

end
-- ==== Proof.AdaValue.lean ====
/- The conditioning weights' gradient: what one layer's point stores, and the array after the run. -/
module

public import proofs.«01_k».proof.Proof.Gen.AdaIdeal.Frame
public import Idealize.ShloMosaic.Lib.Pipeline.Value
public import Idealize.ShloMosaic.Lib.StableHlo.RunRead
public import Idealize.ShloMosaic.Lib.Pointwise

@[expose] public section

set_option maxRecDepth 16384

noncomputable section

namespace Cert.AdaIdeal.Final

open Cert.AdaIdeal Cert.AdaIdeal.Gen Idealize.ShloMosaic Idealize.ShloMosaic.TcCoe Idealize.SL.Sem
open Idealize.ShloMosaic.Pipeline (Dat)

variable (m : (ℓ : Loc nD τ sig) → Buf (Elt Ideal) ℓ)

/-- The swish function. -/
def swish (x : EReal) : EReal := x * Ideal.logistic x

/-- What a point stores, from the conditioning's columns and the layer's rows of cotangents. -/
theorem point (x : Vec Ideal S1024x8 .f32) (g : Vec Ideal S1x8x768 .f32) (a : Fin 1) (d : Fin 1024) (j : Fin 768) :
    (out0_2 x g : Vec Ideal S1x1024x768 .f32) (ix3 a d j) = ∑ b : Fin 8, swish (x (ix2 d b)) * g (ix3 0 b j) := by
  have h2 : (![0, 0] : Fin 2 → ℕ) = fun _ => 0 := by decide
  have h3 : (![0, 0, 0] : Fin 3 → ℕ) = fun _ => 0 := by decide
  unfold out0_2
  rw [View.canon_unit_zero (S := S1x1024x768) h3]
  simp only [View.ld_unit_zero (S := S1024x8) h2, View.ld_unit_zero (S := S1x8x768) h3]
  pointwise [k0_pay1, k0_pay2, k0_pay3, k0_pay4, k0_pay5, k0_pay6]
  simp only [Fin.sum_univ_eight, swish, zero_sub]
  rfl

/-- Which block each window stages at a point. -/
theorem indexw : ∀ t : Fin grid0.N, (win0_0.index t 0 = 0 ∧ win0_0.index t 1 = 0)
    ∧ (win0_1.index t 0 = t.val ∧ win0_1.index t 1 = 0 ∧ win0_1.index t 2 = 0)
    ∧ (win0_2.index t 0 = t.val ∧ win0_2.index t 1 = 0 ∧ win0_2.index t 2 = 0) := by decide +kernel

/-- The first operand's block: the conditioning, transposed. -/
theorem iblk0_apply (c : Dev nD) (t : Fin cfg0.N) (d : Fin 1024) (b : Fin 8) :
    (iblk m c 0 t : Vec Ideal S1024x8 .f32) (ix2 d b) = (m ((c : Thread nD τ).loc main_arg0) : Vec Ideal S8x1024 .f32) (ix2 b d) := by
  have hV : (V m c main_v0 : Vec Ideal S1024x8 .f32) (ix2 d b) = (m ((c : Thread nD τ).loc main_arg0) : Vec Ideal S8x1024 .f32) (ix2 b d) := by
    simp only [V, hostOps0]
    after_reads_simp
    pointwise []
  rw [← hV]
  unfold iblk
  rw [View.read_apply]
  refine congrArg (V m c main_v0) (funext fun a => Fin.ext ?_)
  match a with
  | ⟨0, _⟩ => show win0_0.index t 0 * 1024 + 1 * d.val = d.val; rw [(indexw t).1.1]; omega
  | ⟨1, _⟩ => show win0_0.index t 1 * 8 + 1 * b.val = b.val; rw [(indexw t).1.2]; omega

/-- The second operand's block: a layer's cotangents. -/
theorem iblk1_apply (c : Dev nD) (t : Fin cfg0.N) (a : Fin 1) (b : Fin 8) (j : Fin 768) :
    (iblk m c 1 t : Vec Ideal S1x8x768 .f32) (ix3 a b j)
      = (m ((c : Thread nD τ).loc main_arg3) : Vec Ideal S4x8x768 .f32) (ix3 ⟨t.val, lt_of_lt_of_eq t.isLt N_0⟩ b j) := by
  unfold iblk
  rw [View.read_apply]
  refine (congrFun (V_main_arg3 m c) _).trans (congrArg (m ((c : Thread nD τ).loc main_arg3)) (funext fun k => Fin.ext ?_))
  match k with
  | ⟨0, _⟩ => show win0_1.index t 0 * 1 + 1 * a.val = t.val; rw [(indexw t).2.1.1]; omega
  | ⟨1, _⟩ => show win0_1.index t 1 * 8 + 1 * b.val = b.val; rw [(indexw t).2.1.2.1]; omega
  | ⟨2, _⟩ => show win0_1.index t 2 * 768 + 1 * j.val = j.val; rw [(indexw t).2.1.2.2]; omega

/-- What the gradient's array holds. -/
def arr (x : S8x1024.Idx → EReal) (g : S4x8x768.Idx → EReal) : S4x1024x768.Idx → EReal := fun i =>
  ∑ b : Fin 8, swish (x (ix2 b (i 1))) * g (ix3 (i 0) b (i 2))

/-- The gradient's array after the run. -/
theorem final (c : Dev nD) : ((dats m 0 c).arrAt 2 cfg0.N : S4x1024x768.Idx → EReal)
    = arr (m ((c : Thread nD τ).loc main_arg0)) (m ((c : Thread nD τ).loc main_arg3)) := by
  have hN : cfg0.N = 4 := N_0
  refine (dats m 0 c).arrAt_eq_of_cover 2 _ (fun t _ => ?_) fun (i : S4x1024x768.Idx) => ?_
  · show (cfg0.win 2).cut (grid0.coords t) ((dats m 0 c).after 2 t) = _
    rw [after0_2]
    funext j
    obtain ⟨a, d, k, rfl⟩ : ∃ (a : Fin 1) (d : Fin 1024) (k : Fin 768), j = ix3 a d k := ⟨j 0, j 1, j 2, eq_ix3 j⟩
    rw [View.read_apply]
    refine (point (iblk m c 0 t) (iblk m c 1 t) a d k).trans ?_
    simp only [iblk0_apply, iblk1_apply]
    have he : ((cfg0.win 2).blk t).view.emb (ix3 a d k) = (ix3 ⟨t.val, lt_of_lt_of_eq t.isLt N_0⟩ d k : S4x1024x768.Idx) := by
      funext q
      apply Fin.ext
      match q with
      | ⟨0, _⟩ => show win0_2.index t 0 * 1 + 1 * a.val = t.val; rw [(indexw t).2.2.1]; omega
      | ⟨1, _⟩ => show win0_2.index t 1 * 1024 + 1 * d.val = _; rw [(indexw t).2.2.2.1]; simp
      | ⟨2, _⟩ => show win0_2.index t 2 * 768 + 1 * k.val = _; rw [(indexw t).2.2.2.2]; simp
    rw [he]
    rfl
  · have h0 : (i 0 : Nat) < 4 := (i 0).isLt
    have h1 : (i 1 : Nat) < 1024 := (i 1).isLt
    have h2 : (i 2 : Nat) < 768 := (i 2).isLt
    obtain ⟨t, ht⟩ : ∃ t : Fin cfg0.N, t.val = (i 0 : Nat) := ⟨⟨(i 0 : Nat), by omega⟩, rfl⟩
    refine ⟨t, flush0_2 t, ?_⟩
    show i ∈ ((View.whole main_v1).slice (win0_2.rect t)).set
    rw [View.set_slice_whole, Rect.mem_set_unit]
    intro a
    match a with
    | ⟨0, _⟩ => show win0_2.index t 0 * 1 ≤ (i 0 : Nat) ∧ (i 0 : Nat) < win0_2.index t 0 * 1 + 1
                rw [(indexw t).2.2.1, ht]; omega
    | ⟨1, _⟩ => show win0_2.index t 1 * 1024 ≤ (i 1 : Nat) ∧ (i 1 : Nat) < win0_2.index t 1 * 1024 + 1024
                rw [(indexw t).2.2.2.1]; omega
    | ⟨2, _⟩ => show win0_2.index t 2 * 768 ≤ (i 2 : Nat) ∧ (i 2 : Nat) < win0_2.index t 2 * 768 + 768
                rw [(indexw t).2.2.2.2]; omega

/-- The run: the gradient's array, and every argument kept. -/
theorem run (ρ : Dev nD → PrngReg) : θ_run defs (onTc (τ := τ) (main (F := Ideal))) ⟨m, fun _ => 0, ρ⟩ (fun r => ∀ c : Dev nD,
      r.2.mem ((c.tc : Thread nD τ).loc main_v1) = arr (m ((c : Thread nD τ).loc main_arg0)) (m ((c : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h.1 c).trans (final m c), h.2 c⟩)
    (θ_run_and ((θ_run defs _ _).mono (fun r h c => (h c).1 2) (run_main m ρ)) (unchanged m ρ))

end Cert.AdaIdeal.Final
end
-- ==== Proof.AdaRef.lean ====
module

public import proofs.«01_k».proof.Proof.Gen.AdaRefIdeal.Read
public import proofs.«01_k».proof.Proof.Gen.AdaRefIdeal.Run
public import Idealize.ShloMosaic.Lib.Pointwise

@[expose] public section

set_option maxRecDepth 16384
noncomputable section

namespace Cert.AdaRefIdeal.At

open Cert.AdaRefIdeal Cert.AdaRefIdeal.Gen Cert.AdaRefIdeal.Read Idealize.ShloMosaic Idealize.ShloMosaic.TcCoe

/-- The activated conditioning. -/
theorem act (x0 : FVec Ideal S8x1024 .f32) (b : Fin 8) (d : Fin 1024) :
    val_main_v0 (F := Ideal) x0 (ix2 b d) = x0 (ix2 b d) * Ideal.logistic (x0 (ix2 b d)) := by
  pointwise [val_main_v0, val_main_call0_v0, val_main_call0_v1, val_main_call0_v2, val_main_call0_v3, val_main_call0_v4, val_main_call0_v5, val_main_call0_cst, val_main_call0_cst_0]
  rfl

/-- The gradient at an index: a layer's sum over the batch. -/
theorem at_ix (x0 : FVec Ideal S8x1024 .f32) (x3 : FVec Ideal S4x8x768 .f32) (l : Fin 4) (d : Fin 1024) (j : Fin 768) :
    val_main_v64 (F := Ideal) x0 x3 (ix3 l d j) = ∑ b : Fin 8, (x0 (ix2 b d) * Ideal.logistic (x0 (ix2 b d))) * x3 (ix3 l b j) := by
  have z (i : S_.Idx) : (val_main_cst (F := Ideal) i : EReal) = 0 ∧ (val_main_cst_0 (F := Ideal) i : EReal) = 0
      ∧ (val_main_cst_1 (F := Ideal) i : EReal) = 0 ∧ (val_main_cst_2 (F := Ideal) i : EReal) = 0 := by
    rw [Subsingleton.elim i ix0]
    refine ⟨?_, ?_, ?_, ?_⟩ <;> pointwise [val_main_cst, val_main_cst_0, val_main_cst_1, val_main_cst_2]
  have hs (x g : EReal) : g * (x * Ideal.logistic x) = x * Ideal.logistic x * g := mul_comm _ _
  fin_cases l <;>
  pointwise [val_main_v64,val_main_v63,val_main_v62,val_main_v61,val_main_v60,val_main_v59,val_main_v58,val_main_v57,val_main_v56,val_main_v55,
    val_main_v54,val_main_v53,val_main_v52,val_main_v51,val_main_v50,val_main_v49,val_main_v48,val_main_v47,val_main_v46,
    val_main_v45,val_main_v44,val_main_v43,val_main_v42,val_main_v41,val_main_v40,val_main_v39,val_main_v38] <;>
  simp only [(z _).1, (z _).2.1, (z _).2.2.1, (z _).2.2.2, zero_add, add_zero, act, hs] <;> rfl
end Cert.AdaRefIdeal.At
end
-- ==== Proof.AdaClaim.lean ====
/- The claims about the conditioning weights' backward call: the two frames of the kernel, the reference's, and the value. -/
module

public import proofs.«01_k».proof.Defs
public import proofs.«01_k».proof.Proof.Gen.Ada.Frame
public import proofs.«01_k».proof.Proof.AdaValue
public import proofs.«01_k».proof.Proof.AdaRef
public import Idealize.ShloMosaic.Lib.Quiescent

@[expose] public section

noncomputable section

namespace Cert.AdaClaim

open Idealize.ShloMosaic Idealize.SL.Sem

/-- The kernel's result and the reference's are the same array. -/
theorem value : Cert.algebraic_AdaIdeal_AdaRefIdeal
    (hAdaIdeal := Cert.AdaIdeal.Gen.facts) (hAdaRefIdeal := Cert.AdaRefIdeal.Gen.facts) := by
  intro m g m' g' _ hm
  refine ⟨_, Cert.AdaIdeal.Final.run m g, ?_⟩
  refine (θ_run Cert.AdaRefIdeal.defs _ _).mono (fun r h c => ⟨?_, (h c).2⟩) (Cert.AdaRefIdeal.Value.run m' g')
  refine (h c).1.trans ?_
  rw [(hm c).1, (hm c).2.2.2]
  refine (Cert.AdaRefIdeal.Read.val_main_v64_eq _ _).trans (funext fun i => ?_)
  rw [eq_ix3 i]
  exact Cert.AdaRefIdeal.At.at_ix _ _ _ _ _

/-- The kernel's frame, on words. -/
theorem frame : Cert.quiescent_Ada (hAda := Cert.Ada.Gen.facts) := fun m ρ _ => Cert.Ada.Gen.frame m ρ

/-- The kernel's frame, over the extended reals. -/
theorem frame_ideal : Cert.quiescent_AdaIdeal (hAdaIdeal := Cert.AdaIdeal.Gen.facts) := fun m ρ _ => Cert.AdaIdeal.Gen.frame m ρ

/-- The reference's frame. -/
theorem frame_ref : Cert.quiescent_AdaRefIdeal (hAdaRefIdeal := Cert.AdaRefIdeal.Gen.facts) := fun m ρ _ =>
  (θ_run Cert.AdaRefIdeal.defs _ _).mono (fun r h => ⟨fun c => (h c).2, sem_eq_zero_of_no_sems (by decide) r.2⟩)
    (Cert.AdaRefIdeal.Value.run (F := Ideal) m ρ)

end Cert.AdaClaim

end
-- ==== Proof.GateBlocks.lean ====
/- The odd layers' output gate: what one point leaves in its three output blocks. -/
module

public import proofs.«01_k».proof.Proof.Gen.GateIdeal.Value
public import Idealize.ShloMosaic.Lib.VecWindow
public import Idealize.ShloMosaic.Lib.Pointwise

@[expose] public section

set_option maxRecDepth 16384

noncomputable section

namespace Cert.GateIdeal.Blocks

open Cert.GateIdeal Cert.GateIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem hz2 : (![0, 0] : Fin 2 → Nat) = fun _ => 0 := by decide
theorem hz4 : (![0, 0, 0, 0] : Fin 4 → Nat) = fun _ => 0 := by decide

/-- The gate's row of a block of modulation rows. -/
def row2 (x : Vec F S8x1024 .f32) : Vec F S1x1024 .f32 := fun i => x (ix2 2 (i 1))

/-- A load of the third row alone. -/
theorem ld_row2 (x : Vec F S8x1024 .f32) (inb : ∀ a, (![2, 0] : Fin 2 → Nat) a + (![1, 1024] : Fin 2 → Nat) a ≤ S8x1024.size a) :
    View.ld x (Rect.unit (s := S8x1024) ![2, 0] ![1, 1024] inb) = row2 x := by
  funext i
  refine congrArg x (funext fun a => Fin.ext ?_)
  have h0 : (i 0).val < 1 := (i 0).isLt
  match a with
  | ⟨0, _⟩ => show 2 + 1 * (i 0).val = 2; omega
  | ⟨1, _⟩ => show 0 + 1 * (i 1).val = (i 1).val; omega

/-- A load of the third row after a store of the whole block. -/
theorem cov_row2 {sig : RefSig} {κ : Kind} {sp : Space} (v : View sig κ sp S8x1024 .f32) (x : Vec F S8x1024 .f32)
    (inb : ∀ a, (![2, 0] : Fin 2 → Nat) a + (![1, 1024] : Fin 2 → Nat) a ≤ S8x1024.size a)
    (inb' : ∀ a, (![0, 0] : Fin 2 → Nat) a + (![8, 1024] : Fin 2 → Nat) a ≤ S8x1024.size a) :
    v.readCov [(⟨Rect.unit (s := S8x1024) ![0, 0] ![8, 1024] inb', x⟩ : View.Piece (Elt F) S8x1024 .f32)]
      (Rect.unit (s := S8x1024) ![2, 0] ![1, 1024] inb).toLoadRect = row2 x := by
  unfold View.readCov
  rw [View.readAt_eq_ld, ld_row2]
  exact congrArg row2 (View.read_writes_full v v.junk (s := S8x1024) inb' x [])

section
variable (c : Dev nD) (i : grid0.Coords) (a1 : Memref sig .tc .vmem S256x1024 .f32) (h1 : a1.IsWhole)
    (a2 : Memref sig .tc .vmem S256x1024 .f32) (h2 : a2.IsWhole) (a3 : Memref sig .tc .vmem S8x1024 .f32) (h3 : a3.IsWhole)
    (a4 : Memref sig .tc .vmem S8x1x128x1024 .bf16) (h4 : a4.IsWhole) (a5 : Memref sig .tc .vmem S256x1024 .bf16) (h5 : a5.IsWhole)
    (a6 : Memref sig .tc .vmem S256x1024 .bf16) (h6 : a6.IsWhole) (a7 : Memref sig .tc .vmem S8x1024 .f32) (h7 : a7.IsWhole)
    (x0 : Vec F S256x1024 .f32) (x1 : Vec F S256x1024 .f32) (x2 : Vec F S8x1024 .f32) (x3 : Vec F S8x1x128x1024 .bf16)

theorem do_A (hc : cond0_0 i) : out0_A_4 c i a1 h1 a2 h2 a3 h3 a4 h4 a5 h5 a6 h6 a7 h7 hc x0 x1 x2 x3 = k0_pay3 x0 (row2 x2) x3 := by
  unfold out0_A_4 kernelRun0_A
  dsimp only
  sl_unfold_words
  rw [View.read_writes_full]
  simp only [View.readAt_eq_ld, h1.read_unread, h2.read_unread, h3.read_unread, h4.read_unread, View.ld_unit_zero (S := S256x1024) hz2,
    View.ld_unit_zero (S := S8x1x128x1024) hz4, ld_row2]

theorem do_B (hc : ¬cond0_0 i) (xo : Vec F S8x1024 .f32) :
    out0_B_4 c i a1 h1 a2 h2 a3 h3 a4 h4 a5 h5 a6 h6 a7 h7 hc x0 x1 x2 x3 xo = k0_pay3 x0 (row2 x2) x3 := by
  unfold out0_B_4 kernelRun0_B
  dsimp only
  sl_unfold_words
  rw [View.read_writes_full]
  simp only [View.readAt_eq_ld, h1.read_unread, h2.read_unread, h3.read_unread, h4.read_unread, View.ld_unit_zero (S := S256x1024) hz2,
    View.ld_unit_zero (S := S8x1x128x1024) hz4, ld_row2]

theorem dy_A (hc : cond0_0 i) : out0_A_5 c i a1 h1 a2 h2 a3 h3 a4 h4 a5 h5 a6 h6 a7 h7 hc x0 x1 x2 x3 = k0_pay2 x0 (row2 x2) := by
  unfold out0_A_5 kernelRun0_A
  dsimp only
  sl_unfold_words
  rw [View.read_writes_full]
  simp only [View.readAt_eq_ld, h1.read_unread, h2.read_unread, h3.read_unread, h4.read_unread, View.ld_unit_zero (S := S256x1024) hz2,
    View.ld_unit_zero (S := S8x1x128x1024) hz4, ld_row2]

theorem dy_B (hc : ¬cond0_0 i) (xo : Vec F S8x1024 .f32) :
    out0_B_5 c i a1 h1 a2 h2 a3 h3 a4 h4 a5 h5 a6 h6 a7 h7 hc x0 x1 x2 x3 xo = k0_pay2 x0 (row2 x2) := by
  unfold out0_B_5 kernelRun0_B
  dsimp only
  sl_unfold_words
  rw [View.read_writes_full]
  simp only [View.readAt_eq_ld, h1.read_unread, h2.read_unread, h3.read_unread, h4.read_unread, View.ld_unit_zero (S := S256x1024) hz2,
    View.ld_unit_zero (S := S8x1x128x1024) hz4, ld_row2]

/-- A block of rows with its third row replaced. -/
def put2 (x : Vec F S8x1024 .f32) (w : Vec F S1x1024 .f32) : Vec F S8x1024 .f32 := VecWindow.put x ![2, 0] S1x1024.size w

theorem sg_A (hc : cond0_0 i) : out0_A_6 c i a1 h1 a2 h2 a3 h3 a4 h4 a5 h5 a6 h6 a7 h7 hc x0 x1 x2 x3
    = put2 (k0_pay1 (F := F)) (k0_pay4 x0 (row2 (k0_pay1 (F := F))) x1) := by
  unfold out0_A_6 kernelRun0_A
  dsimp only
  sl_unfold_words
  rw [View.read_writes_cons_put _ _ _ _ _ (rfl : (![2, 0] : Fin 2 → ℕ) = ![2, 0]), View.read_writes_full]
  simp only [View.readAt_eq_ld, h1.read_unread, h2.read_unread, h3.read_unread, h4.read_unread, View.ld_unit_zero (S := S256x1024) hz2,
    View.ld_unit_zero (S := S8x1x128x1024) hz4, ld_row2, cov_row2]
  rfl

theorem sg_B (hc : ¬cond0_0 i) (xo : Vec F S8x1024 .f32) :
    out0_B_6 c i a1 h1 a2 h2 a3 h3 a4 h4 a5 h5 a6 h6 a7 h7 hc x0 x1 x2 x3 xo = put2 xo (k0_pay4 x0 (row2 xo) x1) := by
  unfold out0_B_6 kernelRun0_B
  dsimp only
  sl_unfold_words
  rw [View.read_writes_cons_put _ _ _ _ _ (rfl : (![2, 0] : Fin 2 → ℕ) = ![2, 0]), View.writes_nil, h7.read_unread]
  simp only [View.readAt_eq_ld, h1.read_unread, h2.read_unread, h3.read_unread, h4.read_unread, h7.read_unread, View.ld_unit_zero (S := S256x1024) hz2,
    View.ld_unit_zero (S := S8x1x128x1024) hz4, ld_row2]
  rfl
end

/-- The mixer output's gradient block after any point. -/
theorem do_at (c : Dev nD) (t : Fin cfg0.N) :
    (outsAt0 m c t.val t.isLt).1 = k0_pay3 (iblk m c 0 t) (row2 (iblk m c 2 t)) (iblk m c 3 t) := by
  by_cases h0 : t.val % 16 = 0
  · rw [outsAt0_A m c t h0]; dsimp only; rw [do_A]
  · rw [outsAt0_B m c t h0]; dsimp only; rw [do_B]

/-- The gated cotangent's block after any point. -/
theorem dy_at (c : Dev nD) (t : Fin cfg0.N) :
    (outsAt0 m c t.val t.isLt).2.1 = k0_pay2 (iblk m c 0 t) (row2 (iblk m c 2 t)) := by
  by_cases h0 : t.val % 16 = 0
  · rw [outsAt0_A m c t h0]; dsimp only; rw [dy_A]
  · rw [outsAt0_B m c t h0]; dsimp only; rw [dy_B]

/-- The running row sums after point `n`. -/
def chain (c : Dev nD) : (n : ℕ) → n < cfg0.N → Vec F S8x1024 .f32
  | 0, h => put2 (k0_pay1 (F := F)) (k0_pay4 (iblk m c 0 ⟨0, h⟩) (row2 (k0_pay1 (F := F))) (iblk m c 1 ⟨0, h⟩))
  | n + 1, h => put2 (chain c n (Nat.lt_of_succ_lt h))
      (k0_pay4 (iblk m c 0 ⟨n + 1, h⟩) (row2 (chain c n (Nat.lt_of_succ_lt h))) (iblk m c 1 ⟨n + 1, h⟩))

theorem sg_at (c : Dev nD) : ∀ (n : ℕ) (h : n < cfg0.N), (outsAt0 m c n h).2.2 = chain m c n h
  | 0, h => by rw [show outsAt0 m c 0 h = _ from outsAt0_A m c ⟨0, h⟩ rfl]; dsimp only; rw [sg_A]; rfl
  | n + 1, h => by
    have hN : cfg0.N = 16 := N_0
    have hB : ¬(⟨n + 1, h⟩ : Fin cfg0.N).val % 16 = 0 := by dsimp only; omega
    rw [show outsAt0 m c (n + 1) h = _ from outsAt0_B m c ⟨n + 1, h⟩ hB]; dsimp only; rw [sg_B]
    simp only [Nat.add_sub_cancel, sg_at c n, chain]

/-- A gated cotangent: the gate times the cotangent. -/
theorem pay2_apply (x : Vec Ideal S256x1024 .f32) (g : Vec Ideal S1x1024 .f32) (r : Fin 256) (l : Fin 1024) :
    (k0_pay2 (F := Ideal) x g : S256x1024.Idx → EReal) (ix2 r l) = g (ix2 0 l) * x (ix2 r l) := by
  pointwise [k0_pay2]

/-- The mixer output's gradient: the gated cotangents times the projection. -/
theorem pay3_apply (x : Vec Ideal S256x1024 .f32) (g : Vec Ideal S1x1024 .f32) (w : Vec Ideal S8x1x128x1024 .bf16) (r : Fin 256) (a : Fin 8) (b : Fin 128) :
    (k0_pay3 (F := Ideal) x g w : S256x1024.Idx → EReal) (ix2 r ⟨a.val * 128 + b.val, by omega⟩) = ∑ l : Fin 1024, g (ix2 0 l) * x (ix2 r l) * w (ix4 a 0 b l) := by
  pointwise [k0_pay3, k0_pay2]

/-- The running row sum's new row. -/
theorem pay4_apply (x : Vec Ideal S256x1024 .f32) (s : Vec Ideal S1x1024 .f32) (y : Vec Ideal S256x1024 .f32) (l : Fin 1024) :
    (k0_pay4 (F := Ideal) x s y : S1x1024.Idx → EReal) (ix2 0 l) = s (ix2 0 l) + ∑ r : Fin 256, x (ix2 r l) * y (ix2 r l) := by
  pointwise [k0_pay4]

theorem pay1_apply (r : Fin 8) (l : Fin 1024) : (k0_pay1 (F := Ideal) : S8x1024.Idx → EReal) (ix2 r l) = 0 := by
  pointwise [k0_pay1]

/-- A replaced row's element. -/
theorem put2_apply (x : Vec Ideal S8x1024 .f32) (w : Vec Ideal S1x1024 .f32) (r : Fin 8) (l : Fin 1024) :
    (put2 x w : S8x1024.Idx → EReal) (ix2 r l) = if r.val = 2 then w (ix2 0 l) else x (ix2 r l) := by
  unfold put2 VecWindow.put
  by_cases h : r.val = 2
  · rw [if_pos h, dif_pos (fun a => by match a with
      | ⟨0, _⟩ => exact ⟨by show 2 ≤ r.val; omega, by show r.val < 2 + 1; omega⟩
      | ⟨1, _⟩ => exact ⟨Nat.zero_le _, by show l.val < 0 + 1024; omega⟩)]
    refine congrArg w (funext fun a => Fin.ext ?_)
    match a with
    | ⟨0, _⟩ => show r.val - 2 = 0; omega
    | ⟨1, _⟩ => rfl
  · rw [if_neg h, dif_neg fun hall => h ?_]
    have h0 : 2 ≤ r.val ∧ r.val < 2 + 1 := hall (0 : Fin 2)
    omega

end Cert.GateIdeal.Blocks

end
-- ==== Proof.GateValue.lean ====
/- The odd layers' output gate: the three arrays after the run. -/
module

public import proofs.«01_k».proof.Proof.GateBlocks
public import Idealize.ShloMosaic.Lib.StableHlo.RunRead

@[expose] public section

set_option maxRecDepth 16384

noncomputable section

namespace Cert.GateIdeal.Blocks

open Cert.GateIdeal Cert.GateIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Which block each window stages at a point. -/
theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 ∧ win0_3.index t 2 = 0 ∧ win0_3.index t 3 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel
theorem index6 : ∀ t : Fin grid0.N, win0_6.index t 0 = 0 ∧ win0_6.index t 1 = 0 := by decide +kernel

/-- A tile's row as a row of the whole. -/
def row (t : Fin cfg0.N) (r : Fin 256) : Fin 4096 := ⟨t.val * 256 + r.val, by have := lt_of_lt_of_eq t.isLt N_0; omega⟩

/-- The arguments' contents. -/
abbrev oV : S4096x1024.Idx → EReal := m ((c : Thread nD τ).loc main_arg0)
abbrev modV : S6x1024.Idx → EReal := m ((c : Thread nD τ).loc main_arg2)
abbrev wV : S1024x1024.Idx → EReal := m ((c : Thread nD τ).loc main_arg5)
abbrev dxV : S4096x1024.Idx → EReal := m ((c : Thread nD τ).loc main_arg6)

theorem iblk0_apply (t : Fin cfg0.N) (r : Fin 256) (l : Fin 1024) :
    (iblk m c 0 t : Vec Ideal S256x1024 .f32) (ix2 r l) = dxV m c (ix2 (row t r) l) := by
  unfold iblk
  rw [View.read_apply]
  refine (congrFun (V_main_arg6 m c) _).trans (congrArg (dxV m c) (funext fun a => Fin.ext ?_))
  match a with
  | ⟨0, _⟩ => show win0_0.index t 0 * 256 + 1 * r.val = t.val * 256 + r.val; rw [(index0 t).1]; omega
  | ⟨1, _⟩ => show win0_0.index t 1 * 1024 + 1 * l.val = l.val; rw [(index0 t).2]; omega

/-- The projected mixer output. -/
def proj (o : S4096x1024.Idx → EReal) (w : S1024x1024.Idx → EReal) (r : Fin 4096) (l : Fin 1024) : EReal := ∑ k : Fin 1024, o (ix2 r k) * w (ix2 k l)

theorem V5 (r : Fin 4096) (l : Fin 1024) : (V m c main_v5 : S4096x1024.Idx → EReal) (ix2 r l) = proj (oV m c) (wV m c) r l := by
  simp only [V, hostOps0]
  after_reads_simp
  pointwise [proj]

theorem V2 (l : Fin 1024) : (V m c main_v2 : S8x1024.Idx → EReal) (ix2 2 l) = modV m c (ix2 2 l) := by
  simp only [V, hostOps0]
  after_reads_simp
  pointwise []

theorem V4 (a : Fin 8) (b : Fin 128) (l : Fin 1024) :
    (V m c main_v4 : S8x1x128x1024.Idx → EReal) (ix4 a 0 b l) = wV m c (ix2 ⟨a.val * 128 + b.val, by omega⟩ l) := by
  simp only [V, hostOps0]
  after_reads_simp
  pointwise []

theorem iblk1_apply (t : Fin cfg0.N) (r : Fin 256) (l : Fin 1024) :
    (iblk m c 1 t : Vec Ideal S256x1024 .f32) (ix2 r l) = proj (oV m c) (wV m c) (row t r) l := by
  rw [← V5]
  unfold iblk
  rw [View.read_apply]
  refine congrArg (V m c main_v5) (funext fun a => Fin.ext ?_)
  match a with
  | ⟨0, _⟩ => show win0_1.index t 0 * 256 + 1 * r.val = t.val * 256 + r.val; rw [(index1 t).1]; omega
  | ⟨1, _⟩ => show win0_1.index t 1 * 1024 + 1 * l.val = l.val; rw [(index1 t).2]; omega

theorem iblk2_apply (t : Fin cfg0.N) (l : Fin 1024) :
    row2 (iblk m c 2 t : Vec Ideal S8x1024 .f32) (ix2 0 l) = modV m c (ix2 2 l) := by
  rw [← V2]
  unfold row2 iblk
  rw [View.read_apply]
  refine congrArg (V m c main_v2) (funext fun a => Fin.ext ?_)
  match a with
  | ⟨0, _⟩ => show win0_2.index t 0 * 8 + 1 * 2 = 2; rw [(index2 t).1]
  | ⟨1, _⟩ => show win0_2.index t 1 * 1024 + 1 * l.val = l.val; rw [(index2 t).2]; omega

theorem iblk3_apply (t : Fin cfg0.N) (a : Fin 8) (b : Fin 128) (l : Fin 1024) :
    (iblk m c 3 t : Vec Ideal S8x1x128x1024 .bf16) (ix4 a 0 b l) = wV m c (ix2 ⟨a.val * 128 + b.val, by omega⟩ l) := by
  rw [← V4]
  unfold iblk
  rw [View.read_apply]
  refine congrArg (V m c main_v4) (funext fun k => Fin.ext ?_)
  match k with
  | ⟨0, _⟩ => show win0_3.index t 0 * 8 + 1 * a.val = a.val; rw [(index3 t).1]; omega
  | ⟨1, _⟩ => show win0_3.index t 1 * 1 + 1 * 0 = 0; rw [(index3 t).2.1]
  | ⟨2, _⟩ => show win0_3.index t 2 * 128 + 1 * b.val = b.val; rw [(index3 t).2.2.1]; omega
  | ⟨3, _⟩ => show win0_3.index t 3 * 1024 + 1 * l.val = l.val; rw [(index3 t).2.2.2]; omega

/-- What the three arrays hold. -/
def doArr (md : S6x1024.Idx → EReal) (w : S1024x1024.Idx → EReal) (dx : S4096x1024.Idx → EReal) : S4096x1024.Idx → EReal := fun i =>
  ∑ l : Fin 1024, md (ix2 2 l) * dx (ix2 (i 0) l) * w (ix2 (i 1) l)
def dyArr (md : S6x1024.Idx → EReal) (dx : S4096x1024.Idx → EReal) : S4096x1024.Idx → EReal := fun i => md (ix2 2 (i 1)) * dx (ix2 (i 0) (i 1))
def sgArr (o : S4096x1024.Idx → EReal) (w : S1024x1024.Idx → EReal) (dx : S4096x1024.Idx → EReal) : S8x1024.Idx → EReal := fun i =>
  if (i 0).val = 2 then ∑ r : Fin 4096, dx (ix2 r (i 1)) * proj o w r (i 1) else 0

/-- The mixer output's gradient after the run. -/
theorem final_do : ((dats m 0 c).arrAt 4 cfg0.N : S4096x1024.Idx → EReal) = doArr (modV m c) (wV m c) (dxV m c) := by
  have hN : cfg0.N = 16 := N_0
  refine (dats m 0 c).arrAt_eq_of_cover 4 _ (fun t _ => ?_) fun (i : S4096x1024.Idx) => ?_
  · show (cfg0.win 4).cut (grid0.coords t) ((dats m 0 c).after 4 t) = _
    rw [after0_4, do_at]
    funext j
    obtain ⟨r, l, rfl⟩ : ∃ (r : Fin 256) (l : Fin 1024), j = ix2 r l := ⟨j 0, j 1, eq_ix2 j⟩
    rw [View.read_apply]
    obtain ⟨a, b, rfl⟩ : ∃ (a : Fin 8) (b : Fin 128), l = ⟨a.val * 128 + b.val, by omega⟩ :=
      ⟨⟨l.val / 128, by omega⟩, ⟨l.val % 128, by omega⟩, Fin.ext (by show l.val = l.val / 128 * 128 + l.val % 128; omega)⟩
    refine (pay3_apply (iblk m c 0 t) (row2 (iblk m c 2 t)) (iblk m c 3 t) r a b).trans ?_
    simp only [iblk0_apply, iblk2_apply, iblk3_apply]
    have he : ((cfg0.win 4).blk t).view.emb (ix2 r ⟨a.val * 128 + b.val, by omega⟩) = (ix2 (row t r) ⟨a.val * 128 + b.val, by omega⟩ : S4096x1024.Idx) := by
      funext k
      apply Fin.ext
      match k with
      | ⟨0, _⟩ => show win0_4.index t 0 * 256 + 1 * r.val = t.val * 256 + r.val; rw [(index4 t).1]; omega
      | ⟨1, _⟩ => show win0_4.index t 1 * 1024 + 1 * (a.val * 128 + b.val) = a.val * 128 + b.val; rw [(index4 t).2]; omega
    rw [he]
    rfl
  · have h0 : (i 0 : Nat) < 4096 := (i 0).isLt
    have h1 : (i 1 : Nat) < 1024 := (i 1).isLt
    obtain ⟨t, ht⟩ : ∃ t : Fin cfg0.N, t.val = (i 0 : Nat) / 256 := ⟨⟨(i 0 : Nat) / 256, by omega⟩, rfl⟩
    refine ⟨t, flush0_4 t, ?_⟩
    show i ∈ ((View.whole main_v6_0).slice (win0_4.rect t)).set
    rw [View.set_slice_whole, Rect.mem_set_unit]
    intro a
    match a with
    | ⟨0, _⟩ => show win0_4.index t 0 * 256 ≤ (i 0 : Nat) ∧ (i 0 : Nat) < win0_4.index t 0 * 256 + 256
                rw [(index4 t).1, ht]; omega
    | ⟨1, _⟩ => show win0_4.index t 1 * 1024 ≤ (i 1 : Nat) ∧ (i 1 : Nat) < win0_4.index t 1 * 1024 + 1024
                rw [(index4 t).2]; omega

/-- The gated cotangent after the run. -/
theorem final_dy : ((dats m 0 c).arrAt 5 cfg0.N : S4096x1024.Idx → EReal) = dyArr (modV m c) (dxV m c) := by
  have hN : cfg0.N = 16 := N_0
  refine (dats m 0 c).arrAt_eq_of_cover 5 _ (fun t _ => ?_) fun (i : S4096x1024.Idx) => ?_
  · show (cfg0.win 5).cut (grid0.coords t) ((dats m 0 c).after 5 t) = _
    rw [after0_5, dy_at]
    funext j
    obtain ⟨r, l, rfl⟩ : ∃ (r : Fin 256) (l : Fin 1024), j = ix2 r l := ⟨j 0, j 1, eq_ix2 j⟩
    rw [View.read_apply]
    refine (pay2_apply (iblk m c 0 t) (row2 (iblk m c 2 t)) r l).trans ?_
    simp only [iblk0_apply, iblk2_apply]
    have he : ((cfg0.win 5).blk t).view.emb (ix2 r l) = (ix2 (row t r) l : S4096x1024.Idx) := by
      funext k
      apply Fin.ext
      match k with
      | ⟨0, _⟩ => show win0_5.index t 0 * 256 + 1 * r.val = t.val * 256 + r.val; rw [(index5 t).1]; omega
      | ⟨1, _⟩ => show win0_5.index t 1 * 1024 + 1 * l.val = l.val; rw [(index5 t).2]; omega
    rw [he]
    rfl
  · have h0 : (i 0 : Nat) < 4096 := (i 0).isLt
    have h1 : (i 1 : Nat) < 1024 := (i 1).isLt
    obtain ⟨t, ht⟩ : ∃ t : Fin cfg0.N, t.val = (i 0 : Nat) / 256 := ⟨⟨(i 0 : Nat) / 256, by omega⟩, rfl⟩
    refine ⟨t, flush0_5 t, ?_⟩
    show i ∈ ((View.whole main_v6_1).slice (win0_5.rect t)).set
    rw [View.set_slice_whole, Rect.mem_set_unit]
    intro a
    match a with
    | ⟨0, _⟩ => show win0_5.index t 0 * 256 ≤ (i 0 : Nat) ∧ (i 0 : Nat) < win0_5.index t 0 * 256 + 256
                rw [(index5 t).1, ht]; omega
    | ⟨1, _⟩ => show win0_5.index t 1 * 1024 ≤ (i 1 : Nat) ∧ (i 1 : Nat) < win0_5.index t 1 * 1024 + 1024
                rw [(index5 t).2]; omega

/-- One tile's row sum. -/
def share (l : Fin 1024) (n : Fin 16) : EReal :=
  ∑ r : Fin 256, dxV m c (ix2 ⟨n.val * 256 + r.val, by omega⟩ l) * proj (oV m c) (wV m c) ⟨n.val * 256 + r.val, by omega⟩ l

theorem pay4_share (t : Fin cfg0.N) (v : Vec Ideal S1x1024 .f32) (l : Fin 1024) :
    (k0_pay4 (F := Ideal) (iblk m c 0 t) v (iblk m c 1 t) : S1x1024.Idx → EReal) (ix2 0 l) = v (ix2 0 l) + share m c l ⟨t.val, lt_of_lt_of_eq t.isLt N_0⟩ := by
  rw [pay4_apply]
  simp only [iblk0_apply, iblk1_apply]
  rfl

/-- The running sums after point `n`: the shares so far in the third row, zero elsewhere. -/
theorem chain_apply : ∀ (n : ℕ) (h : n < cfg0.N) (k : Fin 8) (l : Fin 1024), (chain m c n h : S8x1024.Idx → EReal) (ix2 k l)
    = if k.val = 2 then ∑ q : Fin (n + 1), share m c l ⟨q.val, by have := q.isLt; have : cfg0.N = 16 := N_0; omega⟩ else 0
  | 0, h, k, l => by
    show put2 (F := Ideal) _ _ _ = _
    rw [put2_apply, pay4_share, pay1_apply]
    refine if_congr Iff.rfl ?_ rfl
    show (k0_pay1 (F := Ideal) : S8x1024.Idx → EReal) (ix2 2 l) + _ = _
    rw [pay1_apply, zero_add]
    simp
  | n + 1, h, k, l => by
    show put2 (F := Ideal) _ _ _ = _
    rw [put2_apply, pay4_share, chain_apply n]
    by_cases hk : k.val = 2
    · rw [if_pos hk, if_pos hk]
      show (chain m c n _ : S8x1024.Idx → EReal) (ix2 2 l) + _ = _
      rw [chain_apply n, if_pos (by decide : (2 : Fin 8).val = 2), Fin.sum_univ_castSucc (n := n + 1)]
      rfl
    · rw [if_neg hk, if_neg hk, if_neg hk]

/-- The modulation rows' gradient after the run. -/
theorem final_sg : ((dats m 0 c).arrAt 6 cfg0.N : S8x1024.Idx → EReal) = sgArr (oV m c) (wV m c) (dxV m c) := by
  have hN : cfg0.N = 16 := N_0
  have hlt : 15 < cfg0.N := by omega
  refine (dats m 0 c).arrAt_eq_of_cover 6 _ (fun t hf => ?_) fun (i : S8x1024.Idx) => ?_
  · have h15 : t = ⟨15, hlt⟩ := Fin.ext (by have := (flush0_6 t).mp hf; have := t.isLt; show t.val = 15; omega)
    subst h15
    show (cfg0.win 6).cut (grid0.coords _) ((dats m 0 c).after 6 _) = _
    rw [after0_6, sg_at]
    funext j
    obtain ⟨k, l, rfl⟩ : ∃ (k : Fin 8) (l : Fin 1024), j = ix2 k l := ⟨j 0, j 1, eq_ix2 j⟩
    rw [View.read_apply]
    refine (chain_apply m c 15 hlt k l).trans ?_
    have he : ((cfg0.win 6).blk ⟨15, hlt⟩).view.emb (ix2 k l) = (ix2 k l : S8x1024.Idx) := by
      funext a
      apply Fin.ext
      match a with
      | ⟨0, _⟩ => show win0_6.index ⟨15, hlt⟩ 0 * 8 + 1 * k.val = k.val; rw [(index6 _).1]; omega
      | ⟨1, _⟩ => show win0_6.index ⟨15, hlt⟩ 1 * 1024 + 1 * l.val = l.val; rw [(index6 _).2]; omega
    rw [he]
    refine if_congr Iff.rfl ?_ rfl
    rw [Fin.sum_univ_tiles (N := 4096) 16 256 (by norm_num)]
    rfl
  · refine ⟨⟨15, hlt⟩, (flush0_6 _).mpr rfl, ?_⟩
    show i ∈ ((View.whole main_v6_2).slice (win0_6.rect ⟨15, hlt⟩)).set
    rw [View.set_slice_whole, Rect.mem_set_unit]
    intro a
    have h0 : (i 0 : Nat) < 8 := (i 0).isLt
    have h1 : (i 1 : Nat) < 1024 := (i 1).isLt
    match a with
    | ⟨0, _⟩ => show win0_6.index ⟨15, hlt⟩ 0 * 8 ≤ (i 0 : Nat) ∧ (i 0 : Nat) < win0_6.index ⟨15, hlt⟩ 0 * 8 + 8
                rw [(index6 _).1]; omega
    | ⟨1, _⟩ => show win0_6.index ⟨15, hlt⟩ 1 * 1024 ≤ (i 1 : Nat) ∧ (i 1 : Nat) < win0_6.index ⟨15, hlt⟩ 1 * 1024 + 1024
                rw [(index6 _).2]; omega

end Cert.GateIdeal.Blocks

end
-- ==== Proof.GateRef.lean ====
/- The odd layers' output gate as a derivative: the reference's three arrays, index by index. -/
module

public import proofs.«01_k».proof.Proof.Gen.GateRefIdeal.Read
public import proofs.«01_k».proof.Proof.Gen.GateRefIdeal.Run
public import Idealize.ShloMosaic.Lib.Pointwise

@[expose] public section

set_option maxRecDepth 16384

noncomputable section

namespace Cert.GateRefIdeal.At

open Cert.GateRefIdeal Cert.GateRefIdeal.Gen Cert.GateRefIdeal.Read Idealize.ShloMosaic Idealize.ShloMosaic.TcCoe

variable (x0 : FVec Ideal S4096x1024 .f32) (x2 : FVec Ideal S6x1024 .f32) (x5 : FVec Ideal S1024x1024 .f32) (x6 : FVec Ideal S4096x1024 .f32)

/-- The gated cotangent. -/
theorem dy_at (r : Fin 4096) (l : Fin 1024) : (val_main_v19 (F := Ideal) x2 x6 : S4096x1024.Idx → EReal) (ix2 r l) = x2 (ix2 2 l) * x6 (ix2 r l) := by
  pointwise [val_main_v19, val_main_v10, val_main_v9, val_main_v5, val_main_v2, val_main_v1]

/-- The mixer output's gradient. -/
theorem do_at (r : Fin 4096) (j : Fin 1024) : (val_main_v18 (F := Ideal) x2 x5 x6 : S4096x1024.Idx → EReal) (ix2 r j)
    = ∑ l : Fin 1024, x2 (ix2 2 l) * x6 (ix2 r l) * x5 (ix2 j l) := by
  pointwise [val_main_v18, val_main_v15, val_main_v10, val_main_v9, val_main_v5, val_main_v2, val_main_v1]

/-- The modulation rows' gradient: the gate's row only. -/
theorem sg_at (k : Fin 8) (l : Fin 1024) : (val_main_v21 (F := Ideal) x0 x5 x6 : S8x1024.Idx → EReal) (ix2 k l)
    = if k.val = 2 then ∑ r : Fin 4096, x6 (ix2 r l) * ∑ q : Fin 1024, x0 (ix2 r q) * x5 (ix2 q l) else 0 := by
  fin_cases k <;>
  pointwise [val_main_v21, val_main_v20, val_main_cst_3, val_main_v17, val_main_v16, val_main_v14, val_main_v13, val_main_v12, val_main_v11, val_main_v4, val_main_v3, val_main_v0, val_main_cst, val_main_cst_0, val_main_cst_1, val_main_cst_2]
  exact Fin.sum_univ_one _

end Cert.GateRefIdeal.At
end
-- ==== Proof.GateClaim.lean ====
/- The claims about the odd layers' output gate's backward call: the two frames of the kernel, the reference's, and the value. -/
module

public import proofs.«01_k».proof.Defs
public import proofs.«01_k».proof.Proof.Gen.Gate.Frame
public import proofs.«01_k».proof.Proof.GateValue
public import proofs.«01_k».proof.Proof.GateRef
public import Idealize.ShloMosaic.Lib.Quiescent

@[expose] public section

noncomputable section

namespace Cert.GateClaim

open Idealize.ShloMosaic Idealize.SL.Sem Cert.GateIdeal.Blocks

/-- The kernel's results and the reference's are the same three arrays. -/
theorem value : Cert.algebraic_GateIdeal_GateRefIdeal
    (hGateIdeal := Cert.GateIdeal.Gen.facts) (hGateRefIdeal := Cert.GateRefIdeal.Gen.facts) := by
  intro m g m' g' _ hm
  refine ⟨_, _, _, (θ_run Cert.GateIdeal.defs _ _).mono (fun r h c => ⟨(h c).1.trans (final_do m c),
    (h c).2.1.trans (final_dy m c), (h c).2.2.1.trans (final_sg m c), (h c).2.2.2⟩) (Cert.GateIdeal.Value.run_blocks m g), ?_⟩
  refine (θ_run Cert.GateRefIdeal.defs _ _).mono (fun r h c => ⟨?_, ?_, ?_, (h c).2.2.2⟩) (Cert.GateRefIdeal.Value.run m' g')
  · refine (h c).1.trans ?_
    rw [(hm c).2.2.1, (hm c).2.2.2.2.2.1, (hm c).2.2.2.2.2.2]
    refine (Cert.GateRefIdeal.Read.val_main_v18_eq _ _ _).trans (funext fun i => ?_)
    rw [eq_ix2 i]
    exact Cert.GateRefIdeal.At.do_at _ _ _ _ _
  · refine (h c).2.1.trans ?_
    rw [(hm c).2.2.1, (hm c).2.2.2.2.2.2]
    refine (Cert.GateRefIdeal.Read.val_main_v19_eq _ _).trans (funext fun i => ?_)
    rw [eq_ix2 i]
    exact Cert.GateRefIdeal.At.dy_at _ _ _ _
  · refine (h c).2.2.1.trans ?_
    rw [(hm c).1, (hm c).2.2.2.2.2.1, (hm c).2.2.2.2.2.2]
    refine (Cert.GateRefIdeal.Read.val_main_v21_eq _ _ _).trans (funext fun i => ?_)
    rw [eq_ix2 i]
    exact Cert.GateRefIdeal.At.sg_at _ _ _ _ _

/-- The kernel's frame, on words. -/
theorem frame : Cert.quiescent_Gate (hGate := Cert.Gate.Gen.facts) := fun m ρ _ => Cert.Gate.Gen.frame m ρ

/-- The kernel's frame, over the extended reals. -/
theorem frame_ideal : Cert.quiescent_GateIdeal (hGateIdeal := Cert.GateIdeal.Gen.facts) := fun m ρ _ => Cert.GateIdeal.Gen.frame m ρ

/-- The reference's frame. -/
theorem frame_ref : Cert.quiescent_GateRefIdeal (hGateRefIdeal := Cert.GateRefIdeal.Gen.facts) := fun m ρ _ =>
  (θ_run Cert.GateRefIdeal.defs _ _).mono (fun r h => ⟨fun c => (h c).2.2.2, sem_eq_zero_of_no_sems (by decide) r.2⟩)
    (Cert.GateRefIdeal.Value.run (F := Ideal) m ρ)

end Cert.GateClaim

end
-- ==== Proof.StickFwdStep.lean ====
/- Stick-breaking attention forward: what each block the kernel stores holds, entry by entry, when everything read is real. -/
module

public import proofs.«01_k».proof.Proof.Gen.StickFwdIdeal.Skeleton
public import proofs.«01_k».proof.Proof.StickDiag

@[expose] public section

set_option maxRecDepth 16384

noncomputable section

namespace Cert.StickReal.Head

variable (h : Head)

/-- A query's output, summed over the keys before `J`. -/
def ov (J r : ℕ) (d : Fin 128) : ℝ := ∑ j ∈ Finset.range J, h.w r j * h.v j d

/-- A query's output, summed over the keys from `C` on. -/
def ot (C r : ℕ) (d : Fin 128) : ℝ := h.ov 4096 r d - h.ov C r d

/-- The logs of what is left, summed over the keys from `C` on. -/
def rest (C r : ℕ) : ℝ := h.skip r 4096 - h.skip r C

/-- The output over `n` keys more. -/
theorem ot_step (C n r : ℕ) (d : Fin 128) : h.ot (C + n) r d + ∑ i : Fin n, h.w r (C + i) * h.v (C + i) d = h.ot C r d := by
  unfold ot ov
  rw [range_add _ C n]; ring

/-- The log sum over `n` keys more. -/
theorem rest_step (C n r : ℕ) : h.rest (C + n) r + ∑ i : Fin n, h.lk r (C + i) = h.rest C r := by
  unfold rest
  rw [skip_add _ r C n]; ring

/-- A query's output has nothing from the keys at or after it. -/
theorem ot_zero {C r : ℕ} (hr : r ≤ C) (hC : C ≤ 4096) (d : Fin 128) : h.ot C r d = 0 := by
  unfold ot ov
  rw [sub_eq_zero]
  refine (Finset.sum_subset (Finset.range_subset_range.mpr hC) fun j _ hj => ?_).symm
  have : C ≤ j := Nat.not_lt.mp fun c => hj (Finset.mem_range.mpr c)
  rw [h.w_zero (by omega), zero_mul]

/-- Nor has its log sum. -/
theorem rest_zero {C r : ℕ} (hr : r ≤ C) (hC : C ≤ 4096) : h.rest C r = 0 := by
  unfold rest skip
  rw [sub_eq_zero]
  refine (Finset.sum_subset (Finset.range_subset_range.mpr hC) fun j _ hj => ?_).symm
  have : C ≤ j := Nat.not_lt.mp fun c => hj (Finset.mem_range.mpr c)
  exact if_neg (by omega)

/-- A weight, by the log sum over the later keys. -/
theorem w_eq (r j : ℕ) : h.w r j = if j < r then Real.exp (lsig (h.z r j) + h.rest (j + 1) r) else 0 := rfl

end Cert.StickReal.Head

namespace Cert.StickFwdIdeal.Step

open Cert.StickFwdIdeal Cert.StickFwdIdeal.Gen Cert.StickReal Idealize.ShloMosaic
open Cert.StickIdeal.Step (later ofBool_real)
open Cert.StickIdeal.Diag (Lower cmp_base)

/-- The lower triangle of ones: row above column. -/
theorem pay29 : Is2 (k0_pay29 (F := Ideal)) fun s l => if l < s then 1 else 0 := by
  intro s l
  pointwise [k0_pay29]
  rw [WordCmp.cmpi_sgt_ofNat (by have := s.isLt; omega) (by have := l.isLt; omega)]
  refine (ofBool_real _).trans ?_
  simp only [decide_eq_true_eq, Fin.lt_def]

/-- Within a block of 256 keys: the later keys' logs and the sum beyond the block are the sum beyond the key. -/
theorem later' (h : Head) (r C : ℕ) (l : Fin 256) :
    ∑ i : Fin 256, h.lk r (C + i) * (if l < i then 1 else 0) + ∑ i : Fin 256, (h.lk r (C + i) - h.lk r (C + i)) * (if l < i then 1 else 0)
      + h.rest (C + 256) r = h.rest (C + l + 1) r := later (h.lk r) _ C l

section Whole

variable {h : Head} {R C : ℕ} {q kw vw : Vec Ideal S512x128 .bf16} {p : Vec Ideal S512x1 .f32}

/-- The scaled scores of 512 keys wholly before the queries. -/
theorem pay9 (hq : Is2 q fun r => h.q (R + r)) (hk : Is2 kw fun j => h.k (C + j)) :
    Is2 (k0_pay9 q kw) fun r j => h.z (R + r) (C + j) := by
  intro r j
  pointwise [k0_pay9]
  rw [scale_word]
  simp only [hk _ _, hq _ _, ← EReal.coe_mul, ← coe_sum]
  rfl

/-- The logs of what each key takes. -/
theorem pay10 (hq : Is2 q fun r => h.q (R + r)) (hk : Is2 kw fun j => h.k (C + j)) :
    Is2 (k0_pay10 q kw) fun r j => lsig (h.z (R + r) (C + j)) := by
  intro r j
  pointwise [k0_pay10]
  simp only [pay9 hq hk _ _]
  exact lsig_coe _

/-- The logs of what each key leaves. -/
theorem pay11 (hC : C + 512 ≤ R) (hq : Is2 q fun r => h.q (R + r)) (hk : Is2 kw fun j => h.k (C + j)) :
    Is2 (k0_pay11 q kw) fun r j => h.lk (R + r) (C + j) := by
  intro r j
  pointwise [k0_pay11]
  simp only [pay9 hq hk _ _, pay10 hq hk _ _, ← EReal.coe_sub]
  rw [Head.lk, if_pos (show C + (j : ℕ) < R + r by omega)]

/-- Those of the first 256 keys. -/
theorem pay12 (hC : C + 512 ≤ R) (hq : Is2 q fun r => h.q (R + r)) (hk : Is2 kw fun j => h.k (C + j)) :
    Is2 (k0_pay12 q kw) fun r l => h.lk (R + r) (C + l) := by
  intro r l
  pointwise [k0_pay12]
  exact pay11 hC hq hk _ _

/-- Those of the last 256 keys. -/
theorem pay13 (hC : C + 512 ≤ R) (hq : Is2 q fun r => h.q (R + r)) (hk : Is2 kw fun j => h.k (C + j)) :
    Is2 (k0_pay13 q kw) fun r l => h.lk (R + r) (C + 256 + l) := by
  intro r l
  pointwise [k0_pay13]
  rw [Nat.add_assoc]
  exact pay11 hC hq hk _ _

/-- The log sums beyond each of the last 256 keys. -/
theorem pay14 (hC : C + 512 ≤ R) (hq : Is2 q fun r => h.q (R + r)) (hk : Is2 kw fun j => h.k (C + j))
    (hp : Is1 p fun r => h.rest (C + 512) (R + r)) :
    Is2 (k0_pay14 k0_pay29 q kw p) fun r l => h.rest (C + 256 + l + 1) (R + r) := by
  intro r l
  pointwise [k0_pay14]
  simp only [pay13 hC hq hk _ _, pay29 _ _, hp _ _, ← EReal.coe_mul, ← EReal.coe_sub, ← coe_sum, ← EReal.coe_add]
  exact congrArg _ (later' h (R + r) (C + 256) l)

/-- The log sum beyond the first 256 keys. -/
theorem pay15 (hC : C + 512 ≤ R) (hq : Is2 q fun r => h.q (R + r)) (hk : Is2 kw fun j => h.k (C + j))
    (hp : Is1 p fun r => h.rest (C + 512) (R + r)) : Is1 (k0_pay15 q kw p) fun r => h.rest (C + 256) (R + r) := by
  intro r l
  pointwise [k0_pay15]
  simp only [pay13 hC hq hk _ _, hp _ _, ← EReal.coe_add, ← coe_sum]
  rw [← h.rest_step (C + 256) 256]

/-- The output with 512 keys more. -/
theorem pay3 {x : Vec Ideal S512x128 .f32} (hC : C + 512 ≤ R) (hq : Is2 q fun r => h.q (R + r)) (hk : Is2 kw fun j => h.k (C + j))
    (hv : Is2 vw fun j => h.v (C + j)) (hp : Is1 p fun r => h.rest (C + 512) (R + r)) (hx : Is2 x fun r => h.ot (C + 512) (R + r)) :
    Is2 (k0_pay3 k0_pay29 (k0_pay10 q kw) (k0_pay14 k0_pay29 q kw p) (k0_pay15 q kw p) (k0_pay17 q kw) (k0_pay18 k0_pay29 q kw) x vw)
      fun r => h.ot C (R + r) := by
  intro r d
  pointwise [k0_pay3, k0_pay16, k0_pay17, k0_pay18]
  have h0 : ∀ j : Fin 256, lsig (h.z (R + r) (C + j)) + h.rest (C + j + 1) (R + r) = Real.log (h.w (R + r) (C + j)) := fun j => by
    rw [Head.w_eq, if_pos (show C + (j : ℕ) < R + r by omega), Real.log_exp]
  have h1 : ∀ j : Fin 256, lsig (h.z (R + r) (C + (256 + j))) + h.rest (C + 256 + j + 1) (R + r) = Real.log (h.w (R + r) (C + 256 + j)) := fun j => by
    rw [Head.w_eq, if_pos (show C + 256 + (j : ℕ) < R + r by omega), Real.log_exp]
    simp only [Nat.add_assoc]
  have p0 : ∀ j : Fin 256, 0 < h.w (R + r) (C + j) := fun j => by
    rw [Head.w_eq, if_pos (show C + (j : ℕ) < R + r by omega)]; exact Real.exp_pos _
  have p1 : ∀ j : Fin 256, 0 < h.w (R + r) (C + 256 + j) := fun j => by
    rw [Head.w_eq, if_pos (show C + 256 + (j : ℕ) < R + r by omega)]; exact Real.exp_pos _
  simp only [pay10 hq hk _ _, pay12 hC hq hk _ _, pay14 hC hq hk hp _ _, pay29 _ _, pay15 hC hq hk hp _ _, hx _ _, hv _ _, ← EReal.coe_mul, ← EReal.coe_sub,
    ← coe_sum, ← EReal.coe_add, later', Ideal.exp_coe, h0, h1, Real.exp_log (p0 _), Real.exp_log (p1 _)]
  rw [← h.ot_step C 256, ← h.ot_step (C + 256) 256]
  refine congrArg _ ?_
  simp only [Nat.add_assoc]
  ring

/-- The running log sum with 512 keys more. -/
theorem pay4 (hC : C + 512 ≤ R) (hq : Is2 q fun r => h.q (R + r)) (hk : Is2 kw fun j => h.k (C + j))
    (hp : Is1 p fun r => h.rest (C + 512) (R + r)) : Is1 (k0_pay4 (k0_pay12 q kw) (k0_pay15 q kw p)) fun r => h.rest C (R + r) := by
  intro r l
  pointwise [k0_pay4]
  simp only [pay12 hC hq hk _ _, pay15 hC hq hk hp _ _, ← EReal.coe_add, ← coe_sum]
  rw [← h.rest_step C 256]

end Whole

section Second

variable {h : Head} {R : ℕ} {m : IVec S256x256 1} {q kw vw : Vec Ideal S256x128 .bf16} {p : Vec Ideal S256x1 .f32} {o : Ideal .f32}

/-- The second diagonal block's mask. -/
theorem mask1 {i : grid0.Coords} : Lower (k0_pay32 i) := by
  have hi : (i 1).val < 8 := (i 1).isLt
  intro r l
  pointwise [k0_pay32]
  rw [show Scalar.addi (Scalar.muli (BitVec.ofNat 32 (i 1).val) 512#32) 256#32 = BitVec.ofNat 32 ((i 1).val * 512 + 256) by
    rw [BitVec.ofNat_add, BitVec.ofNat_mul]; rfl]
  exact cmp_base _ r l (by omega) (by omega) (by omega)

/-- The scaled scores of the second diagonal block. -/
theorem pay33 (hq : Is2 q fun r => h.q (R + r)) (hk : Is2 kw fun j => h.k (R + j)) :
    Is2 (k0_pay33 q kw) fun r j => h.z (R + r) (R + j) := by
  intro r j
  pointwise [k0_pay33]
  rw [scale_word]
  simp only [hk _ _, hq _ _, ← EReal.coe_mul, ← coe_sum]
  rfl

/-- The logs of what each key takes. -/
theorem pay36 (ho : o = (1 : EReal)) (hq : Is2 q fun r => h.q (R + r)) (hk : Is2 kw fun j => h.k (R + j)) :
    Is2 (k0_pay36 (k0_pay34 q kw) (k0_pay35 q kw) o) fun r j => lsig (h.z (R + r) (R + j)) := by
  intro r j
  pointwise [k0_pay36, k0_pay34, k0_pay35]
  simp only [pay33 hq hk _ _, ho]
  exact lsig_coe _

/-- The logs of what each key leaves. -/
theorem pay37 (ho : o = (1 : EReal)) (hm : Lower m) (hq : Is2 q fun r => h.q (R + r)) (hk : Is2 kw fun j => h.k (R + j)) :
    Is2 (k0_pay37 m (k0_pay33 q kw) (k0_pay34 q kw) (k0_pay35 q kw) o) fun r j => h.lk (R + r) (R + j) := by
  intro r j
  pointwise [k0_pay37]
  simp only [pay33 hq hk _ _, pay36 ho hq hk _ _, ← EReal.coe_sub, hm _ _, sel_coe, Head.lk, Nat.add_lt_add_iff_left]

/-- The output with the second diagonal block's keys. -/
theorem pay38 {x : Vec Ideal S256x128 .f32} (ho : o = (1 : EReal)) (hm : Lower m) (hq : Is2 q fun r => h.q (R + r)) (hk : Is2 kw fun j => h.k (R + j))
    (hv : Is2 vw fun j => h.v (R + j)) (hp : Is1 p fun r => h.rest (R + 256) (R + r)) (hx : Is2 x fun r => h.ot (R + 256) (R + r)) :
    Is2 (k0_pay38 k0_pay29 m (k0_pay33 q kw) (k0_pay34 q kw) (k0_pay35 q kw) o p x vw) fun r => h.ot R (R + r) := by
  intro r d
  pointwise [k0_pay38]
  simp only [pay36 ho hq hk _ _, pay37 ho hm hq hk _ _, pay29 _ _, hp _ _, hm _ _, hx _ _, hv _ _, ← EReal.coe_mul, ← EReal.coe_sub, ← coe_sum,
    ← EReal.coe_add, Ideal.exp_coe, sel_coe, later']
  rw [← h.ot_step R 256]
  simp only [Head.w_eq, Nat.add_lt_add_iff_left, ite_mul, zero_mul]

/-- The running log sum with the second diagonal block's keys. -/
theorem pay39 (ho : o = (1 : EReal)) (hm : Lower m) (hq : Is2 q fun r => h.q (R + r)) (hk : Is2 kw fun j => h.k (R + j))
    (hp : Is1 p fun r => h.rest (R + 256) (R + r)) :
    Is1 (k0_pay39 m (k0_pay33 q kw) (k0_pay34 q kw) (k0_pay35 q kw) o p) fun r => h.rest R (R + r) := by
  intro r l
  pointwise [k0_pay39]
  simp only [pay37 ho hm hq hk _ _, hp _ _, ← EReal.coe_add, ← coe_sum]
  rw [← h.rest_step R 256]

end Second

section First

variable {h : Head} {R : ℕ} {v w : BitVec 32} {n : IVec S512x256 32} {q : Vec Ideal S512x128 .bf16} {kw vw : Vec Ideal S256x128 .bf16} {p : Vec Ideal S512x1 .f32}

/-- The first diagonal block's mask. -/
theorem mask0 {v w : BitVec 32} (b : ℕ) (hb : b < 4096) (hv : v = BitVec.ofNat 32 b) (hw : w = BitVec.ofNat 32 b) :
    Lower (k0_pay40 v w (iota .tc S512x256 32 [0] iota_S512x256_d0_w32)) := by
  intro r l
  pointwise [k0_pay40]
  rw [hv, hw]
  exact cmp_base b r l (by omega) (by omega) (by omega)

/-- The scaled scores of the first diagonal block. -/
theorem pay41 (hq : Is2 q fun r => h.q (R + r)) (hk : Is2 kw fun j => h.k (R + j)) :
    Is2 (k0_pay41 q kw) fun r j => h.z (R + r) (R + j) := by
  intro r j
  pointwise [k0_pay41]
  rw [scale_word]
  simp only [hk _ _, hq _ _, ← EReal.coe_mul, ← coe_sum]
  rfl

/-- The logs of what each key takes. -/
theorem pay42 (hq : Is2 q fun r => h.q (R + r)) (hk : Is2 kw fun j => h.k (R + j)) :
    Is2 (k0_pay42 q kw) fun r j => lsig (h.z (R + r) (R + j)) := by
  intro r j
  pointwise [k0_pay42]
  simp only [pay41 hq hk _ _]
  exact lsig_coe _

/-- The logs of what each key leaves. -/
theorem pay43 (hm : Lower (k0_pay40 v w n)) (hq : Is2 q fun r => h.q (R + r)) (hk : Is2 kw fun j => h.k (R + j)) :
    Is2 (k0_pay43 v w n q kw) fun r j => h.lk (R + r) (R + j) := by
  intro r j
  pointwise [k0_pay43]
  simp only [pay41 hq hk _ _, pay42 hq hk _ _, ← EReal.coe_sub, hm _ _, sel_coe, Head.lk, Nat.add_lt_add_iff_left]

/-- The running log sum with the first diagonal block's keys. -/
theorem pay44 (hm : Lower (k0_pay40 v w n)) (hq : Is2 q fun r => h.q (R + r)) (hk : Is2 kw fun j => h.k (R + j))
    (hp : Is1 p fun r => h.rest (R + 256) (R + r)) : Is1 (k0_pay2 (k0_pay44 v w n q kw p)) fun r => h.rest R (R + r) := by
  intro r l
  pointwise [k0_pay2, k0_pay44]
  simp only [pay43 hm hq hk _ _, hp _ _, ← EReal.coe_add, ← coe_sum]
  rw [← h.rest_step R 256]

/-- The first diagonal block's weights. -/
theorem pay45 (hm : Lower (k0_pay40 v w n)) (hq : Is2 q fun r => h.q (R + r)) (hk : Is2 kw fun j => h.k (R + j))
    (hp : Is1 p fun r => h.rest (R + 256) (R + r)) : Is2 (k0_pay45 k0_pay29 v w n q kw p) fun r j => h.w (R + r) (R + j) := by
  intro r j
  pointwise [k0_pay45]
  simp only [pay42 hq hk _ _, pay43 hm hq hk _ _, pay29 _ _, hp _ _, hm _ _, ← EReal.coe_mul, ← EReal.coe_sub, ← coe_sum,
    ← EReal.coe_add, Ideal.exp_coe, sel_coe, later', Head.w_eq, Nat.add_lt_add_iff_left]

/-- The output with the first diagonal block's keys. -/
theorem pay1 {a : FVec Ideal S512x256 .f32} {x : Vec Ideal S512x128 .f32} (hw : Is2 a fun r j => h.w (R + r) (R + j))
    (hv : Is2 vw fun j => h.v (R + j)) (hx : Is2 x fun r => h.ot (R + 256) (R + r)) : Is2 (k0_pay1 a x vw) fun r => h.ot R (R + r) := by
  intro r d
  pointwise [k0_pay1]
  simp only [hw _ _, hv _ _, hx _ _, ← EReal.coe_mul, ← coe_sum, ← EReal.coe_add]
  rw [← h.ot_step R 256]

end First

end Cert.StickFwdIdeal.Step
-- ==== Proof.StickFwdTrip.lean ====
/- The forward kernel's key loop: what the running output and the running log sum hold after `k` blocks of 512 keys, from the query block down. -/
module

public import proofs.«01_k».proof.Proof.StickFwdStep
public import proofs.«01_k».proof.Proof.Gen.StickFwdIdeal.Loops
public import proofs.«01_k».proof.Proof.StickBuf

@[expose] public section

set_option maxRecDepth 16384

noncomputable section

namespace Cert.StickFwdIdeal.Trip

open Cert.StickFwdIdeal Cert.StickFwdIdeal.Gen Cert.StickReal Cert.StickFwdIdeal.Step Idealize.ShloMosaic

theorem hz : (![0, 0] : Fin 2 → Nat) = fun _ => 0 := funext fun a => by fin_cases a <;> rfl

/-- What the body finds in the buffers it only reads: the query block's rows from `R`, and all keys and values. -/
structure Reads (h : Head) (R : ℕ) {arg2 : Memref sig .tc .vmem S512x128 .bf16} {arg3 arg4 : Memref sig .tc .vmem S4096x128 .bf16}
    (X2 : BufTy.Contents (Elt Ideal) arg2.view.ty) (X3 : BufTy.Contents (Elt Ideal) arg3.view.ty) (X4 : BufTy.Contents (Elt Ideal) arg4.view.ty) : Prop where
  q : Is2 (arg2.view.read (Elt Ideal) X2) fun r => h.q (R + r)
  k : Is2 (arg3.view.read (Elt Ideal) X3) fun j => h.k j
  v : Is2 (arg4.view.read (Elt Ideal) X4) fun j => h.v j

/-- What the two scratch buffers hold once the keys from `C` on are done for the query block at `R`. -/
structure State (h : Head) (R C : ℕ) {arg7 : Memref sig .tc .vmem S512x128 .f32} {arg8 : Memref sig .tc .vmem S512x1 .f32}
    (f7 : BufTy.Contents (Elt Ideal) arg7.view.ty) (f8 : BufTy.Contents (Elt Ideal) arg8.view.ty) : Prop where
  o : Is2 (arg7.view.read (Elt Ideal) f7) fun r => h.ot C (R + r)
  p : Is1 (arg8.view.read (Elt Ideal) f8) fun r => h.rest C (R + r)

/-- The loop over whole blocks of keys runs once per query block before this one. -/
theorem trips1 (i : grid0.Coords) : (k0_t1_loop i).trips = (i 1).val := by
  have h : ∀ n : Fin 8, Scf.trips 0#32 (Scalar.addi 0#32 (Scalar.muli (Scalar.divsi (Scalar.subi (Scalar.muli (BitVec.ofNat 32 n.val) 1#32) 0#32) 1#32) 1#32)) 1#32 = n.val := by
    decide +kernel
  exact h (i 1)

/-- The remainder loop runs no trip. -/
theorem trips2 (i : grid0.Coords) : (k0_t2_loop i).trips = 0 := by
  have h : ∀ n : Fin 8, Scf.trips (Scalar.addi 0#32 (Scalar.muli (Scalar.divsi (Scalar.subi (Scalar.muli (BitVec.ofNat 32 n.val) 1#32) 0#32) 1#32) 1#32))
      (Scalar.addi 0#32 (Scalar.subi (Scalar.muli (BitVec.ofNat 32 n.val) 1#32) 0#32)) 1#32 = 0 := by
    decide +kernel
  exact h (i 1)

/-- The first row of the key block a trip reads. -/
theorem off1 : ∀ n k : Fin 8, k.val < n.val →
    BitVec.toNat (Scalar.indexCast (Scalar.muli (Scalar.subi (Scalar.subi (Scalar.muli (BitVec.ofNat 32 n.val) 1#32) 1#32) (Scf.iv 0#32 1#32 k.val)) 512#32)) = 512 * (n.val - 1 - k.val) := by
  decide +kernel

variable (𝒱 : Variants) (c : Dev nD) (bd : Option 𝒱.V) (i : grid0.Coords)
  (arg2 : Memref sig .tc .vmem S512x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S512x128 .bf16) (harg5 : arg5.IsWhole)
  (arg6 : Memref sig .tc .vmem S1x512x1 .f32) (harg6 : arg6.IsWhole) (arg7 : Memref sig .tc .vmem S512x128 .f32) (harg7 : arg7.IsWhole)
  (arg8 : Memref sig .tc .vmem S512x1 .f32) (harg8 : arg8.IsWhole)
  (X2 : BufTy.Contents (Elt Ideal) arg2.view.ty) (X3 : BufTy.Contents (Elt Ideal) arg3.view.ty) (X4 : BufTy.Contents (Elt Ideal) arg4.view.ty)
  (f7 : BufTy.Contents (Elt Ideal) arg7.view.ty) (f8 : BufTy.Contents (Elt Ideal) arg8.view.ty)

/-- The query block's number, as the loop carries it. -/
abbrev blockWord (i : grid0.Coords) : BitVec 32 := Scalar.muli (BitVec.ofNat 32 (i 1).val) 1#32

/-- One trip carries the state over the 512 keys before `C + 512`. -/
theorem trip {h : Head} {R C : ℕ} (k : Fin (k0_t1_loop i).trips) (hC : C + 512 ≤ R)
    (ho : BitVec.toNat (Scalar.indexCast (Scalar.muli (Scalar.subi (Scalar.subi (Scalar.muli (BitVec.ofNat 32 (i 1).val) 1#32) 1#32) (Scf.iv 0#32 1#32 k.val)) 512#32)) = C)
    (hX : Reads h R X2 X3 X4) (hS : State h R (C + 512) f7 f8) :
    let L := tripL_k0_t1 (F := Ideal) 𝒱 c bd i arg2 harg2 arg3 harg3 arg4 harg4 arg5 harg5 arg6 harg6 arg7 harg7 arg8 harg8 k0_pay29 (blockWord i) X2 X3 X4 k f7 f8
    State h R C (arg7.view.writes (Elt Ideal) f7 L.1) (arg8.view.writes (Elt Ideal) f8 L.2) := by
  intro L
  subst L
  unfold tripL_k0_t1 trip_k0_t1
  dsimp only
  sl_unfold_words
  simp only [View.readAt_eq_ld, View.ld_unit_zero (S := S512x128) hz, View.ld_unit_zero (S := S512x1) hz]
  have hk := fun inb => ld_rows_b (n := 512) (C := C) ho inb hX.k
  have hv := fun inb => ld_rows_b (n := 512) (C := C) ho inb hX.v
  constructor
  · exact (put_all _ _ _).symm ▸ pay3 hC hX.q (hk _) (hv _) hS.p hS.o
  · exact (put_all _ _ _).symm ▸ pay4 hC hX.q (hk _) hS.p

/-- After `k` trips the keys from `512 (n - k)` on are done, `n` the query block's number. -/
theorem loop {h : Head} (hX : Reads h (512 * (i 1).val) X2 X3 X4) (hS : State h (512 * (i 1).val) (512 * (i 1).val) f7 f8) (k : ℕ) (hk : k ≤ (i 1).val) :
    let L := pb_k0_t1 (F := Ideal) 𝒱 c bd i arg2 harg2 arg3 harg3 arg4 harg4 arg5 harg5 arg6 harg6 arg7 harg7 arg8 harg8 k0_pay29 (blockWord i) X2 X3 X4 f7 f8 k
    State h (512 * (i 1).val) (512 * ((i 1).val - k)) (arg7.view.writes (Elt Ideal) f7 L.1) (arg8.view.writes (Elt Ideal) f8 L.2) := by
  induction k with
  | zero => exact hS
  | succ k ih =>
    have ih := ih (by omega)
    have hi : (i 1).val < 8 := (i 1).isLt
    intro L
    subst L
    rw [pb_k0_t1_succ 𝒱 c bd i arg2 harg2 arg3 harg3 arg4 harg4 arg5 harg5 arg6 harg6 arg7 harg7 arg8 harg8 k0_pay29 (blockWord i) X2 X3 X4 f7 f8
      ⟨k, by rw [trips1]; omega⟩]
    dsimp only
    simp only [View.writes_append]
    refine trip 𝒱 c bd i arg2 harg2 arg3 harg3 arg4 harg4 arg5 harg5 arg6 harg6 arg7 harg7 arg8 harg8 X2 X3 X4 _ _
      ⟨k, by rw [trips1]; omega⟩ (by omega) ?_ hX ?_
    · exact (off1 (i 1) ⟨k, by omega⟩ (by dsimp only; omega)).trans (by dsimp only; omega)
    · rw [show 512 * ((i 1).val - (k + 1)) + 512 = 512 * ((i 1).val - k) by omega]
      exact ih

end Cert.StickFwdIdeal.Trip
-- ==== Proof.StickFwdPoint.lean ====
/- One point of the forward kernel's grid: a query block's output and its rows' totals. -/
module

public import proofs.«01_k».proof.Proof.StickFwdTrip
public import proofs.«01_k».proof.Proof.StickPoint
public import proofs.«01_k».proof.Proof.Gen.StickFwdIdeal.Frame

@[expose] public section

set_option maxRecDepth 16384

noncomputable section

namespace Cert.StickFwdIdeal.Point

open Cert.StickFwdIdeal Cert.StickFwdIdeal.Gen Cert.StickReal Cert.StickFwdIdeal.Step Cert.StickFwdIdeal.Trip Idealize.ShloMosaic
open Cert.StickIdeal.Diag (Lower)
open Cert.StickIdeal.Point (word word0 off0 off2 shift2 shift1 unshift2 cov)

variable (c : Dev nD) (i : grid0.Coords)
  (arg2 : Memref sig .tc .vmem S512x128 .bf16) (harg2 : arg2.IsWhole) (arg3 : Memref sig .tc .vmem S4096x128 .bf16) (harg3 : arg3.IsWhole)
  (arg4 : Memref sig .tc .vmem S4096x128 .bf16) (harg4 : arg4.IsWhole) (arg5 : Memref sig .tc .vmem S512x128 .bf16) (harg5 : arg5.IsWhole)
  (arg6 : Memref sig .tc .vmem S1x512x1 .f32) (harg6 : arg6.IsWhole) (arg7 : Memref sig .tc .vmem S512x128 .f32) (harg7 : arg7.IsWhole)
  (arg8 : Memref sig .tc .vmem S512x1 .f32) (harg8 : arg8.IsWhole)
  (x0 : Vec Ideal S512x128 .bf16) (x1 x2 : Vec Ideal S4096x128 .bf16)

/-- The two loops' trip counts, as the run writes them. -/
theorem trips1' : Scf.trips 0#32 (Scalar.addi 0#32 (Scalar.muli (Scalar.divsi (Scalar.subi (Scalar.muli (BitVec.ofNat 32 (i 1).val) 1#32) 0#32) 1#32) 1#32)) 1#32 = (i 1).val := trips1 i

theorem trips2' : Scf.trips (Scalar.addi 0#32 (Scalar.muli (Scalar.divsi (Scalar.subi (Scalar.muli (BitVec.ofNat 32 (i 1).val) 1#32) 0#32) 1#32) 1#32))
      (Scalar.addi 0#32 (Scalar.subi (Scalar.muli (BitVec.ofNat 32 (i 1).val) 1#32) 0#32)) 1#32 = 0 := trips2 i

/-- The remainder loop stores nothing. -/
theorem none2 (v6 v137 v142 X2 X3 X4 f7 f8) : pb_k0_t2 (F := Ideal) Variants.none c none i arg2 harg2 arg3 harg3 arg4 harg4 arg5 harg5 arg6 harg6 arg7 harg7 arg8 harg8 v6 v137 v142 X2 X3 X4 f7 f8 0 = ([], []) := rfl

/-- The zeros the body starts from. -/
theorem zero30 {f : Fin 512 → Fin 128 → ℝ} (hf : ∀ r d, f r d = 0) : Is2 (a := 512) (b := 128) (k0_pay30 (F := Ideal)) f := fun r d => by
  pointwise [k0_pay30]
  rw [hf]; rfl

theorem zero31 {f : Fin 512 → ℝ} (hf : ∀ r, f r = 0) : Is1 (a := 512) (k0_pay31 (F := Ideal)) f := fun r d => by
  pointwise [k0_pay31]
  rw [hf]; rfl

/-- What a query block finds in the blocks it reads. -/
structure In (h : Head) (R : ℕ) (x0 : Vec Ideal S512x128 .bf16) (x1 x2 : Vec Ideal S4096x128 .bf16) : Prop where
  q : Is2 x0 fun r => h.q (R + r)
  k : Is2 x1 fun j => h.k j
  v : Is2 x2 fun j => h.v j

theorem In.reads {h : Head} {R : ℕ} {x0 x1 x2} (H : In h R x0 x1 x2) : Reads h R (harg2.unread x0) (harg3.unread x1) (harg4.unread x2) where
  q := (harg2.read_unread x0).symm ▸ H.q
  k := (harg3.read_unread x1).symm ▸ H.k
  v := (harg4.read_unread x2).symm ▸ H.v

/-- The word of one. -/
theorem one_word : (FloatOps.ofBits (F := Ideal) FTy.f32 0x3F800000#32 : Ideal .f32) = (1 : EReal) := by
  show (constant (F := Ideal) S512x1 .f32 0x3F800000#32 : FVec Ideal S512x1 .f32) (ix2 0 0) = 1
  pointwise []

/-- The block's output is what the running output holds. -/
theorem pay7 {x : Vec Ideal S512x128 .f32} {f : Fin 512 → Fin 128 → ℝ} (h : Is2 x f) : Is2 (k0_pay7 x) f := fun r d => by
  pointwise [k0_pay7]
  exact h r d

/-- The block's totals are what the running log sum holds. -/
theorem pay8 {x : Vec Ideal S512x1 .f32} {f : Fin 512 → ℝ} (h : Is1 x f) (a : Fin 1) (r : Fin 512) (b : Fin 1) : (k0_pay8 x : Vec Ideal S1x512x1 .f32) (ix3 a r b) = ((f r : ℝ) : EReal) := by
  pointwise [k0_pay8]
  exact h r _

/-- With every key counted. -/
theorem ot_all (h : Head) (n r : ℕ) : h.ot (512 * (n - n)) r = h.ov 4096 r := by
  funext d
  rw [Nat.sub_self, Nat.mul_zero, Head.ot, Head.ov, Head.ov, Finset.range_zero, Finset.sum_empty, sub_zero]

theorem rest_all (h : Head) (n r : ℕ) : h.rest (512 * (n - n)) r = h.skip r 4096 := by
  rw [Nat.sub_self, Nat.mul_zero, Head.rest, Head.skip, Head.skip, Finset.range_zero, Finset.sum_empty, sub_zero]

/-- The rows of the diagonal block's first half see no key of its second half. -/
theorem rows_ot (h : Head) (R : ℕ) (hR : R + 512 ≤ 4096) (r : Fin 512) (d : Fin 128) :
    (if 256 ≤ (r : ℕ) ∧ (r : ℕ) < 256 + 256 then h.ot (R + 256) (R + r) d else 0) = h.ot (R + 256) (R + r) d := by
  by_cases c : 256 ≤ (r : ℕ) ∧ (r : ℕ) < 256 + 256
  · rw [if_pos c]
  · rw [if_neg c, h.ot_zero (by omega) (by omega)]

theorem rows_rest (h : Head) (R : ℕ) (hR : R + 512 ≤ 4096) (r : Fin 512) :
    (if 256 ≤ (r : ℕ) ∧ (r : ℕ) < 256 + 256 then h.rest (R + 256) (R + r) else 0) = h.rest (R + 256) (R + r) := by
  by_cases c : 256 ≤ (r : ℕ) ∧ (r : ℕ) < 256 + 256
  · rw [if_pos c]
  · rw [if_neg c, h.rest_zero (by omega) (by omega)]

/-- Zeros are what is left of sums past the last key they see. -/
theorem none_ot {n R : ℕ} (h : Head) {x : (⟨2, ![n, 128]⟩ : Shape).Idx → EReal} (hR : R + n ≤ 4096) (hx : Is2 x fun _ _ => 0) : Is2 x fun r => h.ot (R + n) (R + r) :=
  fun r d => (hx r d).trans (by dsimp only; rw [h.ot_zero (by omega) hR])

theorem none_rest {n R : ℕ} (h : Head) {x : (⟨2, ![n, 1]⟩ : Shape).Idx → EReal} (hR : R + n ≤ 4096) (hx : Is1 x fun _ => 0) : Is1 x fun r => h.rest (R + n) (R + r) :=
  fun r d => (hx r d).trans (by dsimp only; rw [h.rest_zero (by omega) hR])

set_option maxHeartbeats 1000000 in
/-- A query block's output, and its rows' totals. -/
theorem outs {h : Head} (H : In h (512 * (i 1).val) x0 x1 x2) :
    Is2 (out0_A_3 c i arg2 harg2 arg3 harg3 arg4 harg4 arg5 harg5 arg6 harg6 arg7 harg7 arg8 harg8 x0 x1 x2) (fun r => h.ov 4096 (512 * (i 1).val + r))
    ∧ ∀ a (r : Fin 512) b, out0_A_4 c i arg2 harg2 arg3 harg3 arg4 harg4 arg5 harg5 arg6 harg6 arg7 harg7 arg8 harg8 x0 x1 x2 (ix3 a r b) = ((h.skip (512 * (i 1).val + r) 4096 : ℝ) : EReal) := by
  have hX := H.reads arg2 harg2 arg3 harg3 arg4 harg4
  have hi : (i 1).val < 8 := (i 1).isLt
  have fin := fun f7 f8 hS =>
    have s := loop Variants.none c none i arg2 harg2 arg3 harg3 arg4 harg4 arg5 harg5 arg6 harg6 arg7 harg7 arg8 harg8 _ _ _ f7 f8 hX hS _ le_rfl
    And.intro (pay7 s.o) (pay8 s.p)
  simp only [ot_all, rest_all] at fin
  unfold out0_A_3 out0_A_4 kernelRun0_A
  dsimp only
  sl_unfold_words
  simp only [View.readAt_eq_ld, View.ld_unit_zero (S := S512x128) hz, View.ld_unit_zero (S := S512x1) hz, trips1', trips2', cov]
  rw [none2, View.read_writes_full VO0_3, View.read_writes_full VO0_4]
  simp only [List.nil_append, View.writes_append]
  have o0 := off0 (i 1)
  have o1 := off2 (i 1)
  have m0 : Lower (k0_pay40 _ _ (iota Kind.tc S512x256 32 [0] iota_S512x256_d0_w32)) := mask0 _ (by omega) (word0 (i 1)) (word0 (i 1))
  have hk := fun inb => ld_rows_b (n := 256) (C := 512 * (i 1).val) o0 inb hX.k
  have hv := fun inb => ld_rows_b (n := 256) (C := 512 * (i 1).val) o0 inb hX.v
  have hq1 := fun inb => shift2 (f := h.q) (ld_rows_b (n := 256) (C := 256) (f := fun r => h.q (512 * (i 1).val + r)) rfl inb hX.q)
  have hk1 := fun inb => ld_rows_b (n := 256) (C := 512 * (i 1).val + 256) o1 inb hX.k
  have hv1 := fun inb => ld_rows_b (n := 256) (C := 512 * (i 1).val + 256) o1 inb hX.v
  have z7 : Is2 (arg7.view.read (Elt Ideal) (arg7.view.writes (Elt Ideal) arg7.view.junk [⟨Rect.unit ![0, 0] ![512, 128] inb_S512x128_S512x128_0_0, k0_pay30 (F := Ideal)⟩])) fun _ _ => 0 :=
    put_all2 _ (zero30 fun _ _ => rfl)
  have z8 : Is1 (arg8.view.read (Elt Ideal) (arg8.view.writes (Elt Ideal) arg8.view.junk [⟨Rect.unit ![0, 0] ![512, 1] inb_S512x1_S512x1_0_0, k0_pay31 (F := Ideal)⟩])) fun _ => 0 :=
    put_all1 _ (zero31 fun _ => rfl)
  have p1 := fun inb => none_rest (R := 512 * (i 1).val + 256) h (by omega) (ld_rows_1 (n := 256) (C := 256) (f := fun _ => 0) rfl inb z8)
  have x1' := fun inb => none_ot (R := 512 * (i 1).val + 256) h (by omega) (ld_rows_f (n := 256) (C := 256) (f := fun _ _ => 0) rfl inb z7)
  have w7 := fun a b c d e f => put_rows (C := 256) (G := fun r d => h.ot (512 * (i 1).val + 256) (512 * (i 1).val + r) d) (F := fun _ _ => 0) rfl a
    (unshift2 (f := h.ot (512 * (i 1).val + 256)) (pay38 one_word (mask1 (i := i)) (hq1 b) (hk1 c) (hv1 d) (p1 e) (x1' f))) z7
  have w8 := fun a b c e => put_rows (C := 256) (G := fun r _ => h.rest (512 * (i 1).val + 256) (512 * (i 1).val + r)) (F := fun _ _ => 0) rfl a
    (unshift2 (f := fun r _ => h.rest (512 * (i 1).val + 256) r) (pay39 one_word (mask1 (i := i)) (hq1 b) (hk1 c) (p1 e))) z8
  refine fin _ _ ⟨?_, ?_⟩
  · refine put_all2 _ (pay1 (pay45 m0 hX.q (hk _) ?_) (hv _) ?_)
    · exact fun r b => (w8 _ _ _ _ r b).trans (congrArg _ (rows_rest h _ (by omega) r))
    · exact fun r d => (w7 _ _ _ _ _ _ r d).trans (congrArg _ (rows_ot h _ (by omega) r d))
  · refine put_all1 _ (pay44 m0 hX.q (hk _) ?_)
    exact fun r b => (w8 _ _ _ _ r b).trans (congrArg _ (rows_rest h _ (by omega) r))

end Cert.StickFwdIdeal.Point
-- ==== Proof.StickFwdValue.lean ====
/- The forward kernel's outputs after the run, over the reals. -/
module

public import proofs.«01_k».proof.Proof.StickFwdPoint
public import proofs.«01_k».proof.Proof.Gen.StickFwdIdeal.Value
public import Idealize.ShloMosaic.Lib.StableHlo.RunRead

@[expose] public section

set_option maxRecDepth 16384

noncomputable section

namespace Cert.StickReal

/-- An array of each head's rows. -/
def rowsOf (X G : ℕ → ℕ → ℝ) (f : Head → ℕ → ℝ) : (⟨3, ![8, 4096, 1]⟩ : Idealize.ShloMosaic.Shape).Idx → EReal :=
  fun i => ((f (headOf X G (i 0).val) (i 1).val : ℝ) : EReal)

end Cert.StickReal

namespace Cert.StickFwdIdeal.Final

open Cert.StickFwdIdeal Cert.StickFwdIdeal.Gen Cert.StickReal Cert.StickFwdIdeal.Point Idealize.ShloMosaic Idealize.ShloMosaic.TcCoe Idealize.SL.Sem
open Idealize.ShloMosaic.Pipeline (Dat)

variable (m : (ℓ : Loc nD τ sig) → Buf (Elt Ideal) ℓ) (c : Dev nD) {X G : ℕ → ℕ → ℝ}

/-- The argument is finite, with these entries. -/
def Arg (X : ℕ → ℕ → ℝ) : Prop := Is2 (m ((c : Thread nD τ).loc main_arg0) : S4096x3072.Idx → EReal) fun r l => X r l

/-- A point's head and its query block. -/
theorem coords : ∀ t : Fin grid0.N, ((grid0.coords t) 0).val = t.val / 8 ∧ ((grid0.coords t) 1).val = t.val % 8 := by decide +kernel

theorem index0 : ∀ t : Fin grid0.N, win0_0.index t 0 = t.val % 8 ∧ win0_0.index t 1 = t.val / 8 := by decide +kernel
theorem index1 : ∀ t : Fin grid0.N, win0_1.index t 0 = 0 ∧ win0_1.index t 1 = 8 + t.val / 8 := by decide +kernel
theorem index2 : ∀ t : Fin grid0.N, win0_2.index t 0 = 0 ∧ win0_2.index t 1 = 16 + t.val / 8 := by decide +kernel
theorem index3 : ∀ t : Fin grid0.N, win0_3.index t 0 = t.val % 8 ∧ win0_3.index t 1 = t.val / 8 := by decide +kernel
theorem index4 : ∀ t : Fin grid0.N, win0_4.index t 0 = t.val / 8 ∧ win0_4.index t 1 = t.val % 8 ∧ win0_4.index t 2 = 0 := by decide +kernel

variable {m c}

/-- The packed projections, as the region finds them: cast to bf16. -/
theorem packed (H : Arg m c X) (r : Fin 4096) (l : Fin 3072) : (V m c main_v0 : FVec Ideal S4096x3072 .bf16) (ix2 r l) = ((X r l : ℝ) : EReal) := by
  have e : (V m c main_v0 : FVec Ideal S4096x3072 .bf16) = (truncf .bf16 (m ((c : Thread nD τ).loc main_arg0)) bitsLt_bf16_f32 : FVec Ideal S4096x3072 .bf16) := by
    simp only [V, hostOps0]
    after_reads_simp
  rw [e]; exact H r l

variable (m c) in
/-- The blocks a point reads, in their arrays. -/
theorem block0 (t : Fin cfg0.N) (r : Fin 512) (l : Fin 128) (h₀ : 512 * (t.val % 8) + r.val < 4096) (h₁ : t.val / 8 * 128 + l.val < 3072) :
    (iblk m c 0 t : FVec Ideal S512x128 .bf16) (ix2 r l) = (V m c main_v0 : FVec Ideal S4096x3072 .bf16) (ix2 ⟨512 * (t.val % 8) + r.val, h₀⟩ ⟨t.val / 8 * 128 + l.val, h₁⟩) := by
  unfold iblk
  rw [View.read_apply]
  refine congrArg (V m c main_v0) (funext fun a => Fin.ext ?_)
  match a with
  | ⟨0, _⟩ => show win0_0.index t 0 * 512 + 1 * r.val = 512 * (t.val % 8) + r.val; rw [(index0 t).1]; omega
  | ⟨1, _⟩ => show win0_0.index t 1 * 128 + 1 * l.val = t.val / 8 * 128 + l.val; rw [(index0 t).2]; omega

variable (m c) in
theorem block1 (t : Fin cfg0.N) (r : Fin 4096) (l : Fin 128) (h₀ : r.val < 4096) (h₁ : 1024 + (t.val / 8 * 128 + l.val) < 3072) :
    (iblk m c 1 t : FVec Ideal S4096x128 .bf16) (ix2 r l) = (V m c main_v0 : FVec Ideal S4096x3072 .bf16) (ix2 ⟨r.val, h₀⟩ ⟨1024 + (t.val / 8 * 128 + l.val), h₁⟩) := by
  unfold iblk
  rw [View.read_apply]
  refine congrArg (V m c main_v0) (funext fun a => Fin.ext ?_)
  match a with
  | ⟨0, _⟩ => show win0_1.index t 0 * 4096 + 1 * r.val = r.val; rw [(index1 t).1]; omega
  | ⟨1, _⟩ => show win0_1.index t 1 * 128 + 1 * l.val = 1024 + (t.val / 8 * 128 + l.val); rw [(index1 t).2]; omega

variable (m c) in
theorem block2 (t : Fin cfg0.N) (r : Fin 4096) (l : Fin 128) (h₀ : r.val < 4096) (h₁ : 2048 + (t.val / 8 * 128 + l.val) < 3072) :
    (iblk m c 2 t : FVec Ideal S4096x128 .bf16) (ix2 r l) = (V m c main_v0 : FVec Ideal S4096x3072 .bf16) (ix2 ⟨r.val, h₀⟩ ⟨2048 + (t.val / 8 * 128 + l.val), h₁⟩) := by
  unfold iblk
  rw [View.read_apply]
  refine congrArg (V m c main_v0) (funext fun a => Fin.ext ?_)
  match a with
  | ⟨0, _⟩ => show win0_2.index t 0 * 4096 + 1 * r.val = r.val; rw [(index2 t).1]; omega
  | ⟨1, _⟩ => show win0_2.index t 1 * 128 + 1 * l.val = 2048 + (t.val / 8 * 128 + l.val); rw [(index2 t).2]; omega

/-- What a point reads. -/
theorem inputs (H : Arg m c X) (t : Fin cfg0.N) :
    In (headOf X G (t.val / 8)) (512 * (t.val % 8)) (iblk m c 0 t) (iblk m c 1 t) (iblk m c 2 t) := by
  have ht : t.val < 64 := by have := t.isLt; have h' : cfg0.N = 64 := N_0; omega
  refine ⟨fun r l => ?_, fun r l => ?_, fun r l => ?_⟩
  · rw [block0 m c t r l (by omega) (by omega), packed H]; rfl
  · rw [block1 m c t r l (by omega) (by omega), packed H]; dsimp only [headOf]
  · rw [block2 m c t r l (by omega) (by omega), packed H]; dsimp only [headOf]

/-- What the two outputs hold after a point: its block of the output, and its rows' totals. -/
theorem holds (H : Arg m c X) (t : Fin cfg0.N) :
    Is2 (outsAt0 m c t).1 (fun r => (headOf X G (t.val / 8)).ov 4096 (512 * (t.val % 8) + r))
    ∧ ∀ a (r : Fin 512) b, (outsAt0 m c t).2 (ix3 a r b) = (((headOf X G (t.val / 8)).skip (512 * (t.val % 8) + r) 4096 : ℝ) : EReal) := by
  have h := outs c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (iblk m c 0 t) (iblk m c 1 t) (iblk m c 2 t)
    (h := headOf X G (t.val / 8)) (by rw [(coords t).2]; exact inputs H t)
  rw [(coords t).2] at h
  unfold outsAt0
  dsimp only
  exact h

/-- The attention's output. -/
theorem final_o (H : Arg m c X) : (dats m 0 c).arrAt 3 cfg0.N = heads X G (fun h r d => h.ov 4096 r d) := by
  have hN : cfg0.N = 64 := N_0
  refine (dats m 0 c).arrAt_eq_of_cover 3 _ (fun t ht => ?_) fun (i : S4096x1024.Idx) => ?_
  · have h64 : t.val < 64 := lt_of_lt_of_eq t.isLt hN
    show (cfg0.win 3).cut (grid0.coords t) ((dats m 0 c).after 3 t) = _
    rw [after0_3]
    funext j
    obtain ⟨r, l, rfl⟩ : ∃ (r : Fin 512) (l : Fin 128), j = ix2 r l := ⟨j 0, j 1, eq_ix2 j⟩
    rw [View.read_apply]
    have e : ((cfg0.win 3).blk t).view.emb (ix2 r l) = (ix2 ⟨512 * (t.val % 8) + r.val, by omega⟩ ⟨t.val / 8 * 128 + l.val, by omega⟩ : S4096x1024.Idx) := by
      funext a
      apply Fin.ext
      match a with
      | ⟨0, _⟩ => show win0_3.index t 0 * 512 + 1 * r.val = 512 * (t.val % 8) + r.val; rw [(index3 t).1]; omega
      | ⟨1, _⟩ => show win0_3.index t 1 * 128 + 1 * l.val = t.val / 8 * 128 + l.val; rw [(index3 t).2]; omega
    rw [e, heads_at]
    have h := (holds (G := G) H t).1 r l
    exact h
  · have h0 : (i 0 : Nat) < 4096 := (i 0).isLt
    have h1 : (i 1 : Nat) < 1024 := (i 1).isLt
    obtain ⟨t, ht⟩ : ∃ t : Fin cfg0.N, t.val = (i 1 : Nat) / 128 * 8 + (i 0 : Nat) / 512 := ⟨⟨(i 1 : Nat) / 128 * 8 + (i 0 : Nat) / 512, by omega⟩, rfl⟩
    refine ⟨t, flush0_3 t, ?_⟩
    show i ∈ ((View.whole main_v1_0).slice (win0_3.rect t)).set
    rw [View.set_slice_whole, Rect.mem_set_unit]
    intro a
    match a with
    | ⟨0, _⟩ => show win0_3.index t 0 * 512 ≤ (i 0 : Nat) ∧ (i 0 : Nat) < win0_3.index t 0 * 512 + 512
                rw [(index3 t).1]; omega
    | ⟨1, _⟩ => show win0_3.index t 1 * 128 ≤ (i 1 : Nat) ∧ (i 1 : Nat) < win0_3.index t 1 * 128 + 128
                rw [(index3 t).2]; omega

/-- The rows' totals. -/
theorem final_tot (H : Arg m c X) : (dats m 0 c).arrAt 4 cfg0.N = rowsOf X G (fun h r => h.skip r 4096) := by
  have hN : cfg0.N = 64 := N_0
  refine (dats m 0 c).arrAt_eq_of_cover 4 _ (fun t ht => ?_) fun (i : S8x4096x1.Idx) => ?_
  · have h64 : t.val < 64 := lt_of_lt_of_eq t.isLt hN
    show (cfg0.win 4).cut (grid0.coords t) ((dats m 0 c).after 4 t) = _
    rw [after0_4]
    funext j
    obtain ⟨a, r, l, rfl⟩ : ∃ (a : Fin 1) (r : Fin 512) (l : Fin 1), j = ix3 a r l := ⟨j 0, j 1, j 2, eq_ix3 j⟩
    rw [View.read_apply]
    have e : ((cfg0.win 4).blk t).view.emb (ix3 a r l) = (ix3 ⟨t.val / 8, by omega⟩ ⟨512 * (t.val % 8) + r.val, by omega⟩ 0 : S8x4096x1.Idx) := by
      funext b
      apply Fin.ext
      match b with
      | ⟨0, _⟩ => show win0_4.index t 0 * 1 + 1 * a.val = t.val / 8; rw [(index4 t).1]; omega
      | ⟨1, _⟩ => show win0_4.index t 1 * 512 + 1 * r.val = 512 * (t.val % 8) + r.val; rw [(index4 t).2.1]; omega
      | ⟨2, _⟩ => show win0_4.index t 2 * 1 + 1 * l.val = 0; rw [(index4 t).2.2]; omega
    rw [e]
    have h := (holds (G := G) H t).2 a r l
    exact h
  · have h0 : (i 0 : Nat) < 8 := (i 0).isLt
    have h1 : (i 1 : Nat) < 4096 := (i 1).isLt
    have h2 : (i 2 : Nat) < 1 := (i 2).isLt
    obtain ⟨t, ht⟩ : ∃ t : Fin cfg0.N, t.val = (i 0 : Nat) * 8 + (i 1 : Nat) / 512 := ⟨⟨(i 0 : Nat) * 8 + (i 1 : Nat) / 512, by omega⟩, rfl⟩
    refine ⟨t, flush0_4 t, ?_⟩
    show i ∈ ((View.whole main_v1_1).slice (win0_4.rect t)).set
    rw [View.set_slice_whole, Rect.mem_set_unit]
    intro a
    match a with
    | ⟨0, _⟩ => show win0_4.index t 0 * 1 ≤ (i 0 : Nat) ∧ (i 0 : Nat) < win0_4.index t 0 * 1 + 1
                rw [(index4 t).1]; omega
    | ⟨1, _⟩ => show win0_4.index t 1 * 512 ≤ (i 1 : Nat) ∧ (i 1 : Nat) < win0_4.index t 1 * 512 + 512
                rw [(index4 t).2.1]; omega
    | ⟨2, _⟩ => show win0_4.index t 2 * 1 ≤ (i 2 : Nat) ∧ (i 2 : Nat) < win0_4.index t 2 * 1 + 1
                rw [(index4 t).2.2]; omega

end Cert.StickFwdIdeal.Final
-- ==== Proof.StickFwdRef.lean ====
/- The forward reference's output and totals, over the reals. -/
module

public import proofs.«01_k».proof.Proof.Gen.StickFwdRefIdeal.Read
public import proofs.«01_k».proof.Proof.StickSums
public import proofs.«01_k».proof.Proof.StickFwdValue
public import Idealize.ShloMosaic.Lib.Pointwise
public import Idealize.ShloMosaic.Lib.WordCmp

@[expose] public section

set_option maxRecDepth 16384
set_option pp.maxSteps 300

noncomputable section

namespace Cert.StickFwdRefIdeal.At

open Cert.StickFwdRefIdeal Cert.StickFwdRefIdeal.Gen Cert.StickFwdRefIdeal.Read Cert.StickReal Cert.StickSums Idealize.ShloMosaic Idealize.ShloMosaic.TcCoe Idealize.SL.Sem Idealize.ShloMosaic.StableHlo

variable {X G : ℕ → ℕ → ℝ} {x0 : FVec Ideal S4096x3072 .f32}

/-- The reference's queries, by head. -/
theorem q_at (hx : Is2 x0 fun r l => X r l) (n : Fin 8) (r : Fin 4096) (d : Fin 128) : val_main_v4 (F := Ideal) x0 (ix4 0 n r d) = (((headOf X G n).q r d : ℝ) : EReal) := by
  pointwise [val_main_v4, val_main_v3, val_main_v0]
  rw [hx]
  rfl

/-- Its keys. -/
theorem k_at (hx : Is2 x0 fun r l => X r l) (n : Fin 8) (r : Fin 4096) (d : Fin 128) : val_main_v6 (F := Ideal) x0 (ix4 0 n r d) = (((headOf X G n).k r d : ℝ) : EReal) := by
  pointwise [val_main_v6, val_main_v5, val_main_v1]
  rw [hx]
  dsimp only [headOf]

/-- Its values. -/
theorem v_at (hx : Is2 x0 fun r l => X r l) (n : Fin 8) (r : Fin 4096) (d : Fin 128) : val_main_v8 (F := Ideal) x0 (ix4 0 n r d) = (((headOf X G n).v r d : ℝ) : EReal) := by
  pointwise [val_main_v8, val_main_v7, val_main_v2]
  rw [hx]
  dsimp only [headOf]

/-- The scaled scores. -/
theorem z_at (hx : Is2 x0 fun r l => X r l) (n : Fin 8) (r j : Fin 4096) : val_main_v11 (F := Ideal) x0 (ix4 0 n r j) = (((headOf X G n).z r j : ℝ) : EReal) := by
  pointwise [val_main_v11, val_main_v9, val_main_v10, val_main_cst]
  rw [scale_word]
  simp only [q_at (G := G) hx, k_at (G := G) hx, ← EReal.coe_mul, ← coe_sum]
  rfl

/-- The logs of what each key takes. -/
theorem take_at (hx : Is2 x0 fun r l => X r l) (n : Fin 8) (r j : Fin 4096) : val_main_v18 (F := Ideal) x0 (ix4 0 n r j) = ((lsig ((headOf X G n).z r j) : ℝ) : EReal) := by
  have ha := z_at (G := G) hx n r j
  pointwise [val_main_v18, val_main_call0_v0, val_main_call0_v1, val_main_call0_call0_v4, val_main_call0_call0_v6, val_main_call0_call0_v11, val_main_call0_call0_v5, val_main_call0_call0_v1, val_main_call0_call0_v10, val_main_call0_call0_v9, val_main_call0_call0_v8, val_main_call0_call0_v7, val_main_call0_call0_v3, val_main_call0_call0_v2, val_main_call0_call0_v0, val_main_call0_call0_cst]
  rw [ha, if_neg (not_not_intro rfl), ← EReal.coe_neg, softplus_coe, ← EReal.coe_neg]
  simp only [neg_neg]

/-- The logs of what each key leaves, before the mask. -/
theorem leave_at (hx : Is2 x0 fun r l => X r l) (n : Fin 8) (r j : Fin 4096) : val_main_v20 (F := Ideal) x0 (ix4 0 n r j) = ((lsig ((headOf X G n).z r j) - (headOf X G n).z r j : ℝ) : EReal) := by
  have ha := z_at (G := G) hx n r j
  pointwise [val_main_v20, val_main_v19, val_main_call1_v0, val_main_call1_v1, val_main_call1_call0_v4, val_main_call1_call0_v6, val_main_call1_call0_v11, val_main_call1_call0_v5, val_main_call1_call0_v1, val_main_call1_call0_v10, val_main_call1_call0_v9, val_main_call1_call0_v8, val_main_call1_call0_v7, val_main_call1_call0_v3, val_main_call1_call0_v2, val_main_call1_call0_v0, val_main_call1_call0_cst]
  rw [neg_neg, ha, if_neg (not_not_intro rfl), softplus_coe, lsig_neg, ← EReal.coe_neg, neg_neg]

/-- The zero the reference passes to its masks. -/
theorem zero_word : (id (constant (F := Ideal) S_ .f32 0x00000000#32) ix0 : EReal) = 0 := by
  show (constant (F := Ideal) S_ .f32 0x00000000#32 : FVec Ideal S_ .f32) ix0 = 0
  pointwise []

/-- The mask. -/
theorem mask_at (r j : Fin 4096) : val_main_v17 (F := Ideal) (ix2 r j) = IntOp.cmpi .slt (BitVec.ofNat 32 j) (BitVec.ofNat 32 r) := by
  pointwise [val_main_v17, val_main_v15, val_main_v16, val_main_v13, val_main_v14, val_main_v12]

/-- The log of what a query leaves at a key, masked. -/
theorem lk_at (hx : Is2 x0 fun r l => X r l) (n : Fin 8) (r j : Fin 4096) : val_main_v21 (F := Ideal) x0 (ix4 0 n r j) = (((headOf X G n).lk r j : ℝ) : EReal) := by
  have hm := mask_at r j
  have hs := leave_at (G := G) hx n r j
  pointwise [val_main_v21, val_main_call2_v1, val_main_call2_v2, val_main_call2_v0, val_main_cst_0]
  rw [hm, hs, WordCmp.cmpi_slt_ofNat (by omega) (by omega), zero_word, sel_coe]
  rfl

/-- Their sums from a key on. -/
theorem from_at (hx : Is2 x0 fun r l => X r l) (n : Fin 8) (r j : Fin 4096) :
    val_main_v22 (F := Ideal) x0 (ix4 0 n r j) = (((headOf X G n).skip r 4096 - (headOf X G n).skip r j : ℝ) : EReal) := by
  unfold val_main_v22
  rw [window_at _ _ _ _ (by pointwise [val_main_call3_v0, val_main_call3_cst]) n r j _ (fun j => lk_at (G := G) hx n r j), from_here _ (by omega)]
  rfl

/-- The weight. -/
theorem w_at (hx : Is2 x0 fun r l => X r l) (n : Fin 8) (r j : Fin 4096) : val_main_v26 (F := Ideal) x0 (ix4 0 n r j) = (((headOf X G n).w r j : ℝ) : EReal) := by
  have hm := mask_at r j
  have hs := take_at (G := G) hx n r j
  have hl := lk_at (G := G) hx n r j
  have hf := from_at (G := G) hx n r j
  pointwise [val_main_v26, val_main_v25, val_main_v24, val_main_v23, val_main_call4_v1, val_main_call4_v2, val_main_call4_v0, val_main_cst_1]
  rw [hm, hs, hl, hf, ← EReal.coe_sub, ← EReal.coe_add, Ideal.exp_coe, WordCmp.cmpi_slt_ofNat (by omega) (by omega), zero_word, sel_coe]
  refine congrArg _ ?_
  have e : (headOf X G n).skip r (j + 1) = (headOf X G n).skip r j + (headOf X G n).lk r j := Finset.sum_range_succ _ _
  rw [Head.w_eq, Head.rest, e, sub_add_eq_sub_sub]

/-- The output, one head. -/
theorem o_at (hx : Is2 x0 fun r l => X r l) (n : Fin 8) (r : Fin 4096) (d : Fin 128) : val_main_v27 (F := Ideal) x0 (ix4 0 n r d) = (((headOf X G n).ov 4096 r d : ℝ) : EReal) := by
  pointwise [val_main_v27]
  simp only [w_at (G := G) hx, v_at (G := G) hx, ← EReal.coe_mul, ← coe_sum]
  rw [Fin.sum_univ_eq_sum_range (fun j => (headOf X G n).w r j * (headOf X G n).v j d) 4096]
  rfl

/-- The reference's output. -/
theorem o_eq (hx : Is2 x0 fun r l => X r l) : val_main_v31 (F := Ideal) x0 = heads X G (fun h r d => h.ov 4096 r d) := by
  funext i
  obtain ⟨r, l, rfl⟩ : ∃ (r : Fin 4096) (l : Fin 1024), i = ix2 r l := ⟨i 0, i 1, eq_ix2 i⟩
  pointwise [val_main_v31, val_main_v30, val_main_v29]
  refine (o_at (G := G) hx _ _ _).trans ?_
  rfl

/-- The reference's totals. -/
theorem tot_eq (hx : Is2 x0 fun r l => X r l) : val_main_v32 (F := Ideal) x0 = rowsOf X G (fun h r => h.skip r 4096) := by
  funext i
  obtain ⟨n, r, l, rfl⟩ : ∃ (n : Fin 8) (r : Fin 4096) (l : Fin 1), i = ix3 n r l := ⟨i 0, i 1, i 2, eq_ix3 i⟩
  pointwise [val_main_v32, val_main_v28, val_main_cst_2]
  simp only [lk_at (G := G) hx, ← coe_sum]
  rw [Fin.sum_univ_eq_sum_range (fun j => (headOf X G n).lk r j) 4096]
  rfl

end Cert.StickFwdRefIdeal.At
-- ==== Proof.StickFwdClaim.lean ====
/- The claims about the stick-breaking attention's forward call: the frames, and the value of its output and its rows' totals. -/
module

public import proofs.«01_k».proof.Defs
public import proofs.«01_k».proof.Proof.Gen.StickFwd.Frame
public import proofs.«01_k».proof.Proof.StickFwdRef
public import proofs.«01_k».proof.Proof.StickClaim
public import Idealize.ShloMosaic.Lib.Quiescent

@[expose] public section

set_option maxRecDepth 16384

noncomputable section

namespace Cert.StickFwdClaim

open Cert.StickReal Idealize.ShloMosaic Idealize.ShloMosaic.TcCoe Idealize.SL.Sem
open Cert.StickClaim (real_of_abs_lt entry reals)

/-- The side conditions of the precondition's own operations. -/
theorem pre_facts : Cert.Pre_stick_fwd_finite.Facts where
  bcast_S_S4096x3072 := by decide

/-- The argument the precondition admits is an array of reals. -/
theorem arg (m : (ℓ : Loc Cert.StickFwdIdeal.nD Cert.StickFwdIdeal.τ Cert.StickFwdIdeal.sig) → Buf (Elt Ideal) ℓ) (c : Dev Cert.StickFwdIdeal.nD)
    (h : Cert.Pre_StickFwdIdeal_stick_fwd_finite (hPre_stick_fwd_finite := pre_facts) m) :
    Cert.StickFwdIdeal.Final.Arg m c (entry (a := 4096) (b := 3072) (m ((c : Thread Cert.StickFwdIdeal.nD Cert.StickFwdIdeal.τ).loc Cert.StickFwdIdeal.main_arg0))) :=
  reals fun i => real_of_abs_lt (congrFun (h c) i)

/-- The kernel's output and totals and the reference's are the same arrays. -/
theorem value : Cert.algebraic_StickFwdIdeal_StickFwdRefIdeal_pre_stick_fwd_finite
    (hStickFwdIdeal := Cert.StickFwdIdeal.Gen.facts) (hStickFwdRefIdeal := Cert.StickFwdRefIdeal.Gen.facts) (hPre_stick_fwd_finite := pre_facts) := by
  intro m g m' g' hp hm
  have H := fun c => arg m c hp
  refine ⟨_, _, (θ_run Cert.StickFwdIdeal.defs _ _).mono (fun r h c => ⟨(h c).1.trans (Cert.StickFwdIdeal.Final.final_o (G := fun _ _ => 0) (H c)),
    (h c).2.1.trans (Cert.StickFwdIdeal.Final.final_tot (G := fun _ _ => 0) (H c)), (h c).2.2⟩) (Cert.StickFwdIdeal.Value.run_blocks m g), ?_⟩
  refine (θ_run Cert.StickFwdRefIdeal.defs _ _).mono (fun r h c => ⟨?_, ?_, (h c).2.2⟩) (Cert.StickFwdRefIdeal.Value.run m' g')
  · refine (h c).1.trans ((Cert.StickFwdRefIdeal.Read.val_main_v31_eq _ _).trans ?_)
    rw [hm c]
    exact Cert.StickFwdRefIdeal.At.o_eq (H c)
  · refine (h c).2.1.trans ((Cert.StickFwdRefIdeal.Read.val_main_v32_eq _ _).trans ?_)
    rw [hm c]
    exact Cert.StickFwdRefIdeal.At.tot_eq (H c)

/-- The kernel's frame, on words. -/
theorem frame : Cert.quiescent_StickFwd (hStickFwd := Cert.StickFwd.Gen.facts) := fun m ρ _ => Cert.StickFwd.Gen.frame m ρ

/-- The kernel's frame, over the extended reals. -/
theorem frame_ideal : Cert.quiescent_StickFwdIdeal (hStickFwdIdeal := Cert.StickFwdIdeal.Gen.facts) := fun m ρ _ => Cert.StickFwdIdeal.Gen.frame m ρ

/-- The kernel's frame, under the precondition. -/
theorem frame_ideal_pre : Cert.quiescent_StickFwdIdeal_pre_stick_fwd_finite (hStickFwdIdeal := Cert.StickFwdIdeal.Gen.facts) (hPre_stick_fwd_finite := pre_facts) :=
  fun m ρ _ => Cert.StickFwdIdeal.Gen.frame m ρ

/-- The reference's frame. -/
theorem frame_ref : Cert.quiescent_StickFwdRefIdeal (hStickFwdRefIdeal := Cert.StickFwdRefIdeal.Gen.facts) := fun m ρ _ =>
  (θ_run Cert.StickFwdRefIdeal.defs _ _).mono (fun r h => ⟨fun c => (h c).2.2, sem_eq_zero_of_no_sems (by decide) r.2⟩)
    (Cert.StickFwdRefIdeal.Value.run (F := Ideal) m ρ)

/-- The reference's frame, under the precondition. -/
theorem frame_ref_pre : Cert.quiescent_StickFwdRefIdeal_pre_stick_fwd_finite (hStickFwdRefIdeal := Cert.StickFwdRefIdeal.Gen.facts) (hPre_stick_fwd_finite := pre_facts) :=
  fun m ρ _ => frame_ref m ρ trivial

end Cert.StickFwdClaim

end
-- ==== Proof.FfnBlocks.lean ====
/- The feed-forward part's backward call: what one point leaves in its six output blocks. -/
module

public import proofs.«01_k».proof.Proof.Gen.FfnIdeal.Value
public import Idealize.ShloMosaic.Lib.VecWindow
public import Idealize.ShloMosaic.Lib.Pointwise

@[expose] public section

set_option maxRecDepth 16384

noncomputable section

namespace Cert.FfnIdeal.Blocks

open Cert.FfnIdeal Cert.FfnIdeal.Gen Idealize.ShloMosaic Idealize.ShloMosaic.TcCoe Idealize.SL.Sem
open Idealize.ShloMosaic.Pipeline (Dat)

variable {F : FTy → Type} [FloatOps F]

theorem hz2 : (![0, 0] : Fin 2 → Nat) = fun _ => 0 := by decide

/-- Row `k` of a block of eight rows. -/
def rowR (k : Fin 8) (x : Vec F S8x1024 .f32) : Vec F S1x1024 .f32 := fun i => x (ix2 k (i 1))

/-- A load of one row. -/
theorem ld_row (k : ℕ) (x : Vec F S8x1024 .f32) (inb : ∀ a, (![k, 0] : Fin 2 → Nat) a + (![1, 1024] : Fin 2 → Nat) a ≤ S8x1024.size a) :
    View.ld x (Rect.unit (s := S8x1024) ![k, 0] ![1, 1024] inb) = rowR ⟨k, Nat.lt_of_succ_le (inb 0)⟩ x := by
  funext i
  refine congrArg x (funext fun a => Fin.ext ?_)
  have h0 : (i 0).val < 1 := (i 0).isLt
  match a with
  | ⟨0, _⟩ => show k + 1 * (i 0).val = k; omega
  | ⟨1, _⟩ => show 0 + 1 * (i 1).val = (i 1).val; omega

/-- Half of the devices' weight rows. -/
def half (k : ℕ) (hk : k + 4 ≤ 8) (x : Vec F S8x1x352x1024 .bf16) : Vec F S4x1x352x1024 .bf16 := fun i =>
  x (ix4 ⟨k + (i 0).val, by have : (i 0).val < 4 := (i 0).isLt; omega⟩ 0 (i 2) (i 3))

theorem ld_half (k : ℕ) (x : Vec F S8x1x352x1024 .bf16)
    (inb : ∀ a, (![k, 0, 0, 0] : Fin 4 → Nat) a + (![4, 1, 352, 1024] : Fin 4 → Nat) a ≤ S8x1x352x1024.size a) :
    View.ld x (Rect.unit (s := S8x1x352x1024) ![k, 0, 0, 0] ![4, 1, 352, 1024] inb) = half k (inb 0) x := by
  funext i
  refine congrArg x (funext fun a => Fin.ext ?_)
  have h1 : (i 1).val < 1 := (i 1).isLt
  match a with
  | ⟨0, _⟩ => show k + 1 * (i 0).val = k + (i 0).val; omega
  | ⟨1, _⟩ => show 0 + 1 * (i 1).val = 0; omega
  | ⟨2, _⟩ => show 0 + 1 * (i 2).val = (i 2).val; omega
  | ⟨3, _⟩ => show 0 + 1 * (i 3).val = (i 3).val; omega

/-- A quarter of the columns of the saved pre-activations. -/
def cols (k : ℕ) (hk : k + 1408 ≤ 5632) (x : Vec F S256x5632 .f32) : Vec F S256x1408 .f32 := fun i =>
  x (ix2 (i 0) ⟨k + (i 1).val, by have : (i 1).val < 1408 := (i 1).isLt; omega⟩)

theorem ld_cols (k : ℕ) (x : Vec F S256x5632 .f32)
    (inb : ∀ a, (![0, k] : Fin 2 → Nat) a + (![256, 1408] : Fin 2 → Nat) a ≤ S256x5632.size a) :
    View.ld x (Rect.unit (s := S256x5632) ![0, k] ![256, 1408] inb) = cols k (inb 1) x := by
  funext i
  refine congrArg x (funext fun a => Fin.ext ?_)
  match a with
  | ⟨0, _⟩ => show 0 + 1 * (i 0).val = (i 0).val; omega
  | ⟨1, _⟩ => show k + 1 * (i 1).val = k + (i 1).val; omega

/-- A block of rows with row `k` replaced. -/
def putR (k : ℕ) (x : Vec F S8x1024 .f32) (w : Vec F S1x1024 .f32) : Vec F S8x1024 .f32 := VecWindow.put x ![k, 0] S1x1024.size w

theorem read_row {sig : RefSig} {κ : Kind} {sp : Space} (v : View sig κ sp S8x1024 .f32) (k : ℕ) (b : v.ty.Contents (Elt F)) (L : List (View.Piece (Elt F) S8x1024 .f32))
    (inb : ∀ a, (![k, 0] : Fin 2 → Nat) a + (![1, 1024] : Fin 2 → Nat) a ≤ S8x1024.size a) (w : Vec F S1x1024 .f32) :
    v.read (Elt F) (v.writes (Elt F) b ((⟨Rect.unit (s := S8x1024) ![k, 0] ![1, 1024] inb, w⟩ : View.Piece (Elt F) S8x1024 .f32) :: L))
      = putR k (v.read (Elt F) (v.writes (Elt F) b L)) w :=
  View.read_writes_cons_put _ _ _ _ _ (rfl : (![k, 0] : Fin 2 → ℕ) = ![k, 0])

/-- A store of the whole block of rows. -/
theorem read_full8 {sig : RefSig} {κ : Kind} {sp : Space} (v : View sig κ sp S8x1024 .f32) (b : v.ty.Contents (Elt F)) (L : List (View.Piece (Elt F) S8x1024 .f32))
    (inb : ∀ a, (![0, 0] : Fin 2 → Nat) a + (![8, 1024] : Fin 2 → Nat) a ≤ S8x1024.size a) (w : Vec F S8x1024 .f32) :
    v.read (Elt F) (v.writes (Elt F) b ((⟨Rect.unit (s := S8x1024) ![0, 0] ![8, 1024] inb, w⟩ : View.Piece (Elt F) S8x1024 .f32) :: L)) = w :=
  View.read_writes_full v b (s := S8x1024) inb w L

/-- A store of some columns, of the block of gated products or of the block of pre-activation gradients. -/
def putS (k : ℕ) (x : Vec F S256x2816 .bf16) (w : Vec F S256x1408 .bf16) : Vec F S256x2816 .bf16 := VecWindow.put x ![0, k] S256x1408.size w
def putD (k : ℕ) (x : Vec F S256x5632 .bf16) (w : Vec F S256x1408 .bf16) : Vec F S256x5632 .bf16 := VecWindow.put x ![0, k] S256x1408.size w

theorem read_colS {sig : RefSig} {κ : Kind} {sp : Space} (v : View sig κ sp S256x2816 .bf16) (k : ℕ) (b : v.ty.Contents (Elt F)) (L : List (View.Piece (Elt F) S256x2816 .bf16))
    (inb : ∀ a, (![0, k] : Fin 2 → Nat) a + (![256, 1408] : Fin 2 → Nat) a ≤ S256x2816.size a) (w : Vec F S256x1408 .bf16) :
    v.read (Elt F) (v.writes (Elt F) b ((⟨Rect.unit (s := S256x2816) ![0, k] ![256, 1408] inb, w⟩ : View.Piece (Elt F) S256x2816 .bf16) :: L))
      = putS k (v.read (Elt F) (v.writes (Elt F) b L)) w :=
  View.read_writes_cons_put _ _ _ _ _ (rfl : (![0, k] : Fin 2 → ℕ) = ![0, k])

theorem read_colD {sig : RefSig} {κ : Kind} {sp : Space} (v : View sig κ sp S256x5632 .bf16) (k : ℕ) (b : v.ty.Contents (Elt F)) (L : List (View.Piece (Elt F) S256x5632 .bf16))
    (inb : ∀ a, (![0, k] : Fin 2 → Nat) a + (![256, 1408] : Fin 2 → Nat) a ≤ S256x5632.size a) (w : Vec F S256x1408 .bf16) :
    v.read (Elt F) (v.writes (Elt F) b ((⟨Rect.unit (s := S256x5632) ![0, k] ![256, 1408] inb, w⟩ : View.Piece (Elt F) S256x5632 .bf16) :: L))
      = putD k (v.read (Elt F) (v.writes (Elt F) b L)) w :=
  View.read_writes_cons_put _ _ _ _ _ (rfl : (![0, k] : Fin 2 → ℕ) = ![0, k])

section
variable (x0 x1 x3 : Vec F S256x1024 .f32) (x2 : Vec F S256x5632 .f32) (x4 : Vec F S8x1024 .f32) (x5 x6 x7 : Vec F S8x1x352x1024 .bf16)

/-- The kernel's values at one point, by name: the two halves of the pre-activations, the gated cotangent, the halves' gradients, and
the gradient of the modulated rows. -/
abbrev a0 : Vec F S256x1408 .f32 := cols 0 (by decide) x2
abbrev a1 : Vec F S256x1408 .f32 := cols 1408 (by decide) x2
abbrev b0 : Vec F S256x1408 .f32 := cols 2816 (by decide) x2
abbrev b1 : Vec F S256x1408 .f32 := cols 4224 (by decide) x2
abbrev lo (x : Vec F S8x1x352x1024 .bf16) : Vec F S4x1x352x1024 .bf16 := half 0 (by decide) x
abbrev hi (x : Vec F S8x1x352x1024 .bf16) : Vec F S4x1x352x1024 .bf16 := half 4 (by decide) x
abbrev dfB : FVec F S256x1024 .bf16 := k0_pay7 (rowR 5 x4) x3
abbrev daLo : FVec F S256x1408 .bf16 := k0_pay17 (dfB x3 x4) (a0 x2) (b0 x2) (lo x7)
abbrev dbLo : FVec F S256x1408 .bf16 := k0_pay18 (dfB x3 x4) (a0 x2) (lo x7)
abbrev dsHi : FVec F S256x1408 .f32 := k0_pay27 (dfB x3 x4) (hi x7)
abbrev daHi : FVec F S256x1408 .bf16 := k0_pay28 (k0_pay22 (a1 x2)) (k0_pay23 (b1 x2)) (k0_pay24 (a1 x2)) (dsHi x3 x4 x7)
abbrev dbHi : FVec F S256x1408 .bf16 := k0_pay29 (k0_pay25 (a1 x2)) (dsHi x3 x4 x7)
abbrev dhLo : FVec F S256x1024 .f32 := k0_pay19 k0_pay8 (k0_pay9 (lo x5)) (k0_pay10 (lo x6)) (daLo x3 x2 x4 x7) (dbLo x3 x2 x4 x7)
abbrev dshB : FVec F S1x1024 .f32 := k0_pay31 (dhLo x3 x2 x4 x5 x6 x7) (k0_pay20 (hi x5)) (k0_pay21 (hi x6)) (k0_pay22 (a1 x2)) (k0_pay23 (b1 x2)) (k0_pay24 (a1 x2)) (k0_pay25 (a1 x2)) (dsHi x3 x4 x7)
abbrev dscB : FVec F S1x1024 .f32 := k0_pay32 (k0_pay2 (rowR 7 x4)) (k0_pay5 x0) (dhLo x3 x2 x4 x5 x6 x7) (k0_pay20 (hi x5)) (k0_pay21 (hi x6)) (k0_pay22 (a1 x2)) (k0_pay23 (b1 x2)) (k0_pay24 (a1 x2)) (k0_pay25 (a1 x2)) (dsHi x3 x4 x7)
abbrev dgB : FVec F S1x1024 .f32 := k0_pay33 (k0_pay3 (rowR 4 x4)) (k0_pay5 x0) (dhLo x3 x2 x4 x5 x6 x7) (k0_pay20 (hi x5)) (k0_pay21 (hi x6)) (k0_pay22 (a1 x2)) (k0_pay23 (b1 x2)) (k0_pay24 (a1 x2)) (k0_pay25 (a1 x2)) (dsHi x3 x4 x7)
abbrev dnB : FVec F S256x1024 .f32 := k0_pay34 (k0_pay2 (rowR 7 x4)) (k0_pay3 (rowR 4 x4)) (dhLo x3 x2 x4 x5 x6 x7) (k0_pay20 (hi x5)) (k0_pay21 (hi x6)) (k0_pay22 (a1 x2)) (k0_pay23 (b1 x2)) (k0_pay24 (a1 x2)) (k0_pay25 (a1 x2)) (dsHi x3 x4 x7)
abbrev meanB : FVec F S256x1024 .f32 := k0_pay35 (k0_pay2 (rowR 7 x4)) (k0_pay3 (rowR 4 x4)) (k0_pay5 x0) (dhLo x3 x2 x4 x5 x6 x7) (k0_pay20 (hi x5)) (k0_pay21 (hi x6)) (k0_pay22 (a1 x2)) (k0_pay23 (b1 x2)) (k0_pay24 (a1 x2)) (k0_pay25 (a1 x2)) (dsHi x3 x4 x7)
abbrev dxB : FVec F S256x1024 .f32 := k0_pay36 (k0_pay4 x0) x3 (dnB x3 x2 x4 x5 x6 x7) (meanB x0 x3 x2 x4 x5 x6 x7)

/-- One point's update of the running row sums. -/
def sgStep (s : Vec F S8x1024 .f32) : Vec F S8x1024 .f32 :=
  let s0 := putR 0 s (k0_pay37 (dshB x3 x2 x4 x5 x6 x7) (rowR 0 s))
  let s1 := putR 1 s0 (k0_pay38 (dscB x0 x3 x2 x4 x5 x6 x7) (rowR 1 s0))
  let s2 := putR 2 s1 (k0_pay39 x3 (rowR 2 s1) x1)
  putR 3 s2 (k0_pay40 (dgB x0 x3 x2 x4 x5 x6 x7) (rowR 3 s2))
end

section
variable (c : Dev nD) (i : grid0.Coords) (v1 : Memref sig .tc .vmem S256x1024 .f32) (h1 : v1.IsWhole) (v2 : Memref sig .tc .vmem S256x1024 .f32) (h2 : v2.IsWhole)
    (v3 : Memref sig .tc .vmem S256x5632 .f32) (h3 : v3.IsWhole) (v4 : Memref sig .tc .vmem S256x1024 .f32) (h4 : v4.IsWhole)
    (v5 : Memref sig .tc .vmem S8x1024 .f32) (h5 : v5.IsWhole) (v6 : Memref sig .tc .vmem S8x1x352x1024 .bf16) (h6 : v6.IsWhole)
    (v7 : Memref sig .tc .vmem S8x1x352x1024 .bf16) (h7 : v7.IsWhole) (v8 : Memref sig .tc .vmem S8x1x352x1024 .bf16) (h8 : v8.IsWhole)
    (v9 : Memref sig .tc .vmem S256x1024 .f32) (h9 : v9.IsWhole) (v10 : Memref sig .tc .vmem S256x5632 .bf16) (h10 : v10.IsWhole)
    (v11 : Memref sig .tc .vmem S256x1024 .bf16) (h11 : v11.IsWhole) (v12 : Memref sig .tc .vmem S256x2816 .bf16) (h12 : v12.IsWhole)
    (v13 : Memref sig .tc .vmem S256x1024 .bf16) (h13 : v13.IsWhole) (v14 : Memref sig .tc .vmem S8x1024 .f32) (h14 : v14.IsWhole)
    (x0 : Vec F S256x1024 .f32) (x1 : Vec F S256x1024 .f32) (x2 : Vec F S256x5632 .f32) (x3 : Vec F S256x1024 .f32) (x4 : Vec F S8x1024 .f32)
    (x5 x6 x7 : Vec F S8x1x352x1024 .bf16)

theorem dx_A (hc : cond0_0 i) :
    out0_A_8 c i v1 h1 v2 h2 v3 h3 v4 h4 v5 h5 v6 h6 v7 h7 v8 h8 v9 h9 v10 h10 v11 h11 v12 h12 v13 h13 v14 h14 hc x0 x1 x2 x3 x4 x5 x6 x7 = dxB x0 x3 x2 x4 x5 x6 x7 := by
  unfold out0_A_8 kernelRun0_A
  dsimp only
  sl_unfold_words
  rw [View.read_writes_full VO0_8]
  simp only [View.readAt_eq_ld, h1.read_unread, h2.read_unread, h3.read_unread, h4.read_unread, h5.read_unread, h6.read_unread, h7.read_unread, h8.read_unread,
    View.ld_unit_zero (S := S256x1024) hz2, ld_row, ld_half, ld_cols]
  rfl

theorem h_A (hc : cond0_0 i) :
    out0_A_10 c i v1 h1 v2 h2 v3 h3 v4 h4 v5 h5 v6 h6 v7 h7 v8 h8 v9 h9 v10 h10 v11 h11 v12 h12 v13 h13 v14 h14 hc x0 x1 x2 x3 x4 x5 x6 x7 = k0_pay6 x0 (rowR 7 x4) (rowR 4 x4) (rowR 3 x4) := by
  unfold out0_A_10 kernelRun0_A
  dsimp only
  sl_unfold_words
  rw [View.read_writes_full VO0_10]
  simp only [View.readAt_eq_ld, h1.read_unread, h2.read_unread, h3.read_unread, h4.read_unread, h5.read_unread, h6.read_unread, h7.read_unread, h8.read_unread,
    View.ld_unit_zero (S := S256x1024) hz2, ld_row, ld_half, ld_cols]
  rfl

theorem df_A (hc : cond0_0 i) :
    out0_A_12 c i v1 h1 v2 h2 v3 h3 v4 h4 v5 h5 v6 h6 v7 h7 v8 h8 v9 h9 v10 h10 v11 h11 v12 h12 v13 h13 v14 h14 hc x0 x1 x2 x3 x4 x5 x6 x7 = dfB x3 x4 := by
  unfold out0_A_12 kernelRun0_A
  dsimp only
  sl_unfold_words
  rw [View.read_writes_full VO0_12]
  simp only [View.readAt_eq_ld, h1.read_unread, h2.read_unread, h3.read_unread, h4.read_unread, h5.read_unread, h6.read_unread, h7.read_unread, h8.read_unread,
    View.ld_unit_zero (S := S256x1024) hz2, ld_row, ld_half, ld_cols]
  rfl

theorem s_A (hc : cond0_0 i) :
    out0_A_11 c i v1 h1 v2 h2 v3 h3 v4 h4 v5 h5 v6 h6 v7 h7 v8 h8 v9 h9 v10 h10 v11 h11 v12 h12 v13 h13 v14 h14 hc x0 x1 x2 x3 x4 x5 x6 x7 = putS 1408 (putS 0 (VO0_11.read (Elt F) VO0_11.junk) (k0_pay15 (a0 x2) (b0 x2))) (k0_pay26 (a1 x2) (b1 x2)) := by
  unfold out0_A_11 kernelRun0_A
  dsimp only
  sl_unfold_words
  simp only [read_colS, View.writes_nil]
  simp only [View.readAt_eq_ld, h1.read_unread, h2.read_unread, h3.read_unread, h4.read_unread, h5.read_unread, h6.read_unread, h7.read_unread, h8.read_unread,
    View.ld_unit_zero (S := S256x1024) hz2, ld_row, ld_half, ld_cols]

theorem dab_A (hc : cond0_0 i) :
    out0_A_9 c i v1 h1 v2 h2 v3 h3 v4 h4 v5 h5 v6 h6 v7 h7 v8 h8 v9 h9 v10 h10 v11 h11 v12 h12 v13 h13 v14 h14 hc x0 x1 x2 x3 x4 x5 x6 x7 = putD 4224 (putD 1408 (putD 2816 (putD 0 (VO0_9.read (Elt F) VO0_9.junk) (daLo x3 x2 x4 x7)) (dbLo x3 x2 x4 x7)) (daHi x3 x2 x4 x7)) (dbHi x3 x2 x4 x7) := by
  unfold out0_A_9 kernelRun0_A
  dsimp only
  sl_unfold_words
  simp only [read_colD, View.writes_nil]
  simp only [View.readAt_eq_ld, h1.read_unread, h2.read_unread, h3.read_unread, h4.read_unread, h5.read_unread, h6.read_unread, h7.read_unread, h8.read_unread,
    View.ld_unit_zero (S := S256x1024) hz2, ld_row, ld_half, ld_cols]
  rfl

theorem dx_B (hc : ¬cond0_0 i) (xo : Vec F S8x1024 .f32) :
    out0_B_8 c i v1 h1 v2 h2 v3 h3 v4 h4 v5 h5 v6 h6 v7 h7 v8 h8 v9 h9 v10 h10 v11 h11 v12 h12 v13 h13 v14 h14 hc x0 x1 x2 x3 x4 x5 x6 x7 xo = dxB x0 x3 x2 x4 x5 x6 x7 := by
  unfold out0_B_8 kernelRun0_B
  dsimp only
  sl_unfold_words
  rw [View.read_writes_full VO0_8]
  simp only [View.readAt_eq_ld, h1.read_unread, h2.read_unread, h3.read_unread, h4.read_unread, h5.read_unread, h6.read_unread, h7.read_unread, h8.read_unread,
    View.ld_unit_zero (S := S256x1024) hz2, ld_row, ld_half, ld_cols]
  rfl

theorem h_B (hc : ¬cond0_0 i) (xo : Vec F S8x1024 .f32) :
    out0_B_10 c i v1 h1 v2 h2 v3 h3 v4 h4 v5 h5 v6 h6 v7 h7 v8 h8 v9 h9 v10 h10 v11 h11 v12 h12 v13 h13 v14 h14 hc x0 x1 x2 x3 x4 x5 x6 x7 xo = k0_pay6 x0 (rowR 7 x4) (rowR 4 x4) (rowR 3 x4) := by
  unfold out0_B_10 kernelRun0_B
  dsimp only
  sl_unfold_words
  rw [View.read_writes_full VO0_10]
  simp only [View.readAt_eq_ld, h1.read_unread, h2.read_unread, h3.read_unread, h4.read_unread, h5.read_unread, h6.read_unread, h7.read_unread, h8.read_unread,
    View.ld_unit_zero (S := S256x1024) hz2, ld_row, ld_half, ld_cols]
  rfl

theorem df_B (hc : ¬cond0_0 i) (xo : Vec F S8x1024 .f32) :
    out0_B_12 c i v1 h1 v2 h2 v3 h3 v4 h4 v5 h5 v6 h6 v7 h7 v8 h8 v9 h9 v10 h10 v11 h11 v12 h12 v13 h13 v14 h14 hc x0 x1 x2 x3 x4 x5 x6 x7 xo = dfB x3 x4 := by
  unfold out0_B_12 kernelRun0_B
  dsimp only
  sl_unfold_words
  rw [View.read_writes_full VO0_12]
  simp only [View.readAt_eq_ld, h1.read_unread, h2.read_unread, h3.read_unread, h4.read_unread, h5.read_unread, h6.read_unread, h7.read_unread, h8.read_unread,
    View.ld_unit_zero (S := S256x1024) hz2, ld_row, ld_half, ld_cols]
  rfl

theorem s_B (hc : ¬cond0_0 i) (xo : Vec F S8x1024 .f32) :
    out0_B_11 c i v1 h1 v2 h2 v3 h3 v4 h4 v5 h5 v6 h6 v7 h7 v8 h8 v9 h9 v10 h10 v11 h11 v12 h12 v13 h13 v14 h14 hc x0 x1 x2 x3 x4 x5 x6 x7 xo = putS 1408 (putS 0 (VO0_11.read (Elt F) VO0_11.junk) (k0_pay15 (a0 x2) (b0 x2))) (k0_pay26 (a1 x2) (b1 x2)) := by
  unfold out0_B_11 kernelRun0_B
  dsimp only
  sl_unfold_words
  simp only [read_colS, View.writes_nil]
  simp only [View.readAt_eq_ld, h1.read_unread, h2.read_unread, h3.read_unread, h4.read_unread, h5.read_unread, h6.read_unread, h7.read_unread, h8.read_unread,
    View.ld_unit_zero (S := S256x1024) hz2, ld_row, ld_half, ld_cols]

theorem dab_B (hc : ¬cond0_0 i) (xo : Vec F S8x1024 .f32) :
    out0_B_9 c i v1 h1 v2 h2 v3 h3 v4 h4 v5 h5 v6 h6 v7 h7 v8 h8 v9 h9 v10 h10 v11 h11 v12 h12 v13 h13 v14 h14 hc x0 x1 x2 x3 x4 x5 x6 x7 xo = putD 4224 (putD 1408 (putD 2816 (putD 0 (VO0_9.read (Elt F) VO0_9.junk) (daLo x3 x2 x4 x7)) (dbLo x3 x2 x4 x7)) (daHi x3 x2 x4 x7)) (dbHi x3 x2 x4 x7) := by
  unfold out0_B_9 kernelRun0_B
  dsimp only
  sl_unfold_words
  simp only [read_colD, View.writes_nil]
  simp only [View.readAt_eq_ld, h1.read_unread, h2.read_unread, h3.read_unread, h4.read_unread, h5.read_unread, h6.read_unread, h7.read_unread, h8.read_unread,
    View.ld_unit_zero (S := S256x1024) hz2, ld_row, ld_half, ld_cols]
  rfl

theorem sg_A (hc : cond0_0 i) :
    out0_A_13 c i v1 h1 v2 h2 v3 h3 v4 h4 v5 h5 v6 h6 v7 h7 v8 h8 v9 h9 v10 h10 v11 h11 v12 h12 v13 h13 v14 h14 hc x0 x1 x2 x3 x4 x5 x6 x7 = sgStep x0 x1 x3 x2 x4 x5 x6 x7 (k0_pay1 (F := F)) := by
  unfold out0_A_13 kernelRun0_A
  dsimp only
  sl_unfold_words
  simp only [View.readCov, View.readAt_eq_ld, read_row, read_full8]
  simp only [View.readAt_eq_ld, h1.read_unread, h2.read_unread, h3.read_unread, h4.read_unread, h5.read_unread, h6.read_unread, h7.read_unread, h8.read_unread,
    View.ld_unit_zero (S := S256x1024) hz2, ld_row, ld_half, ld_cols]
  rfl

theorem sg_B (hc : ¬cond0_0 i) (xo : Vec F S8x1024 .f32) :
    out0_B_13 c i v1 h1 v2 h2 v3 h3 v4 h4 v5 h5 v6 h6 v7 h7 v8 h8 v9 h9 v10 h10 v11 h11 v12 h12 v13 h13 v14 h14 hc x0 x1 x2 x3 x4 x5 x6 x7 xo = sgStep x0 x1 x3 x2 x4 x5 x6 x7 xo := by
  unfold out0_B_13 kernelRun0_B
  dsimp only
  sl_unfold_words
  simp only [View.readAt_eq_ld, read_row, View.writes_nil, h14.read_unread]
  simp only [View.readAt_eq_ld, h1.read_unread, h2.read_unread, h3.read_unread, h4.read_unread, h5.read_unread, h6.read_unread, h7.read_unread, h8.read_unread,
    View.ld_unit_zero (S := S256x1024) hz2, ld_row, ld_half, ld_cols]
  rfl

end

end Cert.FfnIdeal.Blocks

end
-- ==== Proof.FfnReal.lean ====
/- The feed-forward part over the reals: the forward values and the gradients of one call, and the steps that carry real values through
the extended reals. -/
module

public import proofs.«01_k».proof.Proof.StickReal

@[expose] public section

noncomputable section

namespace Cert.FfnReal

open Idealize.ShloMosaic

/-- The norm's added constant: the single-precision word nearest to one millionth. -/
def eps : ℝ := 8796093 / 8796093022208

/-- The constants' words. -/
theorem eps_word : Ideal.ofBits FTy.f32 0x358637BD#32 = ((eps : ℝ) : EReal) := by
  rw [eps]; simp [Ideal.ofBits, Ideal.ieee]; rw [← EReal.coe_mul]; norm_num

theorem word1024 : Ideal.ofBits FTy.f32 0x44800000#32 = ((1024 : ℝ) : EReal) := by
  simp [Ideal.ofBits, Ideal.ieee]; rw [← EReal.coe_mul]; norm_num

theorem word_half : Ideal.ofBits FTy.f32 0xBF000000#32 = ((-(1 / 2) : ℝ) : EReal) := by
  simp [Ideal.ofBits, Ideal.ieee]; rw [← EReal.coe_mul]; norm_num

/-- A row's mean square with the constant added, and its inverse root. -/
def ms (x : Fin 1024 → ℝ) : ℝ := (∑ l, x l * x l) / 1024 + eps
def rs (x : Fin 1024 → ℝ) : ℝ := (Real.sqrt (ms x))⁻¹

theorem ms_pos (x : Fin 1024 → ℝ) : 0 < ms x :=
  add_pos_of_nonneg_of_pos (div_nonneg (Finset.sum_nonneg fun l _ => mul_self_nonneg (x l)) (by norm_num)) (by unfold eps; norm_num)

theorem rsqrt_ms (x : Fin 1024 → ℝ) : Ideal.rsqrt (((∑ l, x l * x l) / 1024 + eps : ℝ) : EReal) = ((rs x : ℝ) : EReal) := by
  have h := ms_pos x
  rw [Ideal.rsqrt_coe, ← ms, if_neg (not_lt.mpr h.le), if_neg h.ne', rs]

/-- The inverse root over the mean square itself. -/
theorem rs_div (x : Fin 1024 → ℝ) : rs x / ms x = rs x * rs x * rs x := by
  have h := ms_pos x
  have e : rs x * rs x = (ms x)⁻¹ := by rw [rs, ← mul_inv, Real.mul_self_sqrt h.le]
  rw [mul_assoc, e, div_eq_mul_inv]

theorem div_ms (x : Fin 1024 → ℝ) (y : ℝ) : Ideal.div (y : EReal) (((∑ l, x l * x l) / 1024 + eps : ℝ) : EReal) = ((y / ms x : ℝ) : EReal) := by
  rw [← ms, Ideal.div_coe (ms_pos x).ne', ← EReal.coe_mul, mul_one_div]

theorem div_1024 (x : ℝ) : Ideal.div (x : EReal) ((1024 : ℝ) : EReal) = ((x / 1024 : ℝ) : EReal) := by
  rw [Ideal.div_coe (by norm_num), ← EReal.coe_mul, mul_one_div]

/-- The logistic function. -/
def sg (z : ℝ) : ℝ := 1 / (1 + Real.exp (-z))

theorem sg_coe (z : ℝ) : Ideal.div ((1 : ℝ) : EReal) ((1 + Real.exp (-z) : ℝ) : EReal) = ((sg z : ℝ) : EReal) := by
  rw [Ideal.div_coe (by positivity), ← EReal.coe_mul, one_mul, sg]

theorem sg_coe' (z : ℝ) : Ideal.div ((1 : ℝ) : EReal) ((1 + Real.exp (0 - z) : ℝ) : EReal) = ((sg z : ℝ) : EReal) := by
  rw [zero_sub, sg_coe]

/-- One call's arguments: the rows and their cotangents, the shift, scale, gate and gain rows, and the three weights. -/
structure Par where
  x : Fin 4096 → Fin 1024 → ℝ
  d : Fin 4096 → Fin 1024 → ℝ
  sh : Fin 1024 → ℝ
  sc : Fin 1024 → ℝ
  g2 : Fin 1024 → ℝ
  g : Fin 1024 → ℝ
  wg : Fin 1024 → Fin 2816 → ℝ
  wu : Fin 1024 → Fin 2816 → ℝ
  wd : Fin 2816 → Fin 1024 → ℝ

variable (P : Par) (r : Fin 4096)

/-- Forward: the normed row, the modulated row, the two pre-activations, their gated product, and the projected product. -/
def n (l : Fin 1024) : ℝ := P.x r l * rs (P.x r)
def h (l : Fin 1024) : ℝ := n P r l * P.g l * (1 + P.sc l) + P.sh l
def a (j : Fin 2816) : ℝ := ∑ l, h P r l * P.wg l j
def b (j : Fin 2816) : ℝ := ∑ l, h P r l * P.wu l j
def s (j : Fin 2816) : ℝ := a P r j * sg (a P r j) * b P r j
def f (l : Fin 1024) : ℝ := ∑ j, s P r j * P.wd j l

/-- Backward: the gated cotangent, the gated product's gradient, the pre-activations' gradients, the modulated row's gradient, the normed
row's, and the row's own. -/
def df (l : Fin 1024) : ℝ := P.g2 l * P.d r l
def ds (j : Fin 2816) : ℝ := ∑ l, df P r l * P.wd j l
def da (j : Fin 2816) : ℝ := ds P r j * b P r j * (sg (a P r j) * (1 + a P r j * (1 - sg (a P r j))))
def db (j : Fin 2816) : ℝ := ds P r j * (a P r j * sg (a P r j))
def dh (l : Fin 1024) : ℝ := ∑ j, (da P r j * P.wg l j + db P r j * P.wu l j)
def dn (l : Fin 1024) : ℝ := dh P r l * P.g l * (1 + P.sc l)
def dx (l : Fin 1024) : ℝ := P.d r l + rs (P.x r) * (dn P r l - n P r l * ((∑ k, dn P r k * n P r k) / 1024))

/-- One row's share of the modulation rows' and the gain's gradient. -/
def term (k : Fin 8) (l : Fin 1024) : ℝ :=
  if k.val = 0 then dh P r l else if k.val = 1 then dh P r l * (n P r l * P.g l)
  else if k.val = 2 then P.d r l * f P r l else if k.val = 3 then dh P r l * n P r l * (1 + P.sc l) else 0

/-- The six arrays. -/
abbrev Mat (a b : ℕ) : Type := (⟨2, ![a, b]⟩ : Shape).Idx → EReal
def dxArr : Mat 4096 1024 := fun i => ((dx P (i 0) (i 1) : ℝ) : EReal)
def dabArr : Mat 4096 5632 := fun i => ((if h : (i 1).val < 2816 then da P (i 0) ⟨(i 1).val, h⟩
  else db P (i 0) ⟨(i 1).val - 2816, by have : (i 1).val < 5632 := (i 1).isLt; omega⟩ : ℝ) : EReal)
def hArr : Mat 4096 1024 := fun i => ((h P (i 0) (i 1) : ℝ) : EReal)
def sArr : Mat 4096 2816 := fun i => ((s P (i 0) (i 1) : ℝ) : EReal)
def dfArr : Mat 4096 1024 := fun i => ((df P (i 0) (i 1) : ℝ) : EReal)
def sgArr : Mat 8 1024 := fun i => ((∑ r, term P r (i 0) (i 1) : ℝ) : EReal)

theorem dabArr_a (j : Fin 2816) : dabArr P (ix2 r ⟨j.val, by omega⟩) = ((da P r j : ℝ) : EReal) :=
  congrArg (fun x : ℝ => (x : EReal)) (dif_pos j.isLt)

theorem dabArr_b (j : Fin 2816) : dabArr P (ix2 r ⟨2816 + j.val, by omega⟩) = ((db P r j : ℝ) : EReal) :=
  congrArg (fun x : ℝ => (x : EReal)) ((dif_neg (by show ¬2816 + j.val < 2816; omega)).trans
    (congrArg (db P r) (Fin.ext (by show 2816 + j.val - 2816 = j.val; omega))))

/-- A column of the two pre-activations is a column of one of them. -/
theorem col_cases (j : Fin 5632) : (∃ q : Fin 2816, j = ⟨q.val, by omega⟩) ∨ ∃ q : Fin 2816, j = ⟨2816 + q.val, by omega⟩ := by
  by_cases h : j.val < 2816
  · exact .inl ⟨⟨j.val, h⟩, rfl⟩
  · exact .inr ⟨⟨j.val - 2816, by omega⟩, Fin.ext (by show j.val = 2816 + (j.val - 2816); omega)⟩

end Cert.FfnReal

end
-- ==== Proof.FfnPoint.lean ====
/- The feed-forward part's backward call: one point's values over the reals. -/
module

public import proofs.«01_k».proof.Proof.FfnBlocks
public import proofs.«01_k».proof.Proof.FfnReal

@[expose] public section

set_option maxRecDepth 16384

noncomputable section

namespace Cert.FfnIdeal.Blocks

open Cert.FfnIdeal Cert.FfnIdeal.Gen Idealize.ShloMosaic Idealize.ShloMosaic.TcCoe Idealize.SL.Sem
open Cert.StickReal (coe_sum)
open Cert.FfnReal (rs sg rsqrt_ms div_1024 sg_coe' eps_word word1024)

theorem pay4_real (v : Vec Ideal S256x1024 .f32) (x : Fin 256 → Fin 1024 → ℝ) (hv : ∀ r l, (v : S256x1024.Idx → EReal) (ix2 r l) = ((x r l : ℝ) : EReal)) (r : Fin 256) :
    (k0_pay4 (F := Ideal) v : S256x1.Idx → EReal) (ix2 r 0) = ((rs (x r) : ℝ) : EReal) := by
  pointwise [k0_pay4]
  simp only [hv, eps_word, word1024, ← EReal.coe_mul, ← EReal.coe_add, ← coe_sum, div_1024, rsqrt_ms]

theorem pay13_real (v : Vec Ideal S256x1408 .f32) (z : ℝ) (r : Fin 256) (j : Fin 1408) (hv : (v : S256x1408.Idx → EReal) (ix2 r j) = ((z : ℝ) : EReal)) :
    (k0_pay13 (F := Ideal) v : S256x1408.Idx → EReal) (ix2 r j) = ((sg z : ℝ) : EReal) := by
  pointwise [k0_pay13, k0_pay11]
  simp only [hv, ← EReal.coe_one, ← EReal.coe_zero, ← EReal.coe_sub, ← EReal.coe_add, Ideal.exp_coe, sg_coe']

theorem pay9_apply (v : Vec Ideal S4x1x352x1024 .bf16) (a : Fin 4) (b : Fin 352) (l : Fin 1024) :
    (k0_pay9 (F := Ideal) v : S1408x1024.Idx → EReal) (ix2 ⟨a.val * 352 + b.val, by omega⟩ l) = v (ix4 a 0 b l) := by
  pointwise [k0_pay9]

theorem pay16_apply (d : Vec Ideal S256x1024 .bf16) (v : Vec Ideal S4x1x352x1024 .bf16) (r : Fin 256) (a : Fin 4) (b : Fin 352) :
    (k0_pay16 (F := Ideal) d v : S256x1408.Idx → EReal) (ix2 r ⟨a.val * 352 + b.val, by omega⟩) = ∑ l : Fin 1024, d (ix2 r l) * v (ix4 a 0 b l) := by
  pointwise [k0_pay16]

theorem pay24_real (v : Vec Ideal S256x1408 .f32) (z : ℝ) (r : Fin 256) (j : Fin 1408) (hv : (v : S256x1408.Idx → EReal) (ix2 r j) = ((z : ℝ) : EReal)) :
    (k0_pay24 (F := Ideal) v : S256x1408.Idx → EReal) (ix2 r j) = ((sg z : ℝ) : EReal) := by
  pointwise [k0_pay24, k0_pay22]
  simp only [hv, ← EReal.coe_one, ← EReal.coe_zero, ← EReal.coe_sub, ← EReal.coe_add, Ideal.exp_coe, sg_coe']

theorem pay10_apply (v : Vec Ideal S4x1x352x1024 .bf16) (a : Fin 4) (b : Fin 352) (l : Fin 1024) :
    (k0_pay10 (F := Ideal) v : S1408x1024.Idx → EReal) (ix2 ⟨a.val * 352 + b.val, by omega⟩ l) = v (ix4 a 0 b l) := by
  pointwise [k0_pay10]

theorem pay20_apply (v : Vec Ideal S4x1x352x1024 .bf16) (a : Fin 4) (b : Fin 352) (l : Fin 1024) :
    (k0_pay20 (F := Ideal) v : S1408x1024.Idx → EReal) (ix2 ⟨a.val * 352 + b.val, by omega⟩ l) = v (ix4 a 0 b l) := by
  pointwise [k0_pay20]

theorem pay21_apply (v : Vec Ideal S4x1x352x1024 .bf16) (a : Fin 4) (b : Fin 352) (l : Fin 1024) :
    (k0_pay21 (F := Ideal) v : S1408x1024.Idx → EReal) (ix2 ⟨a.val * 352 + b.val, by omega⟩ l) = v (ix4 a 0 b l) := by
  pointwise [k0_pay21]

theorem pay27_apply (d : Vec Ideal S256x1024 .bf16) (v : Vec Ideal S4x1x352x1024 .bf16) (r : Fin 256) (a : Fin 4) (b : Fin 352) :
    (k0_pay27 (F := Ideal) d v : S256x1408.Idx → EReal) (ix2 r ⟨a.val * 352 + b.val, by omega⟩) = ∑ l : Fin 1024, d (ix2 r l) * v (ix4 a 0 b l) := by
  pointwise [k0_pay27]

/-- The two halves of the 2816 columns. -/
def J0 (j : Fin 1408) : Fin 2816 := ⟨j.val, by omega⟩
def J1 (j : Fin 1408) : Fin 2816 := ⟨1408 + j.val, by omega⟩

/-- A sum over the columns is the sum over the two halves. -/
theorem sum_halves {M : Type} [AddCommMonoid M] (F : Fin 2816 → M) : ∑ j, F j = (∑ j, F (J0 j)) + ∑ j, F (J1 j) :=
  Fin.sum_univ_add (a := 1408) (b := 1408) F

/-- A column of a half is column `b` of the half's group `a`. -/
theorem col_split (j : Fin 1408) : ∃ (a : Fin 4) (b : Fin 352), j = ⟨a.val * 352 + b.val, by omega⟩ :=
  ⟨⟨j.val / 352, by omega⟩, ⟨j.val % 352, Nat.mod_lt _ (by norm_num)⟩, Fin.ext (by show j.val = j.val / 352 * 352 + j.val % 352; omega)⟩

/-- One point's blocks hold real values: the rows `R r` of the call's arguments and saved values. -/
structure Point (P : Cert.FfnReal.Par) (R : Fin 256 → Fin 4096) (x0 x1 : Vec Ideal S256x1024 .f32) (x2 : Vec Ideal S256x5632 .f32) (x3 : Vec Ideal S256x1024 .f32)
    (x4 : Vec Ideal S8x1024 .f32) (x5 x6 x7 : Vec Ideal S8x1x352x1024 .bf16) : Prop where
  hx : ∀ r l, (x0 : S256x1024.Idx → EReal) (ix2 r l) = ((P.x (R r) l : ℝ) : EReal)
  hf : ∀ r l, (x1 : S256x1024.Idx → EReal) (ix2 r l) = ((Cert.FfnReal.f P (R r) l : ℝ) : EReal)
  hd : ∀ r l, (x3 : S256x1024.Idx → EReal) (ix2 r l) = ((P.d (R r) l : ℝ) : EReal)
  ha0 : ∀ r j, (a0 x2 : S256x1408.Idx → EReal) (ix2 r j) = ((Cert.FfnReal.a P (R r) (J0 j) : ℝ) : EReal)
  ha1 : ∀ r j, (a1 x2 : S256x1408.Idx → EReal) (ix2 r j) = ((Cert.FfnReal.a P (R r) (J1 j) : ℝ) : EReal)
  hb0 : ∀ r j, (b0 x2 : S256x1408.Idx → EReal) (ix2 r j) = ((Cert.FfnReal.b P (R r) (J0 j) : ℝ) : EReal)
  hb1 : ∀ r j, (b1 x2 : S256x1408.Idx → EReal) (ix2 r j) = ((Cert.FfnReal.b P (R r) (J1 j) : ℝ) : EReal)
  hsh : ∀ l, (rowR 3 x4 : S1x1024.Idx → EReal) (ix2 0 l) = ((P.sh l : ℝ) : EReal)
  hsc : ∀ l, (rowR 4 x4 : S1x1024.Idx → EReal) (ix2 0 l) = ((P.sc l : ℝ) : EReal)
  hg2 : ∀ l, (rowR 5 x4 : S1x1024.Idx → EReal) (ix2 0 l) = ((P.g2 l : ℝ) : EReal)
  hg : ∀ l, (rowR 7 x4 : S1x1024.Idx → EReal) (ix2 0 l) = ((P.g l : ℝ) : EReal)
  hwg0 : ∀ (a : Fin 4) (b : Fin 352) l, (lo x5 : S4x1x352x1024.Idx → EReal) (ix4 a 0 b l) = ((P.wg l (J0 ⟨a.val * 352 + b.val, by omega⟩) : ℝ) : EReal)
  hwg1 : ∀ (a : Fin 4) (b : Fin 352) l, (hi x5 : S4x1x352x1024.Idx → EReal) (ix4 a 0 b l) = ((P.wg l (J1 ⟨a.val * 352 + b.val, by omega⟩) : ℝ) : EReal)
  hwu0 : ∀ (a : Fin 4) (b : Fin 352) l, (lo x6 : S4x1x352x1024.Idx → EReal) (ix4 a 0 b l) = ((P.wu l (J0 ⟨a.val * 352 + b.val, by omega⟩) : ℝ) : EReal)
  hwu1 : ∀ (a : Fin 4) (b : Fin 352) l, (hi x6 : S4x1x352x1024.Idx → EReal) (ix4 a 0 b l) = ((P.wu l (J1 ⟨a.val * 352 + b.val, by omega⟩) : ℝ) : EReal)
  hwd0 : ∀ (a : Fin 4) (b : Fin 352) l, (lo x7 : S4x1x352x1024.Idx → EReal) (ix4 a 0 b l) = ((P.wd (J0 ⟨a.val * 352 + b.val, by omega⟩) l : ℝ) : EReal)
  hwd1 : ∀ (a : Fin 4) (b : Fin 352) l, (hi x7 : S4x1x352x1024.Idx → EReal) (ix4 a 0 b l) = ((P.wd (J1 ⟨a.val * 352 + b.val, by omega⟩) l : ℝ) : EReal)

section
variable {P : Cert.FfnReal.Par} {R : Fin 256 → Fin 4096} {x0 x1 : Vec Ideal S256x1024 .f32} {x2 : Vec Ideal S256x5632 .f32} {x3 : Vec Ideal S256x1024 .f32}
    {x4 : Vec Ideal S8x1024 .f32} {x5 x6 x7 : Vec Ideal S8x1x352x1024 .bf16} (H : Point P R x0 x1 x2 x3 x4 x5 x6 x7)
include H

theorem rs_real (r : Fin 256) : (k0_pay4 (F := Ideal) x0 : S256x1.Idx → EReal) (ix2 r 0) = ((rs (P.x (R r)) : ℝ) : EReal) :=
  pay4_real x0 (fun r => P.x (R r)) H.hx r

theorem n_real (r : Fin 256) (l : Fin 1024) : (k0_pay5 (F := Ideal) x0 : S256x1024.Idx → EReal) (ix2 r l) = ((Cert.FfnReal.n P (R r) l : ℝ) : EReal) := by
  pointwise [k0_pay5]
  rw [rs_real H, H.hx, ← EReal.coe_mul]; rfl

theorem h_real (r : Fin 256) (l : Fin 1024) :
    (k0_pay6 (F := Ideal) x0 (rowR 7 x4) (rowR 4 x4) (rowR 3 x4) : S256x1024.Idx → EReal) (ix2 r l) = ((Cert.FfnReal.h P (R r) l : ℝ) : EReal) := by
  pointwise [k0_pay6, k0_pay2, k0_pay3]
  simp only [n_real H, H.hg, H.hsc, H.hsh, ← EReal.coe_one, ← EReal.coe_mul, ← EReal.coe_add]; rfl

theorem df_real (r : Fin 256) (l : Fin 1024) : (dfB (F := Ideal) x3 x4 : S256x1024.Idx → EReal) (ix2 r l) = ((Cert.FfnReal.df P (R r) l : ℝ) : EReal) := by
  pointwise [dfB, k0_pay7]
  simp only [H.hg2, H.hd, ← EReal.coe_mul]; rfl

theorem wg0_real (j : Fin 1408) (l : Fin 1024) : (k0_pay9 (F := Ideal) (lo x5) : S1408x1024.Idx → EReal) (ix2 j l) = ((P.wg l (J0 j) : ℝ) : EReal) := by
  obtain ⟨a, b, rfl⟩ := col_split j
  rw [pay9_apply, H.hwg0]

theorem wu0_real (j : Fin 1408) (l : Fin 1024) : (k0_pay10 (F := Ideal) (lo x6) : S1408x1024.Idx → EReal) (ix2 j l) = ((P.wu l (J0 j) : ℝ) : EReal) := by
  obtain ⟨a, b, rfl⟩ := col_split j
  rw [pay10_apply, H.hwu0]

theorem wg1_real (j : Fin 1408) (l : Fin 1024) : (k0_pay20 (F := Ideal) (hi x5) : S1408x1024.Idx → EReal) (ix2 j l) = ((P.wg l (J1 j) : ℝ) : EReal) := by
  obtain ⟨a, b, rfl⟩ := col_split j
  rw [pay20_apply, H.hwg1]

theorem wu1_real (j : Fin 1408) (l : Fin 1024) : (k0_pay21 (F := Ideal) (hi x6) : S1408x1024.Idx → EReal) (ix2 j l) = ((P.wu l (J1 j) : ℝ) : EReal) := by
  obtain ⟨a, b, rfl⟩ := col_split j
  rw [pay21_apply, H.hwu1]

theorem ds0_real (r : Fin 256) (j : Fin 1408) : (k0_pay16 (F := Ideal) (dfB x3 x4) (lo x7) : S256x1408.Idx → EReal) (ix2 r j) = ((Cert.FfnReal.ds P (R r) (J0 j) : ℝ) : EReal) := by
  obtain ⟨a, b, rfl⟩ := col_split j
  rw [pay16_apply]
  simp only [df_real H, H.hwd0, ← EReal.coe_mul, ← coe_sum]; rfl

theorem ds1_real (r : Fin 256) (j : Fin 1408) : (dsHi (F := Ideal) x3 x4 x7 : S256x1408.Idx → EReal) (ix2 r j) = ((Cert.FfnReal.ds P (R r) (J1 j) : ℝ) : EReal) := by
  obtain ⟨a, b, rfl⟩ := col_split j
  rw [dsHi, pay27_apply]
  simp only [df_real H, H.hwd1, ← EReal.coe_mul, ← coe_sum]; rfl

theorem s0_real (r : Fin 256) (j : Fin 1408) : (k0_pay15 (F := Ideal) (a0 x2) (b0 x2) : S256x1408.Idx → EReal) (ix2 r j) = ((Cert.FfnReal.s P (R r) (J0 j) : ℝ) : EReal) := by
  pointwise [k0_pay15, k0_pay14, k0_pay12, k0_pay11]
  simp only [pay13_real _ _ r j (H.ha0 r j), H.ha0, H.hb0, ← EReal.coe_mul]; rfl

theorem s1_real (r : Fin 256) (j : Fin 1408) : (k0_pay26 (F := Ideal) (a1 x2) (b1 x2) : S256x1408.Idx → EReal) (ix2 r j) = ((Cert.FfnReal.s P (R r) (J1 j) : ℝ) : EReal) := by
  pointwise [k0_pay26, k0_pay25, k0_pay23, k0_pay22]
  simp only [pay24_real _ _ r j (H.ha1 r j), H.ha1, H.hb1, ← EReal.coe_mul]; rfl

theorem da0_real (r : Fin 256) (j : Fin 1408) : (daLo (F := Ideal) x3 x2 x4 x7 : S256x1408.Idx → EReal) (ix2 r j) = ((Cert.FfnReal.da P (R r) (J0 j) : ℝ) : EReal) := by
  pointwise [daLo, k0_pay17, k0_pay12, k0_pay11]
  simp only [ds0_real H, pay13_real _ _ r j (H.ha0 r j), H.ha0, H.hb0, ← EReal.coe_one, ← EReal.coe_mul, ← EReal.coe_add, ← EReal.coe_sub]; rfl

theorem db0_real (r : Fin 256) (j : Fin 1408) : (dbLo (F := Ideal) x3 x2 x4 x7 : S256x1408.Idx → EReal) (ix2 r j) = ((Cert.FfnReal.db P (R r) (J0 j) : ℝ) : EReal) := by
  pointwise [dbLo, k0_pay18, k0_pay14, k0_pay11]
  simp only [ds0_real H, pay13_real _ _ r j (H.ha0 r j), H.ha0, ← EReal.coe_mul]; rfl

theorem da1_real (r : Fin 256) (j : Fin 1408) : (daHi (F := Ideal) x3 x2 x4 x7 : S256x1408.Idx → EReal) (ix2 r j) = ((Cert.FfnReal.da P (R r) (J1 j) : ℝ) : EReal) := by
  have e := ds1_real H r j
  rw [daHi]
  generalize dsHi (F := Ideal) x3 x4 x7 = D at e
  pointwise [k0_pay28, k0_pay22, k0_pay23]
  simp only [e, pay24_real _ _ r j (H.ha1 r j), H.ha1, H.hb1, ← EReal.coe_one, ← EReal.coe_mul, ← EReal.coe_add, ← EReal.coe_sub]; rfl

theorem db1_real (r : Fin 256) (j : Fin 1408) : (dbHi (F := Ideal) x3 x2 x4 x7 : S256x1408.Idx → EReal) (ix2 r j) = ((Cert.FfnReal.db P (R r) (J1 j) : ℝ) : EReal) := by
  have e := ds1_real H r j
  rw [dbHi]
  generalize dsHi (F := Ideal) x3 x4 x7 = D at e
  pointwise [k0_pay29, k0_pay25, k0_pay22]
  simp only [e, pay24_real _ _ r j (H.ha1 r j), H.ha1, ← EReal.coe_mul]; rfl

theorem dhLo_real (r : Fin 256) (l : Fin 1024) : (dhLo (F := Ideal) x3 x2 x4 x5 x6 x7 : S256x1024.Idx → EReal) (ix2 r l)
    = (((∑ j : Fin 1408, Cert.FfnReal.da P (R r) (J0 j) * P.wg l (J0 j)) + ∑ j : Fin 1408, Cert.FfnReal.db P (R r) (J0 j) * P.wu l (J0 j) : ℝ) : EReal) := by
  have e := da0_real H
  have e' := db0_real H
  rw [dhLo]
  generalize daLo (F := Ideal) x3 x2 x4 x7 = D at e
  generalize dbLo (F := Ideal) x3 x2 x4 x7 = D' at e'
  pointwise [k0_pay19, k0_pay8]
  simp only [e, e', wg0_real H, wu0_real H, ← EReal.coe_mul, ← EReal.coe_add, ← coe_sum, ← EReal.coe_zero, zero_add]

/-- The modulated row's gradient, over both halves of the columns. -/
theorem dh_real (r : Fin 256) (l : Fin 1024) :
    (k0_pay30 (F := Ideal) (dhLo x3 x2 x4 x5 x6 x7) (k0_pay20 (hi x5)) (k0_pay21 (hi x6)) (k0_pay22 (a1 x2)) (k0_pay23 (b1 x2)) (k0_pay24 (a1 x2)) (k0_pay25 (a1 x2)) (dsHi x3 x4 x7)
      : S256x1024.Idx → EReal) (ix2 r l) = ((Cert.FfnReal.dh P (R r) l : ℝ) : EReal) := by
  have e0 := dhLo_real H r l
  have e := da1_real H
  have e' := db1_real H
  rw [daHi] at e
  rw [dbHi] at e'
  unfold k0_pay30
  generalize k0_pay28 (F := Ideal) (k0_pay22 (a1 x2)) (k0_pay23 (b1 x2)) (k0_pay24 (a1 x2)) (dsHi x3 x4 x7) = D at e
  generalize k0_pay29 (F := Ideal) (k0_pay25 (a1 x2)) (dsHi x3 x4 x7) = D' at e'
  generalize dhLo (F := Ideal) x3 x2 x4 x5 x6 x7 = L at e0
  pointwise []
  simp only [e0, e, e', wg1_real H, wu1_real H, ← EReal.coe_mul, ← EReal.coe_add, ← coe_sum]
  congr 1
  simp only [Cert.FfnReal.dh, Finset.sum_add_distrib, sum_halves]
  ring

theorem dsh_real (l : Fin 1024) : (dshB (F := Ideal) x3 x2 x4 x5 x6 x7 : S1x1024.Idx → EReal) (ix2 0 l) = ((∑ r : Fin 256, Cert.FfnReal.dh P (R r) l : ℝ) : EReal) := by
  have e := dh_real H
  rw [dshB, k0_pay31]
  generalize k0_pay30 (F := Ideal) (dhLo x3 x2 x4 x5 x6 x7) _ _ _ _ _ _ _ = D at e
  pointwise []
  simp only [e, ← coe_sum]

theorem dsc_real (l : Fin 1024) : (dscB (F := Ideal) x0 x3 x2 x4 x5 x6 x7 : S1x1024.Idx → EReal) (ix2 0 l)
    = ((∑ r : Fin 256, Cert.FfnReal.dh P (R r) l * (Cert.FfnReal.n P (R r) l * P.g l) : ℝ) : EReal) := by
  have e := dh_real H
  rw [dscB, k0_pay32]
  generalize k0_pay30 (F := Ideal) (dhLo x3 x2 x4 x5 x6 x7) _ _ _ _ _ _ _ = D at e
  pointwise [k0_pay2]
  simp only [e, n_real H, H.hg, ← EReal.coe_mul, ← coe_sum]

theorem dg_real (l : Fin 1024) : (dgB (F := Ideal) x0 x3 x2 x4 x5 x6 x7 : S1x1024.Idx → EReal) (ix2 0 l)
    = ((∑ r : Fin 256, Cert.FfnReal.dh P (R r) l * Cert.FfnReal.n P (R r) l * (1 + P.sc l) : ℝ) : EReal) := by
  have e := dh_real H
  rw [dgB, k0_pay33]
  generalize k0_pay30 (F := Ideal) (dhLo x3 x2 x4 x5 x6 x7) _ _ _ _ _ _ _ = D at e
  pointwise [k0_pay3]
  simp only [e, n_real H, H.hsc, ← EReal.coe_one, ← EReal.coe_mul, ← EReal.coe_add, ← coe_sum]

theorem dn_real (r : Fin 256) (l : Fin 1024) : (dnB (F := Ideal) x3 x2 x4 x5 x6 x7 : S256x1024.Idx → EReal) (ix2 r l) = ((Cert.FfnReal.dn P (R r) l : ℝ) : EReal) := by
  have e := dh_real H
  rw [dnB, k0_pay34]
  generalize k0_pay30 (F := Ideal) (dhLo x3 x2 x4 x5 x6 x7) _ _ _ _ _ _ _ = D at e
  pointwise [k0_pay2, k0_pay3]
  simp only [e, H.hg, H.hsc, ← EReal.coe_one, ← EReal.coe_mul, ← EReal.coe_add]
  congr 1
  simp only [Cert.FfnReal.dn]
  ring

theorem dx_real (r : Fin 256) (l : Fin 1024) : (dxB (F := Ideal) x0 x3 x2 x4 x5 x6 x7 : S256x1024.Idx → EReal) (ix2 r l) = ((Cert.FfnReal.dx P (R r) l : ℝ) : EReal) := by
  have e := dn_real H
  rw [dnB] at e
  rw [dxB, meanB, k0_pay35, dnB]
  generalize k0_pay34 (F := Ideal) _ _ (dhLo x3 x2 x4 x5 x6 x7) _ _ _ _ _ _ _ = D at e
  pointwise [k0_pay36]
  simp only [e, n_real H, rs_real H, H.hd, word1024, ← EReal.coe_mul, ← EReal.coe_add, ← EReal.coe_sub, ← coe_sum, div_1024]
  rfl

/-- The gate row's gradient over one block. -/
theorem dg2_real (o : Vec Ideal S1x1024 .f32) (l : Fin 1024) : (k0_pay39 (F := Ideal) x3 o x1 : S1x1024.Idx → EReal) (ix2 0 l)
    = o (ix2 0 l) + ((∑ r : Fin 256, P.d (R r) l * Cert.FfnReal.f P (R r) l : ℝ) : EReal) := by
  pointwise [k0_pay39]
  simp only [H.hd, H.hf, ← EReal.coe_mul, ← coe_sum]

end

end Cert.FfnIdeal.Blocks

end
-- ==== Proof.FfnHost.lean ====
/- The feed-forward part: the arrays prepared before the call, over the reals. -/
module

public import proofs.«01_k».proof.Proof.FfnPoint
public import Idealize.ShloMosaic.Lib.StableHlo.RunRead

@[expose] public section

set_option maxRecDepth 16384

noncomputable section

namespace Cert.FfnIdeal.Blocks

open Cert.FfnIdeal Cert.FfnIdeal.Gen Idealize.ShloMosaic Idealize.ShloMosaic.TcCoe Idealize.SL.Sem
open Cert.StickReal (coe_sum)
open Cert.FfnReal (rs sg rsqrt_ms div_1024 sg_coe sg_coe' eps_word word1024)

variable (m : (ℓ : Loc nD τ sig) → Buf (Elt Ideal) ℓ) (c : Dev nD)

/-- The arguments' contents. -/
abbrev xV : S4096x1024.Idx → EReal := m ((c : Thread nD τ).loc main_arg0)
abbrev modV : S6x1024.Idx → EReal := m ((c : Thread nD τ).loc main_arg1)
abbrev gV : S1024.Idx → EReal := m ((c : Thread nD τ).loc main_arg3)
abbrev wgV : S1024x2816.Idx → EReal := m ((c : Thread nD τ).loc main_arg4)
abbrev wuV : S1024x2816.Idx → EReal := m ((c : Thread nD τ).loc main_arg5)
abbrev wdV : S2816x1024.Idx → EReal := m ((c : Thread nD τ).loc main_arg6)
abbrev dV : S4096x1024.Idx → EReal := m ((c : Thread nD τ).loc main_arg7)

/-- The arguments hold the real values `P`. -/
structure Args (x : S4096x1024.Idx → EReal) (md : S6x1024.Idx → EReal) (g : S1024.Idx → EReal) (wg wu : S1024x2816.Idx → EReal)
    (wd : S2816x1024.Idx → EReal) (d : S4096x1024.Idx → EReal) (P : Cert.FfnReal.Par) : Prop where
  hx : ∀ r l, x (ix2 r l) = ((P.x r l : ℝ) : EReal)
  hsh : ∀ l, md (ix2 3 l) = ((P.sh l : ℝ) : EReal)
  hsc : ∀ l, md (ix2 4 l) = ((P.sc l : ℝ) : EReal)
  hg2 : ∀ l, md (ix2 5 l) = ((P.g2 l : ℝ) : EReal)
  hg : ∀ l, g (ix1 l) = ((P.g l : ℝ) : EReal)
  hwg : ∀ l j, wg (ix2 l j) = ((P.wg l j : ℝ) : EReal)
  hwu : ∀ l j, wu (ix2 l j) = ((P.wu l j : ℝ) : EReal)
  hwd : ∀ j l, wd (ix2 j l) = ((P.wd j l : ℝ) : EReal)
  hd : ∀ r l, d (ix2 r l) = ((P.d r l : ℝ) : EReal)

section
variable {m c} {P : Cert.FfnReal.Par} (H : Args (xV m c) (modV m c) (gV m c) (wgV m c) (wuV m c) (wdV m c) (dV m c) P)
include H

theorem V2_sh (l : Fin 1024) : (V m c main_v2 : S8x1024.Idx → EReal) (ix2 3 l) = ((P.sh l : ℝ) : EReal) := by
  simp only [V, hostOps0]
  after_reads_simp
  pointwise []
  exact H.hsh l

theorem V2_sc (l : Fin 1024) : (V m c main_v2 : S8x1024.Idx → EReal) (ix2 4 l) = ((P.sc l : ℝ) : EReal) := by
  simp only [V, hostOps0]
  after_reads_simp
  pointwise []
  exact H.hsc l

theorem V2_g2 (l : Fin 1024) : (V m c main_v2 : S8x1024.Idx → EReal) (ix2 5 l) = ((P.g2 l : ℝ) : EReal) := by
  simp only [V, hostOps0]
  after_reads_simp
  pointwise []
  exact H.hg2 l

theorem V2_g (l : Fin 1024) : (V m c main_v2 : S8x1024.Idx → EReal) (ix2 7 l) = ((P.g l : ℝ) : EReal) := by
  simp only [V, hostOps0]
  after_reads_simp
  pointwise []
  after_reads_simp
  pointwise []
  exact H.hg l

theorem V12_g (a : Fin 8) (b : Fin 352) (l : Fin 1024) :
    (V m c main_v12 : S8x3x352x1024.Idx → EReal) (ix4 a 0 b l) = ((P.wg l ⟨a.val * 352 + b.val, by omega⟩ : ℝ) : EReal) := by
  simp only [V, hostOps0]
  after_reads_simp
  pointwise []
  after_reads_simp
  pointwise []
  exact H.hwg _ _

theorem V12_u (a : Fin 8) (b : Fin 352) (l : Fin 1024) :
    (V m c main_v12 : S8x3x352x1024.Idx → EReal) (ix4 a 1 b l) = ((P.wu l ⟨a.val * 352 + b.val, by omega⟩ : ℝ) : EReal) := by
  simp only [V, hostOps0]
  after_reads_simp
  pointwise []
  after_reads_simp
  pointwise []
  exact H.hwu _ _

theorem V12_d (a : Fin 8) (b : Fin 352) (l : Fin 1024) :
    (V m c main_v12 : S8x3x352x1024.Idx → EReal) (ix4 a 2 b l) = ((P.wd ⟨a.val * 352 + b.val, by omega⟩ l : ℝ) : EReal) := by
  simp only [V, hostOps0]
  after_reads_simp
  pointwise []
  after_reads_simp
  pointwise []
  exact H.hwd _ _

theorem V49_a (r : Fin 4096) (j : Fin 2816) : (V m c main_v49 : S4096x5632.Idx → EReal) (ix2 r ⟨j.val, by omega⟩) = ((Cert.FfnReal.a P r j : ℝ) : EReal) := by
  simp only [V, hostOps0]
  after_reads_simp
  pointwise []
  simp only [H.hx, H.hsh, H.hsc, H.hg, H.hwg, eps_word, word1024, ← EReal.coe_one, ← EReal.coe_mul, ← EReal.coe_add, ← coe_sum, div_1024, rsqrt_ms]
  rfl

theorem V49_b (r : Fin 4096) (j : Fin 2816) : (V m c main_v49 : S4096x5632.Idx → EReal) (ix2 r ⟨2816 + j.val, by omega⟩) = ((Cert.FfnReal.b P r j : ℝ) : EReal) := by
  simp only [V, hostOps0]
  after_reads_simp
  pointwise []
  simp only [H.hx, H.hsh, H.hsc, H.hg, H.hwu, eps_word, word1024, ← EReal.coe_one, ← EReal.coe_mul, ← EReal.coe_add, ← coe_sum, div_1024, rsqrt_ms]
  rfl

theorem V48_f (r : Fin 4096) (l : Fin 1024) : (V m c main_v48 : S4096x1024.Idx → EReal) (ix2 r l) = ((Cert.FfnReal.f P r l : ℝ) : EReal) := by
  simp only [V, hostOps0]
  after_reads_simp
  pointwise []
  simp only [H.hx, H.hsh, H.hsc, H.hg, H.hwg, H.hwu, H.hwd, eps_word, word1024, ← EReal.coe_one, ← EReal.coe_mul, ← EReal.coe_add, ← EReal.coe_neg, ← coe_sum, div_1024, rsqrt_ms,
    Ideal.exp_coe, sg_coe]
  rfl

end

end Cert.FfnIdeal.Blocks

end
-- ==== Proof.FfnTiles.lean ====
/- The feed-forward part's backward call: what each point leaves, over the reals. -/
module

public import proofs.«01_k».proof.Proof.FfnHost

@[expose] public section

set_option maxRecDepth 16384

noncomputable section

namespace Cert.FfnIdeal.Blocks

open Cert.FfnIdeal Cert.FfnIdeal.Gen Idealize.ShloMosaic Idealize.ShloMosaic.TcCoe Idealize.SL.Sem
open Idealize.ShloMosaic.Pipeline (Dat)
open Cert.StickReal (coe_sum)

section
variable {F : FTy → Type} [FloatOps F] (m : (ℓ : Loc nD τ sig) → Buf (Elt F) ℓ) (c : Dev nD)

theorem dx_at (t : Fin cfg0.N) : (outsAt0 m c t.val t.isLt).1
    = dxB (iblk m c 0 t) (iblk m c 3 t) (iblk m c 2 t) (iblk m c 4 t) (iblk m c 5 t) (iblk m c 6 t) (iblk m c 7 t) := by
  by_cases h0 : t.val % 16 = 0
  · rw [outsAt0_A m c t h0]; dsimp only; rw [dx_A]
  · rw [outsAt0_B m c t h0]; dsimp only; rw [dx_B]

/-- The stored pre-activations' gradients: the two halves of each. -/
def dabOut (x3 : Vec F S256x1024 .f32) (x2 : Vec F S256x5632 .f32) (x4 : Vec F S8x1024 .f32) (x7 : Vec F S8x1x352x1024 .bf16) : Vec F S256x5632 .bf16 :=
  putD 4224 (putD 1408 (putD 2816 (putD 0 (VO0_9.read (Elt F) VO0_9.junk) (daLo x3 x2 x4 x7)) (dbLo x3 x2 x4 x7)) (daHi x3 x2 x4 x7)) (dbHi x3 x2 x4 x7)

theorem dab_at (t : Fin cfg0.N) : (outsAt0 m c t.val t.isLt).2.1 = dabOut (iblk m c 3 t) (iblk m c 2 t) (iblk m c 4 t) (iblk m c 7 t) := by
  by_cases h0 : t.val % 16 = 0
  · rw [outsAt0_A m c t h0]; dsimp only; rw [dab_A]; rfl
  · rw [outsAt0_B m c t h0]; dsimp only; rw [dab_B]; rfl

theorem h_at (t : Fin cfg0.N) : (outsAt0 m c t.val t.isLt).2.2.1
    = k0_pay6 (iblk m c 0 t) (rowR 7 (iblk m c 4 t)) (rowR 4 (iblk m c 4 t)) (rowR 3 (iblk m c 4 t)) := by
  by_cases h0 : t.val % 16 = 0
  · rw [outsAt0_A m c t h0]; dsimp only; rw [h_A]
  · rw [outsAt0_B m c t h0]; dsimp only; rw [h_B]

/-- The stored gated products: the two halves. -/
def sOut (x2 : Vec F S256x5632 .f32) : Vec F S256x2816 .bf16 :=
  putS 1408 (putS 0 (VO0_11.read (Elt F) VO0_11.junk) (k0_pay15 (a0 x2) (b0 x2))) (k0_pay26 (a1 x2) (b1 x2))

theorem s_at (t : Fin cfg0.N) : (outsAt0 m c t.val t.isLt).2.2.2.1 = sOut (iblk m c 2 t) := by
  by_cases h0 : t.val % 16 = 0
  · rw [outsAt0_A m c t h0]; dsimp only; rw [s_A]; rfl
  · rw [outsAt0_B m c t h0]; dsimp only; rw [s_B]; rfl

theorem df_at (t : Fin cfg0.N) : (outsAt0 m c t.val t.isLt).2.2.2.2.1 = dfB (iblk m c 3 t) (iblk m c 4 t) := by
  by_cases h0 : t.val % 16 = 0
  · rw [outsAt0_A m c t h0]; dsimp only; rw [df_A]
  · rw [outsAt0_B m c t h0]; dsimp only; rw [df_B]

/-- One point's update of the running row sums, at the point's blocks. -/
def sgAt (t : Fin cfg0.N) (s : Vec F S8x1024 .f32) : Vec F S8x1024 .f32 :=
  sgStep (iblk m c 0 t) (iblk m c 1 t) (iblk m c 3 t) (iblk m c 2 t) (iblk m c 4 t) (iblk m c 5 t) (iblk m c 6 t) (iblk m c 7 t) s

/-- The running row sums after point `n`. -/
def chain : (n : ℕ) → n < cfg0.N → Vec F S8x1024 .f32
  | 0, h => sgAt m c ⟨0, h⟩ (k0_pay1 (F := F))
  | n + 1, h => sgAt m c ⟨n + 1, h⟩ (chain n (Nat.lt_of_succ_lt h))

theorem sg_at : ∀ (n : ℕ) (h : n < cfg0.N), (outsAt0 m c n h).2.2.2.2.2 = chain m c n h
  | 0, h => by rw [show outsAt0 m c 0 h = _ from outsAt0_A m c ⟨0, h⟩ rfl]; dsimp only; rw [sg_A]; rfl
  | n + 1, h => by
    have hN : cfg0.N = 16 := N_0
    have hB : ¬(⟨n + 1, h⟩ : Fin cfg0.N).val % 16 = 0 := by dsimp only; omega
    rw [show outsAt0 m c (n + 1) h = _ from outsAt0_B m c ⟨n + 1, h⟩ hB]; dsimp only; rw [sg_B]
    simp only [Nat.add_sub_cancel, sg_at n, chain]
    rfl

/-- A replaced row's element. -/
theorem putR_apply (k : ℕ) (x : Vec F S8x1024 .f32) (w : Vec F S1x1024 .f32) (r : Fin 8) (l : Fin 1024) :
    (putR k x w) (ix2 r l) = if r.val = k then w (ix2 0 l) else x (ix2 r l) := by
  unfold putR VecWindow.put
  by_cases h : r.val = k
  · rw [if_pos h, dif_pos (fun a => by match a with
      | ⟨0, _⟩ => exact ⟨by show k ≤ r.val; omega, by show r.val < k + 1; omega⟩
      | ⟨1, _⟩ => exact ⟨Nat.zero_le _, by show l.val < 0 + 1024; omega⟩)]
    refine congrArg w (funext fun a => Fin.ext ?_)
    match a with
    | ⟨0, _⟩ => show r.val - k = 0; omega
    | ⟨1, _⟩ => rfl
  · rw [if_neg h, dif_neg fun hall => h ?_]
    have h0 : k ≤ r.val ∧ r.val < k + 1 := hall (0 : Fin 2)
    omega

/-- A replaced half of the columns: inside it, the new values. -/
theorem putS_in (k : ℕ) (x : Vec F S256x2816 .bf16) (w : Vec F S256x1408 .bf16) (r : Fin 256) (j : Fin 1408) (hk : k + j.val < 2816) :
    (putS k x w) (ix2 r ⟨k + j.val, hk⟩) = w (ix2 r j) := by
  unfold putS VecWindow.put
  rw [dif_pos (fun a => by match a with
      | ⟨0, _⟩ => exact ⟨Nat.zero_le _, by show r.val < 0 + 256; omega⟩
      | ⟨1, _⟩ => exact ⟨by show k ≤ k + j.val; omega, by show k + j.val < k + 1408; omega⟩)]
  refine congrArg w (funext fun a => Fin.ext ?_)
  match a with
  | ⟨0, _⟩ => rfl
  | ⟨1, _⟩ => show k + j.val - k = j.val; omega

/-- Outside it, the old values. -/
theorem putS_out (k : ℕ) (x : Vec F S256x2816 .bf16) (w : Vec F S256x1408 .bf16) (r : Fin 256) (j : Fin 2816) (hj : j.val < k ∨ k + 1408 ≤ j.val) :
    (putS k x w) (ix2 r j) = x (ix2 r j) := by
  unfold putS VecWindow.put
  rw [dif_neg fun hall => ?_]
  have h0 : k ≤ j.val ∧ j.val < k + 1408 := hall (1 : Fin 2)
  omega

theorem putD_in (k : ℕ) (x : Vec F S256x5632 .bf16) (w : Vec F S256x1408 .bf16) (r : Fin 256) (j : Fin 1408) (hk : k + j.val < 5632) :
    (putD k x w) (ix2 r ⟨k + j.val, hk⟩) = w (ix2 r j) := by
  unfold putD VecWindow.put
  rw [dif_pos (fun a => by match a with
      | ⟨0, _⟩ => exact ⟨Nat.zero_le _, by show r.val < 0 + 256; omega⟩
      | ⟨1, _⟩ => exact ⟨by show k ≤ k + j.val; omega, by show k + j.val < k + 1408; omega⟩)]
  refine congrArg w (funext fun a => Fin.ext ?_)
  match a with
  | ⟨0, _⟩ => rfl
  | ⟨1, _⟩ => show k + j.val - k = j.val; omega

theorem putD_out (k : ℕ) (x : Vec F S256x5632 .bf16) (w : Vec F S256x1408 .bf16) (r : Fin 256) (j : Fin 5632) (hj : j.val < k ∨ k + 1408 ≤ j.val) :
    (putD k x w) (ix2 r j) = x (ix2 r j) := by
  unfold putD VecWindow.put
  rw [dif_neg fun hall => ?_]
  have h0 : k ≤ j.val ∧ j.val < k + 1408 := hall (1 : Fin 2)
  omega
end

/-- A column of the whole lies in one of the halves. -/
theorem half_split (j : Fin 2816) : (∃ q, j = J0 q) ∨ ∃ q, j = J1 q := by
  by_cases h : j.val < 1408
  · exact .inl ⟨⟨j.val, h⟩, rfl⟩
  · exact .inr ⟨⟨j.val - 1408, by omega⟩, Fin.ext (by show j.val = 1408 + (j.val - 1408); omega)⟩

section
variable {P : Cert.FfnReal.Par} {R : Fin 256 → Fin 4096} {x0 x1 : Vec Ideal S256x1024 .f32} {x2 : Vec Ideal S256x5632 .f32} {x3 : Vec Ideal S256x1024 .f32}
    {x4 : Vec Ideal S8x1024 .f32} {x5 x6 x7 : Vec Ideal S8x1x352x1024 .bf16} (H : Point P R x0 x1 x2 x3 x4 x5 x6 x7)
include H

theorem sOut_real (r : Fin 256) (j : Fin 2816) : (sOut (F := Ideal) x2 : S256x2816.Idx → EReal) (ix2 r j) = ((Cert.FfnReal.s P (R r) j : ℝ) : EReal) := by
  rcases half_split j with ⟨q, rfl⟩ | ⟨q, rfl⟩
  · refine (putS_out 1408 _ _ r (J0 q) (.inl q.isLt)).trans ?_
    have e : J0 q = ⟨0 + q.val, by omega⟩ := Fin.ext (by show q.val = 0 + q.val; omega)
    rw [← s0_real H, e]
    exact putS_in 0 _ _ r q _
  · rw [← s1_real H]
    exact putS_in 1408 _ _ r q _

theorem dabOut_a (r : Fin 256) (j : Fin 2816) :
    (dabOut (F := Ideal) x3 x2 x4 x7 : S256x5632.Idx → EReal) (ix2 r ⟨j.val, by omega⟩) = ((Cert.FfnReal.da P (R r) j : ℝ) : EReal) := by
  refine (putD_out 4224 _ _ r _ (.inl (by show j.val < 4224; omega))).trans ?_
  rcases half_split j with ⟨q, rfl⟩ | ⟨q, rfl⟩
  · refine (putD_out 1408 _ _ r _ (.inl q.isLt)).trans ((putD_out 2816 _ _ r _ (.inl (by show q.val < 2816; omega))).trans ?_)
    have e : (⟨(J0 q).val, by omega⟩ : Fin 5632) = ⟨0 + q.val, by omega⟩ := Fin.ext (by show q.val = 0 + q.val; omega)
    rw [← da0_real H, e]
    exact putD_in 0 _ _ r q _
  · rw [← da1_real H]
    exact putD_in 1408 _ _ r q _

theorem dabOut_b (r : Fin 256) (j : Fin 2816) :
    (dabOut (F := Ideal) x3 x2 x4 x7 : S256x5632.Idx → EReal) (ix2 r ⟨2816 + j.val, by omega⟩) = ((Cert.FfnReal.db P (R r) j : ℝ) : EReal) := by
  rcases half_split j with ⟨q, rfl⟩ | ⟨q, rfl⟩
  · refine (putD_out 4224 _ _ r _ (.inl (by show 2816 + q.val < 4224; omega))).trans ?_
    refine (putD_out 1408 _ _ r _ (.inr (by show 1408 + 1408 ≤ 2816 + q.val; omega))).trans ?_
    rw [← db0_real H]
    exact putD_in 2816 _ _ r q _
  · rw [← db1_real H]
    have e : (⟨2816 + (J1 q).val, by omega⟩ : Fin 5632) = ⟨4224 + q.val, by omega⟩ := Fin.ext (by show 2816 + (1408 + q.val) = 4224 + q.val; omega)
    rw [e]
    exact putD_in 4224 _ _ r q _

/-- One point adds its rows' shares. -/
theorem sgStep_real (s : Vec Ideal S8x1024 .f32) (k : Fin 8) (l : Fin 1024) :
    (sgStep (F := Ideal) x0 x1 x3 x2 x4 x5 x6 x7 s : S8x1024.Idx → EReal) (ix2 k l) = s (ix2 k l) + ((∑ r : Fin 256, Cert.FfnReal.term P (R r) k l : ℝ) : EReal) := by
  have e0 : ∀ v : Vec Ideal S1x1024 .f32, (k0_pay37 (F := Ideal) (dshB x3 x2 x4 x5 x6 x7) v : S1x1024.Idx → EReal) (ix2 0 l) = v (ix2 0 l) + ((∑ r : Fin 256, Cert.FfnReal.dh P (R r) l : ℝ) : EReal) := by
    intro v
    rw [← dsh_real H]
    generalize dshB (F := Ideal) x3 x2 x4 x5 x6 x7 = D
    pointwise [k0_pay37]
  have e1 : ∀ v : Vec Ideal S1x1024 .f32, (k0_pay38 (F := Ideal) (dscB x0 x3 x2 x4 x5 x6 x7) v : S1x1024.Idx → EReal) (ix2 0 l)
      = v (ix2 0 l) + ((∑ r : Fin 256, Cert.FfnReal.dh P (R r) l * (Cert.FfnReal.n P (R r) l * P.g l) : ℝ) : EReal) := by
    intro v
    rw [← dsc_real H]
    generalize dscB (F := Ideal) x0 x3 x2 x4 x5 x6 x7 = D
    pointwise [k0_pay38]
  have e3 : ∀ v : Vec Ideal S1x1024 .f32, (k0_pay40 (F := Ideal) (dgB x0 x3 x2 x4 x5 x6 x7) v : S1x1024.Idx → EReal) (ix2 0 l)
      = v (ix2 0 l) + ((∑ r : Fin 256, Cert.FfnReal.dh P (R r) l * Cert.FfnReal.n P (R r) l * (1 + P.sc l) : ℝ) : EReal) := by
    intro v
    rw [← dg_real H]
    generalize dgB (F := Ideal) x0 x3 x2 x4 x5 x6 x7 = D
    pointwise [k0_pay40]
  unfold sgStep
  simp only [putR_apply, e0, e1, e3, dg2_real H]
  have hr : ∀ (q : Fin 8) (x : Vec Ideal S8x1024 .f32), (rowR q x : S1x1024.Idx → EReal) (ix2 0 l) = x (ix2 q l) := fun _ _ => rfl
  simp only [hr, putR_apply]
  match k with
  | ⟨0, _⟩ => simp [Cert.FfnReal.term]
  | ⟨1, _⟩ => simp [Cert.FfnReal.term]
  | ⟨2, _⟩ => simp [Cert.FfnReal.term]
  | ⟨3, _⟩ => simp [Cert.FfnReal.term]
  | ⟨4, _⟩ => simp [Cert.FfnReal.term]
  | ⟨5, _⟩ => simp [Cert.FfnReal.term]
  | ⟨6, _⟩ => simp [Cert.FfnReal.term]
  | ⟨7, _⟩ => simp [Cert.FfnReal.term]

end

end Cert.FfnIdeal.Blocks

end
-- ==== Proof.FfnIn.lean ====
/- The feed-forward part's backward call: the blocks at each point. -/
module

public import proofs.«01_k».proof.Proof.FfnTiles

@[expose] public section

set_option maxRecDepth 16384

noncomputable section

namespace Cert.FfnIdeal.Blocks

open Cert.FfnIdeal Cert.FfnIdeal.Gen Idealize.ShloMosaic Idealize.ShloMosaic.TcCoe Idealize.SL.Sem
open Idealize.ShloMosaic.Pipeline (Dat)
open Cert.StickReal (coe_sum)

/-- Which block each window stages at a point. -/
theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = t.val ∧ win0_2.index t 1 = 0 := by decide +kernel
theorem index3 : ∀ t : Fin grid0.N, win0_3.index t 0 = t.val ∧ win0_3.index t 1 = 0 := by decide +kernel
theorem index4 : ∀ t : Fin grid0.N, win0_4.index t 0 = 0 ∧ win0_4.index t 1 = 0 := by decide +kernel
theorem index5 : ∀ t : Fin grid0.N, win0_5.index t 0 = 0 ∧ win0_5.index t 1 = 0 ∧ win0_5.index t 2 = 0 ∧ win0_5.index t 3 = 0 := by decide +kernel
theorem index6 : ∀ t : Fin grid0.N, win0_6.index t 0 = 0 ∧ win0_6.index t 1 = 1 ∧ win0_6.index t 2 = 0 ∧ win0_6.index t 3 = 0 := by decide +kernel
theorem index7 : ∀ t : Fin grid0.N, win0_7.index t 0 = 0 ∧ win0_7.index t 1 = 2 ∧ win0_7.index t 2 = 0 ∧ win0_7.index t 3 = 0 := by decide +kernel
theorem index8 : ∀ t : Fin grid0.N, win0_8.index t 0 = t.val ∧ win0_8.index t 1 = 0 := by decide +kernel
theorem index9 : ∀ t : Fin grid0.N, win0_9.index t 0 = t.val ∧ win0_9.index t 1 = 0 := by decide +kernel
theorem index10 : ∀ t : Fin grid0.N, win0_10.index t 0 = t.val ∧ win0_10.index t 1 = 0 := by decide +kernel
theorem index11 : ∀ t : Fin grid0.N, win0_11.index t 0 = t.val ∧ win0_11.index t 1 = 0 := by decide +kernel
theorem index12 : ∀ t : Fin grid0.N, win0_12.index t 0 = t.val ∧ win0_12.index t 1 = 0 := by decide +kernel
theorem index13 : ∀ t : Fin grid0.N, win0_13.index t 0 = 0 ∧ win0_13.index t 1 = 0 := by decide +kernel

/-- A tile's row as a row of the whole. -/
def row (t : Fin cfg0.N) (r : Fin 256) : Fin 4096 := ⟨t.val * 256 + r.val, by have := lt_of_lt_of_eq t.isLt N_0; omega⟩

section
variable (m : (ℓ : Loc nD τ sig) → Buf (Elt Ideal) ℓ) (c : Dev nD)

theorem iblk0_apply (t : Fin cfg0.N) (r : Fin 256) (l : Fin 1024) : (iblk m c 0 t : Vec Ideal S256x1024 .f32) (ix2 r l) = xV m c (ix2 (row t r) l) := by
  unfold iblk
  rw [View.read_apply]
  refine (congrFun (V_main_arg0 m c) _).trans (congrArg (xV m c) (funext fun a => Fin.ext ?_))
  match a with
  | ⟨0, _⟩ => show win0_0.index t 0 * 256 + 1 * r.val = t.val * 256 + r.val; rw [(index0 t).1]; omega
  | ⟨1, _⟩ => show win0_0.index t 1 * 1024 + 1 * l.val = l.val; rw [(index0 t).2]; omega

theorem iblk1_apply (t : Fin cfg0.N) (r : Fin 256) (l : Fin 1024) :
    (iblk m c 1 t : Vec Ideal S256x1024 .f32) (ix2 r l) = (V m c main_v48 : S4096x1024.Idx → EReal) (ix2 (row t r) l) := by
  unfold iblk
  rw [View.read_apply]
  refine congrArg (V m c main_v48) (funext fun a => Fin.ext ?_)
  match a with
  | ⟨0, _⟩ => show win0_1.index t 0 * 256 + 1 * r.val = t.val * 256 + r.val; rw [(index1 t).1]; omega
  | ⟨1, _⟩ => show win0_1.index t 1 * 1024 + 1 * l.val = l.val; rw [(index1 t).2]; omega

theorem iblk2_apply (t : Fin cfg0.N) (r : Fin 256) (j : Fin 5632) :
    (iblk m c 2 t : Vec Ideal S256x5632 .f32) (ix2 r j) = (V m c main_v49 : S4096x5632.Idx → EReal) (ix2 (row t r) j) := by
  unfold iblk
  rw [View.read_apply]
  refine congrArg (V m c main_v49) (funext fun a => Fin.ext ?_)
  match a with
  | ⟨0, _⟩ => show win0_2.index t 0 * 256 + 1 * r.val = t.val * 256 + r.val; rw [(index2 t).1]; omega
  | ⟨1, _⟩ => show win0_2.index t 1 * 5632 + 1 * j.val = j.val; rw [(index2 t).2]; omega

theorem iblk3_apply (t : Fin cfg0.N) (r : Fin 256) (l : Fin 1024) : (iblk m c 3 t : Vec Ideal S256x1024 .f32) (ix2 r l) = dV m c (ix2 (row t r) l) := by
  unfold iblk
  rw [View.read_apply]
  refine (congrFun (V_main_arg7 m c) _).trans (congrArg (dV m c) (funext fun a => Fin.ext ?_))
  match a with
  | ⟨0, _⟩ => show win0_3.index t 0 * 256 + 1 * r.val = t.val * 256 + r.val; rw [(index3 t).1]; omega
  | ⟨1, _⟩ => show win0_3.index t 1 * 1024 + 1 * l.val = l.val; rw [(index3 t).2]; omega

theorem iblk4_apply (t : Fin cfg0.N) (k : Fin 8) (l : Fin 1024) :
    (rowR k (iblk m c 4 t : Vec Ideal S8x1024 .f32)) (ix2 0 l) = (V m c main_v2 : S8x1024.Idx → EReal) (ix2 k l) := by
  unfold rowR iblk
  rw [View.read_apply]
  refine congrArg (V m c main_v2) (funext fun a => Fin.ext ?_)
  match a with
  | ⟨0, _⟩ => show win0_4.index t 0 * 8 + 1 * k.val = k.val; rw [(index4 t).1]; omega
  | ⟨1, _⟩ => show win0_4.index t 1 * 1024 + 1 * l.val = l.val; rw [(index4 t).2]; omega

theorem iblk5_apply (t : Fin cfg0.N) (a : Fin 8) (b : Fin 352) (l : Fin 1024) :
    (iblk m c 5 t : Vec Ideal S8x1x352x1024 .bf16) (ix4 a 0 b l) = (V m c main_v12 : S8x3x352x1024.Idx → EReal) (ix4 a 0 b l) := by
  unfold iblk
  rw [View.read_apply]
  refine congrArg (V m c main_v12) (funext fun k => Fin.ext ?_)
  match k with
  | ⟨0, _⟩ => show win0_5.index t 0 * 8 + 1 * a.val = a.val; rw [(index5 t).1]; omega
  | ⟨1, _⟩ => show win0_5.index t 1 * 1 + 1 * 0 = 0; rw [(index5 t).2.1]
  | ⟨2, _⟩ => show win0_5.index t 2 * 352 + 1 * b.val = b.val; rw [(index5 t).2.2.1]; omega
  | ⟨3, _⟩ => show win0_5.index t 3 * 1024 + 1 * l.val = l.val; rw [(index5 t).2.2.2]; omega

theorem iblk6_apply (t : Fin cfg0.N) (a : Fin 8) (b : Fin 352) (l : Fin 1024) :
    (iblk m c 6 t : Vec Ideal S8x1x352x1024 .bf16) (ix4 a 0 b l) = (V m c main_v12 : S8x3x352x1024.Idx → EReal) (ix4 a 1 b l) := by
  unfold iblk
  rw [View.read_apply]
  refine congrArg (V m c main_v12) (funext fun k => Fin.ext ?_)
  match k with
  | ⟨0, _⟩ => show win0_6.index t 0 * 8 + 1 * a.val = a.val; rw [(index6 t).1]; omega
  | ⟨1, _⟩ => show win0_6.index t 1 * 1 + 1 * 0 = 1; rw [(index6 t).2.1]
  | ⟨2, _⟩ => show win0_6.index t 2 * 352 + 1 * b.val = b.val; rw [(index6 t).2.2.1]; omega
  | ⟨3, _⟩ => show win0_6.index t 3 * 1024 + 1 * l.val = l.val; rw [(index6 t).2.2.2]; omega

theorem iblk7_apply (t : Fin cfg0.N) (a : Fin 8) (b : Fin 352) (l : Fin 1024) :
    (iblk m c 7 t : Vec Ideal S8x1x352x1024 .bf16) (ix4 a 0 b l) = (V m c main_v12 : S8x3x352x1024.Idx → EReal) (ix4 a 2 b l) := by
  unfold iblk
  rw [View.read_apply]
  refine congrArg (V m c main_v12) (funext fun k => Fin.ext ?_)
  match k with
  | ⟨0, _⟩ => show win0_7.index t 0 * 8 + 1 * a.val = a.val; rw [(index7 t).1]; omega
  | ⟨1, _⟩ => show win0_7.index t 1 * 1 + 1 * 0 = 2; rw [(index7 t).2.1]
  | ⟨2, _⟩ => show win0_7.index t 2 * 352 + 1 * b.val = b.val; rw [(index7 t).2.2.1]; omega
  | ⟨3, _⟩ => show win0_7.index t 3 * 1024 + 1 * l.val = l.val; rw [(index7 t).2.2.2]; omega

end

section
variable {m : (ℓ : Loc nD τ sig) → Buf (Elt Ideal) ℓ} {c : Dev nD} {P : Cert.FfnReal.Par}
    (H : Args (xV m c) (modV m c) (gV m c) (wgV m c) (wuV m c) (wdV m c) (dV m c) P)
include H

/-- Every point's blocks hold the real values of its rows. -/
theorem point (t : Fin cfg0.N) : Point P (row t) (iblk m c 0 t) (iblk m c 1 t) (iblk m c 2 t) (iblk m c 3 t) (iblk m c 4 t) (iblk m c 5 t) (iblk m c 6 t) (iblk m c 7 t) where
  hx r l := (iblk0_apply m c t r l).trans (H.hx _ _)
  hf r l := (iblk1_apply m c t r l).trans (V48_f H _ _)
  hd r l := (iblk3_apply m c t r l).trans (H.hd _ _)
  ha0 r j := (iblk2_apply m c t r _).trans (.trans (congrArg (fun q => (V m c main_v49 : S4096x5632.Idx → EReal) (ix2 (row t r) q)) (Fin.ext (by show 0 + j.val = j.val; omega))) (V49_a H (row t r) (J0 j)))
  ha1 r j := (iblk2_apply m c t r _).trans (V49_a H (row t r) (J1 j))
  hb0 r j := (iblk2_apply m c t r _).trans (V49_b H (row t r) (J0 j))
  hb1 r j := (iblk2_apply m c t r _).trans (.trans (congrArg (fun q => (V m c main_v49 : S4096x5632.Idx → EReal) (ix2 (row t r) q)) (Fin.ext (by show 4224 + j.val = 2816 + (1408 + j.val); omega))) (V49_b H (row t r) (J1 j)))
  hsh l := (iblk4_apply m c t 3 l).trans (V2_sh H l)
  hsc l := (iblk4_apply m c t 4 l).trans (V2_sc H l)
  hg2 l := (iblk4_apply m c t 5 l).trans (V2_g2 H l)
  hg l := (iblk4_apply m c t 7 l).trans (V2_g H l)
  hwg0 a b l := (iblk5_apply m c t ⟨0 + a.val, by omega⟩ b l).trans (.trans (V12_g H ⟨0 + a.val, by omega⟩ b l)
    (congrArg (fun q => ((P.wg l q : ℝ) : EReal)) (Fin.ext (by show (0 + a.val) * 352 + b.val = a.val * 352 + b.val; omega))))
  hwg1 a b l := (iblk5_apply m c t ⟨4 + a.val, by omega⟩ b l).trans (.trans (V12_g H ⟨4 + a.val, by omega⟩ b l)
    (congrArg (fun q => ((P.wg l q : ℝ) : EReal)) (Fin.ext (by show (4 + a.val) * 352 + b.val = 1408 + (a.val * 352 + b.val); omega))))
  hwu0 a b l := (iblk6_apply m c t ⟨0 + a.val, by omega⟩ b l).trans (.trans (V12_u H ⟨0 + a.val, by omega⟩ b l)
    (congrArg (fun q => ((P.wu l q : ℝ) : EReal)) (Fin.ext (by show (0 + a.val) * 352 + b.val = a.val * 352 + b.val; omega))))
  hwu1 a b l := (iblk6_apply m c t ⟨4 + a.val, by omega⟩ b l).trans (.trans (V12_u H ⟨4 + a.val, by omega⟩ b l)
    (congrArg (fun q => ((P.wu l q : ℝ) : EReal)) (Fin.ext (by show (4 + a.val) * 352 + b.val = 1408 + (a.val * 352 + b.val); omega))))
  hwd0 a b l := (iblk7_apply m c t ⟨0 + a.val, by omega⟩ b l).trans (.trans (V12_d H ⟨0 + a.val, by omega⟩ b l)
    (congrArg (fun q => ((P.wd q l : ℝ) : EReal)) (Fin.ext (by show (0 + a.val) * 352 + b.val = a.val * 352 + b.val; omega))))
  hwd1 a b l := (iblk7_apply m c t ⟨4 + a.val, by omega⟩ b l).trans (.trans (V12_d H ⟨4 + a.val, by omega⟩ b l)
    (congrArg (fun q => ((P.wd q l : ℝ) : EReal)) (Fin.ext (by show (4 + a.val) * 352 + b.val = 1408 + (a.val * 352 + b.val); omega))))

end

end Cert.FfnIdeal.Blocks

end
-- ==== Proof.FfnValue.lean ====
/- The feed-forward part's backward call: the six arrays after the run. -/
module

public import proofs.«01_k».proof.Proof.FfnIn

@[expose] public section

set_option maxRecDepth 16384

noncomputable section

namespace Cert.FfnIdeal.Blocks

open Cert.FfnIdeal Cert.FfnIdeal.Gen Idealize.ShloMosaic Idealize.ShloMosaic.TcCoe Idealize.SL.Sem
open Idealize.ShloMosaic.Pipeline (Dat)
open Cert.StickReal (coe_sum)

section
variable {m : (ℓ : Loc nD τ sig) → Buf (Elt Ideal) ℓ} {c : Dev nD} {P : Cert.FfnReal.Par}
    (H : Args (xV m c) (modV m c) (gV m c) (wgV m c) (wuV m c) (wdV m c) (dV m c) P)
include H

/-- The row gradients after the run. -/
theorem final_dx : ((dats m 0 c).arrAt 8 cfg0.N : S4096x1024.Idx → EReal) = Cert.FfnReal.dxArr P := by
  have hN : cfg0.N = 16 := N_0
  refine (dats m 0 c).arrAt_eq_of_cover 8 _ (fun t _ => ?_) fun (i : S4096x1024.Idx) => ?_
  · show (cfg0.win 8).cut (grid0.coords t) ((dats m 0 c).after 8 t) = _
    rw [after0_8, dx_at]
    funext j
    obtain ⟨r, l, rfl⟩ : ∃ (r : Fin 256) (l : Fin 1024), j = ix2 r l := ⟨j 0, j 1, eq_ix2 j⟩
    rw [View.read_apply]
    have he : ((cfg0.win 8).blk t).view.emb (ix2 r l) = (ix2 (row t r) l : S4096x1024.Idx) := by
      funext k
      apply Fin.ext
      match k with
      | ⟨0, _⟩ => show win0_8.index t 0 * 256 + 1 * r.val = t.val * 256 + r.val; rw [(index8 t).1]; omega
      | ⟨1, _⟩ => show win0_8.index t 1 * 1024 + 1 * l.val = l.val; rw [(index8 t).2]; omega
    refine (dx_real (point H t) r l).trans ?_
    rw [he]
    rfl
  · have h0 : (i 0 : Nat) < 4096 := (i 0).isLt
    have h1 : (i 1 : Nat) < 1024 := (i 1).isLt
    obtain ⟨t, ht⟩ : ∃ t : Fin cfg0.N, t.val = (i 0 : Nat) / 256 := ⟨⟨(i 0 : Nat) / 256, by omega⟩, rfl⟩
    refine ⟨t, flush0_8 t, ?_⟩
    show i ∈ ((View.whole main_v50_0).slice (win0_8.rect t)).set
    rw [View.set_slice_whole, Rect.mem_set_unit]
    intro a
    match a with
    | ⟨0, _⟩ => show win0_8.index t 0 * 256 ≤ (i 0 : Nat) ∧ (i 0 : Nat) < win0_8.index t 0 * 256 + 256
                rw [(index8 t).1, ht]; omega
    | ⟨1, _⟩ => show win0_8.index t 1 * 1024 ≤ (i 1 : Nat) ∧ (i 1 : Nat) < win0_8.index t 1 * 1024 + 1024
                rw [(index8 t).2]; omega

/-- The modulated rows after the run. -/
theorem final_h : ((dats m 0 c).arrAt 10 cfg0.N : S4096x1024.Idx → EReal) = Cert.FfnReal.hArr P := by
  have hN : cfg0.N = 16 := N_0
  refine (dats m 0 c).arrAt_eq_of_cover 10 _ (fun t _ => ?_) fun (i : S4096x1024.Idx) => ?_
  · show (cfg0.win 10).cut (grid0.coords t) ((dats m 0 c).after 10 t) = _
    rw [after0_10, h_at]
    funext j
    obtain ⟨r, l, rfl⟩ : ∃ (r : Fin 256) (l : Fin 1024), j = ix2 r l := ⟨j 0, j 1, eq_ix2 j⟩
    rw [View.read_apply]
    have he : ((cfg0.win 10).blk t).view.emb (ix2 r l) = (ix2 (row t r) l : S4096x1024.Idx) := by
      funext k
      apply Fin.ext
      match k with
      | ⟨0, _⟩ => show win0_10.index t 0 * 256 + 1 * r.val = t.val * 256 + r.val; rw [(index10 t).1]; omega
      | ⟨1, _⟩ => show win0_10.index t 1 * 1024 + 1 * l.val = l.val; rw [(index10 t).2]; omega
    refine (h_real (point H t) r l).trans ?_
    rw [he]
    rfl
  · have h0 : (i 0 : Nat) < 4096 := (i 0).isLt
    have h1 : (i 1 : Nat) < 1024 := (i 1).isLt
    obtain ⟨t, ht⟩ : ∃ t : Fin cfg0.N, t.val = (i 0 : Nat) / 256 := ⟨⟨(i 0 : Nat) / 256, by omega⟩, rfl⟩
    refine ⟨t, flush0_10 t, ?_⟩
    show i ∈ ((View.whole main_v50_2).slice (win0_10.rect t)).set
    rw [View.set_slice_whole, Rect.mem_set_unit]
    intro a
    match a with
    | ⟨0, _⟩ => show win0_10.index t 0 * 256 ≤ (i 0 : Nat) ∧ (i 0 : Nat) < win0_10.index t 0 * 256 + 256
                rw [(index10 t).1, ht]; omega
    | ⟨1, _⟩ => show win0_10.index t 1 * 1024 ≤ (i 1 : Nat) ∧ (i 1 : Nat) < win0_10.index t 1 * 1024 + 1024
                rw [(index10 t).2]; omega

/-- The gated products after the run. -/
theorem final_s : ((dats m 0 c).arrAt 11 cfg0.N : S4096x2816.Idx → EReal) = Cert.FfnReal.sArr P := by
  have hN : cfg0.N = 16 := N_0
  refine (dats m 0 c).arrAt_eq_of_cover 11 _ (fun t _ => ?_) fun (i : S4096x2816.Idx) => ?_
  · show (cfg0.win 11).cut (grid0.coords t) ((dats m 0 c).after 11 t) = _
    rw [after0_11, s_at]
    funext j
    obtain ⟨r, l, rfl⟩ : ∃ (r : Fin 256) (l : Fin 2816), j = ix2 r l := ⟨j 0, j 1, eq_ix2 j⟩
    rw [View.read_apply]
    have he : ((cfg0.win 11).blk t).view.emb (ix2 r l) = (ix2 (row t r) l : S4096x2816.Idx) := by
      funext k
      apply Fin.ext
      match k with
      | ⟨0, _⟩ => show win0_11.index t 0 * 256 + 1 * r.val = t.val * 256 + r.val; rw [(index11 t).1]; omega
      | ⟨1, _⟩ => show win0_11.index t 1 * 2816 + 1 * l.val = l.val; rw [(index11 t).2]; omega
    refine (sOut_real (point H t) r l).trans ?_
    rw [he]
    rfl
  · have h0 : (i 0 : Nat) < 4096 := (i 0).isLt
    have h1 : (i 1 : Nat) < 2816 := (i 1).isLt
    obtain ⟨t, ht⟩ : ∃ t : Fin cfg0.N, t.val = (i 0 : Nat) / 256 := ⟨⟨(i 0 : Nat) / 256, by omega⟩, rfl⟩
    refine ⟨t, flush0_11 t, ?_⟩
    show i ∈ ((View.whole main_v50_3).slice (win0_11.rect t)).set
    rw [View.set_slice_whole, Rect.mem_set_unit]
    intro a
    match a with
    | ⟨0, _⟩ => show win0_11.index t 0 * 256 ≤ (i 0 : Nat) ∧ (i 0 : Nat) < win0_11.index t 0 * 256 + 256
                rw [(index11 t).1, ht]; omega
    | ⟨1, _⟩ => show win0_11.index t 1 * 2816 ≤ (i 1 : Nat) ∧ (i 1 : Nat) < win0_11.index t 1 * 2816 + 2816
                rw [(index11 t).2]; omega

/-- The gated cotangents after the run. -/
theorem final_df : ((dats m 0 c).arrAt 12 cfg0.N : S4096x1024.Idx → EReal) = Cert.FfnReal.dfArr P := by
  have hN : cfg0.N = 16 := N_0
  refine (dats m 0 c).arrAt_eq_of_cover 12 _ (fun t _ => ?_) fun (i : S4096x1024.Idx) => ?_
  · show (cfg0.win 12).cut (grid0.coords t) ((dats m 0 c).after 12 t) = _
    rw [after0_12, df_at]
    funext j
    obtain ⟨r, l, rfl⟩ : ∃ (r : Fin 256) (l : Fin 1024), j = ix2 r l := ⟨j 0, j 1, eq_ix2 j⟩
    rw [View.read_apply]
    have he : ((cfg0.win 12).blk t).view.emb (ix2 r l) = (ix2 (row t r) l : S4096x1024.Idx) := by
      funext k
      apply Fin.ext
      match k with
      | ⟨0, _⟩ => show win0_12.index t 0 * 256 + 1 * r.val = t.val * 256 + r.val; rw [(index12 t).1]; omega
      | ⟨1, _⟩ => show win0_12.index t 1 * 1024 + 1 * l.val = l.val; rw [(index12 t).2]; omega
    refine (df_real (point H t) r l).trans ?_
    rw [he]
    rfl
  · have h0 : (i 0 : Nat) < 4096 := (i 0).isLt
    have h1 : (i 1 : Nat) < 1024 := (i 1).isLt
    obtain ⟨t, ht⟩ : ∃ t : Fin cfg0.N, t.val = (i 0 : Nat) / 256 := ⟨⟨(i 0 : Nat) / 256, by omega⟩, rfl⟩
    refine ⟨t, flush0_12 t, ?_⟩
    show i ∈ ((View.whole main_v50_4).slice (win0_12.rect t)).set
    rw [View.set_slice_whole, Rect.mem_set_unit]
    intro a
    match a with
    | ⟨0, _⟩ => show win0_12.index t 0 * 256 ≤ (i 0 : Nat) ∧ (i 0 : Nat) < win0_12.index t 0 * 256 + 256
                rw [(index12 t).1, ht]; omega
    | ⟨1, _⟩ => show win0_12.index t 1 * 1024 ≤ (i 1 : Nat) ∧ (i 1 : Nat) < win0_12.index t 1 * 1024 + 1024
                rw [(index12 t).2]; omega

/-- The pre-activations' gradients after the run. -/
theorem final_dab : ((dats m 0 c).arrAt 9 cfg0.N : S4096x5632.Idx → EReal) = Cert.FfnReal.dabArr P := by
  have hN : cfg0.N = 16 := N_0
  refine (dats m 0 c).arrAt_eq_of_cover 9 _ (fun t _ => ?_) fun (i : S4096x5632.Idx) => ?_
  · show (cfg0.win 9).cut (grid0.coords t) ((dats m 0 c).after 9 t) = _
    rw [after0_9, dab_at]
    funext j
    obtain ⟨r, l, rfl⟩ : ∃ (r : Fin 256) (l : Fin 5632), j = ix2 r l := ⟨j 0, j 1, eq_ix2 j⟩
    rw [View.read_apply]
    have he : ((cfg0.win 9).blk t).view.emb (ix2 r l) = (ix2 (row t r) l : S4096x5632.Idx) := by
      funext k
      apply Fin.ext
      match k with
      | ⟨0, _⟩ => show win0_9.index t 0 * 256 + 1 * r.val = t.val * 256 + r.val; rw [(index9 t).1]; omega
      | ⟨1, _⟩ => show win0_9.index t 1 * 5632 + 1 * l.val = l.val; rw [(index9 t).2]; omega
    rw [he]
    rcases Cert.FfnReal.col_cases l with ⟨q, rfl⟩ | ⟨q, rfl⟩
    · exact (dabOut_a (point H t) r q).trans (Cert.FfnReal.dabArr_a P (row t r) q).symm
    · exact (dabOut_b (point H t) r q).trans (Cert.FfnReal.dabArr_b P (row t r) q).symm
  · have h0 : (i 0 : Nat) < 4096 := (i 0).isLt
    have h1 : (i 1 : Nat) < 5632 := (i 1).isLt
    obtain ⟨t, ht⟩ : ∃ t : Fin cfg0.N, t.val = (i 0 : Nat) / 256 := ⟨⟨(i 0 : Nat) / 256, by omega⟩, rfl⟩
    refine ⟨t, flush0_9 t, ?_⟩
    show i ∈ ((View.whole main_v50_1).slice (win0_9.rect t)).set
    rw [View.set_slice_whole, Rect.mem_set_unit]
    intro a
    match a with
    | ⟨0, _⟩ => show win0_9.index t 0 * 256 ≤ (i 0 : Nat) ∧ (i 0 : Nat) < win0_9.index t 0 * 256 + 256
                rw [(index9 t).1, ht]; omega
    | ⟨1, _⟩ => show win0_9.index t 1 * 5632 ≤ (i 1 : Nat) ∧ (i 1 : Nat) < win0_9.index t 1 * 5632 + 5632
                rw [(index9 t).2]; omega

/-- The running sums after point `n`: the rows' shares so far. -/
theorem chain_real : ∀ (n : ℕ) (h : n < cfg0.N) (k : Fin 8) (l : Fin 1024), (chain m c n h : S8x1024.Idx → EReal) (ix2 k l)
    = ((∑ q : Fin (n + 1), ∑ r : Fin 256, Cert.FfnReal.term P ⟨q.val * 256 + r.val, by have := q.isLt; have : cfg0.N = 16 := N_0; omega⟩ k l : ℝ) : EReal)
  | 0, h, k, l => by
    refine (sgStep_real (point H ⟨0, h⟩) _ k l).trans ?_
    have z : (k0_pay1 (F := Ideal) : S8x1024.Idx → EReal) (ix2 k l) = 0 := by pointwise [k0_pay1]
    rw [z, zero_add, Fin.sum_univ_one]
    rfl
  | n + 1, h, k, l => by
    refine (sgStep_real (point H ⟨n + 1, h⟩) _ k l).trans ?_
    rw [chain_real n, ← EReal.coe_add, Fin.sum_univ_castSucc (n := n + 1)]
    rfl

/-- The modulation rows' and the gain's gradient after the run. -/
theorem final_sg : ((dats m 0 c).arrAt 13 cfg0.N : S8x1024.Idx → EReal) = Cert.FfnReal.sgArr P := by
  have hN : cfg0.N = 16 := N_0
  have hlt : 15 < cfg0.N := by omega
  refine (dats m 0 c).arrAt_eq_of_cover 13 _ (fun t hf => ?_) fun (i : S8x1024.Idx) => ?_
  · have h15 : t = ⟨15, hlt⟩ := Fin.ext (by have := (flush0_13 t).mp hf; have := t.isLt; show t.val = 15; omega)
    subst h15
    show (cfg0.win 13).cut (grid0.coords _) ((dats m 0 c).after 13 _) = _
    rw [after0_13, sg_at]
    funext j
    obtain ⟨k, l, rfl⟩ : ∃ (k : Fin 8) (l : Fin 1024), j = ix2 k l := ⟨j 0, j 1, eq_ix2 j⟩
    rw [View.read_apply]
    refine (chain_real H 15 hlt k l).trans ?_
    have he : ((cfg0.win 13).blk ⟨15, hlt⟩).view.emb (ix2 k l) = (ix2 k l : S8x1024.Idx) := by
      funext a
      apply Fin.ext
      match a with
      | ⟨0, _⟩ => show win0_13.index ⟨15, hlt⟩ 0 * 8 + 1 * k.val = k.val; rw [(index13 _).1]; omega
      | ⟨1, _⟩ => show win0_13.index ⟨15, hlt⟩ 1 * 1024 + 1 * l.val = l.val; rw [(index13 _).2]; omega
    rw [he]
    refine congrArg (fun x : ℝ => (x : EReal)) ?_
    rw [Fin.sum_univ_tiles (N := 4096) 16 256 (by norm_num)]
    rfl
  · refine ⟨⟨15, hlt⟩, (flush0_13 _).mpr rfl, ?_⟩
    show i ∈ ((View.whole main_v50_5).slice (win0_13.rect ⟨15, hlt⟩)).set
    rw [View.set_slice_whole, Rect.mem_set_unit]
    intro a
    have h0 : (i 0 : Nat) < 8 := (i 0).isLt
    have h1 : (i 1 : Nat) < 1024 := (i 1).isLt
    match a with
    | ⟨0, _⟩ => show win0_13.index ⟨15, hlt⟩ 0 * 8 ≤ (i 0 : Nat) ∧ (i 0 : Nat) < win0_13.index ⟨15, hlt⟩ 0 * 8 + 8
                rw [(index13 _).1]; omega
    | ⟨1, _⟩ => show win0_13.index ⟨15, hlt⟩ 1 * 1024 ≤ (i 1 : Nat) ∧ (i 1 : Nat) < win0_13.index ⟨15, hlt⟩ 1 * 1024 + 1024
                rw [(index13 _).2]; omega

end

end Cert.FfnIdeal.Blocks

end
-- ==== Proof.FfnRef.lean ====
/- The feed-forward part as a derivative: the reference's six arrays, over the reals. -/
module

public import proofs.«01_k».proof.Proof.FfnReal
public import proofs.«01_k».proof.Proof.Gen.FfnRefIdeal.Read
public import proofs.«01_k».proof.Proof.Gen.FfnRefIdeal.Run
public import Idealize.ShloMosaic.Lib.Pointwise

@[expose] public section

set_option maxRecDepth 16384

noncomputable section

namespace Cert.FfnRefIdeal.At

open Cert.FfnRefIdeal Cert.FfnRefIdeal.Gen Cert.FfnRefIdeal.Read Idealize.ShloMosaic Idealize.ShloMosaic.TcCoe
open Cert.StickReal (coe_sum)
open Cert.FfnReal

/-- The arguments hold the real values `P`. -/
structure Args (x0 : S4096x1024.Idx → EReal) (x1 : S6x1024.Idx → EReal) (x3 : S1024.Idx → EReal) (x4 x5 : S1024x2816.Idx → EReal)
    (x6 : S2816x1024.Idx → EReal) (x7 : S4096x1024.Idx → EReal) (P : Par) : Prop where
  hx : ∀ r l, x0 (ix2 r l) = ((P.x r l : ℝ) : EReal)
  hsh : ∀ l, x1 (ix2 3 l) = ((P.sh l : ℝ) : EReal)
  hsc : ∀ l, x1 (ix2 4 l) = ((P.sc l : ℝ) : EReal)
  hg2 : ∀ l, x1 (ix2 5 l) = ((P.g2 l : ℝ) : EReal)
  hg : ∀ l, x3 (ix1 l) = ((P.g l : ℝ) : EReal)
  hwg : ∀ l j, x4 (ix2 l j) = ((P.wg l j : ℝ) : EReal)
  hwu : ∀ l j, x5 (ix2 l j) = ((P.wu l j : ℝ) : EReal)
  hwd : ∀ j l, x6 (ix2 j l) = ((P.wd j l : ℝ) : EReal)
  hd : ∀ r l, x7 (ix2 r l) = ((P.d r l : ℝ) : EReal)

variable {x0 : FVec Ideal S4096x1024 .f32} {x1 : FVec Ideal S6x1024 .f32} {x3 : FVec Ideal S1024 .f32} {x4 x5 : FVec Ideal S1024x2816 .f32}
    {x6 : FVec Ideal S2816x1024 .f32} {x7 : FVec Ideal S4096x1024 .f32} {P : Par} (H : Args x0 x1 x3 x4 x5 x6 x7 P)
include H

theorem ms_at (r : Fin 4096) : (val_main_v11 (F := Ideal) x0 : S4096x1.Idx → EReal) (ix2 r 0) = (((∑ l, P.x r l * P.x r l) / 1024 + eps : ℝ) : EReal) := by
  pointwise [val_main_v11, val_main_v10, val_main_v9, val_main_v8, val_main_v7, val_main_v6, val_main_v5, val_main_cst_1, val_main_cst_2, val_main_cst_3]
  simp only [H.hx, eps_word, word1024, ← EReal.coe_mul, ← EReal.coe_add, ← coe_sum, div_1024]

theorem rs_at (r : Fin 4096) : (val_main_v12 (F := Ideal) x0 : S4096x1.Idx → EReal) (ix2 r 0) = ((rs (P.x r) : ℝ) : EReal) := by
  pointwise [val_main_v12]
  rw [ms_at H, rsqrt_ms]

theorem cube_at (r : Fin 4096) : (val_main_v15 (F := Ideal) x0 : S4096x1.Idx → EReal) (ix2 r 0) = ((-(1 / 2) * (rs (P.x r) * rs (P.x r) * rs (P.x r)) : ℝ) : EReal) := by
  pointwise [val_main_v15, val_main_v14, val_main_v13, val_main_cst_4]
  rw [ms_at H, rs_at H, div_ms, word_half, rs_div, ← EReal.coe_mul]

theorem n_at (r : Fin 4096) (l : Fin 1024) : (val_main_v17 (F := Ideal) x0 : S4096x1024.Idx → EReal) (ix2 r l) = ((n P r l : ℝ) : EReal) := by
  pointwise [val_main_v17, val_main_v16]
  rw [rs_at H, H.hx, ← EReal.coe_mul]; rfl

theorem ng_at (r : Fin 4096) (l : Fin 1024) : (val_main_v20 (F := Ideal) x0 x3 : S4096x1024.Idx → EReal) (ix2 r l) = ((n P r l * P.g l : ℝ) : EReal) := by
  pointwise [val_main_v20, val_main_v19, val_main_v18]
  rw [n_at H, H.hg, ← EReal.coe_mul]

theorem sc_at (l : Fin 1024) : (val_main_v22 (F := Ideal) x1 : S1x1024.Idx → EReal) (ix2 0 l) = ((1 + P.sc l : ℝ) : EReal) := by
  pointwise [val_main_v22, val_main_v21, val_main_v2, val_main_cst_5]
  simp only [H.hsc, ← EReal.coe_one, ← EReal.coe_add]

theorem h_at (r : Fin 4096) (l : Fin 1024) : (val_main_v26 (F := Ideal) x0 x1 x3 : S4096x1024.Idx → EReal) (ix2 r l) = ((h P r l : ℝ) : EReal) := by
  pointwise [val_main_v26, val_main_v25, val_main_v24, val_main_v23, val_main_v1]
  simp only [ng_at H, sc_at H, H.hsh, ← EReal.coe_mul, ← EReal.coe_add]; rfl

theorem a_at (r : Fin 4096) (j : Fin 2816) : (val_main_v28 (F := Ideal) x0 x1 x3 x4 : S4096x2816.Idx → EReal) (ix2 r j) = ((a P r j : ℝ) : EReal) := by
  pointwise [val_main_v28, val_main_v27, val_main_v0, val_main_cst]
  simp only [h_at H, H.hwg, ← EReal.coe_mul, ← coe_sum]; rfl

theorem b_at (r : Fin 4096) (j : Fin 2816) : (val_main_v31 (F := Ideal) x0 x1 x3 x5 : S4096x2816.Idx → EReal) (ix2 r j) = ((b P r j : ℝ) : EReal) := by
  pointwise [val_main_v31, val_main_v30, val_main_v0, val_main_cst]
  simp only [h_at H, H.hwu, ← EReal.coe_mul, ← coe_sum]; rfl

theorem sg_at (r : Fin 4096) (j : Fin 2816) : (val_main_v29_2 (F := Ideal) x0 x1 x3 x4 : S4096x2816.Idx → EReal) (ix2 r j) = ((sg (a P r j) : ℝ) : EReal) := by
  pointwise [val_main_v29_2, val_main_call0_v4, val_main_call0_v3, val_main_call0_v2, val_main_call0_v1, val_main_call0_v0, val_main_call0_cst, val_main_call0_cst_0]
  simp only [a_at H, ← EReal.coe_one, ← EReal.coe_neg, ← EReal.coe_add, Ideal.exp_coe, sg_coe]

theorem dsg_at (r : Fin 4096) (j : Fin 2816) :
    (val_main_v29_1 (F := Ideal) x0 x1 x3 x4 : S4096x2816.Idx → EReal) (ix2 r j) = ((sg (a P r j) * (1 - sg (a P r j)) : ℝ) : EReal) := by
  pointwise [val_main_v29_1, val_main_call0_v7, val_main_call0_v6, val_main_call0_cst_1]
  simp only [sg_at H, ← EReal.coe_one, ← EReal.coe_sub, ← EReal.coe_mul]

theorem silu_at (r : Fin 4096) (j : Fin 2816) : (val_main_v29_0 (F := Ideal) x0 x1 x3 x4 : S4096x2816.Idx → EReal) (ix2 r j) = ((a P r j * sg (a P r j) : ℝ) : EReal) := by
  pointwise [val_main_v29_0]
  rw [a_at H, sg_at H, ← EReal.coe_mul]

theorem s_at (r : Fin 4096) (j : Fin 2816) : (val_main_v32 (F := Ideal) x0 x1 x3 x4 x5 : S4096x2816.Idx → EReal) (ix2 r j) = ((s P r j : ℝ) : EReal) := by
  pointwise [val_main_v32]
  rw [silu_at H, b_at H, ← EReal.coe_mul]; rfl

theorem f_at (r : Fin 4096) (l : Fin 1024) : (val_main_v34 (F := Ideal) x0 x1 x3 x4 x5 x6 : S4096x1024.Idx → EReal) (ix2 r l) = ((f P r l : ℝ) : EReal) := by
  pointwise [val_main_v34, val_main_v33, val_main_v4, val_main_cst_0]
  simp only [s_at H, H.hwd, ← EReal.coe_mul, ← coe_sum]; rfl

theorem d_at (r : Fin 4096) (l : Fin 1024) : (val_main_v38 (F := Ideal) x7 : S4096x1024.Idx → EReal) (ix2 r l) = ((P.d r l : ℝ) : EReal) := by
  rw [← H.hd]
  pointwise [val_main_v38]

theorem df_at (r : Fin 4096) (l : Fin 1024) : (val_main_v40 (F := Ideal) x1 x7 : S4096x1024.Idx → EReal) (ix2 r l) = ((df P r l : ℝ) : EReal) := by
  pointwise [val_main_v40, val_main_v39, val_main_v3]
  rw [H.hg2, d_at H, ← EReal.coe_mul]; rfl

theorem dg2_at (l : Fin 1024) : (val_main_v43 (F := Ideal) x0 x1 x3 x4 x5 x6 x7 : S1x1024.Idx → EReal) (ix2 0 l) = ((∑ r, P.d r l * f P r l : ℝ) : EReal) := by
  pointwise [val_main_v43, val_main_v42, val_main_v41, val_main_cst_6]
  simp only [d_at H, f_at H, ← EReal.coe_mul, ← coe_sum]

theorem ds_at (r : Fin 4096) (j : Fin 2816) : (val_main_v44 (F := Ideal) x1 x6 x7 : S4096x2816.Idx → EReal) (ix2 r j) = ((ds P r j : ℝ) : EReal) := by
  pointwise [val_main_v44]
  simp only [df_at H, H.hwd, ← EReal.coe_mul, ← coe_sum]; rfl

theorem db_at (r : Fin 4096) (j : Fin 2816) : (val_main_v45 (F := Ideal) x0 x1 x3 x4 x6 x7 : S4096x2816.Idx → EReal) (ix2 r j) = ((db P r j : ℝ) : EReal) := by
  pointwise [val_main_v45]
  rw [silu_at H, ds_at H, ← EReal.coe_mul, mul_comm]; rfl

theorem dsb_at (r : Fin 4096) (j : Fin 2816) : (val_main_v46 (F := Ideal) x0 x1 x3 x5 x6 x7 : S4096x2816.Idx → EReal) (ix2 r j) = ((ds P r j * b P r j : ℝ) : EReal) := by
  pointwise [val_main_v46]
  rw [b_at H, ds_at H, ← EReal.coe_mul]

theorem da_at (r : Fin 4096) (j : Fin 2816) : (val_main_v48 (F := Ideal) x0 x1 x3 x4 x5 x6 x7 : S4096x2816.Idx → EReal) (ix2 r j) = ((da P r j : ℝ) : EReal) := by
  pointwise [val_main_v48, val_main_call1_v2, val_main_call1_v1, val_main_call1_v0]
  simp only [dsb_at H, sg_at H, a_at H, dsg_at H, ← EReal.coe_mul, ← EReal.coe_add]
  congr 1
  rw [da]
  ring

theorem dh_at (r : Fin 4096) (l : Fin 1024) : (val_main_v50 (F := Ideal) x0 x1 x3 x4 x5 x6 x7 : S4096x1024.Idx → EReal) (ix2 r l) = ((dh P r l : ℝ) : EReal) := by
  pointwise [val_main_v50, val_main_v49, val_main_v47]
  simp only [da_at H, db_at H, H.hwg, H.hwu, ← EReal.coe_mul, ← EReal.coe_add, ← coe_sum]
  congr 1
  rw [dh, Finset.sum_add_distrib, add_comm]

theorem dsh_at (l : Fin 1024) : (val_main_v52 (F := Ideal) x0 x1 x3 x4 x5 x6 x7 : S1x1024.Idx → EReal) (ix2 0 l) = ((∑ r, dh P r l : ℝ) : EReal) := by
  pointwise [val_main_v52, val_main_v51, val_main_cst_7]
  simp only [dh_at H, ← coe_sum]

theorem dsc_at (l : Fin 1024) : (val_main_v55 (F := Ideal) x0 x1 x3 x4 x5 x6 x7 : S1x1024.Idx → EReal) (ix2 0 l) = ((∑ r, dh P r l * (n P r l * P.g l) : ℝ) : EReal) := by
  pointwise [val_main_v55, val_main_v54, val_main_v53, val_main_cst_8]
  simp only [dh_at H, ng_at H, ← EReal.coe_mul, ← coe_sum, mul_comm]

theorem dhs_at (r : Fin 4096) (l : Fin 1024) : (val_main_v57 (F := Ideal) x0 x1 x3 x4 x5 x6 x7 : S4096x1024.Idx → EReal) (ix2 r l) = ((dh P r l * (1 + P.sc l) : ℝ) : EReal) := by
  pointwise [val_main_v57, val_main_v56]
  rw [dh_at H, sc_at H, ← EReal.coe_mul]

theorem dg_at (l : Fin 1024) : (val_main_v84 (F := Ideal) x0 x1 x3 x4 x5 x6 x7 : S1x1024.Idx → EReal) (ix2 0 l) = ((∑ r, dh P r l * n P r l * (1 + P.sc l) : ℝ) : EReal) := by
  pointwise [val_main_v84, val_main_v63, val_main_v60, val_main_v59, val_main_v58, val_main_cst_9, val_main_cst_10]
  simp only [dhs_at H, n_at H, ← EReal.coe_mul, ← coe_sum, Fin.sum_univ_one]
  congr 1
  exact Finset.sum_congr rfl fun r _ => by ring

theorem dn_at (r : Fin 4096) (l : Fin 1024) : (val_main_v62 (F := Ideal) x0 x1 x3 x4 x5 x6 x7 : S4096x1024.Idx → EReal) (ix2 r l) = ((dn P r l : ℝ) : EReal) := by
  pointwise [val_main_v62, val_main_v61, val_main_v18]
  rw [dhs_at H, H.hg, ← EReal.coe_mul]
  congr 1
  rw [dn]; ring

theorem mean_at (r : Fin 4096) : (val_main_v73 (F := Ideal) x0 x1 x3 x4 x5 x6 x7 : S4096.Idx → EReal) (ix1 r)
    = (((∑ l, P.x r l * dn P r l) * (-(1 / 2) * (rs (P.x r) * rs (P.x r) * rs (P.x r))) / 1024 : ℝ) : EReal) := by
  pointwise [val_main_v73, val_main_v72, val_main_v71, val_main_v70, val_main_v66, val_main_v65, val_main_v64, val_main_cst_11, val_main_cst_12, val_main_cst_13]
  simp only [dn_at H, H.hx, cube_at H, word1024, ← EReal.coe_mul, ← coe_sum, Fin.sum_univ_one, div_1024]

theorem dx_at (r : Fin 4096) (l : Fin 1024) : (val_main_v78 (F := Ideal) x0 x1 x3 x4 x5 x6 x7 : S4096x1024.Idx → EReal) (ix2 r l) = ((dx P r l : ℝ) : EReal) := by
  pointwise [val_main_v78, val_main_v77, val_main_v76, val_main_v75, val_main_v74, val_main_v69, val_main_v68, val_main_v67]
  simp only [dn_at H, H.hx, H.hd, rs_at H, mean_at H, ← EReal.coe_mul, ← EReal.coe_add]
  congr 1
  rw [dx, n]
  have e : ∑ k, dn P r k * n P r k = (∑ k, P.x r k * dn P r k) * rs (P.x r) := by
    rw [Finset.sum_mul]
    exact Finset.sum_congr rfl fun k _ => by rw [n]; ring
  rw [e]
  ring

/-- The six arrays are those of the real values. -/
theorem dx_eq : (val_main_v78 (F := Ideal) x0 x1 x3 x4 x5 x6 x7 : S4096x1024.Idx → EReal) = dxArr P := by
  funext i
  obtain ⟨r, l, rfl⟩ : ∃ (r : Fin 4096) (l : Fin 1024), i = ix2 r l := ⟨i 0, i 1, eq_ix2 i⟩
  exact dx_at H r l

theorem h_eq : (val_main_v81 (F := Ideal) x0 x1 x3 : S4096x1024.Idx → EReal) = hArr P := by
  funext i
  obtain ⟨r, l, rfl⟩ : ∃ (r : Fin 4096) (l : Fin 1024), i = ix2 r l := ⟨i 0, i 1, eq_ix2 i⟩
  exact h_at H r l

theorem s_eq : (val_main_v82 (F := Ideal) x0 x1 x3 x4 x5 : S4096x2816.Idx → EReal) = sArr P := by
  funext i
  obtain ⟨r, l, rfl⟩ : ∃ (r : Fin 4096) (l : Fin 2816), i = ix2 r l := ⟨i 0, i 1, eq_ix2 i⟩
  exact s_at H r l

theorem df_eq : (val_main_v83 (F := Ideal) x1 x7 : S4096x1024.Idx → EReal) = dfArr P := by
  funext i
  obtain ⟨r, l, rfl⟩ : ∃ (r : Fin 4096) (l : Fin 1024), i = ix2 r l := ⟨i 0, i 1, eq_ix2 i⟩
  exact df_at H r l

theorem dab_eq : (val_main_v80 (F := Ideal) x0 x1 x3 x4 x5 x6 x7 : S4096x5632.Idx → EReal) = dabArr P := by
  funext i
  obtain ⟨r, l, rfl⟩ : ∃ (r : Fin 4096) (l : Fin 5632), i = ix2 r l := ⟨i 0, i 1, eq_ix2 i⟩
  rcases col_cases l with ⟨q, rfl⟩ | ⟨q, rfl⟩
  · rw [dabArr_a, ← da_at H]
    pointwise [val_main_v80, val_main_v79]
  · rw [dabArr_b, ← db_at H]
    pointwise [val_main_v80, val_main_v79]

theorem sg_eq : (val_main_v86 (F := Ideal) x0 x1 x3 x4 x5 x6 x7 : S8x1024.Idx → EReal) = sgArr P := by
  funext i
  obtain ⟨k, l, rfl⟩ : ∃ (k : Fin 8) (l : Fin 1024), i = ix2 k l := ⟨i 0, i 1, eq_ix2 i⟩
  have z : (0 : EReal) = ((∑ _r : Fin 4096, (0 : ℝ) : ℝ) : EReal) := by simp
  fin_cases k
  · refine Eq.trans ?_ (dsh_at H l)
    pointwise [val_main_v86]
  · refine Eq.trans ?_ (dsc_at H l)
    pointwise [val_main_v86]
  · refine Eq.trans ?_ (dg2_at H l)
    pointwise [val_main_v86]
  · refine Eq.trans ?_ (dg_at H l)
    pointwise [val_main_v86]
  all_goals
    refine Eq.trans ?_ z
    pointwise [val_main_v86, val_main_v85, val_main_cst_14]

end Cert.FfnRefIdeal.At

end
-- ==== Proof.FfnClaim.lean ====
/- The claims about the feed-forward part's backward call: the frames, and the value of its six results. -/
module

public import proofs.«01_k».proof.Defs
public import proofs.«01_k».proof.Proof.Gen.Ffn.Frame
public import proofs.«01_k».proof.Proof.Gen.FfnIdeal.Value
public import proofs.«01_k».proof.Proof.FfnValue
public import proofs.«01_k».proof.Proof.FfnRef
public import proofs.«01_k».proof.Proof.StickClaim
public import Idealize.ShloMosaic.Lib.Quiescent

@[expose] public section

set_option maxRecDepth 16384

noncomputable section

namespace Cert.FfnClaim

open Idealize.ShloMosaic Idealize.ShloMosaic.TcCoe Idealize.SL.Sem
open Cert.StickClaim (real_of_abs_lt)
open Cert.FfnIdeal.Blocks (xV modV gV wgV wuV wdV dV)

/-- The side conditions of the precondition's own operations. -/
theorem pre_facts : Cert.Pre_ffn_finite.Facts where
  bcast_S_S4096x1024 := by decide
  bcast_S_S6x1024 := by decide
  bcast_S_S1024 := by decide
  bcast_S_S1024x2816 := by decide
  bcast_S_S2816x1024 := by decide

/-- The real values of the arguments. -/
def par (m : (ℓ : Loc Cert.FfnIdeal.nD Cert.FfnIdeal.τ Cert.FfnIdeal.sig) → Buf (Elt Ideal) ℓ) (c : Dev Cert.FfnIdeal.nD) : Cert.FfnReal.Par where
  x r l := (xV m c (ix2 r l)).toReal
  d r l := (dV m c (ix2 r l)).toReal
  sh l := (modV m c (ix2 3 l)).toReal
  sc l := (modV m c (ix2 4 l)).toReal
  g2 l := (modV m c (ix2 5 l)).toReal
  g l := (gV m c (ix1 l)).toReal
  wg l j := (wgV m c (ix2 l j)).toReal
  wu l j := (wuV m c (ix2 l j)).toReal
  wd j l := (wdV m c (ix2 j l)).toReal

/-- The arguments the precondition admits are arrays of reals. -/
theorem args (m : (ℓ : Loc Cert.FfnIdeal.nD Cert.FfnIdeal.τ Cert.FfnIdeal.sig) → Buf (Elt Ideal) ℓ) (c : Dev Cert.FfnIdeal.nD)
    (h : Cert.Pre_FfnIdeal_ffn_finite (hPre_ffn_finite := pre_facts) m) :
    Cert.FfnIdeal.Blocks.Args (xV m c) (modV m c) (gV m c) (wgV m c) (wuV m c) (wdV m c) (dV m c) (par m c) :=
  have ⟨h0, h1, h3, h4, h5, h6, h7⟩ := h c
  { hx := fun r l => real_of_abs_lt (congrFun h0 (ix2 r l))
    hsh := fun l => real_of_abs_lt (congrFun h1 (ix2 3 l))
    hsc := fun l => real_of_abs_lt (congrFun h1 (ix2 4 l))
    hg2 := fun l => real_of_abs_lt (congrFun h1 (ix2 5 l))
    hg := fun l => real_of_abs_lt (congrFun h3 (ix1 l))
    hwg := fun l j => real_of_abs_lt (congrFun h4 (ix2 l j))
    hwu := fun l j => real_of_abs_lt (congrFun h5 (ix2 l j))
    hwd := fun j l => real_of_abs_lt (congrFun h6 (ix2 j l))
    hd := fun r l => real_of_abs_lt (congrFun h7 (ix2 r l)) }

/-- The kernel's six results and the reference's are the same arrays. -/
theorem value : Cert.algebraic_FfnIdeal_FfnRefIdeal_pre_ffn_finite
    (hFfnIdeal := Cert.FfnIdeal.Gen.facts) (hFfnRefIdeal := Cert.FfnRefIdeal.Gen.facts) (hPre_ffn_finite := pre_facts) := by
  intro m g m' g' hp hm
  have H := fun c => args m c hp
  have R := fun c => (⟨(H c).hx, (H c).hsh, (H c).hsc, (H c).hg2, (H c).hg, (H c).hwg, (H c).hwu, (H c).hwd, (H c).hd⟩ :
    Cert.FfnRefIdeal.At.Args (xV m c) (modV m c) (gV m c) (wgV m c) (wuV m c) (wdV m c) (dV m c) (par m c))
  refine ⟨_, _, _, _, _, _, (θ_run Cert.FfnIdeal.defs _ _).mono (fun r h c => ⟨(h c).1.trans (Cert.FfnIdeal.Blocks.final_dx (H c)),
    (h c).2.1.trans (Cert.FfnIdeal.Blocks.final_dab (H c)), (h c).2.2.1.trans (Cert.FfnIdeal.Blocks.final_h (H c)),
    (h c).2.2.2.1.trans (Cert.FfnIdeal.Blocks.final_s (H c)), (h c).2.2.2.2.1.trans (Cert.FfnIdeal.Blocks.final_df (H c)),
    (h c).2.2.2.2.2.1.trans (Cert.FfnIdeal.Blocks.final_sg (H c)), (h c).2.2.2.2.2.2⟩) (Cert.FfnIdeal.Value.run_blocks m g), ?_⟩
  refine (θ_run Cert.FfnRefIdeal.defs _ _).mono (fun r h c => ?_) (Cert.FfnRefIdeal.Value.run m' g')
  obtain ⟨e0, e1, e2, e3, e4, e5, e6, e7⟩ := hm c
  refine ⟨?_, ?_, ?_, ?_, ?_, ?_, (h c).2.2.2.2.2.2⟩
  · refine (h c).1.trans ((Cert.FfnRefIdeal.Read.val_main_v78_eq _ _).trans ?_)
    rw [e0, e1, e3, e4, e5, e6, e7]
    exact Cert.FfnRefIdeal.At.dx_eq (R c)
  · refine (h c).2.1.trans ((Cert.FfnRefIdeal.Read.val_main_v80_eq _ _).trans ?_)
    rw [e0, e1, e3, e4, e5, e6, e7]
    exact Cert.FfnRefIdeal.At.dab_eq (R c)
  · refine (h c).2.2.1.trans ((Cert.FfnRefIdeal.Read.val_main_v81_eq _ _ _).trans ?_)
    rw [e0, e1, e3]
    exact Cert.FfnRefIdeal.At.h_eq (R c)
  · refine (h c).2.2.2.1.trans ((Cert.FfnRefIdeal.Read.val_main_v82_eq _ _).trans ?_)
    rw [e0, e1, e3, e4, e5]
    exact Cert.FfnRefIdeal.At.s_eq (R c)
  · refine (h c).2.2.2.2.1.trans ((Cert.FfnRefIdeal.Read.val_main_v83_eq _ _).trans ?_)
    rw [e1, e7]
    exact Cert.FfnRefIdeal.At.df_eq (R c)
  · refine (h c).2.2.2.2.2.1.trans ((Cert.FfnRefIdeal.Read.val_main_v86_eq _ _).trans ?_)
    rw [e0, e1, e3, e4, e5, e6, e7]
    exact Cert.FfnRefIdeal.At.sg_eq (R c)

/-- The kernel's frame, on words. -/
theorem frame : Cert.quiescent_Ffn (hFfn := Cert.Ffn.Gen.facts) := fun m ρ _ => Cert.Ffn.Gen.frame m ρ

/-- The kernel's frame, over the extended reals. -/
theorem frame_ideal : Cert.quiescent_FfnIdeal (hFfnIdeal := Cert.FfnIdeal.Gen.facts) := fun m ρ _ => Cert.FfnIdeal.Gen.frame m ρ

/-- The kernel's frame, under the precondition. -/
theorem frame_ideal_pre : Cert.quiescent_FfnIdeal_pre_ffn_finite (hFfnIdeal := Cert.FfnIdeal.Gen.facts) (hPre_ffn_finite := pre_facts) :=
  fun m ρ _ => Cert.FfnIdeal.Gen.frame m ρ

/-- The reference's frame. -/
theorem frame_ref : Cert.quiescent_FfnRefIdeal (hFfnRefIdeal := Cert.FfnRefIdeal.Gen.facts) := fun m ρ _ =>
  (θ_run Cert.FfnRefIdeal.defs _ _).mono (fun r h => ⟨fun c => (h c).2.2.2.2.2.2, sem_eq_zero_of_no_sems (by decide) r.2⟩)
    (Cert.FfnRefIdeal.Value.run (F := Ideal) m ρ)

/-- The reference's frame, under the precondition. -/
theorem frame_ref_pre : Cert.quiescent_FfnRefIdeal_pre_ffn_finite (hFfnRefIdeal := Cert.FfnRefIdeal.Gen.facts) (hPre_ffn_finite := pre_facts) :=
  fun m ρ _ => frame_ref m ρ trivial

end Cert.FfnClaim

end
-- ==== Proof.GateFwdValue.lean ====
/- The odd layers' output gate forward: what a point stores, and the two arrays after the run. -/
module

public import proofs.«01_k».proof.Proof.Gen.GateFwdIdeal.Value
public import Idealize.ShloMosaic.Lib.StableHlo.RunRead
public import Idealize.ShloMosaic.Lib.Pointwise

@[expose] public section

set_option maxRecDepth 16384

noncomputable section

namespace Cert.GateFwdIdeal.Blocks

open Cert.GateFwdIdeal Cert.GateFwdIdeal.Gen Idealize.ShloMosaic Idealize.ShloMosaic.TcCoe Idealize.SL.Sem
open Idealize.ShloMosaic.Pipeline (Dat)

theorem hz2 : (![0, 0] : Fin 2 → Nat) = fun _ => 0 := by decide
theorem hz4 : (![0, 0, 0, 0] : Fin 4 → Nat) = fun _ => 0 := by decide

/-- A load of the third row, at a column. -/
theorem ld_gate (x : Vec Ideal S8x1024 .f32) (l : Fin 1024) : (View.ld x r0_2 : Vec Ideal S1x1024 .f32) (ix2 0 l) = x (ix2 2 l) :=
  congrArg x (funext fun a => Fin.ext (match a with
    | ⟨0, _⟩ => rfl
    | ⟨1, _⟩ => by show 0 + 1 * l.val = l.val; omega))

/-- The projection's rows, eight blocks of 128. -/
def rows (w : Vec Ideal S8x1x128x1024 .bf16) (k l : Fin 1024) : EReal := w (ix4 ⟨k.val / 128, by omega⟩ 0 ⟨k.val % 128, by omega⟩ l)

/-- The projected mixer output of a block. -/
theorem pay1_apply (x : Vec Ideal S256x1024 .bf16) (w : Vec Ideal S8x1x128x1024 .bf16) (r : Fin 256) (l : Fin 1024) :
    (k0_pay1 (F := Ideal) x w : S256x1024.Idx → EReal) (ix2 r l) = ∑ k : Fin 1024, x (ix2 r k) * rows w k l := by
  pointwise [k0_pay1, rows]

/-- The gated residual of a block. -/
theorem pay2_apply (x : Vec Ideal S256x1024 .bf16) (w : Vec Ideal S8x1x128x1024 .bf16) (y : Vec Ideal S256x1024 .f32) (g : Vec Ideal S1x1024 .f32)
    (r : Fin 256) (l : Fin 1024) : (k0_pay2 (F := Ideal) x w y g : S256x1024.Idx → EReal) (ix2 r l)
      = y (ix2 r l) + g (ix2 0 l) * ∑ k : Fin 1024, x (ix2 r k) * rows w k l := by
  pointwise [k0_pay2]
  rw [pay1_apply]

section
variable (x0 : Vec Ideal S256x1024 .bf16) (x1 : Vec Ideal S256x1024 .f32) (x2 : Vec Ideal S8x1024 .f32) (x3 : Vec Ideal S8x1x128x1024 .bf16)
  (r : Fin 256) (l : Fin 1024)

theorem y_point : (out0_5 x0 x1 x2 x3 : S256x1024.Idx → EReal) (ix2 r l) = ∑ k : Fin 1024, x0 (ix2 r k) * rows x3 k l := by
  unfold out0_5
  rw [View.canon_unit_zero (S := S256x1024) hz2]
  simp only [View.ld_unit_zero (S := S256x1024) hz2, View.ld_unit_zero (S := S8x1x128x1024) hz4]
  exact pay1_apply _ _ _ _

theorem x_point : (out0_4 x0 x1 x2 x3 : S256x1024.Idx → EReal) (ix2 r l)
    = x1 (ix2 r l) + x2 (ix2 2 l) * ∑ k : Fin 1024, x0 (ix2 r k) * rows x3 k l := by
  unfold out0_4
  rw [View.canon_unit_zero (S := S256x1024) hz2]
  simp only [View.ld_unit_zero (S := S256x1024) hz2, View.ld_unit_zero (S := S8x1x128x1024) hz4]
  refine (pay2_apply _ _ _ _ _ _).trans ?_
  rw [ld_gate]
end

variable (m : (ℓ : Loc nD τ sig) → Buf (Elt Ideal) ℓ) (c : Dev nD)

/-- Which block each window stages at a point. -/
theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = 0 := by decide +kernel
theorem index3 : ∀ t : Fin grid0.N, win0_3.index t 0 = 0 ∧ win0_3.index t 1 = 0 ∧ win0_3.index t 2 = 0 ∧ win0_3.index t 3 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel

/-- A tile's row as a row of the whole. -/
def row (t : Fin cfg0.N) (r : Fin 256) : Fin 4096 := ⟨t.val * 256 + r.val, by have := lt_of_lt_of_eq t.isLt N_0; omega⟩

/-- The arguments' contents. -/
abbrev oV : S4096x1024.Idx → EReal := m ((c : Thread nD τ).loc main_arg0)
abbrev xV : S4096x1024.Idx → EReal := m ((c : Thread nD τ).loc main_arg1)
abbrev modV : S6x1024.Idx → EReal := m ((c : Thread nD τ).loc main_arg2)
abbrev wV : S1024x1024.Idx → EReal := m ((c : Thread nD τ).loc main_arg5)

theorem V3 (r : Fin 4096) (l : Fin 1024) : (V m c main_v3 : S4096x1024.Idx → EReal) (ix2 r l) = oV m c (ix2 r l) := by
  simp only [V, hostOps0]
  after_reads_simp
  pointwise []

theorem V2 (l : Fin 1024) : (V m c main_v2 : S8x1024.Idx → EReal) (ix2 2 l) = modV m c (ix2 2 l) := by
  simp only [V, hostOps0]
  after_reads_simp
  pointwise []

theorem V5 (a : Fin 8) (b : Fin 128) (l : Fin 1024) :
    (V m c main_v5 : S8x1x128x1024.Idx → EReal) (ix4 a 0 b l) = wV m c (ix2 ⟨a.val * 128 + b.val, by omega⟩ l) := by
  simp only [V, hostOps0]
  after_reads_simp
  pointwise []

theorem iblk0_apply (t : Fin cfg0.N) (r : Fin 256) (l : Fin 1024) : (iblk m c 0 t : Vec Ideal S256x1024 .bf16) (ix2 r l) = oV m c (ix2 (row t r) l) := by
  rw [← V3]
  unfold iblk
  rw [View.read_apply]
  refine congrArg (V m c main_v3) (funext fun a => Fin.ext ?_)
  match a with
  | ⟨0, _⟩ => show win0_0.index t 0 * 256 + 1 * r.val = t.val * 256 + r.val; rw [(index0 t).1]; omega
  | ⟨1, _⟩ => show win0_0.index t 1 * 1024 + 1 * l.val = l.val; rw [(index0 t).2]; omega

theorem iblk1_apply (t : Fin cfg0.N) (r : Fin 256) (l : Fin 1024) : (iblk m c 1 t : Vec Ideal S256x1024 .f32) (ix2 r l) = xV m c (ix2 (row t r) l) := by
  unfold iblk
  rw [View.read_apply]
  refine (congrFun (V_main_arg1 m c) _).trans (congrArg (xV m c) (funext fun a => Fin.ext ?_))
  match a with
  | ⟨0, _⟩ => show win0_1.index t 0 * 256 + 1 * r.val = t.val * 256 + r.val; rw [(index1 t).1]; omega
  | ⟨1, _⟩ => show win0_1.index t 1 * 1024 + 1 * l.val = l.val; rw [(index1 t).2]; omega

theorem iblk2_apply (t : Fin cfg0.N) (l : Fin 1024) : (iblk m c 2 t : Vec Ideal S8x1024 .f32) (ix2 2 l) = modV m c (ix2 2 l) := by
  rw [← V2]
  unfold iblk
  rw [View.read_apply]
  refine congrArg (V m c main_v2) (funext fun a => Fin.ext ?_)
  match a with
  | ⟨0, _⟩ => show win0_2.index t 0 * 8 + 1 * 2 = 2; rw [(index2 t).1]
  | ⟨1, _⟩ => show win0_2.index t 1 * 1024 + 1 * l.val = l.val; rw [(index2 t).2]; omega

theorem iblk3_apply (t : Fin cfg0.N) (k l : Fin 1024) : rows (iblk m c 3 t : Vec Ideal S8x1x128x1024 .bf16) k l = wV m c (ix2 k l) := by
  have e : (V m c main_v5 : S8x1x128x1024.Idx → EReal) (ix4 ⟨k.val / 128, by omega⟩ 0 ⟨k.val % 128, by omega⟩ l) = wV m c (ix2 k l) :=
    (V5 m c _ _ l).trans (congrArg (fun q => wV m c (ix2 q l)) (Fin.ext (by show k.val / 128 * 128 + k.val % 128 = k.val; omega)))
  rw [← e]
  unfold rows iblk
  rw [View.read_apply]
  refine congrArg (V m c main_v5) (funext fun q => Fin.ext ?_)
  match q with
  | ⟨0, _⟩ => show win0_3.index t 0 * 8 + 1 * (k.val / 128) = k.val / 128; rw [(index3 t).1]; omega
  | ⟨1, _⟩ => show win0_3.index t 1 * 1 + 1 * 0 = 0; rw [(index3 t).2.1]
  | ⟨2, _⟩ => show win0_3.index t 2 * 128 + 1 * (k.val % 128) = k.val % 128; rw [(index3 t).2.2.1]; omega
  | ⟨3, _⟩ => show win0_3.index t 3 * 1024 + 1 * l.val = l.val; rw [(index3 t).2.2.2]; omega

/-- What the two arrays hold. -/
def yArr (o : S4096x1024.Idx → EReal) (w : S1024x1024.Idx → EReal) : S4096x1024.Idx → EReal := fun i => ∑ k : Fin 1024, o (ix2 (i 0) k) * w (ix2 k (i 1))
def xArr (o x : S4096x1024.Idx → EReal) (md : S6x1024.Idx → EReal) (w : S1024x1024.Idx → EReal) : S4096x1024.Idx → EReal := fun i =>
  x (ix2 (i 0) (i 1)) + md (ix2 2 (i 1)) * yArr o w (ix2 (i 0) (i 1))

/-- The gated residual after the run. -/
theorem final_x : ((dats m 0 c).arrAt 4 cfg0.N : S4096x1024.Idx → EReal) = xArr (oV m c) (xV m c) (modV m c) (wV m c) := by
  have hN : cfg0.N = 16 := N_0
  refine (dats m 0 c).arrAt_eq_of_cover 4 _ (fun t _ => ?_) fun (i : S4096x1024.Idx) => ?_
  · show (cfg0.win 4).cut (grid0.coords t) ((dats m 0 c).after 4 t) = _
    rw [after0_4]
    funext j
    obtain ⟨r, l, rfl⟩ : ∃ (r : Fin 256) (l : Fin 1024), j = ix2 r l := ⟨j 0, j 1, eq_ix2 j⟩
    rw [View.read_apply]
    refine (x_point (iblk m c 0 t) (iblk m c 1 t) (iblk m c 2 t) (iblk m c 3 t) r l).trans ?_
    simp only [iblk0_apply, iblk1_apply, iblk2_apply, iblk3_apply]
    have he : ((cfg0.win 4).blk t).view.emb (ix2 r l) = (ix2 (row t r) l : S4096x1024.Idx) := by
      funext k
      apply Fin.ext
      match k with
      | ⟨0, _⟩ => show win0_4.index t 0 * 256 + 1 * r.val = t.val * 256 + r.val; rw [(index4 t).1]; omega
      | ⟨1, _⟩ => show win0_4.index t 1 * 1024 + 1 * l.val = l.val; rw [(index4 t).2]; omega
    rw [he]
    rfl
  · have h0 : (i 0 : Nat) < 4096 := (i 0).isLt
    have h1 : (i 1 : Nat) < 1024 := (i 1).isLt
    obtain ⟨t, ht⟩ : ∃ t : Fin cfg0.N, t.val = (i 0 : Nat) / 256 := ⟨⟨(i 0 : Nat) / 256, by omega⟩, rfl⟩
    refine ⟨t, flush0_4 t, ?_⟩
    show i ∈ ((View.whole main_v6_0).slice (win0_4.rect t)).set
    rw [View.set_slice_whole, Rect.mem_set_unit]
    intro a
    match a with
    | ⟨0, _⟩ => show win0_4.index t 0 * 256 ≤ (i 0 : Nat) ∧ (i 0 : Nat) < win0_4.index t 0 * 256 + 256
                rw [(index4 t).1, ht]; omega
    | ⟨1, _⟩ => show win0_4.index t 1 * 1024 ≤ (i 1 : Nat) ∧ (i 1 : Nat) < win0_4.index t 1 * 1024 + 1024
                rw [(index4 t).2]; omega

/-- The projected mixer output after the run. -/
theorem final_y : ((dats m 0 c).arrAt 5 cfg0.N : S4096x1024.Idx → EReal) = yArr (oV m c) (wV m c) := by
  have hN : cfg0.N = 16 := N_0
  refine (dats m 0 c).arrAt_eq_of_cover 5 _ (fun t _ => ?_) fun (i : S4096x1024.Idx) => ?_
  · show (cfg0.win 5).cut (grid0.coords t) ((dats m 0 c).after 5 t) = _
    rw [after0_5]
    funext j
    obtain ⟨r, l, rfl⟩ : ∃ (r : Fin 256) (l : Fin 1024), j = ix2 r l := ⟨j 0, j 1, eq_ix2 j⟩
    rw [View.read_apply]
    refine (y_point (iblk m c 0 t) (iblk m c 1 t) (iblk m c 2 t) (iblk m c 3 t) r l).trans ?_
    simp only [iblk0_apply, iblk3_apply]
    have he : ((cfg0.win 5).blk t).view.emb (ix2 r l) = (ix2 (row t r) l : S4096x1024.Idx) := by
      funext k
      apply Fin.ext
      match k with
      | ⟨0, _⟩ => show win0_5.index t 0 * 256 + 1 * r.val = t.val * 256 + r.val; rw [(index5 t).1]; omega
      | ⟨1, _⟩ => show win0_5.index t 1 * 1024 + 1 * l.val = l.val; rw [(index5 t).2]; omega
    rw [he]
    rfl
  · have h0 : (i 0 : Nat) < 4096 := (i 0).isLt
    have h1 : (i 1 : Nat) < 1024 := (i 1).isLt
    obtain ⟨t, ht⟩ : ∃ t : Fin cfg0.N, t.val = (i 0 : Nat) / 256 := ⟨⟨(i 0 : Nat) / 256, by omega⟩, rfl⟩
    refine ⟨t, flush0_5 t, ?_⟩
    show i ∈ ((View.whole main_v6_1).slice (win0_5.rect t)).set
    rw [View.set_slice_whole, Rect.mem_set_unit]
    intro a
    match a with
    | ⟨0, _⟩ => show win0_5.index t 0 * 256 ≤ (i 0 : Nat) ∧ (i 0 : Nat) < win0_5.index t 0 * 256 + 256
                rw [(index5 t).1, ht]; omega
    | ⟨1, _⟩ => show win0_5.index t 1 * 1024 ≤ (i 1 : Nat) ∧ (i 1 : Nat) < win0_5.index t 1 * 1024 + 1024
                rw [(index5 t).2]; omega

end Cert.GateFwdIdeal.Blocks

end
-- ==== Proof.GateFwdRef.lean ====
/- The odd layers' output gate forward: the reference's two arrays, index by index. -/
module

public import proofs.«01_k».proof.Proof.Gen.GateFwdRefIdeal.Read
public import proofs.«01_k».proof.Proof.Gen.GateFwdRefIdeal.Run
public import Idealize.ShloMosaic.Lib.Pointwise

@[expose] public section

set_option maxRecDepth 16384

noncomputable section

namespace Cert.GateFwdRefIdeal.At

open Cert.GateFwdRefIdeal Cert.GateFwdRefIdeal.Gen Cert.GateFwdRefIdeal.Read Idealize.ShloMosaic Idealize.ShloMosaic.TcCoe

variable (x0 x1 : FVec Ideal S4096x1024 .f32) (x2 : FVec Ideal S6x1024 .f32) (x5 : FVec Ideal S1024x1024 .f32)

/-- The projected mixer output. -/
theorem y_at (r : Fin 4096) (l : Fin 1024) : (val_main_v0 (F := Ideal) x0 x5 : S4096x1024.Idx → EReal) (ix2 r l) = ∑ k : Fin 1024, x0 (ix2 r k) * x5 (ix2 k l) := by
  pointwise [val_main_v0]

/-- The gated residual. -/
theorem x_at (r : Fin 4096) (l : Fin 1024) : (val_main_v4 (F := Ideal) x0 x1 x2 x5 : S4096x1024.Idx → EReal) (ix2 r l)
    = x1 (ix2 r l) + x2 (ix2 2 l) * ∑ k : Fin 1024, x0 (ix2 r k) * x5 (ix2 k l) := by
  pointwise [val_main_v4, val_main_v3, val_main_v2, val_main_v1, val_main_v0]

end Cert.GateFwdRefIdeal.At
end
-- ==== Proof.GateFwdClaim.lean ====
/- The claims about the odd layers' output gate's forward call: the two frames of the kernel, the reference's, and the value. -/
module

public import proofs.«01_k».proof.Defs
public import proofs.«01_k».proof.Proof.Gen.GateFwd.Frame
public import proofs.«01_k».proof.Proof.GateFwdValue
public import proofs.«01_k».proof.Proof.GateFwdRef
public import Idealize.ShloMosaic.Lib.Quiescent

@[expose] public section

noncomputable section

namespace Cert.GateFwdClaim

open Idealize.ShloMosaic Idealize.SL.Sem Cert.GateFwdIdeal.Blocks

/-- The kernel's results and the reference's are the same two arrays. -/
theorem value : Cert.algebraic_GateFwdIdeal_GateFwdRefIdeal
    (hGateFwdIdeal := Cert.GateFwdIdeal.Gen.facts) (hGateFwdRefIdeal := Cert.GateFwdRefIdeal.Gen.facts) := by
  intro m g m' g' _ hm
  refine ⟨_, _, (θ_run Cert.GateFwdIdeal.defs _ _).mono (fun r h c => ⟨(h c).1.trans (final_x m c),
    (h c).2.1.trans (final_y m c), (h c).2.2⟩) (Cert.GateFwdIdeal.Value.run_blocks m g), ?_⟩
  refine (θ_run Cert.GateFwdRefIdeal.defs _ _).mono (fun r h c => ⟨?_, ?_, (h c).2.2⟩) (Cert.GateFwdRefIdeal.Value.run m' g')
  · refine (h c).1.trans ?_
    rw [(hm c).1, (hm c).2.1, (hm c).2.2.1, (hm c).2.2.2.2.2]
    refine (Cert.GateFwdRefIdeal.Read.val_main_v4_eq _ _ _ _).trans (funext fun i => ?_)
    rw [eq_ix2 i]
    exact Cert.GateFwdRefIdeal.At.x_at _ _ _ _ _ _
  · refine (h c).2.1.trans ?_
    rw [(hm c).1, (hm c).2.2.2.2.2]
    refine (Cert.GateFwdRefIdeal.Read.val_main_v0_eq _ _).trans (funext fun i => ?_)
    rw [eq_ix2 i]
    exact Cert.GateFwdRefIdeal.At.y_at _ _ _ _

/-- The kernel's frame, on words. -/
theorem frame : Cert.quiescent_GateFwd (hGateFwd := Cert.GateFwd.Gen.facts) := fun m ρ _ => Cert.GateFwd.Gen.frame m ρ

/-- The kernel's frame, over the extended reals. -/
theorem frame_ideal : Cert.quiescent_GateFwdIdeal (hGateFwdIdeal := Cert.GateFwdIdeal.Gen.facts) := fun m ρ _ => Cert.GateFwdIdeal.Gen.frame m ρ

/-- The reference's frame. -/
theorem frame_ref : Cert.quiescent_GateFwdRefIdeal (hGateFwdRefIdeal := Cert.GateFwdRefIdeal.Gen.facts) := fun m ρ _ =>
  (θ_run Cert.GateFwdRefIdeal.defs _ _).mono (fun r h => ⟨fun c => (h c).2.2, sem_eq_zero_of_no_sems (by decide) r.2⟩)
    (Cert.GateFwdRefIdeal.Value.run (F := Ideal) m ρ)

end Cert.GateFwdClaim

end
-- ==== Proof.AdaFwdValue.lean ====
/- The conditioning's forward call: what a point stores, and the array after the run. -/
module

public import proofs.«01_k».proof.Proof.Gen.AdaFwdIdeal.Value
public import Idealize.ShloMosaic.Lib.StableHlo.RunRead
public import Idealize.ShloMosaic.Lib.Pointwise

@[expose] public section

set_option maxRecDepth 16384

noncomputable section

namespace Cert.AdaFwdIdeal.Blocks

open Cert.AdaFwdIdeal Cert.AdaFwdIdeal.Gen Idealize.ShloMosaic Idealize.ShloMosaic.TcCoe Idealize.SL.Sem
open Idealize.ShloMosaic.Pipeline (Dat)

/-- The activation: a value times its logistic. -/
def swish (x : EReal) : EReal := x * Ideal.logistic x

/-- A point's block: the layer's product, and its bias. -/
theorem point (x0 : Vec Ideal S8x1024 .f32) (x1 : Vec Ideal S1x1024x768 .f32) (x2 : Vec Ideal S1x1x768 .f32) (a : Fin 1) (b : Fin 8) (j : Fin 768) :
    (out0_3 x0 x1 x2 : S1x8x768.Idx → EReal) (ix3 a b j) = (∑ d : Fin 1024, swish (x0 (ix2 b d)) * x1 (ix3 0 d j)) + x2 (ix3 0 0 j) := by
  have h2 : (![0, 0] : Fin 2 → ℕ) = fun _ => 0 := by decide
  have h3 : (![0, 0, 0] : Fin 3 → ℕ) = fun _ => 0 := by decide
  unfold out0_3
  rw [View.canon_unit_zero (S := S1x8x768) h3]
  simp only [View.ld_unit_zero (S := S8x1024) h2, View.ld_unit_zero (S := S1x1024x768) h3, View.ld_unit_zero (S := S1x1x768) h3]
  pointwise [k0_pay1]
  simp only [swish, zero_sub]
  rfl

variable (m : (ℓ : Loc nD τ sig) → Buf (Elt Ideal) ℓ) (c : Dev nD)

/-- Which block each window stages at a point. -/
theorem index0 : ∀ t : Fin grid0.N, win0_0.index t 0 = 0 ∧ win0_0.index t 1 = 0 := by decide +kernel
theorem index1 : ∀ t : Fin grid0.N, win0_1.index t 0 = t.val ∧ win0_1.index t 1 = 0 ∧ win0_1.index t 2 = 0 := by decide +kernel
theorem index2 : ∀ t : Fin grid0.N, win0_2.index t 0 = t.val ∧ win0_2.index t 1 = 0 ∧ win0_2.index t 2 = 0 := by decide +kernel
theorem index3 : ∀ t : Fin grid0.N, win0_3.index t 0 = t.val ∧ win0_3.index t 1 = 0 ∧ win0_3.index t 2 = 0 := by decide +kernel

/-- A point is a layer. -/
def layer (t : Fin cfg0.N) : Fin 4 := ⟨t.val, lt_of_lt_of_eq t.isLt N_0⟩

/-- The arguments' contents. -/
abbrev cV : S8x1024.Idx → EReal := m ((c : Thread nD τ).loc main_arg0)
abbrev wV : S4x1024x768.Idx → EReal := m ((c : Thread nD τ).loc main_arg1)
abbrev bV : S4x768.Idx → EReal := m ((c : Thread nD τ).loc main_arg2)

theorem iblk0_apply (t : Fin cfg0.N) (b : Fin 8) (d : Fin 1024) : (iblk m c 0 t : Vec Ideal S8x1024 .f32) (ix2 b d) = cV m c (ix2 b d) := by
  unfold iblk
  rw [View.read_apply]
  refine (congrFun (V_main_arg0 m c) _).trans (congrArg (cV m c) (funext fun a => Fin.ext ?_))
  match a with
  | ⟨0, _⟩ => show win0_0.index t 0 * 8 + 1 * b.val = b.val; rw [(index0 t).1]; omega
  | ⟨1, _⟩ => show win0_0.index t 1 * 1024 + 1 * d.val = d.val; rw [(index0 t).2]; omega

theorem iblk1_apply (t : Fin cfg0.N) (d : Fin 1024) (j : Fin 768) : (iblk m c 1 t : Vec Ideal S1x1024x768 .f32) (ix3 0 d j) = wV m c (ix3 (layer t) d j) := by
  unfold iblk
  rw [View.read_apply]
  refine (congrFun (V_main_arg1 m c) _).trans (congrArg (wV m c) (funext fun a => Fin.ext ?_))
  match a with
  | ⟨0, _⟩ => show win0_1.index t 0 * 1 + 1 * 0 = t.val; rw [(index1 t).1]; omega
  | ⟨1, _⟩ => show win0_1.index t 1 * 1024 + 1 * d.val = d.val; rw [(index1 t).2.1]; omega
  | ⟨2, _⟩ => show win0_1.index t 2 * 768 + 1 * j.val = j.val; rw [(index1 t).2.2]; omega

theorem V0 (l : Fin 4) (j : Fin 768) : (V m c main_v0 : S4x1x768.Idx → EReal) (ix3 l 0 j) = bV m c (ix2 l j) := by
  simp only [V, hostOps0]
  after_reads_simp
  pointwise []

theorem iblk2_apply (t : Fin cfg0.N) (j : Fin 768) : (iblk m c 2 t : Vec Ideal S1x1x768 .f32) (ix3 0 0 j) = bV m c (ix2 (layer t) j) := by
  rw [← V0]
  unfold iblk
  rw [View.read_apply]
  refine congrArg (V m c main_v0) (funext fun a => Fin.ext ?_)
  match a with
  | ⟨0, _⟩ => show win0_2.index t 0 * 1 + 1 * 0 = t.val; rw [(index2 t).1]; omega
  | ⟨1, _⟩ => show win0_2.index t 1 * 1 + 1 * 0 = 0; rw [(index2 t).2.1]
  | ⟨2, _⟩ => show win0_2.index t 2 * 768 + 1 * j.val = j.val; rw [(index2 t).2.2]; omega

/-- What the modulation's array holds. -/
def arr (x : S8x1024.Idx → EReal) (w : S4x1024x768.Idx → EReal) (b : S4x768.Idx → EReal) : S4x8x768.Idx → EReal := fun i =>
  (∑ d : Fin 1024, swish (x (ix2 (i 1) d)) * w (ix3 (i 0) d (i 2))) + b (ix2 (i 0) (i 2))

/-- The modulation's array after the run. -/
theorem final : ((dats m 0 c).arrAt 3 cfg0.N : S4x8x768.Idx → EReal) = arr (cV m c) (wV m c) (bV m c) := by
  have hN : cfg0.N = 4 := N_0
  refine (dats m 0 c).arrAt_eq_of_cover 3 _ (fun t _ => ?_) fun (i : S4x8x768.Idx) => ?_
  · show (cfg0.win 3).cut (grid0.coords t) ((dats m 0 c).after 3 t) = _
    rw [after0_3]
    funext j
    obtain ⟨a, b, k, rfl⟩ : ∃ (a : Fin 1) (b : Fin 8) (k : Fin 768), j = ix3 a b k := ⟨j 0, j 1, j 2, eq_ix3 j⟩
    rw [View.read_apply]
    refine (point (iblk m c 0 t) (iblk m c 1 t) (iblk m c 2 t) a b k).trans ?_
    simp only [iblk0_apply, iblk1_apply, iblk2_apply]
    have he : ((cfg0.win 3).blk t).view.emb (ix3 a b k) = (ix3 (layer t) b k : S4x8x768.Idx) := by
      funext q
      apply Fin.ext
      match q with
      | ⟨0, _⟩ => show win0_3.index t 0 * 1 + 1 * a.val = t.val; rw [(index3 t).1]; omega
      | ⟨1, _⟩ => show win0_3.index t 1 * 8 + 1 * b.val = _; rw [(index3 t).2.1]; simp
      | ⟨2, _⟩ => show win0_3.index t 2 * 768 + 1 * k.val = _; rw [(index3 t).2.2]; simp
    rw [he]
    rfl
  · have h0 : (i 0 : Nat) < 4 := (i 0).isLt
    have h1 : (i 1 : Nat) < 8 := (i 1).isLt
    have h2 : (i 2 : Nat) < 768 := (i 2).isLt
    obtain ⟨t, ht⟩ : ∃ t : Fin cfg0.N, t.val = (i 0 : Nat) := ⟨⟨(i 0 : Nat), by omega⟩, rfl⟩
    refine ⟨t, flush0_3 t, ?_⟩
    show i ∈ ((View.whole main_v1).slice (win0_3.rect t)).set
    rw [View.set_slice_whole, Rect.mem_set_unit]
    intro a
    match a with
    | ⟨0, _⟩ => show win0_3.index t 0 * 1 ≤ (i 0 : Nat) ∧ (i 0 : Nat) < win0_3.index t 0 * 1 + 1
                rw [(index3 t).1, ht]; omega
    | ⟨1, _⟩ => show win0_3.index t 1 * 8 ≤ (i 1 : Nat) ∧ (i 1 : Nat) < win0_3.index t 1 * 8 + 8
                rw [(index3 t).2.1]; omega
    | ⟨2, _⟩ => show win0_3.index t 2 * 768 ≤ (i 2 : Nat) ∧ (i 2 : Nat) < win0_3.index t 2 * 768 + 768
                rw [(index3 t).2.2]; omega

end Cert.AdaFwdIdeal.Blocks

end
-- ==== Proof.AdaFwdRef.lean ====
module

public import proofs.«01_k».proof.Proof.Gen.AdaFwdRefIdeal.Read
public import proofs.«01_k».proof.Proof.Gen.AdaFwdRefIdeal.Run
public import Idealize.ShloMosaic.Lib.Pointwise

@[expose] public section

set_option maxRecDepth 16384
noncomputable section

namespace Cert.AdaFwdRefIdeal.At

open Cert.AdaFwdRefIdeal Cert.AdaFwdRefIdeal.Gen Cert.AdaFwdRefIdeal.Read Idealize.ShloMosaic Idealize.ShloMosaic.TcCoe

/-- The activated conditioning. -/
theorem act (x0 : FVec Ideal S8x1024 .f32) (b : Fin 8) (d : Fin 1024) :
    val_main_v0 (F := Ideal) x0 (ix2 b d) = x0 (ix2 b d) * Ideal.logistic (x0 (ix2 b d)) := by
  pointwise [val_main_v0, val_main_call0_v0, val_main_call0_v1, val_main_call0_v2, val_main_call0_v3, val_main_call0_v4, val_main_call0_v5, val_main_call0_cst, val_main_call0_cst_0]
  rfl

/-- The modulation at an index. -/
theorem at_ix (x0 : FVec Ideal S8x1024 .f32) (x1 : FVec Ideal S4x1024x768 .f32) (x2 : FVec Ideal S4x768 .f32) (l : Fin 4) (b : Fin 8) (j : Fin 768) :
    val_main_v37 (F := Ideal) x0 x1 x2 (ix3 l b j) = (∑ d : Fin 1024, (x0 (ix2 b d) * Ideal.logistic (x0 (ix2 b d))) * x1 (ix3 l d j)) + x2 (ix2 l j) := by
  fin_cases l <;>
  pointwise [val_main_v37, val_main_v36, val_main_v35, val_main_v34, val_main_v33, val_main_v32, val_main_v31, val_main_v30, val_main_v29, val_main_v28,
    val_main_v27, val_main_v26, val_main_v25, val_main_v24, val_main_v23, val_main_v22, val_main_v21, val_main_v20, val_main_v19, val_main_v18, val_main_v17,
    val_main_v16, val_main_v15, val_main_v14, val_main_v13, val_main_v12, val_main_v11, val_main_v10, val_main_v9, val_main_v8, val_main_v7, val_main_v6,
    val_main_v5, val_main_v4, val_main_v3, val_main_v2, val_main_v1] <;>
  simp only [act] <;> rfl
end Cert.AdaFwdRefIdeal.At
end
-- ==== Proof.AdaFwdClaim.lean ====
/- The claims about the conditioning's forward call: the two frames of the kernel, the reference's, and the value. -/
module

public import proofs.«01_k».proof.Defs
public import proofs.«01_k».proof.Proof.Gen.AdaFwd.Frame
public import proofs.«01_k».proof.Proof.AdaFwdValue
public import proofs.«01_k».proof.Proof.AdaFwdRef
public import Idealize.ShloMosaic.Lib.Quiescent

@[expose] public section

noncomputable section

namespace Cert.AdaFwdClaim

open Idealize.ShloMosaic Idealize.SL.Sem Cert.AdaFwdIdeal.Blocks

/-- The kernel's result and the reference's are the same array. -/
theorem value : Cert.algebraic_AdaFwdIdeal_AdaFwdRefIdeal
    (hAdaFwdIdeal := Cert.AdaFwdIdeal.Gen.facts) (hAdaFwdRefIdeal := Cert.AdaFwdRefIdeal.Gen.facts) := by
  intro m g m' g' _ hm
  refine ⟨_, (θ_run Cert.AdaFwdIdeal.defs _ _).mono (fun r h c => ⟨(h c).1.trans (final m c), (h c).2⟩) (Cert.AdaFwdIdeal.Value.run_blocks m g), ?_⟩
  refine (θ_run Cert.AdaFwdRefIdeal.defs _ _).mono (fun r h c => ⟨?_, (h c).2⟩) (Cert.AdaFwdRefIdeal.Value.run m' g')
  refine (h c).1.trans ?_
  rw [(hm c).1, (hm c).2.1, (hm c).2.2]
  refine (Cert.AdaFwdRefIdeal.Read.val_main_v37_eq _ _ _).trans (funext fun i => ?_)
  rw [eq_ix3 i]
  exact Cert.AdaFwdRefIdeal.At.at_ix _ _ _ _ _ _

/-- The kernel's frame, on words. -/
theorem frame : Cert.quiescent_AdaFwd (hAdaFwd := Cert.AdaFwd.Gen.facts) := fun m ρ _ => Cert.AdaFwd.Gen.frame m ρ

/-- The kernel's frame, over the extended reals. -/
theorem frame_ideal : Cert.quiescent_AdaFwdIdeal (hAdaFwdIdeal := Cert.AdaFwdIdeal.Gen.facts) := fun m ρ _ => Cert.AdaFwdIdeal.Gen.frame m ρ

/-- The reference's frame. -/
theorem frame_ref : Cert.quiescent_AdaFwdRefIdeal (hAdaFwdRefIdeal := Cert.AdaFwdRefIdeal.Gen.facts) := fun m ρ _ =>
  (θ_run Cert.AdaFwdRefIdeal.defs _ _).mono (fun r h => ⟨fun c => (h c).2, sem_eq_zero_of_no_sems (by decide) r.2⟩)
    (Cert.AdaFwdRefIdeal.Value.run (F := Ideal) m ρ)

end Cert.AdaFwdClaim

end
-- ==== Proof.FfnFwdSpec.lean ====
/- The feed-forward part's forward values as functions on the extended reals. -/
module

public import Idealize.ShloMosaic.Lib.Pointwise

@[expose] public section

noncomputable section

namespace Cert.FfnFwdSpec

open Idealize.ShloMosaic

/-- A row's reciprocal root mean square. -/
def rs (x : Fin 1024 → EReal) : EReal :=
  Ideal.rsqrt (Ideal.div (∑ k, x k * x k) (Ideal.ofBits FTy.f32 1149239296#32) + Ideal.ofBits FTy.f32 897988541#32)

/-- The row normed, scaled by its weights and modulated. -/
def h (x g sc sh : Fin 1024 → EReal) (l : Fin 1024) : EReal := x l * rs x * g l * (1 + sc l) + sh l

/-- A pre-activation: the row against one column of a weight. -/
def a (h : Fin 1024 → EReal) (w : Fin 1024 → Fin 2816 → EReal) (j : Fin 2816) : EReal := ∑ l, h l * w l j

/-- The gated activation. -/
def s (a b : EReal) : EReal := a * Ideal.div 1 (1 + Ideal.exp (0 - a)) * b

/-- The part's output. -/
def f (h : Fin 1024 → EReal) (wg wu : Fin 1024 → Fin 2816 → EReal) (wd : Fin 2816 → Fin 1024 → EReal) (l : Fin 1024) : EReal :=
  ∑ j, s (a h wg j) (a h wu j) * wd j l

/-- The two halves of the columns. -/
def J0 (j : Fin 1408) : Fin 2816 := ⟨j.val, by omega⟩
def J1 (j : Fin 1408) : Fin 2816 := ⟨1408 + j.val, by omega⟩

/-- The output is the sum over the first half of the columns and the sum over the second. -/
theorem f_halves (h : Fin 1024 → EReal) (wg wu : Fin 1024 → Fin 2816 → EReal) (wd : Fin 2816 → Fin 1024 → EReal) (l : Fin 1024) :
    f h wg wu wd l = (∑ j, s (a h wg (J0 j)) (a h wu (J0 j)) * wd (J0 j) l) + ∑ j, s (a h wg (J1 j)) (a h wu (J1 j)) * wd (J1 j) l :=
  Fin.sum_univ_add (a := 1408) (b := 1408) fun j : Fin 2816 => s (a h wg j) (a h wu j) * wd j l

end Cert.FfnFwdSpec

end
-- ==== Proof.FfnFwdValue.lean ====
/- The feed-forward part's forward call: what a point stores. -/
module

public import proofs.«01_k».proof.Proof.FfnFwdSpec
public import proofs.«01_k».proof.Proof.Gen.FfnFwdIdeal.Value
public import Idealize.ShloMosaic.Lib.Pointwise

@[expose] public section

set_option maxRecDepth 16384

noncomputable section

namespace Cert.FfnFwdIdeal.Blocks

open Cert.FfnFwdIdeal Cert.FfnFwdIdeal.Gen Idealize.ShloMosaic Idealize.ShloMosaic.TcCoe Idealize.SL.Sem
open Cert.FfnFwdSpec

theorem hz2 : (![0, 0] : Fin 2 → Nat) = fun _ => 0 := by decide

/-- A row of the modulation's block. -/
def mrow (x : Vec Ideal S8x1024 .f32) (k : Fin 8) (l : Fin 1024) : EReal := x (ix2 k l)

/-- A load of one row, at a column. -/
theorem ld_mrow (k : ℕ) (x : Vec Ideal S8x1024 .f32) (inb : ∀ a, (![k, 0] : Fin 2 → Nat) a + S1x1024.size a ≤ S8x1024.size a) (l : Fin 1024) :
    (View.ld x (Rect.unit (s := S8x1024) ![k, 0] S1x1024.size inb) : Vec Ideal S1x1024 .f32) (ix2 0 l) = mrow x ⟨k, Nat.lt_of_succ_le (inb 0)⟩ l :=
  congrArg x (funext fun a => Fin.ext (match a with
    | ⟨0, _⟩ => by show k + 1 * 0 = k; omega
    | ⟨1, _⟩ => by show 0 + 1 * l.val = l.val; omega))

/-- A weight's row `j`, in eight groups of 352. -/
def wrow (x : Vec Ideal S8x1x352x1024 .bf16) (j : Fin 2816) (l : Fin 1024) : EReal := x (ix4 ⟨j.val / 352, by omega⟩ 0 ⟨j.val % 352, by omega⟩ l)

/-- A load of the first four groups. -/
theorem ld_lo (x : Vec Ideal S8x1x352x1024 .bf16) (inb : ∀ a, (![0, 0, 0, 0] : Fin 4 → Nat) a + S4x1x352x1024.size a ≤ S8x1x352x1024.size a)
    (j : Fin 1408) (l : Fin 1024) : (View.ld x (Rect.unit (s := S8x1x352x1024) ![0, 0, 0, 0] S4x1x352x1024.size inb) : Vec Ideal S4x1x352x1024 .bf16)
      (ix4 ⟨j.val / 352, by omega⟩ 0 ⟨j.val % 352, by omega⟩ l) = wrow x (J0 j) l :=
  congrArg x (funext fun a => Fin.ext (match a with
    | ⟨0, _⟩ => by show 0 + 1 * (j.val / 352) = j.val / 352; omega
    | ⟨1, _⟩ => rfl
    | ⟨2, _⟩ => by show 0 + 1 * (j.val % 352) = j.val % 352; omega
    | ⟨3, _⟩ => by show 0 + 1 * l.val = l.val; omega))

/-- A load of the last four groups. -/
theorem ld_hi (x : Vec Ideal S8x1x352x1024 .bf16) (inb : ∀ a, (![4, 0, 0, 0] : Fin 4 → Nat) a + S4x1x352x1024.size a ≤ S8x1x352x1024.size a)
    (j : Fin 1408) (l : Fin 1024) : (View.ld x (Rect.unit (s := S8x1x352x1024) ![4, 0, 0, 0] S4x1x352x1024.size inb) : Vec Ideal S4x1x352x1024 .bf16)
      (ix4 ⟨j.val / 352, by omega⟩ 0 ⟨j.val % 352, by omega⟩ l) = wrow x (J1 j) l :=
  congrArg x (funext fun a => Fin.ext (match a with
    | ⟨0, _⟩ => by show 4 + 1 * (j.val / 352) = (1408 + j.val) / 352; omega
    | ⟨1, _⟩ => rfl
    | ⟨2, _⟩ => by show 0 + 1 * (j.val % 352) = (1408 + j.val) % 352; omega
    | ⟨3, _⟩ => by show 0 + 1 * l.val = l.val; omega))

/-- A column of the saved pre-activations: the gate's columns, then the up-projection's. -/
def ab (h : Fin 1024 → EReal) (wg wu : Fin 1024 → Fin 2816 → EReal) (j : Fin 5632) : EReal :=
  if hj : j.val < 2816 then a h wg ⟨j.val, hj⟩ else a h wu ⟨j.val - 2816, by omega⟩

section
variable (x0 : Vec Ideal S256x1024 .f32) (x1 : Vec Ideal S8x1024 .f32) (x2 x3 x4 : Vec Ideal S8x1x352x1024 .bf16) (r : Fin 256)

/-- A row of the block, normed and modulated. -/
abbrev hB : Fin 1024 → EReal := h (fun l => x0 (ix2 r l)) (mrow x1 7) (mrow x1 4) (mrow x1 3)

abbrev colsOf (x : Vec Ideal S8x1x352x1024 .bf16) : Fin 1024 → Fin 2816 → EReal := fun l j => wrow x j l

theorem h_apply (x : Vec Ideal S256x1024 .f32) (g sc sh : Vec Ideal S1x1024 .f32) (l : Fin 1024) :
    (k0_pay3 (F := Ideal) x g sc sh : S256x1024.Idx → EReal) (ix2 r l)
      = h (fun l => x (ix2 r l)) (fun l => g (ix2 0 l)) (fun l => sc (ix2 0 l)) (fun l => sh (ix2 0 l)) l := by
  pointwise [k0_pay3]
  rfl

theorem pay8_apply (x : Vec Ideal S256x1024 .bf16) (w : Vec Ideal S4x1x352x1024 .bf16) (j : Fin 1408) :
    (k0_pay8 (F := Ideal) x w : S256x1408.Idx → EReal) (ix2 r j) = ∑ l, x (ix2 r l) * w (ix4 ⟨j.val / 352, by omega⟩ 0 ⟨j.val % 352, by omega⟩ l) := by
  pointwise [k0_pay8]

theorem pay9_apply (x : Vec Ideal S256x1024 .bf16) (w : Vec Ideal S4x1x352x1024 .bf16) (j : Fin 1408) :
    (k0_pay9 (F := Ideal) x w : S256x1408.Idx → EReal) (ix2 r j) = ∑ l, x (ix2 r l) * w (ix4 ⟨j.val / 352, by omega⟩ 0 ⟨j.val % 352, by omega⟩ l) := by
  pointwise [k0_pay9]

theorem pay10_apply (x : Vec Ideal S256x1024 .bf16) (w : Vec Ideal S4x1x352x1024 .bf16) (j : Fin 1408) :
    (k0_pay10 (F := Ideal) x w : S256x1408.Idx → EReal) (ix2 r j) = Ideal.exp (0 - (k0_pay8 (F := Ideal) x w : S256x1408.Idx → EReal) (ix2 r j)) := by
  pointwise [k0_pay10]

theorem pay7_apply (a b : FVec Ideal S256x1408 .f32) (w : Vec Ideal S4x1x352x1024 .bf16) (l : Fin 1024) :
    (k0_pay7 (F := Ideal) k0_pay4 a b w : S256x1024.Idx → EReal) (ix2 r l)
      = ∑ j : Fin 1408, s (a (ix2 r j)) (b (ix2 r j)) * w (ix4 ⟨j.val / 352, by omega⟩ 0 ⟨j.val % 352, by omega⟩ l) := by
  pointwise [k0_pay7, k0_pay4]
  simp only [zero_add, s]

theorem pay1_apply (f : FVec Ideal S256x1024 .f32) (a b e : FVec Ideal S256x1408 .f32) (w : Vec Ideal S4x1x352x1024 .bf16)
    (he : ∀ j, e (ix2 r j) = Ideal.exp (0 - a (ix2 r j))) (l : Fin 1024) : (k0_pay1 (F := Ideal) f a b e w : S256x1024.Idx → EReal) (ix2 r l)
      = f (ix2 r l) + ∑ j : Fin 1408, s (a (ix2 r j)) (b (ix2 r j)) * w (ix4 ⟨j.val / 352, by omega⟩ 0 ⟨j.val % 352, by omega⟩ l) := by
  pointwise [k0_pay1]
  simp only [he, s]

/-- The normed row, and the four halves of the pre-activations. -/
theorem h_row (l : Fin 1024) : (k0_pay11 x0 x1 x2 x3 x4 : S256x1024.Idx → EReal) (ix2 r l) = hB x0 x1 r l := by
  refine (h_apply r _ _ _ _ l).trans ?_
  have e0 : (fun l : Fin 1024 => (View.ld x0 r0_0 : Vec Ideal S256x1024 .f32) (ix2 r l)) = fun l => x0 (ix2 r l) :=
    funext fun l => congrFun (View.ld_unit_zero (S := S256x1024) hz2 inb_S256x1024_S256x1024_0_0 x0) (ix2 r l)
  have e7 : (fun l : Fin 1024 => (View.ld x1 r0_1 : Vec Ideal S1x1024 .f32) (ix2 0 l)) = mrow x1 7 := funext fun l => ld_mrow 7 x1 _ l
  have e4 : (fun l : Fin 1024 => (View.ld x1 r0_2 : Vec Ideal S1x1024 .f32) (ix2 0 l)) = mrow x1 4 := funext fun l => ld_mrow 4 x1 _ l
  have e3 : (fun l : Fin 1024 => (View.ld x1 r0_3 : Vec Ideal S1x1024 .f32) (ix2 0 l)) = mrow x1 3 := funext fun l => ld_mrow 3 x1 _ l
  exact congrFun (congr (congr (congr (congrArg h e0) e7) e4) e3) l

theorem a_lo (j : Fin 1408) : (k0_pay12 x0 x1 x2 x3 x4 : S256x1408.Idx → EReal) (ix2 r j) = a (hB x0 x1 r) (colsOf x2) (J0 j) :=
  (pay8_apply r (k0_pay11 x0 x1 x2 x3 x4) _ j).trans (Finset.sum_congr rfl fun l _ => congrArg₂ _ (h_row x0 x1 x2 x3 x4 r l) (ld_lo x2 _ j l))

theorem b_lo (j : Fin 1408) : (k0_pay13 x0 x1 x2 x3 x4 : S256x1408.Idx → EReal) (ix2 r j) = a (hB x0 x1 r) (colsOf x3) (J0 j) :=
  (pay8_apply r (k0_pay11 x0 x1 x2 x3 x4) _ j).trans (Finset.sum_congr rfl fun l _ => congrArg₂ _ (h_row x0 x1 x2 x3 x4 r l) (ld_lo x3 _ j l))

theorem a_hi (j : Fin 1408) : (k0_pay15 x0 x1 x2 x3 x4 : S256x1408.Idx → EReal) (ix2 r j) = a (hB x0 x1 r) (colsOf x2) (J1 j) :=
  (pay8_apply r (k0_pay11 x0 x1 x2 x3 x4) _ j).trans (Finset.sum_congr rfl fun l _ => congrArg₂ _ (h_row x0 x1 x2 x3 x4 r l) (ld_hi x2 _ j l))

theorem b_hi (j : Fin 1408) : (k0_pay16 x0 x1 x2 x3 x4 : S256x1408.Idx → EReal) (ix2 r j) = a (hB x0 x1 r) (colsOf x3) (J1 j) :=
  (pay9_apply r (k0_pay11 x0 x1 x2 x3 x4) _ j).trans (Finset.sum_congr rfl fun l _ => congrArg₂ _ (h_row x0 x1 x2 x3 x4 r l) (ld_hi x3 _ j l))

theorem f_lo (l : Fin 1024) : (k0_pay14 x0 x1 x2 x3 x4 : S256x1024.Idx → EReal) (ix2 r l)
    = ∑ j, s (a (hB x0 x1 r) (colsOf x2) (J0 j)) (a (hB x0 x1 r) (colsOf x3) (J0 j)) * wrow x4 (J0 j) l :=
  (pay7_apply r (k0_pay12 x0 x1 x2 x3 x4) (k0_pay13 x0 x1 x2 x3 x4) _ l).trans
    (Finset.sum_congr rfl fun j _ => congrArg₂ _ (congrArg₂ s (a_lo x0 x1 x2 x3 x4 r j) (b_lo x0 x1 x2 x3 x4 r j)) (ld_lo x4 _ j l))

/-- What the second store holds: the part's output. -/
theorem f_full (l : Fin 1024) : (k0_pay1 (k0_pay14 x0 x1 x2 x3 x4) (k0_pay15 x0 x1 x2 x3 x4) (k0_pay16 x0 x1 x2 x3 x4) (k0_pay17 x0 x1 x2 x3 x4) (View.ld x4 r0_7)
    : S256x1024.Idx → EReal) (ix2 r l) = f (hB x0 x1 r) (colsOf x2) (colsOf x3) (wrow x4) l :=
  (pay1_apply r _ _ _ _ _ (fun j => pay10_apply r (k0_pay11 x0 x1 x2 x3 x4) _ j) l).trans (.trans (congrArg₂ _ (f_lo x0 x1 x2 x3 x4 r l)
    (Finset.sum_congr rfl fun j _ => congrArg₂ _ (congrArg₂ s (a_hi x0 x1 x2 x3 x4 r j) (b_hi x0 x1 x2 x3 x4 r j)) (ld_hi x4 _ j l))) (f_halves _ _ _ _ _).symm)

theorem f_point (l : Fin 1024) : (out0_6 x0 x1 x2 x3 x4 : S256x1024.Idx → EReal) (ix2 r l) = f (hB x0 x1 r) (colsOf x2) (colsOf x3) (wrow x4) l := by
  unfold out0_6
  rw [View.canon_unit_zero (S := S256x1024) hz2]
  exact f_full x0 x1 x2 x3 x4 r l

theorem pay2_apply (x : Vec Ideal S256x1024 .f32) (y : FVec Ideal S256x1024 .f32) (a b e : FVec Ideal S256x1408 .f32) (w : Vec Ideal S4x1x352x1024 .bf16)
    (g : Vec Ideal S1x1024 .f32) (l : Fin 1024) : (k0_pay2 (F := Ideal) x y a b e w g : S256x1024.Idx → EReal) (ix2 r l)
      = x (ix2 r l) + g (ix2 0 l) * (k0_pay1 (F := Ideal) y a b e w : S256x1024.Idx → EReal) (ix2 r l) := by
  pointwise [k0_pay2]

/-- What the first store holds: the gated residual. -/
theorem x_point (l : Fin 1024) : (out0_5 x0 x1 x2 x3 x4 : S256x1024.Idx → EReal) (ix2 r l)
    = x0 (ix2 r l) + mrow x1 5 l * f (hB x0 x1 r) (colsOf x2) (colsOf x3) (wrow x4) l := by
  unfold out0_5
  rw [View.canon_unit_zero (S := S256x1024) hz2]
  exact (pay2_apply r _ _ _ _ _ _ _ l).trans (congrArg₂ _ (congrFun (View.ld_unit_zero (S := S256x1024) hz2 inb_S256x1024_S256x1024_0_0 x0) (ix2 r l))
    (congrArg₂ _ (ld_mrow 5 x1 _ l) (f_full x0 x1 x2 x3 x4 r l)))

/-- A column of the first or of the second half, moved by its offset. -/
theorem ab_gate (hh : Fin 1024 → EReal) (wg wu : Fin 1024 → Fin 2816 → EReal) (j : Fin 2816) (k : Fin 5632) (e : k.val = j.val) : ab hh wg wu k = a hh wg j := by
  unfold ab
  rw [dif_pos (by omega)]
  exact congrArg _ (Fin.ext e)

theorem ab_up (hh : Fin 1024 → EReal) (wg wu : Fin 1024 → Fin 2816 → EReal) (j : Fin 2816) (k : Fin 5632) (e : k.val = 2816 + j.val) : ab hh wg wu k = a hh wu j := by
  unfold ab
  rw [dif_neg (by omega)]
  exact congrArg _ (Fin.ext (by show k.val - 2816 = j.val; omega))

/-- What the third buffer should hold, index by index. -/
def abB : S256x5632.Idx → EReal := fun i => ab (hB x0 x1 (i 0)) (colsOf x2) (colsOf x3) (i 1)

/-- What the third buffer holds: the pre-activations. -/
theorem ab_point (j : Fin 5632) : (out0_7 x0 x1 x2 x3 x4 : S256x5632.Idx → EReal) (ix2 r j) = ab (hB x0 x1 r) (colsOf x2) (colsOf x3) j := by
  unfold out0_7
  refine View.canon_apply_of_pieces (Val := Elt Ideal) (abB x0 x1 x2 x3) _ ?_ (ix2 r j) (cover0_7 _ _ _ _ _)
  intro pc hpc
  have hr (q : Fin 256) (r' : Fin 256) (e : r'.val = 0 + 1 * q.val) : r' = q := Fin.ext (by omega)
  rcases List.mem_cons.mp hpc with rfl | hpc
  · intro (i : S256x1408.Idx)
    obtain ⟨q, k, rfl⟩ : ∃ (q : Fin 256) (k : Fin 1408), i = ix2 q k := ⟨i 0, i 1, eq_ix2 i⟩
    refine (b_hi x0 x1 x2 x3 x4 q k).trans ?_
    unfold abB
    rw [hr q (r0_9.emb (ix2 q k) 0) rfl]
    exact (ab_up _ _ _ (J1 k) _ (by show 4224 + 1 * k.val = 2816 + (1408 + k.val); omega)).symm
  rcases List.mem_cons.mp hpc with rfl | hpc
  · intro (i : S256x1408.Idx)
    obtain ⟨q, k, rfl⟩ : ∃ (q : Fin 256) (k : Fin 1408), i = ix2 q k := ⟨i 0, i 1, eq_ix2 i⟩
    refine (a_hi x0 x1 x2 x3 x4 q k).trans ?_
    unfold abB
    rw [hr q (r0_8.emb (ix2 q k) 0) rfl]
    exact (ab_gate _ _ _ (J1 k) _ (by show 1408 + 1 * k.val = 1408 + k.val; omega)).symm
  rcases List.mem_cons.mp hpc with rfl | hpc
  · intro (i : S256x1408.Idx)
    obtain ⟨q, k, rfl⟩ : ∃ (q : Fin 256) (k : Fin 1408), i = ix2 q k := ⟨i 0, i 1, eq_ix2 i⟩
    refine (b_lo x0 x1 x2 x3 x4 q k).trans ?_
    unfold abB
    rw [hr q (r0_6.emb (ix2 q k) 0) rfl]
    exact (ab_up _ _ _ (J0 k) _ (by show 2816 + 1 * k.val = 2816 + k.val; omega)).symm
  rcases List.mem_cons.mp hpc with rfl | hpc
  · intro (i : S256x1408.Idx)
    obtain ⟨q, k, rfl⟩ : ∃ (q : Fin 256) (k : Fin 1408), i = ix2 q k := ⟨i 0, i 1, eq_ix2 i⟩
    refine (a_lo x0 x1 x2 x3 x4 q k).trans ?_
    unfold abB
    rw [hr q (r0_5.emb (ix2 q k) 0) rfl]
    exact (ab_gate _ _ _ (J0 k) _ (by show 0 + 1 * k.val = k.val; omega)).symm
  nomatch hpc
end

end Cert.FfnFwdIdeal.Blocks

end
-- ==== Proof.FfnFwdFinal.lean ====
/- The feed-forward part's forward call: the blocks at each point and the arrays after the run. -/
module

public import proofs.«01_k».proof.Proof.FfnFwdValue
public import Idealize.ShloMosaic.Lib.StableHlo.RunRead

@[expose] public section

set_option maxRecDepth 16384

noncomputable section

namespace Cert.FfnFwdIdeal.Blocks

open Cert.FfnFwdIdeal Cert.FfnFwdIdeal.Gen Idealize.ShloMosaic Idealize.ShloMosaic.TcCoe Idealize.SL.Sem
open Idealize.ShloMosaic.Pipeline (Dat)
open Cert.FfnFwdSpec

variable (m : (ℓ : Loc nD τ sig) → Buf (Elt Ideal) ℓ) (c : Dev nD)

/-- Which block each window stages at a point. -/
theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 ∧ win0_2.index t 2 = 0 ∧ win0_2.index t 3 = 0 := by decide +kernel
theorem index3 : ∀ t : Fin grid0.N, win0_3.index t 0 = 0 ∧ win0_3.index t 1 = 1 ∧ win0_3.index t 2 = 0 ∧ win0_3.index t 3 = 0 := by decide +kernel
theorem index4 : ∀ t : Fin grid0.N, win0_4.index t 0 = 0 ∧ win0_4.index t 1 = 2 ∧ win0_4.index t 2 = 0 ∧ win0_4.index t 3 = 0 := by decide +kernel
theorem index5 : ∀ t : Fin grid0.N, win0_5.index t 0 = t.val ∧ win0_5.index t 1 = 0 := by decide +kernel
theorem index6 : ∀ t : Fin grid0.N, win0_6.index t 0 = t.val ∧ win0_6.index t 1 = 0 := by decide +kernel
theorem index7 : ∀ t : Fin grid0.N, win0_7.index t 0 = t.val ∧ win0_7.index t 1 = 0 := by decide +kernel

/-- A tile's row as a row of the whole. -/
def row (t : Fin cfg0.N) (r : Fin 256) : Fin 4096 := ⟨t.val * 256 + r.val, by have := lt_of_lt_of_eq t.isLt N_0; omega⟩

/-- The arguments' contents. -/
abbrev xV : S4096x1024.Idx → EReal := m ((c : Thread nD τ).loc main_arg0)
abbrev modV : S6x1024.Idx → EReal := m ((c : Thread nD τ).loc main_arg1)
abbrev gV : S1024.Idx → EReal := m ((c : Thread nD τ).loc main_arg3)
abbrev wgV : S1024x2816.Idx → EReal := m ((c : Thread nD τ).loc main_arg4)
abbrev wuV : S1024x2816.Idx → EReal := m ((c : Thread nD τ).loc main_arg5)
abbrev wdV : S2816x1024.Idx → EReal := m ((c : Thread nD τ).loc main_arg6)

theorem iblk0_apply (t : Fin cfg0.N) (r : Fin 256) (l : Fin 1024) : (iblk m c 0 t : Vec Ideal S256x1024 .f32) (ix2 r l) = xV m c (ix2 (row t r) l) := by
  unfold iblk
  rw [View.read_apply]
  refine (congrFun (V_main_arg0 m c) _).trans (congrArg (xV m c) (funext fun a => Fin.ext ?_))
  match a with
  | ⟨0, _⟩ => show win0_0.index t 0 * 256 + 1 * r.val = t.val * 256 + r.val; rw [(index0 t).1]; omega
  | ⟨1, _⟩ => show win0_0.index t 1 * 1024 + 1 * l.val = l.val; rw [(index0 t).2]; omega

theorem iblk1_apply (t : Fin cfg0.N) (k : Fin 8) (l : Fin 1024) :
    mrow (iblk m c 1 t : Vec Ideal S8x1024 .f32) k l = (V m c main_v2 : S8x1024.Idx → EReal) (ix2 k l) := by
  unfold mrow iblk
  rw [View.read_apply]
  refine congrArg (V m c main_v2) (funext fun a => Fin.ext ?_)
  match a with
  | ⟨0, _⟩ => show win0_1.index t 0 * 8 + 1 * k.val = k.val; rw [(index1 t).1]; omega
  | ⟨1, _⟩ => show win0_1.index t 1 * 1024 + 1 * l.val = l.val; rw [(index1 t).2]; omega

theorem V2_sh (l : Fin 1024) : (V m c main_v2 : S8x1024.Idx → EReal) (ix2 3 l) = modV m c (ix2 3 l) := by
  simp only [V, hostOps0]
  after_reads_simp
  pointwise []

theorem V2_sc (l : Fin 1024) : (V m c main_v2 : S8x1024.Idx → EReal) (ix2 4 l) = modV m c (ix2 4 l) := by
  simp only [V, hostOps0]
  after_reads_simp
  pointwise []

theorem V2_g2 (l : Fin 1024) : (V m c main_v2 : S8x1024.Idx → EReal) (ix2 5 l) = modV m c (ix2 5 l) := by
  simp only [V, hostOps0]
  after_reads_simp
  pointwise []

theorem V2_g (l : Fin 1024) : (V m c main_v2 : S8x1024.Idx → EReal) (ix2 7 l) = gV m c (ix1 l) := by
  simp only [V, hostOps0]
  after_reads_simp
  pointwise []
  after_reads_simp
  pointwise []

theorem V12_g (a : Fin 8) (b : Fin 352) (l : Fin 1024) :
    (V m c main_v12 : S8x3x352x1024.Idx → EReal) (ix4 a 0 b l) = wgV m c (ix2 l ⟨a.val * 352 + b.val, by omega⟩) := by
  simp only [V, hostOps0]
  after_reads_simp
  pointwise []
  after_reads_simp
  pointwise []

theorem iblk2_apply (t : Fin cfg0.N) (j : Fin 2816) (l : Fin 1024) : wrow (iblk m c 2 t : Vec Ideal S8x1x352x1024 .bf16) j l = wgV m c (ix2 l j) := by
  have e : (V m c main_v12 : S8x3x352x1024.Idx → EReal) (ix4 ⟨j.val / 352, by omega⟩ 0 ⟨j.val % 352, by omega⟩ l) = wgV m c (ix2 l j) :=
    (V12_g m c _ _ l).trans (congrArg (fun q => wgV m c (ix2 l q)) (Fin.ext (by show j.val / 352 * 352 + j.val % 352 = j.val; omega)))
  rw [← e]
  unfold wrow iblk
  rw [View.read_apply]
  refine congrArg (V m c main_v12) (funext fun q => Fin.ext ?_)
  match q with
  | ⟨0, _⟩ => show win0_2.index t 0 * 8 + 1 * (j.val / 352) = j.val / 352; rw [(index2 t).1]; omega
  | ⟨1, _⟩ => show win0_2.index t 1 * 1 + 1 * 0 = 0; rw [(index2 t).2.1]
  | ⟨2, _⟩ => show win0_2.index t 2 * 352 + 1 * (j.val % 352) = j.val % 352; rw [(index2 t).2.2.1]; omega
  | ⟨3, _⟩ => show win0_2.index t 3 * 1024 + 1 * l.val = l.val; rw [(index2 t).2.2.2]; omega

theorem V12_u (a : Fin 8) (b : Fin 352) (l : Fin 1024) :
    (V m c main_v12 : S8x3x352x1024.Idx → EReal) (ix4 a 1 b l) = wuV m c (ix2 l ⟨a.val * 352 + b.val, by omega⟩) := by
  simp only [V, hostOps0]
  after_reads_simp
  pointwise []
  after_reads_simp
  pointwise []

theorem iblk3_apply (t : Fin cfg0.N) (j : Fin 2816) (l : Fin 1024) : wrow (iblk m c 3 t : Vec Ideal S8x1x352x1024 .bf16) j l = wuV m c (ix2 l j) := by
  have e : (V m c main_v12 : S8x3x352x1024.Idx → EReal) (ix4 ⟨j.val / 352, by omega⟩ 1 ⟨j.val % 352, by omega⟩ l) = wuV m c (ix2 l j) :=
    (V12_u m c _ _ l).trans (congrArg (fun q => wuV m c (ix2 l q)) (Fin.ext (by show j.val / 352 * 352 + j.val % 352 = j.val; omega)))
  rw [← e]
  unfold wrow iblk
  rw [View.read_apply]
  refine congrArg (V m c main_v12) (funext fun q => Fin.ext ?_)
  match q with
  | ⟨0, _⟩ => show win0_3.index t 0 * 8 + 1 * (j.val / 352) = j.val / 352; rw [(index3 t).1]; omega
  | ⟨1, _⟩ => show win0_3.index t 1 * 1 + 1 * 0 = 1; rw [(index3 t).2.1]
  | ⟨2, _⟩ => show win0_3.index t 2 * 352 + 1 * (j.val % 352) = j.val % 352; rw [(index3 t).2.2.1]; omega
  | ⟨3, _⟩ => show win0_3.index t 3 * 1024 + 1 * l.val = l.val; rw [(index3 t).2.2.2]; omega

theorem V12_d (a : Fin 8) (b : Fin 352) (l : Fin 1024) :
    (V m c main_v12 : S8x3x352x1024.Idx → EReal) (ix4 a 2 b l) = wdV m c (ix2 ⟨a.val * 352 + b.val, by omega⟩ l) := by
  simp only [V, hostOps0]
  after_reads_simp
  pointwise []
  after_reads_simp
  pointwise []

theorem iblk4_apply (t : Fin cfg0.N) (j : Fin 2816) (l : Fin 1024) : wrow (iblk m c 4 t : Vec Ideal S8x1x352x1024 .bf16) j l = wdV m c (ix2 j l) := by
  have e : (V m c main_v12 : S8x3x352x1024.Idx → EReal) (ix4 ⟨j.val / 352, by omega⟩ 2 ⟨j.val % 352, by omega⟩ l) = wdV m c (ix2 j l) :=
    (V12_d m c _ _ l).trans (congrArg (fun q => wdV m c (ix2 q l)) (Fin.ext (by show j.val / 352 * 352 + j.val % 352 = j.val; omega)))
  rw [← e]
  unfold wrow iblk
  rw [View.read_apply]
  refine congrArg (V m c main_v12) (funext fun q => Fin.ext ?_)
  match q with
  | ⟨0, _⟩ => show win0_4.index t 0 * 8 + 1 * (j.val / 352) = j.val / 352; rw [(index4 t).1]; omega
  | ⟨1, _⟩ => show win0_4.index t 1 * 1 + 1 * 0 = 2; rw [(index4 t).2.1]
  | ⟨2, _⟩ => show win0_4.index t 2 * 352 + 1 * (j.val % 352) = j.val % 352; rw [(index4 t).2.2.1]; omega
  | ⟨3, _⟩ => show win0_4.index t 3 * 1024 + 1 * l.val = l.val; rw [(index4 t).2.2.2]; omega

/-- A row of the call's input, normed and modulated. -/
def hA (x : S4096x1024.Idx → EReal) (md : S6x1024.Idx → EReal) (g : S1024.Idx → EReal) (r : Fin 4096) : Fin 1024 → EReal :=
  h (fun l => x (ix2 r l)) (fun l => g (ix1 l)) (fun l => md (ix2 4 l)) (fun l => md (ix2 3 l))

theorem h_tile (t : Fin cfg0.N) (r : Fin 256) : hB (iblk m c 0 t) (iblk m c 1 t) r = hA (xV m c) (modV m c) (gV m c) (row t r) :=
  congr (congr (congr (congrArg h (funext fun l => iblk0_apply m c t r l)) (funext fun l => (iblk1_apply m c t 7 l).trans (V2_g m c l)))
    (funext fun l => (iblk1_apply m c t 4 l).trans (V2_sc m c l))) (funext fun l => (iblk1_apply m c t 3 l).trans (V2_sh m c l))

theorem wg_tile (t : Fin cfg0.N) : colsOf (iblk m c 2 t) = fun l j => wgV m c (ix2 l j) := funext fun l => funext fun j => iblk2_apply m c t j l
theorem wu_tile (t : Fin cfg0.N) : colsOf (iblk m c 3 t) = fun l j => wuV m c (ix2 l j) := funext fun l => funext fun j => iblk3_apply m c t j l
theorem wd_tile (t : Fin cfg0.N) : wrow (iblk m c 4 t) = fun j l => wdV m c (ix2 j l) := funext fun j => funext fun l => iblk4_apply m c t j l

section
variable (x : S4096x1024.Idx → EReal) (md : S6x1024.Idx → EReal) (g : S1024.Idx → EReal) (wg wu : S1024x2816.Idx → EReal) (wd : S2816x1024.Idx → EReal)

/-- What the three arrays hold. -/
def fArr : S4096x1024.Idx → EReal := fun i => f (hA x md g (i 0)) (fun l j => wg (ix2 l j)) (fun l j => wu (ix2 l j)) (fun j l => wd (ix2 j l)) (i 1)
def xArr : S4096x1024.Idx → EReal := fun i => x (ix2 (i 0) (i 1)) + md (ix2 5 (i 1)) * fArr x md g wg wu wd (ix2 (i 0) (i 1))
def abArr : S4096x5632.Idx → EReal := fun i => ab (hA x md g (i 0)) (fun l j => wg (ix2 l j)) (fun l j => wu (ix2 l j)) (i 1)
end

/-- The gated residual after the run. -/
theorem final_x : ((dats m 0 c).arrAt 5 cfg0.N : S4096x1024.Idx → EReal) = xArr (xV m c) (modV m c) (gV m c) (wgV m c) (wuV m c) (wdV m c) := by
  have hN : cfg0.N = 16 := N_0
  refine (dats m 0 c).arrAt_eq_of_cover 5 _ (fun t _ => ?_) fun (i : S4096x1024.Idx) => ?_
  · show (cfg0.win 5).cut (grid0.coords t) ((dats m 0 c).after 5 t) = _
    rw [after0_5]
    funext j
    obtain ⟨r, l, rfl⟩ : ∃ (r : Fin 256) (l : Fin 1024), j = ix2 r l := ⟨j 0, j 1, eq_ix2 j⟩
    rw [View.read_apply]
    refine (x_point (iblk m c 0 t) (iblk m c 1 t) (iblk m c 2 t) (iblk m c 3 t) (iblk m c 4 t) r l).trans ?_
    rw [h_tile, wg_tile, wu_tile, wd_tile, iblk0_apply, iblk1_apply, V2_g2]
    have he : ((cfg0.win 5).blk t).view.emb (ix2 r l) = (ix2 (row t r) l : S4096x1024.Idx) := by
      funext k
      apply Fin.ext
      match k with
      | ⟨0, _⟩ => show win0_5.index t 0 * 256 + 1 * r.val = t.val * 256 + r.val; rw [(index5 t).1]; omega
      | ⟨1, _⟩ => show win0_5.index t 1 * 1024 + 1 * l.val = l.val; rw [(index5 t).2]; omega
    rw [he]
    rfl
  · have h0 : (i 0 : Nat) < 4096 := (i 0).isLt
    have h1 : (i 1 : Nat) < 1024 := (i 1).isLt
    obtain ⟨t, ht⟩ : ∃ t : Fin cfg0.N, t.val = (i 0 : Nat) / 256 := ⟨⟨(i 0 : Nat) / 256, by omega⟩, rfl⟩
    refine ⟨t, flush0_5 t, ?_⟩
    show i ∈ ((View.whole main_v13_0).slice (win0_5.rect t)).set
    rw [View.set_slice_whole, Rect.mem_set_unit]
    intro a
    match a with
    | ⟨0, _⟩ => show win0_5.index t 0 * 256 ≤ (i 0 : Nat) ∧ (i 0 : Nat) < win0_5.index t 0 * 256 + 256
                rw [(index5 t).1, ht]; omega
    | ⟨1, _⟩ => show win0_5.index t 1 * 1024 ≤ (i 1 : Nat) ∧ (i 1 : Nat) < win0_5.index t 1 * 1024 + 1024
                rw [(index5 t).2]; omega

/-- The part's output after the run. -/
theorem final_f : ((dats m 0 c).arrAt 6 cfg0.N : S4096x1024.Idx → EReal) = fArr (xV m c) (modV m c) (gV m c) (wgV m c) (wuV m c) (wdV m c) := by
  have hN : cfg0.N = 16 := N_0
  refine (dats m 0 c).arrAt_eq_of_cover 6 _ (fun t _ => ?_) fun (i : S4096x1024.Idx) => ?_
  · show (cfg0.win 6).cut (grid0.coords t) ((dats m 0 c).after 6 t) = _
    rw [after0_6]
    funext j
    obtain ⟨r, l, rfl⟩ : ∃ (r : Fin 256) (l : Fin 1024), j = ix2 r l := ⟨j 0, j 1, eq_ix2 j⟩
    rw [View.read_apply]
    refine (f_point (iblk m c 0 t) (iblk m c 1 t) (iblk m c 2 t) (iblk m c 3 t) (iblk m c 4 t) r l).trans ?_
    rw [h_tile, wg_tile, wu_tile, wd_tile]
    have he : ((cfg0.win 6).blk t).view.emb (ix2 r l) = (ix2 (row t r) l : S4096x1024.Idx) := by
      funext k
      apply Fin.ext
      match k with
      | ⟨0, _⟩ => show win0_6.index t 0 * 256 + 1 * r.val = t.val * 256 + r.val; rw [(index6 t).1]; omega
      | ⟨1, _⟩ => show win0_6.index t 1 * 1024 + 1 * l.val = l.val; rw [(index6 t).2]; omega
    rw [he]
    rfl
  · have h0 : (i 0 : Nat) < 4096 := (i 0).isLt
    have h1 : (i 1 : Nat) < 1024 := (i 1).isLt
    obtain ⟨t, ht⟩ : ∃ t : Fin cfg0.N, t.val = (i 0 : Nat) / 256 := ⟨⟨(i 0 : Nat) / 256, by omega⟩, rfl⟩
    refine ⟨t, flush0_6 t, ?_⟩
    show i ∈ ((View.whole main_v13_1).slice (win0_6.rect t)).set
    rw [View.set_slice_whole, Rect.mem_set_unit]
    intro a
    match a with
    | ⟨0, _⟩ => show win0_6.index t 0 * 256 ≤ (i 0 : Nat) ∧ (i 0 : Nat) < win0_6.index t 0 * 256 + 256
                rw [(index6 t).1, ht]; omega
    | ⟨1, _⟩ => show win0_6.index t 1 * 1024 ≤ (i 1 : Nat) ∧ (i 1 : Nat) < win0_6.index t 1 * 1024 + 1024
                rw [(index6 t).2]; omega

/-- The pre-activations after the run. -/
theorem final_ab : ((dats m 0 c).arrAt 7 cfg0.N : S4096x5632.Idx → EReal) = abArr (xV m c) (modV m c) (gV m c) (wgV m c) (wuV m c) := by
  have hN : cfg0.N = 16 := N_0
  refine (dats m 0 c).arrAt_eq_of_cover 7 _ (fun t _ => ?_) fun (i : S4096x5632.Idx) => ?_
  · show (cfg0.win 7).cut (grid0.coords t) ((dats m 0 c).after 7 t) = _
    rw [after0_7]
    funext j
    obtain ⟨r, l, rfl⟩ : ∃ (r : Fin 256) (l : Fin 5632), j = ix2 r l := ⟨j 0, j 1, eq_ix2 j⟩
    rw [View.read_apply]
    refine (ab_point (iblk m c 0 t) (iblk m c 1 t) (iblk m c 2 t) (iblk m c 3 t) (iblk m c 4 t) r l).trans ?_
    rw [h_tile, wg_tile, wu_tile]
    have he : ((cfg0.win 7).blk t).view.emb (ix2 r l) = (ix2 (row t r) l : S4096x5632.Idx) := by
      funext k
      apply Fin.ext
      match k with
      | ⟨0, _⟩ => show win0_7.index t 0 * 256 + 1 * r.val = t.val * 256 + r.val; rw [(index7 t).1]; omega
      | ⟨1, _⟩ => show win0_7.index t 1 * 5632 + 1 * l.val = l.val; rw [(index7 t).2]; omega
    rw [he]
    rfl
  · have h0 : (i 0 : Nat) < 4096 := (i 0).isLt
    have h1 : (i 1 : Nat) < 5632 := (i 1).isLt
    obtain ⟨t, ht⟩ : ∃ t : Fin cfg0.N, t.val = (i 0 : Nat) / 256 := ⟨⟨(i 0 : Nat) / 256, by omega⟩, rfl⟩
    refine ⟨t, flush0_7 t, ?_⟩
    show i ∈ ((View.whole main_v13_2).slice (win0_7.rect t)).set
    rw [View.set_slice_whole, Rect.mem_set_unit]
    intro a
    match a with
    | ⟨0, _⟩ => show win0_7.index t 0 * 256 ≤ (i 0 : Nat) ∧ (i 0 : Nat) < win0_7.index t 0 * 256 + 256
                rw [(index7 t).1, ht]; omega
    | ⟨1, _⟩ => show win0_7.index t 1 * 5632 ≤ (i 1 : Nat) ∧ (i 1 : Nat) < win0_7.index t 1 * 5632 + 5632
                rw [(index7 t).2]; omega

end Cert.FfnFwdIdeal.Blocks

end
-- ==== Proof.FfnFwdRef.lean ====
module

public import proofs.«01_k».proof.Proof.FfnFwdSpec
public import proofs.«01_k».proof.Proof.Gen.FfnFwdRefIdeal.Read
public import proofs.«01_k».proof.Proof.Gen.FfnFwdRefIdeal.Run
public import Idealize.ShloMosaic.Lib.Pointwise

@[expose] public section

set_option maxRecDepth 16384

noncomputable section

namespace Cert.FfnFwdRefIdeal.At

open Cert.FfnFwdRefIdeal Cert.FfnFwdRefIdeal.Gen Cert.FfnFwdRefIdeal.Read Idealize.ShloMosaic Idealize.ShloMosaic.TcCoe
open Cert.FfnFwdSpec

variable (x0 : FVec Ideal S4096x1024 .f32) (x1 : FVec Ideal S6x1024 .f32) (x3 : FVec Ideal S1024 .f32) (x4 x5 : FVec Ideal S1024x2816 .f32)
  (x6 : FVec Ideal S2816x1024 .f32) (r : Fin 4096)

/-- A row's reciprocal root mean square. -/
theorem rs_at : (val_main_v7 (F := Ideal) x0 : S4096x1.Idx → EReal) (ix2 r 0) = rs fun l => x0 (ix2 r l) := by
  pointwise [val_main_v7, val_main_v6, val_main_v5, val_main_v4, val_main_v3, val_main_v2, val_main_v1, val_main_v0, val_main_cst, val_main_cst_0, val_main_cst_1]
  rfl

/-- A row normed and modulated. -/
abbrev hR : Fin 1024 → EReal := h (fun l => x0 (ix2 r l)) (fun l => x3 (ix1 l)) (fun l => x1 (ix2 4 l)) (fun l => x1 (ix2 3 l))

theorem h_at (l : Fin 1024) : (val_main_v20 (F := Ideal) x0 x1 x3 : S4096x1024.Idx → EReal) (ix2 r l) = hR x0 x1 x3 r l := by
  pointwise [val_main_v20, val_main_v19, val_main_v18, val_main_v17, val_main_v16, val_main_v15, val_main_v14, val_main_v13, val_main_v12, val_main_v11,
    val_main_v10, val_main_v9, val_main_v8, val_main_cst_2]
  rw [rs_at]
  rfl

/-- The pre-activations. -/
theorem a_at (j : Fin 2816) : (val_main_v21 (F := Ideal) x0 x1 x3 x4 : S4096x2816.Idx → EReal) (ix2 r j) = a (hR x0 x1 x3 r) (fun l j => x4 (ix2 l j)) j := by
  pointwise [val_main_v21]
  simp only [h_at]
  rfl

theorem b_at (j : Fin 2816) : (val_main_v22 (F := Ideal) x0 x1 x3 x5 : S4096x2816.Idx → EReal) (ix2 r j) = a (hR x0 x1 x3 r) (fun l j => x5 (ix2 l j)) j := by
  pointwise [val_main_v22]
  simp only [h_at]
  rfl

/-- The gated activation. -/
theorem s_at (j : Fin 2816) : (val_main_v24 (F := Ideal) x0 x1 x3 x4 x5 : S4096x2816.Idx → EReal) (ix2 r j)
    = s (a (hR x0 x1 x3 r) (fun l j => x4 (ix2 l j)) j) (a (hR x0 x1 x3 r) (fun l j => x5 (ix2 l j)) j) := by
  pointwise [val_main_v24, val_main_v23, val_main_call0_v0, val_main_call0_v1, val_main_call0_v2, val_main_call0_v3, val_main_call0_v4, val_main_call0_v5,
    val_main_call0_cst, val_main_call0_cst_0]
  rw [a_at, b_at]
  simp only [s, zero_sub]

/-- The part's output. -/
theorem f_at (l : Fin 1024) : (val_main_v25 (F := Ideal) x0 x1 x3 x4 x5 x6 : S4096x1024.Idx → EReal) (ix2 r l)
    = f (hR x0 x1 x3 r) (fun l j => x4 (ix2 l j)) (fun l j => x5 (ix2 l j)) (fun j l => x6 (ix2 j l)) l := by
  pointwise [val_main_v25]
  simp only [s_at]
  rfl

/-- The gated residual. -/
theorem x_at (l : Fin 1024) : (val_main_v29 (F := Ideal) x0 x1 x3 x4 x5 x6 : S4096x1024.Idx → EReal) (ix2 r l)
    = x0 (ix2 r l) + x1 (ix2 5 l) * f (hR x0 x1 x3 r) (fun l j => x4 (ix2 l j)) (fun l j => x5 (ix2 l j)) (fun j l => x6 (ix2 j l)) l := by
  pointwise [val_main_v29, val_main_v28, val_main_v27, val_main_v26]
  rw [f_at]

/-- The pre-activations side by side: the gate's columns, then the up-projection's. -/
theorem ab_at (j : Fin 5632) : (val_main_v30 (F := Ideal) x0 x1 x3 x4 x5 : S4096x5632.Idx → EReal) (ix2 r j)
    = if hj : j.val < 2816 then a (hR x0 x1 x3 r) (fun l j => x4 (ix2 l j)) ⟨j.val, hj⟩ else a (hR x0 x1 x3 r) (fun l j => x5 (ix2 l j)) ⟨j.val - 2816, by omega⟩ := by
  have ha := a_at x0 x1 x3 x4 r
  have hb := b_at x0 x1 x3 x5 r
  by_cases hj : j.val < 2816
  · rw [dif_pos hj, ← ha]
    pointwise [val_main_v30]
    exact dif_pos hj
  · rw [dif_neg hj, ← hb]
    pointwise [val_main_v30]
    exact dif_neg hj

end Cert.FfnFwdRefIdeal.At
end
-- ==== Proof.FfnFwdClaim.lean ====
/- The claims about the feed-forward part's forward call: the two frames of the kernel, the reference's, and the value. -/
module

public import proofs.«01_k».proof.Defs
public import proofs.«01_k».proof.Proof.Gen.FfnFwd.Frame
public import proofs.«01_k».proof.Proof.FfnFwdFinal
public import proofs.«01_k».proof.Proof.FfnFwdRef
public import Idealize.ShloMosaic.Lib.Quiescent

@[expose] public section

noncomputable section

namespace Cert.FfnFwdClaim

open Idealize.ShloMosaic Idealize.ShloMosaic.TcCoe Idealize.SL.Sem Cert.FfnFwdIdeal.Blocks

/-- The kernel's results and the reference's are the same three arrays. -/
theorem value : Cert.algebraic_FfnFwdIdeal_FfnFwdRefIdeal
    (hFfnFwdIdeal := Cert.FfnFwdIdeal.Gen.facts) (hFfnFwdRefIdeal := Cert.FfnFwdRefIdeal.Gen.facts) := by
  intro m g m' g' _ hm
  refine ⟨_, _, _, (θ_run Cert.FfnFwdIdeal.defs _ _).mono (fun r h c => ⟨(h c).1.trans (final_x m c),
    (h c).2.1.trans (final_f m c), (h c).2.2.1.trans (final_ab m c), (h c).2.2.2⟩) (Cert.FfnFwdIdeal.Value.run_blocks m g), ?_⟩
  refine (θ_run Cert.FfnFwdRefIdeal.defs _ _).mono (fun r h c => ⟨?_, ?_, ?_, (h c).2.2.2⟩) (Cert.FfnFwdRefIdeal.Value.run m' g')
  · refine (h c).1.trans ((Cert.FfnFwdRefIdeal.Read.val_main_v29_eq m' c).trans ?_)
    rw [(hm c).1, (hm c).2.1, (hm c).2.2.2.1, (hm c).2.2.2.2.1, (hm c).2.2.2.2.2.1, (hm c).2.2.2.2.2.2]
    funext i
    rw [eq_ix2 i]
    exact Cert.FfnFwdRefIdeal.At.x_at _ _ _ _ _ _ _ _
  · refine (h c).2.1.trans ((Cert.FfnFwdRefIdeal.Read.val_main_v25_eq m' c).trans ?_)
    rw [(hm c).1, (hm c).2.1, (hm c).2.2.2.1, (hm c).2.2.2.2.1, (hm c).2.2.2.2.2.1, (hm c).2.2.2.2.2.2]
    funext i
    rw [eq_ix2 i]
    exact Cert.FfnFwdRefIdeal.At.f_at _ _ _ _ _ _ _ _
  · refine (h c).2.2.1.trans (Eq.trans (b := Cert.FfnFwdRefIdeal.Read.val_main_v30 (F := Ideal) (m' ((c.tc : Thread _ _).loc Cert.FfnFwdRefIdeal.main_arg0))
      (m' ((c.tc : Thread _ _).loc Cert.FfnFwdRefIdeal.main_arg1)) (m' ((c.tc : Thread _ _).loc Cert.FfnFwdRefIdeal.main_arg3))
      (m' ((c.tc : Thread _ _).loc Cert.FfnFwdRefIdeal.main_arg4)) (m' ((c.tc : Thread _ _).loc Cert.FfnFwdRefIdeal.main_arg5))) rfl ?_)
    rw [(hm c).1, (hm c).2.1, (hm c).2.2.2.1, (hm c).2.2.2.2.1, (hm c).2.2.2.2.2.1]
    funext i
    rw [eq_ix2 i]
    exact Cert.FfnFwdRefIdeal.At.ab_at _ _ _ _ _ _ _

/-- The kernel's frame, on words. -/
theorem frame : Cert.quiescent_FfnFwd (hFfnFwd := Cert.FfnFwd.Gen.facts) := fun m ρ _ => Cert.FfnFwd.Gen.frame m ρ

/-- The kernel's frame, over the extended reals. -/
theorem frame_ideal : Cert.quiescent_FfnFwdIdeal (hFfnFwdIdeal := Cert.FfnFwdIdeal.Gen.facts) := fun m ρ _ => Cert.FfnFwdIdeal.Gen.frame m ρ

/-- The reference's frame. -/
theorem frame_ref : Cert.quiescent_FfnFwdRefIdeal (hFfnFwdRefIdeal := Cert.FfnFwdRefIdeal.Gen.facts) := fun m ρ _ =>
  (θ_run Cert.FfnFwdRefIdeal.defs _ _).mono (fun r h => ⟨fun c => (h c).2.2.2, sem_eq_zero_of_no_sems (by decide) r.2⟩)
    (Cert.FfnFwdRefIdeal.Value.run (F := Ideal) m ρ)

end Cert.FfnFwdClaim

end
-- ==== Proof.ProjFwdSpec.lean ====
/- The odd layers' projections and head norms as functions on the extended reals. -/
module

public import proofs.«01_k».proof.Proof.FfnFwdSpec
public import Idealize.ShloMosaic.Lib.Pointwise

@[expose] public section

noncomputable section

namespace Cert.ProjFwdSpec

open Idealize.ShloMosaic

/-- A column of the projections: the normed row against one column of the weight. -/
def z (h : Fin 1024 → EReal) (w : Fin 1024 → Fin 3072 → EReal) (j : Fin 3072) : EReal := ∑ l, h l * w l j

/-- Column `d` of head `n`. -/
def at' (n : Fin 24) (d : Fin 128) : Fin 3072 := ⟨128 * n.val + d.val, by omega⟩

/-- A head normed and scaled. -/
def hn (z : Fin 3072 → EReal) (g : Fin 128 → EReal) (n : Fin 24) (d : Fin 128) : EReal :=
  z (at' n d) * Ideal.rsqrt (Ideal.div (∑ k, z (at' n k) * z (at' n k)) (Ideal.ofBits FTy.f32 1124073472#32) + Ideal.ofBits FTy.f32 897988541#32) * g d

/-- A column of the call's first result: the queries' heads normed, the keys' heads normed, the values. -/
def qkv (z : Fin 3072 → EReal) (q k : Fin 128 → EReal) (j : Fin 3072) : EReal :=
  if j.val < 1024 then hn z q ⟨j.val / 128, by omega⟩ ⟨j.val % 128, by omega⟩
  else if j.val < 2048 then hn z k ⟨j.val / 128, by omega⟩ ⟨j.val % 128, by omega⟩ else z j

theorem qkv_q (z : Fin 3072 → EReal) (q k : Fin 128 → EReal) (n : Fin 24) (hn8 : n.val < 8) (d : Fin 128) (j : Fin 3072) (e : j.val = 128 * n.val + d.val) :
    qkv z q k j = hn z q n d := by
  unfold qkv
  rw [if_pos (by omega), show (⟨j.val / 128, by omega⟩ : Fin 24) = n from Fin.ext (by show j.val / 128 = n.val; omega),
    show (⟨j.val % 128, by omega⟩ : Fin 128) = d from Fin.ext (by show j.val % 128 = d.val; omega)]

theorem qkv_k (z : Fin 3072 → EReal) (q k : Fin 128 → EReal) (n : Fin 24) (h8 : 8 ≤ n.val) (h16 : n.val < 16) (d : Fin 128) (j : Fin 3072)
    (e : j.val = 128 * n.val + d.val) : qkv z q k j = hn z k n d := by
  unfold qkv
  rw [if_neg (by omega), if_pos (by omega), show (⟨j.val / 128, by omega⟩ : Fin 24) = n from Fin.ext (by show j.val / 128 = n.val; omega),
    show (⟨j.val % 128, by omega⟩ : Fin 128) = d from Fin.ext (by show j.val % 128 = d.val; omega)]

theorem qkv_v (z : Fin 3072 → EReal) (q k : Fin 128 → EReal) (j : Fin 3072) (e : 2048 ≤ j.val) : qkv z q k j = z j := by
  unfold qkv
  rw [if_neg (by omega), if_neg (by omega)]

end Cert.ProjFwdSpec

end
-- ==== Proof.ProjFwdBlocks.lean ====
/- The odd layers' projections' forward call: what a point stores. -/
module

public import proofs.«01_k».proof.Proof.ProjFwdSpec
public import proofs.«01_k».proof.Proof.Gen.ProjFwdIdeal.Value
public import Idealize.ShloMosaic.Lib.Pointwise

@[expose] public section

set_option maxRecDepth 16384

noncomputable section

namespace Cert.ProjFwdIdeal.Blocks

open Cert.ProjFwdIdeal Cert.ProjFwdIdeal.Gen Idealize.ShloMosaic Idealize.ShloMosaic.TcCoe Idealize.SL.Sem
open Cert.FfnFwdSpec (h)
open Cert.ProjFwdSpec (z hn at' qkv)

theorem hz2 : (![0, 0] : Fin 2 → Nat) = fun _ => 0 := by decide
theorem hz4 : (![0, 0, 0, 0] : Fin 4 → Nat) = fun _ => 0 := by decide

/-- One row of the modulation's block, and one of the head norms' weights. -/
def mrow (k : Fin 8) (x : Vec Ideal S8x1024 .f32) : Vec Ideal S1x1024 .f32 := fun i => x (ix2 k (i 1))
def grow (k : Fin 8) (x : Vec Ideal S8x128 .f32) : Vec Ideal S1x128 .f32 := fun i => x (ix2 k (i 1))

/-- Loads of one row. -/
theorem ld_mrow (k : ℕ) (x : Vec Ideal S8x1024 .f32) (inb : ∀ a, (![k, 0] : Fin 2 → Nat) a + (![1, 1024] : Fin 2 → Nat) a ≤ S8x1024.size a) :
    View.ld x (Rect.unit (s := S8x1024) ![k, 0] ![1, 1024] inb) = mrow ⟨k, Nat.lt_of_succ_le (inb 0)⟩ x := by
  funext i
  refine congrArg x (funext fun a => Fin.ext ?_)
  have h0 : (i 0).val < 1 := (i 0).isLt
  match a with
  | ⟨0, _⟩ => show k + 1 * (i 0).val = k; omega
  | ⟨1, _⟩ => show 0 + 1 * (i 1).val = (i 1).val; omega

theorem ld_grow (k : ℕ) (x : Vec Ideal S8x128 .f32) (inb : ∀ a, (![k, 0] : Fin 2 → Nat) a + (![1, 128] : Fin 2 → Nat) a ≤ S8x128.size a) :
    View.ld x (Rect.unit (s := S8x128) ![k, 0] ![1, 128] inb) = grow ⟨k, Nat.lt_of_succ_le (inb 0)⟩ x := by
  funext i
  refine congrArg x (funext fun a => Fin.ext ?_)
  have h0 : (i 0).val < 1 := (i 0).isLt
  match a with
  | ⟨0, _⟩ => show k + 1 * (i 0).val = k; omega
  | ⟨1, _⟩ => show 0 + 1 * (i 1).val = (i 1).val; omega

/-- The weight's row `j`, in eight groups of 384. -/
def wcol (x : Vec Ideal S8x1x384x1024 .bf16) (l : Fin 1024) (j : Fin 3072) : EReal := x (ix4 ⟨j.val / 384, by omega⟩ 0 ⟨j.val % 384, by omega⟩ l)

/-- A block's projections. -/
theorem pay4_apply (x : Vec Ideal S256x1024 .f32) (g sc sh : Vec Ideal S1x1024 .f32) (w : Vec Ideal S8x1x384x1024 .bf16) (r : Fin 256) (j : Fin 3072) :
    (k0_pay4 (F := Ideal) x g sc sh w : S256x3072.Idx → EReal) (ix2 r j)
      = z (h (fun l => x (ix2 r l)) (fun l => g (ix2 0 l)) (fun l => sc (ix2 0 l)) (fun l => sh (ix2 0 l))) (wcol w) j := by
  pointwise [k0_pay4]
  rfl

/-- A head of a block: a row's head normed and scaled. -/
def hB (z : FVec Ideal S256x3072 .f32) (g : Vec Ideal S1x128 .f32) (n : Fin 24) (r : Fin 256) (d : Fin 128) : EReal :=
  hn (fun j => z (ix2 r j)) (fun d => g (ix2 0 d)) n d

/-! The stores of the heads: queries' heads 1 to 7, keys' heads 0 to 7, head 0 of the queries from the block itself. -/
section
variable (z : FVec Ideal S256x3072 .f32) (g : Vec Ideal S1x128 .f32) (r : Fin 256) (d : Fin 128)

theorem q1_apply : (k0_pay14 (k0_pay11 z) g : S256x128.Idx → EReal) (ix2 r d) = hB z g 1 r d := by pointwise [k0_pay14, k0_pay11]; rfl
theorem q2_apply : (k0_pay19 (k0_pay16 z) g : S256x128.Idx → EReal) (ix2 r d) = hB z g 2 r d := by pointwise [k0_pay19, k0_pay16]; rfl
theorem q3_apply : (k0_pay22 z g : S256x128.Idx → EReal) (ix2 r d) = hB z g 3 r d := by pointwise [k0_pay22]; rfl
theorem q4_apply : (k0_pay24 z g : S256x128.Idx → EReal) (ix2 r d) = hB z g 4 r d := by pointwise [k0_pay24]; rfl
theorem q5_apply : (k0_pay26 z g : S256x128.Idx → EReal) (ix2 r d) = hB z g 5 r d := by pointwise [k0_pay26]; rfl
theorem q6_apply : (k0_pay31 (k0_pay28 z) (k0_pay29 z) k0_pay30 g : S256x128.Idx → EReal) (ix2 r d) = hB z g 6 r d := by pointwise [k0_pay31, k0_pay28, k0_pay29, k0_pay30]; rfl
theorem q7_apply : (k0_pay1 (k0_pay33 z) g : S256x128.Idx → EReal) (ix2 r d) = hB z g 7 r d := by pointwise [k0_pay1, k0_pay33]; rfl
theorem k0_apply : (k0_pay10 z g : S256x128.Idx → EReal) (ix2 r d) = hB z g 8 r d := by pointwise [k0_pay10]; rfl
theorem k1_apply : (k0_pay15 (k0_pay12 z) (k0_pay13 z) g : S256x128.Idx → EReal) (ix2 r d) = hB z g 9 r d := by pointwise [k0_pay15, k0_pay12, k0_pay13]; rfl
theorem k2_apply : (k0_pay20 (k0_pay17 z) (k0_pay18 z) g : S256x128.Idx → EReal) (ix2 r d) = hB z g 10 r d := by pointwise [k0_pay20, k0_pay17, k0_pay18]; rfl
theorem k3_apply : (k0_pay23 (k0_pay21 z) g : S256x128.Idx → EReal) (ix2 r d) = hB z g 11 r d := by pointwise [k0_pay23, k0_pay21]; rfl
theorem k4_apply : (k0_pay25 z g : S256x128.Idx → EReal) (ix2 r d) = hB z g 12 r d := by pointwise [k0_pay25]; rfl
theorem k5_apply : (k0_pay27 z g : S256x128.Idx → EReal) (ix2 r d) = hB z g 13 r d := by pointwise [k0_pay27]; rfl
theorem k6_apply : (k0_pay32 z g : S256x128.Idx → EReal) (ix2 r d) = hB z g 14 r d := by pointwise [k0_pay32]; rfl
theorem k7_apply : (k0_pay2 (k0_pay34 z) (k0_pay35 z) g : S256x128.Idx → EReal) (ix2 r d) = hB z g 15 r d := by pointwise [k0_pay2, k0_pay34, k0_pay35]; rfl
end

theorem at_zero (d : Fin 128) : at' 0 d = ⟨d.val, by omega⟩ := Fin.ext (by show 128 * 0 + d.val = d.val; omega)

theorem q0_apply (x : Vec Ideal S256x1024 .f32) (g sc sh : Vec Ideal S1x1024 .f32) (w : Vec Ideal S8x1x384x1024 .bf16) (q : Vec Ideal S1x128 .f32) (r : Fin 256) (d : Fin 128) :
    (k0_pay9 (k0_pay6 x g sc sh w) (k0_pay7 x g sc sh w) k0_pay8 q : S256x128.Idx → EReal) (ix2 r d) = hB (k0_pay4 x g sc sh w) q 0 r d := by
  pointwise [k0_pay6, k0_pay7, k0_pay8, k0_pay9]
  simp only [hB, hn, at_zero]

/-- The stores of the values and of the columns before the norms. -/
theorem v_apply (z : FVec Ideal S256x3072 .f32) (r : Fin 256) (j : Fin 1024) :
    (k0_pay3 z : S256x1024.Idx → EReal) (ix2 r j) = z (ix2 r ⟨2048 + j.val, by omega⟩) := by
  pointwise [k0_pay3]

theorem pay5_apply (x : Vec Ideal S256x1024 .f32) (g sc sh : Vec Ideal S1x1024 .f32) (w : Vec Ideal S8x1x384x1024 .bf16) (r : Fin 256) (j : Fin 2048) :
    (k0_pay5 (F := Ideal) x g sc sh w : S256x2048.Idx → EReal) (ix2 r j)
      = z (h (fun l => x (ix2 r l)) (fun l => g (ix2 0 l)) (fun l => sc (ix2 0 l)) (fun l => sh (ix2 0 l))) (wcol w) ⟨j.val, by omega⟩ := by
  pointwise [k0_pay5]
  exact pay4_apply x g sc sh w r ⟨j.val, by omega⟩

section
variable (x0 : Vec Ideal S256x1024 .f32) (x1 : Vec Ideal S8x1024 .f32) (x2 : Vec Ideal S8x1x384x1024 .bf16) (x3 : Vec Ideal S8x128 .f32)

/-- A row of the block's projections. -/
def zB : FVec Ideal S256x3072 .f32 := k0_pay4 x0 (mrow 6 x1) (mrow 1 x1) (mrow 0 x1) x2

/-- What the first buffer should hold. -/
def qkvB : S256x3072.Idx → EReal := fun i =>
  qkv (fun j => zB x0 x1 x2 (ix2 (i 0) j)) (fun d => grow 0 x3 (ix2 0 d)) (fun d => grow 1 x3 (ix2 0 d)) (i 1)

/-- Where a head's store lands, and the values'. -/
theorem of_q (n : Fin 24) (h8 : n.val < 8) (a : ℕ) (ha : a = 128 * n.val) (inb : ∀ b, (![0, a] : Fin 2 → Nat) b + (![256, 128] : Fin 2 → Nat) b ≤ S256x3072.size b)
    (p : S256x128.Idx → EReal) (hp : ∀ r d, p (ix2 r d) = hB (zB x0 x1 x2) (grow 0 x3) n r d) (i : S256x128.Idx) :
    p i = qkvB x0 x1 x2 x3 ((Rect.unit (s := S256x3072) ![0, a] ![256, 128] inb).emb i) := by
  obtain ⟨r, d, rfl⟩ : ∃ r d, i = ix2 r d := ⟨i 0, i 1, eq_ix2 i⟩
  rw [hp]
  have e : (Rect.unit (s := S256x3072) ![0, a] ![256, 128] inb).emb (ix2 r d) 0 = r := Fin.ext (by show 0 + 1 * r.val = r.val; omega)
  unfold qkvB
  rw [e]
  exact (Cert.ProjFwdSpec.qkv_q _ _ _ n h8 d _ (by show a + 1 * d.val = 128 * n.val + d.val; omega)).symm

theorem of_k (n : Fin 24) (h8 : 8 ≤ n.val) (h16 : n.val < 16) (a : ℕ) (ha : a = 128 * n.val)
    (inb : ∀ b, (![0, a] : Fin 2 → Nat) b + (![256, 128] : Fin 2 → Nat) b ≤ S256x3072.size b)
    (p : S256x128.Idx → EReal) (hp : ∀ r d, p (ix2 r d) = hB (zB x0 x1 x2) (grow 1 x3) n r d) (i : S256x128.Idx) :
    p i = qkvB x0 x1 x2 x3 ((Rect.unit (s := S256x3072) ![0, a] ![256, 128] inb).emb i) := by
  obtain ⟨r, d, rfl⟩ : ∃ r d, i = ix2 r d := ⟨i 0, i 1, eq_ix2 i⟩
  rw [hp]
  have e : (Rect.unit (s := S256x3072) ![0, a] ![256, 128] inb).emb (ix2 r d) 0 = r := Fin.ext (by show 0 + 1 * r.val = r.val; omega)
  unfold qkvB
  rw [e]
  exact (Cert.ProjFwdSpec.qkv_k _ _ _ n h8 h16 d _ (by show a + 1 * d.val = 128 * n.val + d.val; omega)).symm

theorem of_v (inb : ∀ b, (![0, 2048] : Fin 2 → Nat) b + (![256, 1024] : Fin 2 → Nat) b ≤ S256x3072.size b)
    (p : S256x1024.Idx → EReal) (hp : ∀ r j, p (ix2 r j) = zB x0 x1 x2 (ix2 r ⟨2048 + j.val, by omega⟩)) (i : S256x1024.Idx) :
    p i = qkvB x0 x1 x2 x3 ((Rect.unit (s := S256x3072) ![0, 2048] ![256, 1024] inb).emb i) := by
  obtain ⟨r, j, rfl⟩ : ∃ r j, i = ix2 r j := ⟨i 0, i 1, eq_ix2 i⟩
  rw [hp]
  have e : (Rect.unit (s := S256x3072) ![0, 2048] ![256, 1024] inb).emb (ix2 r j) 0 = r := Fin.ext (by show 0 + 1 * r.val = r.val; omega)
  have e' : (Rect.unit (s := S256x3072) ![0, 2048] ![256, 1024] inb).emb (ix2 r j) 1 = (⟨2048 + j.val, by omega⟩ : Fin 3072) :=
    Fin.ext (by show 2048 + 1 * j.val = 2048 + j.val; omega)
  unfold qkvB
  rw [e, e']
  exact (Cert.ProjFwdSpec.qkv_v (fun j => zB x0 x1 x2 (ix2 r j)) _ _ ⟨2048 + j.val, by omega⟩ (by show 2048 ≤ 2048 + j.val; omega)).symm

variable (c : Dev nD) (i : grid0.Coords) (v1 : Memref sig .tc .vmem S256x1024 .f32) (h1 : v1.IsWhole) (v2 : Memref sig .tc .vmem S8x1024 .f32) (h2 : v2.IsWhole)
    (v3 : Memref sig .tc .vmem S8x1x384x1024 .bf16) (h3 : v3.IsWhole) (v4 : Memref sig .tc .vmem S8x128 .f32) (h4 : v4.IsWhole)
    (v5 : Memref sig .tc .vmem S256x3072 .bf16) (h5 : v5.IsWhole) (v6 : Memref sig .tc .vmem S256x2048 .f32) (h6 : v6.IsWhole)

theorem pre_A : out0_A_5 c i v1 h1 v2 h2 v3 h3 v4 h4 v5 h5 v6 h6 x0 x1 x2 x3
    = k0_pay5 x0 (mrow 6 x1) (mrow 1 x1) (mrow 0 x1) x2 := by
  unfold out0_A_5
  rw [View.read_writes_junk_eq_canon]
  unfold kernelRun0_A
  dsimp only
  sl_unfold_words
  rw [View.canon_unit_zero (S := S256x2048) hz2]
  simp only [View.readAt_eq_ld, h1.read_unread, h2.read_unread, h3.read_unread, h4.read_unread,
    View.ld_unit_zero (S := S256x1024) hz2, View.ld_unit_zero (S := S8x1x384x1024) hz4, ld_mrow]
  rfl

theorem qkv_A (y : S256x3072.Idx) : (out0_A_4 c i v1 h1 v2 h2 v3 h3 v4 h4 v5 h5 v6 h6 x0 x1 x2 x3 : S256x3072.Idx → EReal) y = qkvB x0 x1 x2 x3 y := by
  unfold out0_A_4
  rw [View.read_writes_junk_eq_canon]
  refine View.canon_apply_of_pieces (Val := Elt Ideal) (qkvB x0 x1 x2 x3) _ ?_ y (cover0_A_4 c i v1 h1 v2 h2 v3 h3 v4 h4 v5 h5 v6 h6 x0 x1 x2 x3 y)
  unfold kernelRun0_A
  dsimp only
  sl_unfold_words
  simp only [View.readAt_eq_ld, h1.read_unread, h2.read_unread, h3.read_unread, h4.read_unread,
    View.ld_unit_zero (S := S256x1024) hz2, View.ld_unit_zero (S := S8x1x384x1024) hz4, ld_mrow, ld_grow, List.mem_cons, List.not_mem_nil, or_false, forall_eq_or_imp, forall_eq]
  refine ⟨of_v _ _ _ _ _ _ (v_apply _),
    of_k _ _ _ _ 15 (by decide) (by decide) _ rfl _ _ (k7_apply _ _),
    of_q _ _ _ _ 7 (by decide) _ rfl _ _ (q7_apply _ _),
    of_k _ _ _ _ 14 (by decide) (by decide) _ rfl _ _ (k6_apply _ _),
    of_q _ _ _ _ 6 (by decide) _ rfl _ _ (q6_apply _ _),
    of_k _ _ _ _ 13 (by decide) (by decide) _ rfl _ _ (k5_apply _ _),
    of_q _ _ _ _ 5 (by decide) _ rfl _ _ (q5_apply _ _),
    of_k _ _ _ _ 12 (by decide) (by decide) _ rfl _ _ (k4_apply _ _),
    of_q _ _ _ _ 4 (by decide) _ rfl _ _ (q4_apply _ _),
    of_k _ _ _ _ 11 (by decide) (by decide) _ rfl _ _ (k3_apply _ _),
    of_q _ _ _ _ 3 (by decide) _ rfl _ _ (q3_apply _ _),
    of_k _ _ _ _ 10 (by decide) (by decide) _ rfl _ _ (k2_apply _ _),
    of_q _ _ _ _ 2 (by decide) _ rfl _ _ (q2_apply _ _),
    of_k _ _ _ _ 9 (by decide) (by decide) _ rfl _ _ (k1_apply _ _),
    of_q _ _ _ _ 1 (by decide) _ rfl _ _ (q1_apply _ _),
    of_k _ _ _ _ 8 (by decide) (by decide) _ rfl _ _ (k0_apply _ _),
    of_q _ _ _ _ 0 (by decide) _ rfl _ _ (q0_apply _ _ _ _ _ _)⟩
end

end Cert.ProjFwdIdeal.Blocks

end
-- ==== Proof.ProjFwdFinal.lean ====
/- The odd layers' projections' forward call: the blocks at each point and the arrays after the run. -/
module

public import proofs.«01_k».proof.Proof.ProjFwdBlocks
public import Idealize.ShloMosaic.Lib.StableHlo.RunRead

@[expose] public section

set_option maxRecDepth 16384

noncomputable section

namespace Cert.ProjFwdIdeal.Blocks

open Cert.ProjFwdIdeal Cert.ProjFwdIdeal.Gen Idealize.ShloMosaic Idealize.ShloMosaic.TcCoe Idealize.SL.Sem
open Idealize.ShloMosaic.Pipeline (Dat)
open Cert.FfnFwdSpec (h)
open Cert.ProjFwdSpec (z hn at' qkv)

variable (m : (ℓ : Loc nD τ sig) → Buf (Elt Ideal) ℓ) (c : Dev nD)

/-- Which block each window stages at a point. -/
theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 ∧ win0_2.index t 2 = 0 ∧ win0_2.index t 3 = 0 := by decide +kernel
theorem index3 : ∀ t : Fin grid0.N, win0_3.index t 0 = 0 ∧ win0_3.index t 1 = 0 := by decide +kernel
theorem index4 : ∀ t : Fin grid0.N, win0_4.index t 0 = t.val ∧ win0_4.index t 1 = 0 := by decide +kernel
theorem index5 : ∀ t : Fin grid0.N, win0_5.index t 0 = t.val ∧ win0_5.index t 1 = 0 := by decide +kernel

/-- A tile's row as a row of the whole. -/
def row (t : Fin cfg0.N) (r : Fin 256) : Fin 4096 := ⟨t.val * 256 + r.val, by have := lt_of_lt_of_eq t.isLt N_0; omega⟩

/-- The arguments' contents. -/
abbrev xV : S4096x1024.Idx → EReal := m ((c : Thread nD τ).loc main_arg0)
abbrev modV : S6x1024.Idx → EReal := m ((c : Thread nD τ).loc main_arg1)
abbrev gV : S1024.Idx → EReal := m ((c : Thread nD τ).loc main_arg2)
abbrev wV : S1024x3072.Idx → EReal := m ((c : Thread nD τ).loc main_arg4)
abbrev qV : S128.Idx → EReal := m ((c : Thread nD τ).loc main_arg5)
abbrev kV : S128.Idx → EReal := m ((c : Thread nD τ).loc main_arg6)

theorem iblk0_apply (t : Fin cfg0.N) (r : Fin 256) (l : Fin 1024) : (iblk m c 0 t : Vec Ideal S256x1024 .f32) (ix2 r l) = xV m c (ix2 (row t r) l) := by
  unfold iblk
  rw [View.read_apply]
  refine (congrFun (V_main_arg0 m c) _).trans (congrArg (xV m c) (funext fun a => Fin.ext ?_))
  match a with
  | ⟨0, _⟩ => show win0_0.index t 0 * 256 + 1 * r.val = t.val * 256 + r.val; rw [(index0 t).1]; omega
  | ⟨1, _⟩ => show win0_0.index t 1 * 1024 + 1 * l.val = l.val; rw [(index0 t).2]; omega

theorem iblk1_apply (t : Fin cfg0.N) (k : Fin 8) (l : Fin 1024) :
    mrow k (iblk m c 1 t : Vec Ideal S8x1024 .f32) (ix2 0 l) = (V m c main_v2 : S8x1024.Idx → EReal) (ix2 k l) := by
  unfold mrow iblk
  rw [View.read_apply]
  refine congrArg (V m c main_v2) (funext fun a => Fin.ext ?_)
  match a with
  | ⟨0, _⟩ => show win0_1.index t 0 * 8 + 1 * k.val = k.val; rw [(index1 t).1]; omega
  | ⟨1, _⟩ => show win0_1.index t 1 * 1024 + 1 * l.val = l.val; rw [(index1 t).2]; omega

theorem iblk3_apply (t : Fin cfg0.N) (k : Fin 8) (l : Fin 128) :
    grow k (iblk m c 3 t : Vec Ideal S8x128 .f32) (ix2 0 l) = (V m c main_v7 : S8x128.Idx → EReal) (ix2 k l) := by
  unfold grow iblk
  rw [View.read_apply]
  refine congrArg (V m c main_v7) (funext fun a => Fin.ext ?_)
  match a with
  | ⟨0, _⟩ => show win0_3.index t 0 * 8 + 1 * k.val = k.val; rw [(index3 t).1]; omega
  | ⟨1, _⟩ => show win0_3.index t 1 * 128 + 1 * l.val = l.val; rw [(index3 t).2]; omega

theorem V2_sh (l : Fin 1024) : (V m c main_v2 : S8x1024.Idx → EReal) (ix2 0 l) = modV m c (ix2 0 l) := by
  simp only [V, hostOps0]
  after_reads_simp
  pointwise []

theorem V2_sc (l : Fin 1024) : (V m c main_v2 : S8x1024.Idx → EReal) (ix2 1 l) = modV m c (ix2 1 l) := by
  simp only [V, hostOps0]
  after_reads_simp
  pointwise []

theorem V2_g (l : Fin 1024) : (V m c main_v2 : S8x1024.Idx → EReal) (ix2 6 l) = gV m c (ix1 l) := by
  simp only [V, hostOps0]
  after_reads_simp
  pointwise []
  after_reads_simp
  pointwise []

theorem V7_q (l : Fin 128) : (V m c main_v7 : S8x128.Idx → EReal) (ix2 0 l) = qV m c (ix1 l) := by
  simp only [V, hostOps0]
  after_reads_simp
  pointwise []
  after_reads_simp
  pointwise []

theorem V7_k (l : Fin 128) : (V m c main_v7 : S8x128.Idx → EReal) (ix2 1 l) = kV m c (ix1 l) := by
  simp only [V, hostOps0]
  after_reads_simp
  pointwise []
  after_reads_simp
  pointwise []

theorem V10_apply (a : Fin 8) (b : Fin 384) (l : Fin 1024) :
    (V m c main_v10 : S8x1x384x1024.Idx → EReal) (ix4 a 0 b l) = wV m c (ix2 l ⟨a.val * 384 + b.val, by omega⟩) := by
  simp only [V, hostOps0]
  after_reads_simp
  pointwise []

theorem iblk2_apply (t : Fin cfg0.N) (j : Fin 3072) (l : Fin 1024) : wcol (iblk m c 2 t : Vec Ideal S8x1x384x1024 .bf16) l j = wV m c (ix2 l j) := by
  have e : (V m c main_v10 : S8x1x384x1024.Idx → EReal) (ix4 ⟨j.val / 384, by omega⟩ 0 ⟨j.val % 384, by omega⟩ l) = wV m c (ix2 l j) :=
    (V10_apply m c _ _ l).trans (congrArg (fun q => wV m c (ix2 l q)) (Fin.ext (by show j.val / 384 * 384 + j.val % 384 = j.val; omega)))
  rw [← e]
  unfold wcol iblk
  rw [View.read_apply]
  refine congrArg (V m c main_v10) (funext fun q => Fin.ext ?_)
  match q with
  | ⟨0, _⟩ => show win0_2.index t 0 * 8 + 1 * (j.val / 384) = j.val / 384; rw [(index2 t).1]; omega
  | ⟨1, _⟩ => show win0_2.index t 1 * 1 + 1 * 0 = 0; rw [(index2 t).2.1]
  | ⟨2, _⟩ => show win0_2.index t 2 * 384 + 1 * (j.val % 384) = j.val % 384; rw [(index2 t).2.2.1]; omega
  | ⟨3, _⟩ => show win0_2.index t 3 * 1024 + 1 * l.val = l.val; rw [(index2 t).2.2.2]; omega

/-- A row of the projections of the whole call. -/
def zA (x : S4096x1024.Idx → EReal) (md : S6x1024.Idx → EReal) (g : S1024.Idx → EReal) (w : S1024x3072.Idx → EReal) (r : Fin 4096) : Fin 3072 → EReal :=
  z (h (fun l => x (ix2 r l)) (fun l => g (ix1 l)) (fun l => md (ix2 1 l)) (fun l => md (ix2 0 l))) fun l j => w (ix2 l j)

theorem z_tile (t : Fin cfg0.N) (r : Fin 256) :
    z (h (fun l => (iblk m c 0 t : Vec Ideal S256x1024 .f32) (ix2 r l)) (fun l => mrow 6 (iblk m c 1 t) (ix2 0 l)) (fun l => mrow 1 (iblk m c 1 t) (ix2 0 l))
      (fun l => mrow 0 (iblk m c 1 t) (ix2 0 l))) (wcol (iblk m c 2 t)) = zA (xV m c) (modV m c) (gV m c) (wV m c) (row t r) :=
  congrArg₂ z (congr (congr (congr (congrArg h (funext fun l => iblk0_apply m c t r l)) (funext fun l => (iblk1_apply m c t 6 l).trans (V2_g m c l)))
    (funext fun l => (iblk1_apply m c t 1 l).trans (V2_sc m c l))) (funext fun l => (iblk1_apply m c t 0 l).trans (V2_sh m c l)))
    (funext fun l => funext fun j => iblk2_apply m c t j l)

/-- What the two arrays hold. -/
def qkvArr (x : S4096x1024.Idx → EReal) (md : S6x1024.Idx → EReal) (g : S1024.Idx → EReal) (w : S1024x3072.Idx → EReal) (q k : S128.Idx → EReal) :
    S4096x3072.Idx → EReal := fun i => qkv (zA x md g w (i 0)) (fun d => q (ix1 d)) (fun d => k (ix1 d)) (i 1)
def preArr (x : S4096x1024.Idx → EReal) (md : S6x1024.Idx → EReal) (g : S1024.Idx → EReal) (w : S1024x3072.Idx → EReal) :
    S4096x2048.Idx → EReal := fun i => zA x md g w (i 0) ⟨(i 1).val, lt_trans (i 1).isLt (by decide)⟩

theorem qkv_tile (t : Fin cfg0.N) (r : Fin 256) (j : Fin 3072) : qkvB (iblk m c 0 t) (iblk m c 1 t) (iblk m c 2 t) (iblk m c 3 t) (ix2 r j)
    = qkvArr (xV m c) (modV m c) (gV m c) (wV m c) (qV m c) (kV m c) (ix2 (row t r) j) := by
  show qkv (fun j => zB (iblk m c 0 t) (iblk m c 1 t) (iblk m c 2 t) (ix2 r j)) (fun d => grow 0 (iblk m c 3 t) (ix2 0 d))
    (fun d => grow 1 (iblk m c 3 t) (ix2 0 d)) j = qkv (zA (xV m c) (modV m c) (gV m c) (wV m c) (row t r)) _ _ j
  refine congrFun (congr (congr (congrArg qkv ?_) (funext fun d => (iblk3_apply m c t 0 d).trans (V7_q m c d)))
    (funext fun d => (iblk3_apply m c t 1 d).trans (V7_k m c d))) j
  exact (funext fun j => pay4_apply _ _ _ _ _ r j).trans (z_tile m c t r)

/-- The first result after the run. -/
theorem final_qkv : ((dats m 0 c).arrAt 4 cfg0.N : S4096x3072.Idx → EReal) = qkvArr (xV m c) (modV m c) (gV m c) (wV m c) (qV m c) (kV m c) := by
  have hN : cfg0.N = 16 := N_0
  refine (dats m 0 c).arrAt_eq_of_cover 4 _ (fun t _ => ?_) fun (i : S4096x3072.Idx) => ?_
  · show (cfg0.win 4).cut (grid0.coords t) ((dats m 0 c).after 4 t) = _
    rw [after0_4]
    funext j
    obtain ⟨r, l, rfl⟩ : ∃ (r : Fin 256) (l : Fin 3072), j = ix2 r l := ⟨j 0, j 1, eq_ix2 j⟩
    rw [View.read_apply]
    have he : ((cfg0.win 4).blk t).view.emb (ix2 r l) = (ix2 (row t r) l : S4096x3072.Idx) := by
      funext k
      apply Fin.ext
      match k with
      | ⟨0, _⟩ => show win0_4.index t 0 * 256 + 1 * r.val = t.val * 256 + r.val; rw [(index4 t).1]; omega
      | ⟨1, _⟩ => show win0_4.index t 1 * 3072 + 1 * l.val = l.val; rw [(index4 t).2]; omega
    rw [he]
    unfold outsAt0
    dsimp only
    exact (qkv_A _ _ _ _ _ _ _ _ _ _ _ _ _ _ _ _ _ _ (ix2 r l)).trans (qkv_tile m c t r l)
  · have h0 : (i 0 : Nat) < 4096 := (i 0).isLt
    have h1 : (i 1 : Nat) < 3072 := (i 1).isLt
    obtain ⟨t, ht⟩ : ∃ t : Fin cfg0.N, t.val = (i 0 : Nat) / 256 := ⟨⟨(i 0 : Nat) / 256, by omega⟩, rfl⟩
    refine ⟨t, flush0_4 t, ?_⟩
    show i ∈ ((View.whole main_v11_0).slice (win0_4.rect t)).set
    rw [View.set_slice_whole, Rect.mem_set_unit]
    intro a
    match a with
    | ⟨0, _⟩ => show win0_4.index t 0 * 256 ≤ (i 0 : Nat) ∧ (i 0 : Nat) < win0_4.index t 0 * 256 + 256
                rw [(index4 t).1, ht]; omega
    | ⟨1, _⟩ => show win0_4.index t 1 * 3072 ≤ (i 1 : Nat) ∧ (i 1 : Nat) < win0_4.index t 1 * 3072 + 3072
                rw [(index4 t).2]; omega

/-- The second result after the run. -/
theorem final_pre : ((dats m 0 c).arrAt 5 cfg0.N : S4096x2048.Idx → EReal) = preArr (xV m c) (modV m c) (gV m c) (wV m c) := by
  have hN : cfg0.N = 16 := N_0
  refine (dats m 0 c).arrAt_eq_of_cover 5 _ (fun t _ => ?_) fun (i : S4096x2048.Idx) => ?_
  · show (cfg0.win 5).cut (grid0.coords t) ((dats m 0 c).after 5 t) = _
    rw [after0_5]
    funext j
    obtain ⟨r, l, rfl⟩ : ∃ (r : Fin 256) (l : Fin 2048), j = ix2 r l := ⟨j 0, j 1, eq_ix2 j⟩
    rw [View.read_apply]
    have he : ((cfg0.win 5).blk t).view.emb (ix2 r l) = (ix2 (row t r) l : S4096x2048.Idx) := by
      funext k
      apply Fin.ext
      match k with
      | ⟨0, _⟩ => show win0_5.index t 0 * 256 + 1 * r.val = t.val * 256 + r.val; rw [(index5 t).1]; omega
      | ⟨1, _⟩ => show win0_5.index t 1 * 2048 + 1 * l.val = l.val; rw [(index5 t).2]; omega
    rw [he]
    unfold outsAt0
    dsimp only
    refine (congrFun (pre_A _ _ _ _ _ _ _ _ _ _ _ _ _ _ _ _ _ _) (ix2 r l)).trans ?_
    exact (pay5_apply _ _ _ _ _ r l).trans (congrFun (z_tile m c t r) _)
  · have h0 : (i 0 : Nat) < 4096 := (i 0).isLt
    have h1 : (i 1 : Nat) < 2048 := (i 1).isLt
    obtain ⟨t, ht⟩ : ∃ t : Fin cfg0.N, t.val = (i 0 : Nat) / 256 := ⟨⟨(i 0 : Nat) / 256, by omega⟩, rfl⟩
    refine ⟨t, flush0_5 t, ?_⟩
    show i ∈ ((View.whole main_v11_1).slice (win0_5.rect t)).set
    rw [View.set_slice_whole, Rect.mem_set_unit]
    intro a
    match a with
    | ⟨0, _⟩ => show win0_5.index t 0 * 256 ≤ (i 0 : Nat) ∧ (i 0 : Nat) < win0_5.index t 0 * 256 + 256
                rw [(index5 t).1, ht]; omega
    | ⟨1, _⟩ => show win0_5.index t 1 * 2048 ≤ (i 1 : Nat) ∧ (i 1 : Nat) < win0_5.index t 1 * 2048 + 2048
                rw [(index5 t).2]; omega

end Cert.ProjFwdIdeal.Blocks

end
-- ==== Proof.ProjFwdRef.lean ====
module

public import proofs.«01_k».proof.Proof.ProjFwdSpec
public import proofs.«01_k».proof.Proof.Gen.ProjFwdRefIdeal.Read
public import proofs.«01_k».proof.Proof.Gen.ProjFwdRefIdeal.Run
public import Idealize.ShloMosaic.Lib.Pointwise

@[expose] public section

set_option maxRecDepth 16384

noncomputable section

namespace Cert.ProjFwdRefIdeal.At

open Cert.ProjFwdRefIdeal Cert.ProjFwdRefIdeal.Gen Cert.ProjFwdRefIdeal.Read Idealize.ShloMosaic Idealize.ShloMosaic.TcCoe
open Cert.FfnFwdSpec (rs h)
open Cert.ProjFwdSpec (z hn at' qkv qkv_q qkv_k qkv_v)

variable (x0 : FVec Ideal S4096x1024 .f32) (x1 : FVec Ideal S6x1024 .f32) (x2 : FVec Ideal S1024 .f32) (x4 : FVec Ideal S1024x3072 .f32)
  (x5 x6 : FVec Ideal S128 .f32) (r : Fin 4096)

/-- A row's reciprocal root mean square. -/
theorem rs_at : (val_main_v7 (F := Ideal) x0 : S4096x1.Idx → EReal) (ix2 r 0) = rs fun l => x0 (ix2 r l) := by
  pointwise [val_main_v7, val_main_v6, val_main_v5, val_main_v4, val_main_v3, val_main_v2, val_main_v1, val_main_v0, val_main_cst, val_main_cst_0, val_main_cst_1]
  rfl

/-- A row normed and modulated. -/
abbrev hR : Fin 1024 → EReal := h (fun l => x0 (ix2 r l)) (fun l => x2 (ix1 l)) (fun l => x1 (ix2 1 l)) (fun l => x1 (ix2 0 l))

theorem h_at (l : Fin 1024) : (val_main_v20 (F := Ideal) x0 x1 x2 : S4096x1024.Idx → EReal) (ix2 r l) = hR x0 x1 x2 r l := by
  pointwise [val_main_v20, val_main_v19, val_main_v18, val_main_v17, val_main_v16, val_main_v15, val_main_v14, val_main_v13, val_main_v12, val_main_v11, val_main_v10, val_main_v9, val_main_v8, val_main_cst_2]
  rw [rs_at]
  rfl

/-- A row of the projections. -/
abbrev zR : Fin 3072 → EReal := z (hR x0 x1 x2 r) fun l j => x4 (ix2 l j)

theorem z_at (j : Fin 3072) : (val_main_v21 (F := Ideal) x0 x1 x2 x4 : S4096x3072.Idx → EReal) (ix2 r j) = zR x0 x1 x2 x4 r j := by
  pointwise [val_main_v21]
  simp only [h_at]
  rfl

/-- The reciprocal root mean squares of the heads. -/
theorem q_at (n : Fin 8) (d : Fin 128) : (val_main_v25 (F := Ideal) x0 x1 x2 x4 : S4096x8x128.Idx → EReal) (ix3 r n d)
    = zR x0 x1 x2 x4 r (at' ⟨n.val, by omega⟩ d) := by
  rw [← z_at]
  pointwise [val_main_v25, val_main_v22]
  refine congrArg (fun j => (val_main_v21 (F := Ideal) x0 x1 x2 x4 : S4096x3072.Idx → EReal) (ix2 r j)) (Fin.ext ?_)
  simp only [at']
  omega
theorem k_at (n : Fin 8) (d : Fin 128) : (val_main_v40 (F := Ideal) x0 x1 x2 x4 : S4096x8x128.Idx → EReal) (ix3 r n d)
    = zR x0 x1 x2 x4 r (at' ⟨8 + n.val, by omega⟩ d) := by
  rw [← z_at]
  pointwise [val_main_v40, val_main_v23]
  refine congrArg (fun j => (val_main_v21 (F := Ideal) x0 x1 x2 x4 : S4096x3072.Idx → EReal) (ix2 r j)) (Fin.ext ?_)
  simp only [at']
  omega

theorem qn_at (n : Fin 8) (d : Fin 128) : (val_main_v38 (F := Ideal) x0 x1 x2 x4 x5 : S4096x8x128.Idx → EReal) (ix3 r n d)
    = hn (zR x0 x1 x2 x4 r) (fun d => x5 (ix1 d)) ⟨n.val, by omega⟩ d := by
  pointwise [val_main_v38, val_main_v37, val_main_v36, val_main_v35, val_main_v34, val_main_v33, val_main_v32, val_main_v31, val_main_v30, val_main_v29, val_main_v28, val_main_v27, val_main_v26, val_main_cst_3, val_main_cst_4, val_main_cst_5]
  simp only [q_at]
  rfl

theorem kn_at (n : Fin 8) (d : Fin 128) : (val_main_v53 (F := Ideal) x0 x1 x2 x4 x6 : S4096x8x128.Idx → EReal) (ix3 r n d)
    = hn (zR x0 x1 x2 x4 r) (fun d => x6 (ix1 d)) ⟨8 + n.val, by omega⟩ d := by
  pointwise [val_main_v53, val_main_v52, val_main_v51, val_main_v50, val_main_v49, val_main_v48, val_main_v47, val_main_v46, val_main_v45, val_main_v44, val_main_v43, val_main_v42, val_main_v41, val_main_cst_6, val_main_cst_7, val_main_cst_8]
  simp only [k_at]
  rfl

theorem qc_at (j : Fin 1024) : (val_main_v39 (F := Ideal) x0 x1 x2 x4 x5 : S4096x1024.Idx → EReal) (ix2 r j)
    = hn (zR x0 x1 x2 x4 r) (fun d => x5 (ix1 d)) ⟨j.val / 128, by omega⟩ ⟨j.val % 128, by omega⟩ := by
  rw [← qn_at x0 x1 x2 x4 x5 r ⟨j.val / 128, by omega⟩]
  pointwise [val_main_v39]
theorem kc_at (j : Fin 1024) : (val_main_v54 (F := Ideal) x0 x1 x2 x4 x6 : S4096x1024.Idx → EReal) (ix2 r j)
    = hn (zR x0 x1 x2 x4 r) (fun d => x6 (ix1 d)) ⟨8 + j.val / 128, by omega⟩ ⟨j.val % 128, by omega⟩ := by
  rw [← kn_at x0 x1 x2 x4 x6 r ⟨j.val / 128, by omega⟩]
  pointwise [val_main_v54]

/-- The first result: the heads normed and the values, side by side. -/
theorem qkv_at (j : Fin 3072) : (val_main_v56 (F := Ideal) x0 x1 x2 x4 x5 x6 : S4096x3072.Idx → EReal) (ix2 r j)
    = qkv (zR x0 x1 x2 x4 r) (fun d => x5 (ix1 d)) (fun d => x6 (ix1 d)) j := by
  have hq := qc_at x0 x1 x2 x4 x5 r
  have hk := kc_at x0 x1 x2 x4 x6 r
  pointwise [val_main_v56, val_main_v55]
  by_cases h0 : j.val < 1024
  · rw [dif_pos h0, hq]
    exact (qkv_q _ _ _ _ (by show j.val / 128 < 8; omega) _ _ (by show j.val = 128 * (j.val / 128) + j.val % 128; omega)).symm
  · rw [dif_neg h0]
    by_cases h1 : j.val - 1024 < 1024
    · rw [dif_pos h1, hk]
      exact (qkv_k _ _ _ _ (by show 8 ≤ 8 + (j.val - 1024) / 128; omega) (by show 8 + (j.val - 1024) / 128 < 16; omega) _ _
        (by show j.val = 128 * (8 + (j.val - 1024) / 128) + (j.val - 1024) % 128; omega)).symm
    · rw [dif_neg h1, qkv_v _ _ _ _ (by omega), ← z_at]
      pointwise [val_main_v24]
      refine congrArg (fun j => (val_main_v21 (F := Ideal) x0 x1 x2 x4 : S4096x3072.Idx → EReal) (ix2 r j)) (Fin.ext ?_)
      show 2048 + (j.val - 1024 - 1024) = j.val
      omega

/-- The second result: the queries and keys before the head norms. -/
theorem pre_at (j : Fin 2048) : (val_main_v57 (F := Ideal) x0 x1 x2 x4 : S4096x2048.Idx → EReal) (ix2 r j) = zR x0 x1 x2 x4 r ⟨j.val, by omega⟩ := by
  rw [← z_at]
  pointwise [val_main_v57]
  pointwise [val_main_v22, val_main_v23]
  by_cases h0 : j.val < 1024
  · exact dif_pos h0
  · refine (dif_neg h0).trans ?_
    refine congrArg (fun j => (val_main_v21 (F := Ideal) x0 x1 x2 x4 : S4096x3072.Idx → EReal) (ix2 r j)) (Fin.ext ?_)
    show 1024 + (j.val - 1024) = j.val
    omega

end Cert.ProjFwdRefIdeal.At
end
-- ==== Proof.ProjFwdClaim.lean ====
/- The claims about the odd layers' projections' forward call: the two frames of the kernel, the reference's, and the value. -/
module

public import proofs.«01_k».proof.Defs
public import proofs.«01_k».proof.Proof.Gen.ProjFwd.Frame
public import proofs.«01_k».proof.Proof.ProjFwdFinal
public import proofs.«01_k».proof.Proof.ProjFwdRef
public import Idealize.ShloMosaic.Lib.Quiescent

@[expose] public section

noncomputable section

namespace Cert.ProjFwdClaim

open Idealize.ShloMosaic Idealize.ShloMosaic.TcCoe Idealize.SL.Sem Cert.ProjFwdIdeal.Blocks

/-- The kernel's results and the reference's are the same two arrays. -/
theorem value : Cert.algebraic_ProjFwdIdeal_ProjFwdRefIdeal
    (hProjFwdIdeal := Cert.ProjFwdIdeal.Gen.facts) (hProjFwdRefIdeal := Cert.ProjFwdRefIdeal.Gen.facts) := by
  intro m g m' g' _ hm
  refine ⟨_, _, (θ_run Cert.ProjFwdIdeal.defs _ _).mono (fun r h c => ⟨(h c).1.trans (final_qkv m c),
    (h c).2.1.trans (final_pre m c), (h c).2.2⟩) (Cert.ProjFwdIdeal.Value.run_blocks m g), ?_⟩
  refine (θ_run Cert.ProjFwdRefIdeal.defs _ _).mono (fun r h c => ⟨?_, ?_, (h c).2.2⟩) (Cert.ProjFwdRefIdeal.Value.run m' g')
  · refine (h c).1.trans ((Cert.ProjFwdRefIdeal.Read.val_main_v56_eq m' c).trans ?_)
    rw [(hm c).1, (hm c).2.1, (hm c).2.2.1, (hm c).2.2.2.2.1, (hm c).2.2.2.2.2.1, (hm c).2.2.2.2.2.2]
    funext i
    rw [eq_ix2 i]
    exact Cert.ProjFwdRefIdeal.At.qkv_at _ _ _ _ _ _ _ _
  · refine (h c).2.1.trans ((Cert.ProjFwdRefIdeal.Read.val_main_v57_eq _ _ _ _).trans ?_)
    rw [(hm c).1, (hm c).2.1, (hm c).2.2.1, (hm c).2.2.2.2.1]
    funext i
    rw [eq_ix2 i]
    exact Cert.ProjFwdRefIdeal.At.pre_at _ _ _ _ _ _

/-- The kernel's frame, on words. -/
theorem frame : Cert.quiescent_ProjFwd (hProjFwd := Cert.ProjFwd.Gen.facts) := fun m ρ _ => Cert.ProjFwd.Gen.frame m ρ

/-- The kernel's frame, over the extended reals. -/
theorem frame_ideal : Cert.quiescent_ProjFwdIdeal (hProjFwdIdeal := Cert.ProjFwdIdeal.Gen.facts) := fun m ρ _ => Cert.ProjFwdIdeal.Gen.frame m ρ

/-- The reference's frame. -/
theorem frame_ref : Cert.quiescent_ProjFwdRefIdeal (hProjFwdRefIdeal := Cert.ProjFwdRefIdeal.Gen.facts) := fun m ρ _ =>
  (θ_run Cert.ProjFwdRefIdeal.defs _ _).mono (fun r h => ⟨fun c => (h c).2.2, sem_eq_zero_of_no_sems (by decide) r.2⟩)
    (Cert.ProjFwdRefIdeal.Value.run (F := Ideal) m ρ)

end Cert.ProjFwdClaim

end
-- ==== Proof.AdamSpec.lean ====
/- The optimiser's update as a function on the extended reals. -/
module

public import Idealize.ShloMosaic.Lib.IdealHost
public import Idealize.ShloMosaic.PureOps.Ideal

@[expose] public section

noncomputable section

namespace Cert.AdamSpec

open Idealize.ShloMosaic

/-- The new first moment, and the new second moment. -/
def nm (g m : EReal) : EReal := Ideal.ofBits FTy.f32 0x3F666666#32 * m + Ideal.ofBits FTy.f32 0x3DCCCCCD#32 * g
def nv (g v : EReal) : EReal := Ideal.ofBits FTy.f32 0x3F7FBE77#32 * v + Ideal.ofBits FTy.f32 0x3A83126F#32 * (g * g)

/-- The change of a weight from its two moments divided by the bias corrections. -/
def step (w mh vh : EReal) : EReal :=
  Ideal.ofBits FTy.f32 0xBA83126F#32 * (Ideal.div mh (Ideal.sqrt vh + Ideal.ofBits FTy.f32 0x322BCC77#32) + Ideal.ofBits FTy.f32 0x3C23D70A#32 * w)

/-- The change of a weight. -/
def upd (w g m v : EReal) : EReal :=
  step w (nm g m * (((5463681 / 8388608)⁻¹ : ℝ) : EReal)) (nv g v * (((2672307 / 268435456)⁻¹ : ℝ) : EReal))

/-- The bias corrections' words. -/
theorem corr1 : Ideal.ofBits FTy.f32 0x3F26BD02#32 = ((5463681 / 8388608 : ℝ) : EReal) := by
  simp [Ideal.ofBits, Ideal.ieee, -EReal.coe_mul]; norm_num
theorem corr2 : Ideal.ofBits FTy.f32 0x3C231ACC#32 = ((2672307 / 268435456 : ℝ) : EReal) := by
  simp [Ideal.ofBits, Ideal.ieee, -EReal.coe_mul]; norm_num
theorem eps_word : Ideal.ofBits FTy.f32 0x322BCC77#32 = ((11258999 / 1125899906842624 : ℝ) : EReal) := by
  simp [Ideal.ofBits, Ideal.ieee, -EReal.coe_mul]; norm_num

/-- Dividing by a correction is multiplying by its reciprocal. -/
theorem upd_eq (w g m v : EReal) :
    step w (Ideal.div (nm g m) (Ideal.ofBits FTy.f32 0x3F26BD02#32)) (Ideal.div (nv g v) (Ideal.ofBits FTy.f32 0x3C231ACC#32)) = upd w g m v := by
  rw [corr1, corr2, Ideal.div_coe (by norm_num), Ideal.div_coe (by norm_num), one_div, one_div]
  rfl

/-- The update of nothing. -/
theorem nm_zero : nm 0 0 = 0 := by simp [nm]
theorem nv_zero : nv 0 0 = 0 := by simp [nv]
theorem upd_zero : upd 0 0 0 0 = 0 := by
  unfold upd step
  rw [nm_zero, nv_zero]
  simp only [zero_mul, mul_zero, add_zero]
  rw [eps_word, show (0 : EReal) = ((0 : ℝ) : EReal) from rfl, Ideal.sqrt_coe, if_neg (lt_irrefl _), Real.sqrt_zero, ← EReal.coe_add,
    Ideal.div_coe (by norm_num)]
  simp

end Cert.AdamSpec

end
-- ==== Proof.AdamSmallValue.lean ====
/- The optimiser on the packed small weights: the block at the one point. -/
module

public import proofs.«01_k».proof.Proof.AdamSpec
public import proofs.«01_k».proof.Proof.Gen.AdamSmallIdeal.Value
public import Idealize.ShloMosaic.Lib.Pointwise
public import Idealize.ShloMosaic.Lib.StableHlo.RunRead

@[expose] public section

set_option maxRecDepth 16384

noncomputable section

namespace Cert.AdamSmallIdeal.Blocks

open Cert.AdamSmallIdeal Cert.AdamSmallIdeal.Gen Idealize.ShloMosaic Idealize.ShloMosaic.TcCoe Idealize.SL.Sem
open Idealize.ShloMosaic.Pipeline (Dat)
open Cert.AdamSpec

theorem hz2 : (![0, 0] : Fin 2 → Nat) = fun _ => 0 := by decide

/-- The named constants. -/
theorem bc1 : Named.named (F := Ideal) κ "bc1" (φ := .f32) 0x3FC48605#32 = (((5463681 / 8388608)⁻¹ : ℝ) : EReal) :=
  IdealRules.named_const.ideal_named_scalar _ _ _ _ rfl
theorem bc2 : Named.named (F := Ideal) κ "bc2" (φ := .f32) 0x42C8E6D3#32 = (((2672307 / 268435456)⁻¹ : ℝ) : EReal) :=
  IdealRules.named_const.ideal_named_scalar _ _ _ _ rfl

section
variable (w g mo v : Vec Ideal S272x128 .f32) (r : Fin 272) (l : Fin 128)

theorem pay2_apply : (k0_pay2 (F := Ideal) g mo : S272x128.Idx → EReal) (ix2 r l) = nm (g (ix2 r l)) (mo (ix2 r l)) := by
  pointwise [k0_pay2, k0_pay1]
  rfl

theorem pay3_apply : (k0_pay3 (F := Ideal) g v : S272x128.Idx → EReal) (ix2 r l) = nv (g (ix2 r l)) (v (ix2 r l)) := by
  pointwise [k0_pay3, k0_pay1]
  rfl

theorem pay4_apply : (k0_pay4 (F := Ideal) w g mo v : S272x128.Idx → EReal) (ix2 r l) = upd (w (ix2 r l)) (g (ix2 r l)) (mo (ix2 r l)) (v (ix2 r l)) := by
  pointwise [k0_pay4]
  rw [pay2_apply, pay3_apply, bc1, bc2]
  rfl

theorem w_point : (out0_4 w g mo v : S272x128.Idx → EReal) (ix2 r l) = upd (w (ix2 r l)) (g (ix2 r l)) (mo (ix2 r l)) (v (ix2 r l)) := by
  unfold out0_4
  rw [View.canon_unit_zero (S := S272x128) hz2]
  simp only [r0_0, View.ld_unit_zero (S := S272x128) hz2]
  exact pay4_apply w g mo v r l

theorem m_point : (out0_5 w g mo v : S272x128.Idx → EReal) (ix2 r l) = nm (g (ix2 r l)) (mo (ix2 r l)) := by
  unfold out0_5
  rw [View.canon_unit_zero (S := S272x128) hz2]
  simp only [r0_0, View.ld_unit_zero (S := S272x128) hz2]
  exact pay2_apply g mo r l

theorem v_point : (out0_6 w g mo v : S272x128.Idx → EReal) (ix2 r l) = nv (g (ix2 r l)) (v (ix2 r l)) := by
  unfold out0_6
  rw [View.canon_unit_zero (S := S272x128) hz2]
  simp only [r0_0, View.ld_unit_zero (S := S272x128) hz2]
  exact pay3_apply g v r l
end

end Cert.AdamSmallIdeal.Blocks

end
-- ==== Proof.AdamSmallPack.lean ====
/- The optimiser on the packed small weights: the packing of seven arrays into one, as the host does it. -/
module

public import proofs.«01_k».proof.Proof.AdamSpec
public import proofs.«01_k».proof.Proof.Gen.AdamSmallIdeal.Value
public import Idealize.ShloMosaic.Lib.Pointwise
public import Idealize.ShloMosaic.Lib.StableHlo.RunRead

@[expose] public section

set_option maxRecDepth 16384

noncomputable section

namespace Cert.AdamSmallIdeal.Blocks

open Cert.AdamSmallIdeal Cert.AdamSmallIdeal.Gen Idealize.ShloMosaic Idealize.ShloMosaic.TcCoe Idealize.SL.Sem

/-- Seven vectors one after the other; and that padded with a tail to whole rows. -/
def cat7 (a : S24576.Idx → EReal) (b d : S4096.Idx → EReal) (e : S384.Idx → EReal) (f : S1024.Idx → EReal) (g h : S256.Idx → EReal) : S34688.Idx → EReal :=
  concatenate S34688 0 [⟨S24576, a⟩, ⟨S4096, b⟩, ⟨S4096, d⟩, ⟨S384, e⟩, ⟨S1024, f⟩, ⟨S256, g⟩, ⟨S256, h⟩]
    concatenates_S24576_S4096_S4096_S384_S1024_S256_S256_S34688_d0
def pad (a : S34688.Idx → EReal) (z : S128.Idx → EReal) : S272x128.Idx → EReal :=
  shapeCast _ (concatenate S34816 0 [⟨S34688, a⟩, ⟨S128, z⟩] concatenates_S34688_S128_S34816_d0) shapeCasts_S34816_S272x128

theorem cat7_congr {a a' : S24576.Idx → EReal} {b b' d d' : S4096.Idx → EReal} {e e' : S384.Idx → EReal} {f f' : S1024.Idx → EReal} {g g' h h' : S256.Idx → EReal}
    (ha : a = a') (hb : b = b') (hd : d = d') (he : e = e') (hf : f = f') (hg : g = g') (hh : h = h') : cat7 a b d e f g h = cat7 a' b' d' e' f' g' h' := by
  rw [ha, hb, hd, he, hf, hg, hh]
theorem pad_congr {a a' : S34688.Idx → EReal} {z z' : S128.Idx → EReal} (ha : a = a') (hz : z = z') : pad a z = pad a' z' := by rw [ha, hz]

/-- The seven small arrays of one kind. -/
structure Seven where
  a : S4x6144.Idx → EReal
  b : S4x1024.Idx → EReal
  d : S4x1024.Idx → EReal
  e : S2x3x64.Idx → EReal
  f : S2x512.Idx → EReal
  g : S2x128.Idx → EReal
  h : S2x128.Idx → EReal

/-- Their packing. -/
def pack (s : Seven) : S272x128.Idx → EReal :=
  pad (cat7 (shapeCast _ s.a shapeCasts_S4x6144_S24576) (shapeCast _ s.b shapeCasts_S4x1024_S4096) (shapeCast _ s.d shapeCasts_S4x1024_S4096)
    (shapeCast _ s.e shapeCasts_S2x3x64_S384) (shapeCast _ s.f shapeCasts_S2x512_S1024) (shapeCast _ s.g shapeCasts_S2x128_S256) (shapeCast _ s.h shapeCasts_S2x128_S256))
    (broadcastInDim S128 ![] bcast_S_S128 (constant (F := Ideal) S_ .f32 0x00000000#32))

/-- A function of four numbers, on four such sevens entry by entry. -/
def Seven.map (F : EReal → EReal → EReal → EReal → EReal) (w g m v : Seven) : Seven where
  a i := F (w.a i) (g.a i) (m.a i) (v.a i)
  b i := F (w.b i) (g.b i) (m.b i) (v.b i)
  d i := F (w.d i) (g.d i) (m.d i) (v.d i)
  e i := F (w.e i) (g.e i) (m.e i) (v.e i)
  f i := F (w.f i) (g.f i) (m.f i) (v.f i)
  g i := F (w.g i) (g.g i) (m.g i) (v.g i)
  h i := F (w.h i) (g.h i) (m.h i) (v.h i)

/-- Where the seven vectors' concatenation reads. -/
theorem cat7_at (a : S24576.Idx → EReal) (b d : S4096.Idx → EReal) (e : S384.Idx → EReal) (f : S1024.Idx → EReal) (g h : S256.Idx → EReal) (j : Fin 34688) :
    cat7 a b d e f g h (ix1 j) =
      if h1 : j.val < 24576 then a (ix1 ⟨j.val, h1⟩)
      else if h2 : j.val - 24576 < 4096 then b (ix1 ⟨j.val - 24576, h2⟩)
      else if h3 : j.val - 24576 - 4096 < 4096 then d (ix1 ⟨j.val - 24576 - 4096, h3⟩)
      else if h4 : j.val - 24576 - 4096 - 4096 < 384 then e (ix1 ⟨j.val - 24576 - 4096 - 4096, h4⟩)
      else if h5 : j.val - 24576 - 4096 - 4096 - 384 < 1024 then f (ix1 ⟨j.val - 24576 - 4096 - 4096 - 384, h5⟩)
      else if h6 : j.val - 24576 - 4096 - 4096 - 384 - 1024 < 256 then g (ix1 ⟨j.val - 24576 - 4096 - 4096 - 384 - 1024, h6⟩)
      else h (ix1 ⟨j.val - 24576 - 4096 - 4096 - 384 - 1024 - 256, by omega⟩) := by
  pointwise [cat7]

theorem pad_at (a : S34688.Idx → EReal) (z : S128.Idx → EReal) (i : Fin 272) (l : Fin 128) :
    pad a z (ix2 i l) = if h : i.val * 128 + l.val < 34688 then a (ix1 ⟨i.val * 128 + l.val, h⟩) else z (ix1 ⟨i.val * 128 + l.val - 34688, by omega⟩) := by
  pointwise [pad]

/-- The seven arrays as vectors one after the other. -/
def Seven.cat (s : Seven) : S34688.Idx → EReal :=
  cat7 (shapeCast _ s.a shapeCasts_S4x6144_S24576) (shapeCast _ s.b shapeCasts_S4x1024_S4096) (shapeCast _ s.d shapeCasts_S4x1024_S4096)
    (shapeCast _ s.e shapeCasts_S2x3x64_S384) (shapeCast _ s.f shapeCasts_S2x512_S1024) (shapeCast _ s.g shapeCasts_S2x128_S256) (shapeCast _ s.h shapeCasts_S2x128_S256)

theorem cat_map (F : EReal → EReal → EReal → EReal → EReal) (w g m v : Seven) (j : Fin 34688) :
    (Seven.map F w g m v).cat (ix1 j) = F (w.cat (ix1 j)) (g.cat (ix1 j)) (m.cat (ix1 j)) (v.cat (ix1 j)) := by
  unfold Seven.cat
  rw [cat7_at, cat7_at, cat7_at, cat7_at, cat7_at]
  split_ifs <;> rfl

/-- The packing's tail is zero. -/
theorem tail_zero (k : Fin 128) : (broadcastInDim S128 ![] bcast_S_S128 (constant (F := Ideal) S_ .f32 0x00000000#32) (ix1 k) : EReal) = 0 := by
  pointwise []

/-- Packing and working entry by entry may be exchanged, where the function takes four zeros to zero. -/
theorem pack_map (F : EReal → EReal → EReal → EReal → EReal) (h0 : F 0 0 0 0 = 0) (w g m v : Seven) (i : Fin 272) (l : Fin 128) :
    pack (Seven.map F w g m v) (ix2 i l) = F (pack w (ix2 i l)) (pack g (ix2 i l)) (pack m (ix2 i l)) (pack v (ix2 i l)) := by
  have e : ∀ s : Seven, pack s (ix2 i l) = if h : i.val * 128 + l.val < 34688 then s.cat (ix1 ⟨i.val * 128 + l.val, h⟩) else 0 := fun s =>
    (pad_at _ _ i l).trans (dite_congr rfl (fun _ => rfl) fun _ => tail_zero _)
  rw [e, e, e, e, e]
  split_ifs
  · exact cat_map F w g m v _
  · exact h0.symm

variable (m : (ℓ : Loc nD τ sig) → Buf (Elt Ideal) ℓ) (c : Dev nD)

/-- The arguments' contents. -/
abbrev wV : Seven := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6)⟩
abbrev gV : Seven := ⟨m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13)⟩
abbrev mV : Seven := ⟨m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20)⟩
abbrev vV : Seven := ⟨m ((c : Thread nD τ).loc main_arg21), m ((c : Thread nD τ).loc main_arg22), m ((c : Thread nD τ).loc main_arg23), m ((c : Thread nD τ).loc main_arg24), m ((c : Thread nD τ).loc main_arg25), m ((c : Thread nD τ).loc main_arg26), m ((c : Thread nD τ).loc main_arg27)⟩

theorem V10_eq : (V m c main_v10 : S272x128.Idx → EReal) = pack (wV m c) := by
  simp only [V, hostOps0]
  after_reads_simp
  refine pad_congr ?_ ?_
  · after_reads_simp
    refine cat7_congr ?_ ?_ ?_ ?_ ?_ ?_ ?_
    all_goals (after_reads_simp; rfl)
  · after_reads_simp

theorem V21_eq : (V m c main_v21 : S272x128.Idx → EReal) = pack (gV m c) := by
  simp only [V, hostOps0]
  after_reads_simp
  refine pad_congr ?_ ?_
  · after_reads_simp
    refine cat7_congr ?_ ?_ ?_ ?_ ?_ ?_ ?_
    all_goals (after_reads_simp; rfl)
  · after_reads_simp

theorem V32_eq : (V m c main_v32 : S272x128.Idx → EReal) = pack (mV m c) := by
  simp only [V, hostOps0]
  after_reads_simp
  refine pad_congr ?_ ?_
  · after_reads_simp
    refine cat7_congr ?_ ?_ ?_ ?_ ?_ ?_ ?_
    all_goals (after_reads_simp; rfl)
  · after_reads_simp

theorem V43_eq : (V m c main_v43 : S272x128.Idx → EReal) = pack (vV m c) := by
  simp only [V, hostOps0]
  after_reads_simp
  refine pad_congr ?_ ?_
  · after_reads_simp
    refine cat7_congr ?_ ?_ ?_ ?_ ?_ ?_ ?_
    all_goals (after_reads_simp; rfl)
  · after_reads_simp

end Cert.AdamSmallIdeal.Blocks

end
-- ==== Proof.AdamSmallFinal.lean ====
/- The optimiser on the packed small weights: the arrays after the run. -/
module

public import proofs.«01_k».proof.Proof.AdamSmallValue
public import proofs.«01_k».proof.Proof.AdamSmallPack

@[expose] public section

set_option maxRecDepth 16384

noncomputable section

namespace Cert.AdamSmallIdeal.Blocks

open Cert.AdamSmallIdeal Cert.AdamSmallIdeal.Gen Idealize.ShloMosaic Idealize.ShloMosaic.TcCoe Idealize.SL.Sem
open Idealize.ShloMosaic.Pipeline (Dat)
open Cert.AdamSpec

variable (m : (ℓ : Loc nD τ sig) → Buf (Elt Ideal) ℓ) (c : Dev nD)

/-- Which block each window stages at a point. -/
theorem index : ∀ t : Fin grid0.N,
    (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0) := by decide +kernel

/-- A tile's row as a row of the whole. -/
def row (t : Fin cfg0.N) (r : Fin 272) : Fin 272 := ⟨t.val * 272 + r.val, by have := lt_of_lt_of_eq t.isLt N_0; omega⟩

theorem iblk0_apply (t : Fin cfg0.N) (r : Fin 272) (l : Fin 128) : (iblk m c 0 t : Vec Ideal S272x128 .f32) (ix2 r l) = pack (wV m c) (ix2 (row t r) l) := by
  rw [← V10_eq]
  unfold iblk
  rw [View.read_apply]
  refine congrArg (V m c main_v10) (funext fun a => Fin.ext ?_)
  match a with
  | ⟨0, _⟩ => show win0_0.index t 0 * 272 + 1 * r.val = t.val * 272 + r.val; rw [(index t).1.1]; omega
  | ⟨1, _⟩ => show win0_0.index t 1 * 128 + 1 * l.val = l.val; rw [(index t).1.2]; omega

theorem iblk1_apply (t : Fin cfg0.N) (r : Fin 272) (l : Fin 128) : (iblk m c 1 t : Vec Ideal S272x128 .f32) (ix2 r l) = pack (gV m c) (ix2 (row t r) l) := by
  rw [← V21_eq]
  unfold iblk
  rw [View.read_apply]
  refine congrArg (V m c main_v21) (funext fun a => Fin.ext ?_)
  match a with
  | ⟨0, _⟩ => show win0_1.index t 0 * 272 + 1 * r.val = t.val * 272 + r.val; rw [(index t).2.1.1]; omega
  | ⟨1, _⟩ => show win0_1.index t 1 * 128 + 1 * l.val = l.val; rw [(index t).2.1.2]; omega

theorem iblk2_apply (t : Fin cfg0.N) (r : Fin 272) (l : Fin 128) : (iblk m c 2 t : Vec Ideal S272x128 .f32) (ix2 r l) = pack (mV m c) (ix2 (row t r) l) := by
  rw [← V32_eq]
  unfold iblk
  rw [View.read_apply]
  refine congrArg (V m c main_v32) (funext fun a => Fin.ext ?_)
  match a with
  | ⟨0, _⟩ => show win0_2.index t 0 * 272 + 1 * r.val = t.val * 272 + r.val; rw [(index t).2.2.1.1]; omega
  | ⟨1, _⟩ => show win0_2.index t 1 * 128 + 1 * l.val = l.val; rw [(index t).2.2.1.2]; omega

theorem iblk3_apply (t : Fin cfg0.N) (r : Fin 272) (l : Fin 128) : (iblk m c 3 t : Vec Ideal S272x128 .f32) (ix2 r l) = pack (vV m c) (ix2 (row t r) l) := by
  rw [← V43_eq]
  unfold iblk
  rw [View.read_apply]
  refine congrArg (V m c main_v43) (funext fun a => Fin.ext ?_)
  match a with
  | ⟨0, _⟩ => show win0_3.index t 0 * 272 + 1 * r.val = t.val * 272 + r.val; rw [(index t).2.2.2.1.1]; omega
  | ⟨1, _⟩ => show win0_3.index t 1 * 128 + 1 * l.val = l.val; rw [(index t).2.2.2.1.2]; omega

section
variable (w g mo v : Seven)

/-- The packed changes, first moments and second moments of the seven weights. -/
def wArr : S272x128.Idx → EReal := pack (Seven.map upd w g mo v)
def mArr : S272x128.Idx → EReal := pack (Seven.map (fun _ g mo _ => nm g mo) w g mo v)
def vArr : S272x128.Idx → EReal := pack (Seven.map (fun _ g _ v => nv g v) w g mo v)

theorem w_arr (i : Fin 272) (l : Fin 128) : wArr w g mo v (ix2 i l) = upd (pack w (ix2 i l)) (pack g (ix2 i l)) (pack mo (ix2 i l)) (pack v (ix2 i l)) :=
  pack_map upd upd_zero w g mo v i l
theorem m_arr (i : Fin 272) (l : Fin 128) : mArr w g mo v (ix2 i l) = nm (pack g (ix2 i l)) (pack mo (ix2 i l)) :=
  pack_map (fun _ g mo _ => nm g mo) nm_zero w g mo v i l
theorem v_arr (i : Fin 272) (l : Fin 128) : vArr w g mo v (ix2 i l) = nv (pack g (ix2 i l)) (pack v (ix2 i l)) :=
  pack_map (fun _ g _ v => nv g v) nv_zero w g mo v i l
end

/-- The changes of the weights after the run. -/
theorem final_w : ((dats m 0 c).arrAt 4 cfg0.N : S272x128.Idx → EReal) = wArr (wV m c) (gV m c) (mV m c) (vV m c) := by
  have hN : cfg0.N = 1 := N_0
  refine (dats m 0 c).arrAt_eq_of_cover 4 _ (fun t _ => ?_) fun (i : S272x128.Idx) => ?_
  · show (cfg0.win 4).cut (grid0.coords t) ((dats m 0 c).after 4 t) = _
    rw [after0_4]
    funext j
    obtain ⟨r, l, rfl⟩ : ∃ (r : Fin 272) (l : Fin 128), j = ix2 r l := ⟨j 0, j 1, eq_ix2 j⟩
    rw [View.read_apply]
    refine (w_point _ _ _ _ r l).trans ?_
    simp only [iblk0_apply, iblk1_apply, iblk2_apply, iblk3_apply]
    have he : ((cfg0.win 4).blk t).view.emb (ix2 r l) = (ix2 (row t r) l : S272x128.Idx) := by
      funext k
      apply Fin.ext
      match k with
      | ⟨0, _⟩ => show win0_4.index t 0 * 272 + 1 * r.val = t.val * 272 + r.val; rw [(index t).2.2.2.2.1.1]; omega
      | ⟨1, _⟩ => show win0_4.index t 1 * 128 + 1 * l.val = l.val; rw [(index t).2.2.2.2.1.2]; omega
    rw [he]
    exact (w_arr _ _ _ _ _ _).symm
  · have h0 : (i 0 : Nat) < 272 := (i 0).isLt
    have h1 : (i 1 : Nat) < 128 := (i 1).isLt
    obtain ⟨t, ht⟩ : ∃ t : Fin cfg0.N, t.val = (i 0 : Nat) / 272 := ⟨⟨(i 0 : Nat) / 272, by omega⟩, rfl⟩
    refine ⟨t, flush0_4 t, ?_⟩
    show i ∈ ((View.whole main_v44_0).slice (win0_4.rect t)).set
    rw [View.set_slice_whole, Rect.mem_set_unit]
    intro a
    match a with
    | ⟨0, _⟩ => show win0_4.index t 0 * 272 ≤ (i 0 : Nat) ∧ (i 0 : Nat) < win0_4.index t 0 * 272 + 272
                rw [(index t).2.2.2.2.1.1, ht]; omega
    | ⟨1, _⟩ => show win0_4.index t 1 * 128 ≤ (i 1 : Nat) ∧ (i 1 : Nat) < win0_4.index t 1 * 128 + 128
                rw [(index t).2.2.2.2.1.2]; omega

/-- The first moments after the run. -/
theorem final_m : ((dats m 0 c).arrAt 5 cfg0.N : S272x128.Idx → EReal) = mArr (wV m c) (gV m c) (mV m c) (vV m c) := by
  have hN : cfg0.N = 1 := N_0
  refine (dats m 0 c).arrAt_eq_of_cover 5 _ (fun t _ => ?_) fun (i : S272x128.Idx) => ?_
  · show (cfg0.win 5).cut (grid0.coords t) ((dats m 0 c).after 5 t) = _
    rw [after0_5]
    funext j
    obtain ⟨r, l, rfl⟩ : ∃ (r : Fin 272) (l : Fin 128), j = ix2 r l := ⟨j 0, j 1, eq_ix2 j⟩
    rw [View.read_apply]
    refine (m_point (iblk m c 0 t) _ _ (iblk m c 3 t) r l).trans ?_
    simp only [iblk0_apply, iblk1_apply, iblk2_apply, iblk3_apply]
    have he : ((cfg0.win 5).blk t).view.emb (ix2 r l) = (ix2 (row t r) l : S272x128.Idx) := by
      funext k
      apply Fin.ext
      match k with
      | ⟨0, _⟩ => show win0_5.index t 0 * 272 + 1 * r.val = t.val * 272 + r.val; rw [(index t).2.2.2.2.2.1.1]; omega
      | ⟨1, _⟩ => show win0_5.index t 1 * 128 + 1 * l.val = l.val; rw [(index t).2.2.2.2.2.1.2]; omega
    rw [he]
    exact (m_arr _ _ _ _ _ _).symm
  · have h0 : (i 0 : Nat) < 272 := (i 0).isLt
    have h1 : (i 1 : Nat) < 128 := (i 1).isLt
    obtain ⟨t, ht⟩ : ∃ t : Fin cfg0.N, t.val = (i 0 : Nat) / 272 := ⟨⟨(i 0 : Nat) / 272, by omega⟩, rfl⟩
    refine ⟨t, flush0_5 t, ?_⟩
    show i ∈ ((View.whole main_v44_1).slice (win0_5.rect t)).set
    rw [View.set_slice_whole, Rect.mem_set_unit]
    intro a
    match a with
    | ⟨0, _⟩ => show win0_5.index t 0 * 272 ≤ (i 0 : Nat) ∧ (i 0 : Nat) < win0_5.index t 0 * 272 + 272
                rw [(index t).2.2.2.2.2.1.1, ht]; omega
    | ⟨1, _⟩ => show win0_5.index t 1 * 128 ≤ (i 1 : Nat) ∧ (i 1 : Nat) < win0_5.index t 1 * 128 + 128
                rw [(index t).2.2.2.2.2.1.2]; omega

/-- The second moments after the run. -/
theorem final_v : ((dats m 0 c).arrAt 6 cfg0.N : S272x128.Idx → EReal) = vArr (wV m c) (gV m c) (mV m c) (vV m c) := by
  have hN : cfg0.N = 1 := N_0
  refine (dats m 0 c).arrAt_eq_of_cover 6 _ (fun t _ => ?_) fun (i : S272x128.Idx) => ?_
  · show (cfg0.win 6).cut (grid0.coords t) ((dats m 0 c).after 6 t) = _
    rw [after0_6]
    funext j
    obtain ⟨r, l, rfl⟩ : ∃ (r : Fin 272) (l : Fin 128), j = ix2 r l := ⟨j 0, j 1, eq_ix2 j⟩
    rw [View.read_apply]
    refine (v_point (iblk m c 0 t) _ (iblk m c 2 t) _ r l).trans ?_
    simp only [iblk0_apply, iblk1_apply, iblk2_apply, iblk3_apply]
    have he : ((cfg0.win 6).blk t).view.emb (ix2 r l) = (ix2 (row t r) l : S272x128.Idx) := by
      funext k
      apply Fin.ext
      match k with
      | ⟨0, _⟩ => show win0_6.index t 0 * 272 + 1 * r.val = t.val * 272 + r.val; rw [(index t).2.2.2.2.2.2.1]; omega
      | ⟨1, _⟩ => show win0_6.index t 1 * 128 + 1 * l.val = l.val; rw [(index t).2.2.2.2.2.2.2]; omega
    rw [he]
    exact (v_arr _ _ _ _ _ _).symm
  · have h0 : (i 0 : Nat) < 272 := (i 0).isLt
    have h1 : (i 1 : Nat) < 128 := (i 1).isLt
    obtain ⟨t, ht⟩ : ∃ t : Fin cfg0.N, t.val = (i 0 : Nat) / 272 := ⟨⟨(i 0 : Nat) / 272, by omega⟩, rfl⟩
    refine ⟨t, flush0_6 t, ?_⟩
    show i ∈ ((View.whole main_v44_2).slice (win0_6.rect t)).set
    rw [View.set_slice_whole, Rect.mem_set_unit]
    intro a
    match a with
    | ⟨0, _⟩ => show win0_6.index t 0 * 272 ≤ (i 0 : Nat) ∧ (i 0 : Nat) < win0_6.index t 0 * 272 + 272
                rw [(index t).2.2.2.2.2.2.1, ht]; omega
    | ⟨1, _⟩ => show win0_6.index t 1 * 128 ≤ (i 1 : Nat) ∧ (i 1 : Nat) < win0_6.index t 1 * 128 + 128
                rw [(index t).2.2.2.2.2.2.2]; omega

end Cert.AdamSmallIdeal.Blocks

end
-- ==== Proof.AdamSmallRef.lean ====
/- The optimiser on the packed small weights: the reference's results. -/
module

public import proofs.«01_k».proof.Proof.AdamSmallFinal
public import proofs.«01_k».proof.Proof.Gen.AdamSmallRefIdeal.Run
public import proofs.«01_k».proof.Proof.Gen.AdamSmallRefIdeal.Read

@[expose] public section

set_option maxRecDepth 16384

noncomputable section

namespace Cert.AdamSmallRefIdeal.At

open Cert.AdamSmallRefIdeal Cert.AdamSmallRefIdeal.Gen Cert.AdamSmallRefIdeal.Read Idealize.ShloMosaic Idealize.ShloMosaic.TcCoe Cert.AdamSpec
open Cert.AdamSmallIdeal.Blocks (Seven pack pad cat7 pad_at cat7_at wArr mArr vArr)

/-- Seven vectors and a tail one after the other, in rows of 128. -/
def pad8 (a : S24576.Idx → EReal) (b d : S4096.Idx → EReal) (e : S384.Idx → EReal) (f : S1024.Idx → EReal) (g h : S256.Idx → EReal) (z : S128.Idx → EReal) : S272x128.Idx → EReal :=
  shapeCast _ (concatenate S34816 0 [⟨S24576, a⟩, ⟨S4096, b⟩, ⟨S4096, d⟩, ⟨S384, e⟩, ⟨S1024, f⟩, ⟨S256, g⟩, ⟨S256, h⟩, ⟨S128, z⟩]
    concatenates_S24576_S4096_S4096_S384_S1024_S256_S256_S128_S34816_d0) shapeCasts_S34816_S272x128

theorem pad8_eq (a : S24576.Idx → EReal) (b d : S4096.Idx → EReal) (e : S384.Idx → EReal) (f : S1024.Idx → EReal) (g h : S256.Idx → EReal) (z : S128.Idx → EReal) :
    pad8 a b d e f g h z = pad (cat7 a b d e f g h) z := by
  funext i
  obtain ⟨r, l, rfl⟩ : ∃ (r : Fin 272) (l : Fin 128), i = ix2 r l := ⟨i 0, i 1, eq_ix2 i⟩
  rw [pad_at]
  simp only [cat7_at]
  pointwise [pad8]
  by_cases hh : r.val * 128 + l.val < 34688
  · rw [dif_pos hh]
    iterate 6 refine dite_congr rfl (fun _ => rfl) fun _ => ?_
    exact dif_pos (by omega)
  · rw [dif_neg hh]
    iterate 7 rw [dif_neg (by omega)]
    exact congrArg (fun k => z (ix1 k)) (Fin.ext (by
      show r.val * 128 + l.val - 24576 - 4096 - 4096 - 384 - 1024 - 256 - 256 = r.val * 128 + l.val - 34688
      omega))

variable (x0 : S4x6144.Idx → EReal)
variable (x1 : S4x1024.Idx → EReal)
variable (x2 : S4x1024.Idx → EReal)
variable (x3 : S2x3x64.Idx → EReal)
variable (x4 : S2x512.Idx → EReal)
variable (x5 : S2x128.Idx → EReal)
variable (x6 : S2x128.Idx → EReal)
variable (x7 : S4x6144.Idx → EReal)
variable (x8 : S4x1024.Idx → EReal)
variable (x9 : S4x1024.Idx → EReal)
variable (x10 : S2x3x64.Idx → EReal)
variable (x11 : S2x512.Idx → EReal)
variable (x12 : S2x128.Idx → EReal)
variable (x13 : S2x128.Idx → EReal)
variable (x14 : S4x6144.Idx → EReal)
variable (x15 : S4x1024.Idx → EReal)
variable (x16 : S4x1024.Idx → EReal)
variable (x17 : S2x3x64.Idx → EReal)
variable (x18 : S2x512.Idx → EReal)
variable (x19 : S2x128.Idx → EReal)
variable (x20 : S2x128.Idx → EReal)
variable (x21 : S4x6144.Idx → EReal)
variable (x22 : S4x1024.Idx → EReal)
variable (x23 : S4x1024.Idx → EReal)
variable (x24 : S2x3x64.Idx → EReal)
variable (x25 : S2x512.Idx → EReal)
variable (x26 : S2x128.Idx → EReal)
variable (x27 : S2x128.Idx → EReal)

/-- Each weight’s change and moments, entry by entry. -/
theorem d0 : (val_main_v23 (F := Ideal) x0 x7 x14 x21 : S4x6144.Idx → EReal) = fun i => upd (x0 i) (x7 i) (x14 i) (x21 i) :=
  funext fun i => upd_eq (x0 i) (x7 i) (x14 i) (x21 i)
theorem m0 : (val_main_v4 (F := Ideal) x7 x14 : S4x6144.Idx → EReal) = fun i => nm (x7 i) (x14 i) := rfl
theorem v0 : (val_main_v10 (F := Ideal) x7 x21 : S4x6144.Idx → EReal) = fun i => nv (x7 i) (x21 i) := rfl
theorem d1 : (val_main_v47 (F := Ideal) x1 x8 x15 x22 : S4x1024.Idx → EReal) = fun i => upd (x1 i) (x8 i) (x15 i) (x22 i) :=
  funext fun i => upd_eq (x1 i) (x8 i) (x15 i) (x22 i)
theorem m1 : (val_main_v28 (F := Ideal) x8 x15 : S4x1024.Idx → EReal) = fun i => nm (x8 i) (x15 i) := rfl
theorem v1 : (val_main_v34 (F := Ideal) x8 x22 : S4x1024.Idx → EReal) = fun i => nv (x8 i) (x22 i) := rfl
theorem d2 : (val_main_v71 (F := Ideal) x2 x9 x16 x23 : S4x1024.Idx → EReal) = fun i => upd (x2 i) (x9 i) (x16 i) (x23 i) :=
  funext fun i => upd_eq (x2 i) (x9 i) (x16 i) (x23 i)
theorem m2 : (val_main_v52 (F := Ideal) x9 x16 : S4x1024.Idx → EReal) = fun i => nm (x9 i) (x16 i) := rfl
theorem v2 : (val_main_v58 (F := Ideal) x9 x23 : S4x1024.Idx → EReal) = fun i => nv (x9 i) (x23 i) := rfl
theorem d3 : (val_main_v95 (F := Ideal) x3 x10 x17 x24 : S2x3x64.Idx → EReal) = fun i => upd (x3 i) (x10 i) (x17 i) (x24 i) :=
  funext fun i => upd_eq (x3 i) (x10 i) (x17 i) (x24 i)
theorem m3 : (val_main_v76 (F := Ideal) x10 x17 : S2x3x64.Idx → EReal) = fun i => nm (x10 i) (x17 i) := rfl
theorem v3 : (val_main_v82 (F := Ideal) x10 x24 : S2x3x64.Idx → EReal) = fun i => nv (x10 i) (x24 i) := rfl
theorem d4 : (val_main_v119 (F := Ideal) x4 x11 x18 x25 : S2x512.Idx → EReal) = fun i => upd (x4 i) (x11 i) (x18 i) (x25 i) :=
  funext fun i => upd_eq (x4 i) (x11 i) (x18 i) (x25 i)
theorem m4 : (val_main_v100 (F := Ideal) x11 x18 : S2x512.Idx → EReal) = fun i => nm (x11 i) (x18 i) := rfl
theorem v4 : (val_main_v106 (F := Ideal) x11 x25 : S2x512.Idx → EReal) = fun i => nv (x11 i) (x25 i) := rfl
theorem d5 : (val_main_v143 (F := Ideal) x5 x12 x19 x26 : S2x128.Idx → EReal) = fun i => upd (x5 i) (x12 i) (x19 i) (x26 i) :=
  funext fun i => upd_eq (x5 i) (x12 i) (x19 i) (x26 i)
theorem m5 : (val_main_v124 (F := Ideal) x12 x19 : S2x128.Idx → EReal) = fun i => nm (x12 i) (x19 i) := rfl
theorem v5 : (val_main_v130 (F := Ideal) x12 x26 : S2x128.Idx → EReal) = fun i => nv (x12 i) (x26 i) := rfl
theorem d6 : (val_main_v167 (F := Ideal) x6 x13 x20 x27 : S2x128.Idx → EReal) = fun i => upd (x6 i) (x13 i) (x20 i) (x27 i) :=
  funext fun i => upd_eq (x6 i) (x13 i) (x20 i) (x27 i)
theorem m6 : (val_main_v148 (F := Ideal) x13 x20 : S2x128.Idx → EReal) = fun i => nm (x13 i) (x20 i) := rfl
theorem v6 : (val_main_v154 (F := Ideal) x13 x27 : S2x128.Idx → EReal) = fun i => nv (x13 i) (x27 i) := rfl

/-- The packed changes. -/
theorem w_at : (val_main_v177 (F := Ideal) x0 x1 x2 x3 x4 x5 x6 x7 x8 x9 x10 x11 x12 x13 x14 x15 x16 x17 x18 x19 x20 x21 x22 x23 x24 x25 x26 x27 : S272x128.Idx → EReal)
    = wArr ⟨x0, x1, x2, x3, x4, x5, x6⟩ ⟨x7, x8, x9, x10, x11, x12, x13⟩ ⟨x14, x15, x16, x17, x18, x19, x20⟩ ⟨x21, x22, x23, x24, x25, x26, x27⟩ := by
  refine (pad8_eq _ _ _ _ _ _ _ _).trans ?_
  show pack ⟨val_main_v23 (F := Ideal) x0 x7 x14 x21, val_main_v47 (F := Ideal) x1 x8 x15 x22, val_main_v71 (F := Ideal) x2 x9 x16 x23, val_main_v95 (F := Ideal) x3 x10 x17 x24, val_main_v119 (F := Ideal) x4 x11 x18 x25, val_main_v143 (F := Ideal) x5 x12 x19 x26, val_main_v167 (F := Ideal) x6 x13 x20 x27⟩ = _
  rw [d0, d1, d2, d3, d4, d5, d6]
  rfl

/-- The packed first moments. -/
theorem m_at : (val_main_v187 (F := Ideal) x7 x8 x9 x10 x11 x12 x13 x14 x15 x16 x17 x18 x19 x20 : S272x128.Idx → EReal)
    = mArr ⟨x0, x1, x2, x3, x4, x5, x6⟩ ⟨x7, x8, x9, x10, x11, x12, x13⟩ ⟨x14, x15, x16, x17, x18, x19, x20⟩ ⟨x21, x22, x23, x24, x25, x26, x27⟩ := by
  refine (pad8_eq _ _ _ _ _ _ _ _).trans ?_
  show pack ⟨val_main_v4 (F := Ideal) x7 x14, val_main_v28 (F := Ideal) x8 x15, val_main_v52 (F := Ideal) x9 x16, val_main_v76 (F := Ideal) x10 x17, val_main_v100 (F := Ideal) x11 x18, val_main_v124 (F := Ideal) x12 x19, val_main_v148 (F := Ideal) x13 x20⟩ = _
  rw [m0, m1, m2, m3, m4, m5, m6]
  rfl

/-- The packed second moments. -/
theorem v_at : (val_main_v197 (F := Ideal) x7 x8 x9 x10 x11 x12 x13 x21 x22 x23 x24 x25 x26 x27 : S272x128.Idx → EReal)
    = vArr ⟨x0, x1, x2, x3, x4, x5, x6⟩ ⟨x7, x8, x9, x10, x11, x12, x13⟩ ⟨x14, x15, x16, x17, x18, x19, x20⟩ ⟨x21, x22, x23, x24, x25, x26, x27⟩ := by
  refine (pad8_eq _ _ _ _ _ _ _ _).trans ?_
  show pack ⟨val_main_v10 (F := Ideal) x7 x21, val_main_v34 (F := Ideal) x8 x22, val_main_v58 (F := Ideal) x9 x23, val_main_v82 (F := Ideal) x10 x24, val_main_v106 (F := Ideal) x11 x25, val_main_v130 (F := Ideal) x12 x26, val_main_v154 (F := Ideal) x13 x27⟩ = _
  rw [v0, v1, v2, v3, v4, v5, v6]
  rfl

section
variable (m : (ℓ : Loc nD τ sig) → Buf (Elt Ideal) ℓ) (c : Dev nD)

/-- The arguments' contents. -/
abbrev wV : Seven := ⟨m ((c : Thread nD τ).loc main_arg0), m ((c : Thread nD τ).loc main_arg1), m ((c : Thread nD τ).loc main_arg2), m ((c : Thread nD τ).loc main_arg3), m ((c : Thread nD τ).loc main_arg4), m ((c : Thread nD τ).loc main_arg5), m ((c : Thread nD τ).loc main_arg6)⟩
abbrev gV : Seven := ⟨m ((c : Thread nD τ).loc main_arg7), m ((c : Thread nD τ).loc main_arg8), m ((c : Thread nD τ).loc main_arg9), m ((c : Thread nD τ).loc main_arg10), m ((c : Thread nD τ).loc main_arg11), m ((c : Thread nD τ).loc main_arg12), m ((c : Thread nD τ).loc main_arg13)⟩
abbrev mV : Seven := ⟨m ((c : Thread nD τ).loc main_arg14), m ((c : Thread nD τ).loc main_arg15), m ((c : Thread nD τ).loc main_arg16), m ((c : Thread nD τ).loc main_arg17), m ((c : Thread nD τ).loc main_arg18), m ((c : Thread nD τ).loc main_arg19), m ((c : Thread nD τ).loc main_arg20)⟩
abbrev vV : Seven := ⟨m ((c : Thread nD τ).loc main_arg21), m ((c : Thread nD τ).loc main_arg22), m ((c : Thread nD τ).loc main_arg23), m ((c : Thread nD τ).loc main_arg24), m ((c : Thread nD τ).loc main_arg25), m ((c : Thread nD τ).loc main_arg26), m ((c : Thread nD τ).loc main_arg27)⟩

/-- The packed changes of the arguments as they are. -/
theorem w_run : (val_main_v177 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) : S272x128.Idx → EReal)
    = wArr (wV m c) (gV m c) (mV m c) (vV m c) := w_at _ _ _ _ _ _ _ _ _ _ _ _ _ _ _ _ _ _ _ _ _ _ _ _ _ _ _ _

/-- The packed first moments of the arguments as they are. -/
theorem m_run : (val_main_v187 (F := Ideal) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) : S272x128.Idx → EReal)
    = mArr (wV m c) (gV m c) (mV m c) (vV m c) := m_at _ _ _ _ _ _ _ _ _ _ _ _ _ _ _ _ _ _ _ _ _ _ _ _ _ _ _ _

/-- The packed second moments of the arguments as they are. -/
theorem v_run : (val_main_v197 (F := Ideal) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) : S272x128.Idx → EReal)
    = vArr (wV m c) (gV m c) (mV m c) (vV m c) := v_at _ _ _ _ _ _ _ _ _ _ _ _ _ _ _ _ _ _ _ _ _ _ _ _ _ _ _ _
end

end Cert.AdamSmallRefIdeal.At

end
-- ==== Proof.AdamSmallClaim.lean ====
/- The claims about the optimiser on the packed small weights: the two frames of the kernel, the reference's, the named constants, and the value. -/
module

public import proofs.«01_k».proof.Defs
public import proofs.«01_k».proof.Proof.Gen.AdamSmall.Frame
public import proofs.«01_k».proof.Proof.AdamSmallFinal
public import proofs.«01_k».proof.Proof.AdamSmallRef
public import Idealize.ShloMosaic.Lib.Quiescent

@[expose] public section

noncomputable section

namespace Cert.AdamSmallClaim

open Idealize.ShloMosaic Idealize.ShloMosaic.TcCoe Idealize.SL.Sem Cert.AdamSmallIdeal.Blocks

/-- Seven equal arrays are equal sevens. -/
theorem seven_congr {a a' b b' d d' e e' f f' g g' h h'} (ha : a = a') (hb : b = b') (hd : d = d') (he : e = e') (hf : f = f') (hg : g = g') (hh : h = h') :
    (⟨a, b, d, e, f, g, h⟩ : Seven) = ⟨a', b', d', e', f', g', h'⟩ := by
  subst ha hb hd he hf hg hh
  rfl

/-- The kernel's results and the reference's are the same three arrays. -/
theorem value : Cert.algebraic_AdamSmallIdeal_AdamSmallRefIdeal
    (hAdamSmallIdeal := Cert.AdamSmallIdeal.Gen.facts) (hAdamSmallRefIdeal := Cert.AdamSmallRefIdeal.Gen.facts) := by
  intro m g m' g' _ hm
  have sw : ∀ c, Cert.AdamSmallRefIdeal.At.wV m' c = wV m c := fun c => by
    obtain ⟨h0, h1, h2, h3, h4, h5, h6, h7, h8, h9, h10, h11, h12, h13, h14, h15, h16, h17, h18, h19, h20, h21, h22, h23, h24, h25, h26, h27⟩ := hm c
    exact seven_congr h0 h1 h2 h3 h4 h5 h6
  have sg : ∀ c, Cert.AdamSmallRefIdeal.At.gV m' c = gV m c := fun c => by
    obtain ⟨h0, h1, h2, h3, h4, h5, h6, h7, h8, h9, h10, h11, h12, h13, h14, h15, h16, h17, h18, h19, h20, h21, h22, h23, h24, h25, h26, h27⟩ := hm c
    exact seven_congr h7 h8 h9 h10 h11 h12 h13
  have sm : ∀ c, Cert.AdamSmallRefIdeal.At.mV m' c = mV m c := fun c => by
    obtain ⟨h0, h1, h2, h3, h4, h5, h6, h7, h8, h9, h10, h11, h12, h13, h14, h15, h16, h17, h18, h19, h20, h21, h22, h23, h24, h25, h26, h27⟩ := hm c
    exact seven_congr h14 h15 h16 h17 h18 h19 h20
  have sv : ∀ c, Cert.AdamSmallRefIdeal.At.vV m' c = vV m c := fun c => by
    obtain ⟨h0, h1, h2, h3, h4, h5, h6, h7, h8, h9, h10, h11, h12, h13, h14, h15, h16, h17, h18, h19, h20, h21, h22, h23, h24, h25, h26, h27⟩ := hm c
    exact seven_congr h21 h22 h23 h24 h25 h26 h27
  refine ⟨_, _, _, (θ_run Cert.AdamSmallIdeal.defs _ _).mono (fun r h c => ⟨(h c).1.trans (final_w m c), (h c).2.1.trans (final_m m c),
    (h c).2.2.1.trans (final_v m c), (h c).2.2.2⟩) (Cert.AdamSmallIdeal.Value.run_blocks m g), ?_⟩
  refine (θ_run Cert.AdamSmallRefIdeal.defs _ _).mono (fun r h c => ⟨?_, ?_, ?_, (h c).2.2.2⟩) (Cert.AdamSmallRefIdeal.Value.run m' g')
  · refine (h c).1.trans ((Cert.AdamSmallRefIdeal.Read.val_main_v177_eq _).trans ((Cert.AdamSmallRefIdeal.At.w_run m' c).trans ?_))
    rw [sw c, sg c, sm c, sv c]
  · refine (h c).2.1.trans ((Cert.AdamSmallRefIdeal.Read.val_main_v187_eq _).trans ((Cert.AdamSmallRefIdeal.At.m_run m' c).trans ?_))
    rw [sw c, sg c, sm c, sv c]
  · refine (h c).2.2.1.trans ((Cert.AdamSmallRefIdeal.Read.val_main_v197_eq _).trans ((Cert.AdamSmallRefIdeal.At.v_run m' c).trans ?_))
    rw [sw c, sg c, sm c, sv c]

/-- The kernel's frame, on words. -/
theorem frame : Cert.quiescent_AdamSmall (hAdamSmall := Cert.AdamSmall.Gen.facts) := fun m ρ _ => Cert.AdamSmall.Gen.frame m ρ

/-- The kernel's frame, over the extended reals. -/
theorem frame_ideal : Cert.quiescent_AdamSmallIdeal (hAdamSmallIdeal := Cert.AdamSmallIdeal.Gen.facts) := fun m ρ _ => Cert.AdamSmallIdeal.Gen.frame m ρ

/-- The reference's frame. -/
theorem frame_ref : Cert.quiescent_AdamSmallRefIdeal (hAdamSmallRefIdeal := Cert.AdamSmallRefIdeal.Gen.facts) := fun m ρ _ =>
  (θ_run Cert.AdamSmallRefIdeal.defs _ _).mono (fun r h => ⟨fun c => (h c).2.2.2, sem_eq_zero_of_no_sems (by decide) r.2⟩)
    (Cert.AdamSmallRefIdeal.Value.run (F := Ideal) m ρ)

/-- The two named constants' words round the reciprocals of the reference's two literals. -/
theorem preserves : Cert.preserves_AdamSmall_AdamSmallIdeal :=
  ⟨IdealRules.named_const.statement Cert.AdamSmallIdeal.κ "bc1" .f32 0x3FC48605#32 (((5463681 / 8388608)⁻¹ : ℝ) : EReal) rfl,
    IdealRules.named_const.statement Cert.AdamSmallIdeal.κ "bc2" .f32 0x42C8E6D3#32 (((2672307 / 268435456)⁻¹ : ℝ) : EReal) rfl⟩

end Cert.AdamSmallClaim

end
-- ==== Proof.AdamAdaValue.lean ====
/- The optimiser on the conditioning's weights: the blocks at each point and the arrays after the run. -/
module

public import proofs.«01_k».proof.Proof.AdamSpec
public import proofs.«01_k».proof.Proof.Gen.AdamAdaIdeal.Value
public import Idealize.ShloMosaic.Lib.Pointwise
public import Idealize.ShloMosaic.Lib.StableHlo.RunRead

@[expose] public section

set_option maxRecDepth 16384

noncomputable section

namespace Cert.AdamAdaIdeal.Blocks

open Cert.AdamAdaIdeal Cert.AdamAdaIdeal.Gen Idealize.ShloMosaic Idealize.ShloMosaic.TcCoe Idealize.SL.Sem
open Idealize.ShloMosaic.Pipeline (Dat)
open Cert.AdamSpec

theorem hz2 : (![0, 0] : Fin 2 → Nat) = fun _ => 0 := by decide

/-- The named constants. -/
theorem bc1 : Named.named (F := Ideal) κ "bc1" (φ := .f32) 0x3FC48605#32 = (((5463681 / 8388608)⁻¹ : ℝ) : EReal) :=
  IdealRules.named_const.ideal_named_scalar _ _ _ _ rfl
theorem bc2 : Named.named (F := Ideal) κ "bc2" (φ := .f32) 0x42C8E6D3#32 = (((2672307 / 268435456)⁻¹ : ℝ) : EReal) :=
  IdealRules.named_const.ideal_named_scalar _ _ _ _ rfl

section
variable (w g mo v : Vec Ideal S512x768 .f32) (r : Fin 512) (l : Fin 768)

theorem pay2_apply : (k0_pay2 (F := Ideal) g mo : S512x768.Idx → EReal) (ix2 r l) = nm (g (ix2 r l)) (mo (ix2 r l)) := by
  pointwise [k0_pay2, k0_pay1]
  rfl

theorem pay3_apply : (k0_pay3 (F := Ideal) g v : S512x768.Idx → EReal) (ix2 r l) = nv (g (ix2 r l)) (v (ix2 r l)) := by
  pointwise [k0_pay3, k0_pay1]
  rfl

theorem pay4_apply : (k0_pay4 (F := Ideal) w g mo v : S512x768.Idx → EReal) (ix2 r l) = upd (w (ix2 r l)) (g (ix2 r l)) (mo (ix2 r l)) (v (ix2 r l)) := by
  pointwise [k0_pay4]
  rw [pay2_apply, pay3_apply, bc1, bc2]
  rfl

theorem w_point : (out0_4 w g mo v : S512x768.Idx → EReal) (ix2 r l) = upd (w (ix2 r l)) (g (ix2 r l)) (mo (ix2 r l)) (v (ix2 r l)) := by
  unfold out0_4
  rw [View.canon_unit_zero (S := S512x768) hz2]
  simp only [r0_0, View.ld_unit_zero (S := S512x768) hz2]
  exact pay4_apply w g mo v r l

theorem m_point : (out0_5 w g mo v : S512x768.Idx → EReal) (ix2 r l) = nm (g (ix2 r l)) (mo (ix2 r l)) := by
  unfold out0_5
  rw [View.canon_unit_zero (S := S512x768) hz2]
  simp only [r0_0, View.ld_unit_zero (S := S512x768) hz2]
  exact pay2_apply g mo r l

theorem v_point : (out0_6 w g mo v : S512x768.Idx → EReal) (ix2 r l) = nv (g (ix2 r l)) (v (ix2 r l)) := by
  unfold out0_6
  rw [View.canon_unit_zero (S := S512x768) hz2]
  simp only [r0_0, View.ld_unit_zero (S := S512x768) hz2]
  exact pay3_apply g v r l
end

end Cert.AdamAdaIdeal.Blocks

end
-- ==== Proof.AdamAdaFinal.lean ====
/- The optimiser on the conditioning's weights: the arrays after the run. -/
module

public import proofs.«01_k».proof.Proof.AdamAdaValue

@[expose] public section

set_option maxRecDepth 16384

noncomputable section

namespace Cert.AdamAdaIdeal.Blocks

open Cert.AdamAdaIdeal Cert.AdamAdaIdeal.Gen Idealize.ShloMosaic Idealize.ShloMosaic.TcCoe Idealize.SL.Sem
open Idealize.ShloMosaic.Pipeline (Dat)
open Cert.AdamSpec

variable (m : (ℓ : Loc nD τ sig) → Buf (Elt Ideal) ℓ) (c : Dev nD)

/-- Which block each window stages at a point. -/
theorem index : ∀ t : Fin grid0.N,
    (win0_0.index t 0 = t.val ∧ win0_0.index t 1 = 0)
    ∧ (win0_1.index t 0 = t.val ∧ win0_1.index t 1 = 0)
    ∧ (win0_2.index t 0 = t.val ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = t.val ∧ win0_6.index t 1 = 0) := by decide +kernel

/-- A tile's row as a row of the whole. -/
def row (t : Fin cfg0.N) (r : Fin 512) : Fin 4096 := ⟨t.val * 512 + r.val, by have := lt_of_lt_of_eq t.isLt N_0; omega⟩

/-- A weight's four layers as one matrix. -/
def flat (x : S4x1024x768.Idx → EReal) : S4096x768.Idx → EReal :=
  fun i => x (ix3 ⟨(i 0 : Nat) / 1024, by have : (i 0 : Nat) < 4096 := (i 0).isLt; omega⟩ ⟨(i 0 : Nat) % 1024, by omega⟩ ⟨(i 1 : Nat), (i 1).isLt⟩)

/-- The arguments' contents. -/
abbrev wV : S4x1024x768.Idx → EReal := m ((c : Thread nD τ).loc main_arg0)
abbrev gV : S4x1024x768.Idx → EReal := m ((c : Thread nD τ).loc main_arg1)
abbrev mV : S4x1024x768.Idx → EReal := m ((c : Thread nD τ).loc main_arg2)
abbrev vV : S4x1024x768.Idx → EReal := m ((c : Thread nD τ).loc main_arg3)

theorem V0_eq (i : Fin 4096) (l : Fin 768) : (V m c main_v0 : S4096x768.Idx → EReal) (ix2 i l) = flat (wV m c) (ix2 i l) := by
  simp only [V, hostOps0]
  after_reads_simp
  pointwise []
  rfl

theorem iblk0_apply (t : Fin cfg0.N) (r : Fin 512) (l : Fin 768) : (iblk m c 0 t : Vec Ideal S512x768 .f32) (ix2 r l) = flat (wV m c) (ix2 (row t r) l) := by
  rw [← V0_eq]
  unfold iblk
  rw [View.read_apply]
  refine congrArg (V m c main_v0) (funext fun a => Fin.ext ?_)
  match a with
  | ⟨0, _⟩ => show win0_0.index t 0 * 512 + 1 * r.val = t.val * 512 + r.val; rw [(index t).1.1]; omega
  | ⟨1, _⟩ => show win0_0.index t 1 * 768 + 1 * l.val = l.val; rw [(index t).1.2]; omega

theorem V1_eq (i : Fin 4096) (l : Fin 768) : (V m c main_v1 : S4096x768.Idx → EReal) (ix2 i l) = flat (gV m c) (ix2 i l) := by
  simp only [V, hostOps0]
  after_reads_simp
  pointwise []
  rfl

theorem iblk1_apply (t : Fin cfg0.N) (r : Fin 512) (l : Fin 768) : (iblk m c 1 t : Vec Ideal S512x768 .f32) (ix2 r l) = flat (gV m c) (ix2 (row t r) l) := by
  rw [← V1_eq]
  unfold iblk
  rw [View.read_apply]
  refine congrArg (V m c main_v1) (funext fun a => Fin.ext ?_)
  match a with
  | ⟨0, _⟩ => show win0_1.index t 0 * 512 + 1 * r.val = t.val * 512 + r.val; rw [(index t).2.1.1]; omega
  | ⟨1, _⟩ => show win0_1.index t 1 * 768 + 1 * l.val = l.val; rw [(index t).2.1.2]; omega

theorem V2_eq (i : Fin 4096) (l : Fin 768) : (V m c main_v2 : S4096x768.Idx → EReal) (ix2 i l) = flat (mV m c) (ix2 i l) := by
  simp only [V, hostOps0]
  after_reads_simp
  pointwise []
  rfl

theorem iblk2_apply (t : Fin cfg0.N) (r : Fin 512) (l : Fin 768) : (iblk m c 2 t : Vec Ideal S512x768 .f32) (ix2 r l) = flat (mV m c) (ix2 (row t r) l) := by
  rw [← V2_eq]
  unfold iblk
  rw [View.read_apply]
  refine congrArg (V m c main_v2) (funext fun a => Fin.ext ?_)
  match a with
  | ⟨0, _⟩ => show win0_2.index t 0 * 512 + 1 * r.val = t.val * 512 + r.val; rw [(index t).2.2.1.1]; omega
  | ⟨1, _⟩ => show win0_2.index t 1 * 768 + 1 * l.val = l.val; rw [(index t).2.2.1.2]; omega

theorem V3_eq (i : Fin 4096) (l : Fin 768) : (V m c main_v3 : S4096x768.Idx → EReal) (ix2 i l) = flat (vV m c) (ix2 i l) := by
  simp only [V, hostOps0]
  after_reads_simp
  pointwise []
  rfl

theorem iblk3_apply (t : Fin cfg0.N) (r : Fin 512) (l : Fin 768) : (iblk m c 3 t : Vec Ideal S512x768 .f32) (ix2 r l) = flat (vV m c) (ix2 (row t r) l) := by
  rw [← V3_eq]
  unfold iblk
  rw [View.read_apply]
  refine congrArg (V m c main_v3) (funext fun a => Fin.ext ?_)
  match a with
  | ⟨0, _⟩ => show win0_3.index t 0 * 512 + 1 * r.val = t.val * 512 + r.val; rw [(index t).2.2.2.1.1]; omega
  | ⟨1, _⟩ => show win0_3.index t 1 * 768 + 1 * l.val = l.val; rw [(index t).2.2.2.1.2]; omega

section
variable (w g mo v : S4x1024x768.Idx → EReal)

/-- What the three arrays hold. -/
def wArr : S4096x768.Idx → EReal := fun i => upd (flat w i) (flat g i) (flat mo i) (flat v i)
def mArr : S4096x768.Idx → EReal := fun i => nm (flat g i) (flat mo i)
def vArr : S4096x768.Idx → EReal := fun i => nv (flat g i) (flat v i)
end

/-- The changes of the weights after the run. -/
theorem final_w : ((dats m 0 c).arrAt 4 cfg0.N : S4096x768.Idx → EReal) = wArr (wV m c) (gV m c) (mV m c) (vV m c) := by
  have hN : cfg0.N = 8 := N_0
  refine (dats m 0 c).arrAt_eq_of_cover 4 _ (fun t _ => ?_) fun (i : S4096x768.Idx) => ?_
  · show (cfg0.win 4).cut (grid0.coords t) ((dats m 0 c).after 4 t) = _
    rw [after0_4]
    funext j
    obtain ⟨r, l, rfl⟩ : ∃ (r : Fin 512) (l : Fin 768), j = ix2 r l := ⟨j 0, j 1, eq_ix2 j⟩
    rw [View.read_apply]
    refine (w_point _ _ _ _ r l).trans ?_
    simp only [iblk0_apply, iblk1_apply, iblk2_apply, iblk3_apply]
    have he : ((cfg0.win 4).blk t).view.emb (ix2 r l) = (ix2 (row t r) l : S4096x768.Idx) := by
      funext k
      apply Fin.ext
      match k with
      | ⟨0, _⟩ => show win0_4.index t 0 * 512 + 1 * r.val = t.val * 512 + r.val; rw [(index t).2.2.2.2.1.1]; omega
      | ⟨1, _⟩ => show win0_4.index t 1 * 768 + 1 * l.val = l.val; rw [(index t).2.2.2.2.1.2]; omega
    rw [he]
    rfl
  · have h0 : (i 0 : Nat) < 4096 := (i 0).isLt
    have h1 : (i 1 : Nat) < 768 := (i 1).isLt
    obtain ⟨t, ht⟩ : ∃ t : Fin cfg0.N, t.val = (i 0 : Nat) / 512 := ⟨⟨(i 0 : Nat) / 512, by omega⟩, rfl⟩
    refine ⟨t, flush0_4 t, ?_⟩
    show i ∈ ((View.whole main_v4_0).slice (win0_4.rect t)).set
    rw [View.set_slice_whole, Rect.mem_set_unit]
    intro a
    match a with
    | ⟨0, _⟩ => show win0_4.index t 0 * 512 ≤ (i 0 : Nat) ∧ (i 0 : Nat) < win0_4.index t 0 * 512 + 512
                rw [(index t).2.2.2.2.1.1, ht]; omega
    | ⟨1, _⟩ => show win0_4.index t 1 * 768 ≤ (i 1 : Nat) ∧ (i 1 : Nat) < win0_4.index t 1 * 768 + 768
                rw [(index t).2.2.2.2.1.2]; omega

/-- The first moments after the run. -/
theorem final_m : ((dats m 0 c).arrAt 5 cfg0.N : S4096x768.Idx → EReal) = mArr (gV m c) (mV m c) := by
  have hN : cfg0.N = 8 := N_0
  refine (dats m 0 c).arrAt_eq_of_cover 5 _ (fun t _ => ?_) fun (i : S4096x768.Idx) => ?_
  · show (cfg0.win 5).cut (grid0.coords t) ((dats m 0 c).after 5 t) = _
    rw [after0_5]
    funext j
    obtain ⟨r, l, rfl⟩ : ∃ (r : Fin 512) (l : Fin 768), j = ix2 r l := ⟨j 0, j 1, eq_ix2 j⟩
    rw [View.read_apply]
    refine (m_point (iblk m c 0 t) _ _ (iblk m c 3 t) r l).trans ?_
    simp only [iblk0_apply, iblk1_apply, iblk2_apply, iblk3_apply]
    have he : ((cfg0.win 5).blk t).view.emb (ix2 r l) = (ix2 (row t r) l : S4096x768.Idx) := by
      funext k
      apply Fin.ext
      match k with
      | ⟨0, _⟩ => show win0_5.index t 0 * 512 + 1 * r.val = t.val * 512 + r.val; rw [(index t).2.2.2.2.2.1.1]; omega
      | ⟨1, _⟩ => show win0_5.index t 1 * 768 + 1 * l.val = l.val; rw [(index t).2.2.2.2.2.1.2]; omega
    rw [he]
    rfl
  · have h0 : (i 0 : Nat) < 4096 := (i 0).isLt
    have h1 : (i 1 : Nat) < 768 := (i 1).isLt
    obtain ⟨t, ht⟩ : ∃ t : Fin cfg0.N, t.val = (i 0 : Nat) / 512 := ⟨⟨(i 0 : Nat) / 512, by omega⟩, rfl⟩
    refine ⟨t, flush0_5 t, ?_⟩
    show i ∈ ((View.whole main_v4_1).slice (win0_5.rect t)).set
    rw [View.set_slice_whole, Rect.mem_set_unit]
    intro a
    match a with
    | ⟨0, _⟩ => show win0_5.index t 0 * 512 ≤ (i 0 : Nat) ∧ (i 0 : Nat) < win0_5.index t 0 * 512 + 512
                rw [(index t).2.2.2.2.2.1.1, ht]; omega
    | ⟨1, _⟩ => show win0_5.index t 1 * 768 ≤ (i 1 : Nat) ∧ (i 1 : Nat) < win0_5.index t 1 * 768 + 768
                rw [(index t).2.2.2.2.2.1.2]; omega

/-- The second moments after the run. -/
theorem final_v : ((dats m 0 c).arrAt 6 cfg0.N : S4096x768.Idx → EReal) = vArr (gV m c) (vV m c) := by
  have hN : cfg0.N = 8 := N_0
  refine (dats m 0 c).arrAt_eq_of_cover 6 _ (fun t _ => ?_) fun (i : S4096x768.Idx) => ?_
  · show (cfg0.win 6).cut (grid0.coords t) ((dats m 0 c).after 6 t) = _
    rw [after0_6]
    funext j
    obtain ⟨r, l, rfl⟩ : ∃ (r : Fin 512) (l : Fin 768), j = ix2 r l := ⟨j 0, j 1, eq_ix2 j⟩
    rw [View.read_apply]
    refine (v_point (iblk m c 0 t) _ (iblk m c 2 t) _ r l).trans ?_
    simp only [iblk0_apply, iblk1_apply, iblk2_apply, iblk3_apply]
    have he : ((cfg0.win 6).blk t).view.emb (ix2 r l) = (ix2 (row t r) l : S4096x768.Idx) := by
      funext k
      apply Fin.ext
      match k with
      | ⟨0, _⟩ => show win0_6.index t 0 * 512 + 1 * r.val = t.val * 512 + r.val; rw [(index t).2.2.2.2.2.2.1]; omega
      | ⟨1, _⟩ => show win0_6.index t 1 * 768 + 1 * l.val = l.val; rw [(index t).2.2.2.2.2.2.2]; omega
    rw [he]
    rfl
  · have h0 : (i 0 : Nat) < 4096 := (i 0).isLt
    have h1 : (i 1 : Nat) < 768 := (i 1).isLt
    obtain ⟨t, ht⟩ : ∃ t : Fin cfg0.N, t.val = (i 0 : Nat) / 512 := ⟨⟨(i 0 : Nat) / 512, by omega⟩, rfl⟩
    refine ⟨t, flush0_6 t, ?_⟩
    show i ∈ ((View.whole main_v4_2).slice (win0_6.rect t)).set
    rw [View.set_slice_whole, Rect.mem_set_unit]
    intro a
    match a with
    | ⟨0, _⟩ => show win0_6.index t 0 * 512 ≤ (i 0 : Nat) ∧ (i 0 : Nat) < win0_6.index t 0 * 512 + 512
                rw [(index t).2.2.2.2.2.2.1, ht]; omega
    | ⟨1, _⟩ => show win0_6.index t 1 * 768 ≤ (i 1 : Nat) ∧ (i 1 : Nat) < win0_6.index t 1 * 768 + 768
                rw [(index t).2.2.2.2.2.2.2]; omega

end Cert.AdamAdaIdeal.Blocks

end
-- ==== Proof.AdamAdaRef.lean ====
/- The optimiser on the conditioning's weights: the reference's results. -/
module

public import proofs.«01_k».proof.Proof.AdamAdaFinal
public import proofs.«01_k».proof.Proof.Gen.AdamAdaRefIdeal.Run
public import proofs.«01_k».proof.Proof.Gen.AdamAdaRefIdeal.Read

@[expose] public section

set_option maxRecDepth 16384

noncomputable section

namespace Cert.AdamAdaRefIdeal.At

open Cert.AdamAdaRefIdeal Cert.AdamAdaRefIdeal.Read Idealize.ShloMosaic Idealize.ShloMosaic.TcCoe Cert.AdamSpec
open Cert.AdamAdaIdeal.Blocks (flat wArr mArr vArr)

variable (w g mo v : S4x1024x768.Idx → EReal)

theorem v4_at (a : Fin 4) (b : Fin 1024) (l : Fin 768) : (val_main_v4 (F := Ideal) g mo : S4x1024x768.Idx → EReal) (ix3 a b l) = nm (g (ix3 a b l)) (mo (ix3 a b l)) := by
  pointwise [val_main_v4]
  rfl

theorem v10_at (a : Fin 4) (b : Fin 1024) (l : Fin 768) : (val_main_v10 (F := Ideal) g v : S4x1024x768.Idx → EReal) (ix3 a b l) = nv (g (ix3 a b l)) (v (ix3 a b l)) := by
  pointwise [val_main_v10]
  rfl

theorem v23_at (a : Fin 4) (b : Fin 1024) (l : Fin 768) :
    (val_main_v23 (F := Ideal) w g mo v : S4x1024x768.Idx → EReal) (ix3 a b l) = upd (w (ix3 a b l)) (g (ix3 a b l)) (mo (ix3 a b l)) (v (ix3 a b l)) := by
  rw [← upd_eq, ← v4_at g mo a b l, ← v10_at g v a b l]
  pointwise [val_main_v23]
  rfl

theorem w_at (i : Fin 4096) (l : Fin 768) : (val_main_v24 (F := Ideal) w g mo v : S4096x768.Idx → EReal) (ix2 i l) = wArr w g mo v (ix2 i l) := by
  pointwise [val_main_v24]
  exact v23_at w g mo v _ _ _

theorem m_at (i : Fin 4096) (l : Fin 768) : (val_main_v25 (F := Ideal) g mo : S4096x768.Idx → EReal) (ix2 i l) = mArr g mo (ix2 i l) := by
  pointwise [val_main_v25]
  exact v4_at g mo _ _ _

theorem vv_at (i : Fin 4096) (l : Fin 768) : (val_main_v26 (F := Ideal) g v : S4096x768.Idx → EReal) (ix2 i l) = vArr g v (ix2 i l) := by
  pointwise [val_main_v26]
  exact v10_at g v _ _ _

end Cert.AdamAdaRefIdeal.At

end
-- ==== Proof.AdamAdaClaim.lean ====
/- The claims about the optimiser on the conditioning's weights: the two frames of the kernel, the reference's, the named constants, and the value. -/
module

public import proofs.«01_k».proof.Defs
public import proofs.«01_k».proof.Proof.Gen.AdamAda.Frame
public import proofs.«01_k».proof.Proof.AdamAdaFinal
public import proofs.«01_k».proof.Proof.AdamAdaRef
public import Idealize.ShloMosaic.Lib.Quiescent

@[expose] public section

noncomputable section

namespace Cert.AdamAdaClaim

open Idealize.ShloMosaic Idealize.ShloMosaic.TcCoe Idealize.SL.Sem Cert.AdamAdaIdeal.Blocks

/-- The kernel's results and the reference's are the same three arrays. -/
theorem value : Cert.algebraic_AdamAdaIdeal_AdamAdaRefIdeal
    (hAdamAdaIdeal := Cert.AdamAdaIdeal.Gen.facts) (hAdamAdaRefIdeal := Cert.AdamAdaRefIdeal.Gen.facts) := by
  intro m g m' g' _ hm
  refine ⟨_, _, _, (θ_run Cert.AdamAdaIdeal.defs _ _).mono (fun r h c => ⟨(h c).1.trans (final_w m c), (h c).2.1.trans (final_m m c),
    (h c).2.2.1.trans (final_v m c), (h c).2.2.2⟩) (Cert.AdamAdaIdeal.Value.run_blocks m g), ?_⟩
  refine (θ_run Cert.AdamAdaRefIdeal.defs _ _).mono (fun r h c => ⟨?_, ?_, ?_, (h c).2.2.2⟩) (Cert.AdamAdaRefIdeal.Value.run m' g')
  · refine (h c).1.trans ((Cert.AdamAdaRefIdeal.Read.val_main_v24_eq _ _ _ _).trans ?_)
    rw [(hm c).1, (hm c).2.1, (hm c).2.2.1, (hm c).2.2.2]
    funext i
    rw [eq_ix2 i]
    exact Cert.AdamAdaRefIdeal.At.w_at _ _ _ _ _ _
  · refine (h c).2.1.trans ((Cert.AdamAdaRefIdeal.Read.val_main_v25_eq _ _).trans ?_)
    rw [(hm c).2.1, (hm c).2.2.1]
    funext i
    rw [eq_ix2 i]
    exact Cert.AdamAdaRefIdeal.At.m_at _ _ _ _
  · refine (h c).2.2.1.trans ((Cert.AdamAdaRefIdeal.Read.val_main_v26_eq _ _).trans ?_)
    rw [(hm c).2.1, (hm c).2.2.2]
    funext i
    rw [eq_ix2 i]
    exact Cert.AdamAdaRefIdeal.At.vv_at _ _ _ _

/-- The kernel's frame, on words. -/
theorem frame : Cert.quiescent_AdamAda (hAdamAda := Cert.AdamAda.Gen.facts) := fun m ρ _ => Cert.AdamAda.Gen.frame m ρ

/-- The kernel's frame, over the extended reals. -/
theorem frame_ideal : Cert.quiescent_AdamAdaIdeal (hAdamAdaIdeal := Cert.AdamAdaIdeal.Gen.facts) := fun m ρ _ => Cert.AdamAdaIdeal.Gen.frame m ρ

/-- The reference's frame. -/
theorem frame_ref : Cert.quiescent_AdamAdaRefIdeal (hAdamAdaRefIdeal := Cert.AdamAdaRefIdeal.Gen.facts) := fun m ρ _ =>
  (θ_run Cert.AdamAdaRefIdeal.defs _ _).mono (fun r h => ⟨fun c => (h c).2.2.2, sem_eq_zero_of_no_sems (by decide) r.2⟩)
    (Cert.AdamAdaRefIdeal.Value.run (F := Ideal) m ρ)

/-- The two named constants' words round the reciprocals of the reference's two literals. -/
theorem preserves : Cert.preserves_AdamAda_AdamAdaIdeal :=
  ⟨IdealRules.named_const.statement Cert.AdamAdaIdeal.κ "bc1" .f32 0x3FC48605#32 (((5463681 / 8388608)⁻¹ : ℝ) : EReal) rfl,
    IdealRules.named_const.statement Cert.AdamAdaIdeal.κ "bc2" .f32 0x42C8E6D3#32 (((2672307 / 268435456)⁻¹ : ℝ) : EReal) rfl⟩

end Cert.AdamAdaClaim

end
-- ==== Proof.SumSlotsValue.lean ====
/- The sum of the devices' pieces of a gradient: the kernel's result and the reference's. -/
module

public import proofs.«01_k».proof.Proof.Gen.SumSlotsIdeal.Value
public import proofs.«01_k».proof.Proof.Gen.SumSlotsRefIdeal.Run
public import proofs.«01_k».proof.Proof.Gen.SumSlotsRefIdeal.Read
public import Idealize.ShloMosaic.Lib.Pointwise
public import Idealize.ShloMosaic.Lib.StableHlo.RunRead

@[expose] public section

set_option maxRecDepth 16384

noncomputable section

namespace Cert.SumSlotsIdeal.Blocks

open Cert.SumSlotsIdeal Cert.SumSlotsIdeal.Gen Idealize.ShloMosaic Idealize.ShloMosaic.TcCoe Idealize.SL.Sem
open Idealize.ShloMosaic.Pipeline (Dat)

theorem hz2 : (![0, 0] : Fin 2 → Nat) = fun _ => 0 := by decide

/-- A part of the gathered array is its slice along the first axis. -/
theorem ld_part (x : Vec Ideal S8x384x1024 .bf16) (p : Nat) (hp : p < 8) (h) (r : Fin 384) (l : Fin 1024) :
    (View.ld x (Rect.unit ![p, 0, 0] ![1, 384, 1024] h) : S1x384x1024.Idx → EReal) (ix3 0 r l) = x (ix3 ⟨p, hp⟩ r l) :=
  congrArg x (funext fun a => Fin.ext (match a with
    | ⟨0, _⟩ => by show p + 1 * 0 = p; omega
    | ⟨1, _⟩ => by show 0 + 1 * r.val = r.val; omega
    | ⟨2, _⟩ => by show 0 + 1 * l.val = l.val; omega))

theorem pay_apply (a b c d e f g h : Vec Ideal S1x384x1024 .bf16) (r : Fin 384) (l : Fin 1024) :
    (k0_pay1 (F := Ideal) a b c d e f g h : S384x1024.Idx → EReal) (ix2 r l)
      = a (ix3 0 r l) + b (ix3 0 r l) + c (ix3 0 r l) + d (ix3 0 r l) + e (ix3 0 r l) + f (ix3 0 r l) + g (ix3 0 r l) + h (ix3 0 r l) := by
  pointwise [k0_pay1]

theorem point (x : Vec Ideal S8x384x1024 .bf16) (r : Fin 384) (l : Fin 1024) :
    (out0_1 x : S384x1024.Idx → EReal) (ix2 r l) = ∑ k : Fin 8, x (ix3 k r l) := by
  unfold out0_1
  rw [View.canon_unit_zero (S := S384x1024) hz2]
  refine (pay_apply _ _ _ _ _ _ _ _ r l).trans ?_
  rw [Fin.sum_univ_eight]
  exact congr (congrArg _ (congr (congrArg _ (congr (congrArg _ (congr (congrArg _ (congr (congrArg _ (congr (congrArg _
    (congr (congrArg _ (ld_part x 0 (by omega) _ r l)) (ld_part x 1 (by omega) _ r l))) (ld_part x 2 (by omega) _ r l)))
    (ld_part x 3 (by omega) _ r l))) (ld_part x 4 (by omega) _ r l))) (ld_part x 5 (by omega) _ r l)))
    (ld_part x 6 (by omega) _ r l))) (ld_part x 7 (by omega) _ r l)

/-- Every window's block is the whole array. -/
theorem index0 : ∀ t : Fin grid0.N, win0_0.index t 0 = 0 ∧ win0_0.index t 1 = 0 ∧ win0_0.index t 2 = 0 := by decide +kernel
theorem index1 : ∀ t : Fin grid0.N, win0_1.index t 0 = 0 ∧ win0_1.index t 1 = 0 := by decide +kernel

variable (m : (ℓ : Loc nD τ sig) → Buf (Elt Ideal) ℓ) (c : Dev nD)

/-- The argument's contents. -/
abbrev xV : S8x384x1024.Idx → EReal := m ((c : Thread nD τ).loc main_arg0)

theorem iblk0_apply (t : Fin cfg0.N) (k : Fin 8) (r : Fin 384) (l : Fin 1024) :
    (iblk m c 0 t : Vec Ideal S8x384x1024 .bf16) (ix3 k r l) = xV m c (ix3 k r l) := by
  unfold iblk
  rw [View.read_apply]
  refine (congrFun (V_main_arg0 m c) _).trans (congrArg (xV m c) (funext fun a => Fin.ext ?_))
  match a with
  | ⟨0, _⟩ => show win0_0.index t 0 * 8 + 1 * k.val = k.val; rw [(index0 t).1]; omega
  | ⟨1, _⟩ => show win0_0.index t 1 * 384 + 1 * r.val = r.val; rw [(index0 t).2.1]; omega
  | ⟨2, _⟩ => show win0_0.index t 2 * 1024 + 1 * l.val = l.val; rw [(index0 t).2.2]; omega

/-- What the result holds. -/
def sArr (x : S8x384x1024.Idx → EReal) : S384x1024.Idx → EReal := fun i => ∑ k : Fin 8, x (ix3 k (i 0) (i 1))

/-- The sums after the run. -/
theorem final_s : ((dats m 0 c).arrAt 1 cfg0.N : S384x1024.Idx → EReal) = sArr (xV m c) := by
  refine (dats m 0 c).arrAt_eq_of_cover 1 _ (fun t _ => ?_) fun (i : S384x1024.Idx) => ?_
  · show (cfg0.win 1).cut (cfg0.grid.coords t) ((dats m 0 c).after 1 t) = _
    rw [after0_1]
    funext j
    obtain ⟨r, l, rfl⟩ : ∃ (r : Fin 384) (l : Fin 1024), j = ix2 r l := ⟨j 0, j 1, eq_ix2 j⟩
    rw [View.read_apply]
    refine (point (iblk m c 0 t) r l).trans ?_
    simp only [iblk0_apply]
    have he : ((cfg0.win 1).blk t).view.emb (ix2 r l) = (ix2 r l : S384x1024.Idx) := by
      funext k
      apply Fin.ext
      match k with
      | ⟨0, _⟩ => show win0_1.index t 0 * 384 + 1 * r.val = r.val; rw [(index1 t).1]; omega
      | ⟨1, _⟩ => show win0_1.index t 1 * 1024 + 1 * l.val = l.val; rw [(index1 t).2]; omega
    rw [he]
    rfl
  · have h0 : (i 0 : Nat) < 384 := (i 0).isLt
    have h1 : (i 1 : Nat) < 1024 := (i 1).isLt
    have t : Fin cfg0.N := ⟨0, by decide⟩
    refine ⟨t, flush0_1 t, ?_⟩
    show i ∈ ((View.whole main_v0).slice (win0_1.rect t)).set
    rw [View.set_slice_whole, Rect.mem_set_unit]
    intro a
    match a with
    | ⟨0, _⟩ => show win0_1.index t 0 * 384 ≤ (i 0 : Nat) ∧ (i 0 : Nat) < win0_1.index t 0 * 384 + 384; rw [(index1 t).1]; omega
    | ⟨1, _⟩ => show win0_1.index t 1 * 1024 ≤ (i 1 : Nat) ∧ (i 1 : Nat) < win0_1.index t 1 * 1024 + 1024; rw [(index1 t).2]; omega

end Cert.SumSlotsIdeal.Blocks

namespace Cert.SumSlotsRefIdeal.At

open Cert.SumSlotsRefIdeal Cert.SumSlotsRefIdeal.Read Idealize.ShloMosaic Idealize.ShloMosaic.TcCoe

theorem sum_at (x : S8x384x1024.Idx → EReal) (r : Fin 384) (l : Fin 1024) :
    (val_main_v1 (F := Ideal) x : S384x1024.Idx → EReal) (ix2 r l) = ∑ k : Fin 8, x (ix3 k r l) := by
  pointwise [val_main_v1]
  rw [val_main_cst_apply, Ideal.ofBits_def, Ideal.ofBits_zero_f32, zero_add]
  exact Finset.sum_congr rfl fun k _ => rfl

end Cert.SumSlotsRefIdeal.At

end
-- ==== Proof.SumSlotsClaim.lean ====
/- The claims about the sum of the devices’ pieces of a gradient: the two frames of the kernel, the reference's, and the value. -/
module

public import proofs.«01_k».proof.Defs
public import proofs.«01_k».proof.Proof.Gen.SumSlots.Frame
public import proofs.«01_k».proof.Proof.SumSlotsValue
public import Idealize.ShloMosaic.Lib.Quiescent

@[expose] public section

noncomputable section

namespace Cert.SumSlotsClaim

open Idealize.ShloMosaic Idealize.ShloMosaic.TcCoe Idealize.SL.Sem Cert.SumSlotsIdeal.Blocks

/-- The kernel's result and the reference's are the same array. -/
theorem value : Cert.algebraic_SumSlotsIdeal_SumSlotsRefIdeal
    (hSumSlotsIdeal := Cert.SumSlotsIdeal.Gen.facts) (hSumSlotsRefIdeal := Cert.SumSlotsRefIdeal.Gen.facts) := by
  intro m g m' g' _ hm
  refine ⟨_, (θ_run Cert.SumSlotsIdeal.defs _ _).mono (fun r h c => ⟨(h c).1.trans (final_s m c), (h c).2⟩) (Cert.SumSlotsIdeal.Value.run_blocks m g), ?_⟩
  refine (θ_run Cert.SumSlotsRefIdeal.defs _ _).mono (fun r h c => ⟨?_, (h c).2⟩) (Cert.SumSlotsRefIdeal.Value.run m' g')
  refine (h c).1.trans ((Cert.SumSlotsRefIdeal.Read.val_main_v1_eq _).trans ?_)
  rw [hm c]
  funext i
  rw [eq_ix2 i]
  exact Cert.SumSlotsRefIdeal.At.sum_at _ _ _

/-- The kernel's frame, on words. -/
theorem frame : Cert.quiescent_SumSlots (hSumSlots := Cert.SumSlots.Gen.facts) := fun m ρ _ => Cert.SumSlots.Gen.frame m ρ

/-- The kernel's frame, over the extended reals. -/
theorem frame_ideal : Cert.quiescent_SumSlotsIdeal (hSumSlotsIdeal := Cert.SumSlotsIdeal.Gen.facts) := fun m ρ _ => Cert.SumSlotsIdeal.Gen.frame m ρ

/-- The reference's frame. -/
theorem frame_ref : Cert.quiescent_SumSlotsRefIdeal (hSumSlotsRefIdeal := Cert.SumSlotsRefIdeal.Gen.facts) := fun m ρ _ =>
  (θ_run Cert.SumSlotsRefIdeal.defs _ _).mono (fun r h => ⟨fun c => (h c).2, sem_eq_zero_of_no_sems (by decide) r.2⟩)
    (Cert.SumSlotsRefIdeal.Value.run (F := Ideal) m ρ)

end Cert.SumSlotsClaim

end
-- ==== Proof.SumSmallValue.lean ====
/- The sum of the devices' small gradients: the kernel's result and the reference's. -/
module

public import proofs.«01_k».proof.Proof.Gen.SumSmallIdeal.Value
public import proofs.«01_k».proof.Proof.Gen.SumSmallRefIdeal.Run
public import proofs.«01_k».proof.Proof.Gen.SumSmallRefIdeal.Read
public import Idealize.ShloMosaic.Lib.Pointwise
public import Idealize.ShloMosaic.Lib.StableHlo.RunRead

@[expose] public section

set_option maxRecDepth 16384

noncomputable section

namespace Cert.SumSmallIdeal.Blocks

open Cert.SumSmallIdeal Cert.SumSmallIdeal.Gen Idealize.ShloMosaic Idealize.ShloMosaic.TcCoe Idealize.SL.Sem
open Idealize.ShloMosaic.Pipeline (Dat)

theorem hz2 : (![0, 0] : Fin 2 → Nat) = fun _ => 0 := by decide

/-- A part of the gathered array is its slice along the first axis. -/
theorem ld_part (x : Vec Ideal S8x296x128 .f32) (p : Nat) (hp : p < 8) (h) (r : Fin 296) (l : Fin 128) :
    (View.ld x (Rect.unit ![p, 0, 0] ![1, 296, 128] h) : S1x296x128.Idx → EReal) (ix3 0 r l) = x (ix3 ⟨p, hp⟩ r l) :=
  congrArg x (funext fun a => Fin.ext (match a with
    | ⟨0, _⟩ => by show p + 1 * 0 = p; omega
    | ⟨1, _⟩ => by show 0 + 1 * r.val = r.val; omega
    | ⟨2, _⟩ => by show 0 + 1 * l.val = l.val; omega))

theorem pay_apply (a b c d e f g h : Vec Ideal S1x296x128 .f32) (r : Fin 296) (l : Fin 128) :
    (k0_pay1 (F := Ideal) a b c d e f g h : S296x128.Idx → EReal) (ix2 r l)
      = a (ix3 0 r l) + b (ix3 0 r l) + c (ix3 0 r l) + d (ix3 0 r l) + e (ix3 0 r l) + f (ix3 0 r l) + g (ix3 0 r l) + h (ix3 0 r l) := by
  pointwise [k0_pay1]

theorem point (x : Vec Ideal S8x296x128 .f32) (r : Fin 296) (l : Fin 128) :
    (out0_1 x : S296x128.Idx → EReal) (ix2 r l) = ∑ k : Fin 8, x (ix3 k r l) := by
  unfold out0_1
  rw [View.canon_unit_zero (S := S296x128) hz2]
  refine (pay_apply _ _ _ _ _ _ _ _ r l).trans ?_
  rw [Fin.sum_univ_eight]
  exact congr (congrArg _ (congr (congrArg _ (congr (congrArg _ (congr (congrArg _ (congr (congrArg _ (congr (congrArg _
    (congr (congrArg _ (ld_part x 0 (by omega) _ r l)) (ld_part x 1 (by omega) _ r l))) (ld_part x 2 (by omega) _ r l)))
    (ld_part x 3 (by omega) _ r l))) (ld_part x 4 (by omega) _ r l))) (ld_part x 5 (by omega) _ r l)))
    (ld_part x 6 (by omega) _ r l))) (ld_part x 7 (by omega) _ r l)

variable (m : (ℓ : Loc nD τ sig) → Buf (Elt Ideal) ℓ) (c : Dev nD)

/-- The argument's contents. -/
abbrev xV : S8x296x128.Idx → EReal := m ((c : Thread nD τ).loc main_arg0)

theorem iblk0_apply (t : Fin cfg0.N) (k : Fin 8) (r : Fin 296) (l : Fin 128) :
    (iblk m c 0 t : Vec Ideal S8x296x128 .f32) (ix3 k r l) = xV m c (ix3 k r l) := by
  unfold iblk
  rw [View.read_apply]
  refine (congrFun (V_main_arg0 m c) _).trans (congrArg (xV m c) (funext fun a => Fin.ext ?_))
  match a with
  | ⟨0, _⟩ => show 0 + 1 * k.val = k.val; omega
  | ⟨1, _⟩ => show 0 + 1 * r.val = r.val; omega
  | ⟨2, _⟩ => show 0 + 1 * l.val = l.val; omega

/-- What the result holds. -/
def sArr (x : S8x296x128.Idx → EReal) : S296x128.Idx → EReal := fun i => ∑ k : Fin 8, x (ix3 k (i 0) (i 1))

/-- The sums after the run. -/
theorem final_s : ((dats m 0 c).arrAt 1 cfg0.N : S296x128.Idx → EReal) = sArr (xV m c) := by
  refine (dats m 0 c).arrAt_eq_of_cover 1 _ (fun t _ => ?_) fun (i : S296x128.Idx) => ?_
  · show (cfg0.win 1).cut (cfg0.grid.coords t) ((dats m 0 c).after 1 t) = _
    rw [after0_1]
    funext j
    obtain ⟨r, l, rfl⟩ : ∃ (r : Fin 296) (l : Fin 128), j = ix2 r l := ⟨j 0, j 1, eq_ix2 j⟩
    rw [View.read_apply]
    refine (point (iblk m c 0 t) r l).trans ?_
    simp only [iblk0_apply]
    have he : ((cfg0.win 1).blk t).view.emb (ix2 r l) = (ix2 r l : S296x128.Idx) := by
      funext k
      apply Fin.ext
      match k with
      | ⟨0, _⟩ => show 0 + 1 * r.val = r.val; omega
      | ⟨1, _⟩ => show 0 + 1 * l.val = l.val; omega
    rw [he]
    rfl
  · have h0 : (i 0 : Nat) < 296 := (i 0).isLt
    have h1 : (i 1 : Nat) < 128 := (i 1).isLt
    have t : Fin cfg0.N := ⟨0, by decide⟩
    refine ⟨t, flush0_1 t, ?_⟩
    show i ∈ ((View.whole main_v0).slice (win0_1.rect t)).set
    rw [View.set_slice_whole, Rect.mem_set_unit]
    intro a
    match a with
    | ⟨0, _⟩ => show 0 ≤ (i 0 : Nat) ∧ (i 0 : Nat) < 0 + 296; omega
    | ⟨1, _⟩ => show 0 ≤ (i 1 : Nat) ∧ (i 1 : Nat) < 0 + 128; omega

end Cert.SumSmallIdeal.Blocks

namespace Cert.SumSmallRefIdeal.At

open Cert.SumSmallRefIdeal Cert.SumSmallRefIdeal.Read Idealize.ShloMosaic Idealize.ShloMosaic.TcCoe

theorem sum_at (x : S8x296x128.Idx → EReal) (r : Fin 296) (l : Fin 128) :
    (val_main_v0 (F := Ideal) x : S296x128.Idx → EReal) (ix2 r l) = ∑ k : Fin 8, x (ix3 k r l) := by
  pointwise [val_main_v0]
  rw [val_main_cst_apply, Ideal.ofBits_def, Ideal.ofBits_zero_f32, zero_add]

end Cert.SumSmallRefIdeal.At

end
-- ==== Proof.SumSmallClaim.lean ====
/- The claims about the sum of the devices’ small gradients: the two frames of the kernel, the reference's, and the value. -/
module

public import proofs.«01_k».proof.Defs
public import proofs.«01_k».proof.Proof.Gen.SumSmall.Frame
public import proofs.«01_k».proof.Proof.SumSmallValue
public import Idealize.ShloMosaic.Lib.Quiescent

@[expose] public section

noncomputable section

namespace Cert.SumSmallClaim

open Idealize.ShloMosaic Idealize.ShloMosaic.TcCoe Idealize.SL.Sem Cert.SumSmallIdeal.Blocks

/-- The kernel's result and the reference's are the same array. -/
theorem value : Cert.algebraic_SumSmallIdeal_SumSmallRefIdeal
    (hSumSmallIdeal := Cert.SumSmallIdeal.Gen.facts) (hSumSmallRefIdeal := Cert.SumSmallRefIdeal.Gen.facts) := by
  intro m g m' g' _ hm
  refine ⟨_, (θ_run Cert.SumSmallIdeal.defs _ _).mono (fun r h c => ⟨(h c).1.trans (final_s m c), (h c).2⟩) (Cert.SumSmallIdeal.Value.run_blocks m g), ?_⟩
  refine (θ_run Cert.SumSmallRefIdeal.defs _ _).mono (fun r h c => ⟨?_, (h c).2⟩) (Cert.SumSmallRefIdeal.Value.run m' g')
  refine (h c).1.trans ((Cert.SumSmallRefIdeal.Read.val_main_v0_eq _).trans ?_)
  rw [hm c]
  funext i
  rw [eq_ix2 i]
  exact Cert.SumSmallRefIdeal.At.sum_at _ _ _

/-- The kernel's frame, on words. -/
theorem frame : Cert.quiescent_SumSmall (hSumSmall := Cert.SumSmall.Gen.facts) := fun m ρ _ => Cert.SumSmall.Gen.frame m ρ

/-- The kernel's frame, over the extended reals. -/
theorem frame_ideal : Cert.quiescent_SumSmallIdeal (hSumSmallIdeal := Cert.SumSmallIdeal.Gen.facts) := fun m ρ _ => Cert.SumSmallIdeal.Gen.frame m ρ

/-- The reference's frame. -/
theorem frame_ref : Cert.quiescent_SumSmallRefIdeal (hSumSmallRefIdeal := Cert.SumSmallRefIdeal.Gen.facts) := fun m ρ _ =>
  (θ_run Cert.SumSmallRefIdeal.defs _ _).mono (fun r h => ⟨fun c => (h c).2, sem_eq_zero_of_no_sems (by decide) r.2⟩)
    (Cert.SumSmallRefIdeal.Value.run (F := Ideal) m ρ)

end Cert.SumSmallClaim

end
-- ==== Proof.AdamLayerValue.lean ====
/- The optimiser on one layer of a sharded weight: what the point leaves in its four blocks. -/
module

public import proofs.«01_k».proof.Proof.AdamSpec
public import proofs.«01_k».proof.Proof.Gen.AdamLayerIdeal.Value
public import Idealize.ShloMosaic.Lib.VecWindow
public import Idealize.ShloMosaic.Lib.Pointwise
public import Idealize.ShloMosaic.Lib.StableHlo.RunRead

@[expose] public section

set_option maxRecDepth 16384

noncomputable section

namespace Cert.AdamLayerIdeal.Blocks

open Cert.AdamLayerIdeal Cert.AdamLayerIdeal.Gen Idealize.ShloMosaic Idealize.ShloMosaic.TcCoe Idealize.SL.Sem
open Idealize.ShloMosaic.Pipeline (Dat)
open Cert.AdamSpec

theorem hz3 : (![0, 0, 0] : Fin 3 → Nat) = fun _ => 0 := by decide

/-- The named constants. -/
theorem bc1 : Named.named (F := Ideal) κ "bc1" (φ := .f32) 0x3FC48605#32 = (((5463681 / 8388608)⁻¹ : ℝ) : EReal) :=
  IdealRules.named_const.ideal_named_scalar _ _ _ _ rfl
theorem bc2 : Named.named (F := Ideal) κ "bc2" (φ := .f32) 0x42C8E6D3#32 = (((2672307 / 268435456)⁻¹ : ℝ) : EReal) :=
  IdealRules.named_const.ideal_named_scalar _ _ _ _ rfl

/-- One device's piece among the eight. -/
def piece (x : Vec Ideal S8x352x1024 .bf16) (j : Fin 8) : Vec Ideal S1x352x1024 .bf16 := fun i => x (ix3 j (i 1) (i 2))

/-- A load of one piece alone. -/
theorem ld_piece (x : Vec Ideal S8x352x1024 .bf16) (n : ℕ) (hn : n < 8)
    (inb : ∀ a, (![n, 0, 0] : Fin 3 → Nat) a + (![1, 352, 1024] : Fin 3 → Nat) a ≤ S8x352x1024.size a) :
    View.ld x (Rect.unit (s := S8x352x1024) ![n, 0, 0] ![1, 352, 1024] inb) = piece x ⟨n, hn⟩ := by
  funext i
  refine congrArg x (funext fun a => Fin.ext ?_)
  have h0 : (i 0).val < 1 := (i 0).isLt
  match a with
  | ⟨0, _⟩ => show n + 1 * (i 0).val = n; omega
  | ⟨1, _⟩ => show 0 + 1 * (i 1).val = (i 1).val; omega
  | ⟨2, _⟩ => show 0 + 1 * (i 2).val = (i 2).val; omega

/-- The eight pieces' sum as the kernel adds them. -/
def total (x : Vec Ideal S8x352x1024 .bf16) : FVec Ideal S352x1024 .f32 :=
  k0_pay3 (piece x 0) (piece x 1) (piece x 2) (piece x 3) (piece x 4) (piece x 5) (piece x 6) (piece x 7)

/-- The pieces' sum at one index. -/
def gsum (x : S8x352x1024.Idx → EReal) (r : Fin 352) (l : Fin 1024) : EReal := ∑ j : Fin 8, x (ix3 j r l)

theorem total_apply (x : Vec Ideal S8x352x1024 .bf16) (r : Fin 352) (l : Fin 1024) : (total x : S352x1024.Idx → EReal) (ix2 r l) = gsum x r l := by
  unfold gsum
  rw [Fin.sum_univ_eight]
  pointwise [total, k0_pay3, piece]

section
variable (g : S352x1024.Idx → EReal) (w mo v : S1x352x1024.Idx → EReal) (r : Fin 352) (l : Fin 1024)

theorem pay1_apply : (k0_pay1 (F := Ideal) g : S1x352x1024.Idx → EReal) (ix3 0 r l) = g (ix2 r l) := by pointwise [k0_pay1]

theorem pay2_apply : (k0_pay2 (F := Ideal) g : S1x352x1024.Idx → EReal) (ix3 0 r l) = g (ix2 r l) := by pointwise [k0_pay2]

theorem pay4_apply : (k0_pay4 (F := Ideal) g : S1x352x1024.Idx → EReal) (ix3 0 r l) = g (ix2 r l) := by pointwise [k0_pay4]

theorem pay5_apply : (k0_pay5 (F := Ideal) g mo : S352x1024.Idx → EReal) (ix2 r l) = nm (g (ix2 r l)) (mo (ix3 0 r l)) := by
  pointwise [k0_pay5]
  rfl

theorem pay6_apply : (k0_pay6 (F := Ideal) g v : S352x1024.Idx → EReal) (ix2 r l) = nv (g (ix2 r l)) (v (ix3 0 r l)) := by
  pointwise [k0_pay6]
  rfl

theorem pay7_apply : (k0_pay7 (F := Ideal) g w mo v : S1x352x1024.Idx → EReal) (ix3 0 r l)
    = upd (w (ix3 0 r l)) (g (ix2 r l)) (mo (ix3 0 r l)) (v (ix3 0 r l)) := by
  pointwise [k0_pay7]
  rw [pay5_apply, pay6_apply, bc1, bc2]
  rfl
end

section
variable (c : Dev nD) (i : grid0.Coords)
    (a1 : Memref sig .tc .vmem S1x352x1024 .f32) (h1 : a1.IsWhole)
    (a2 : Memref sig .tc .vmem S8x352x1024 .bf16) (h2 : a2.IsWhole)
    (a3 : Memref sig .tc .vmem S1x352x1024 .f32) (h3 : a3.IsWhole)
    (a4 : Memref sig .tc .vmem S1x352x1024 .f32) (h4 : a4.IsWhole)
    (a9 : Memref sig .tc .vmem S1x352x1024 .f32) (h9 : a9.IsWhole)
    (a10 : Memref sig .tc .vmem S1x352x1024 .f32) (h10 : a10.IsWhole)
    (a11 : Memref sig .tc .vmem S1x352x1024 .f32) (h11 : a11.IsWhole)
    (a12 : Memref sig .tc .vmem S1x352x1024 .f32) (h12 : a12.IsWhole)
    (x0 : Vec Ideal S1x352x1024 .f32) (x1 : Vec Ideal S8x352x1024 .bf16) (x2 x3 : Vec Ideal S1x352x1024 .f32)

theorem g_block : out0_A_4 (F := Ideal) c i a1 h1 a2 h2 a3 h3 a4 h4 a9 h9 a10 h10 a11 h11 a12 h12 x0 x1 x2 x3 = k0_pay4 (total x1) := by
  unfold out0_A_4 kernelRun0_A
  dsimp only
  sl_unfold_words
  rw [View.read_writes_full]
  simp only [View.readAt_eq_ld, h1.read_unread, h2.read_unread, h3.read_unread, h4.read_unread, View.ld_unit_zero (S := S1x352x1024) hz3,
    ld_piece x1 0 (by decide), ld_piece x1 1 (by decide), ld_piece x1 2 (by decide), ld_piece x1 3 (by decide), ld_piece x1 4 (by decide), ld_piece x1 5 (by decide), ld_piece x1 6 (by decide), ld_piece x1 7 (by decide)]
  rfl

theorem w_block : out0_A_5 (F := Ideal) c i a1 h1 a2 h2 a3 h3 a4 h4 a9 h9 a10 h10 a11 h11 a12 h12 x0 x1 x2 x3 = k0_pay7 (total x1) x0 x2 x3 := by
  unfold out0_A_5 kernelRun0_A
  dsimp only
  sl_unfold_words
  rw [View.read_writes_full]
  simp only [View.readAt_eq_ld, h1.read_unread, h2.read_unread, h3.read_unread, h4.read_unread, View.ld_unit_zero (S := S1x352x1024) hz3,
    ld_piece x1 0 (by decide), ld_piece x1 1 (by decide), ld_piece x1 2 (by decide), ld_piece x1 3 (by decide), ld_piece x1 4 (by decide), ld_piece x1 5 (by decide), ld_piece x1 6 (by decide), ld_piece x1 7 (by decide)]
  rfl

theorem m_block : out0_A_6 (F := Ideal) c i a1 h1 a2 h2 a3 h3 a4 h4 a9 h9 a10 h10 a11 h11 a12 h12 x0 x1 x2 x3 = k0_pay1 (k0_pay5 (total x1) x2) := by
  unfold out0_A_6 kernelRun0_A
  dsimp only
  sl_unfold_words
  rw [View.read_writes_full]
  simp only [View.readAt_eq_ld, h1.read_unread, h2.read_unread, h3.read_unread, h4.read_unread, View.ld_unit_zero (S := S1x352x1024) hz3,
    ld_piece x1 0 (by decide), ld_piece x1 1 (by decide), ld_piece x1 2 (by decide), ld_piece x1 3 (by decide), ld_piece x1 4 (by decide), ld_piece x1 5 (by decide), ld_piece x1 6 (by decide), ld_piece x1 7 (by decide)]
  rfl

theorem v_block : out0_A_7 (F := Ideal) c i a1 h1 a2 h2 a3 h3 a4 h4 a9 h9 a10 h10 a11 h11 a12 h12 x0 x1 x2 x3 = k0_pay2 (k0_pay6 (total x1) x3) := by
  unfold out0_A_7 kernelRun0_A
  dsimp only
  sl_unfold_words
  rw [View.read_writes_full]
  simp only [View.readAt_eq_ld, h1.read_unread, h2.read_unread, h3.read_unread, h4.read_unread, View.ld_unit_zero (S := S1x352x1024) hz3,
    ld_piece x1 0 (by decide), ld_piece x1 1 (by decide), ld_piece x1 2 (by decide), ld_piece x1 3 (by decide), ld_piece x1 4 (by decide), ld_piece x1 5 (by decide), ld_piece x1 6 (by decide), ld_piece x1 7 (by decide)]
  rfl
end

end Cert.AdamLayerIdeal.Blocks

end
-- ==== Proof.AdamLayerFinal.lean ====
/- The optimiser on one layer of a sharded weight: the four arrays after the run. -/
module

public import proofs.«01_k».proof.Proof.AdamLayerValue

@[expose] public section

set_option maxRecDepth 16384

noncomputable section

namespace Cert.AdamLayerIdeal.Blocks

open Cert.AdamLayerIdeal Cert.AdamLayerIdeal.Gen Cert.AdamLayerIdeal.Value Idealize.ShloMosaic Idealize.ShloMosaic.TcCoe Idealize.SL.Sem
open Idealize.ShloMosaic.Pipeline (Dat)
open Cert.AdamSpec

variable (m : (ℓ : Loc nD τ sig) → Buf (Elt Ideal) ℓ) (c : Dev nD)

/-- Which block each window stages at the point. -/
theorem index : ∀ t : Fin grid0.N,
    (win0_0.index t 0 = 0 ∧ win0_0.index t 1 = 0 ∧ win0_0.index t 2 = 0)
    ∧ (win0_1.index t 0 = 0 ∧ win0_1.index t 1 = 2 ∧ win0_1.index t 2 = 0)
    ∧ (win0_2.index t 0 = 0 ∧ win0_2.index t 1 = 0 ∧ win0_2.index t 2 = 0)
    ∧ (win0_3.index t 0 = 0 ∧ win0_3.index t 1 = 0 ∧ win0_3.index t 2 = 0)
    ∧ (win0_4.index t 0 = 0 ∧ win0_4.index t 1 = 0 ∧ win0_4.index t 2 = 0)
    ∧ (win0_5.index t 0 = 0 ∧ win0_5.index t 1 = 0 ∧ win0_5.index t 2 = 0)
    ∧ (win0_6.index t 0 = 0 ∧ win0_6.index t 1 = 0 ∧ win0_6.index t 2 = 0)
    ∧ (win0_7.index t 0 = 0 ∧ win0_7.index t 1 = 0 ∧ win0_7.index t 2 = 0) := by decide +kernel

/-- The grid's only point, which writes every output back. -/
def t0 : Fin cfg0.N := ⟨0, by decide⟩

/-- The arguments' contents. -/
abbrev wV : S4x352x1024.Idx → EReal := m ((c : Thread nD τ).loc main_arg0)
abbrev gV : S8x1056x1024.Idx → EReal := m ((c : Thread nD τ).loc main_arg1)
abbrev mV : S4x352x1024.Idx → EReal := m ((c : Thread nD τ).loc main_arg2)
abbrev vV : S4x352x1024.Idx → EReal := m ((c : Thread nD τ).loc main_arg3)

/-- A row of a device's pieces as a row of the whole buffer. -/
def wide (r : Fin 352) : Fin 1056 := ⟨704 + r.val, by omega⟩

theorem iblk0_apply (t : Fin cfg0.N) (r : Fin 352) (l : Fin 1024) : (iblk m c 0 t : Vec Ideal S1x352x1024 .f32) (ix3 0 r l) = wV m c (ix3 0 r l) := by
  unfold iblk
  rw [View.read_apply]
  refine (congrFun (V_main_arg0 m c) _).trans (congrArg (wV m c) (funext fun a => Fin.ext ?_))
  match a with
  | ⟨0, _⟩ => show win0_0.index t 0 * 1 + 1 * 0 = 0; rw [(index _).1.1]
  | ⟨1, _⟩ => show win0_0.index t 1 * 352 + 1 * r.val = r.val; rw [(index _).1.2.1]; omega
  | ⟨2, _⟩ => show win0_0.index t 2 * 1024 + 1 * l.val = l.val; rw [(index _).1.2.2]; omega

theorem iblk2_apply (t : Fin cfg0.N) (r : Fin 352) (l : Fin 1024) : (iblk m c 2 t : Vec Ideal S1x352x1024 .f32) (ix3 0 r l) = mV m c (ix3 0 r l) := by
  unfold iblk
  rw [View.read_apply]
  refine (congrFun (V_main_arg2 m c) _).trans (congrArg (mV m c) (funext fun a => Fin.ext ?_))
  match a with
  | ⟨0, _⟩ => show win0_2.index t 0 * 1 + 1 * 0 = 0; rw [(index _).2.2.1.1]
  | ⟨1, _⟩ => show win0_2.index t 1 * 352 + 1 * r.val = r.val; rw [(index _).2.2.1.2.1]; omega
  | ⟨2, _⟩ => show win0_2.index t 2 * 1024 + 1 * l.val = l.val; rw [(index _).2.2.1.2.2]; omega

theorem iblk3_apply (t : Fin cfg0.N) (r : Fin 352) (l : Fin 1024) : (iblk m c 3 t : Vec Ideal S1x352x1024 .f32) (ix3 0 r l) = vV m c (ix3 0 r l) := by
  unfold iblk
  rw [View.read_apply]
  refine (congrFun (V_main_arg3 m c) _).trans (congrArg (vV m c) (funext fun a => Fin.ext ?_))
  match a with
  | ⟨0, _⟩ => show win0_3.index t 0 * 1 + 1 * 0 = 0; rw [(index _).2.2.2.1.1]
  | ⟨1, _⟩ => show win0_3.index t 1 * 352 + 1 * r.val = r.val; rw [(index _).2.2.2.1.2.1]; omega
  | ⟨2, _⟩ => show win0_3.index t 2 * 1024 + 1 * l.val = l.val; rw [(index _).2.2.2.1.2.2]; omega

theorem iblk1_apply (t : Fin cfg0.N) (j : Fin 8) (r : Fin 352) (l : Fin 1024) :
    (iblk m c 1 t : Vec Ideal S8x352x1024 .bf16) (ix3 j r l) = gV m c (ix3 j (wide r) l) := by
  unfold iblk
  rw [View.read_apply]
  refine (congrFun (V_main_arg1 m c) _).trans (congrArg (gV m c) (funext fun a => Fin.ext ?_))
  match a with
  | ⟨0, _⟩ => show win0_1.index t 0 * 8 + 1 * j.val = j.val; rw [(index _).2.1.1]; omega
  | ⟨1, _⟩ => show win0_1.index t 1 * 352 + 1 * r.val = 704 + r.val; rw [(index _).2.1.2.1]; omega
  | ⟨2, _⟩ => show win0_1.index t 2 * 1024 + 1 * l.val = l.val; rw [(index _).2.1.2.2]; omega

section
variable (w mo v : S4x352x1024.Idx → EReal) (g : S8x1056x1024.Idx → EReal) (r : Fin 352) (l : Fin 1024)

/-- The first layer's gradient, the change of its weight and its two moments. -/
def gAt : EReal := ∑ j : Fin 8, g (ix3 j (wide r) l)
def wAt : EReal := upd (w (ix3 0 r l)) (gAt g r l) (mo (ix3 0 r l)) (v (ix3 0 r l))
def mAt : EReal := nm (gAt g r l) (mo (ix3 0 r l))
def vAt : EReal := nv (gAt g r l) (v (ix3 0 r l))
end

/-- A stacked array with its first layer replaced. -/
def putFirst (o : S4x352x1024.Idx → EReal) (f : Fin 352 → Fin 1024 → EReal) : S4x352x1024.Idx → EReal :=
  fun i => if (i 0).val = 0 then f (i 1) (i 2) else o i

theorem gsum_at (t : Fin cfg0.N) (r : Fin 352) (l : Fin 1024) : (total (iblk m c 1 t) : S352x1024.Idx → EReal) (ix2 r l) = gAt (gV m c) r l := by
  rw [total_apply]
  exact Finset.sum_congr rfl fun j _ => iblk1_apply m c t j r l

theorem g_point (t : Fin cfg0.N) (r : Fin 352) (l : Fin 1024) : ((outsAt0 m c t).1 : S1x352x1024.Idx → EReal) (ix3 0 r l) = gAt (gV m c) r l := by
  unfold outsAt0
  dsimp only
  rw [g_block]
  rw [pay4_apply, gsum_at]

/-- Output 0 after the run: its first layer replaced. -/
theorem final_g : ((dats m 0 c).arrAt 4 cfg0.N : S4x352x1024.Idx → EReal) = putFirst (m ((c : Thread nD τ).loc main_arg4)) (gAt (gV m c)) := by
  funext i
  obtain ⟨a, r, l, rfl⟩ : ∃ (a : Fin 4) (r : Fin 352) (l : Fin 1024), i = ix3 a r l := ⟨i 0, i 1, i 2, eq_ix3 i⟩
  by_cases h : a = 0
  · subst h
    have he : ((cfg0.win 4).blk t0).view.emb (ix3 0 r l) = (ix3 0 r l : S4x352x1024.Idx) := by
      funext k
      apply Fin.ext
      match k with
      | ⟨0, _⟩ => show win0_4.index t0 0 * 1 + 1 * 0 = 0; rw [(index _).2.2.2.2.1.1]
      | ⟨1, _⟩ => show win0_4.index t0 1 * 352 + 1 * r.val = r.val; rw [(index _).2.2.2.2.1.2.1]; omega
      | ⟨2, _⟩ => show win0_4.index t0 2 * 1024 + 1 * l.val = l.val; rw [(index _).2.2.2.2.1.2.2]; omega
    have hb := congrFun (blocks4 m c t0 (flush0_4 t0)) (ix3 0 r l : S1x352x1024.Idx)
    rw [View.read_apply, he, flushed4] at hb
    exact hb.trans ((g_point m c t0 r l).trans (if_pos rfl).symm)
  · have hv : a.val ≠ 0 := fun hv => h (Fin.ext hv)
    refine (entry4 m c (ix3 a r l) fun t _ hm => ?_).trans (Eq.trans ?_ (if_neg hv).symm)
    · have hm' : (ix3 a r l : S4x352x1024.Idx) ∈ ((View.whole main_v0_0).slice (win0_4.rect t)).set := hm
      rw [View.set_slice_whole, Rect.mem_set_unit] at hm'
      have h0 : a.val < win0_4.index t 0 * 1 + 1 := (hm' 0).2
      rw [(index _).2.2.2.2.1.1] at h0
      omega
    · show (V m c main_v0_0 : S4x352x1024.Idx → EReal) (ix3 a r l) = _
      simp only [V, hostOps0]
      after_reads_simp
      rfl

theorem w_point (t : Fin cfg0.N) (r : Fin 352) (l : Fin 1024) : ((outsAt0 m c t).2.1 : S1x352x1024.Idx → EReal) (ix3 0 r l) = wAt (wV m c) (mV m c) (vV m c) (gV m c) r l := by
  unfold outsAt0
  dsimp only
  rw [w_block]
  rw [pay7_apply, gsum_at, iblk0_apply, iblk2_apply, iblk3_apply]
  rfl

/-- Output 1 after the run: its first layer replaced. -/
theorem final_w : ((dats m 0 c).arrAt 5 cfg0.N : S4x352x1024.Idx → EReal) = putFirst (m ((c : Thread nD τ).loc main_arg5)) (wAt (wV m c) (mV m c) (vV m c) (gV m c)) := by
  funext i
  obtain ⟨a, r, l, rfl⟩ : ∃ (a : Fin 4) (r : Fin 352) (l : Fin 1024), i = ix3 a r l := ⟨i 0, i 1, i 2, eq_ix3 i⟩
  by_cases h : a = 0
  · subst h
    have he : ((cfg0.win 5).blk t0).view.emb (ix3 0 r l) = (ix3 0 r l : S4x352x1024.Idx) := by
      funext k
      apply Fin.ext
      match k with
      | ⟨0, _⟩ => show win0_5.index t0 0 * 1 + 1 * 0 = 0; rw [(index _).2.2.2.2.2.1.1]
      | ⟨1, _⟩ => show win0_5.index t0 1 * 352 + 1 * r.val = r.val; rw [(index _).2.2.2.2.2.1.2.1]; omega
      | ⟨2, _⟩ => show win0_5.index t0 2 * 1024 + 1 * l.val = l.val; rw [(index _).2.2.2.2.2.1.2.2]; omega
    have hb := congrFun (blocks5 m c t0 (flush0_5 t0)) (ix3 0 r l : S1x352x1024.Idx)
    rw [View.read_apply, he, flushed5] at hb
    exact hb.trans ((w_point m c t0 r l).trans (if_pos rfl).symm)
  · have hv : a.val ≠ 0 := fun hv => h (Fin.ext hv)
    refine (entry5 m c (ix3 a r l) fun t _ hm => ?_).trans (Eq.trans ?_ (if_neg hv).symm)
    · have hm' : (ix3 a r l : S4x352x1024.Idx) ∈ ((View.whole main_v0_1).slice (win0_5.rect t)).set := hm
      rw [View.set_slice_whole, Rect.mem_set_unit] at hm'
      have h0 : a.val < win0_5.index t 0 * 1 + 1 := (hm' 0).2
      rw [(index _).2.2.2.2.2.1.1] at h0
      omega
    · show (V m c main_v0_1 : S4x352x1024.Idx → EReal) (ix3 a r l) = _
      simp only [V, hostOps0]
      after_reads_simp
      rfl

theorem m_point (t : Fin cfg0.N) (r : Fin 352) (l : Fin 1024) : ((outsAt0 m c t).2.2.1 : S1x352x1024.Idx → EReal) (ix3 0 r l) = mAt (mV m c) (gV m c) r l := by
  unfold outsAt0
  dsimp only
  rw [m_block]
  rw [pay1_apply, pay5_apply, gsum_at, iblk2_apply]
  rfl

/-- Output 2 after the run: its first layer replaced. -/
theorem final_m : ((dats m 0 c).arrAt 6 cfg0.N : S4x352x1024.Idx → EReal) = putFirst (m ((c : Thread nD τ).loc main_arg6)) (mAt (mV m c) (gV m c)) := by
  funext i
  obtain ⟨a, r, l, rfl⟩ : ∃ (a : Fin 4) (r : Fin 352) (l : Fin 1024), i = ix3 a r l := ⟨i 0, i 1, i 2, eq_ix3 i⟩
  by_cases h : a = 0
  · subst h
    have he : ((cfg0.win 6).blk t0).view.emb (ix3 0 r l) = (ix3 0 r l : S4x352x1024.Idx) := by
      funext k
      apply Fin.ext
      match k with
      | ⟨0, _⟩ => show win0_6.index t0 0 * 1 + 1 * 0 = 0; rw [(index _).2.2.2.2.2.2.1.1]
      | ⟨1, _⟩ => show win0_6.index t0 1 * 352 + 1 * r.val = r.val; rw [(index _).2.2.2.2.2.2.1.2.1]; omega
      | ⟨2, _⟩ => show win0_6.index t0 2 * 1024 + 1 * l.val = l.val; rw [(index _).2.2.2.2.2.2.1.2.2]; omega
    have hb := congrFun (blocks6 m c t0 (flush0_6 t0)) (ix3 0 r l : S1x352x1024.Idx)
    rw [View.read_apply, he, flushed6] at hb
    exact hb.trans ((m_point m c t0 r l).trans (if_pos rfl).symm)
  · have hv : a.val ≠ 0 := fun hv => h (Fin.ext hv)
    refine (entry6 m c (ix3 a r l) fun t _ hm => ?_).trans (Eq.trans ?_ (if_neg hv).symm)
    · have hm' : (ix3 a r l : S4x352x1024.Idx) ∈ ((View.whole main_v0_2).slice (win0_6.rect t)).set := hm
      rw [View.set_slice_whole, Rect.mem_set_unit] at hm'
      have h0 : a.val < win0_6.index t 0 * 1 + 1 := (hm' 0).2
      rw [(index _).2.2.2.2.2.2.1.1] at h0
      omega
    · show (V m c main_v0_2 : S4x352x1024.Idx → EReal) (ix3 a r l) = _
      simp only [V, hostOps0]
      after_reads_simp
      rfl

theorem v_point (t : Fin cfg0.N) (r : Fin 352) (l : Fin 1024) : ((outsAt0 m c t).2.2.2 : S1x352x1024.Idx → EReal) (ix3 0 r l) = vAt (vV m c) (gV m c) r l := by
  unfold outsAt0
  dsimp only
  rw [v_block]
  rw [pay2_apply, pay6_apply, gsum_at, iblk3_apply]
  rfl

/-- Output 3 after the run: its first layer replaced. -/
theorem final_v : ((dats m 0 c).arrAt 7 cfg0.N : S4x352x1024.Idx → EReal) = putFirst (m ((c : Thread nD τ).loc main_arg7)) (vAt (vV m c) (gV m c)) := by
  funext i
  obtain ⟨a, r, l, rfl⟩ : ∃ (a : Fin 4) (r : Fin 352) (l : Fin 1024), i = ix3 a r l := ⟨i 0, i 1, i 2, eq_ix3 i⟩
  by_cases h : a = 0
  · subst h
    have he : ((cfg0.win 7).blk t0).view.emb (ix3 0 r l) = (ix3 0 r l : S4x352x1024.Idx) := by
      funext k
      apply Fin.ext
      match k with
      | ⟨0, _⟩ => show win0_7.index t0 0 * 1 + 1 * 0 = 0; rw [(index _).2.2.2.2.2.2.2.1]
      | ⟨1, _⟩ => show win0_7.index t0 1 * 352 + 1 * r.val = r.val; rw [(index _).2.2.2.2.2.2.2.2.1]; omega
      | ⟨2, _⟩ => show win0_7.index t0 2 * 1024 + 1 * l.val = l.val; rw [(index _).2.2.2.2.2.2.2.2.2]; omega
    have hb := congrFun (blocks7 m c t0 (flush0_7 t0)) (ix3 0 r l : S1x352x1024.Idx)
    rw [View.read_apply, he, flushed7] at hb
    exact hb.trans ((v_point m c t0 r l).trans (if_pos rfl).symm)
  · have hv : a.val ≠ 0 := fun hv => h (Fin.ext hv)
    refine (entry7 m c (ix3 a r l) fun t _ hm => ?_).trans (Eq.trans ?_ (if_neg hv).symm)
    · have hm' : (ix3 a r l : S4x352x1024.Idx) ∈ ((View.whole main_v0_3).slice (win0_7.rect t)).set := hm
      rw [View.set_slice_whole, Rect.mem_set_unit] at hm'
      have h0 : a.val < win0_7.index t 0 * 1 + 1 := (hm' 0).2
      rw [(index _).2.2.2.2.2.2.2.1] at h0
      omega
    · show (V m c main_v0_3 : S4x352x1024.Idx → EReal) (ix3 a r l) = _
      simp only [V, hostOps0]
      after_reads_simp
      rfl

end Cert.AdamLayerIdeal.Blocks

end
-- ==== Proof.AdamLayerRef.lean ====
/- The optimiser on one layer of a sharded weight: the reference's results. -/
module

public import proofs.«01_k».proof.Proof.AdamLayerFinal
public import proofs.«01_k».proof.Proof.Gen.AdamLayerRefIdeal.Run
public import proofs.«01_k».proof.Proof.Gen.AdamLayerRefIdeal.Read

@[expose] public section

set_option maxRecDepth 16384

noncomputable section

namespace Cert.AdamLayerRefIdeal.At

open Cert.AdamLayerRefIdeal Cert.AdamLayerRefIdeal.Read Idealize.ShloMosaic Idealize.ShloMosaic.TcCoe Cert.AdamSpec
open Cert.AdamLayerIdeal.Blocks (wide gAt wAt mAt vAt putFirst)

variable (w mo v o : S4x352x1024.Idx → EReal) (g : S8x1056x1024.Idx → EReal) (r : Fin 352) (l : Fin 1024)

/-- The pieces' sum, the two moments and the change, each at one index. -/
theorem v2_at : (val_main_v2 (F := Ideal) g : S352x1024.Idx → EReal) (ix2 r l) = gAt g r l := by
  pointwise [val_main_v2, val_main_v1, val_main_v0]
  rw [val_main_cst_apply, Ideal.ofBits_def, Ideal.ofBits_zero_f32, zero_add]
  rfl

theorem v13_at : (val_main_v13 (F := Ideal) g mo : S352x1024.Idx → EReal) (ix2 r l) = mAt mo g r l := by
  unfold mAt
  rw [← v2_at]
  pointwise [val_main_v13, val_main_v12, val_main_v11, val_main_v10, val_main_v9, val_main_v6, val_main_v5, val_main_cst_0, val_main_cst_1]
  rfl

theorem v19_at : (val_main_v19 (F := Ideal) g v : S352x1024.Idx → EReal) (ix2 r l) = vAt v g r l := by
  unfold vAt
  rw [← v2_at]
  pointwise [val_main_v19, val_main_v18, val_main_v17, val_main_v16, val_main_v15, val_main_v14, val_main_v8, val_main_v7, val_main_cst_2, val_main_cst_3]
  rfl

theorem v32_at : (val_main_v32 (F := Ideal) w g mo v : S352x1024.Idx → EReal) (ix2 r l) = wAt w mo v g r l := by
  unfold wAt
  rw [← upd_eq, ← show _ = nm (gAt g r l) (mo (ix3 0 r l)) from v13_at mo g r l, ← show _ = nv (gAt g r l) (v (ix3 0 r l)) from v19_at v g r l]
  pointwise [val_main_v32, val_main_v31, val_main_v30, val_main_v29, val_main_v28, val_main_v27, val_main_v26, val_main_v25, val_main_v24, val_main_v23, val_main_v22, val_main_v21, val_main_v20, val_main_v4, val_main_v3, val_main_cst_4, val_main_cst_5, val_main_cst_6, val_main_cst_7, val_main_cst_8]
  rfl

/-- A layer set before the other three is the array with its first layer replaced. -/
theorem put_at (x : S352x1024.Idx → EReal) (f : Fin 352 → Fin 1024 → EReal) (hx : ∀ r l, x (ix2 r l) = f r l) :
    (concatenate S4x352x1024 0 [⟨S1x352x1024, (broadcastInDim S1x352x1024 ![1, 2] Gen.bcast_S352x1024_S1x352x1024_1_2 x)⟩,
      ⟨S3x352x1024, (extractStridedSlice S3x352x1024 ![1, 0, 0] o Gen.slices_S4x352x1024_S3x352x1024_1_0_0)⟩] Gen.concatenates_S1x352x1024_S3x352x1024_S4x352x1024_d0
      : S4x352x1024.Idx → EReal) = putFirst o f := by
  funext i
  obtain ⟨a, r, l, rfl⟩ : ∃ (a : Fin 4) (r : Fin 352) (l : Fin 1024), i = ix3 a r l := ⟨i 0, i 1, i 2, eq_ix3 i⟩
  pointwise []
  unfold putFirst
  by_cases h : a.val = 0
  · rw [dif_pos (by omega), hx]
    exact (if_pos h).symm
  · rw [dif_neg (by omega)]
    refine Eq.trans ?_ (if_neg h).symm
    refine congrArg o (funext fun k => Fin.ext ?_)
    match k with
    | ⟨0, _⟩ => show 1 + (a.val - 1) = a.val; omega
    | ⟨1, _⟩ => rfl
    | ⟨2, _⟩ => rfl

theorem v35_eq : (val_main_v35 (F := Ideal) g o : S4x352x1024.Idx → EReal) = putFirst o (gAt g) := put_at o _ _ (v2_at g)

theorem v38_eq : (val_main_v38 (F := Ideal) w g mo v o : S4x352x1024.Idx → EReal) = putFirst o (wAt w mo v g) := put_at o _ _ (v32_at w mo v g)

theorem v41_eq : (val_main_v41 (F := Ideal) g mo o : S4x352x1024.Idx → EReal) = putFirst o (mAt mo g) := put_at o _ _ (v13_at mo g)

theorem v44_eq : (val_main_v44 (F := Ideal) g v o : S4x352x1024.Idx → EReal) = putFirst o (vAt v g) := put_at o _ _ (v19_at v g)

end Cert.AdamLayerRefIdeal.At

end
-- ==== Proof.AdamLayerClaim.lean ====
/- The claims about the optimiser on one layer of a sharded weight: the two frames of the kernel, the reference's, the named constants, and the value. -/
module

public import proofs.«01_k».proof.Defs
public import proofs.«01_k».proof.Proof.Gen.AdamLayer.Frame
public import proofs.«01_k».proof.Proof.AdamLayerFinal
public import proofs.«01_k».proof.Proof.AdamLayerRef
public import Idealize.ShloMosaic.Lib.Quiescent

@[expose] public section

noncomputable section

namespace Cert.AdamLayerClaim

open Idealize.ShloMosaic Idealize.ShloMosaic.TcCoe Idealize.SL.Sem Cert.AdamLayerIdeal.Blocks

/-- The kernel's results and the reference's are the same four arrays. -/
theorem value : Cert.algebraic_AdamLayerIdeal_AdamLayerRefIdeal
    (hAdamLayerIdeal := Cert.AdamLayerIdeal.Gen.facts) (hAdamLayerRefIdeal := Cert.AdamLayerRefIdeal.Gen.facts) := by
  intro m g m' g' _ hm
  refine ⟨_, _, _, _, (θ_run Cert.AdamLayerIdeal.defs _ _).mono (fun r h c => ⟨(h c).1.trans (final_g m c), (h c).2.1.trans (final_w m c),
    (h c).2.2.1.trans (final_m m c), (h c).2.2.2.1.trans (final_v m c), (h c).2.2.2.2⟩) (Cert.AdamLayerIdeal.Value.run_blocks m g), ?_⟩
  refine (θ_run Cert.AdamLayerRefIdeal.defs _ _).mono (fun r h c => ⟨?_, ?_, ?_, ?_, (h c).2.2.2.2⟩) (Cert.AdamLayerRefIdeal.Value.run m' g')
  · refine (h c).1.trans ((Cert.AdamLayerRefIdeal.Read.val_main_v35_eq _ _).trans ?_)
    rw [(hm c).2.1, (hm c).2.2.2.2.1]
    exact Cert.AdamLayerRefIdeal.At.v35_eq _ _
  · refine (h c).2.1.trans ((Cert.AdamLayerRefIdeal.Read.val_main_v38_eq _ _ _ _ _).trans ?_)
    rw [(hm c).1, (hm c).2.1, (hm c).2.2.1, (hm c).2.2.2.1, (hm c).2.2.2.2.2.1]
    exact Cert.AdamLayerRefIdeal.At.v38_eq _ _ _ _ _
  · refine (h c).2.2.1.trans ((Cert.AdamLayerRefIdeal.Read.val_main_v41_eq _ _ _).trans ?_)
    rw [(hm c).2.1, (hm c).2.2.1, (hm c).2.2.2.2.2.2.1]
    exact Cert.AdamLayerRefIdeal.At.v41_eq _ _ _
  · refine (h c).2.2.2.1.trans ((Cert.AdamLayerRefIdeal.Read.val_main_v44_eq _ _ _).trans ?_)
    rw [(hm c).2.1, (hm c).2.2.2.1, (hm c).2.2.2.2.2.2.2]
    exact Cert.AdamLayerRefIdeal.At.v44_eq _ _ _

/-- The kernel's frame, on words. -/
theorem frame : Cert.quiescent_AdamLayer (hAdamLayer := Cert.AdamLayer.Gen.facts) := fun m ρ _ => Cert.AdamLayer.Gen.frame m ρ

/-- The kernel's frame, over the extended reals. -/
theorem frame_ideal : Cert.quiescent_AdamLayerIdeal (hAdamLayerIdeal := Cert.AdamLayerIdeal.Gen.facts) := fun m ρ _ => Cert.AdamLayerIdeal.Gen.frame m ρ

/-- The reference's frame. -/
theorem frame_ref : Cert.quiescent_AdamLayerRefIdeal (hAdamLayerRefIdeal := Cert.AdamLayerRefIdeal.Gen.facts) := fun m ρ _ =>
  (θ_run Cert.AdamLayerRefIdeal.defs _ _).mono (fun r h => ⟨fun c => (h c).2.2.2.2, sem_eq_zero_of_no_sems (by decide) r.2⟩)
    (Cert.AdamLayerRefIdeal.Value.run (F := Ideal) m ρ)

/-- The two named constants' words round the reciprocals of the reference's two literals. -/
theorem preserves : Cert.preserves_AdamLayer_AdamLayerIdeal :=
  ⟨IdealRules.named_const.statement Cert.AdamLayerIdeal.κ "bc1" .f32 0x3FC48605#32 (((5463681 / 8388608)⁻¹ : ℝ) : EReal) rfl,
    IdealRules.named_const.statement Cert.AdamLayerIdeal.κ "bc2" .f32 0x42C8E6D3#32 (((2672307 / 268435456)⁻¹ : ℝ) : EReal) rfl⟩

end Cert.AdamLayerClaim

end
-- ==== Proof.TnBlocks.lean ====
/- The even layers' input weight gradient: what the accumulator and the output block hold. -/
module

public import proofs.«01_k».proof.Proof.Gen.TnIdeal.Value
public import Idealize.ShloMosaic.Lib.VecWindow
public import Idealize.ShloMosaic.Lib.Pointwise

@[expose] public section

set_option maxRecDepth 16384

noncomputable section

namespace Cert.TnIdeal.Blocks

open Cert.TnIdeal Cert.TnIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ)

theorem hz2 : (![0, 0] : Fin 2 → Nat) = fun _ => 0 := by decide
theorem hz4 : (![0, 0, 0, 0] : Fin 4 → Nat) = fun _ => 0 := by decide

/-- A load of the whole accumulator after a store of the whole of it, whatever was stored before. -/
theorem cov_acc {sig : RefSig} {κ : Kind} {sp : Space} (v : View sig κ sp S3584x1024 .f32) (x : Vec F S3584x1024 .f32)
    (inb inb' : ∀ a, (![0, 0] : Fin 2 → Nat) a + (![3584, 1024] : Fin 2 → Nat) a ≤ S3584x1024.size a) (L : List (View.Piece (Elt F) S3584x1024 .f32)) :
    v.readCov ((⟨Rect.unit (s := S3584x1024) ![0, 0] ![3584, 1024] inb', x⟩ : View.Piece (Elt F) S3584x1024 .f32) :: L)
      (Rect.unit (s := S3584x1024) ![0, 0] ![3584, 1024] inb).toLoadRect = x := by
  unfold View.readCov
  rw [View.readAt_eq_ld]
  refine (View.ld_unit_zero (S := S3584x1024) hz2 _ _).trans ?_
  exact View.read_writes_full v v.junk (s := S3584x1024) inb' x L

section
variable (c : Dev nD) (i : grid0.Coords) (a1 : Memref sig .tc .vmem S1024x3584 .bf16) (h1 : a1.IsWhole)
    (a2 : Memref sig .tc .vmem S1024x1024 .bf16) (h2 : a2.IsWhole) (a4 : Memref sig .tc .vmem S8x1x448x1024 .bf16) (h4 : a4.IsWhole)
    (a5 : Memref sig .tc .vmem S3584x1024 .f32) (h5 : a5.IsWhole)
    (x0 : Vec F S1024x3584 .bf16) (x1 : Vec F S1024x1024 .bf16)

/-- The first point leaves the first tile's product over zero. -/
theorem acc_A (hc : cond0_0 i) (hd : ¬cond0_1 i) : sout0_A_0 c i a1 h1 a2 h2 a4 h4 a5 h5 hc hd x0 x1 = k0_pay2 (k0_pay1 (F := F)) x0 x1 := by
  unfold sout0_A_0 kernelRun0_A
  dsimp only
  sl_unfold_words
  rw [View.read_writes_full]
  simp only [View.readAt_eq_ld, h1.read_unread, h2.read_unread, View.ld_unit_zero (S := S1024x3584) hz2, View.ld_unit_zero (S := S1024x1024) hz2, cov_acc]

/-- A middle point adds its tile's product. -/
theorem acc_B (hc : ¬cond0_0 i) (hd : ¬cond0_1 i) (xs : Vec F S3584x1024 .f32) :
    sout0_B_0 c i a1 h1 a2 h2 a4 h4 a5 h5 hc hd x0 x1 xs = k0_pay2 xs x0 x1 := by
  unfold sout0_B_0 kernelRun0_B
  dsimp only
  sl_unfold_words
  rw [View.read_writes_full]
  simp only [View.readAt_eq_ld, h1.read_unread, h2.read_unread, h5.read_unread, View.ld_unit_zero (S := S1024x3584) hz2,
    View.ld_unit_zero (S := S1024x1024) hz2, View.ld_unit_zero (S := S3584x1024) hz2]

/-- The last point stores the sum with its own tile's product. -/
theorem out_C (hc : ¬cond0_0 i) (hd : cond0_1 i) (xs : Vec F S3584x1024 .f32) :
    out0_C_2 c i a1 h1 a2 h2 a4 h4 a5 h5 hc hd x0 x1 xs = k0_pay3 (k0_pay2 xs x0 x1) := by
  unfold out0_C_2 kernelRun0_C
  dsimp only
  sl_unfold_words
  rw [View.read_writes_full]
  simp only [View.readAt_eq_ld, h1.read_unread, h2.read_unread, h5.read_unread, View.ld_unit_zero (S := S1024x3584) hz2,
    View.ld_unit_zero (S := S1024x1024) hz2, View.ld_unit_zero (S := S3584x1024) hz2, cov_acc]
end

/-- The accumulator after point `n`. -/
def chain (c : Dev nD) : (n : ℕ) → n < cfg0.N → Vec F S3584x1024 .f32
  | 0, h => k0_pay2 (k0_pay1 (F := F)) (iblk m c 0 ⟨0, h⟩) (iblk m c 1 ⟨0, h⟩)
  | n + 1, h => k0_pay2 (chain c n (Nat.lt_of_succ_lt h)) (iblk m c 0 ⟨n + 1, h⟩) (iblk m c 1 ⟨n + 1, h⟩)

/-- Before the last point the carried scratch is the chain. -/
theorem acc_at (c : Dev nD) : ∀ (n : ℕ) (h : n < cfg0.N), n < 3 → (outsAt0 m c n h).2 = chain m c n h
  | 0, h, _ => by rw [show outsAt0 m c 0 h = _ from outsAt0_A m c ⟨0, h⟩ rfl (show ¬(0 : ℕ) % 4 = 3 by decide)]; dsimp only; rw [acc_A]; rfl
  | n + 1, h, h3 => by
    rw [show outsAt0 m c (n + 1) h = _ from outsAt0_B m c ⟨n + 1, h⟩ (by show ¬(n + 1) % 4 = 0; omega) (by show ¬(n + 1) % 4 = 3; omega)]
    dsimp only
    rw [acc_B]
    simp only [Nat.add_sub_cancel, acc_at c n _ (by omega), chain]

/-- The output block after the last point. -/
theorem out_last (c : Dev nD) (h : 3 < cfg0.N) : (outsAt0 m c 3 h).1 = k0_pay3 (chain m c 3 h) := by
  rw [show outsAt0 m c 3 h = _ from outsAt0_C m c ⟨3, h⟩ (show ¬(3 : ℕ) % 4 = 0 by decide) rfl]
  dsimp only
  rw [out_C]
  show k0_pay3 (k0_pay2 (outsAt0 m c 2 _).2 _ _) = _
  rw [acc_at m c 2 _ (by decide)]
  rfl

/-- Zero, one tile's product over what is carried, and the stored block, each at one index. -/
theorem pay1_apply (r : Fin 3584) (l : Fin 1024) : (k0_pay1 (F := Ideal) : S3584x1024.Idx → EReal) (ix2 r l) = 0 := by
  pointwise [k0_pay1]

theorem pay2_apply (v : S3584x1024.Idx → EReal) (x : S1024x3584.Idx → EReal) (y : S1024x1024.Idx → EReal) (r : Fin 3584) (l : Fin 1024) :
    (k0_pay2 (F := Ideal) v x y : S3584x1024.Idx → EReal) (ix2 r l) = v (ix2 r l) + ∑ k : Fin 1024, x (ix2 k r) * y (ix2 k l) := by
  pointwise [k0_pay2]

theorem pay3_apply (v : S3584x1024.Idx → EReal) (a : Fin 8) (b : Fin 448) (l : Fin 1024) :
    (k0_pay3 (F := Ideal) v : S8x1x448x1024.Idx → EReal) (ix4 a 0 b l) = v (ix2 ⟨a.val * 448 + b.val, by omega⟩ l) := by
  pointwise [k0_pay3]

end Cert.TnIdeal.Blocks

end
-- ==== Proof.TnValue.lean ====
/- The even layers' input weight gradient equals the plain product. -/
module

public import proofs.«01_k».proof.Proof.TnBlocks
public import proofs.«01_k».proof.Proof.Gen.TnRefIdeal.Read

@[expose] public section

set_option maxRecDepth 16384

noncomputable section

namespace Cert.TnIdeal.Blocks

open Cert.TnIdeal Cert.TnIdeal.Gen Idealize.ShloMosaic Idealize.ShloMosaic.TcCoe Idealize.SL.Sem
open Idealize.ShloMosaic.Pipeline (Dat)

variable (m : (ℓ : Loc nD τ sig) → Buf (Elt Ideal) ℓ) (c : Dev nD)

/-- Which block each window stages at a point. -/
theorem index0 : ∀ t : Fin grid0.N, win0_0.index t 0 = t.val ∧ win0_0.index t 1 = 0 := by decide +kernel
theorem index1 : ∀ t : Fin grid0.N, win0_1.index t 0 = t.val ∧ win0_1.index t 1 = 0 := by decide +kernel
theorem index2 : ∀ t : Fin grid0.N, win0_2.index t 0 = 0 ∧ win0_2.index t 1 = 0 ∧ win0_2.index t 2 = 0 ∧ win0_2.index t 3 = 0 := by decide +kernel

/-- A tile's row as a row of the whole. -/
def row (t : Fin cfg0.N) (r : Fin 1024) : Fin 4096 := ⟨t.val * 1024 + r.val, by have := lt_of_lt_of_eq t.isLt N_0; omega⟩

/-- The arguments' contents. -/
abbrev dV : S4096x3584.Idx → EReal := m ((c : Thread nD τ).loc main_arg0)
abbrev xV : S4096x1024.Idx → EReal := m ((c : Thread nD τ).loc main_arg1)

theorem iblk0_apply (t : Fin cfg0.N) (r : Fin 1024) (l : Fin 3584) :
    (iblk m c 0 t : Vec Ideal S1024x3584 .bf16) (ix2 r l) = dV m c (ix2 (row t r) l) := by
  unfold iblk
  rw [View.read_apply]
  refine (congrFun (V_main_arg0 m c) _).trans (congrArg (dV m c) (funext fun a => Fin.ext ?_))
  match a with
  | ⟨0, _⟩ => show win0_0.index t 0 * 1024 + 1 * r.val = t.val * 1024 + r.val; rw [(index0 t).1]; omega
  | ⟨1, _⟩ => show win0_0.index t 1 * 3584 + 1 * l.val = l.val; rw [(index0 t).2]; omega

theorem iblk1_apply (t : Fin cfg0.N) (r : Fin 1024) (l : Fin 1024) :
    (iblk m c 1 t : Vec Ideal S1024x1024 .bf16) (ix2 r l) = xV m c (ix2 (row t r) l) := by
  unfold iblk
  rw [View.read_apply]
  refine (congrFun (V_main_arg1 m c) _).trans (congrArg (xV m c) (funext fun a => Fin.ext ?_))
  match a with
  | ⟨0, _⟩ => show win0_1.index t 0 * 1024 + 1 * r.val = t.val * 1024 + r.val; rw [(index1 t).1]; omega
  | ⟨1, _⟩ => show win0_1.index t 1 * 1024 + 1 * l.val = l.val; rw [(index1 t).2]; omega

/-- One tile's product. -/
def share (r : Fin 3584) (l : Fin 1024) (n : Fin 4) : EReal :=
  ∑ k : Fin 1024, dV m c (ix2 ⟨n.val * 1024 + k.val, by omega⟩ r) * xV m c (ix2 ⟨n.val * 1024 + k.val, by omega⟩ l)

theorem pay2_share (t : Fin cfg0.N) (v : S3584x1024.Idx → EReal) (r : Fin 3584) (l : Fin 1024) :
    (k0_pay2 (F := Ideal) v (iblk m c 0 t) (iblk m c 1 t) : S3584x1024.Idx → EReal) (ix2 r l)
      = v (ix2 r l) + share m c r l ⟨t.val, lt_of_lt_of_eq t.isLt N_0⟩ := by
  rw [pay2_apply]
  simp only [iblk0_apply, iblk1_apply]
  rfl

/-- The accumulator after point `n` is the sum of the tiles' products so far. -/
theorem chain_apply (r : Fin 3584) (l : Fin 1024) : ∀ (n : ℕ) (h : n < cfg0.N), (chain m c n h : S3584x1024.Idx → EReal) (ix2 r l)
    = ∑ q : Fin (n + 1), share m c r l ⟨q.val, by have := q.isLt; have : cfg0.N = 4 := N_0; omega⟩
  | 0, h => by
    refine (pay2_share m c ⟨0, h⟩ _ r l).trans ?_
    rw [pay1_apply, zero_add]
    simp
  | n + 1, h => by
    refine (pay2_share m c ⟨n + 1, h⟩ _ r l).trans ?_
    rw [chain_apply r l n, Fin.sum_univ_castSucc (n := n + 1)]
    rfl

/-- The product of the transposed cotangent with the input, its rows in eight parts. -/
def prod (d : S4096x3584.Idx → EReal) (x : S4096x1024.Idx → EReal) : S8x1x448x1024.Idx → EReal := fun i =>
  ∑ k : Fin 4096, d (ix2 k ⟨(i 0).val * 448 + (i 2).val, by have h0 : (i 0).val < 8 := (i 0).isLt; have h2 : (i 2).val < 448 := (i 2).isLt; omega⟩) * x (ix2 k (i 3))

/-- The array after the run. -/
theorem final : ((dats m 0 c).arrAt 2 cfg0.N : S8x1x448x1024.Idx → EReal) = prod (dV m c) (xV m c) := by
  have hN : cfg0.N = 4 := N_0
  have hlt : 3 < cfg0.N := by omega
  refine (dats m 0 c).arrAt_eq_of_cover 2 _ (fun t hf => ?_) fun (i : S8x1x448x1024.Idx) => ?_
  · have h3 : t = ⟨3, hlt⟩ := Fin.ext (by have := (flush0_2 t).mp hf; have := t.isLt; show t.val = 3; omega)
    subst h3
    show (cfg0.win 2).cut (grid0.coords _) ((dats m 0 c).after 2 _) = _
    rw [after0_2, out_last]
    funext j
    obtain ⟨a, z, b, l, rfl⟩ : ∃ (a : Fin 8) (z : Fin 1) (b : Fin 448) (l : Fin 1024), j = ix4 a z b l := ⟨j 0, j 1, j 2, j 3, eq_ix4 j⟩
    obtain rfl : z = 0 := Subsingleton.elim _ _
    rw [View.read_apply]
    refine (pay3_apply _ a b l).trans ((chain_apply m c _ l 3 hlt).trans ?_)
    have he : ((cfg0.win 2).blk ⟨3, hlt⟩).view.emb (ix4 a 0 b l) = (ix4 a 0 b l : S8x1x448x1024.Idx) := by
      funext k
      apply Fin.ext
      match k with
      | ⟨0, _⟩ => show win0_2.index ⟨3, hlt⟩ 0 * 8 + 1 * a.val = a.val; rw [(index2 _).1]; omega
      | ⟨1, _⟩ => show win0_2.index ⟨3, hlt⟩ 1 * 1 + 1 * 0 = 0; rw [(index2 _).2.1]
      | ⟨2, _⟩ => show win0_2.index ⟨3, hlt⟩ 2 * 448 + 1 * b.val = b.val; rw [(index2 _).2.2.1]; omega
      | ⟨3, _⟩ => show win0_2.index ⟨3, hlt⟩ 3 * 1024 + 1 * l.val = l.val; rw [(index2 _).2.2.2]; omega
    rw [he]
    unfold prod
    rw [Fin.sum_univ_tiles (N := 4096) 4 1024 (by norm_num)]
    rfl
  · refine ⟨⟨3, hlt⟩, (flush0_2 _).mpr rfl, ?_⟩
    show i ∈ ((View.whole main_v0).slice (win0_2.rect ⟨3, hlt⟩)).set
    rw [View.set_slice_whole, Rect.mem_set_unit]
    intro k
    have h0 : (i 0 : Nat) < 8 := (i 0).isLt
    have h1 : (i 1 : Nat) < 1 := (i 1).isLt
    have h2 : (i 2 : Nat) < 448 := (i 2).isLt
    have h3 : (i 3 : Nat) < 1024 := (i 3).isLt
    match k with
    | ⟨0, _⟩ => show win0_2.index ⟨3, hlt⟩ 0 * 8 ≤ (i 0 : Nat) ∧ (i 0 : Nat) < win0_2.index ⟨3, hlt⟩ 0 * 8 + 8
                rw [(index2 _).1]; omega
    | ⟨1, _⟩ => show win0_2.index ⟨3, hlt⟩ 1 * 1 ≤ (i 1 : Nat) ∧ (i 1 : Nat) < win0_2.index ⟨3, hlt⟩ 1 * 1 + 1
                rw [(index2 _).2.1]; omega
    | ⟨2, _⟩ => show win0_2.index ⟨3, hlt⟩ 2 * 448 ≤ (i 2 : Nat) ∧ (i 2 : Nat) < win0_2.index ⟨3, hlt⟩ 2 * 448 + 448
                rw [(index2 _).2.2.1]; omega
    | ⟨3, _⟩ => show win0_2.index ⟨3, hlt⟩ 3 * 1024 ≤ (i 3 : Nat) ∧ (i 3 : Nat) < win0_2.index ⟨3, hlt⟩ 3 * 1024 + 1024
                rw [(index2 _).2.2.2]; omega

end Cert.TnIdeal.Blocks

namespace Cert.Tn.Ref

open Cert.TnRefIdeal Cert.TnRefIdeal.Gen Cert.TnRefIdeal.Read Idealize.ShloMosaic Idealize.ShloMosaic.TcCoe

/-- The reference's product at one index. -/
theorem ref_val (d : S4096x3584.Idx → EReal) (x : S4096x1024.Idx → EReal) :
    (val_main_v5 (F := Ideal) d x : S8x1x448x1024.Idx → EReal) = Cert.TnIdeal.Blocks.prod d x := by
  funext j
  obtain ⟨a, z, b, l, rfl⟩ : ∃ (a : Fin 8) (z : Fin 1) (b : Fin 448) (l : Fin 1024), j = ix4 a z b l := ⟨j 0, j 1, j 2, j 3, eq_ix4 j⟩
  obtain rfl : z = 0 := Subsingleton.elim _ _
  rw [← val_main_v5_eq]
  pointwise [Cert.TnIdeal.Blocks.prod]

end Cert.Tn.Ref

end
-- ==== Proof.TnClaim.lean ====
/- The claims about the even layers’ input weight gradient: the two frames of the kernel, the reference's, and the value. -/
module

public import proofs.«01_k».proof.Defs
public import proofs.«01_k».proof.Proof.Gen.Tn.Frame
public import proofs.«01_k».proof.Proof.TnValue
public import Idealize.ShloMosaic.Lib.Quiescent

@[expose] public section

noncomputable section

namespace Cert.TnClaim

open Idealize.ShloMosaic Idealize.ShloMosaic.TcCoe Idealize.SL.Sem Cert.TnIdeal.Blocks

/-- The kernel's result and the reference's are the same array. -/
theorem value : Cert.algebraic_TnIdeal_TnRefIdeal
    (hTnIdeal := Cert.TnIdeal.Gen.facts) (hTnRefIdeal := Cert.TnRefIdeal.Gen.facts) := by
  intro m g m' g' _ hm
  refine ⟨_, (θ_run Cert.TnIdeal.defs _ _).mono (fun r h c => ⟨(h c).1.trans (final m c), (h c).2⟩) (Cert.TnIdeal.Value.run_blocks m g), ?_⟩
  refine (θ_run Cert.TnRefIdeal.defs _ _).mono (fun r h c => ⟨?_, (h c).2⟩) (Cert.TnRefIdeal.Value.run m' g')
  refine (h c).1.trans ((Cert.TnRefIdeal.Read.val_main_v5_eq _ _).trans ?_)
  rw [(hm c).1, (hm c).2.1]
  exact Cert.Tn.Ref.ref_val _ _

/-- The kernel's frame, on words. -/
theorem frame : Cert.quiescent_Tn (hTn := Cert.Tn.Gen.facts) := fun m ρ _ => Cert.Tn.Gen.frame m ρ

/-- The kernel's frame, over the extended reals. -/
theorem frame_ideal : Cert.quiescent_TnIdeal (hTnIdeal := Cert.TnIdeal.Gen.facts) := fun m ρ _ => Cert.TnIdeal.Gen.frame m ρ

/-- The reference's frame. -/
theorem frame_ref : Cert.quiescent_TnRefIdeal (hTnRefIdeal := Cert.TnRefIdeal.Gen.facts) := fun m ρ _ =>
  (θ_run Cert.TnRefIdeal.defs _ _).mono (fun r h => ⟨fun c => (h c).2, sem_eq_zero_of_no_sems (by decide) r.2⟩)
    (Cert.TnRefIdeal.Value.run (F := Ideal) m ρ)

end Cert.TnClaim

end
-- ==== Proof.EvenFwdBlocks.lean ====
/- The even layers' forward call: the projections and the carried rows of the convolution's input that a point stores. -/
module

public import proofs.«01_k».proof.Proof.FfnFwdSpec
public import proofs.«01_k».proof.Proof.Gen.EvenFwdIdeal.Value
public import Idealize.ShloMosaic.Lib.VecWindow
public import Idealize.ShloMosaic.Lib.Pointwise

@[expose] public section

set_option maxRecDepth 16384

noncomputable section

namespace Cert.EvenFwdIdeal.Blocks

open Cert.EvenFwdIdeal Cert.EvenFwdIdeal.Gen Idealize.ShloMosaic Idealize.ShloMosaic.TcCoe Idealize.SL.Sem
open Cert.FfnFwdSpec (h)

theorem zero2 : (![0, 0] : Fin 2 → Nat) = fun _ => 0 := by decide
theorem zero4 : (![0, 0, 0, 0] : Fin 4 → Nat) = fun _ => 0 := by decide

/-- A row of the modulation's block. -/
def mdRow (k : Fin 8) (x : Vec Ideal S8x1024 .f32) : Vec Ideal S1x1024 .f32 := fun i => x (ix2 k (i 1))

/-- A load of one row. -/
theorem ld_row (k : ℕ) (x : Vec Ideal S8x1024 .f32) (inb : ∀ a, (![k, 0] : Fin 2 → Nat) a + (![1, 1024] : Fin 2 → Nat) a ≤ S8x1024.size a) :
    View.ld x (Rect.unit (s := S8x1024) ![k, 0] ![1, 1024] inb) = mdRow ⟨k, Nat.lt_of_succ_le (inb 0)⟩ x := by
  funext i
  have e : (Rect.unit (s := S8x1024) ![k, 0] ![1, 1024] inb).emb i = ix2 ⟨k, Nat.lt_of_succ_le (inb 0)⟩ (i 1) := by
    funext a
    have h0 : (i 0).val < 1 := (i 0).isLt
    fin_cases a
    · exact Fin.ext (by show k + 1 * (i 0).val = k; omega)
    · exact Fin.ext (by show 0 + 1 * (i 1).val = (i 1).val; omega)
  exact congrArg x e

/-- A load of the carried rows after a store of all of them. -/
theorem cov_halo {sig : RefSig} {κ : Kind} {sp : Space} (v : View sig κ sp S8x512 .f32) (x : Vec Ideal S8x512 .f32)
    (inb inb' : ∀ a, (![0, 0] : Fin 2 → Nat) a + (![8, 512] : Fin 2 → Nat) a ≤ S8x512.size a) (L : List (View.Piece (Elt Ideal) S8x512 .f32)) :
    v.readCov ((⟨Rect.unit (s := S8x512) ![0, 0] ![8, 512] inb', x⟩ : View.Piece (Elt Ideal) S8x512 .f32) :: L)
      (Rect.unit (s := S8x512) ![0, 0] ![8, 512] inb).toLoadRect = x := by
  unfold View.readCov
  rw [View.readAt_eq_ld]
  exact (View.ld_unit_zero (S := S8x512) zero2 _ _).trans (View.read_writes_full v v.junk (s := S8x512) inb' x L)

section
variable (x : Vec Ideal S256x1024 .f32) (md : Vec Ideal S8x1024 .f32) (w : Vec Ideal S8x1x448x1024 .bf16)

/-- A block's projections, and the convolution's input there. -/
def projB : FVec Ideal S256x3584 .f32 := k0_pay15 x (k0_pay8 w) (k0_pay11 (mdRow 6 md)) (k0_pay12 (mdRow 1 md)) (k0_pay13 (mdRow 0 md)) (k0_pay14 x)
def zB : FVec Ideal S256x512 .f32 := k0_pay17 x (k0_pay8 w) (k0_pay11 (mdRow 6 md)) (k0_pay12 (mdRow 1 md)) (k0_pay13 (mdRow 0 md)) (k0_pay14 x)

/-- The weight's row `j`, in eight groups of 448. -/
def wcol (l : Fin 1024) (j : Fin 3584) : EReal := w (ix4 ⟨j.val / 448, by omega⟩ 0 ⟨j.val % 448, by omega⟩ l)

/-- A row of a block's projections: the row normed and modulated, against the weight's rows. -/
theorem projB_apply (r : Fin 256) (j : Fin 3584) : (projB x md w : S256x3584.Idx → EReal) (ix2 r j)
    = ∑ l, h (fun l => x (ix2 r l)) (fun l => mdRow 6 md (ix2 0 l)) (fun l => mdRow 1 md (ix2 0 l)) (fun l => mdRow 0 md (ix2 0 l)) l * wcol w l j := by
  pointwise [projB, k0_pay15, k0_pay8, k0_pay11, k0_pay12, k0_pay13, k0_pay14]
  rfl

/-- The convolution's input is the product of two of the projections' parts. -/
theorem zB_apply (r : Fin 256) (j : Fin 512) : (zB x md w : S256x512.Idx → EReal) (ix2 r j)
    = (projB x md w : S256x3584.Idx → EReal) (ix2 r ⟨512 + j.val, by omega⟩) * (projB x md w : S256x3584.Idx → EReal) (ix2 r ⟨1024 + j.val, by omega⟩) := by
  unfold zB projB
  pointwise [k0_pay17]

/-- The rows carried on are the block's last eight. -/
theorem last_apply (z : FVec Ideal S256x512 .f32) (r : Fin 8) (j : Fin 512) : (k0_pay60 z : S8x512.Idx → EReal) (ix2 r j) = z (ix2 ⟨248 + r.val, by omega⟩ j) := by
  pointwise [k0_pay60]

theorem halo_apply (z : Vec Ideal S8x512 .f32) (r : Fin 8) (j : Fin 512) : (k0_pay7 z : S1x8x512.Idx → EReal) (ix3 0 r j) = z (ix2 r j) := by
  pointwise [k0_pay7]

theorem zero_apply (r : Fin 8) (j : Fin 512) : (k0_pay5 (F := Ideal) : S8x512.Idx → EReal) (ix2 r j) = 0 := by
  pointwise [k0_pay5]
end

variable (m : (ℓ : Loc nD τ sig) → Buf (Elt Ideal) ℓ) (c : Dev nD) (t : Fin cfg0.N)

/-- A point's projections. -/
theorem proj_out : (outsAt0 m c t.val t.isLt).2.2.2.2.1 = projB (iblk m c 0 t) (iblk m c 1 t) (iblk m c 2 t) := by
  by_cases h0 : t.val % 16 = 0
  · rw [outsAt0_A m c t h0]
    dsimp only
    unfold out0_A_14 kernelRun0_A
    dsimp only
    sl_unfold_words
    rw [View.read_writes_full]
    simp only [View.readAt_eq_ld, (hs0_0 t).read_unread, (hs0_1 t).read_unread, (hs0_2 t).read_unread, View.ld_unit_zero (S := S256x1024) zero2,
      View.ld_unit_zero (S := S8x1x448x1024) zero4, ld_row]
    rfl
  · rw [outsAt0_B m c t h0]
    dsimp only
    unfold out0_B_14 kernelRun0_B
    dsimp only
    sl_unfold_words
    rw [View.read_writes_full]
    simp only [View.readAt_eq_ld, (hs0_0 t).read_unread, (hs0_1 t).read_unread, (hs0_2 t).read_unread, View.ld_unit_zero (S := S256x1024) zero2,
      View.ld_unit_zero (S := S8x1x448x1024) zero4, ld_row]
    rfl

/-- The rows a point carries on. -/
theorem carried : (outsAt0 m c t.val t.isLt).2.2.2.2.2.2 = k0_pay60 (zB (iblk m c 0 t) (iblk m c 1 t) (iblk m c 2 t)) := by
  by_cases h0 : t.val % 16 = 0
  · rw [outsAt0_A m c t h0]
    dsimp only
    unfold sout0_A_1 kernelRun0_A
    dsimp only
    sl_unfold_words
    rw [View.read_writes_full]
    simp only [View.readAt_eq_ld, (hs0_0 t).read_unread, (hs0_1 t).read_unread, (hs0_2 t).read_unread, View.ld_unit_zero (S := S256x1024) zero2,
      View.ld_unit_zero (S := S8x1x448x1024) zero4, ld_row]
    rfl
  · rw [outsAt0_B m c t h0]
    dsimp only
    unfold sout0_B_1 kernelRun0_B
    dsimp only
    sl_unfold_words
    rw [View.read_writes_full]
    simp only [View.readAt_eq_ld, (hs0_0 t).read_unread, (hs0_1 t).read_unread, (hs0_2 t).read_unread, View.ld_unit_zero (S := S256x1024) zero2,
      View.ld_unit_zero (S := S8x1x448x1024) zero4, ld_row]
    rfl

/-- The first point's carried rows are zero. -/
theorem halo_first (h0 : t.val % 16 = 0) : (outsAt0 m c t.val t.isLt).2.2.2.1 = k0_pay7 (F := Ideal) (k0_pay5 (F := Ideal)) := by
  rw [outsAt0_A m c t h0]
  dsimp only
  unfold out0_A_13 kernelRun0_A
  dsimp only
  sl_unfold_words
  rw [View.read_writes_full]
  simp only [cov_halo]

/-- A later point's are what the point before carried on. -/
theorem halo_later (h0 : ¬t.val % 16 = 0) :
    (outsAt0 m c t.val t.isLt).2.2.2.1 = k0_pay7 (F := Ideal) (outsAt0 m c (t.val - 1) (Nat.lt_of_le_of_lt (Nat.sub_le _ _) t.isLt)).2.2.2.2.2.2 := by
  rw [outsAt0_B m c t h0]
  dsimp only
  unfold out0_B_13 kernelRun0_B
  dsimp only
  sl_unfold_words
  rw [View.read_writes_full]
  simp only [View.readAt_eq_ld, (Memref.isWhole_whole (sig := sig) cc0_scratch1).read_unread, View.ld_unit_zero (S := S8x512) zero2]

end Cert.EvenFwdIdeal.Blocks

end
-- ==== Proof.EvenFwdFinal.lean ====
/- The even layers' forward call: the blocks at each point and two of its arrays after the run. -/
module

public import proofs.«01_k».proof.Proof.EvenFwdBlocks
public import Idealize.ShloMosaic.Lib.StableHlo.RunRead

@[expose] public section

set_option maxRecDepth 16384

noncomputable section

namespace Cert.EvenFwdIdeal.Blocks

open Cert.EvenFwdIdeal Cert.EvenFwdIdeal.Gen Idealize.ShloMosaic Idealize.ShloMosaic.TcCoe Idealize.SL.Sem
open Idealize.ShloMosaic.Pipeline (Dat)
open Cert.FfnFwdSpec (h)

variable (m : (ℓ : Loc nD τ sig) → Buf (Elt Ideal) ℓ) (c : Dev nD)

/-- Which block each window stages at a point. -/
theorem index0 : ∀ t : Fin grid0.N, win0_0.index t 0 = t.val ∧ win0_0.index t 1 = 0 := by decide +kernel
theorem index1 : ∀ t : Fin grid0.N, win0_1.index t 0 = 0 ∧ win0_1.index t 1 = 0 := by decide +kernel
theorem index2 : ∀ t : Fin grid0.N, win0_2.index t 0 = 0 ∧ win0_2.index t 1 = 0 ∧ win0_2.index t 2 = 0 ∧ win0_2.index t 3 = 0 := by decide +kernel
theorem index13 : ∀ t : Fin grid0.N, win0_13.index t 0 = t.val ∧ win0_13.index t 1 = 0 ∧ win0_13.index t 2 = 0 := by decide +kernel
theorem index14 : ∀ t : Fin grid0.N, win0_14.index t 0 = t.val ∧ win0_14.index t 1 = 0 := by decide +kernel

/-- A tile's row as a row of the whole. -/
def row (t : Fin cfg0.N) (r : Fin 256) : Fin 4096 := ⟨t.val * 256 + r.val, by have := lt_of_lt_of_eq t.isLt N_0; omega⟩

/-- The arguments' contents. -/
abbrev xV : S4096x1024.Idx → EReal := m ((c : Thread nD τ).loc main_arg0)
abbrev modV : S6x1024.Idx → EReal := m ((c : Thread nD τ).loc main_arg1)
abbrev gV : S1024.Idx → EReal := m ((c : Thread nD τ).loc main_arg2)
abbrev wV : S1024x3584.Idx → EReal := m ((c : Thread nD τ).loc main_arg4)

theorem iblk0_apply (t : Fin cfg0.N) (r : Fin 256) (l : Fin 1024) : (iblk m c 0 t : Vec Ideal S256x1024 .f32) (ix2 r l) = xV m c (ix2 (row t r) l) := by
  unfold iblk
  rw [View.read_apply]
  refine (congrFun (V_main_arg0 m c) _).trans (congrArg (xV m c) (funext fun a => Fin.ext ?_))
  match a with
  | ⟨0, _⟩ => show win0_0.index t 0 * 256 + 1 * r.val = t.val * 256 + r.val; rw [(index0 t).1]; omega
  | ⟨1, _⟩ => show win0_0.index t 1 * 1024 + 1 * l.val = l.val; rw [(index0 t).2]; omega

theorem iblk1_apply (t : Fin cfg0.N) (k : Fin 8) (l : Fin 1024) :
    mdRow k (iblk m c 1 t : Vec Ideal S8x1024 .f32) (ix2 0 l) = (V m c main_v2 : S8x1024.Idx → EReal) (ix2 k l) := by
  unfold mdRow iblk
  rw [View.read_apply]
  refine congrArg (V m c main_v2) (funext fun a => Fin.ext ?_)
  match a with
  | ⟨0, _⟩ => show win0_1.index t 0 * 8 + 1 * k.val = k.val; rw [(index1 t).1]; omega
  | ⟨1, _⟩ => show win0_1.index t 1 * 1024 + 1 * l.val = l.val; rw [(index1 t).2]; omega

/-- The rows of the modulation's block that the projections read. -/
theorem V2_apply (l : Fin 1024) : (V m c main_v2 : S8x1024.Idx → EReal) (ix2 0 l) = modV m c (ix2 0 l)
    ∧ (V m c main_v2 : S8x1024.Idx → EReal) (ix2 1 l) = modV m c (ix2 1 l) ∧ (V m c main_v2 : S8x1024.Idx → EReal) (ix2 6 l) = gV m c (ix1 l) := by
  simp only [V, List.flatten_cons, List.flatten_nil, List.append_nil, List.cons_append, List.nil_append, hostOps0, hostOps0_1, hostOps0_2, hostOps0_3,
    hostOps0_4, hostOps0_5, hostOps0_6, hostOps0_7, hostOps0_8, hostOps0_9, hostOps0_10, hostOps0_11, hostOps0_12, hostOps0_13]
  after_reads_simp
  refine ⟨?_, ?_, ?_⟩
  · pointwise []
  · pointwise []
  · pointwise []
    after_reads_simp
    pointwise []

theorem V31_apply (a : Fin 8) (b : Fin 448) (l : Fin 1024) :
    (V m c main_v31 : S8x1x448x1024.Idx → EReal) (ix4 a 0 b l) = wV m c (ix2 l ⟨a.val * 448 + b.val, by omega⟩) := by
  simp only [V, List.flatten_cons, List.flatten_nil, List.append_nil, List.cons_append, List.nil_append, hostOps0, hostOps0_1, hostOps0_2, hostOps0_3,
    hostOps0_4, hostOps0_5, hostOps0_6, hostOps0_7, hostOps0_8, hostOps0_9, hostOps0_10, hostOps0_11, hostOps0_12, hostOps0_13]
  after_reads_simp
  pointwise []

theorem iblk2_apply (t : Fin cfg0.N) (j : Fin 3584) (l : Fin 1024) : wcol (iblk m c 2 t : Vec Ideal S8x1x448x1024 .bf16) l j = wV m c (ix2 l j) := by
  have e : (V m c main_v31 : S8x1x448x1024.Idx → EReal) (ix4 ⟨j.val / 448, by omega⟩ 0 ⟨j.val % 448, by omega⟩ l) = wV m c (ix2 l j) :=
    (V31_apply m c _ _ l).trans (congrArg (fun q => wV m c (ix2 l q)) (Fin.ext (by show j.val / 448 * 448 + j.val % 448 = j.val; omega)))
  rw [← e]
  unfold wcol iblk
  rw [View.read_apply]
  refine congrArg (V m c main_v31) (funext fun q => Fin.ext ?_)
  match q with
  | ⟨0, _⟩ => show win0_2.index t 0 * 8 + 1 * (j.val / 448) = j.val / 448; rw [(index2 t).1]; omega
  | ⟨1, _⟩ => show win0_2.index t 1 * 1 + 1 * 0 = 0; rw [(index2 t).2.1]
  | ⟨2, _⟩ => show win0_2.index t 2 * 448 + 1 * (j.val % 448) = j.val % 448; rw [(index2 t).2.2.1]; omega
  | ⟨3, _⟩ => show win0_2.index t 3 * 1024 + 1 * l.val = l.val; rw [(index2 t).2.2.2]; omega

/-- The projections of the whole call, the convolution's input, and its eight rows before each tile. -/
def projArr (x : S4096x1024.Idx → EReal) (md : S6x1024.Idx → EReal) (g : S1024.Idx → EReal) (w : S1024x3584.Idx → EReal) : S4096x3584.Idx → EReal := fun i =>
  ∑ l, h (fun l => x (ix2 (i 0) l)) (fun l => g (ix1 l)) (fun l => md (ix2 1 l)) (fun l => md (ix2 0 l)) l * w (ix2 l (i 1))
def zA (p : S4096x3584.Idx → EReal) (r : Fin 4096) (j : Fin 512) : EReal := p (ix2 r ⟨512 + j.val, by omega⟩) * p (ix2 r ⟨1024 + j.val, by omega⟩)
def haloArr (p : S4096x3584.Idx → EReal) : S16x8x512.Idx → EReal := fun i =>
  if (i 0).val = 0 then 0 else zA p ⟨(i 0).val * 256 + (i 1).val - 8, by have h0 : (i 0).val < 16 := (i 0).isLt; have h1 : (i 1).val < 8 := (i 1).isLt; omega⟩ (i 2)

/-- The projections from the arguments. -/
abbrev pV : S4096x3584.Idx → EReal := projArr (xV m c) (modV m c) (gV m c) (wV m c)

theorem proj_tile (t : Fin cfg0.N) (r : Fin 256) (j : Fin 3584) :
    (projB (iblk m c 0 t) (iblk m c 1 t) (iblk m c 2 t) : S256x3584.Idx → EReal) (ix2 r j) = pV m c (ix2 (row t r) j) := by
  refine (projB_apply _ _ _ r j).trans (Finset.sum_congr rfl fun l _ => ?_)
  refine congrArg₂ (· * ·) (congrFun ?_ l) (iblk2_apply m c t j l)
  exact congr (congr (congr (congrArg h (funext fun l => iblk0_apply m c t r l)) (funext fun l => (iblk1_apply m c t 6 l).trans (V2_apply m c l).2.2))
    (funext fun l => (iblk1_apply m c t 1 l).trans (V2_apply m c l).2.1)) (funext fun l => (iblk1_apply m c t 0 l).trans (V2_apply m c l).1)

theorem z_tile (t : Fin cfg0.N) (r : Fin 256) (j : Fin 512) :
    (zB (iblk m c 0 t) (iblk m c 1 t) (iblk m c 2 t) : S256x512.Idx → EReal) (ix2 r j) = zA (pV m c) (row t r) j :=
  (zB_apply _ _ _ r j).trans (congrArg₂ (· * ·) (proj_tile m c t r _) (proj_tile m c t r _))

/-- The carried rows stored at a point. -/
theorem halo_tile (t : Fin cfg0.N) (r : Fin 8) (j : Fin 512) : ((outsAt0 m c t.val t.isLt).2.2.2.1 : S1x8x512.Idx → EReal) (ix3 0 r j)
    = haloArr (pV m c) (ix3 ⟨t.val, lt_of_lt_of_eq t.isLt N_0⟩ r j) := by
  have hN := lt_of_lt_of_eq t.isLt N_0
  by_cases h0 : t.val = 0
  · refine (congrFun (halo_first m c t (by omega)) _).trans ?_
    exact ((halo_apply _ r j).trans (zero_apply r j)).trans (if_pos h0).symm
  · have hp : t.val - 1 < cfg0.N := Nat.lt_of_le_of_lt (Nat.sub_le _ _) t.isLt
    refine (congrFun (halo_later m c t (by omega)) _).trans ((halo_apply _ r j).trans ?_)
    refine (congrFun (carried m c ⟨t.val - 1, hp⟩) _).trans ((last_apply _ r j).trans ((z_tile m c ⟨t.val - 1, hp⟩ _ j).trans ?_))
    refine Eq.trans ?_ (if_neg h0).symm
    exact congrArg (fun q => zA (pV m c) q j) (Fin.ext (by show (t.val - 1) * 256 + (248 + r.val) = t.val * 256 + r.val - 8; omega))

/-- The carried rows' array after the run. -/
theorem final_halo : ((dats m 0 c).arrAt 13 cfg0.N : S16x8x512.Idx → EReal) = haloArr (pV m c) := by
  have hN : cfg0.N = 16 := N_0
  refine (dats m 0 c).arrAt_eq_of_cover 13 _ (fun t _ => ?_) fun (i : S16x8x512.Idx) => ?_
  · show (cfg0.win 13).cut (grid0.coords t) ((dats m 0 c).after 13 t) = _
    rw [after0_13]
    funext j
    obtain ⟨a, r, l, rfl⟩ : ∃ (a : Fin 1) (r : Fin 8) (l : Fin 512), j = ix3 a r l := ⟨j 0, j 1, j 2, eq_ix3 j⟩
    obtain rfl : a = 0 := Subsingleton.elim _ _
    rw [View.read_apply]
    have he : ((cfg0.win 13).blk t).view.emb (ix3 0 r l) = (ix3 ⟨t.val, lt_of_lt_of_eq t.isLt N_0⟩ r l : S16x8x512.Idx) := by
      funext k
      apply Fin.ext
      match k with
      | ⟨0, _⟩ => show win0_13.index t 0 * 1 + 1 * 0 = t.val; rw [(index13 t).1]; omega
      | ⟨1, _⟩ => show win0_13.index t 1 * 8 + 1 * r.val = r.val; rw [(index13 t).2.1]; omega
      | ⟨2, _⟩ => show win0_13.index t 2 * 512 + 1 * l.val = l.val; rw [(index13 t).2.2]; omega
    rw [he]
    exact halo_tile m c t r l
  · have h0 : (i 0 : Nat) < 16 := (i 0).isLt
    have h1 : (i 1 : Nat) < 8 := (i 1).isLt
    have h2 : (i 2 : Nat) < 512 := (i 2).isLt
    obtain ⟨t, ht⟩ : ∃ t : Fin cfg0.N, t.val = (i 0 : Nat) := ⟨⟨(i 0 : Nat), by omega⟩, rfl⟩
    refine ⟨t, flush0_13 t, ?_⟩
    show i ∈ ((View.whole main_v96_3).slice (win0_13.rect t)).set
    rw [View.set_slice_whole, Rect.mem_set_unit]
    intro a
    match a with
    | ⟨0, _⟩ => show win0_13.index t 0 * 1 ≤ (i 0 : Nat) ∧ (i 0 : Nat) < win0_13.index t 0 * 1 + 1
                rw [(index13 t).1, ht]; omega
    | ⟨1, _⟩ => show win0_13.index t 1 * 8 ≤ (i 1 : Nat) ∧ (i 1 : Nat) < win0_13.index t 1 * 8 + 8
                rw [(index13 t).2.1]; omega
    | ⟨2, _⟩ => show win0_13.index t 2 * 512 ≤ (i 2 : Nat) ∧ (i 2 : Nat) < win0_13.index t 2 * 512 + 512
                rw [(index13 t).2.2]; omega

/-- The projections' array after the run. -/
theorem final_proj : ((dats m 0 c).arrAt 14 cfg0.N : S4096x3584.Idx → EReal) = pV m c := by
  have hN : cfg0.N = 16 := N_0
  refine (dats m 0 c).arrAt_eq_of_cover 14 _ (fun t _ => ?_) fun (i : S4096x3584.Idx) => ?_
  · show (cfg0.win 14).cut (grid0.coords t) ((dats m 0 c).after 14 t) = _
    rw [after0_14]
    funext j
    obtain ⟨r, l, rfl⟩ : ∃ (r : Fin 256) (l : Fin 3584), j = ix2 r l := ⟨j 0, j 1, eq_ix2 j⟩
    rw [View.read_apply]
    have he : ((cfg0.win 14).blk t).view.emb (ix2 r l) = (ix2 (row t r) l : S4096x3584.Idx) := by
      funext k
      apply Fin.ext
      match k with
      | ⟨0, _⟩ => show win0_14.index t 0 * 256 + 1 * r.val = t.val * 256 + r.val; rw [(index14 t).1]; omega
      | ⟨1, _⟩ => show win0_14.index t 1 * 3584 + 1 * l.val = l.val; rw [(index14 t).2]; omega
    rw [he]
    exact (congrFun (proj_out m c t) _).trans (proj_tile m c t r l)
  · have h0 : (i 0 : Nat) < 4096 := (i 0).isLt
    have h1 : (i 1 : Nat) < 3584 := (i 1).isLt
    obtain ⟨t, ht⟩ : ∃ t : Fin cfg0.N, t.val = (i 0 : Nat) / 256 := ⟨⟨(i 0 : Nat) / 256, by omega⟩, rfl⟩
    refine ⟨t, flush0_14 t, ?_⟩
    show i ∈ ((View.whole main_v96_4).slice (win0_14.rect t)).set
    rw [View.set_slice_whole, Rect.mem_set_unit]
    intro a
    match a with
    | ⟨0, _⟩ => show win0_14.index t 0 * 256 ≤ (i 0 : Nat) ∧ (i 0 : Nat) < win0_14.index t 0 * 256 + 256
                rw [(index14 t).1, ht]; omega
    | ⟨1, _⟩ => show win0_14.index t 1 * 3584 ≤ (i 1 : Nat) ∧ (i 1 : Nat) < win0_14.index t 1 * 3584 + 3584
                rw [(index14 t).2]; omega

end Cert.EvenFwdIdeal.Blocks

end
-- ==== Proof.EvenFwdRef.lean ====
module

public import proofs.«01_k».proof.Proof.FfnFwdSpec
public import proofs.«01_k».proof.Proof.Gen.EvenFwdRefIdeal.Read
public import proofs.«01_k».proof.Proof.Gen.EvenFwdRefIdeal.Run
public import Idealize.ShloMosaic.Lib.Pointwise

@[expose] public section

set_option maxRecDepth 16384

noncomputable section

namespace Cert.EvenFwdRefIdeal.At

open Cert.EvenFwdRefIdeal Cert.EvenFwdRefIdeal.Gen Cert.EvenFwdRefIdeal.Read Idealize.ShloMosaic Idealize.ShloMosaic.TcCoe
open Cert.FfnFwdSpec (rs h)

variable (x0 : FVec Ideal S4096x1024 .f32) (x1 : FVec Ideal S6x1024 .f32) (x2 : FVec Ideal S1024 .f32) (x4 : FVec Ideal S1024x3584 .f32)

/-- A row's reciprocal root mean square. -/
theorem rs_at (r : Fin 4096) : (val_main_v7 (F := Ideal) x0 : S4096x1.Idx → EReal) (ix2 r 0) = rs fun l => x0 (ix2 r l) := by
  pointwise [val_main_v7, val_main_v6, val_main_v5, val_main_v4, val_main_v3, val_main_v2, val_main_v1, val_main_v0, val_main_cst, val_main_cst_0, val_main_cst_1]
  rfl

/-- A row normed and modulated. -/
theorem h_at (r : Fin 4096) (l : Fin 1024) : (val_main_v24 (F := Ideal) x0 x1 x2 : S4096x1024.Idx → EReal) (ix2 r l)
    = h (fun l => x0 (ix2 r l)) (fun l => x2 (ix1 l)) (fun l => x1 (ix2 1 l)) (fun l => x1 (ix2 0 l)) l := by
  pointwise [val_main_v24, val_main_v23, val_main_v22, val_main_v21, val_main_v20, val_main_v19, val_main_v18, val_main_v17, val_main_v16, val_main_v15, val_main_v14, val_main_v13, val_main_v12, val_main_v11, val_main_v10, val_main_v9, val_main_v8, val_main_cst_2]
  rw [rs_at]
  rfl

/-- A row of the projections. -/
theorem proj_at (r : Fin 4096) (j : Fin 3584) : (val_main_v25 (F := Ideal) x0 x1 x2 x4 : S4096x3584.Idx → EReal) (ix2 r j)
    = ∑ l, h (fun l => x0 (ix2 r l)) (fun l => x2 (ix1 l)) (fun l => x1 (ix2 1 l)) (fun l => x1 (ix2 0 l)) l * x4 (ix2 l j) := by
  pointwise [val_main_v25]
  simp only [h_at]

/-- The convolution's input at a row. -/
theorem z_at (r : Fin 4096) (j : Fin 512) : (val_main_v34 (F := Ideal) x0 x1 x2 x4 : S4096x512.Idx → EReal) (ix2 r j)
    = (val_main_v25 (F := Ideal) x0 x1 x2 x4 : S4096x3584.Idx → EReal) (ix2 r ⟨512 + j.val, by omega⟩)
      * (val_main_v25 (F := Ideal) x0 x1 x2 x4 : S4096x3584.Idx → EReal) (ix2 r ⟨1024 + j.val, by omega⟩) := by
  pointwise [val_main_v34, val_main_v27, val_main_v28]

/-- The eight rows before the first tile are zero. -/
theorem halo_first (q : Fin 8) (j : Fin 512) : (val_main_v38 (F := Ideal) x0 x1 x2 x4 : S16x8x512.Idx → EReal) (ix3 0 q j) = 0 := by
  pointwise [val_main_v38, val_main_v37, val_main_v36, val_main_v35, val_main_v33, val_main_cst_3]

/-- The eight rows before a later tile are the convolution's input there. -/
theorem halo_later (t : Fin 16) (ht : 0 < t.val) (q : Fin 8) (j : Fin 512) : (val_main_v38 (F := Ideal) x0 x1 x2 x4 : S16x8x512.Idx → EReal) (ix3 t q j)
    = (val_main_v34 (F := Ideal) x0 x1 x2 x4 : S4096x512.Idx → EReal) (ix2 ⟨t.val * 256 + q.val - 8, by omega⟩ j) := by
  pointwise [val_main_v38, val_main_v37, val_main_v36, val_main_v35]
  exact dif_neg (by omega)

end Cert.EvenFwdRefIdeal.At

end
-- ==== Proof.EvenFwdClaim.lean ====
/- The claims about the even layers' forward call's projections and carried rows: the two frames of the kernel, the reference's, and the value. -/
module

public import proofs.«01_k».proof.Defs
public import proofs.«01_k».proof.Proof.Gen.EvenFwd.Frame
public import proofs.«01_k».proof.Proof.EvenFwdFinal
public import proofs.«01_k».proof.Proof.EvenFwdRef
public import Idealize.ShloMosaic.Lib.Quiescent

@[expose] public section

noncomputable section

namespace Cert.EvenFwdClaim

open Idealize.ShloMosaic Idealize.ShloMosaic.TcCoe Idealize.SL.Sem Cert.EvenFwdIdeal.Blocks
open Cert.EvenFwdRefIdeal (S4096x1024 S6x1024 S1024 S1024x3584)
open Cert.EvenFwdRefIdeal.Read (val_main_v25 val_main_v38)

section
variable (x0 : FVec Ideal S4096x1024 .f32) (x1 : FVec Ideal S6x1024 .f32) (x2 : FVec Ideal S1024 .f32) (x4 : FVec Ideal S1024x3584 .f32)

/-- The reference's projections are the kernel's. -/
theorem ref_proj : (val_main_v25 (F := Ideal) x0 x1 x2 x4 : Cert.EvenFwdRefIdeal.S4096x3584.Idx → EReal) = projArr x0 x1 x2 x4 := by
  funext i
  rw [eq_ix2 i]
  exact Cert.EvenFwdRefIdeal.At.proj_at _ _ _ _ _ _

/-- The reference's rows before each tile are the kernel's. -/
theorem ref_halo : (val_main_v38 (F := Ideal) x0 x1 x2 x4 : Cert.EvenFwdRefIdeal.S16x8x512.Idx → EReal) = haloArr (projArr x0 x1 x2 x4) := by
  funext i
  obtain ⟨t, q, j, rfl⟩ : ∃ (t : Fin 16) (q : Fin 8) (j : Fin 512), i = ix3 t q j := ⟨i 0, i 1, i 2, eq_ix3 i⟩
  by_cases ht : t.val = 0
  · obtain rfl : t = 0 := Fin.ext ht
    exact (Cert.EvenFwdRefIdeal.At.halo_first x0 x1 x2 x4 q j).trans (if_pos rfl).symm
  · refine (Cert.EvenFwdRefIdeal.At.halo_later x0 x1 x2 x4 t (by omega) q j).trans ?_
    refine (Cert.EvenFwdRefIdeal.At.z_at x0 x1 x2 x4 _ j).trans ?_
    rw [ref_proj]
    exact (if_neg ht).symm
end

/-- The kernel's results and the reference's are the same two arrays. -/
theorem value : Cert.algebraic_EvenFwdIdeal_EvenFwdRefIdeal
    (hEvenFwdIdeal := Cert.EvenFwdIdeal.Gen.facts) (hEvenFwdRefIdeal := Cert.EvenFwdRefIdeal.Gen.facts) := by
  intro m g m' g' _ hm
  refine ⟨_, _, (θ_run Cert.EvenFwdIdeal.defs _ _).mono (fun r h c => ⟨(h c).2.2.2.1.trans (final_halo m c),
    (h c).2.2.2.2.1.trans (final_proj m c), (h c).2.2.2.2.2⟩) (Cert.EvenFwdIdeal.Value.run_blocks m g), ?_⟩
  refine (θ_run Cert.EvenFwdRefIdeal.defs _ _).mono (fun r h c => ⟨?_, ?_, (h c).2.2⟩) (Cert.EvenFwdRefIdeal.Value.run m' g')
  · refine (h c).1.trans ((Cert.EvenFwdRefIdeal.Read.val_main_v38_eq _ _ _ _).trans ?_)
    rw [(hm c).1, (hm c).2.1, (hm c).2.2.1, (hm c).2.2.2.2.1]
    exact ref_halo _ _ _ _
  · refine (h c).2.1.trans ((Cert.EvenFwdRefIdeal.Read.val_main_v25_eq _ _ _ _).trans ?_)
    rw [(hm c).1, (hm c).2.1, (hm c).2.2.1, (hm c).2.2.2.2.1]
    exact ref_proj _ _ _ _

/-- The kernel's frame, on words. -/
theorem frame : Cert.quiescent_EvenFwd (hEvenFwd := Cert.EvenFwd.Gen.facts) := fun m ρ _ => Cert.EvenFwd.Gen.frame m ρ

/-- The kernel's frame, over the extended reals. -/
theorem frame_ideal : Cert.quiescent_EvenFwdIdeal (hEvenFwdIdeal := Cert.EvenFwdIdeal.Gen.facts) := fun m ρ _ => Cert.EvenFwdIdeal.Gen.frame m ρ

/-- The reference's frame. -/
theorem frame_ref : Cert.quiescent_EvenFwdRefIdeal (hEvenFwdRefIdeal := Cert.EvenFwdRefIdeal.Gen.facts) := fun m ρ _ =>
  (θ_run Cert.EvenFwdRefIdeal.defs _ _).mono (fun r h => ⟨fun c => (h c).2.2, sem_eq_zero_of_no_sems (by decide) r.2⟩)
    (Cert.EvenFwdRefIdeal.Value.run (F := Ideal) m ρ)

end Cert.EvenFwdClaim

end
-- ==== Proof.ProjBwdRun.lean ====
/- The run of the odd layers' projections' backward call, over any floats: its inputs keep their contents, and of its four outputs
   the third is named. The fourth output is read and added to in part at each point, so both cases of the first-point condition are run. -/
module

public import proofs.«01_k».proof.Proof.Gen.ProjBwd.Frame
public import proofs.«01_k».proof.Proof.Gen.ProjBwd.Skeleton
public import Idealize.ShloMosaic.Lib.Claim
public import Idealize.ShloMosaic.Lib.VecWindow
public import Idealize.ShloMosaic.Lib.Pipeline.Value

@[expose] public section

set_option maxRecDepth 16384

noncomputable section

namespace Cert.ProjBwd.Run

open Cert.ProjBwd Cert.ProjBwd.Gen Idealize.ShloMosaic Idealize.ShloMosaic.TcCoe Idealize.ShloMosaic.Tactic
open Idealize.SL Idealize.SL.RA Idealize.SL.BI Idealize.SL.BI.BIBase Idealize.SL.BI.Laws Idealize.SL.ProofMode Idealize.SL.Sem
open scoped Idealize.SL.BI
open Idealize.ShloMosaic.Pipeline (Dat RDat BodyObligation)

variable {F : FTy → Type} [FloatOps F] (c : Dev nD)

/-- The assertions of a run. -/
abbrev Asrt (F : FTy → Type) [FloatOps F] := sProp (MT nD τ sig Unit (Elt F) ℕ (UR sig nD τ) ℕ)

/-- A buffer at its contents. -/
abbrev own {s : Shape} {e : EltTy} (a : Memref sig .tc .vmem s e) (x : Vec F s e) : Asrt F := owns (c : Thread nD τ) a fullShare x

theorem zero2 : (![0, 0] : Fin 2 → Nat) = fun _ => 0 := by decide

section
variable (i : grid0.Coords)
  (a0 : Memref sig .tc .vmem S512x1024 .f32) (w0 : a0.IsWhole)
  (a1 : Memref sig .tc .vmem S512x1024 .f32) (w1 : a1.IsWhole)
  (a2 : Memref sig .tc .vmem S512x1024 .f32) (w2 : a2.IsWhole)
  (a3 : Memref sig .tc .vmem S512x1024 .f32) (w3 : a3.IsWhole)
  (a4 : Memref sig .tc .vmem S512x1024 .f32) (w4 : a4.IsWhole)
  (a5 : Memref sig .tc .vmem S512x2048 .f32) (w5 : a5.IsWhole)
  (a6 : Memref sig .tc .vmem S8x1024 .f32) (w6 : a6.IsWhole)
  (a7 : Memref sig .tc .vmem S8x1024 .f32) (w7 : a7.IsWhole)
  (a8 : Memref sig .tc .vmem S8x1x384x1024 .bf16) (w8 : a8.IsWhole)
  (a9 : Memref sig .tc .vmem S8x128 .f32) (w9 : a9.IsWhole)
  (a10 : Memref sig .tc .vmem S512x1024 .f32) (w10 : a10.IsWhole)
  (a11 : Memref sig .tc .vmem S512x3072 .bf16) (w11 : a11.IsWhole)
  (a12 : Memref sig .tc .vmem S512x1024 .bf16) (w12 : a12.IsWhole)
  (a13 : Memref sig .tc .vmem S8x1024 .f32) (w13 : a13.IsWhole)
  (x0 : Vec F S512x1024 .f32) (x1 : Vec F S512x1024 .f32) (x2 : Vec F S512x1024 .f32) (x3 : Vec F S512x1024 .f32) (x4 : Vec F S512x1024 .f32) (x5 : Vec F S512x2048 .f32) (x6 : Vec F S8x1024 .f32) (x7 : Vec F S8x1024 .f32) (x8 : Vec F S8x1x384x1024 .bf16) (x9 : Vec F S8x128 .f32)

/-- The inputs' buffers at their contents, the third output's as `P` says, the others' at any. -/
def held (P : Asrt F) : Asrt F :=
  iprop(own c a0 x0 ∗ own c a1 x1 ∗ own c a2 x2 ∗ own c a3 x3 ∗ own c a4 x4 ∗ own c a5 x5 ∗ own c a6 x6 ∗ own c a7 x7 ∗ own c a8 x8 ∗ own c a9 x9 ∗ (∃ d, own c a10 d) ∗ (∃ d, own c a11 d) ∗ P ∗ (∃ d, own c a13 d))

/-- The third output's block: a tile's rows normed and modulated. -/
def hB (x : Vec F S512x1024 .f32) (md : Vec F S8x1024 .f32) : Vec F S512x1024 .bf16 :=
  k0_pay8 (View.ld md (Rect.unit (s := S8x1024) ![6, 0] ![1, 1024] inb_S8x1024_S1x1024_6_0)) (View.ld md (Rect.unit (s := S8x1024) ![1, 0] ![1, 1024] inb_S8x1024_S1x1024_1_0)) x
    (View.ld md (Rect.unit (s := S8x1024) ![0, 0] ![1, 1024] inb_S8x1024_S1x1024_0_0))

set_option maxHeartbeats 2000000 in
/-- The body runs from these and leaves them so, at the first point and at the later ones. -/
theorem body (E : Set ℕ) (K : PUnit → Asrt F) :
    iprop(held c a0 a1 a2 a3 a4 a5 a6 a7 a8 a9 a10 a11 a13 x0 x1 x2 x3 x4 x5 x6 x7 x8 x9 iprop(∃ d, own c a12 d)
      ∗ (held c a0 a1 a2 a3 a4 a5 a6 a7 a8 a9 a10 a11 a13 x0 x1 x2 x3 x4 x5 x6 x7 x8 x9 (own c a12 (hB x0 x7)) -∗ K ⟨⟩))
    ⊢ wp frame (wpE (defs₀ (F := F)) Variants.none c none) E (cc0_odd_qkv_bwd i a0 w0 a1 w1 a2 w2 a3 w3 a4 w4 a5 w5 a6 w6 a7 w7 a8 w8 a9 w9 a10 w10 a11 w11 a12 w12 a13 w13) K := by
  simp only [cc0_odd_qkv_bwd_eq_skeleton]
  unfold cc0_odd_qkv_bwd_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold held own owns
  iintro ⟨⟨⟨%f0, %h0, H0⟩, ⟨%f1, %h1, H1⟩, ⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%d10, %f10, -, H10⟩, ⟨%d11, %f11, -, H11⟩, ⟨%d12, %f12, -, H12⟩, ⟨%d13, %f13, -, H13⟩⟩, Hk⟩
  by_cases hc : (Scalar.cmpi .ne (Scalar.extui (Scalar.cmpi .eq (BitVec.ofNat 32 (i 0).val) 0#32)) 0#32) = 1#1
  all_goals
    sl_exec (disch := first | sl_exact hc)
    sl_step
    iapply Hk
    isplitl [H0]; · iexists _; isplitr; swap; iexact H0; ipureintro; exact h0
    isplitl [H1]; · iexists _; isplitr; swap; iexact H1; ipureintro; exact h1
    isplitl [H2]; · iexists _; isplitr; swap; iexact H2; ipureintro; exact h2
    isplitl [H3]; · iexists _; isplitr; swap; iexact H3; ipureintro; exact h3
    isplitl [H4]; · iexists _; isplitr; swap; iexact H4; ipureintro; exact h4
    isplitl [H5]; · iexists _; isplitr; swap; iexact H5; ipureintro; exact h5
    isplitl [H6]; · iexists _; isplitr; swap; iexact H6; ipureintro; exact h6
    isplitl [H7]; · iexists _; isplitr; swap; iexact H7; ipureintro; exact h7
    isplitl [H8]; · iexists _; isplitr; swap; iexact H8; ipureintro; exact h8
    isplitl [H9]; · iexists _; isplitr; swap; iexact H9; ipureintro; exact h9
    isplitl [H10]; · iexists _, _; isplitr; swap; iexact H10; ipureintro; rfl
    isplitl [H11]; · iexists _, _; isplitr; swap; iexact H11; ipureintro; rfl
    isplitl [H12]; · iexists _; isplitr; swap; · iexact H12
                     ipureintro
                     rw [View.read_writes_full]
                     simp only [View.readAt_eq_ld, h0, h7, View.ld_unit_zero (S := S512x1024) zero2]
                     rfl
    iexists _, _; isplitr; swap; iexact H13; ipureintro; rfl
end

variable (m : (ℓ : Loc nD τ sig) → Buf (Elt F) ℓ) (ρ : Dev nD → PrngReg)

/-- The windows nothing is said of. -/
def unsaid : Fin 14 → Bool := fun w => decide (10 ≤ w.val ∧ w.val ≠ 12)

/-- The run's data: the arrays as the region finds them, the inputs' buffers at their blocks. -/
def dat (_ : Fin 1) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨12, _⟩ => hB (iblk m c 0 t) (iblk m c 7 t)
    | w => Dat.unnamed (cfg := cfg0) w t
  Φ _ := Pipeline.ΦA spec0 c
  q _ := fullShare
  owed _ := 0

theorem dat_A (w : Fin cfg0.W) : (dat c m 0).A w = V m c (Pipeline.arrRef spec0 w) := by dsimp only [dat]

/-- A window's buffer at a point. -/
abbrev stg (k : Fin 14) (t : Fin cfg0.N) := (win0 k).stage (cfg0.slots t k)

/-- What the body is given at a point and what it gives back. -/
def given (t : Fin cfg0.N) : Asrt F :=
  iprop((dat c m 0).Φ t.castSucc ∗ (dat c m 0).owesAt () t.castSucc ∗ (∃ d, own c (stg 0 t) ((dat c m 0).before 0 t d)) ∗ (∃ d, own c (stg 1 t) ((dat c m 0).before 1 t d)) ∗ (∃ d, own c (stg 2 t) ((dat c m 0).before 2 t d)) ∗ (∃ d, own c (stg 3 t) ((dat c m 0).before 3 t d)) ∗ (∃ d, own c (stg 4 t) ((dat c m 0).before 4 t d)) ∗ (∃ d, own c (stg 5 t) ((dat c m 0).before 5 t d)) ∗ (∃ d, own c (stg 6 t) ((dat c m 0).before 6 t d)) ∗ (∃ d, own c (stg 7 t) ((dat c m 0).before 7 t d)) ∗ (∃ d, own c (stg 8 t) ((dat c m 0).before 8 t d)) ∗ (∃ d, own c (stg 9 t) ((dat c m 0).before 9 t d))
    ∗ (∃ d, own c (stg 10 t) d) ∗ (∃ d, own c (stg 11 t) d) ∗ (∃ d, own c (stg 12 t) ((dat c m 0).before 12 t d)) ∗ (∃ d, own c (stg 13 t) d))
def back (t : Fin cfg0.N) : Asrt F :=
  iprop((dat c m 0).Φ t.castSucc ∗ (dat c m 0).owesAt () t.castSucc ∗ held c (stg 0 t) (stg 1 t) (stg 2 t) (stg 3 t) (stg 4 t) (stg 5 t) (stg 6 t) (stg 7 t) (stg 8 t) (stg 9 t) (stg 10 t) (stg 11 t) (stg 13 t) (iblk m c 0 t) (iblk m c 1 t) (iblk m c 2 t) (iblk m c 3 t) (iblk m c 4 t) (iblk m c 5 t) (iblk m c 6 t) (iblk m c 7 t) (iblk m c 8 t) (iblk m c 9 t)
    (own c (stg 12 t) (hB (iblk m c 0 t) (iblk m c 7 t))))

set_option maxHeartbeats 2000000 in
/-- The body at a point. -/
theorem at_point (t : Fin cfg0.N) : given c m t ⊢ wp frame (wpE (defs₀ (F := F)) Variants.none c none) Set.univ (bodyAt0 t) (fun _ => back c m t) := by
  unfold given back bodyAt0
  simp only [before0_0_of m (dat c m 0) (dat_A c m 0) (fun _ => rfl), before0_1_of m (dat c m 0) (dat_A c m 1) (fun _ => rfl), before0_2_of m (dat c m 0) (dat_A c m 2) (fun _ => rfl), before0_3_of m (dat c m 0) (dat_A c m 3) (fun _ => rfl), before0_4_of m (dat c m 0) (dat_A c m 4) (fun _ => rfl), before0_5_of m (dat c m 0) (dat_A c m 5) (fun _ => rfl), before0_6_of m (dat c m 0) (dat_A c m 6) (fun _ => rfl), before0_7_of m (dat c m 0) (dat_A c m 7) (fun _ => rfl), before0_8_of m (dat c m 0) (dat_A c m 8) (fun _ => rfl), before0_9_of m (dat c m 0) (dat_A c m 9) (fun _ => rfl)]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, HA, HB, ⟨%d12, HC⟩, HD⟩
  iapply (body c (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) Set.univ _)
  isplitl [H0 H1 H2 H3 H4 H5 H6 H7 H8 H9 HA HB HC HD]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [HA]; · iexact HA
    isplitl [HB]; · iexact HB
    isplitl [HC]; · iexists _; iexact HC
    iexact HD
  iintro H
  isplitl [HΦ]; · iexact HΦ
  isplitl [Ho]; · iexact Ho
  iexact H

set_option maxHeartbeats 4000000 in
/-- The body's obligation at every point. -/
theorem obligation : BodyObligation (dat c m 0) (defs₀ (F := F)) Variants.none () Set.univ unsaid := fun t => by
  rw [bigSep_W0, bigSep_W0, show defs₀ (F := F) .tc cfg0.body (cfg0.bodyArgs t (cfg0.slots t)) = bodyAt0 t by unfold defs₀; rw [Defs.onTc_tc]]
  exact triple_restated (at_point c m t) rfl .rfl fun _ => .rfl

set_option backward.isDefEq.respectTransparency.types false in
/-- The run: the arrays' contents but three outputs', and the counters at zero. -/
theorem run : θ_run defs (onTc (τ := τ) (main (F := F))) (s₀ m ρ)
    (fun r => RDat.FramePost (cfgs 0) (fun c => (dat c m 0).toRForget unsaid) (V m) r ∧ r.2.sem = fun _ => 0) :=
  Pipeline.θ_run_frame_forget (Q' := _) cfgs (fun p c => dat c m p) (0 : Fin 1) launch0 defs₀ Variants.none unsaid m ρ main
    (hbody := fun c => (obligation c m).loose) (hshare := fun c => (dat c m 0).share_full fun _ => rfl)
    (howed := fun _ _ => rfl) (V := V m) (hmain := hmain m Variants.none) (hA := fun c => dat_A c m) (hΦ := fun _ _ => rfl)

/-- A buffer ends as it began. -/
abbrev same (n : (ℓ : Loc nD τ sig) → Buf (Elt F) ℓ) (b : Ref sig .tc) : Prop := n ((c.tc : Thread nD τ).loc b) = m ((c.tc : Thread nD τ).loc b)

/-- The third output ends at its blocks, the arguments as they began, the counters at zero. -/
theorem kept : θ_run defs (onTc (τ := τ) (main (F := F))) ⟨m, fun _ => 0, ρ⟩ (fun r => (∀ c : Dev nD,
    r.2.mem ((c.tc : Thread nD τ).loc main_v38_2) = (dat c m 0).arrAt 12 cfg0.N ∧ same c m r.2.mem main_arg0 ∧ same c m r.2.mem main_arg1 ∧ same c m r.2.mem main_arg2 ∧ same c m r.2.mem main_arg3 ∧ same c m r.2.mem main_arg4 ∧ same c m r.2.mem main_arg5 ∧ same c m r.2.mem main_arg6 ∧ same c m r.2.mem main_arg7 ∧ same c m r.2.mem main_arg8 ∧ same c m r.2.mem main_arg9 ∧ same c m r.2.mem main_arg10 ∧ same c m r.2.mem main_arg11) ∧ r.2.sem = fun _ => 0) := by
  refine (θ_run defs _ _).mono (fun r h => ⟨fun c => ?_, h.2⟩) (run m ρ)
  have arr (w : Fin 14) (hw : (cfg0.win w).isOut = false) := (RDat.FramePost.arr_in h.1 c w hw).trans (dat_A c m w)
  exact ⟨(Dat.toRForget_arrAt_iff (dat c m 0) (w := 12) rfl _ _).1 ((h.1 c).1 12), (arr 0 rfl).trans (V_main_arg0 m c), ((h.1 c).2 _ (Pipeline.mem_restRefs_of main_arg1 (by decide) (by decide))).trans (V_main_arg1 m c), ((h.1 c).2 _ (Pipeline.mem_restRefs_of main_arg2 (by decide) (by decide))).trans (V_main_arg2 m c), ((h.1 c).2 _ (Pipeline.mem_restRefs_of main_arg3 (by decide) (by decide))).trans (V_main_arg3 m c), ((h.1 c).2 _ (Pipeline.mem_restRefs_of main_arg4 (by decide) (by decide))).trans (V_main_arg4 m c), ((h.1 c).2 _ (Pipeline.mem_restRefs_of main_arg5 (by decide) (by decide))).trans (V_main_arg5 m c), ((h.1 c).2 _ (Pipeline.mem_restRefs_of main_arg6 (by decide) (by decide))).trans (V_main_arg6 m c),
    (arr 2 rfl).trans (V_main_arg7 m c), (arr 3 rfl).trans (V_main_arg8 m c), (arr 4 rfl).trans (V_main_arg9 m c), (arr 1 rfl).trans (V_main_arg10 m c), (arr 6 rfl).trans (V_main_arg11 m c)⟩

end Cert.ProjBwd.Run

end
-- ==== Proof.ProjBwdValue.lean ====
/- The third result of the odd layers' projections' backward call: its array after the run and the reference's, row by row. -/
module

public import proofs.«01_k».proof.Proof.ProjBwdRun
public import proofs.«01_k».proof.Proof.EvenFwdBlocks
public import proofs.«01_k».proof.Proof.Gen.ProjBwdRefIdeal.Read
public import Idealize.ShloMosaic.Lib.StableHlo.RunRead

@[expose] public section

set_option maxRecDepth 16384

noncomputable section

namespace Cert.ProjBwd.Run

open Cert.ProjBwd Cert.ProjBwd.Gen Idealize.ShloMosaic Idealize.ShloMosaic.TcCoe Idealize.SL.Sem
open Cert.FfnFwdSpec (rs h)
open Cert.EvenFwdIdeal.Blocks (mdRow ld_row)

/-- Every row normed and modulated. -/
def hArr (x : S4096x1024.Idx → EReal) (md : S6x1024.Idx → EReal) (g : S1024.Idx → EReal) : S4096x1024.Idx → EReal := fun i =>
  h (fun l => x (ix2 (i 0) l)) (fun l => g (ix1 l)) (fun l => md (ix2 1 l)) (fun l => md (ix2 0 l)) (i 1)

section
open Cert.ProjBwdRefIdeal.Read
variable (x0 : FVec Ideal Cert.ProjBwdRefIdeal.S4096x1024 .f32) (x1 : FVec Ideal Cert.ProjBwdRefIdeal.S6x1024 .f32) (x2 : FVec Ideal Cert.ProjBwdRefIdeal.S1024 .f32)

/-- The reference's reciprocal root mean square of a row. -/
theorem ref_rs (r : Fin 4096) : (val_main_v7 (F := Ideal) x0 : Cert.ProjBwdRefIdeal.S4096x1.Idx → EReal) (ix2 r 0) = rs fun l => x0 (ix2 r l) := by
  pointwise [val_main_v7, val_main_v6, val_main_v5, val_main_v4, val_main_v3, val_main_v2, val_main_v1, val_main_v0, val_main_cst, val_main_cst_0, val_main_cst_1]
  rfl

/-- The reference's rows. -/
theorem ref_h : (val_main_v25 (F := Ideal) x0 x1 x2 : S4096x1024.Idx → EReal) = hArr x0 x1 x2 := by
  funext i
  obtain ⟨r, l, rfl⟩ : ∃ (r : Fin 4096) (l : Fin 1024), i = ix2 r l := ⟨i 0, i 1, eq_ix2 i⟩
  pointwise [val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_cst_2]
  rw [ref_rs]
  rfl
end

/-- A block's row. -/
theorem hB_apply (x : Vec Ideal S512x1024 .f32) (md : Vec Ideal S8x1024 .f32) (r : Fin 512) (l : Fin 1024) : (hB x md : S512x1024.Idx → EReal) (ix2 r l)
    = h (fun l => x (ix2 r l)) (fun l => md (ix2 6 l)) (fun l => md (ix2 1 l)) (fun l => md (ix2 0 l)) l := by
  unfold hB
  rw [ld_row 6, ld_row 1, ld_row 0]
  pointwise [k0_pay8, k0_pay7, k0_pay6, k0_pay5, k0_pay4]
  rfl

variable (m : (ℓ : Loc nD τ sig) → Buf (Elt Ideal) ℓ) (c : Dev nD)

/-- Which block each window stages at a point. -/
theorem index0 : ∀ t : Fin grid0.N, win0_0.index t 0 = t.val ∧ win0_0.index t 1 = 0 := by decide +kernel
theorem index7 : ∀ t : Fin grid0.N, win0_7.index t 0 = 0 ∧ win0_7.index t 1 = 0 := by decide +kernel
theorem index12 : ∀ t : Fin grid0.N, win0_12.index t 0 = t.val ∧ win0_12.index t 1 = 0 := by decide +kernel

/-- A tile's row as a row of the whole. -/
def row (t : Fin cfg0.N) (r : Fin 512) : Fin 4096 := ⟨t.val * 512 + r.val, by have := lt_of_lt_of_eq t.isLt N_0; omega⟩

/-- The arguments' contents. -/
abbrev xV : S4096x1024.Idx → EReal := m ((c : Thread nD τ).loc main_arg0)
abbrev modV : S6x1024.Idx → EReal := m ((c : Thread nD τ).loc main_arg1)
abbrev gV : S1024.Idx → EReal := m ((c : Thread nD τ).loc main_arg2)

theorem iblk0_apply (t : Fin cfg0.N) (r : Fin 512) (l : Fin 1024) : (iblk m c 0 t : Vec Ideal S512x1024 .f32) (ix2 r l) = xV m c (ix2 (row t r) l) := by
  unfold iblk
  rw [View.read_apply]
  refine (congrFun (V_main_arg0 m c) _).trans (congrArg (xV m c) (funext fun a => Fin.ext ?_))
  match a with
  | ⟨0, _⟩ => show win0_0.index t 0 * 512 + 1 * r.val = t.val * 512 + r.val; rw [(index0 t).1]; omega
  | ⟨1, _⟩ => show win0_0.index t 1 * 1024 + 1 * l.val = l.val; rw [(index0 t).2]; omega

theorem iblk7_apply (t : Fin cfg0.N) (k : Fin 8) (l : Fin 1024) :
    (iblk m c 7 t : Vec Ideal S8x1024 .f32) (ix2 k l) = (V m c main_v2 : S8x1024.Idx → EReal) (ix2 k l) := by
  unfold iblk
  rw [View.read_apply]
  refine congrArg (V m c main_v2) (funext fun a => Fin.ext ?_)
  match a with
  | ⟨0, _⟩ => show win0_7.index t 0 * 8 + 1 * k.val = k.val; rw [(index7 t).1]; omega
  | ⟨1, _⟩ => show win0_7.index t 1 * 1024 + 1 * l.val = l.val; rw [(index7 t).2]; omega

/-- The rows of the modulation's block that are read. -/
theorem V2_apply (l : Fin 1024) : (V m c main_v2 : S8x1024.Idx → EReal) (ix2 0 l) = modV m c (ix2 0 l)
    ∧ (V m c main_v2 : S8x1024.Idx → EReal) (ix2 1 l) = modV m c (ix2 1 l) ∧ (V m c main_v2 : S8x1024.Idx → EReal) (ix2 6 l) = gV m c (ix1 l) := by
  simp only [V, hostOps0]
  after_reads_simp
  refine ⟨?_, ?_, ?_⟩
  · pointwise []
  · pointwise []
  · pointwise []
    after_reads_simp
    pointwise []

/-- The third output's array after the run. -/
theorem final : ((dat c m 0).arrAt 12 cfg0.N : S4096x1024.Idx → EReal) = hArr (xV m c) (modV m c) (gV m c) := by
  have hN : cfg0.N = 8 := N_0
  refine (dat c m 0).arrAt_eq_of_cover 12 _ (fun t _ => ?_) fun (i : S4096x1024.Idx) => ?_
  · funext j
    obtain ⟨r, l, rfl⟩ : ∃ (r : Fin 512) (l : Fin 1024), j = ix2 r l := ⟨j 0, j 1, eq_ix2 j⟩
    rw [View.read_apply]
    have he : ((cfg0.win 12).blk t).view.emb (ix2 r l) = (ix2 (row t r) l : S4096x1024.Idx) := by
      funext k
      apply Fin.ext
      match k with
      | ⟨0, _⟩ => show win0_12.index t 0 * 512 + 1 * r.val = t.val * 512 + r.val; rw [(index12 t).1]; omega
      | ⟨1, _⟩ => show win0_12.index t 1 * 1024 + 1 * l.val = l.val; rw [(index12 t).2]; omega
    rw [he]
    show _ = hArr _ _ _ (ix2 (row t r) l)
    refine (hB_apply (iblk m c 0 t) (iblk m c 7 t) r l).trans (congrFun ?_ l)
    have q := fun k l => iblk7_apply m c t k l
    exact congr (congr (congr (congrArg h (funext fun l => iblk0_apply m c t r l)) (funext fun l => (q 6 l).trans (V2_apply m c l).2.2))
      (funext fun l => (q 1 l).trans (V2_apply m c l).2.1)) (funext fun l => (q 0 l).trans (V2_apply m c l).1)
  · have h0 : (i 0 : Nat) < 4096 := (i 0).isLt
    have h1 : (i 1 : Nat) < 1024 := (i 1).isLt
    obtain ⟨t, ht⟩ : ∃ t : Fin cfg0.N, t.val = (i 0 : Nat) / 512 := ⟨⟨(i 0 : Nat) / 512, by omega⟩, rfl⟩
    refine ⟨t, flush0_12 t, ?_⟩
    show i ∈ ((View.whole main_v38_2).slice (win0_12.rect t)).set
    rw [View.set_slice_whole, Rect.mem_set_unit]
    intro a
    match a with
    | ⟨0, _⟩ => show win0_12.index t 0 * 512 ≤ (i 0 : Nat) ∧ (i 0 : Nat) < win0_12.index t 0 * 512 + 512
                rw [(index12 t).1, ht]; omega
    | ⟨1, _⟩ => show win0_12.index t 1 * 1024 ≤ (i 1 : Nat) ∧ (i 1 : Nat) < win0_12.index t 1 * 1024 + 1024
                rw [(index12 t).2]; omega

end Cert.ProjBwd.Run

end
-- ==== Proof.ProjBwdClaim.lean ====
/- The claims about the odd layers' projections' backward call: the frames, and the value of its third result. The two programs print alike, so the run proved over any floats is the run of
   both: over the extended reals the second program is the first. -/
module

public import proofs.«01_k».proof.Defs
public import proofs.«01_k».proof.Proof.ProjBwdValue
public import proofs.«01_k».proof.Proof.Gen.ProjBwdIdeal.Frame
public import proofs.«01_k».proof.Proof.Gen.ProjBwdRefIdeal.Run
public import Idealize.ShloMosaic.Lib.Quiescent

@[expose] public section

set_option maxRecDepth 16384
set_option maxHeartbeats 4000000

noncomputable section

namespace Cert.ProjBwdClaim

open Idealize.ShloMosaic Idealize.ShloMosaic.TcCoe Idealize.SL.Sem

/-- The call on words runs, its arguments end as they began, the counters at zero. -/
theorem frame : quiescent_ProjBwd (hProjBwd := Cert.ProjBwd.Gen.facts) := fun m ρ _ =>
  (θ_run Cert.ProjBwd.defs _ _).mono (fun _ h => ⟨fun c => (h.1 c).2, h.2⟩) (Cert.ProjBwd.Run.kept m ρ)

/-- The two programs' bodies are one. -/
theorem bodies : @Cert.ProjBwdIdeal.defs₀ Ideal _ Cert.ProjBwdIdeal.Gen.facts = @Cert.ProjBwd.defs₀ Ideal _ Cert.ProjBwd.Gen.facts := by
  unfold Cert.ProjBwdIdeal.defs₀ Cert.ProjBwd.defs₀
  congr 1
  funext b x
  match b with
  | 0 => rfl

/-- The two programs' pipelines are one. -/
theorem pipelines : @Cert.ProjBwdIdeal.defs Ideal _ Cert.ProjBwdIdeal.Gen.facts = @Cert.ProjBwd.defs Ideal _ Cert.ProjBwd.Gen.facts :=
  congrArg (Pipeline.defs (Cert.ProjBwd.pcfgs (F := Ideal))) bodies

/-- The two programs' main functions are one. -/
theorem mains : @Cert.ProjBwdIdeal.main Ideal _ Cert.ProjBwdIdeal.Gen.facts = @Cert.ProjBwd.main Ideal _ Cert.ProjBwd.Gen.facts := rfl

/-- The call over the extended reals runs, its arguments end as they began, the counters at zero. -/
theorem frame_ideal : quiescent_ProjBwdIdeal (hProjBwdIdeal := Cert.ProjBwdIdeal.Gen.facts) := fun m ρ _ => by
  rw [pipelines, mains]
  exact (θ_run Cert.ProjBwd.defs _ _).mono (fun _ h => ⟨fun c => (h.1 c).2, h.2⟩) (Cert.ProjBwd.Run.kept (F := Ideal) m ρ)

/-- The reference's frame. -/
theorem frame_ref : quiescent_ProjBwdRefIdeal (hProjBwdRefIdeal := Cert.ProjBwdRefIdeal.Gen.facts) := fun m ρ _ =>
  (θ_run Cert.ProjBwdRefIdeal.defs _ _).mono (fun r h => ⟨fun c => (h c).2, sem_eq_zero_of_no_sems (by decide) r.2⟩)
    (Cert.ProjBwdRefIdeal.Value.run (F := Ideal) m ρ)

/-- The kernel's third result and the reference's are one array. -/
theorem value : algebraic_ProjBwdIdeal_ProjBwdRefIdeal (hProjBwdIdeal := Cert.ProjBwdIdeal.Gen.facts) (hProjBwdRefIdeal := Cert.ProjBwdRefIdeal.Gen.facts) := by
  intro m g m' g' _ hm
  rw [pipelines, mains]
  refine ⟨_, (θ_run Cert.ProjBwd.defs _ _).mono (fun r h c => ⟨(h.1 c).1.trans (Cert.ProjBwd.Run.final m c), (h.1 c).2⟩)
    (Cert.ProjBwd.Run.kept (F := Ideal) m g), ?_⟩
  refine (θ_run Cert.ProjBwdRefIdeal.defs _ _).mono (fun r h c => ⟨?_, (h c).2⟩) (Cert.ProjBwdRefIdeal.Value.run m' g')
  refine (h c).1.trans ((Cert.ProjBwdRefIdeal.Read.val_main_v25_eq _ _ _).trans ?_)
  rw [(hm c).1, (hm c).2.1, (hm c).2.2.1]
  exact Cert.ProjBwd.Run.ref_h _ _ _

end Cert.ProjBwdClaim

end
-- ==== Proof.lean ====
module

public import proofs.«01_k».proof.Proof.Gen.LossRefIdeal.Read
public import proofs.«01_k».proof.Proof.Gen.LossRefIdeal.Run
public import proofs.«01_k».proof.Proof.Gen.LossIdeal.Value
public import proofs.«01_k».proof.Proof.LossClaim
public import proofs.«01_k».proof.Proof.Gen.StickRefIdeal.Read
public import proofs.«01_k».proof.Proof.Gen.StickRefIdeal.Run
public import proofs.«01_k».proof.Proof.Gen.StickIdeal.Value
public import proofs.«01_k».proof.Proof.StickClaim
public import proofs.«01_k».proof.Proof.Gen.AdaRefIdeal.Read
public import proofs.«01_k».proof.Proof.Gen.AdaRefIdeal.Run
public import proofs.«01_k».proof.Proof.AdaClaim
public import proofs.«01_k».proof.Proof.Gen.GateRefIdeal.Read
public import proofs.«01_k».proof.Proof.Gen.GateRefIdeal.Run
public import proofs.«01_k».proof.Proof.Gen.GateIdeal.Value
public import proofs.«01_k».proof.Proof.GateClaim
public import proofs.«01_k».proof.Proof.Gen.StickFwdRefIdeal.Read
public import proofs.«01_k».proof.Proof.Gen.StickFwdRefIdeal.Run
public import proofs.«01_k».proof.Proof.Gen.StickFwdIdeal.Value
public import proofs.«01_k».proof.Proof.StickFwdClaim
public import proofs.«01_k».proof.Proof.Gen.FfnRefIdeal.Read
public import proofs.«01_k».proof.Proof.Gen.FfnRefIdeal.Run
public import proofs.«01_k».proof.Proof.Gen.FfnIdeal.Value
public import proofs.«01_k».proof.Proof.FfnClaim
public import proofs.«01_k».proof.Proof.Gen.GateFwdRefIdeal.Read
public import proofs.«01_k».proof.Proof.Gen.GateFwdRefIdeal.Run
public import proofs.«01_k».proof.Proof.Gen.GateFwdIdeal.Value
public import proofs.«01_k».proof.Proof.GateFwdClaim
public import proofs.«01_k».proof.Proof.Gen.AdaFwdRefIdeal.Read
public import proofs.«01_k».proof.Proof.Gen.AdaFwdRefIdeal.Run
public import proofs.«01_k».proof.Proof.Gen.AdaFwdIdeal.Value
public import proofs.«01_k».proof.Proof.AdaFwdClaim
public import proofs.«01_k».proof.Proof.Gen.FfnFwdRefIdeal.Read
public import proofs.«01_k».proof.Proof.Gen.FfnFwdRefIdeal.Run
public import proofs.«01_k».proof.Proof.Gen.FfnFwdIdeal.Value
public import proofs.«01_k».proof.Proof.FfnFwdClaim
public import proofs.«01_k».proof.Proof.Gen.ProjFwdRefIdeal.Read
public import proofs.«01_k».proof.Proof.Gen.ProjFwdRefIdeal.Run
public import proofs.«01_k».proof.Proof.Gen.ProjFwdIdeal.Value
public import proofs.«01_k».proof.Proof.ProjFwdClaim
public import proofs.«01_k».proof.Proof.Gen.AdamSmallRefIdeal.Read
public import proofs.«01_k».proof.Proof.Gen.AdamSmallRefIdeal.Run
public import proofs.«01_k».proof.Proof.Gen.AdamSmallIdeal.Value
public import proofs.«01_k».proof.Proof.AdamSmallClaim
public import proofs.«01_k».proof.Proof.Gen.AdamAdaRefIdeal.Read
public import proofs.«01_k».proof.Proof.Gen.AdamAdaRefIdeal.Run
public import proofs.«01_k».proof.Proof.Gen.AdamAdaIdeal.Value
public import proofs.«01_k».proof.Proof.AdamAdaClaim
public import proofs.«01_k».proof.Proof.Gen.SumSlotsRefIdeal.Read
public import proofs.«01_k».proof.Proof.Gen.SumSlotsRefIdeal.Run
public import proofs.«01_k».proof.Proof.Gen.SumSlotsIdeal.Value
public import proofs.«01_k».proof.Proof.SumSlotsClaim
public import proofs.«01_k».proof.Proof.Gen.SumSmallRefIdeal.Read
public import proofs.«01_k».proof.Proof.Gen.SumSmallRefIdeal.Run
public import proofs.«01_k».proof.Proof.Gen.SumSmallIdeal.Value
public import proofs.«01_k».proof.Proof.SumSmallClaim
public import proofs.«01_k».proof.Proof.Gen.AdamLayerRefIdeal.Read
public import proofs.«01_k».proof.Proof.Gen.AdamLayerRefIdeal.Run
public import proofs.«01_k».proof.Proof.Gen.AdamLayerIdeal.Value
public import proofs.«01_k».proof.Proof.AdamLayerClaim
public import proofs.«01_k».proof.Proof.Gen.TnRefIdeal.Read
public import proofs.«01_k».proof.Proof.Gen.TnRefIdeal.Run
public import proofs.«01_k».proof.Proof.Gen.TnIdeal.Value
public import proofs.«01_k».proof.Proof.TnClaim
public import proofs.«01_k».proof.Proof.Gen.EvenFwdRefIdeal.Read
public import proofs.«01_k».proof.Proof.Gen.EvenFwdRefIdeal.Run
public import proofs.«01_k».proof.Proof.Gen.EvenFwdIdeal.Value
public import proofs.«01_k».proof.Proof.EvenFwdClaim
public import proofs.«01_k».proof.Proof.Gen.ProjBwdRefIdeal.Read
public import proofs.«01_k».proof.Proof.Gen.ProjBwdRefIdeal.Run
public import proofs.«01_k».proof.Proof.ProjBwdClaim
public import proofs.«01_k».proof.Defs
public import Idealize.ShloMosaic.Adequacy
public import Idealize.ShloMosaic.Init

@[expose] public section

noncomputable section

namespace Cert.Proof

open Idealize.ShloMosaic Idealize.SL.Sem

/-- The claim: the facts of the programs, then the frames, then `preserves` and the value of each pair. -/
theorem claim : Cert.Claim := ⟨Cert.Loss.Gen.facts, Cert.LossIdeal.Gen.facts, Cert.LossRefIdeal.Gen.facts, Cert.Stick.Gen.facts, Cert.StickIdeal.Gen.facts,
  Cert.StickRefIdeal.Gen.facts, Cert.Ada.Gen.facts, Cert.AdaIdeal.Gen.facts, Cert.AdaRefIdeal.Gen.facts, Cert.Gate.Gen.facts,
  Cert.GateIdeal.Gen.facts, Cert.GateRefIdeal.Gen.facts, Cert.StickFwd.Gen.facts, Cert.StickFwdIdeal.Gen.facts,
  Cert.StickFwdRefIdeal.Gen.facts, Cert.Ffn.Gen.facts, Cert.FfnIdeal.Gen.facts, Cert.FfnRefIdeal.Gen.facts, Cert.GateFwd.Gen.facts,
  Cert.GateFwdIdeal.Gen.facts, Cert.GateFwdRefIdeal.Gen.facts, Cert.AdaFwd.Gen.facts, Cert.AdaFwdIdeal.Gen.facts,
  Cert.AdaFwdRefIdeal.Gen.facts, Cert.FfnFwd.Gen.facts, Cert.FfnFwdIdeal.Gen.facts, Cert.FfnFwdRefIdeal.Gen.facts,
  Cert.ProjFwd.Gen.facts, Cert.ProjFwdIdeal.Gen.facts, Cert.ProjFwdRefIdeal.Gen.facts, Cert.AdamSmall.Gen.facts,
  Cert.AdamSmallIdeal.Gen.facts, Cert.AdamSmallRefIdeal.Gen.facts, Cert.AdamAda.Gen.facts, Cert.AdamAdaIdeal.Gen.facts,
  Cert.AdamAdaRefIdeal.Gen.facts, Cert.SumSlots.Gen.facts, Cert.SumSlotsIdeal.Gen.facts, Cert.SumSlotsRefIdeal.Gen.facts,
  Cert.SumSmall.Gen.facts, Cert.SumSmallIdeal.Gen.facts, Cert.SumSmallRefIdeal.Gen.facts, Cert.AdamLayer.Gen.facts,
  Cert.AdamLayerIdeal.Gen.facts, Cert.AdamLayerRefIdeal.Gen.facts, Cert.Tn.Gen.facts, Cert.TnIdeal.Gen.facts,
  Cert.TnRefIdeal.Gen.facts, Cert.EvenFwd.Gen.facts, Cert.EvenFwdIdeal.Gen.facts, Cert.EvenFwdRefIdeal.Gen.facts,
  Cert.ProjBwd.Gen.facts, Cert.ProjBwdIdeal.Gen.facts, Cert.ProjBwdRefIdeal.Gen.facts, Cert.StickClaim.pre_facts,
  Cert.StickFwdClaim.pre_facts, Cert.FfnClaim.pre_facts, Cert.LossClaim.frame, Cert.LossClaim.frame_ideal,
  Cert.LossClaim.frame_ref, Cert.StickClaim.frame, Cert.StickClaim.frame_ideal, Cert.StickClaim.frame_ideal_pre,
  Cert.StickClaim.frame_ref, Cert.StickClaim.frame_ref_pre, Cert.AdaClaim.frame, Cert.AdaClaim.frame_ideal,
  Cert.AdaClaim.frame_ref, Cert.GateClaim.frame, Cert.GateClaim.frame_ideal, Cert.GateClaim.frame_ref, Cert.StickFwdClaim.frame,
  Cert.StickFwdClaim.frame_ideal, Cert.StickFwdClaim.frame_ideal_pre, Cert.StickFwdClaim.frame_ref,
  Cert.StickFwdClaim.frame_ref_pre, Cert.FfnClaim.frame, Cert.FfnClaim.frame_ideal, Cert.FfnClaim.frame_ideal_pre,
  Cert.FfnClaim.frame_ref, Cert.FfnClaim.frame_ref_pre, Cert.GateFwdClaim.frame, Cert.GateFwdClaim.frame_ideal,
  Cert.GateFwdClaim.frame_ref, Cert.AdaFwdClaim.frame, Cert.AdaFwdClaim.frame_ideal, Cert.AdaFwdClaim.frame_ref,
  Cert.FfnFwdClaim.frame, Cert.FfnFwdClaim.frame_ideal, Cert.FfnFwdClaim.frame_ref, Cert.ProjFwdClaim.frame,
  Cert.ProjFwdClaim.frame_ideal, Cert.ProjFwdClaim.frame_ref, Cert.AdamSmallClaim.frame, Cert.AdamSmallClaim.frame_ideal,
  Cert.AdamSmallClaim.frame_ref, Cert.AdamAdaClaim.frame, Cert.AdamAdaClaim.frame_ideal, Cert.AdamAdaClaim.frame_ref,
  Cert.SumSlotsClaim.frame, Cert.SumSlotsClaim.frame_ideal, Cert.SumSlotsClaim.frame_ref, Cert.SumSmallClaim.frame,
  Cert.SumSmallClaim.frame_ideal, Cert.SumSmallClaim.frame_ref, Cert.AdamLayerClaim.frame, Cert.AdamLayerClaim.frame_ideal,
  Cert.AdamLayerClaim.frame_ref, Cert.TnClaim.frame, Cert.TnClaim.frame_ideal, Cert.TnClaim.frame_ref, Cert.EvenFwdClaim.frame,
  Cert.EvenFwdClaim.frame_ideal, Cert.EvenFwdClaim.frame_ref, Cert.ProjBwdClaim.frame, Cert.ProjBwdClaim.frame_ideal,
  Cert.ProjBwdClaim.frame_ref, trivial, Cert.LossClaim.value, trivial, Cert.StickClaim.value, trivial, Cert.AdaClaim.value,
  trivial, Cert.GateClaim.value, trivial, Cert.StickFwdClaim.value, trivial, Cert.FfnClaim.value, trivial, Cert.GateFwdClaim.value,
  trivial, Cert.AdaFwdClaim.value, trivial, Cert.FfnFwdClaim.value, trivial, Cert.ProjFwdClaim.value,
  Cert.AdamSmallClaim.preserves, Cert.AdamSmallClaim.value, Cert.AdamAdaClaim.preserves, Cert.AdamAdaClaim.value, trivial,
  Cert.SumSlotsClaim.value, trivial, Cert.SumSmallClaim.value, Cert.AdamLayerClaim.preserves, Cert.AdamLayerClaim.value, trivial,
  Cert.TnClaim.value, trivial, Cert.EvenFwdClaim.value, trivial, Cert.ProjBwdClaim.value⟩

end Cert.Proof

end
